-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mixer_finite [hPre_mixer_finite : Cert.Pre_mixer_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mixer_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mixer_finite [hPre_mixer_finite : Cert.Pre_mixer_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mixer_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_state_decays [hPre_state_decays : Cert.Pre_state_decays.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_state_decays.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_state_decays [hPre_state_decays : Cert.Pre_state_decays.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_state_decays.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_mixer_finite [hKernel2Ideal : Cert.Kernel2Ideal.Facts] [hPre_mixer_finite : Cert.Pre_mixer_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mixer_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_mixer_finite [hReference2Ideal : Cert.Reference2Ideal.Facts] [hPre_mixer_finite : Cert.Pre_mixer_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mixer_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_state_decays [hKernel9Ideal : Cert.Kernel9Ideal.Facts] [hPre_state_decays : Cert.Pre_state_decays.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_state_decays m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_state_decays [hReference9Ideal : Cert.Reference9Ideal.Facts] [hPre_state_decays : Cert.Pre_state_decays.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_state_decays m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_mixer_finite [hKernel2Ideal : Cert.Kernel2Ideal.Facts] [hReference2Ideal : Cert.Reference2Ideal.Facts] [hPre_mixer_finite : Cert.Pre_mixer_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mixer_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v371)) (v1 : (c : Dev Cert.Kernel2Ideal.nD) → Buf (Elt Ideal) ((c.tc : Thread Cert.Kernel2Ideal.nD Cert.Kernel2Ideal.τ).loc Cert.Kernel2Ideal.main_v373)) (v2 : (c : Dev Cert.Kernel2Ideal.nD) → Buf (Elt Ideal) ((c.tc : Thread Cert.Kernel2Ideal.nD Cert.Kernel2Ideal.τ).loc Cert.Kernel2Ideal.main_v375)) (v3 : (c : Dev Cert.Kernel2Ideal.nD) → Buf (Elt Ideal) ((c.tc : Thread Cert.Kernel2Ideal.nD Cert.Kernel2Ideal.τ).loc Cert.Kernel2Ideal.main_v377)) (v4 : (c : Dev Cert.Kernel2Ideal.nD) → Buf (Elt Ideal) ((c.tc : Thread Cert.Kernel2Ideal.nD Cert.Kernel2Ideal.τ).loc Cert.Kernel2Ideal.main_v379)) (v5 : (c : Dev Cert.Kernel2Ideal.nD) → Buf (Elt Ideal) ((c.tc : Thread Cert.Kernel2Ideal.nD Cert.Kernel2Ideal.τ).loc Cert.Kernel2Ideal.main_v381)) (v6 : (c : Dev Cert.Kernel2Ideal.nD) → Buf (Elt Ideal) ((c.tc : Thread Cert.Kernel2Ideal.nD Cert.Kernel2Ideal.τ).loc Cert.Kernel2Ideal.main_v383)) (v7 : (c : Dev Cert.Kernel2Ideal.nD) → Buf (Elt Ideal) ((c.tc : Thread Cert.Kernel2Ideal.nD Cert.Kernel2Ideal.τ).loc Cert.Kernel2Ideal.main_v385)) (v8 : (c : Dev Cert.Kernel2Ideal.nD) → Buf (Elt Ideal) ((c.tc : Thread Cert.Kernel2Ideal.nD Cert.Kernel2Ideal.τ).loc Cert.Kernel2Ideal.main_v387)) (v9 : (c : Dev Cert.Kernel2Ideal.nD) → Buf (Elt Ideal) ((c.tc : Thread Cert.Kernel2Ideal.nD Cert.Kernel2Ideal.τ).loc Cert.Kernel2Ideal.main_v369_1)) (v10 : (c : Dev Cert.Kernel2Ideal.nD) → Buf (Elt Ideal) ((c.tc : Thread Cert.Kernel2Ideal.nD Cert.Kernel2Ideal.τ).loc Cert.Kernel2Ideal.main_v369_2)) (v11 : (c : Dev Cert.Kernel2Ideal.nD) → Buf (Elt Ideal) ((c.tc : Thread Cert.Kernel2Ideal.nD Cert.Kernel2Ideal.τ).loc Cert.Kernel2Ideal.main_v389)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v371) = v0 c
          ∧ r.2.mem ((c.tc : Thread Cert.Kernel2Ideal.nD Cert.Kernel2Ideal.τ).loc Cert.Kernel2Ideal.main_v373) = v1 c
          ∧ r.2.mem ((c.tc : Thread Cert.Kernel2Ideal.nD Cert.Kernel2Ideal.τ).loc Cert.Kernel2Ideal.main_v375) = v2 c
          ∧ r.2.mem ((c.tc : Thread Cert.Kernel2Ideal.nD Cert.Kernel2Ideal.τ).loc Cert.Kernel2Ideal.main_v377) = v3 c
          ∧ r.2.mem ((c.tc : Thread Cert.Kernel2Ideal.nD Cert.Kernel2Ideal.τ).loc Cert.Kernel2Ideal.main_v379) = v4 c
          ∧ r.2.mem ((c.tc : Thread Cert.Kernel2Ideal.nD Cert.Kernel2Ideal.τ).loc Cert.Kernel2Ideal.main_v381) = v5 c
          ∧ r.2.mem ((c.tc : Thread Cert.Kernel2Ideal.nD Cert.Kernel2Ideal.τ).loc Cert.Kernel2Ideal.main_v383) = v6 c
          ∧ r.2.mem ((c.tc : Thread Cert.Kernel2Ideal.nD Cert.Kernel2Ideal.τ).loc Cert.Kernel2Ideal.main_v385) = v7 c
          ∧ r.2.mem ((c.tc : Thread Cert.Kernel2Ideal.nD Cert.Kernel2Ideal.τ).loc Cert.Kernel2Ideal.main_v387) = v8 c
          ∧ r.2.mem ((c.tc : Thread Cert.Kernel2Ideal.nD Cert.Kernel2Ideal.τ).loc Cert.Kernel2Ideal.main_v369_1) = v9 c
          ∧ r.2.mem ((c.tc : Thread Cert.Kernel2Ideal.nD Cert.Kernel2Ideal.τ).loc Cert.Kernel2Ideal.main_v369_2) = v10 c
          ∧ r.2.mem ((c.tc : Thread Cert.Kernel2Ideal.nD Cert.Kernel2Ideal.τ).loc Cert.Kernel2Ideal.main_v389) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v189) = v0 c
          ∧ r.2.mem ((c.tc : Thread Cert.Reference2Ideal.nD Cert.Reference2Ideal.τ).loc Cert.Reference2Ideal.main_v190) = v1 c
          ∧ r.2.mem ((c.tc : Thread Cert.Reference2Ideal.nD Cert.Reference2Ideal.τ).loc Cert.Reference2Ideal.main_v191) = v2 c
          ∧ r.2.mem ((c.tc : Thread Cert.Reference2Ideal.nD Cert.Reference2Ideal.τ).loc Cert.Reference2Ideal.main_v192) = v3 c
          ∧ r.2.mem ((c.tc : Thread Cert.Reference2Ideal.nD Cert.Reference2Ideal.τ).loc Cert.Reference2Ideal.main_v193) = v4 c
          ∧ r.2.mem ((c.tc : Thread Cert.Reference2Ideal.nD Cert.Reference2Ideal.τ).loc Cert.Reference2Ideal.main_v194) = v5 c
          ∧ r.2.mem ((c.tc : Thread Cert.Reference2Ideal.nD Cert.Reference2Ideal.τ).loc Cert.Reference2Ideal.main_v195) = v6 c
          ∧ r.2.mem ((c.tc : Thread Cert.Reference2Ideal.nD Cert.Reference2Ideal.τ).loc Cert.Reference2Ideal.main_v196) = v7 c
          ∧ r.2.mem ((c.tc : Thread Cert.Reference2Ideal.nD Cert.Reference2Ideal.τ).loc Cert.Reference2Ideal.main_v197) = v8 c
          ∧ r.2.mem ((c.tc : Thread Cert.Reference2Ideal.nD Cert.Reference2Ideal.τ).loc Cert.Reference2Ideal.main_v183) = v9 c
          ∧ r.2.mem ((c.tc : Thread Cert.Reference2Ideal.nD Cert.Reference2Ideal.τ).loc Cert.Reference2Ideal.main_v122) = v10 c
          ∧ r.2.mem ((c.tc : Thread Cert.Reference2Ideal.nD Cert.Reference2Ideal.τ).loc Cert.Reference2Ideal.main_v117) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v14) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_state_decays [hKernel9Ideal : Cert.Kernel9Ideal.Facts] [hReference9Ideal : Cert.Reference9Ideal.Facts] [hPre_state_decays : Cert.Pre_state_decays.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_state_decays m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v29_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v29_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v349) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_mixer_finite : Cert.Pre_mixer_finite.Facts) (hPre_state_decays : Cert.Pre_state_decays.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_mixer_finite (hKernel2Ideal := hKernel2Ideal) (hPre_mixer_finite := hPre_mixer_finite)
    ∧ quiescent_Reference2Ideal (hReference2Ideal := hReference2Ideal)
    ∧ quiescent_Reference2Ideal_pre_mixer_finite (hReference2Ideal := hReference2Ideal) (hPre_mixer_finite := hPre_mixer_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_state_decays (hKernel9Ideal := hKernel9Ideal) (hPre_state_decays := hPre_state_decays)
    ∧ quiescent_Reference9Ideal (hReference9Ideal := hReference9Ideal)
    ∧ quiescent_Reference9Ideal_pre_state_decays (hReference9Ideal := hReference9Ideal) (hPre_state_decays := hPre_state_decays)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_mixer_finite (hKernel2Ideal := hKernel2Ideal) (hReference2Ideal := hReference2Ideal) (hPre_mixer_finite := hPre_mixer_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_state_decays (hKernel9Ideal := hKernel9Ideal) (hReference9Ideal := hReference9Ideal) (hPre_state_decays := hPre_state_decays)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_mixer_finite.lean ====
abbrev S2x2048x12288 : Shape := ⟨3, ![2, 2048, 12288]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S_ : Shape := ⟨0, ![]⟩

class Facts : Prop where
  bcast_S_S2x2048x12288 : S_.BroadcastsInDim S2x2048x12288 (![] : Fin 0 → Fin S2x2048x12288.rank)
  reducesTo_S2x2048x12288_S_d0_1_2 : S2x2048x12288.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : FVec F S2x2048x12288 .f32) (main_arg1 : FVec F S2x2048x1024 .f32) (main_arg2 : FVec F S3x1024 .f32) (main_arg3 : FVec F S8x128x128 .f32) (main_arg4 : FVec F S8x128 .f32) (main_arg5 : FVec F S4x1024 .f32) (main_arg6 : FVec F S1024 .f32) (main_arg7 : FVec F S16x64x64 .f32) (main_arg8 : FVec F S16x64 .f32) (main_arg9 : FVec F S16x64x64 .f32) (main_arg10 : FVec F S16x64 .f32) (main_arg11 : FVec F S1024 .f32) : IVec S_ 1 :=
  let main_v0 : FVec F S2x2048x12288 .f32 := Host.absf main_arg0
  let main_cst : FVec F S_ .f32 := constant S_ .f32 0x7F800000#32
  let main_v1 : FVec F S2x2048x12288 .f32 := broadcastInDim S2x2048x12288 ![] bcast_S_S2x2048x12288 main_cst
  let main_v2 : IVec S2x2048x12288 1 := cmpf .olt main_v0 main_v1
  let main_c : IVec S_ 1 := constantI S_ 1 1#1
  let main_v3 : IVec S_ 1 := (fun x v => Host.reduce IntOp.andi x v reducesTo_S2x2048x12288_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_v13 main_v16
-- ==== Pre_state_decays.lean ====
abbrev S2x2048x12288 : Shape := ⟨3, ![2, 2048, 12288]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S2x2048x1024 : Shape := ⟨3, ![2, 2048, 1024]⟩
abbrev S_ : Shape := ⟨0, ![]⟩
abbrev S2x3x1024 : Shape := ⟨3, ![2, 3, 1024]⟩
abbrev S2x2051x1024 : Shape := ⟨3, ![2, 2051, 1024]⟩
abbrev S1x1024 : Shape := ⟨2, ![1, 1024]⟩
abbrev S1x1x1024 : Shape := ⟨3, ![1, 1, 1024]⟩
abbrev S2x2048x16x64 : Shape := ⟨4, ![2, 2048, 16, 64]⟩
abbrev S16x64x2x2048 : Shape := ⟨4, ![16, 64, 2, 2048]⟩
abbrev S1x1x16x64 : Shape := ⟨4, ![1, 1, 16, 64]⟩

class Facts : Prop where
  slices_S2x2048x12288_S2x2048x1024_0_0_0 : S2x2048x12288.Slices ![0, 0, 0] S2x2048x1024
  slices_S2x2048x12288_S2x2048x1024_0_0_1024 : S2x2048x12288.Slices ![0, 0, 1024] S2x2048x1024
  slices_S2x2048x12288_S2x2048x1024_0_0_2048 : S2x2048x12288.Slices ![0, 0, 2048] S2x2048x1024
  slices_S2x2048x12288_S2x2048x1024_0_0_3072 : S2x2048x12288.Slices ![0, 0, 3072] S2x2048x1024
  slices_S2x2048x12288_S2x2048x1024_0_0_4096 : S2x2048x12288.Slices ![0, 0, 4096] S2x2048x1024
  slices_S2x2048x12288_S2x2048x1024_0_0_5120 : S2x2048x12288.Slices ![0, 0, 5120] S2x2048x1024
  slices_S2x2048x12288_S2x2048x1024_0_0_6144 : S2x2048x12288.Slices ![0, 0, 6144] S2x2048x1024
  slices_S2x2048x12288_S2x2048x1024_0_0_7168 : S2x2048x12288.Slices ![0, 0, 7168] S2x2048x1024
  slices_S2x2048x12288_S2x2048x1024_0_0_8192 : S2x2048x12288.Slices ![0, 0, 8192] S2x2048x1024
  slices_S2x2048x12288_S2x2048x1024_0_0_9216 : S2x2048x12288.Slices ![0, 0, 9216] S2x2048x1024
  slices_S2x2048x12288_S2x2048x1024_0_0_10240 : S2x2048x12288.Slices ![0, 0, 10240] S2x2048x1024
  slices_S2x2048x12288_S2x2048x1024_0_0_11264 : S2x2048x12288.Slices ![0, 0, 11264] S2x2048x1024
  bcast_S_S2x3x1024 : S_.BroadcastsInDim S2x3x1024 (![] : Fin 0 → Fin S2x3x1024.rank)
  concatenates_S2x3x1024_S2x2048x1024_S2x2051x1024_d1 : Shape.Concatenates [S2x3x1024, S2x2048x1024] S2x2051x1024 1
  slices_S4x1024_S1x1024_0_0 : S4x1024.Slices ![0, 0] S1x1024
  shapeCasts_S1x1024_S1024 : S1x1024.ShapeCasts S1024
  slices_S2x2051x1024_S2x2048x1024_0_0_0 : S2x2051x1024.Slices ![0, 0, 0] S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  bcast_S_S2x2048x1024 : S_.BroadcastsInDim S2x2048x1024 (![] : Fin 0 → Fin S2x2048x1024.rank)
  slices_S4x1024_S1x1024_1_0 : S4x1024.Slices ![1, 0] S1x1024
  slices_S2x2051x1024_S2x2048x1024_0_1_0 : S2x2051x1024.Slices ![0, 1, 0] S2x2048x1024
  slices_S4x1024_S1x1024_2_0 : S4x1024.Slices ![2, 0] S1x1024
  slices_S2x2051x1024_S2x2048x1024_0_2_0 : S2x2051x1024.Slices ![0, 2, 0] S2x2048x1024
  slices_S4x1024_S1x1024_3_0 : S4x1024.Slices ![3, 0] S1x1024
  slices_S2x2051x1024_S2x2048x1024_0_3_0 : S2x2051x1024.Slices ![0, 3, 0] S2x2048x1024
  shapeCasts_S2x2048x1024_S2x2048x16x64 : S2x2048x1024.ShapeCasts S2x2048x16x64
  transposes_S16x64x2x2048_S2x2048x16x64_2_3_0_1 : S16x64x2x2048.Transposes [2, 3, 0, 1] S2x2048x16x64
  bcast_S16x64_S1x1x16x64_2_3 : S16x64.BroadcastsInDim S1x1x16x64 (![2, 3] : Fin 2 → Fin S1x1x16x64.rank)
  bcast_S1x1x16x64_S2x2048x16x64_0_1_2_3 : S1x1x16x64.BroadcastsInDim S2x2048x16x64 (![0, 1, 2, 3] : Fin 4 → Fin S2x2048x16x64.rank)
  bcast_S_S2x2048x16x64 : S_.BroadcastsInDim S2x2048x16x64 (![] : Fin 0 → Fin S2x2048x16x64.rank)
  shapeCasts_S2x2048x16x64_S2x2048x1024 : S2x2048x16x64.ShapeCasts S2x2048x1024
  bcast_S_S1024 : S_.BroadcastsInDim S1024 (![] : Fin 0 → Fin S1024.rank)
  reducesTo_S2x2048x1024_S_d0_1_2 : S2x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  reducesTo_S1024_S_d0 : S1024.ReducesTo [0] S_
  bcast_S_S16x64x64 : S_.BroadcastsInDim S16x64x64 (![] : Fin 0 → Fin S16x64x64.rank)
  reducesTo_S16x64x64_S_d0_1_2 : S16x64x64.ReducesTo [0, 1, 2] S_
  bcast_S_S16x64 : S_.BroadcastsInDim S16x64 (![] : Fin 0 → Fin S16x64.rank)
  reducesTo_S16x64_S_d0_1 : S16x64.ReducesTo [0, 1] S_
  dot_S16x64x64_S2x2048x16x64_S16x64x2x2048_1_3_2_01_0_2_wf : DotDims.WF S16x64x64 S2x2048x16x64 S16x64x2x2048 [1] [3] [2] [0, 1] [0] [2]

variable [Facts]

def dot_S16x64x64_S2x2048x16x64_S16x64x2x2048_1_3_2_01_0_2 : DotDims S16x64x64 S2x2048x16x64 S16x64x2x2048 where
  lhsContracting := [1]
  rhsContracting := [3]
  lhsNonContracting := [2]
  rhsNonContracting := [0, 1]
  lhsBatch := [0]
  rhsBatch := [2]
  wf := dot_S16x64x64_S2x2048x16x64_S16x64x2x2048_1_3_2_01_0_2_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part5 {F : FTy → Type} [FloatOps F] (main_v65 : FVec F S2x2048x1024 .f32) (main_v99 : IVec S_ 1) (main_v100 : FVec F S1024 .f32) : IVec S_ 1 :=
  let main_cst_17 : FVec F S_ .f32 := constant S_ .f32 0x7F800000#32
  let main_v101 : FVec F S1024 .f32 := broadcastInDim S1024 ![] bcast_S_S1024 main_cst_17
  let main_v102 : IVec S1024 1 := cmpf .olt main_v100 main_v101
  let main_c_18 : IVec S_ 1 := constantI S_ 1 1#1
  let main_v103 : IVec S_ 1 := (fun x v => Host.reduce IntOp.andi x v reducesTo_S1024_S_d0 h_S_) main_v102 main_c_18
  let main_v104 : IVec S_ 1 := andi main_v99 main_v103
  let main_cst_19 : FVec F S_ .f32 := constant S_ .f32 0x40000000#32
  let main_v105 : FVec F S2x2048x1024 .f32 := broadcastInDim S2x2048x1024 ![] bcast_S_S2x2048x1024 main_cst_19
  let main_v106 : FVec F S2x2048x1024 .f32 := mulf main_v105 main_v65
  let main_cst_20 : FVec F S_ .f32 := constant S_ .f32 0xBD4CCCCD#32
  let main_v107 : FVec F S2x2048x1024 .f32 := broadcastInDim S2x2048x1024 ![] bcast_S_S2x2048x1024 main_cst_20
  let main_v108 : IVec S2x2048x1024 1 := cmpf .ole main_v106 main_v107
  let main_c_21 : IVec S_ 1 := constantI S_ 1 1#1
  let main_v109 : IVec S_ 1 := (fun x v => Host.reduce IntOp.andi x v reducesTo_S2x2048x1024_S_d0_1_2 h_S_) main_v108 main_c_21
  let main_v110 : IVec S_ 1 := andi main_v104 main_v109
  main_v110

def fn_part4 {F : FTy → Type} [FloatOps F] (main_arg7 : FVec F S16x64 .f32) (main_arg8 : FVec F S16x64x64 .f32) (main_arg9 : FVec F S16x64 .f32) (main_arg10 : FVec F S1024 .f32) (main_v65 : FVec F S2x2048x1024 .f32) (main_v79 : IVec S_ 1) (main_v82 : IVec S16x64x64 1) (main_c_10 : IVec S_ 1) : IVec S_ 1 :=
  let main_v83 : IVec S_ 1 := (fun x v => Host.reduce IntOp.andi x v reducesTo_S16x64x64_S_d0_1_2 h_S_) main_v82 main_c_10
  let main_v84 : IVec S_ 1 := andi main_v79 main_v83
  let main_v85 : FVec F S16x64 .f32 := Host.absf main_arg7
  let main_cst_11 : FVec F S_ .f32 := constant S_ .f32 0x7F800000#32
  let main_v86 : FVec F S16x64 .f32 := broadcastInDim S16x64 ![] bcast_S_S16x64 main_cst_11
  let main_v87 : IVec S16x64 1 := cmpf .olt main_v85 main_v86
  let main_c_12 : IVec S_ 1 := constantI S_ 1 1#1
  let main_v88 : IVec S_ 1 := (fun x v => Host.reduce IntOp.andi x v reducesTo_S16x64_S_d0_1 h_S_) main_v87 main_c_12
  let main_v89 : IVec S_ 1 := andi main_v84 main_v88
  let main_v90 : FVec F S16x64x64 .f32 := Host.absf main_arg8
  let main_cst_13 : FVec F S_ .f32 := constant S_ .f32 0x7F800000#32
  let main_v91 : FVec F S16x64x64 .f32 := broadcastInDim S16x64x64 ![] bcast_S_S16x64x64 main_cst_13
  let main_v92 : IVec S16x64x64 1 := cmpf .olt main_v90 main_v91
  let main_c_14 : IVec S_ 1 := constantI S_ 1 1#1
  let main_v93 : IVec S_ 1 := (fun x v => Host.reduce IntOp.andi x v reducesTo_S16x64x64_S_d0_1_2 h_S_) main_v92 main_c_14
  let main_v94 : IVec S_ 1 := andi main_v89 main_v93
  let main_v95 : FVec F S16x64 .f32 := Host.absf main_arg9
  let main_cst_15 : FVec F S_ .f32 := constant S_ .f32 0x7F800000#32
  let main_v96 : FVec F S16x64 .f32 := broadcastInDim S16x64 ![] bcast_S_S16x64 main_cst_15
  let main_v97 : IVec S16x64 1 := cmpf .olt main_v95 main_v96
  let main_c_16 : IVec S_ 1 := constantI S_ 1 1#1
  let main_v98 : IVec S_ 1 := (fun x v => Host.reduce IntOp.andi x v reducesTo_S16x64_S_d0_1 h_S_) main_v97 main_c_16
  let main_v99 : IVec S_ 1 := andi main_v94 main_v98
  let main_v100 : FVec F S1024 .f32 := Host.absf main_arg10
  fn_part5 (F := F) main_v65 main_v99 main_v100

def fn_part3 {F : FTy → Type} [FloatOps F] (main_arg4 : FVec F S4x1024 .f32) (main_arg5 : FVec F S1024 .f32) (main_arg6 : FVec F S16x64x64 .f32) (main_arg7 : FVec F S16x64 .f32) (main_arg8 : FVec F S16x64x64 .f32) (main_arg9 : FVec F S16x64 .f32) (main_arg10 : FVec F S1024 .f32) (main_v65 : FVec F S2x2048x1024 .f32) (main_v66 : FVec F S2x2048x1024 .f32) : IVec S_ 1 :=
  let main_cst_4 : FVec F S_ .f32 := constant S_ .f32 0x7F800000#32
  let main_v67 : FVec F S2x2048x1024 .f32 := broadcastInDim S2x2048x1024 ![] bcast_S_S2x2048x1024 main_cst_4
  let main_v68 : IVec S2x2048x1024 1 := cmpf .olt main_v66 main_v67
  let main_c : IVec S_ 1 := constantI S_ 1 1#1
  let main_v69 : IVec S_ 1 := (fun x v => Host.reduce IntOp.andi x v reducesTo_S2x2048x1024_S_d0_1_2 h_S_) main_v68 main_c
  let main_v70 : FVec F S4x1024 .f32 := Host.absf main_arg4
  let main_cst_5 : FVec F S_ .f32 := constant S_ .f32 0x7F800000#32
  let main_v71 : FVec F S4x1024 .f32 := broadcastInDim S4x1024 ![] bcast_S_S4x1024 main_cst_5
  let main_v72 : IVec S4x1024 1 := cmpf .olt main_v70 main_v71
  let main_c_6 : IVec S_ 1 := constantI S_ 1 1#1
  let main_v73 : IVec S_ 1 := (fun x v => Host.reduce IntOp.andi x v reducesTo_S4x1024_S_d0_1 h_S_) main_v72 main_c_6
  let main_v74 : IVec S_ 1 := andi main_v69 main_v73
  let main_v75 : FVec F S1024 .f32 := Host.absf main_arg5
  let main_cst_7 : FVec F S_ .f32 := constant S_ .f32 0x7F800000#32
  let main_v76 : FVec F S1024 .f32 := broadcastInDim S1024 ![] bcast_S_S1024 main_cst_7
  let main_v77 : IVec S1024 1 := cmpf .olt main_v75 main_v76
  let main_c_8 : IVec S_ 1 := constantI S_ 1 1#1
  let main_v78 : IVec S_ 1 := (fun x v => Host.reduce IntOp.andi x v reducesTo_S1024_S_d0 h_S_) main_v77 main_c_8
  let main_v79 : IVec S_ 1 := andi main_v74 main_v78
  let main_v80 : FVec F S16x64x64 .f32 := Host.absf main_arg6
  let main_cst_9 : FVec F S_ .f32 := constant S_ .f32 0x7F800000#32
  let main_v81 : FVec F S16x64x64 .f32 := broadcastInDim S16x64x64 ![] bcast_S_S16x64x64 main_cst_9
  let main_v82 : IVec S16x64x64 1 := cmpf .olt main_v80 main_v81
  let main_c_10 : IVec S_ 1 := constantI S_ 1 1#1
  fn_part4 (F := F) main_arg7 main_arg8 main_arg9 main_arg10 main_v65 main_v79 main_v82 main_c_10

def fn_part2 {F : FTy → Type} [FloatOps F] (main_arg4 : FVec F S4x1024 .f32) (main_arg5 : FVec F S1024 .f32) (main_arg6 : FVec F S16x64x64 .f32) (main_arg7 : FVec F S16x64 .f32) (main_arg8 : FVec F S16x64x64 .f32) (main_arg9 : FVec F S16x64 .f32) (main_arg10 : FVec F S1024 .f32) (main_v7 : FVec F S2x2048x1024 .f32) (main_v45 : FVec F S2x2048x1024 .f32) : IVec S_ 1 :=
  let main_v46 : FVec F S2x2048x16x64 .f32 := shapeCast S2x2048x16x64 main_v45 shapeCasts_S2x2048x1024_S2x2048x16x64
  let main_v47 : FVec F S16x64x2x2048 .f32 := (fun l r => Host.dotGeneral dot_S16x64x64_S2x2048x16x64_S16x64x2x2048_1_3_2_01_0_2 none l r) main_arg6 main_v46
  let main_v48 : FVec F S2x2048x16x64 .f32 := (transpose S2x2048x16x64 [2, 3, 0, 1] · transposes_S16x64x2x2048_S2x2048x16x64_2_3_0_1) main_v47
  let main_v49 : FVec F S1x1x16x64 .f32 := broadcastInDim S1x1x16x64 ![2, 3] bcast_S16x64_S1x1x16x64_2_3 main_arg7
  let main_v50 : FVec F S2x2048x16x64 .f32 := broadcastInDim S2x2048x16x64 ![0, 1, 2, 3] bcast_S1x1x16x64_S2x2048x16x64_0_1_2_3 main_v49
  let main_v51 : FVec F S2x2048x16x64 .f32 := addf main_v48 main_v50
  let main_v52 : FVec F S2x2048x16x64 .f32 := Host.negf main_v51
  let main_v53 : FVec F S2x2048x16x64 .f32 := Host.exp main_v52
  let main_cst_1 : FVec F S_ .f32 := constant S_ .f32 0x3F800000#32
  let main_v54 : FVec F S2x2048x16x64 .f32 := broadcastInDim S2x2048x16x64 ![] bcast_S_S2x2048x16x64 main_cst_1
  let main_v55 : FVec F S2x2048x16x64 .f32 := addf main_v54 main_v53
  let main_cst_2 : FVec F S_ .f32 := constant S_ .f32 0x3F800000#32
  let main_v56 : FVec F S2x2048x16x64 .f32 := broadcastInDim S2x2048x16x64 ![] bcast_S_S2x2048x16x64 main_cst_2
  let main_v57 : FVec F S2x2048x16x64 .f32 := Host.divf main_v56 main_v55
  let main_v58 : FVec F S2x2048x1024 .f32 := shapeCast S2x2048x1024 main_v57 shapeCasts_S2x2048x16x64_S2x2048x1024
  let main_cst_3 : FVec F S_ .f32 := constant S_ .f32 0xC1000000#32
  let main_v59 : FVec F S2x2048x1024 .f32 := broadcastInDim S2x2048x1024 ![] bcast_S_S2x2048x1024 main_cst_3
  let main_v60 : FVec F S2x2048x1024 .f32 := mulf main_v59 main_v58
  let main_v61 : FVec F S1024 .f32 := Host.negf main_arg10
  let main_v62 : FVec F S1024 .f32 := fn_softplus (F := F) main_v61
  let main_v63 : FVec F S1x1x1024 .f32 := broadcastInDim S1x1x1024 ![2] bcast_S1024_S1x1x1024_2 main_v62
  let main_v64 : FVec F S2x2048x1024 .f32 := broadcastInDim S2x2048x1024 ![0, 1, 2] bcast_S1x1x1024_S2x2048x1024_0_1_2 main_v63
  let main_v65 : FVec F S2x2048x1024 .f32 := mulf main_v60 main_v64
  let main_v66 : FVec F S2x2048x1024 .f32 := Host.absf main_v7
  fn_part3 (F := F) main_arg4 main_arg5 main_arg6 main_arg7 main_arg8 main_arg9 main_arg10 main_v65 main_v66

def fn_part1 {F : FTy → Type} [FloatOps F] (main_arg4 : FVec F S4x1024 .f32) (main_arg5 : FVec F S1024 .f32) (main_arg6 : FVec F S16x64x64 .f32) (main_arg7 : FVec F S16x64 .f32) (main_arg8 : FVec F S16x64x64 .f32) (main_arg9 : FVec F S16x64 .f32) (main_arg10 : FVec F S1024 .f32) (main_v7 : FVec F S2x2048x1024 .f32) (main_v13 : FVec F S2x2051x1024 .f32) (main_v21 : FVec F S2x2048x1024 .f32) : IVec S_ 1 :=
  let main_v22 : FVec F S1x1024 .f32 := (extractStridedSlice S1x1024 ![1, 0] · slices_S4x1024_S1x1024_1_0) main_arg4
  let main_v23 : FVec F S1024 .f32 := shapeCast S1024 main_v22 shapeCasts_S1x1024_S1024
  let main_v24 : FVec F S2x2048x1024 .f32 := (extractStridedSlice S2x2048x1024 ![0, 1, 0] · slices_S2x2051x1024_S2x2048x1024_0_1_0) main_v13
  let main_v25 : FVec F S1x1x1024 .f32 := broadcastInDim S1x1x1024 ![2] bcast_S1024_S1x1x1024_2 main_v23
  let main_v26 : FVec F S2x2048x1024 .f32 := broadcastInDim S2x2048x1024 ![0, 1, 2] bcast_S1x1x1024_S2x2048x1024_0_1_2 main_v25
  let main_v27 : FVec F S2x2048x1024 .f32 := mulf main_v26 main_v24
  let main_v28 : FVec F S2x2048x1024 .f32 := addf main_v21 main_v27
  let main_v29 : FVec F S1x1024 .f32 := (extractStridedSlice S1x1024 ![2, 0] · slices_S4x1024_S1x1024_2_0) main_arg4
  let main_v30 : FVec F S1024 .f32 := shapeCast S1024 main_v29 shapeCasts_S1x1024_S1024
  let main_v31 : FVec F S2x2048x1024 .f32 := (extractStridedSlice S2x2048x1024 ![0, 2, 0] · slices_S2x2051x1024_S2x2048x1024_0_2_0) main_v13
  let main_v32 : FVec F S1x1x1024 .f32 := broadcastInDim S1x1x1024 ![2] bcast_S1024_S1x1x1024_2 main_v30
  let main_v33 : FVec F S2x2048x1024 .f32 := broadcastInDim S2x2048x1024 ![0, 1, 2] bcast_S1x1x1024_S2x2048x1024_0_1_2 main_v32
  let main_v34 : FVec F S2x2048x1024 .f32 := mulf main_v33 main_v31
  let main_v35 : FVec F S2x2048x1024 .f32 := addf main_v28 main_v34
  let main_v36 : FVec F S1x1024 .f32 := (extractStridedSlice S1x1024 ![3, 0] · slices_S4x1024_S1x1024_3_0) main_arg4
  let main_v37 : FVec F S1024 .f32 := shapeCast S1024 main_v36 shapeCasts_S1x1024_S1024
  let main_v38 : FVec F S2x2048x1024 .f32 := (extractStridedSlice S2x2048x1024 ![0, 3, 0] · slices_S2x2051x1024_S2x2048x1024_0_3_0) main_v13
  let main_v39 : FVec F S1x1x1024 .f32 := broadcastInDim S1x1x1024 ![2] bcast_S1024_S1x1x1024_2 main_v37
  let main_v40 : FVec F S2x2048x1024 .f32 := broadcastInDim S2x2048x1024 ![0, 1, 2] bcast_S1x1x1024_S2x2048x1024_0_1_2 main_v39
  let main_v41 : FVec F S2x2048x1024 .f32 := mulf main_v40 main_v38
  let main_v42 : FVec F S2x2048x1024 .f32 := addf main_v35 main_v41
  let main_v43 : FVec F S1x1x1024 .f32 := broadcastInDim S1x1x1024 ![2] bcast_S1024_S1x1x1024_2 main_arg5
  let main_v44 : FVec F S2x2048x1024 .f32 := broadcastInDim S2x2048x1024 ![0, 1, 2] bcast_S1x1x1024_S2x2048x1024_0_1_2 main_v43
  let main_v45 : FVec F S2x2048x1024 .f32 := addf main_v42 main_v44
  fn_part2 (F := F) main_arg4 main_arg5 main_arg6 main_arg7 main_arg8 main_arg9 main_arg10 main_v7 main_v45

def fn {F : FTy → Type} [FloatOps F] (main_arg0 : FVec F S2x2048x12288 .f32) (main_arg1 : FVec F S3x1024 .f32) (main_arg2 : FVec F S8x128x128 .f32) (main_arg3 : FVec F S8x128 .f32) (main_arg4 : FVec F S4x1024 .f32) (main_arg5 : FVec F S1024 .f32) (main_arg6 : FVec F S16x64x64 .f32) (main_arg7 : FVec F S16x64 .f32) (main_arg8 : FVec F S16x64x64 .f32) (main_arg9 : FVec F S16x64 .f32) (main_arg10 : FVec F S1024 .f32) : IVec S_ 1 :=
  let main_v0 : FVec F S2x2048x1024 .f32 := (extractStridedSlice S2x2048x1024 ![0, 0, 0] · slices_S2x2048x12288_S2x2048x1024_0_0_0) main_arg0
  let main_v1 : FVec F S2x2048x1024 .f32 := (extractStridedSlice S2x2048x1024 ![0, 0, 1024] · slices_S2x2048x12288_S2x2048x1024_0_0_1024) main_arg0
  let main_v2 : FVec F S2x2048x1024 .f32 := (extractStridedSlice S2x2048x1024 ![0, 0, 2048] · slices_S2x2048x12288_S2x2048x1024_0_0_2048) main_arg0
  let main_v3 : FVec F S2x2048x1024 .f32 := (extractStridedSlice S2x2048x1024 ![0, 0, 3072] · slices_S2x2048x12288_S2x2048x1024_0_0_3072) main_arg0
  let main_v4 : FVec F S2x2048x1024 .f32 := (extractStridedSlice S2x2048x1024 ![0, 0, 4096] · slices_S2x2048x12288_S2x2048x1024_0_0_4096) main_arg0
  let main_v5 : FVec F S2x2048x1024 .f32 := (extractStridedSlice S2x2048x1024 ![0, 0, 5120] · slices_S2x2048x12288_S2x2048x1024_0_0_5120) main_arg0
  let main_v6 : FVec F S2x2048x1024 .f32 := (extractStridedSlice S2x2048x1024 ![0, 0, 6144] · slices_S2x2048x12288_S2x2048x1024_0_0_6144) main_arg0
  let main_v7 : FVec F S2x2048x1024 .f32 := (extractStridedSlice S2x2048x1024 ![0, 0, 7168] · slices_S2x2048x12288_S2x2048x1024_0_0_7168) main_arg0
  let main_v8 : FVec F S2x2048x1024 .f32 := (extractStridedSlice S2x2048x1024 ![0, 0, 8192] · slices_S2x2048x12288_S2x2048x1024_0_0_8192) main_arg0
  let main_v9 : FVec F S2x2048x1024 .f32 := (extractStridedSlice S2x2048x1024 ![0, 0, 9216] · slices_S2x2048x12288_S2x2048x1024_0_0_9216) main_arg0
  let main_v10 : FVec F S2x2048x1024 .f32 := (extractStridedSlice S2x2048x1024 ![0, 0, 10240] · slices_S2x2048x12288_S2x2048x1024_0_0_10240) main_arg0
  let main_v11 : FVec F S2x2048x1024 .f32 := (extractStridedSlice S2x2048x1024 ![0, 0, 11264] · slices_S2x2048x12288_S2x2048x1024_0_0_11264) main_arg0
  let main_cst : FVec F S_ .f32 := constant S_ .f32 0x00000000#32
  let main_v12 : FVec F S2x3x1024 .f32 := broadcastInDim S2x3x1024 ![] bcast_S_S2x3x1024 main_cst
  let main_v13 : FVec F S2x2051x1024 .f32 := (fun a b => concatenate S2x2051x1024 1 [⟨S2x3x1024, a⟩, ⟨S2x2048x1024, b⟩] concatenates_S2x3x1024_S2x2048x1024_S2x2051x1024_d1) main_v12 main_v7
  let main_v14 : FVec F S1x1024 .f32 := (extractStridedSlice S1x1024 ![0, 0] · slices_S4x1024_S1x1024_0_0) main_arg4
  let main_v15 : FVec F S1024 .f32 := shapeCast S1024 main_v14 shapeCasts_S1x1024_S1024
  let main_v16 : FVec F S2x2048x1024 .f32 := (extractStridedSlice S2x2048x1024 ![0, 0, 0] · slices_S2x2051x1024_S2x2048x1024_0_0_0) main_v13
  let main_v17 : FVec F S1x1x1024 .f32 := broadcastInDim S1x1x1024 ![2] bcast_S1024_S1x1x1024_2 main_v15
  let main_v18 : FVec F S2x2048x1024 .f32 := broadcastInDim S2x2048x1024 ![0, 1, 2] bcast_S1x1x1024_S2x2048x1024_0_1_2 main_v17
  let main_v19 : FVec F S2x2048x1024 .f32 := mulf main_v18 main_v16
  let main_cst_0 : FVec F S_ .f32 := constant S_ .f32 0x00000000#32
  let main_v20 : FVec F S2x2048x1024 .f32 := broadcastInDim S2x2048x1024 ![] bcast_S_S2x2048x1024 main_cst_0
  let main_v21 : FVec F S2x2048x1024 .f32 := addf main_v20 main_v19
  fn_part1 (F := F) main_arg4 main_arg5 main_arg6 main_arg7 main_arg8 main_arg9 main_arg10 main_v7 main_v13 main_v21
-- ==== Kernel.lean ====
abbrev S2x2048x1024 : Shape := ⟨3, ![2, 2048, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x2048x1024, .f32⟩
  | .hbm, ⟨5, _⟩ => ⟨S2x2048x1024, .f32⟩
  | .hbm, ⟨6, _⟩ => ⟨S1x1024, .f32⟩
  | .hbm, ⟨7, _⟩ => ⟨S2x1x1024, .f32⟩
  | .hbm, ⟨8, _⟩ => ⟨S2x2048x1024, .f32⟩
  | .hbm, ⟨9, _⟩ => ⟨S2x1x1024, .f32⟩
  | .hbm, ⟨10, _⟩ => ⟨S2x1x1024, .f32⟩
  | .hbm, ⟨11, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S2x2048x1024 : Shape := ⟨3, ![2, 2048, 1024]⟩
abbrev S1024 : Shape := ⟨1, ![1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x1024, .f32⟩
  | .hbm, ⟨38, _⟩ => ⟨S2x1x1024, .f32⟩
  | .hbm, ⟨39, _⟩ => ⟨S_, .f32⟩
  | .hbm, ⟨40, _⟩ => ⟨S2x1024, .f32⟩
  | .hbm, ⟨41, _⟩ => ⟨S2x2048x1024, .f32⟩
  | .hbm, ⟨42, _⟩ => ⟨S_, .f32⟩
  | .hbm, ⟨43, _⟩ => ⟨S2x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x1x1024, .f32⟩
  | .hbm, ⟨76, _⟩ => ⟨S2x1x1024, .f32⟩
  | .hbm, ⟨77, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel2.lean ====
abbrev S2x2048x12288 : Shape := ⟨3, ![2, 2048, 12288]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S8x128x1 : Shape := ⟨3, ![8, 128, 1]⟩
abbrev S1x1024 : Shape := ⟨2, ![1, 1024]⟩
abbrev S_ : Shape := ⟨0, ![]⟩
abbrev S8x64x64 : Shape := ⟨3, ![8, 64, 64]⟩
abbrev S8x2x64x64 : Shape := ⟨4, ![8, 2, 64, 64]⟩
abbrev S8x1x64x64 : Shape := ⟨4, ![8, 1, 64, 64]⟩
abbrev S8x64x128 : Shape := ⟨3, ![8, 64, 128]⟩
abbrev S2x2048x12x1024 : Shape := ⟨4, ![2, 2048, 12, 1024]⟩
abbrev S12x2x2048x1024 : Shape := ⟨4, ![12, 2, 2048, 1024]⟩
abbrev S2x3x1024 : Shape := ⟨3, ![2, 3, 1024]⟩
abbrev S2x2051x1024 : Shape := ⟨3, ![2, 2051, 1024]⟩
abbrev S1x1x1024 : Shape := ⟨3, ![1, 1, 1024]⟩
abbrev S2x2048x16x64 : Shape := ⟨4, ![2, 2048, 16, 64]⟩
abbrev S16x64x2x2048 : Shape := ⟨4, ![16, 64, 2, 2048]⟩
abbrev S1x1x16x64 : Shape := ⟨4, ![1, 1, 16, 64]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x1x1024 : Shape := ⟨3, ![2, 1, 1024]⟩
abbrev S2x0x1024 : Shape := ⟨3, ![2, 0, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩
abbrev S8x1024 : Shape := ⟨2, ![8, 1024]⟩
abbrev S12x1x2048x128 : Shape := ⟨4, ![12, 1, 2048, 128]⟩
abbrev S1x2048x128 : Shape := ⟨3, ![1, 2048, 128]⟩
abbrev S3x128 : Shape := ⟨2, ![3, 128]⟩
abbrev S1x128x128 : Shape := ⟨3, ![1, 128, 128]⟩
abbrev S4x128 : Shape := ⟨2, ![4, 128]⟩
abbrev S1x128 : Shape := ⟨2, ![1, 128]⟩
abbrev S128x128 : Shape := ⟨2, ![128, 128]⟩
abbrev S16x128 : Shape := ⟨2, ![16, 128]⟩
abbrev S1x1x128x128 : Shape := ⟨4, ![1, 1, 128, 128]⟩
abbrev S1x1x16x128 : Shape := ⟨4, ![1, 1, 16, 128]⟩
abbrev S144x128 : Shape := ⟨2, ![144, 128]⟩
abbrev S128 : Shape := ⟨1, ![128]⟩
abbrev S128x1 : Shape := ⟨2, ![128, 1]⟩
abbrev S1x16x128 : Shape := ⟨3, ![1, 16, 128]⟩
abbrev S16x8x128 : Shape := ⟨3, ![16, 8, 128]⟩
abbrev S1x8x128 : Shape := ⟨3, ![1, 8, 128]⟩
abbrev S1x2x2048x1024 : Shape := ⟨4, ![1, 2, 2048, 1024]⟩

abbrev nBuf : Space → Nat
  | .hbm => 476
  | .vmem => 42
  | .smem => 0
  | _ => 0

abbrev hbmTy0_0 (i : Nat) : BufTy := match i % 128 with
  | 0 => ⟨S2x2048x12288, .f32⟩
  | 1 => ⟨S2x2048x1024, .f32⟩
  | 2 => ⟨S3x1024, .f32⟩
  | 3 => ⟨S8x128x128, .f32⟩
  | 4 => ⟨S8x128, .f32⟩
  | 5 => ⟨S4x1024, .f32⟩
  | 6 => ⟨S1024, .f32⟩
  | 7 => ⟨S16x64x64, .f32⟩
  | 8 => ⟨S16x64, .f32⟩
  | 9 => ⟨S16x64x64, .f32⟩
  | 10 => ⟨S16x64, .f32⟩
  | 11 => ⟨S1024, .f32⟩
  | 12 => ⟨S8x128x1, .f32⟩
  | 13 => ⟨S8x128x128, .f32⟩
  | 14 => ⟨S1x1024, .f32⟩
  | 15 => ⟨S_, .f32⟩
  | 16 => ⟨S8x64x64, .f32⟩
  | 17 => ⟨S8x2x64x64, .f32⟩
  | 18 => ⟨S8x1x64x64, .f32⟩
  | 19 => ⟨S8x64x64, .f32⟩
  | 20 => ⟨S8x64x128, .f32⟩
  | 21 => ⟨S8x1x64x64, .f32⟩
  | 22 => ⟨S8x64x64, .f32⟩
  | 23 => ⟨S8x64x128, .f32⟩
  | 24 => ⟨S8x128x128, .f32⟩
  | 25 => ⟨S8x128x128, .bf16⟩
  | 26 => ⟨S_, .f32⟩
  | 27 => ⟨S8x64x64, .f32⟩
  | 28 => ⟨S8x2x64x64, .f32⟩
  | 29 => ⟨S8x1x64x64, .f32⟩
  | 30 => ⟨S8x64x64, .f32⟩
  | 31 => ⟨S8x64x128, .f32⟩
  | 32 => ⟨S8x1x64x64, .f32⟩
  | 33 => ⟨S8x64x64, .f32⟩
  | 34 => ⟨S8x64x128, .f32⟩
  | 35 => ⟨S8x128x128, .f32⟩
  | 36 => ⟨S8x128x128, .bf16⟩
  | 37 => ⟨S1x1024, .f32⟩
  | 38 => ⟨S1x1024, .f32⟩
  | 39 => ⟨S1x1024, .f32⟩
  | 40 => ⟨S2x2048x12x1024, .f32⟩
  | 41 => ⟨S12x2x2048x1024, .f32⟩
  | 42 => ⟨S12x2x2048x1024, .bf16⟩
  | 43 => ⟨S2x2048x1024, .f32⟩
  | 44 => ⟨S_, .f32⟩
  | 45 => ⟨S2x3x1024, .f32⟩
  | 46 => ⟨S2x2051x1024, .f32⟩
  | 47 => ⟨S1x1024, .f32⟩
  | 48 => ⟨S1024, .f32⟩
  | 49 => ⟨S2x2048x1024, .f32⟩
  | 50 => ⟨S1x1x1024, .f32⟩
  | 51 => ⟨S2x2048x1024, .f32⟩
  | 52 => ⟨S2x2048x1024, .f32⟩
  | 53 => ⟨S_, .f32⟩
  | 54 => ⟨S2x2048x1024, .f32⟩
  | 55 => ⟨S2x2048x1024, .f32⟩
  | 56 => ⟨S1x1024, .f32⟩
  | 57 => ⟨S1024, .f32⟩
  | 58 => ⟨S2x2048x1024, .f32⟩
  | 59 => ⟨S1x1x1024, .f32⟩
  | 60 => ⟨S2x2048x1024, .f32⟩
  | 61 => ⟨S2x2048x1024, .f32⟩
  | 62 => ⟨S2x2048x1024, .f32⟩
  | 63 => ⟨S1x1024, .f32⟩
  | 64 => ⟨S1024, .f32⟩
  | 65 => ⟨S2x2048x1024, .f32⟩
  | 66 => ⟨S1x1x1024, .f32⟩
  | 67 => ⟨S2x2048x1024, .f32⟩
  | 68 => ⟨S2x2048x1024, .f32⟩
  | 69 => ⟨S2x2048x1024, .f32⟩
  | 70 => ⟨S1x1024, .f32⟩
  | 71 => ⟨S1024, .f32⟩
  | 72 => ⟨S2x2048x1024, .f32⟩
  | 73 => ⟨S1x1x1024, .f32⟩
  | 74 => ⟨S2x2048x1024, .f32⟩
  | 75 => ⟨S2x2048x1024, .f32⟩
  | 76 => ⟨S2x2048x1024, .f32⟩
  | 77 => ⟨S1x1x1024, .f32⟩
  | 78 => ⟨S2x2048x1024, .f32⟩
  | 79 => ⟨S2x2048x1024, .f32⟩
  | 80 => ⟨S2x2048x16x64, .f32⟩
  | 81 => ⟨S16x64x2x2048, .f32⟩
  | 82 => ⟨S2x2048x16x64, .f32⟩
  | 83 => ⟨S1x1x16x64, .f32⟩
  | 84 => ⟨S2x2048x16x64, .f32⟩
  | 85 => ⟨S2x2048x16x64, .f32⟩
  | 86 => ⟨S2x2048x16x64, .f32⟩
  | 87 => ⟨S2x2048x16x64, .f32⟩
  | 88 => ⟨S_, .f32⟩
  | 89 => ⟨S2x2048x16x64, .f32⟩
  | 90 => ⟨S2x2048x16x64, .f32⟩
  | 91 => ⟨S_, .f32⟩
  | 92 => ⟨S2x2048x16x64, .f32⟩
  | 93 => ⟨S2x2048x16x64, .f32⟩
  | 94 => ⟨S2x2048x1024, .f32⟩
  | 95 => ⟨S16x64x2x2048, .f32⟩
  | 96 => ⟨S2x2048x16x64, .f32⟩
  | 97 => ⟨S1x1x16x64, .f32⟩
  | 98 => ⟨S2x2048x16x64, .f32⟩
  | 99 => ⟨S2x2048x16x64, .f32⟩
  | 100 => ⟨S2x2048x16x64, .f32⟩
  | 101 => ⟨S2x2048x16x64, .f32⟩
  | 102 => ⟨S_, .f32⟩
  | 103 => ⟨S2x2048x16x64, .f32⟩
  | 104 => ⟨S2x2048x16x64, .f32⟩
  | 105 => ⟨S_, .f32⟩
  | 106 => ⟨S2x2048x16x64, .f32⟩
  | 107 => ⟨S2x2048x16x64, .f32⟩
  | 108 => ⟨S2x2048x1024, .f32⟩
  | 109 => ⟨S_, .f32⟩
  | 110 => ⟨S2x2048x1024, .f32⟩
  | 111 => ⟨S2x2048x1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S1024, .f32⟩
  | 118 => ⟨S1024, .i1⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1x1x1024, .f32⟩
  | _ => ⟨S2x2048x12288, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S_, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x1024x1024, .f32⟩
  | 12 => ⟨S2x1024x1024, .f32⟩
  | 13 => ⟨S2x1024x1024, .f32⟩
  | 14 => ⟨S2x1024x1024, .f32⟩
  | 15 => ⟨S2x1024x1024, .f32⟩
  | 16 => ⟨S2x1024x1024, .f32⟩
  | 17 => ⟨S2x1024x1024, .f32⟩
  | 18 => ⟨S2x512x1024, .f32⟩
  | 19 => ⟨S2x512x1024, .f32⟩
  | 20 => ⟨S2x512x1024, .f32⟩
  | 21 => ⟨S2x512x1024, .f32⟩
  | 22 => ⟨S2x512x1024, .f32⟩
  | 23 => ⟨S2x512x1024, .f32⟩
  | 24 => ⟨S2x512x1024, .f32⟩
  | 25 => ⟨S2x256x1024, .f32⟩
  | 26 => ⟨S2x256x1024, .f32⟩
  | 27 => ⟨S2x256x1024, .f32⟩
  | 28 => ⟨S2x256x1024, .f32⟩
  | 29 => ⟨S2x256x1024, .f32⟩
  | 30 => ⟨S2x256x1024, .f32⟩
  | 31 => ⟨S2x256x1024, .f32⟩
  | 32 => ⟨S2x128x1024, .f32⟩
  | 33 => ⟨S2x128x1024, .f32⟩
  | 34 => ⟨S2x128x1024, .f32⟩
  | 35 => ⟨S2x128x1024, .f32⟩
  | 36 => ⟨S2x128x1024, .f32⟩
  | 37 => ⟨S2x128x1024, .f32⟩
  | 38 => ⟨S2x128x1024, .f32⟩
  | 39 => ⟨S2x64x1024, .f32⟩
  | 40 => ⟨S2x64x1024, .f32⟩
  | 41 => ⟨S2x64x1024, .f32⟩
  | 42 => ⟨S2x64x1024, .f32⟩
  | 43 => ⟨S2x64x1024, .f32⟩
  | 44 => ⟨S2x64x1024, .f32⟩
  | 45 => ⟨S2x64x1024, .f32⟩
  | 46 => ⟨S2x32x1024, .f32⟩
  | 47 => ⟨S2x32x1024, .f32⟩
  | 48 => ⟨S2x32x1024, .f32⟩
  | 49 => ⟨S2x32x1024, .f32⟩
  | 50 => ⟨S2x32x1024, .f32⟩
  | 51 => ⟨S2x32x1024, .f32⟩
  | 52 => ⟨S2x32x1024, .f32⟩
  | 53 => ⟨S2x16x1024, .f32⟩
  | 54 => ⟨S2x16x1024, .f32⟩
  | 55 => ⟨S2x16x1024, .f32⟩
  | 56 => ⟨S2x16x1024, .f32⟩
  | 57 => ⟨S2x16x1024, .f32⟩
  | 58 => ⟨S2x16x1024, .f32⟩
  | 59 => ⟨S2x16x1024, .f32⟩
  | 60 => ⟨S2x8x1024, .f32⟩
  | 61 => ⟨S2x8x1024, .f32⟩
  | 62 => ⟨S2x8x1024, .f32⟩
  | 63 => ⟨S2x8x1024, .f32⟩
  | 64 => ⟨S2x8x1024, .f32⟩
  | 65 => ⟨S2x8x1024, .f32⟩
  | 66 => ⟨S2x8x1024, .f32⟩
  | 67 => ⟨S2x4x1024, .f32⟩
  | 68 => ⟨S2x4x1024, .f32⟩
  | 69 => ⟨S2x4x1024, .f32⟩
  | 70 => ⟨S2x4x1024, .f32⟩
  | 71 => ⟨S2x4x1024, .f32⟩
  | 72 => ⟨S2x4x1024, .f32⟩
  | 73 => ⟨S2x4x1024, .f32⟩
  | 74 => ⟨S2x2x1024, .f32⟩
  | 75 => ⟨S2x2x1024, .f32⟩
  | 76 => ⟨S2x2x1024, .f32⟩
  | 77 => ⟨S2x2x1024, .f32⟩
  | 78 => ⟨S2x2x1024, .f32⟩
  | 79 => ⟨S2x2x1024, .f32⟩
  | 80 => ⟨S2x2x1024, .f32⟩
  | 81 => ⟨S2x1x1024, .f32⟩
  | 82 => ⟨S2x1x1024, .f32⟩
  | 83 => ⟨S2x1x1024, .f32⟩
  | 84 => ⟨S2x1x1024, .f32⟩
  | 85 => ⟨S2x1x1024, .f32⟩
  | 86 => ⟨S2x1x1024, .f32⟩
  | 87 => ⟨S2x1x1024, .f32⟩
  | 88 => ⟨S2x0x1024, .f32⟩
  | 89 => ⟨S2x0x1024, .f32⟩
  | 90 => ⟨S2x0x1024, .f32⟩
  | 91 => ⟨S2x0x1024, .f32⟩
  | 92 => ⟨S2x0x1024, .f32⟩
  | 93 => ⟨S2x0x1024, .f32⟩
  | 94 => ⟨S2x0x1024, .f32⟩
  | 95 => ⟨S2x1x1024, .f32⟩
  | 96 => ⟨S2x1x1024, .f32⟩
  | 97 => ⟨S2x1x1024, .f32⟩
  | 98 => ⟨S2x1x1024, .f32⟩
  | 99 => ⟨S_, .f32⟩
  | 100 => ⟨S2x2x1024, .f32⟩
  | 101 => ⟨S_, .f32⟩
  | 102 => ⟨S2x2x1024, .f32⟩
  | 103 => ⟨S2x2x1024, .f32⟩
  | 104 => ⟨S_, .f32⟩
  | 105 => ⟨S2x2x1024, .f32⟩
  | 106 => ⟨S_, .f32⟩
  | 107 => ⟨S2x2x1024, .f32⟩
  | 108 => ⟨S2x2x1024, .f32⟩
  | 109 => ⟨S2x1x1024, .f32⟩
  | 110 => ⟨S2x1x1024, .f32⟩
  | 111 => ⟨S2x1x1024, .f32⟩
  | 112 => ⟨S2x1x1024, .f32⟩
  | 113 => ⟨S2x1x1024, .f32⟩
  | 114 => ⟨S2x1x1024, .f32⟩
  | 115 => ⟨S2x1x1024, .f32⟩
  | 116 => ⟨S2x1x1024, .f32⟩
  | 117 => ⟨S2x2x1024, .f32⟩
  | 118 => ⟨S2x1x1024, .f32⟩
  | 119 => ⟨S2x2x1024, .f32⟩
  | 120 => ⟨S_, .f32⟩
  | 121 => ⟨S2x4x1024, .f32⟩
  | 122 => ⟨S_, .f32⟩
  | 123 => ⟨S2x4x1024, .f32⟩
  | 124 => ⟨S2x4x1024, .f32⟩
  | 125 => ⟨S_, .f32⟩
  | 126 => ⟨S2x4x1024, .f32⟩
  | 127 => ⟨S_, .f32⟩
  | _ => ⟨S2x2048x12288, .f32⟩

abbrev hbmTy0_2 (i : Nat) : BufTy := match i % 128 with
  | 0 => ⟨S2x4x1024, .f32⟩
  | 1 => ⟨S2x4x1024, .f32⟩
  | 2 => ⟨S2x3x1024, .f32⟩
  | 3 => ⟨S2x3x1024, .f32⟩
  | 4 => ⟨S2x3x1024, .f32⟩
  | 5 => ⟨S2x3x1024, .f32⟩
  | 6 => ⟨S2x3x1024, .f32⟩
  | 7 => ⟨S2x3x1024, .f32⟩
  | 8 => ⟨S2x3x1024, .f32⟩
  | 9 => ⟨S2x1x1024, .f32⟩
  | 10 => ⟨S2x4x1024, .f32⟩
  | 11 => ⟨S2x1x1024, .f32⟩
  | 12 => ⟨S2x4x1024, .f32⟩
  | 13 => ⟨S_, .f32⟩
  | 14 => ⟨S2x8x1024, .f32⟩
  | 15 => ⟨S_, .f32⟩
  | 16 => ⟨S2x8x1024, .f32⟩
  | 17 => ⟨S2x8x1024, .f32⟩
  | 18 => ⟨S_, .f32⟩
  | 19 => ⟨S2x8x1024, .f32⟩
  | 20 => ⟨S_, .f32⟩
  | 21 => ⟨S2x8x1024, .f32⟩
  | 22 => ⟨S2x8x1024, .f32⟩
  | 23 => ⟨S2x7x1024, .f32⟩
  | 24 => ⟨S2x7x1024, .f32⟩
  | 25 => ⟨S2x7x1024, .f32⟩
  | 26 => ⟨S2x7x1024, .f32⟩
  | 27 => ⟨S2x7x1024, .f32⟩
  | 28 => ⟨S2x7x1024, .f32⟩
  | 29 => ⟨S2x7x1024, .f32⟩
  | 30 => ⟨S2x1x1024, .f32⟩
  | 31 => ⟨S2x8x1024, .f32⟩
  | 32 => ⟨S2x1x1024, .f32⟩
  | 33 => ⟨S2x8x1024, .f32⟩
  | 34 => ⟨S_, .f32⟩
  | 35 => ⟨S2x16x1024, .f32⟩
  | 36 => ⟨S_, .f32⟩
  | 37 => ⟨S2x16x1024, .f32⟩
  | 38 => ⟨S2x16x1024, .f32⟩
  | 39 => ⟨S_, .f32⟩
  | 40 => ⟨S2x16x1024, .f32⟩
  | 41 => ⟨S_, .f32⟩
  | 42 => ⟨S2x16x1024, .f32⟩
  | 43 => ⟨S2x16x1024, .f32⟩
  | 44 => ⟨S2x15x1024, .f32⟩
  | 45 => ⟨S2x15x1024, .f32⟩
  | 46 => ⟨S2x15x1024, .f32⟩
  | 47 => ⟨S2x15x1024, .f32⟩
  | 48 => ⟨S2x15x1024, .f32⟩
  | 49 => ⟨S2x15x1024, .f32⟩
  | 50 => ⟨S2x15x1024, .f32⟩
  | 51 => ⟨S2x1x1024, .f32⟩
  | 52 => ⟨S2x16x1024, .f32⟩
  | 53 => ⟨S2x1x1024, .f32⟩
  | 54 => ⟨S2x16x1024, .f32⟩
  | 55 => ⟨S_, .f32⟩
  | 56 => ⟨S2x32x1024, .f32⟩
  | 57 => ⟨S_, .f32⟩
  | 58 => ⟨S2x32x1024, .f32⟩
  | 59 => ⟨S2x32x1024, .f32⟩
  | 60 => ⟨S_, .f32⟩
  | 61 => ⟨S2x32x1024, .f32⟩
  | 62 => ⟨S_, .f32⟩
  | 63 => ⟨S2x32x1024, .f32⟩
  | 64 => ⟨S2x32x1024, .f32⟩
  | 65 => ⟨S2x31x1024, .f32⟩
  | 66 => ⟨S2x31x1024, .f32⟩
  | 67 => ⟨S2x31x1024, .f32⟩
  | 68 => ⟨S2x31x1024, .f32⟩
  | 69 => ⟨S2x31x1024, .f32⟩
  | 70 => ⟨S2x31x1024, .f32⟩
  | 71 => ⟨S2x31x1024, .f32⟩
  | 72 => ⟨S2x1x1024, .f32⟩
  | 73 => ⟨S2x32x1024, .f32⟩
  | 74 => ⟨S2x1x1024, .f32⟩
  | 75 => ⟨S2x32x1024, .f32⟩
  | 76 => ⟨S_, .f32⟩
  | 77 => ⟨S2x64x1024, .f32⟩
  | 78 => ⟨S_, .f32⟩
  | 79 => ⟨S2x64x1024, .f32⟩
  | 80 => ⟨S2x64x1024, .f32⟩
  | 81 => ⟨S_, .f32⟩
  | 82 => ⟨S2x64x1024, .f32⟩
  | 83 => ⟨S_, .f32⟩
  | 84 => ⟨S2x64x1024, .f32⟩
  | 85 => ⟨S2x64x1024, .f32⟩
  | 86 => ⟨S2x63x1024, .f32⟩
  | 87 => ⟨S2x63x1024, .f32⟩
  | 88 => ⟨S2x63x1024, .f32⟩
  | 89 => ⟨S2x63x1024, .f32⟩
  | 90 => ⟨S2x63x1024, .f32⟩
  | 91 => ⟨S2x63x1024, .f32⟩
  | 92 => ⟨S2x63x1024, .f32⟩
  | 93 => ⟨S2x1x1024, .f32⟩
  | 94 => ⟨S2x64x1024, .f32⟩
  | 95 => ⟨S2x1x1024, .f32⟩
  | 96 => ⟨S2x64x1024, .f32⟩
  | 97 => ⟨S_, .f32⟩
  | 98 => ⟨S2x128x1024, .f32⟩
  | 99 => ⟨S_, .f32⟩
  | 100 => ⟨S2x128x1024, .f32⟩
  | 101 => ⟨S2x128x1024, .f32⟩
  | 102 => ⟨S_, .f32⟩
  | 103 => ⟨S2x128x1024, .f32⟩
  | 104 => ⟨S_, .f32⟩
  | 105 => ⟨S2x128x1024, .f32⟩
  | 106 => ⟨S2x128x1024, .f32⟩
  | 107 => ⟨S2x127x1024, .f32⟩
  | 108 => ⟨S2x127x1024, .f32⟩
  | 109 => ⟨S2x127x1024, .f32⟩
  | 110 => ⟨S2x127x1024, .f32⟩
  | 111 => ⟨S2x127x1024, .f32⟩
  | 112 => ⟨S2x127x1024, .f32⟩
  | 113 => ⟨S2x127x1024, .f32⟩
  | 114 => ⟨S2x1x1024, .f32⟩
  | 115 => ⟨S2x128x1024, .f32⟩
  | 116 => ⟨S2x1x1024, .f32⟩
  | 117 => ⟨S2x128x1024, .f32⟩
  | 118 => ⟨S_, .f32⟩
  | 119 => ⟨S2x256x1024, .f32⟩
  | 120 => ⟨S_, .f32⟩
  | 121 => ⟨S2x256x1024, .f32⟩
  | 122 => ⟨S2x256x1024, .f32⟩
  | 123 => ⟨S_, .f32⟩
  | 124 => ⟨S2x256x1024, .f32⟩
  | 125 => ⟨S_, .f32⟩
  | 126 => ⟨S2x256x1024, .f32⟩
  | 127 => ⟨S2x256x1024, .f32⟩
  | _ => ⟨S2x2048x12288, .f32⟩

abbrev hbmTy0_3 (i : Nat) : BufTy := match i % 128 with
  | 0 => ⟨S2x255x1024, .f32⟩
  | 1 => ⟨S2x255x1024, .f32⟩
  | 2 => ⟨S2x255x1024, .f32⟩
  | 3 => ⟨S2x255x1024, .f32⟩
  | 4 => ⟨S2x255x1024, .f32⟩
  | 5 => ⟨S2x255x1024, .f32⟩
  | 6 => ⟨S2x255x1024, .f32⟩
  | 7 => ⟨S2x1x1024, .f32⟩
  | 8 => ⟨S2x256x1024, .f32⟩
  | 9 => ⟨S2x1x1024, .f32⟩
  | 10 => ⟨S2x256x1024, .f32⟩
  | 11 => ⟨S_, .f32⟩
  | 12 => ⟨S2x512x1024, .f32⟩
  | 13 => ⟨S_, .f32⟩
  | 14 => ⟨S2x512x1024, .f32⟩
  | 15 => ⟨S2x512x1024, .f32⟩
  | 16 => ⟨S_, .f32⟩
  | 17 => ⟨S2x512x1024, .f32⟩
  | 18 => ⟨S_, .f32⟩
  | 19 => ⟨S2x512x1024, .f32⟩
  | 20 => ⟨S2x512x1024, .f32⟩
  | 21 => ⟨S2x511x1024, .f32⟩
  | 22 => ⟨S2x511x1024, .f32⟩
  | 23 => ⟨S2x511x1024, .f32⟩
  | 24 => ⟨S2x511x1024, .f32⟩
  | 25 => ⟨S2x511x1024, .f32⟩
  | 26 => ⟨S2x511x1024, .f32⟩
  | 27 => ⟨S2x511x1024, .f32⟩
  | 28 => ⟨S2x1x1024, .f32⟩
  | 29 => ⟨S2x512x1024, .f32⟩
  | 30 => ⟨S2x1x1024, .f32⟩
  | 31 => ⟨S2x512x1024, .f32⟩
  | 32 => ⟨S_, .f32⟩
  | 33 => ⟨S2x1024x1024, .f32⟩
  | 34 => ⟨S_, .f32⟩
  | 35 => ⟨S2x1024x1024, .f32⟩
  | 36 => ⟨S2x1024x1024, .f32⟩
  | 37 => ⟨S_, .f32⟩
  | 38 => ⟨S2x1024x1024, .f32⟩
  | 39 => ⟨S_, .f32⟩
  | 40 => ⟨S2x1024x1024, .f32⟩
  | 41 => ⟨S2x1024x1024, .f32⟩
  | 42 => ⟨S2x1023x1024, .f32⟩
  | 43 => ⟨S2x1023x1024, .f32⟩
  | 44 => ⟨S2x1023x1024, .f32⟩
  | 45 => ⟨S2x1023x1024, .f32⟩
  | 46 => ⟨S2x1023x1024, .f32⟩
  | 47 => ⟨S2x1023x1024, .f32⟩
  | 48 => ⟨S2x1023x1024, .f32⟩
  | 49 => ⟨S2x1x1024, .f32⟩
  | 50 => ⟨S2x1024x1024, .f32⟩
  | 51 => ⟨S2x1x1024, .f32⟩
  | 52 => ⟨S2x1024x1024, .f32⟩
  | 53 => ⟨S_, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048x1024, .f32⟩
  | 60 => ⟨S_, .f32⟩
  | 61 => ⟨S2x2048x1024, .f32⟩
  | 62 => ⟨S2x2048x1024, .f32⟩
  | 63 => ⟨S2x2048x1024, .bf16⟩
  | 64 => ⟨S12x2x2048x1024, .bf16⟩
  | 65 => ⟨S3x1024, .f32⟩
  | 66 => ⟨S8x128x128, .f32⟩
  | 67 => ⟨S8x128x128, .f32⟩
  | 68 => ⟨S4x1024, .f32⟩
  | 69 => ⟨S8x1024, .f32⟩
  | 70 => ⟨S8x128x128, .f32⟩
  | 71 => ⟨S8x128x128, .f32⟩
  | 72 => ⟨S1x2x2048x1024, .bf16⟩
  | 73 => ⟨S2x2048x1024, .bf16⟩
  | 74 => ⟨S1x2x2048x1024, .bf16⟩
  | 75 => ⟨S2x2048x1024, .bf16⟩
  | 76 => ⟨S1x2x2048x1024, .bf16⟩
  | 77 => ⟨S2x2048x1024, .bf16⟩
  | 78 => ⟨S1x2x2048x1024, .bf16⟩
  | 79 => ⟨S2x2048x1024, .bf16⟩
  | 80 => ⟨S1x2x2048x1024, .bf16⟩
  | 81 => ⟨S2x2048x1024, .bf16⟩
  | 82 => ⟨S1x2x2048x1024, .bf16⟩
  | 83 => ⟨S2x2048x1024, .bf16⟩
  | 84 => ⟨S1x2x2048x1024, .bf16⟩
  | 85 => ⟨S2x2048x1024, .bf16⟩
  | 86 => ⟨S1x2x2048x1024, .bf16⟩
  | 87 => ⟨S2x2048x1024, .bf16⟩
  | 88 => ⟨S1x2x2048x1024, .bf16⟩
  | 89 => ⟨S2x2048x1024, .bf16⟩
  | 90 => ⟨S8x128x1, .f32⟩
  | 91 => ⟨S8x128, .f32⟩
  | _ => ⟨S2x2048x12288, .f32⟩

abbrev hbmTy (i : Nat) : BufTy := match i / 128 with
  | 0 => hbmTy0_0 i
  | 1 => hbmTy0_1 i
  | 2 => hbmTy0_2 i
  | 3 => hbmTy0_3 i
  | _ => ⟨S2x2048x12288, .f32⟩

abbrev bufTy : (tb : Table) → Fin (tcTables nBuf tb) → BufTy
  | .hbm, ⟨i, _⟩ => hbmTy i
  | .local _ .vmem, ⟨0, _⟩ => ⟨S12x1x2048x128, .bf16⟩
  | .local _ .vmem, ⟨1, _⟩ => ⟨S12x1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S3x128, .f32⟩
  | .local _ .vmem, ⟨7, _⟩ => ⟨S3x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x128x128, .bf16⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S12x1x2048x128, .bf16⟩
  | .local _ .vmem, ⟨27, _⟩ => ⟨S12x1x2048x128, .bf16⟩
  | .local _ .vmem, ⟨28, _⟩ => ⟨S3x128, .f32⟩
  | .local _ .vmem, ⟨29, _⟩ => ⟨S3x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S1x128x128, .f32⟩
  | .local _ .vmem, ⟨34, _⟩ => ⟨S4x128, .f32⟩
  | .local _ .vmem, ⟨35, _⟩ => ⟨S4x128, .f32⟩
  | .local _ .vmem, ⟨36, _⟩ => ⟨S8x128, .f32⟩
  | .local _ .vmem, ⟨37, _⟩ => ⟨S8x128, .f32⟩
  | .local _ .vmem, ⟨38, _⟩ => ⟨S1x128x128, .f32⟩
  | .local _ .vmem, ⟨39, _⟩ => ⟨S1x128x128, .f32⟩
  | .local _ .vmem, ⟨40, _⟩ => ⟨S1x128x128, .f32⟩
  | .local _ .vmem, ⟨41, _⟩ => ⟨S1x128x128, .f32⟩
  | _, _ => ⟨S2x2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_3 : Ref sig .tc := ⟨.hbm, 88, rfl⟩
abbrev main_v72 : Ref sig .tc := ⟨.hbm, 89, rfl⟩
abbrev main_v73 : Ref sig .tc := ⟨.hbm, 90, rfl⟩
abbrev main_cst_4 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_5 : Ref sig .tc := ⟨.hbm, 102, rfl⟩
abbrev main_v84 : Ref sig .tc := ⟨.hbm, 103, rfl⟩
abbrev main_v85 : Ref sig .tc := ⟨.hbm, 104, rfl⟩
abbrev main_cst_6 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_7 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_call0_cst : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_v7 : Ref sig .tc := ⟨.hbm, 121, rfl⟩
abbrev main_call0_v8 : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_8 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_cst_9 : Ref sig .tc := ⟨.hbm, 227, rfl⟩
abbrev main_v192 : Ref sig .tc := ⟨.hbm, 228, rfl⟩
abbrev main_cst_10 : Ref sig .tc := ⟨.hbm, 229, rfl⟩
abbrev main_v193 : Ref sig .tc := ⟨.hbm, 230, rfl⟩
abbrev main_v194 : Ref sig .tc := ⟨.hbm, 231, rfl⟩
abbrev main_cst_11 : Ref sig .tc := ⟨.hbm, 232, rfl⟩
abbrev main_v195 : Ref sig .tc := ⟨.hbm, 233, rfl⟩
abbrev main_cst_12 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_cst_13 : Ref sig .tc := ⟨.hbm, 248, rfl⟩
abbrev main_v209 : Ref sig .tc := ⟨.hbm, 249, rfl⟩
abbrev main_cst_14 : Ref sig .tc := ⟨.hbm, 250, rfl⟩
abbrev main_v210 : Ref sig .tc := ⟨.hbm, 251, rfl⟩
abbrev main_v211 : Ref sig .tc := ⟨.hbm, 252, rfl⟩
abbrev main_cst_15 : Ref sig .tc := ⟨.hbm, 253, rfl⟩
abbrev main_v212 : Ref sig .tc := ⟨.hbm, 254, rfl⟩
abbrev main_cst_16 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_cst_17 : Ref sig .tc := ⟨.hbm, 269, rfl⟩
abbrev main_v226 : Ref sig .tc := ⟨.hbm, 270, rfl⟩
abbrev main_cst_18 : Ref sig .tc := ⟨.hbm, 271, rfl⟩
abbrev main_v227 : Ref sig .tc := ⟨.hbm, 272, rfl⟩
abbrev main_v228 : Ref sig .tc := ⟨.hbm, 273, rfl⟩
abbrev main_cst_19 : Ref sig .tc := ⟨.hbm, 274, rfl⟩
abbrev main_v229 : Ref sig .tc := ⟨.hbm, 275, rfl⟩
abbrev main_cst_20 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_cst_21 : Ref sig .tc := ⟨.hbm, 290, rfl⟩
abbrev main_v243 : Ref sig .tc := ⟨.hbm, 291, rfl⟩
abbrev main_cst_22 : Ref sig .tc := ⟨.hbm, 292, rfl⟩
abbrev main_v244 : Ref sig .tc := ⟨.hbm, 293, rfl⟩
abbrev main_v245 : Ref sig .tc := ⟨.hbm, 294, rfl⟩
abbrev main_cst_23 : Ref sig .tc := ⟨.hbm, 295, rfl⟩
abbrev main_v246 : Ref sig .tc := ⟨.hbm, 296, rfl⟩
abbrev main_cst_24 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_cst_25 : Ref sig .tc := ⟨.hbm, 311, rfl⟩
abbrev main_v260 : Ref sig .tc := ⟨.hbm, 312, rfl⟩
abbrev main_cst_26 : Ref sig .tc := ⟨.hbm, 313, rfl⟩
abbrev main_v261 : Ref sig .tc := ⟨.hbm, 314, rfl⟩
abbrev main_v262 : Ref sig .tc := ⟨.hbm, 315, rfl⟩
abbrev main_cst_27 : Ref sig .tc := ⟨.hbm, 316, rfl⟩
abbrev main_v263 : Ref sig .tc := ⟨.hbm, 317, rfl⟩
abbrev main_cst_28 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_cst_29 : Ref sig .tc := ⟨.hbm, 332, rfl⟩
abbrev main_v277 : Ref sig .tc := ⟨.hbm, 333, rfl⟩
abbrev main_cst_30 : Ref sig .tc := ⟨.hbm, 334, rfl⟩
abbrev main_v278 : Ref sig .tc := ⟨.hbm, 335, rfl⟩
abbrev main_v279 : Ref sig .tc := ⟨.hbm, 336, rfl⟩
abbrev main_cst_31 : Ref sig .tc := ⟨.hbm, 337, rfl⟩
abbrev main_v280 : Ref sig .tc := ⟨.hbm, 338, rfl⟩
abbrev main_cst_32 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_cst_33 : Ref sig .tc := ⟨.hbm, 353, rfl⟩
abbrev main_v294 : Ref sig .tc := ⟨.hbm, 354, rfl⟩
abbrev main_cst_34 : Ref sig .tc := ⟨.hbm, 355, rfl⟩
abbrev main_v295 : Ref sig .tc := ⟨.hbm, 356, rfl⟩
abbrev main_v296 : Ref sig .tc := ⟨.hbm, 357, rfl⟩
abbrev main_cst_35 : Ref sig .tc := ⟨.hbm, 358, rfl⟩
abbrev main_v297 : Ref sig .tc := ⟨.hbm, 359, rfl⟩
abbrev main_cst_36 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_cst_37 : Ref sig .tc := ⟨.hbm, 374, rfl⟩
abbrev main_v311 : Ref sig .tc := ⟨.hbm, 375, rfl⟩
abbrev main_cst_38 : Ref sig .tc := ⟨.hbm, 376, rfl⟩
abbrev main_v312 : Ref sig .tc := ⟨.hbm, 377, rfl⟩
abbrev main_v313 : Ref sig .tc := ⟨.hbm, 378, rfl⟩
abbrev main_cst_39 : Ref sig .tc := ⟨.hbm, 379, rfl⟩
abbrev main_v314 : Ref sig .tc := ⟨.hbm, 380, rfl⟩
abbrev main_cst_40 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_cst_41 : Ref sig .tc := ⟨.hbm, 395, rfl⟩
abbrev main_v328 : Ref sig .tc := ⟨.hbm, 396, rfl⟩
abbrev main_cst_42 : Ref sig .tc := ⟨.hbm, 397, rfl⟩
abbrev main_v329 : Ref sig .tc := ⟨.hbm, 398, rfl⟩
abbrev main_v330 : Ref sig .tc := ⟨.hbm, 399, rfl⟩
abbrev main_cst_43 : Ref sig .tc := ⟨.hbm, 400, rfl⟩
abbrev main_v331 : Ref sig .tc := ⟨.hbm, 401, rfl⟩
abbrev main_cst_44 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_cst_45 : Ref sig .tc := ⟨.hbm, 416, rfl⟩
abbrev main_v345 : Ref sig .tc := ⟨.hbm, 417, rfl⟩
abbrev main_cst_46 : Ref sig .tc := ⟨.hbm, 418, rfl⟩
abbrev main_v346 : Ref sig .tc := ⟨.hbm, 419, rfl⟩
abbrev main_v347 : Ref sig .tc := ⟨.hbm, 420, rfl⟩
abbrev main_cst_47 : Ref sig .tc := ⟨.hbm, 421, rfl⟩
abbrev main_v348 : Ref sig .tc := ⟨.hbm, 422, rfl⟩
abbrev main_cst_48 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_v359 : Ref sig .tc := ⟨.hbm, 434, rfl⟩
abbrev main_v360 : Ref sig .tc := ⟨.hbm, 435, rfl⟩
abbrev main_v361 : Ref sig .tc := ⟨.hbm, 436, rfl⟩
abbrev main_cst_49 : Ref sig .tc := ⟨.hbm, 437, rfl⟩
abbrev main_v362 : Ref sig .tc := ⟨.hbm, 438, rfl⟩
abbrev main_cst_50 : Ref sig .tc := ⟨.hbm, 439, rfl⟩
abbrev main_v363 : Ref sig .tc := ⟨.hbm, 440, rfl⟩
abbrev main_v364 : Ref sig .tc := ⟨.hbm, 441, rfl⟩
abbrev main_cst_51 : Ref sig .tc := ⟨.hbm, 442, rfl⟩
abbrev main_v365 : Ref sig .tc := ⟨.hbm, 443, rfl⟩
abbrev main_cst_52 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369_0 : Ref sig .tc := ⟨.hbm, 448, rfl⟩
abbrev main_v369_1 : Ref sig .tc := ⟨.hbm, 449, rfl⟩
abbrev main_v369_2 : Ref sig .tc := ⟨.hbm, 450, rfl⟩
abbrev main_v369_3 : Ref sig .tc := ⟨.hbm, 451, rfl⟩
abbrev main_v369_4 : Ref sig .tc := ⟨.hbm, 452, rfl⟩
abbrev main_v369_5 : Ref sig .tc := ⟨.hbm, 453, rfl⟩
abbrev main_v369_6 : Ref sig .tc := ⟨.hbm, 454, rfl⟩
abbrev main_v369_7 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_46 : BitVec 32 := 0#32
  let c16_i32 : BitVec 32 := 16#32
  let v69 : BitVec 32 := Scalar.addi c0_i32_46 c16_i32
  let c1_i32 : BitVec 32 := 1#32
  ⟨c0_i32_46, v69, c1_i32⟩
def k0_mult1 (k0_t1 : Fin k0_t1_loop.trips) : BitVec 32 :=
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  v75
def k0_mult2 (k0_t1 : Fin k0_t1_loop.trips) : BitVec 32 :=
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32_50 : BitVec 32 := 128#32
  let v77 : BitVec 32 := Scalar.muli v74 c128_i32_50
  let c16_i32_51 : BitVec 32 := 16#32
  let v78 : BitVec 32 := Scalar.subi v77 c16_i32_51
  let c0_i32_52 : BitVec 32 := 0#32
  let v79 : BitVec 32 := Scalar.maxsi v78 c0_i32_52
  v79
def k0_off1 (k0_t1 : Fin k0_t1_loop.trips) : Fin 4 → Nat :=
  let c0_53 : Index := 0#32
  let c0_54 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v81 : Index := Scalar.indexCast v76
  let c0_55 : Index := 0#32
  ![0, 0, v81.toNat, 0]
def k0_off2 (k0_t1 : Fin k0_t1_loop.trips) : Fin 4 → Nat :=
  let c2_56 : Index := 2#32
  let c0_57 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v85 : Index := Scalar.indexCast v76
  let c0_58 : Index := 0#32
  ![2, 0, v85.toNat, 0]
def k0_off3 (k0_t1 : Fin k0_t1_loop.trips) : Fin 4 → Nat :=
  let c1_59 : Index := 1#32
  let c0_60 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v89 : Index := Scalar.indexCast v76
  let c0_61 : Index := 0#32
  ![1, 0, v89.toNat, 0]
def k0_off4 (k0_t1 : Fin k0_t1_loop.trips) : Fin 4 → Nat :=
  let c3_62 : Index := 3#32
  let c0_63 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v93 : Index := Scalar.indexCast v76
  let c0_64 : Index := 0#32
  ![3, 0, v93.toNat, 0]
def k0_off5 (k0_t1 : Fin k0_t1_loop.trips) : Fin 4 → Nat :=
  let c2_66 : Index := 2#32
  let c0_67 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32_50 : BitVec 32 := 128#32
  let v77 : BitVec 32 := Scalar.muli v74 c128_i32_50
  let c16_i32_51 : BitVec 32 := 16#32
  let v78 : BitVec 32 := Scalar.subi v77 c16_i32_51
  let c0_i32_52 : BitVec 32 := 0#32
  let v79 : BitVec 32 := Scalar.maxsi v78 c0_i32_52
  let v80 : BitVec 32 := v79
  let v99 : Index := Scalar.indexCast v80
  let c0_68 : Index := 0#32
  ![2, 0, v99.toNat, 0]
def k0_off6 (k0_t1 : Fin k0_t1_loop.trips) : Fin 4 → Nat :=
  let c0_71 : Index := 0#32
  let c0_72 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32_50 : BitVec 32 := 128#32
  let v77 : BitVec 32 := Scalar.muli v74 c128_i32_50
  let c16_i32_51 : BitVec 32 := 16#32
  let v78 : BitVec 32 := Scalar.subi v77 c16_i32_51
  let c0_i32_52 : BitVec 32 := 0#32
  let v79 : BitVec 32 := Scalar.maxsi v78 c0_i32_52
  let v80 : BitVec 32 := v79
  let v106 : Index := Scalar.indexCast v80
  let c0_73 : Index := 0#32
  ![0, 0, v106.toNat, 0]
def k0_off7 (k0_t1 : Fin k0_t1_loop.trips) : Fin 4 → Nat :=
  let c5 : Index := 5#32
  let c0_79 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v137 : Index := Scalar.indexCast v76
  let c0_80 : Index := 0#32
  ![5, 0, v137.toNat, 0]
def k0_off8 (k0_t1 : Fin k0_t1_loop.trips) : Fin 4 → Nat :=
  let c4 : Index := 4#32
  let c0_87 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v160 : Index := Scalar.indexCast v76
  let c0_88 : Index := 0#32
  ![4, 0, v160.toNat, 0]
def k0_off9 (k0_t1 : Fin k0_t1_loop.trips) : Fin 4 → Nat :=
  let c6 : Index := 6#32
  let c0_89 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v164 : Index := Scalar.indexCast v76
  let c0_90 : Index := 0#32
  ![6, 0, v164.toNat, 0]
def k0_off10 (k0_t1 : Fin k0_t1_loop.trips) : Fin 4 → Nat :=
  let c7 : Index := 7#32
  let c0_94 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v178 : Index := Scalar.indexCast v76
  let c0_95 : Index := 0#32
  ![7, 0, v178.toNat, 0]
def k0_off11 (k0_t1 : Fin k0_t1_loop.trips) : Fin 4 → Nat :=
  let c7_97 : Index := 7#32
  let c0_98 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32_50 : BitVec 32 := 128#32
  let v77 : BitVec 32 := Scalar.muli v74 c128_i32_50
  let c16_i32_51 : BitVec 32 := 16#32
  let v78 : BitVec 32 := Scalar.subi v77 c16_i32_51
  let c0_i32_52 : BitVec 32 := 0#32
  let v79 : BitVec 32 := Scalar.maxsi v78 c0_i32_52
  let v80 : BitVec 32 := v79
  let v183 : Index := Scalar.indexCast v80
  let c0_99 : Index := 0#32
  ![7, 0, v183.toNat, 0]
def k0_off12 (k0_t1 : Fin k0_t1_loop.trips) : Fin 4 → Nat :=
  let c8 : Index := 8#32
  let c0_119 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v258 : Index := Scalar.indexCast v76
  let c0_120 : Index := 0#32
  ![8, 0, v258.toNat, 0]
def k0_off13 (k0_t1 : Fin k0_t1_loop.trips) : Fin 4 → Nat :=
  let c9 : Index := 9#32
  let c0_124 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v270 : Index := Scalar.indexCast v76
  let c0_125 : Index := 0#32
  ![9, 0, v270.toNat, 0]
def k0_off14 (k0_t1 : Fin k0_t1_loop.trips) : Fin 4 → Nat :=
  let c10 : Index := 10#32
  let c0_129 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v281 : Index := Scalar.indexCast v76
  let c0_130 : Index := 0#32
  ![10, 0, v281.toNat, 0]
def k0_off15 (k0_t1 : Fin k0_t1_loop.trips) : Fin 4 → Nat :=
  let c11 : Index := 11#32
  let c0_134 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v292 : Index := Scalar.indexCast v76
  let c0_135 : Index := 0#32
  ![11, 0, v292.toNat, 0]
def k0_off16 (k0_t1 : Fin k0_t1_loop.trips) : Fin 3 → Nat :=
  let c0_139 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32 : BitVec 32 := 128#32
  let v75 : BitVec 32 := Scalar.muli v74 c128_i32
  let v76 : BitVec 32 := v75
  let v303 : Index := Scalar.indexCast v76
  let c0_140 : Index := 0#32
  ![0, v303.toNat, 0]
def k0_off17 (k0_t1 : Fin k0_t1_loop.trips) : Fin 3 → Nat :=
  let c0_142 : Index := 0#32
  let c15_i32 : BitVec 32 := 15#32
  let c0_i32_46 : BitVec 32 := 0#32
  let c1_i32 : BitVec 32 := 1#32
  let arg23 : BitVec 32 := Scf.iv c0_i32_46 c1_i32 k0_t1
  let v74 : BitVec 32 := Scalar.subi c15_i32 arg23
  let c128_i32_50 : BitVec 32 := 128#32
  let v77 : BitVec 32 := Scalar.muli v74 c128_i32_50
  let c16_i32_51 : BitVec 32 := 16#32
  let v78 : BitVec 32 := Scalar.subi v77 c16_i32_51
  let c0_i32_52 : BitVec 32 := 0#32
  let v79 : BitVec 32 := Scalar.maxsi v78 c0_i32_52
  let v80 : BitVec 32 := v79
  let v307 : Index := Scalar.indexCast v80
  let c0_143 : Index := 0#32
  ![0, v307.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S12x1x2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S3x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S4x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference2Ideal.lean ====
abbrev S2x2048x12288 : Shape := ⟨3, ![2, 2048, 12288]⟩
abbrev S2x2048x1024 : Shape := ⟨3, ![2, 2048, 1024]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1x1x1024 : Shape := ⟨3, ![1, 1, 1024]⟩
abbrev S2x16x128x8x128 : Shape := ⟨5, ![2, 16, 128, 8, 128]⟩
abbrev S2x16x128x8 : Shape := ⟨4, ![2, 16, 128, 8]⟩
abbrev S2x16x128x8x1 : Shape := ⟨5, ![2, 16, 128, 8, 1]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩

abbrev nBuf : Space → Nat
  | .hbm => 292
  | .vmem => 0
  | .smem => 0
  | _ => 0

abbrev hbmTy0_0 (i : Nat) : BufTy := match i % 128 with
  | 0 => ⟨S2x2048x12288, .f32⟩
  | 1 => ⟨S2x2048x1024, .f32⟩
  | 2 => ⟨S3x1024, .f32⟩
  | 3 => ⟨S8x128x128, .f32⟩
  | 4 => ⟨S8x128, .f32⟩
  | 5 => ⟨S4x1024, .f32⟩
  | 6 => ⟨S1024, .f32⟩
  | 7 => ⟨S16x64x64, .f32⟩
  | 8 => ⟨S16x64, .f32⟩
  | 9 => ⟨S16x64x64, .f32⟩
  | 10 => ⟨S16x64, .f32⟩
  | 11 => ⟨S1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S_, .f32⟩
  | 27 => ⟨S2x2048x1024, .f32⟩
  | 28 => ⟨S2x2048x1024, .f32⟩
  | 29 => ⟨S_, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S_, .f32⟩
  | 39 => ⟨S2x2x1024, .f32⟩
  | 40 => ⟨S2x2050x1024, .f32⟩
  | 41 => ⟨S_, .f32⟩
  | 42 => ⟨S2x2x1024, .f32⟩
  | 43 => ⟨S1x1024, .f32⟩
  | 44 => ⟨S1024, .f32⟩
  | 45 => ⟨S2x2048x1024, .f32⟩
  | 46 => ⟨S1x1x1024, .f32⟩
  | 47 => ⟨S2x2048x1024, .f32⟩
  | 48 => ⟨S2x2048x1024, .f32⟩
  | 49 => ⟨S_, .f32⟩
  | 50 => ⟨S2x2048x1024, .f32⟩
  | 51 => ⟨S2x2048x1024, .f32⟩
  | 52 => ⟨S1x1024, .f32⟩
  | 53 => ⟨S1024, .f32⟩
  | 54 => ⟨S2x2048x1024, .f32⟩
  | 55 => ⟨S1x1x1024, .f32⟩
  | 56 => ⟨S2x2048x1024, .f32⟩
  | 57 => ⟨S2x2048x1024, .f32⟩
  | 58 => ⟨S2x2048x1024, .f32⟩
  | 59 => ⟨S1x1024, .f32⟩
  | 60 => ⟨S1024, .f32⟩
  | 61 => ⟨S2x2048x1024, .f32⟩
  | 62 => ⟨S1x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x1024, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S_, .f32⟩
  | 74 => ⟨S2x2048x1024, .f32⟩
  | 75 => ⟨S2x2048x1024, .f32⟩
  | 76 => ⟨S_, .f32⟩
  | 77 => ⟨S2x2048x1024, .f32⟩
  | 78 => ⟨S2x2048x1024, .f32⟩
  | 79 => ⟨S2x2048x1024, .f32⟩
  | 80 => ⟨S2x2048x1024, .f32⟩
  | 81 => ⟨S2x16x128x8x128, .f32⟩
  | 82 => ⟨S_, .f32⟩
  | 83 => ⟨S2x16x128x8, .f32⟩
  | 84 => ⟨S2x16x128x8x1, .f32⟩
  | 85 => ⟨S_, .f32⟩
  | 86 => ⟨S2x16x128x8x1, .f32⟩
  | 87 => ⟨S2x16x128x8x1, .f32⟩
  | 88 => ⟨S2x16x128x8x128, .f32⟩
  | 89 => ⟨S2x16x128x8x128, .f32⟩
  | 90 => ⟨S2x16x128x8x128, .f32⟩
  | 91 => ⟨S_, .f32⟩
  | 92 => ⟨S2x16x128x8x128, .f32⟩
  | 93 => ⟨S2x16x128x8x128, .f32⟩
  | 94 => ⟨S_, .f32⟩
  | 95 => ⟨S2x16x128x8, .f32⟩
  | 96 => ⟨S2x16x128x8x1, .f32⟩
  | 97 => ⟨S_, .f32⟩
  | 98 => ⟨S2x16x128x8x1, .f32⟩
  | 99 => ⟨S2x16x128x8x1, .f32⟩
  | 100 => ⟨S2x16x128x8x128, .f32⟩
  | 101 => ⟨S2x16x128x8x128, .f32⟩
  | 102 => ⟨S_, .f32⟩
  | 103 => ⟨S2x16x128x8x1, .f32⟩
  | 104 => ⟨S2x16x128x8x1, .f32⟩
  | 105 => ⟨S2x16x128x8x1, .f32⟩
  | 106 => ⟨S2x16x128x8x1, .f32⟩
  | 107 => ⟨S_, .f32⟩
  | 108 => ⟨S2x16x128x8x1, .f32⟩
  | 109 => ⟨S2x16x128x8x1, .f32⟩
  | 110 => ⟨S2x16x128x8x128, .f32⟩
  | 111 => ⟨S2x16x128x8x128, .f32⟩
  | 112 => ⟨S_, .i1⟩
  | 113 => ⟨S128x128, .i1⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .i1⟩
  | 121 => ⟨S128x128, .i1⟩
  | 122 => ⟨S128x128, .i1⟩
  | 123 => ⟨S1x128x128, .i1⟩
  | 124 => ⟨S_, .f32⟩
  | 125 => ⟨S8x128x128, .f32⟩
  | 126 => ⟨S8x128x128, .i1⟩
  | 127 => ⟨S8x128x128, .f32⟩
  | _ => ⟨S2x2048x12288, .f32⟩

abbrev hbmTy0_1 (i : Nat) : BufTy := match i % 128 with
  | 0 => ⟨S_, .f32⟩
  | 1 => ⟨S8x128x128, .f32⟩
  | 2 => ⟨S8x2x16x128x128, .f32⟩
  | 3 => ⟨S2x16x128x8x128, .f32⟩
  | 4 => ⟨S128x8, .f32⟩
  | 5 => ⟨S1x1x128x8x1, .f32⟩
  | 6 => ⟨S2x16x128x8x128, .f32⟩
  | 7 => ⟨S2x16x128x8x128, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S_, .f32⟩
  | 14 => ⟨S2x2048x1024, .f32⟩
  | 15 => ⟨S2x2048x1024, .f32⟩
  | 16 => ⟨S_, .f32⟩
  | 17 => ⟨S2x2048x1024, .f32⟩
  | 18 => ⟨S2x2048x1024, .f32⟩
  | 19 => ⟨S_, .f32⟩
  | 20 => ⟨S2x2048x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S_, .f32⟩
  | 27 => ⟨S2x2048x1024, .f32⟩
  | 28 => ⟨S2x2048x1024, .f32⟩
  | 29 => ⟨S_, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x16x128x8x128, .f32⟩
  | 51 => ⟨S_, .f32⟩
  | 52 => ⟨S128x8, .f32⟩
  | 53 => ⟨S1x1x128x8x1, .f32⟩
  | 54 => ⟨S_, .f32⟩
  | 55 => ⟨S128x8, .f32⟩
  | 56 => ⟨S8x128, .f32⟩
  | 57 => ⟨S8x2x16x128x128, .f32⟩
  | 58 => ⟨S8x128x128, .f32⟩
  | 59 => ⟨S8x2x16x128x128, .f32⟩
  | 60 => ⟨S2x16x128x8x128, .f32⟩
  | 61 => ⟨S_, .f32⟩
  | 62 => ⟨S8x128x128, .f32⟩
  | 63 => ⟨S8x128x128, .f32⟩
  | 64 => ⟨S2x16x128x8x128, .f32⟩
  | 65 => ⟨S_, .f32⟩
  | 66 => ⟨S2x16x128x8, .f32⟩
  | 67 => ⟨S2x16x128x8x1, .f32⟩
  | 68 => ⟨S2x16x128x8x128, .f32⟩
  | 69 => ⟨S2x16x128x8x128, .f32⟩
  | 70 => ⟨S2x16x128x8x1, .f32⟩
  | 71 => ⟨S2x16x128x8x128, .f32⟩
  | 72 => ⟨S_, .f32⟩
  | 73 => ⟨S2x16x128x8, .f32⟩
  | 74 => ⟨S2x16x128x8x1, .f32⟩
  | 75 => ⟨S_, .f32⟩
  | 76 => ⟨S2x16x128x8x1, .f32⟩
  | 77 => ⟨S2x16x128x8x1, .f32⟩
  | 78 => ⟨S_, .f32⟩
  | 79 => ⟨S2x16x128x8, .f32⟩
  | 80 => ⟨S2x16x128x8x128, .f32⟩
  | 81 => ⟨S2x16x128x8x128, .f32⟩
  | 82 => ⟨S2x16x128x8x128, .f32⟩
  | 83 => ⟨S_, .f32⟩
  | 84 => ⟨S2x16x128x8, .f32⟩
  | 85 => ⟨S2x16x128x8x1, .f32⟩
  | 86 => ⟨S2x16x128x8x128, .f32⟩
  | 87 => ⟨S2x16x128x8x1, .f32⟩
  | 88 => ⟨S_, .f32⟩
  | 89 => ⟨S2x16x128x8x1, .f32⟩
  | 90 => ⟨S2x16x128x8x1, .f32⟩
  | 91 => ⟨S_, .f32⟩
  | 92 => ⟨S2x16x128x8, .f32⟩
  | 93 => ⟨S2x16x128x8x128, .f32⟩
  | 94 => ⟨S2x16x128x8x128, .f32⟩
  | 95 => ⟨S2x2048x1024, .f32⟩
  | 96 => ⟨S2x2048x1024, .f32⟩
  | 97 => ⟨S2x2048x1024, .f32⟩
  | 98 => ⟨S2x2048x1024, .f32⟩
  | 99 => ⟨S2x2048x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S2x2048x1024, .f32⟩
  | 105 => ⟨S2x2048x1024, .f32⟩
  | 106 => ⟨S2x2048x1024, .f32⟩
  | 107 => ⟨S_, .f32⟩
  | 108 => ⟨S1024, .f32⟩
  | 109 => ⟨S1x1x1024, .f32⟩
  | 110 => ⟨S_, .f32⟩
  | 111 => ⟨S1024, .f32⟩
  | 112 => ⟨S_, .f32⟩
  | 113 => ⟨S2x2050x1024, .f32⟩
  | 114 => ⟨S1x1024, .f32⟩
  | 115 => ⟨S_, .f32⟩
  | 116 => ⟨S3x1024, .f32⟩
  | 117 => ⟨S2x2048x1024, .f32⟩
  | 118 => ⟨S2x2048x1024, .f32⟩
  | 119 => ⟨S2x2048x1024, .f32⟩
  | 120 => ⟨S_, .f32⟩
  | 121 => ⟨S1024, .f32⟩
  | 122 => ⟨S1x1x1024, .f32⟩
  | 123 => ⟨S_, .f32⟩
  | 124 => ⟨S1024, .f32⟩
  | 125 => ⟨S_, .f32⟩
  | 126 => ⟨S2x2050x1024, .f32⟩
  | 127 => ⟨S2x2050x1024, .f32⟩
  | _ => ⟨S2x2048x12288, .f32⟩

abbrev hbmTy0_2 (i : Nat) : BufTy := match i % 128 with
  | 0 => ⟨S1x1024, .f32⟩
  | 1 => ⟨S_, .f32⟩
  | 2 => ⟨S3x1024, .f32⟩
  | 3 => ⟨S3x1024, .f32⟩
  | 4 => ⟨S2x2048x1024, .f32⟩
  | 5 => ⟨S2x2048x1024, .f32⟩
  | 6 => ⟨S2x2048x1024, .f32⟩
  | 7 => ⟨S_, .f32⟩
  | 8 => ⟨S1024, .f32⟩
  | 9 => ⟨S1x1x1024, .f32⟩
  | 10 => ⟨S_, .f32⟩
  | 11 => ⟨S1024, .f32⟩
  | 12 => ⟨S_, .f32⟩
  | 13 => ⟨S2x2050x1024, .f32⟩
  | 14 => ⟨S2x2050x1024, .f32⟩
  | 15 => ⟨S1x1024, .f32⟩
  | 16 => ⟨S_, .f32⟩
  | 17 => ⟨S3x1024, .f32⟩
  | 18 => ⟨S3x1024, .f32⟩
  | 19 => ⟨S2x2x1024, .f32⟩
  | 20 => ⟨S2x2048x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x1024, .bf16⟩
  | 28 => ⟨S2x2048x1024, .bf16⟩
  | 29 => ⟨S2x2048x1024, .bf16⟩
  | 30 => ⟨S2x2048x1024, .bf16⟩
  | 31 => ⟨S2x2048x1024, .bf16⟩
  | 32 => ⟨S2x2048x1024, .bf16⟩
  | 33 => ⟨S2x2048x1024, .bf16⟩
  | 34 => ⟨S2x2048x1024, .bf16⟩
  | 35 => ⟨S2x2048x1024, .bf16⟩
  | _ => ⟨S2x2048x12288, .f32⟩

abbrev hbmTy (i : Nat) : BufTy := match i / 128 with
  | 0 => hbmTy0_0 i
  | 1 => hbmTy0_1 i
  | 2 => hbmTy0_2 i
  | _ => ⟨S2x2048x12288, .f32⟩

abbrev bufTy : (tb : Table) → Fin (tcTables nBuf tb) → BufTy
  | .hbm, ⟨i, _⟩ => hbmTy i
  | _, _ => ⟨S2x2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v12_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v12_1 : Ref sig .tc := ⟨.hbm, 35, rfl⟩
abbrev main_v12_0 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_v41_2 : Ref sig .tc := ⟨.hbm, 75, rfl⟩
abbrev main_call1_cst_1 : Ref sig .tc := ⟨.hbm, 76, rfl⟩
abbrev main_call1_v6 : Ref sig .tc := ⟨.hbm, 77, rfl⟩
abbrev main_call1_v7 : Ref sig .tc := ⟨.hbm, 78, rfl⟩
abbrev main_v41_1 : Ref sig .tc := ⟨.hbm, 79, rfl⟩
abbrev main_v41_0 : Ref sig .tc := ⟨.hbm, 80, rfl⟩
abbrev main_v42 : Ref sig .tc := ⟨.hbm, 81, rfl⟩
abbrev main_cst_2 : Ref sig .tc := ⟨.hbm, 82, rfl⟩
abbrev main_v43 : Ref sig .tc := ⟨.hbm, 83, rfl⟩
abbrev main_v44 : Ref sig .tc := ⟨.hbm, 84, rfl⟩
abbrev main_cst_3 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_4 : Ref sig .tc := ⟨.hbm, 91, rfl⟩
abbrev main_v50 : Ref sig .tc := ⟨.hbm, 92, rfl⟩
abbrev main_v51 : Ref sig .tc := ⟨.hbm, 93, rfl⟩
abbrev main_cst_5 : Ref sig .tc := ⟨.hbm, 94, rfl⟩
abbrev main_v52 : Ref sig .tc := ⟨.hbm, 95, rfl⟩
abbrev main_v53 : Ref sig .tc := ⟨.hbm, 96, rfl⟩
abbrev main_cst_6 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_7 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_8 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c : Ref sig .tc := ⟨.hbm, 112, rfl⟩
abbrev main_v66 : Ref sig .tc := ⟨.hbm, 113, rfl⟩
abbrev main_call2_v0 : Ref sig .tc := ⟨.hbm, 114, rfl⟩
abbrev main_call2_c : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_c_0 : Ref sig .tc := ⟨.hbm, 120, rfl⟩
abbrev main_call2_v5 : Ref sig .tc := ⟨.hbm, 121, rfl⟩
abbrev main_v67 : Ref sig .tc := ⟨.hbm, 122, rfl⟩
abbrev main_v68 : Ref sig .tc := ⟨.hbm, 123, rfl⟩
abbrev main_cst_9 : Ref sig .tc := ⟨.hbm, 124, rfl⟩
abbrev main_v69 : Ref sig .tc := ⟨.hbm, 125, rfl⟩
abbrev main_v70_1 : Ref sig .tc := ⟨.hbm, 126, rfl⟩
abbrev main_v70_0 : Ref sig .tc := ⟨.hbm, 127, rfl⟩
abbrev main_call3_cst : Ref sig .tc := ⟨.hbm, 128, rfl⟩
abbrev main_v70_2 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_10 : Ref sig .tc := ⟨.hbm, 141, rfl⟩
abbrev main_v82 : Ref sig .tc := ⟨.hbm, 142, rfl⟩
abbrev main_v83 : Ref sig .tc := ⟨.hbm, 143, rfl⟩
abbrev main_cst_11 : Ref sig .tc := ⟨.hbm, 144, rfl⟩
abbrev main_v84 : Ref sig .tc := ⟨.hbm, 145, rfl⟩
abbrev main_v85 : Ref sig .tc := ⟨.hbm, 146, rfl⟩
abbrev main_cst_12 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_13 : Ref sig .tc := ⟨.hbm, 154, rfl⟩
abbrev main_v92 : Ref sig .tc := ⟨.hbm, 155, rfl⟩
abbrev main_v93 : Ref sig .tc := ⟨.hbm, 156, rfl⟩
abbrev main_cst_14 : Ref sig .tc := ⟨.hbm, 157, rfl⟩
abbrev main_v94 : Ref sig .tc := ⟨.hbm, 158, rfl⟩
abbrev main_v95 : Ref sig .tc := ⟨.hbm, 159, rfl⟩
abbrev main_cst_15 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_16 : Ref sig .tc := ⟨.hbm, 179, rfl⟩
abbrev main_v114 : Ref sig .tc := ⟨.hbm, 180, rfl⟩
abbrev main_v115 : Ref sig .tc := ⟨.hbm, 181, rfl⟩
abbrev main_cst_17 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_call4_cst : Ref sig .tc := ⟨.hbm, 189, rfl⟩
abbrev main_call4_v0 : Ref sig .tc := ⟨.hbm, 190, rfl⟩
abbrev main_v122 : Ref sig .tc := ⟨.hbm, 191, rfl⟩
abbrev main_v123 : Ref sig .tc := ⟨.hbm, 192, rfl⟩
abbrev main_cst_18 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_19 : Ref sig .tc := ⟨.hbm, 200, rfl⟩
abbrev main_v130 : Ref sig .tc := ⟨.hbm, 201, rfl⟩
abbrev main_v131 : Ref sig .tc := ⟨.hbm, 202, rfl⟩
abbrev main_cst_20 : Ref sig .tc := ⟨.hbm, 203, rfl⟩
abbrev main_v132 : Ref sig .tc := ⟨.hbm, 204, rfl⟩
abbrev main_v133 : Ref sig .tc := ⟨.hbm, 205, rfl⟩
abbrev main_cst_21 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_22 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_23 : Ref sig .tc := ⟨.hbm, 216, rfl⟩
abbrev main_v142 : Ref sig .tc := ⟨.hbm, 217, rfl⟩
abbrev main_v143 : Ref sig .tc := ⟨.hbm, 218, rfl⟩
abbrev main_cst_24 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_25 : Ref sig .tc := ⟨.hbm, 235, rfl⟩
abbrev main_v156 : Ref sig .tc := ⟨.hbm, 236, rfl⟩
abbrev main_v157 : Ref sig .tc := ⟨.hbm, 237, rfl⟩
abbrev main_cst_26 : Ref sig .tc := ⟨.hbm, 238, rfl⟩
abbrev main_v158 : Ref sig .tc := ⟨.hbm, 239, rfl⟩
abbrev main_cst_27 : Ref sig .tc := ⟨.hbm, 240, rfl⟩
abbrev main_v159 : Ref sig .tc := ⟨.hbm, 241, rfl⟩
abbrev main_v160 : Ref sig .tc := ⟨.hbm, 242, rfl⟩
abbrev main_cst_28 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_29 : Ref sig .tc := ⟨.hbm, 248, rfl⟩
abbrev main_v165 : Ref sig .tc := ⟨.hbm, 249, rfl⟩
abbrev main_v166 : Ref sig .tc := ⟨.hbm, 250, rfl⟩
abbrev main_cst_30 : Ref sig .tc := ⟨.hbm, 251, rfl⟩
abbrev main_v167 : Ref sig .tc := ⟨.hbm, 252, rfl⟩
abbrev main_cst_31 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_cst_32 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_33 : Ref sig .tc := ⟨.hbm, 263, rfl⟩
abbrev main_v176 : Ref sig .tc := ⟨.hbm, 264, rfl⟩
abbrev main_v177 : Ref sig .tc := ⟨.hbm, 265, rfl⟩
abbrev main_cst_34 : Ref sig .tc := ⟨.hbm, 266, rfl⟩
abbrev main_v178 : Ref sig .tc := ⟨.hbm, 267, rfl⟩
abbrev main_cst_35 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_cst_36 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_call6_v0 : Ref sig .tc := ⟨.hbm, 279, rfl⟩
abbrev main_call6_v1 : Ref sig .tc := ⟨.hbm, 280, rfl⟩
abbrev main_call6_v2 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S1x1024, .f32⟩
  | .hbm, ⟨4, _⟩ => ⟨S1x1024, .f32⟩
  | .hbm, ⟨5, _⟩ => ⟨S2x2048x1024, .f32⟩
  | .hbm, ⟨6, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference3Ideal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S1x1024, .f32⟩
  | .hbm, ⟨72, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024x1024 : Shape := ⟨2, ![1024, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x1024, .f32⟩
  | .hbm, ⟨4, _⟩ => ⟨S2x2048x1024, .bf16⟩
  | .hbm, ⟨5, _⟩ => ⟨S1024x1024, .bf16⟩
  | .hbm, ⟨6, _⟩ => ⟨S2x1x1024, .f32⟩
  | .hbm, ⟨7, _⟩ => ⟨S2x2048x1024, .bf16⟩
  | .hbm, ⟨8, _⟩ => ⟨S1024x1024, .f32⟩
  | .hbm, ⟨9, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S2x2048x1024 : Shape := ⟨3, ![2, 2048, 1024]⟩
abbrev S1024x1024 : Shape := ⟨2, ![1024, 1024]⟩
abbrev S2x1024 : Shape := ⟨2, ![2, 1024]⟩
abbrev S2x1x1024 : Shape := ⟨3, ![2, 1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x1024, .f32⟩
  | .hbm, ⟨4, _⟩ => ⟨S2x1x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x1024, .f32⟩
  | .hbm, ⟨13, _⟩ => ⟨S2x1x1024, .f32⟩
  | .hbm, ⟨14, _⟩ => ⟨S1024x1024, .f32⟩
  | .hbm, ⟨15, _⟩ => ⟨S1024x1024, .f32⟩
  | .hbm, ⟨16, _⟩ => ⟨S2x2048x1024, .f32⟩
  | .hbm, ⟨17, _⟩ => ⟨S_, .f32⟩
  | .hbm, ⟨18, _⟩ => ⟨S2x1024, .f32⟩
  | .hbm, ⟨19, _⟩ => ⟨S2x2048x1024, .bf16⟩
  | .hbm, ⟨20, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16x1024 : Shape := ⟨2, ![16, 1024]⟩
abbrev S4x1024x3072 : Shape := ⟨3, ![4, 1024, 3072]⟩
abbrev S4x3072 : Shape := ⟨2, ![4, 3072]⟩
abbrev S4x16x3072 : Shape := ⟨3, ![4, 16, 3072]⟩
abbrev S4x16x384 : Shape := ⟨3, ![4, 16, 384]⟩
abbrev S4x1024x384 : Shape := ⟨3, ![4, 1024, 384]⟩
abbrev S4x1x3072 : Shape := ⟨3, ![4, 1, 3072]⟩
abbrev S1x16x3072 : Shape := ⟨3, ![1, 16, 3072]⟩
abbrev S1x16x384 : Shape := ⟨3, ![1, 16, 384]⟩
abbrev S1x1024x384 : Shape := ⟨3, ![1, 1024, 384]⟩
abbrev S1x1x3072 : Shape := ⟨3, ![1, 1, 3072]⟩
abbrev S16x384 : Shape := ⟨2, ![16, 384]⟩
abbrev S1024x384 : Shape := ⟨2, ![1024, 384]⟩
abbrev S16x3072 : Shape := ⟨2, ![16, 3072]⟩
abbrev S3072 : Shape := ⟨1, ![3072]⟩
abbrev S1x3072 : Shape := ⟨2, ![1, 3072]⟩

abbrev nBuf : Space → Nat
  | .hbm => 7
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x16x3072, .f32⟩
  | .hbm, ⟨4, _⟩ => ⟨S4x16x384, .f32⟩
  | .hbm, ⟨5, _⟩ => ⟨S4x1024x384, .f32⟩
  | .hbm, ⟨6, _⟩ => ⟨S4x1x3072, .f32⟩
  | .local _ .vmem, ⟨0, _⟩ => ⟨S16x1024, .f32⟩
  | .local _ .vmem, ⟨1, _⟩ => ⟨S1x16x3072, .f32⟩
  | .local _ .vmem, ⟨2, _⟩ => ⟨S1x16x3072, .f32⟩
  | .local _ .vmem, ⟨3, _⟩ => ⟨S1x16x384, .f32⟩
  | .local _ .vmem, ⟨4, _⟩ => ⟨S1x16x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1x3072, .f32⟩
  | .local _ .vmem, ⟨8, _⟩ => ⟨S1x1x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16x1024 : Shape := ⟨2, ![16, 1024]⟩
abbrev S4x1024x3072 : Shape := ⟨3, ![4, 1024, 3072]⟩
abbrev S4x3072 : Shape := ⟨2, ![4, 3072]⟩
abbrev S4x16x3072 : Shape := ⟨3, ![4, 16, 3072]⟩
abbrev S4x16x384 : Shape := ⟨3, ![4, 16, 384]⟩
abbrev S_ : Shape := ⟨0, ![]⟩
abbrev S4x1024x384 : Shape := ⟨3, ![4, 1024, 384]⟩
abbrev S4x384 : Shape := ⟨2, ![4, 384]⟩
abbrev S16x4x384 : Shape := ⟨3, ![16, 4, 384]⟩
abbrev S4x1x384 : Shape := ⟨3, ![4, 1, 384]⟩
abbrev S4x384x1024 : Shape := ⟨3, ![4, 384, 1024]⟩
abbrev S16x4x3072 : Shape := ⟨3, ![16, 4, 3072]⟩
abbrev S4x1x3072 : Shape := ⟨3, ![4, 1, 3072]⟩
abbrev S4x3072x1024 : Shape := ⟨3, ![4, 3072, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x16x3072, .f32⟩
  | .hbm, ⟨4, _⟩ => ⟨S4x16x384, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S4x1024x384, .f32⟩
  | .hbm, ⟨15, _⟩ => ⟨S4x384, .f32⟩
  | .hbm, ⟨16, _⟩ => ⟨S16x4x384, .f32⟩
  | .hbm, ⟨17, _⟩ => ⟨S4x1x384, .f32⟩
  | .hbm, ⟨18, _⟩ => ⟨S4x16x384, .f32⟩
  | .hbm, ⟨19, _⟩ => ⟨S4x16x384, .f32⟩
  | .hbm, ⟨20, _⟩ => ⟨S4x16x384, .f32⟩
  | .hbm, ⟨21, _⟩ => ⟨S4x16x384, .f32⟩
  | .hbm, ⟨22, _⟩ => ⟨S_, .f32⟩
  | .hbm, ⟨23, _⟩ => ⟨S4x384, .f32⟩
  | .hbm, ⟨24, _⟩ => ⟨S4x1x384, .f32⟩
  | .hbm, ⟨25, _⟩ => ⟨S_, .f32⟩
  | .hbm, ⟨26, _⟩ => ⟨S4x384, .f32⟩
  | .hbm, ⟨27, _⟩ => ⟨S4x384x1024, .f32⟩
  | .hbm, ⟨28, _⟩ => ⟨S4x1024x384, .f32⟩
  | .hbm, ⟨29, _⟩ => ⟨S16x4x3072, .f32⟩
  | .hbm, ⟨30, _⟩ => ⟨S4x1x3072, .f32⟩
  | .hbm, ⟨31, _⟩ => ⟨S4x16x3072, .f32⟩
  | .hbm, ⟨32, _⟩ => ⟨S4x16x3072, .f32⟩
  | .hbm, ⟨33, _⟩ => ⟨S4x16x3072, .f32⟩
  | .hbm, ⟨34, _⟩ => ⟨S4x16x3072, .f32⟩
  | .hbm, ⟨35, _⟩ => ⟨S_, .f32⟩
  | .hbm, ⟨36, _⟩ => ⟨S4x3072, .f32⟩
  | .hbm, ⟨37, _⟩ => ⟨S4x1x3072, .f32⟩
  | .hbm, ⟨38, _⟩ => ⟨S_, .f32⟩
  | .hbm, ⟨39, _⟩ => ⟨S4x3072, .f32⟩
  | .hbm, ⟨40, _⟩ => ⟨S4x3072x1024, .f32⟩
  | .hbm, ⟨41, _⟩ => ⟨S4x1024x3072, .f32⟩
  | .hbm, ⟨42, _⟩ => ⟨S4x1x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel6.lean ====
abbrev S2x2048x1024 : Shape := ⟨3, ![2, 2048, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x2048x1024 : Shape := ⟨3, ![2, 2048, 1024]⟩
abbrev S1024 : Shape := ⟨1, ![1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel7.lean ====
abbrev S2x2048x1024 : Shape := ⟨3, ![2, 2048, 1024]⟩
abbrev S1024x1024 : Shape := ⟨2, ![1024, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x1024, .f32⟩
  | .hbm, ⟨4, _⟩ => ⟨S2x2048x1024, .bf16⟩
  | .hbm, ⟨5, _⟩ => ⟨S1024x1024, .bf16⟩
  | .hbm, ⟨6, _⟩ => ⟨S2x1x1024, .f32⟩
  | .hbm, ⟨7, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S2x2048x1024 : Shape := ⟨3, ![2, 2048, 1024]⟩
abbrev S1024x1024 : Shape := ⟨2, ![1024, 1024]⟩
abbrev S2x1024 : Shape := ⟨2, ![2, 1024]⟩
abbrev S2x1x1024 : Shape := ⟨3, ![2, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x1024, .f32⟩
  | .hbm, ⟨4, _⟩ => ⟨S2x1x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S16x1024 : Shape := ⟨2, ![16, 1024]⟩
abbrev S4x1024x384 : Shape := ⟨3, ![4, 1024, 384]⟩
abbrev S4x384 : Shape := ⟨2, ![4, 384]⟩
abbrev S4x1x384 : Shape := ⟨3, ![4, 1, 384]⟩
abbrev S4x16x384 : Shape := ⟨3, ![4, 16, 384]⟩
abbrev S1x1024x384 : Shape := ⟨3, ![1, 1024, 384]⟩
abbrev S1x1x384 : Shape := ⟨3, ![1, 1, 384]⟩
abbrev S1x16x384 : Shape := ⟨3, ![1, 16, 384]⟩
abbrev S1024x384 : Shape := ⟨2, ![1024, 384]⟩
abbrev S16x384 : Shape := ⟨2, ![16, 384]⟩
abbrev S1x384 : Shape := ⟨2, ![1, 384]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x384, .f32⟩
  | .hbm, ⟨2, _⟩ => ⟨S4x384, .f32⟩
  | .hbm, ⟨3, _⟩ => ⟨S4x1x384, .f32⟩
  | .hbm, ⟨4, _⟩ => ⟨S4x16x384, .f32⟩
  | .local _ .vmem, ⟨0, _⟩ => ⟨S16x1024, .f32⟩
  | .local _ .vmem, ⟨1, _⟩ => ⟨S1x1024x384, .f32⟩
  | .local _ .vmem, ⟨2, _⟩ => ⟨S1x1024x384, .f32⟩
  | .local _ .vmem, ⟨3, _⟩ => ⟨S1x1x384, .f32⟩
  | .local _ .vmem, ⟨4, _⟩ => ⟨S1x1x384, .f32⟩
  | .local _ .vmem, ⟨5, _⟩ => ⟨S1x16x384, .f32⟩
  | .local _ .vmem, ⟨6, _⟩ => ⟨S1x16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16x1024 : Shape := ⟨2, ![16, 1024]⟩
abbrev S4x1024x384 : Shape := ⟨3, ![4, 1024, 384]⟩
abbrev S4x384 : Shape := ⟨2, ![4, 384]⟩
abbrev S_ : Shape := ⟨0, ![]⟩
abbrev S16x4x384 : Shape := ⟨3, ![16, 4, 384]⟩
abbrev S4x1x384 : Shape := ⟨3, ![4, 1, 384]⟩
abbrev S4x16x384 : Shape := ⟨3, ![4, 16, 384]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x384, .f32⟩
  | .hbm, ⟨2, _⟩ => ⟨S4x384, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x384, .f32⟩
  | .hbm, ⟨13, _⟩ => ⟨S4x1x384, .f32⟩
  | .hbm, ⟨14, _⟩ => ⟨S4x16x384, .f32⟩
  | .hbm, ⟨15, _⟩ => ⟨S4x16x384, .f32⟩
  | .hbm, ⟨16, _⟩ => ⟨S4x16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S2x2048x12288 : Shape := ⟨3, ![2, 2048, 12288]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S8x128x1 : Shape := ⟨3, ![8, 128, 1]⟩
abbrev S1x1024 : Shape := ⟨2, ![1, 1024]⟩
abbrev S_ : Shape := ⟨0, ![]⟩
abbrev S8x64x64 : Shape := ⟨3, ![8, 64, 64]⟩
abbrev S8x2x64x64 : Shape := ⟨4, ![8, 2, 64, 64]⟩
abbrev S8x1x64x64 : Shape := ⟨4, ![8, 1, 64, 64]⟩
abbrev S8x64x128 : Shape := ⟨3, ![8, 64, 128]⟩
abbrev S2x2048x12x1024 : Shape := ⟨4, ![2, 2048, 12, 1024]⟩
abbrev S12x2x2048x1024 : Shape := ⟨4, ![12, 2, 2048, 1024]⟩
abbrev S2x2048x1024 : Shape := ⟨3, ![2, 2048, 1024]⟩
abbrev S12x1x2048x128 : Shape := ⟨4, ![12, 1, 2048, 128]⟩
abbrev S3x128 : Shape := ⟨2, ![3, 128]⟩
abbrev S1x128x128 : Shape := ⟨3, ![1, 128, 128]⟩
abbrev S4x128 : Shape := ⟨2, ![4, 128]⟩
abbrev S1x128 : Shape := ⟨2, ![1, 128]⟩
abbrev S1x2048x128 : Shape := ⟨3, ![1, 2048, 128]⟩
abbrev S128x128 : Shape := ⟨2, ![128, 128]⟩
abbrev S16x128 : Shape := ⟨2, ![16, 128]⟩
abbrev S1x1x128x128 : Shape := ⟨4, ![1, 1, 128, 128]⟩
abbrev S1x1x16x128 : Shape := ⟨4, ![1, 1, 16, 128]⟩
abbrev S144x128 : Shape := ⟨2, ![144, 128]⟩
abbrev S128 : Shape := ⟨1, ![128]⟩
abbrev S128x1 : Shape := ⟨2, ![128, 1]⟩
abbrev S16x8x128 : Shape := ⟨3, ![16, 8, 128]⟩
abbrev S1x8x128 : Shape := ⟨3, ![1, 8, 128]⟩

abbrev nBuf : Space → Nat
  | .hbm => 44
  | .vmem => 26
  | .smem => 0
  | _ => 0

abbrev bufTy : (tb : Table) → Fin (tcTables nBuf tb) → BufTy
  | .hbm, ⟨0, _⟩ => ⟨S2x2048x12288, .f32⟩
  | .hbm, ⟨1, _⟩ => ⟨S3x1024, .f32⟩
  | .hbm, ⟨2, _⟩ => ⟨S8x128x128, .f32⟩
  | .hbm, ⟨3, _⟩ => ⟨S8x128, .f32⟩
  | .hbm, ⟨4, _⟩ => ⟨S4x1024, .f32⟩
  | .hbm, ⟨5, _⟩ => ⟨S1024, .f32⟩
  | .hbm, ⟨6, _⟩ => ⟨S16x64x64, .f32⟩
  | .hbm, ⟨7, _⟩ => ⟨S16x64, .f32⟩
  | .hbm, ⟨8, _⟩ => ⟨S16x64x64, .f32⟩
  | .hbm, ⟨9, _⟩ => ⟨S16x64, .f32⟩
  | .hbm, ⟨10, _⟩ => ⟨S1024, .f32⟩
  | .hbm, ⟨11, _⟩ => ⟨S8x128x1, .f32⟩
  | .hbm, ⟨12, _⟩ => ⟨S8x128x128, .f32⟩
  | .hbm, ⟨13, _⟩ => ⟨S1x1024, .f32⟩
  | .hbm, ⟨14, _⟩ => ⟨S_, .f32⟩
  | .hbm, ⟨15, _⟩ => ⟨S8x64x64, .f32⟩
  | .hbm, ⟨16, _⟩ => ⟨S8x2x64x64, .f32⟩
  | .hbm, ⟨17, _⟩ => ⟨S8x1x64x64, .f32⟩
  | .hbm, ⟨18, _⟩ => ⟨S8x64x64, .f32⟩
  | .hbm, ⟨19, _⟩ => ⟨S8x64x128, .f32⟩
  | .hbm, ⟨20, _⟩ => ⟨S8x1x64x64, .f32⟩
  | .hbm, ⟨21, _⟩ => ⟨S8x64x64, .f32⟩
  | .hbm, ⟨22, _⟩ => ⟨S8x64x128, .f32⟩
  | .hbm, ⟨23, _⟩ => ⟨S8x128x128, .f32⟩
  | .hbm, ⟨24, _⟩ => ⟨S8x128x128, .bf16⟩
  | .hbm, ⟨25, _⟩ => ⟨S_, .f32⟩
  | .hbm, ⟨26, _⟩ => ⟨S8x64x64, .f32⟩
  | .hbm, ⟨27, _⟩ => ⟨S8x2x64x64, .f32⟩
  | .hbm, ⟨28, _⟩ => ⟨S8x1x64x64, .f32⟩
  | .hbm, ⟨29, _⟩ => ⟨S8x64x64, .f32⟩
  | .hbm, ⟨30, _⟩ => ⟨S8x64x128, .f32⟩
  | .hbm, ⟨31, _⟩ => ⟨S8x1x64x64, .f32⟩
  | .hbm, ⟨32, _⟩ => ⟨S8x64x64, .f32⟩
  | .hbm, ⟨33, _⟩ => ⟨S8x64x128, .f32⟩
  | .hbm, ⟨34, _⟩ => ⟨S8x128x128, .f32⟩
  | .hbm, ⟨35, _⟩ => ⟨S8x128x128, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S2x2048x12x1024, .f32⟩
  | .hbm, ⟨40, _⟩ => ⟨S12x2x2048x1024, .f32⟩
  | .hbm, ⟨41, _⟩ => ⟨S12x2x2048x1024, .bf16⟩
  | .hbm, ⟨42, _⟩ => ⟨S2x2048x1024, .bf16⟩
  | .hbm, ⟨43, _⟩ => ⟨S2x2048x1024, .f32⟩
  | .local _ .vmem, ⟨0, _⟩ => ⟨S12x1x2048x128, .bf16⟩
  | .local _ .vmem, ⟨1, _⟩ => ⟨S12x1x2048x128, .bf16⟩
  | .local _ .vmem, ⟨2, _⟩ => ⟨S3x128, .f32⟩
  | .local _ .vmem, ⟨3, _⟩ => ⟨S3x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x2048x128, .bf16⟩
  | .local _ .vmem, ⟨23, _⟩ => ⟨S1x2048x128, .bf16⟩
  | .local _ .vmem, ⟨24, _⟩ => ⟨S1x2048x128, .f32⟩
  | .local _ .vmem, ⟨25, _⟩ => ⟨S1x2048x128, .f32⟩
  | _, _ => ⟨S2x2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v55 : BitVec 32 := Scalar.addi c0_i32 c16_i32
  let c1_i32 : BitVec 32 := 1#32
  ⟨c0_i32, v55, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  v57
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_41 : BitVec 32 := 128#32
  let v59 : BitVec 32 := Scalar.muli arg15 c128_i32_41
  let c16_i32_42 : BitVec 32 := 16#32
  let v60 : BitVec 32 := Scalar.subi v59 c16_i32_42
  let c0_i32_43 : BitVec 32 := 0#32
  let v61 : BitVec 32 := Scalar.maxsi v60 c0_i32_43
  v61
def k0_off1 (k0_t1 : Fin k0_t1_loop.trips) : Fin 4 → Nat :=
  let c0_44 : Index := 0#32
  let c0_45 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v63 : Index := Scalar.indexCast v58
  let c0_46 : Index := 0#32
  ![0, 0, v63.toNat, 0]
def k0_off2 (k0_t1 : Fin k0_t1_loop.trips) : Fin 4 → Nat :=
  let c2_47 : Index := 2#32
  let c0_48 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v67 : Index := Scalar.indexCast v58
  let c0_49 : Index := 0#32
  ![2, 0, v67.toNat, 0]
def k0_off3 (k0_t1 : Fin k0_t1_loop.trips) : Fin 4 → Nat :=
  let c1_50 : Index := 1#32
  let c0_51 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v71 : Index := Scalar.indexCast v58
  let c0_52 : Index := 0#32
  ![1, 0, v71.toNat, 0]
def k0_off4 (k0_t1 : Fin k0_t1_loop.trips) : Fin 4 → Nat :=
  let c3_53 : Index := 3#32
  let c0_54 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v75 : Index := Scalar.indexCast v58
  let c0_55 : Index := 0#32
  ![3, 0, v75.toNat, 0]
def k0_off5 (k0_t1 : Fin k0_t1_loop.trips) : Fin 4 → Nat :=
  let c2_57 : Index := 2#32
  let c0_58 : Index := 0#32
  let c0_i32 : BitVec 32 := 0#32
  let c1_i32 : BitVec 32 := 1#32
  let arg15 : BitVec 32 := Scf.iv c0_i32 c1_i32 k0_t1
  let c128_i32_41 : BitVec 32 := 128#32
  let v59 : BitVec 32 := Scalar.muli arg15 c128_i32_41
  let c16_i32_42 : BitVec 32 := 16#32
  let v60 : BitVec 32 := Scalar.subi v59 c16_i32_42
  let c0_i32_43 : BitVec 32 := 0#32
  let v61 : BitVec 32 := Scalar.maxsi v60 c0_i32_43
  let v62 : BitVec 32 := v61
  let v81 : Index := Scalar.indexCast v62
  let c0_59 : Index := 0#32
  ![2, 0, v81.toNat, 0]
def k0_off6 (k0_t1 : Fin k0_t1_loop.trips) : Fin 4 → Nat :=
  let c0_62 : Index := 0#32
  let c0_63 : Index := 0#32
  let c0_i32 : BitVec 32 := 0#32
  let c1_i32 : BitVec 32 := 1#32
  let arg15 : BitVec 32 := Scf.iv c0_i32 c1_i32 k0_t1
  let c128_i32_41 : BitVec 32 := 128#32
  let v59 : BitVec 32 := Scalar.muli arg15 c128_i32_41
  let c16_i32_42 : BitVec 32 := 16#32
  let v60 : BitVec 32 := Scalar.subi v59 c16_i32_42
  let c0_i32_43 : BitVec 32 := 0#32
  let v61 : BitVec 32 := Scalar.maxsi v60 c0_i32_43
  let v62 : BitVec 32 := v61
  let v88 : Index := Scalar.indexCast v62
  let c0_64 : Index := 0#32
  ![0, 0, v88.toNat, 0]
def k0_off7 (k0_t1 : Fin k0_t1_loop.trips) : Fin 4 → Nat :=
  let c5 : Index := 5#32
  let c0_70 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v119 : Index := Scalar.indexCast v58
  let c0_71 : Index := 0#32
  ![5, 0, v119.toNat, 0]
def k0_off8 (k0_t1 : Fin k0_t1_loop.trips) : Fin 4 → Nat :=
  let c4 : Index := 4#32
  let c0_78 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v142 : Index := Scalar.indexCast v58
  let c0_79 : Index := 0#32
  ![4, 0, v142.toNat, 0]
def k0_off9 (k0_t1 : Fin k0_t1_loop.trips) : Fin 4 → Nat :=
  let c6 : Index := 6#32
  let c0_80 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v146 : Index := Scalar.indexCast v58
  let c0_81 : Index := 0#32
  ![6, 0, v146.toNat, 0]
def k0_off10 (k0_t1 : Fin k0_t1_loop.trips) : Fin 4 → Nat :=
  let c7 : Index := 7#32
  let c0_85 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v160 : Index := Scalar.indexCast v58
  let c0_86 : Index := 0#32
  ![7, 0, v160.toNat, 0]
def k0_off11 (k0_t1 : Fin k0_t1_loop.trips) : Fin 4 → Nat :=
  let c7_88 : Index := 7#32
  let c0_89 : Index := 0#32
  let c0_i32 : BitVec 32 := 0#32
  let c1_i32 : BitVec 32 := 1#32
  let arg15 : BitVec 32 := Scf.iv c0_i32 c1_i32 k0_t1
  let c128_i32_41 : BitVec 32 := 128#32
  let v59 : BitVec 32 := Scalar.muli arg15 c128_i32_41
  let c16_i32_42 : BitVec 32 := 16#32
  let v60 : BitVec 32 := Scalar.subi v59 c16_i32_42
  let c0_i32_43 : BitVec 32 := 0#32
  let v61 : BitVec 32 := Scalar.maxsi v60 c0_i32_43
  let v62 : BitVec 32 := v61
  let v165 : Index := Scalar.indexCast v62
  let c0_90 : Index := 0#32
  ![7, 0, v165.toNat, 0]
def k0_off12 (k0_t1 : Fin k0_t1_loop.trips) : Fin 4 → Nat :=
  let c8 : Index := 8#32
  let c0_110 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v241 : Index := Scalar.indexCast v58
  let c0_111 : Index := 0#32
  ![8, 0, v241.toNat, 0]
def k0_off13 (k0_t1 : Fin k0_t1_loop.trips) : Fin 4 → Nat :=
  let c9 : Index := 9#32
  let c0_115 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v253 : Index := Scalar.indexCast v58
  let c0_116 : Index := 0#32
  ![9, 0, v253.toNat, 0]
def k0_off14 (k0_t1 : Fin k0_t1_loop.trips) : Fin 4 → Nat :=
  let c10 : Index := 10#32
  let c0_120 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v264 : Index := Scalar.indexCast v58
  let c0_121 : Index := 0#32
  ![10, 0, v264.toNat, 0]
def k0_off15 (k0_t1 : Fin k0_t1_loop.trips) : Fin 4 → Nat :=
  let c11 : Index := 11#32
  let c0_125 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v275 : Index := Scalar.indexCast v58
  let c0_126 : Index := 0#32
  ![11, 0, v275.toNat, 0]
def k0_off16 (k0_t1 : Fin k0_t1_loop.trips) : Fin 3 → Nat :=
  let c0_147 : Index := 0#32
  let c0_i32 : BitVec 32 := 0#32
  let c1_i32 : BitVec 32 := 1#32
  let arg15 : BitVec 32 := Scf.iv c0_i32 c1_i32 k0_t1
  let c128_i32 : BitVec 32 := 128#32
  let v57 : BitVec 32 := Scalar.muli arg15 c128_i32
  let v58 : BitVec 32 := v57
  let v464 : Index := Scalar.indexCast v58
  let c0_148 : Index := 0#32
  ![0, v464.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S12x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference9Ideal.lean ====
abbrev S2x2048x12288 : Shape := ⟨3, ![2, 2048, 12288]⟩
abbrev S3x1024 : Shape := ⟨2, ![3, 1024]⟩
abbrev S8x128x128 : Shape := ⟨3, ![8, 128, 128]⟩
abbrev S8x128 : Shape := ⟨2, ![8, 128]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S2x2048x1024 : Shape := ⟨3, ![2, 2048, 1024]⟩
abbrev S_ : Shape := ⟨0, ![]⟩
abbrev S2x3x1024 : Shape := ⟨3, ![2, 3, 1024]⟩
abbrev S2x2051x1024 : Shape := ⟨3, ![2, 2051, 1024]⟩
abbrev S1x1024 : Shape := ⟨2, ![1, 1024]⟩
abbrev S1x1x1024 : Shape := ⟨3, ![1, 1, 1024]⟩
abbrev S2x2048x16x64 : Shape := ⟨4, ![2, 2048, 16, 64]⟩
abbrev S16x64x2x2048 : Shape := ⟨4, ![16, 64, 2, 2048]⟩
abbrev S1x1x16x64 : Shape := ⟨4, ![1, 1, 16, 64]⟩
abbrev S2x1024x1024 : Shape := ⟨3, ![2, 1024, 1024]⟩
abbrev S2x512x1024 : Shape := ⟨3, ![2, 512, 1024]⟩
abbrev S2x256x1024 : Shape := ⟨3, ![2, 256, 1024]⟩
abbrev S2x128x1024 : Shape := ⟨3, ![2, 128, 1024]⟩
abbrev S2x64x1024 : Shape := ⟨3, ![2, 64, 1024]⟩
abbrev S2x32x1024 : Shape := ⟨3, ![2, 32, 1024]⟩
abbrev S2x16x1024 : Shape := ⟨3, ![2, 16, 1024]⟩
abbrev S2x8x1024 : Shape := ⟨3, ![2, 8, 1024]⟩
abbrev S2x4x1024 : Shape := ⟨3, ![2, 4, 1024]⟩
abbrev S2x2x1024 : Shape := ⟨3, ![2, 2, 1024]⟩
abbrev S2x1x1024 : Shape := ⟨3, ![2, 1, 1024]⟩
abbrev S2x0x1024 : Shape := ⟨3, ![2, 0, 1024]⟩
abbrev S2x7x1024 : Shape := ⟨3, ![2, 7, 1024]⟩
abbrev S2x15x1024 : Shape := ⟨3, ![2, 15, 1024]⟩
abbrev S2x31x1024 : Shape := ⟨3, ![2, 31, 1024]⟩
abbrev S2x63x1024 : Shape := ⟨3, ![2, 63, 1024]⟩
abbrev S2x127x1024 : Shape := ⟨3, ![2, 127, 1024]⟩
abbrev S2x255x1024 : Shape := ⟨3, ![2, 255, 1024]⟩
abbrev S2x511x1024 : Shape := ⟨3, ![2, 511, 1024]⟩
abbrev S2x1023x1024 : Shape := ⟨3, ![2, 1023, 1024]⟩

abbrev nBuf : Space → Nat
  | .hbm => 426
  | .vmem => 0
  | .smem => 0
  | _ => 0

abbrev hbmTy0_0 (i : Nat) : BufTy := match i % 128 with
  | 0 => ⟨S2x2048x12288, .f32⟩
  | 1 => ⟨S3x1024, .f32⟩
  | 2 => ⟨S8x128x128, .f32⟩
  | 3 => ⟨S8x128, .f32⟩
  | 4 => ⟨S4x1024, .f32⟩
  | 5 => ⟨S1024, .f32⟩
  | 6 => ⟨S16x64x64, .f32⟩
  | 7 => ⟨S16x64, .f32⟩
  | 8 => ⟨S16x64x64, .f32⟩
  | 9 => ⟨S16x64, .f32⟩
  | 10 => ⟨S1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S_, .f32⟩
  | 24 => ⟨S2x3x1024, .f32⟩
  | 25 => ⟨S2x2051x1024, .f32⟩
  | 26 => ⟨S1x1024, .f32⟩
  | 27 => ⟨S1024, .f32⟩
  | 28 => ⟨S2x2048x1024, .f32⟩
  | 29 => ⟨S1x1x1024, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S1x1024, .f32⟩
  | 36 => ⟨S1024, .f32⟩
  | 37 => ⟨S2x2048x1024, .f32⟩
  | 38 => ⟨S1x1x1024, .f32⟩
  | 39 => ⟨S2x2048x1024, .f32⟩
  | 40 => ⟨S2x2048x1024, .f32⟩
  | 41 => ⟨S2x2048x1024, .f32⟩
  | 42 => ⟨S1x1024, .f32⟩
  | 43 => ⟨S1024, .f32⟩
  | 44 => ⟨S2x2048x1024, .f32⟩
  | 45 => ⟨S1x1x1024, .f32⟩
  | 46 => ⟨S2x2048x1024, .f32⟩
  | 47 => ⟨S2x2048x1024, .f32⟩
  | 48 => ⟨S2x2048x1024, .f32⟩
  | 49 => ⟨S1x1024, .f32⟩
  | 50 => ⟨S1024, .f32⟩
  | 51 => ⟨S2x2048x1024, .f32⟩
  | 52 => ⟨S1x1x1024, .f32⟩
  | 53 => ⟨S2x2048x1024, .f32⟩
  | 54 => ⟨S2x2048x1024, .f32⟩
  | 55 => ⟨S2x2048x1024, .f32⟩
  | 56 => ⟨S1x1x1024, .f32⟩
  | 57 => ⟨S2x2048x1024, .f32⟩
  | 58 => ⟨S2x2048x1024, .f32⟩
  | 59 => ⟨S2x2048x16x64, .f32⟩
  | 60 => ⟨S16x64x2x2048, .f32⟩
  | 61 => ⟨S2x2048x16x64, .f32⟩
  | 62 => ⟨S1x1x16x64, .f32⟩
  | 63 => ⟨S2x2048x16x64, .f32⟩
  | 64 => ⟨S2x2048x16x64, .f32⟩
  | 65 => ⟨S2x2048x16x64, .f32⟩
  | 66 => ⟨S2x2048x16x64, .f32⟩
  | 67 => ⟨S_, .f32⟩
  | 68 => ⟨S2x2048x16x64, .f32⟩
  | 69 => ⟨S2x2048x16x64, .f32⟩
  | 70 => ⟨S_, .f32⟩
  | 71 => ⟨S2x2048x16x64, .f32⟩
  | 72 => ⟨S2x2048x16x64, .f32⟩
  | 73 => ⟨S2x2048x1024, .f32⟩
  | 74 => ⟨S16x64x2x2048, .f32⟩
  | 75 => ⟨S2x2048x16x64, .f32⟩
  | 76 => ⟨S1x1x16x64, .f32⟩
  | 77 => ⟨S2x2048x16x64, .f32⟩
  | 78 => ⟨S2x2048x16x64, .f32⟩
  | 79 => ⟨S2x2048x16x64, .f32⟩
  | 80 => ⟨S2x2048x16x64, .f32⟩
  | 81 => ⟨S_, .f32⟩
  | 82 => ⟨S2x2048x16x64, .f32⟩
  | 83 => ⟨S2x2048x16x64, .f32⟩
  | 84 => ⟨S_, .f32⟩
  | 85 => ⟨S2x2048x16x64, .f32⟩
  | 86 => ⟨S2x2048x16x64, .f32⟩
  | 87 => ⟨S2x2048x1024, .f32⟩
  | 88 => ⟨S_, .f32⟩
  | 89 => ⟨S2x2048x1024, .f32⟩
  | 90 => ⟨S2x2048x1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S1024, .f32⟩
  | 97 => ⟨S1024, .i1⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1x1x1024, .f32⟩
  | 107 => ⟨S2x2048x1024, .f32⟩
  | 108 => ⟨S2x2048x1024, .f32⟩
  | 109 => ⟨S2x2048x1024, .f32⟩
  | 110 => ⟨S_, .f32⟩
  | 111 => ⟨S2x2048x1024, .f32⟩
  | 112 => ⟨S2x2048x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x1024x1024, .f32⟩
  | 119 => ⟨S2x1024x1024, .f32⟩
  | 120 => ⟨S2x1024x1024, .f32⟩
  | 121 => ⟨S2x1024x1024, .f32⟩
  | 122 => ⟨S2x1024x1024, .f32⟩
  | 123 => ⟨S2x1024x1024, .f32⟩
  | 124 => ⟨S2x1024x1024, .f32⟩
  | 125 => ⟨S2x512x1024, .f32⟩
  | 126 => ⟨S2x512x1024, .f32⟩
  | 127 => ⟨S2x512x1024, .f32⟩
  | _ => ⟨S2x2048x12288, .f32⟩

abbrev hbmTy0_1 (i : Nat) : BufTy := match i % 128 with
  | 0 => ⟨S2x512x1024, .f32⟩
  | 1 => ⟨S2x512x1024, .f32⟩
  | 2 => ⟨S2x512x1024, .f32⟩
  | 3 => ⟨S2x512x1024, .f32⟩
  | 4 => ⟨S2x256x1024, .f32⟩
  | 5 => ⟨S2x256x1024, .f32⟩
  | 6 => ⟨S2x256x1024, .f32⟩
  | 7 => ⟨S2x256x1024, .f32⟩
  | 8 => ⟨S2x256x1024, .f32⟩
  | 9 => ⟨S2x256x1024, .f32⟩
  | 10 => ⟨S2x256x1024, .f32⟩
  | 11 => ⟨S2x128x1024, .f32⟩
  | 12 => ⟨S2x128x1024, .f32⟩
  | 13 => ⟨S2x128x1024, .f32⟩
  | 14 => ⟨S2x128x1024, .f32⟩
  | 15 => ⟨S2x128x1024, .f32⟩
  | 16 => ⟨S2x128x1024, .f32⟩
  | 17 => ⟨S2x128x1024, .f32⟩
  | 18 => ⟨S2x64x1024, .f32⟩
  | 19 => ⟨S2x64x1024, .f32⟩
  | 20 => ⟨S2x64x1024, .f32⟩
  | 21 => ⟨S2x64x1024, .f32⟩
  | 22 => ⟨S2x64x1024, .f32⟩
  | 23 => ⟨S2x64x1024, .f32⟩
  | 24 => ⟨S2x64x1024, .f32⟩
  | 25 => ⟨S2x32x1024, .f32⟩
  | 26 => ⟨S2x32x1024, .f32⟩
  | 27 => ⟨S2x32x1024, .f32⟩
  | 28 => ⟨S2x32x1024, .f32⟩
  | 29 => ⟨S2x32x1024, .f32⟩
  | 30 => ⟨S2x32x1024, .f32⟩
  | 31 => ⟨S2x32x1024, .f32⟩
  | 32 => ⟨S2x16x1024, .f32⟩
  | 33 => ⟨S2x16x1024, .f32⟩
  | 34 => ⟨S2x16x1024, .f32⟩
  | 35 => ⟨S2x16x1024, .f32⟩
  | 36 => ⟨S2x16x1024, .f32⟩
  | 37 => ⟨S2x16x1024, .f32⟩
  | 38 => ⟨S2x16x1024, .f32⟩
  | 39 => ⟨S2x8x1024, .f32⟩
  | 40 => ⟨S2x8x1024, .f32⟩
  | 41 => ⟨S2x8x1024, .f32⟩
  | 42 => ⟨S2x8x1024, .f32⟩
  | 43 => ⟨S2x8x1024, .f32⟩
  | 44 => ⟨S2x8x1024, .f32⟩
  | 45 => ⟨S2x8x1024, .f32⟩
  | 46 => ⟨S2x4x1024, .f32⟩
  | 47 => ⟨S2x4x1024, .f32⟩
  | 48 => ⟨S2x4x1024, .f32⟩
  | 49 => ⟨S2x4x1024, .f32⟩
  | 50 => ⟨S2x4x1024, .f32⟩
  | 51 => ⟨S2x4x1024, .f32⟩
  | 52 => ⟨S2x4x1024, .f32⟩
  | 53 => ⟨S2x2x1024, .f32⟩
  | 54 => ⟨S2x2x1024, .f32⟩
  | 55 => ⟨S2x2x1024, .f32⟩
  | 56 => ⟨S2x2x1024, .f32⟩
  | 57 => ⟨S2x2x1024, .f32⟩
  | 58 => ⟨S2x2x1024, .f32⟩
  | 59 => ⟨S2x2x1024, .f32⟩
  | 60 => ⟨S2x1x1024, .f32⟩
  | 61 => ⟨S2x1x1024, .f32⟩
  | 62 => ⟨S2x1x1024, .f32⟩
  | 63 => ⟨S2x1x1024, .f32⟩
  | 64 => ⟨S2x1x1024, .f32⟩
  | 65 => ⟨S2x1x1024, .f32⟩
  | 66 => ⟨S2x1x1024, .f32⟩
  | 67 => ⟨S2x0x1024, .f32⟩
  | 68 => ⟨S2x0x1024, .f32⟩
  | 69 => ⟨S2x0x1024, .f32⟩
  | 70 => ⟨S2x0x1024, .f32⟩
  | 71 => ⟨S2x0x1024, .f32⟩
  | 72 => ⟨S2x0x1024, .f32⟩
  | 73 => ⟨S2x0x1024, .f32⟩
  | 74 => ⟨S2x1x1024, .f32⟩
  | 75 => ⟨S2x1x1024, .f32⟩
  | 76 => ⟨S2x1x1024, .f32⟩
  | 77 => ⟨S2x1x1024, .f32⟩
  | 78 => ⟨S_, .f32⟩
  | 79 => ⟨S2x2x1024, .f32⟩
  | 80 => ⟨S_, .f32⟩
  | 81 => ⟨S2x2x1024, .f32⟩
  | 82 => ⟨S2x2x1024, .f32⟩
  | 83 => ⟨S_, .f32⟩
  | 84 => ⟨S2x2x1024, .f32⟩
  | 85 => ⟨S_, .f32⟩
  | 86 => ⟨S2x2x1024, .f32⟩
  | 87 => ⟨S2x2x1024, .f32⟩
  | 88 => ⟨S2x1x1024, .f32⟩
  | 89 => ⟨S2x1x1024, .f32⟩
  | 90 => ⟨S2x1x1024, .f32⟩
  | 91 => ⟨S2x1x1024, .f32⟩
  | 92 => ⟨S2x1x1024, .f32⟩
  | 93 => ⟨S2x1x1024, .f32⟩
  | 94 => ⟨S2x1x1024, .f32⟩
  | 95 => ⟨S2x1x1024, .f32⟩
  | 96 => ⟨S2x2x1024, .f32⟩
  | 97 => ⟨S2x1x1024, .f32⟩
  | 98 => ⟨S2x2x1024, .f32⟩
  | 99 => ⟨S_, .f32⟩
  | 100 => ⟨S2x4x1024, .f32⟩
  | 101 => ⟨S_, .f32⟩
  | 102 => ⟨S2x4x1024, .f32⟩
  | 103 => ⟨S2x4x1024, .f32⟩
  | 104 => ⟨S_, .f32⟩
  | 105 => ⟨S2x4x1024, .f32⟩
  | 106 => ⟨S_, .f32⟩
  | 107 => ⟨S2x4x1024, .f32⟩
  | 108 => ⟨S2x4x1024, .f32⟩
  | 109 => ⟨S2x3x1024, .f32⟩
  | 110 => ⟨S2x3x1024, .f32⟩
  | 111 => ⟨S2x3x1024, .f32⟩
  | 112 => ⟨S2x3x1024, .f32⟩
  | 113 => ⟨S2x3x1024, .f32⟩
  | 114 => ⟨S2x3x1024, .f32⟩
  | 115 => ⟨S2x3x1024, .f32⟩
  | 116 => ⟨S2x1x1024, .f32⟩
  | 117 => ⟨S2x4x1024, .f32⟩
  | 118 => ⟨S2x1x1024, .f32⟩
  | 119 => ⟨S2x4x1024, .f32⟩
  | 120 => ⟨S_, .f32⟩
  | 121 => ⟨S2x8x1024, .f32⟩
  | 122 => ⟨S_, .f32⟩
  | 123 => ⟨S2x8x1024, .f32⟩
  | 124 => ⟨S2x8x1024, .f32⟩
  | 125 => ⟨S_, .f32⟩
  | 126 => ⟨S2x8x1024, .f32⟩
  | 127 => ⟨S_, .f32⟩
  | _ => ⟨S2x2048x12288, .f32⟩

abbrev hbmTy0_2 (i : Nat) : BufTy := match i % 128 with
  | 0 => ⟨S2x8x1024, .f32⟩
  | 1 => ⟨S2x8x1024, .f32⟩
  | 2 => ⟨S2x7x1024, .f32⟩
  | 3 => ⟨S2x7x1024, .f32⟩
  | 4 => ⟨S2x7x1024, .f32⟩
  | 5 => ⟨S2x7x1024, .f32⟩
  | 6 => ⟨S2x7x1024, .f32⟩
  | 7 => ⟨S2x7x1024, .f32⟩
  | 8 => ⟨S2x7x1024, .f32⟩
  | 9 => ⟨S2x1x1024, .f32⟩
  | 10 => ⟨S2x8x1024, .f32⟩
  | 11 => ⟨S2x1x1024, .f32⟩
  | 12 => ⟨S2x8x1024, .f32⟩
  | 13 => ⟨S_, .f32⟩
  | 14 => ⟨S2x16x1024, .f32⟩
  | 15 => ⟨S_, .f32⟩
  | 16 => ⟨S2x16x1024, .f32⟩
  | 17 => ⟨S2x16x1024, .f32⟩
  | 18 => ⟨S_, .f32⟩
  | 19 => ⟨S2x16x1024, .f32⟩
  | 20 => ⟨S_, .f32⟩
  | 21 => ⟨S2x16x1024, .f32⟩
  | 22 => ⟨S2x16x1024, .f32⟩
  | 23 => ⟨S2x15x1024, .f32⟩
  | 24 => ⟨S2x15x1024, .f32⟩
  | 25 => ⟨S2x15x1024, .f32⟩
  | 26 => ⟨S2x15x1024, .f32⟩
  | 27 => ⟨S2x15x1024, .f32⟩
  | 28 => ⟨S2x15x1024, .f32⟩
  | 29 => ⟨S2x15x1024, .f32⟩
  | 30 => ⟨S2x1x1024, .f32⟩
  | 31 => ⟨S2x16x1024, .f32⟩
  | 32 => ⟨S2x1x1024, .f32⟩
  | 33 => ⟨S2x16x1024, .f32⟩
  | 34 => ⟨S_, .f32⟩
  | 35 => ⟨S2x32x1024, .f32⟩
  | 36 => ⟨S_, .f32⟩
  | 37 => ⟨S2x32x1024, .f32⟩
  | 38 => ⟨S2x32x1024, .f32⟩
  | 39 => ⟨S_, .f32⟩
  | 40 => ⟨S2x32x1024, .f32⟩
  | 41 => ⟨S_, .f32⟩
  | 42 => ⟨S2x32x1024, .f32⟩
  | 43 => ⟨S2x32x1024, .f32⟩
  | 44 => ⟨S2x31x1024, .f32⟩
  | 45 => ⟨S2x31x1024, .f32⟩
  | 46 => ⟨S2x31x1024, .f32⟩
  | 47 => ⟨S2x31x1024, .f32⟩
  | 48 => ⟨S2x31x1024, .f32⟩
  | 49 => ⟨S2x31x1024, .f32⟩
  | 50 => ⟨S2x31x1024, .f32⟩
  | 51 => ⟨S2x1x1024, .f32⟩
  | 52 => ⟨S2x32x1024, .f32⟩
  | 53 => ⟨S2x1x1024, .f32⟩
  | 54 => ⟨S2x32x1024, .f32⟩
  | 55 => ⟨S_, .f32⟩
  | 56 => ⟨S2x64x1024, .f32⟩
  | 57 => ⟨S_, .f32⟩
  | 58 => ⟨S2x64x1024, .f32⟩
  | 59 => ⟨S2x64x1024, .f32⟩
  | 60 => ⟨S_, .f32⟩
  | 61 => ⟨S2x64x1024, .f32⟩
  | 62 => ⟨S_, .f32⟩
  | 63 => ⟨S2x64x1024, .f32⟩
  | 64 => ⟨S2x64x1024, .f32⟩
  | 65 => ⟨S2x63x1024, .f32⟩
  | 66 => ⟨S2x63x1024, .f32⟩
  | 67 => ⟨S2x63x1024, .f32⟩
  | 68 => ⟨S2x63x1024, .f32⟩
  | 69 => ⟨S2x63x1024, .f32⟩
  | 70 => ⟨S2x63x1024, .f32⟩
  | 71 => ⟨S2x63x1024, .f32⟩
  | 72 => ⟨S2x1x1024, .f32⟩
  | 73 => ⟨S2x64x1024, .f32⟩
  | 74 => ⟨S2x1x1024, .f32⟩
  | 75 => ⟨S2x64x1024, .f32⟩
  | 76 => ⟨S_, .f32⟩
  | 77 => ⟨S2x128x1024, .f32⟩
  | 78 => ⟨S_, .f32⟩
  | 79 => ⟨S2x128x1024, .f32⟩
  | 80 => ⟨S2x128x1024, .f32⟩
  | 81 => ⟨S_, .f32⟩
  | 82 => ⟨S2x128x1024, .f32⟩
  | 83 => ⟨S_, .f32⟩
  | 84 => ⟨S2x128x1024, .f32⟩
  | 85 => ⟨S2x128x1024, .f32⟩
  | 86 => ⟨S2x127x1024, .f32⟩
  | 87 => ⟨S2x127x1024, .f32⟩
  | 88 => ⟨S2x127x1024, .f32⟩
  | 89 => ⟨S2x127x1024, .f32⟩
  | 90 => ⟨S2x127x1024, .f32⟩
  | 91 => ⟨S2x127x1024, .f32⟩
  | 92 => ⟨S2x127x1024, .f32⟩
  | 93 => ⟨S2x1x1024, .f32⟩
  | 94 => ⟨S2x128x1024, .f32⟩
  | 95 => ⟨S2x1x1024, .f32⟩
  | 96 => ⟨S2x128x1024, .f32⟩
  | 97 => ⟨S_, .f32⟩
  | 98 => ⟨S2x256x1024, .f32⟩
  | 99 => ⟨S_, .f32⟩
  | 100 => ⟨S2x256x1024, .f32⟩
  | 101 => ⟨S2x256x1024, .f32⟩
  | 102 => ⟨S_, .f32⟩
  | 103 => ⟨S2x256x1024, .f32⟩
  | 104 => ⟨S_, .f32⟩
  | 105 => ⟨S2x256x1024, .f32⟩
  | 106 => ⟨S2x256x1024, .f32⟩
  | 107 => ⟨S2x255x1024, .f32⟩
  | 108 => ⟨S2x255x1024, .f32⟩
  | 109 => ⟨S2x255x1024, .f32⟩
  | 110 => ⟨S2x255x1024, .f32⟩
  | 111 => ⟨S2x255x1024, .f32⟩
  | 112 => ⟨S2x255x1024, .f32⟩
  | 113 => ⟨S2x255x1024, .f32⟩
  | 114 => ⟨S2x1x1024, .f32⟩
  | 115 => ⟨S2x256x1024, .f32⟩
  | 116 => ⟨S2x1x1024, .f32⟩
  | 117 => ⟨S2x256x1024, .f32⟩
  | 118 => ⟨S_, .f32⟩
  | 119 => ⟨S2x512x1024, .f32⟩
  | 120 => ⟨S_, .f32⟩
  | 121 => ⟨S2x512x1024, .f32⟩
  | 122 => ⟨S2x512x1024, .f32⟩
  | 123 => ⟨S_, .f32⟩
  | 124 => ⟨S2x512x1024, .f32⟩
  | 125 => ⟨S_, .f32⟩
  | 126 => ⟨S2x512x1024, .f32⟩
  | 127 => ⟨S2x512x1024, .f32⟩
  | _ => ⟨S2x2048x12288, .f32⟩

abbrev hbmTy0_3 (i : Nat) : BufTy := match i % 128 with
  | 0 => ⟨S2x511x1024, .f32⟩
  | 1 => ⟨S2x511x1024, .f32⟩
  | 2 => ⟨S2x511x1024, .f32⟩
  | 3 => ⟨S2x511x1024, .f32⟩
  | 4 => ⟨S2x511x1024, .f32⟩
  | 5 => ⟨S2x511x1024, .f32⟩
  | 6 => ⟨S2x511x1024, .f32⟩
  | 7 => ⟨S2x1x1024, .f32⟩
  | 8 => ⟨S2x512x1024, .f32⟩
  | 9 => ⟨S2x1x1024, .f32⟩
  | 10 => ⟨S2x512x1024, .f32⟩
  | 11 => ⟨S_, .f32⟩
  | 12 => ⟨S2x1024x1024, .f32⟩
  | 13 => ⟨S_, .f32⟩
  | 14 => ⟨S2x1024x1024, .f32⟩
  | 15 => ⟨S2x1024x1024, .f32⟩
  | 16 => ⟨S_, .f32⟩
  | 17 => ⟨S2x1024x1024, .f32⟩
  | 18 => ⟨S_, .f32⟩
  | 19 => ⟨S2x1024x1024, .f32⟩
  | 20 => ⟨S2x1024x1024, .f32⟩
  | 21 => ⟨S2x1023x1024, .f32⟩
  | 22 => ⟨S2x1023x1024, .f32⟩
  | 23 => ⟨S2x1023x1024, .f32⟩
  | 24 => ⟨S2x1023x1024, .f32⟩
  | 25 => ⟨S2x1023x1024, .f32⟩
  | 26 => ⟨S2x1023x1024, .f32⟩
  | 27 => ⟨S2x1023x1024, .f32⟩
  | 28 => ⟨S2x1x1024, .f32⟩
  | 29 => ⟨S2x1024x1024, .f32⟩
  | 30 => ⟨S2x1x1024, .f32⟩
  | 31 => ⟨S2x1024x1024, .f32⟩
  | 32 => ⟨S_, .f32⟩
  | 33 => ⟨S2x2048x1024, .f32⟩
  | 34 => ⟨S_, .f32⟩
  | 35 => ⟨S2x2048x1024, .f32⟩
  | 36 => ⟨S2x2048x1024, .f32⟩
  | 37 => ⟨S_, .f32⟩
  | 38 => ⟨S2x2048x1024, .f32⟩
  | 39 => ⟨S_, .f32⟩
  | 40 => ⟨S2x2048x1024, .f32⟩
  | 41 => ⟨S2x2048x1024, .f32⟩
  | _ => ⟨S2x2048x12288, .f32⟩

abbrev hbmTy (i : Nat) : BufTy := match i / 128 with
  | 0 => hbmTy0_0 i
  | 1 => hbmTy0_1 i
  | 2 => hbmTy0_2 i
  | 3 => hbmTy0_3 i
  | _ => ⟨S2x2048x12288, .f32⟩

abbrev bufTy : (tb : Table) → Fin (tcTables nBuf tb) → BufTy
  | .hbm, ⟨i, _⟩ => hbmTy i
  | _, _ => ⟨S2x2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_1 : Ref sig .tc := ⟨.hbm, 67, rfl⟩
abbrev main_v54 : Ref sig .tc := ⟨.hbm, 68, rfl⟩
abbrev main_v55 : Ref sig .tc := ⟨.hbm, 69, rfl⟩
abbrev main_cst_2 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_cst_4 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_5 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_6 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_7 : Ref sig .tc := ⟨.hbm, 206, rfl⟩
abbrev main_v174 : Ref sig .tc := ⟨.hbm, 207, rfl⟩
abbrev main_cst_8 : Ref sig .tc := ⟨.hbm, 208, rfl⟩
abbrev main_v175 : Ref sig .tc := ⟨.hbm, 209, rfl⟩
abbrev main_v176 : Ref sig .tc := ⟨.hbm, 210, rfl⟩
abbrev main_cst_9 : Ref sig .tc := ⟨.hbm, 211, rfl⟩
abbrev main_v177 : Ref sig .tc := ⟨.hbm, 212, rfl⟩
abbrev main_cst_10 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_cst_11 : Ref sig .tc := ⟨.hbm, 227, rfl⟩
abbrev main_v191 : Ref sig .tc := ⟨.hbm, 228, rfl⟩
abbrev main_cst_12 : Ref sig .tc := ⟨.hbm, 229, rfl⟩
abbrev main_v192 : Ref sig .tc := ⟨.hbm, 230, rfl⟩
abbrev main_v193 : Ref sig .tc := ⟨.hbm, 231, rfl⟩
abbrev main_cst_13 : Ref sig .tc := ⟨.hbm, 232, rfl⟩
abbrev main_v194 : Ref sig .tc := ⟨.hbm, 233, rfl⟩
abbrev main_cst_14 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_15 : Ref sig .tc := ⟨.hbm, 248, rfl⟩
abbrev main_v208 : Ref sig .tc := ⟨.hbm, 249, rfl⟩
abbrev main_cst_16 : Ref sig .tc := ⟨.hbm, 250, rfl⟩
abbrev main_v209 : Ref sig .tc := ⟨.hbm, 251, rfl⟩
abbrev main_v210 : Ref sig .tc := ⟨.hbm, 252, rfl⟩
abbrev main_cst_17 : Ref sig .tc := ⟨.hbm, 253, rfl⟩
abbrev main_v211 : Ref sig .tc := ⟨.hbm, 254, rfl⟩
abbrev main_cst_18 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_cst_19 : Ref sig .tc := ⟨.hbm, 269, rfl⟩
abbrev main_v225 : Ref sig .tc := ⟨.hbm, 270, rfl⟩
abbrev main_cst_20 : Ref sig .tc := ⟨.hbm, 271, rfl⟩
abbrev main_v226 : Ref sig .tc := ⟨.hbm, 272, rfl⟩
abbrev main_v227 : Ref sig .tc := ⟨.hbm, 273, rfl⟩
abbrev main_cst_21 : Ref sig .tc := ⟨.hbm, 274, rfl⟩
abbrev main_v228 : Ref sig .tc := ⟨.hbm, 275, rfl⟩
abbrev main_cst_22 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_cst_23 : Ref sig .tc := ⟨.hbm, 290, rfl⟩
abbrev main_v242 : Ref sig .tc := ⟨.hbm, 291, rfl⟩
abbrev main_cst_24 : Ref sig .tc := ⟨.hbm, 292, rfl⟩
abbrev main_v243 : Ref sig .tc := ⟨.hbm, 293, rfl⟩
abbrev main_v244 : Ref sig .tc := ⟨.hbm, 294, rfl⟩
abbrev main_cst_25 : Ref sig .tc := ⟨.hbm, 295, rfl⟩
abbrev main_v245 : Ref sig .tc := ⟨.hbm, 296, rfl⟩
abbrev main_cst_26 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_cst_27 : Ref sig .tc := ⟨.hbm, 311, rfl⟩
abbrev main_v259 : Ref sig .tc := ⟨.hbm, 312, rfl⟩
abbrev main_cst_28 : Ref sig .tc := ⟨.hbm, 313, rfl⟩
abbrev main_v260 : Ref sig .tc := ⟨.hbm, 314, rfl⟩
abbrev main_v261 : Ref sig .tc := ⟨.hbm, 315, rfl⟩
abbrev main_cst_29 : Ref sig .tc := ⟨.hbm, 316, rfl⟩
abbrev main_v262 : Ref sig .tc := ⟨.hbm, 317, rfl⟩
abbrev main_cst_30 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_cst_31 : Ref sig .tc := ⟨.hbm, 332, rfl⟩
abbrev main_v276 : Ref sig .tc := ⟨.hbm, 333, rfl⟩
abbrev main_cst_32 : Ref sig .tc := ⟨.hbm, 334, rfl⟩
abbrev main_v277 : Ref sig .tc := ⟨.hbm, 335, rfl⟩
abbrev main_v278 : Ref sig .tc := ⟨.hbm, 336, rfl⟩
abbrev main_cst_33 : Ref sig .tc := ⟨.hbm, 337, rfl⟩
abbrev main_v279 : Ref sig .tc := ⟨.hbm, 338, rfl⟩
abbrev main_cst_34 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_cst_35 : Ref sig .tc := ⟨.hbm, 353, rfl⟩
abbrev main_v293 : Ref sig .tc := ⟨.hbm, 354, rfl⟩
abbrev main_cst_36 : Ref sig .tc := ⟨.hbm, 355, rfl⟩
abbrev main_v294 : Ref sig .tc := ⟨.hbm, 356, rfl⟩
abbrev main_v295 : Ref sig .tc := ⟨.hbm, 357, rfl⟩
abbrev main_cst_37 : Ref sig .tc := ⟨.hbm, 358, rfl⟩
abbrev main_v296 : Ref sig .tc := ⟨.hbm, 359, rfl⟩
abbrev main_cst_38 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_cst_39 : Ref sig .tc := ⟨.hbm, 374, rfl⟩
abbrev main_v310 : Ref sig .tc := ⟨.hbm, 375, rfl⟩
abbrev main_cst_40 : Ref sig .tc := ⟨.hbm, 376, rfl⟩
abbrev main_v311 : Ref sig .tc := ⟨.hbm, 377, rfl⟩
abbrev main_v312 : Ref sig .tc := ⟨.hbm, 378, rfl⟩
abbrev main_cst_41 : Ref sig .tc := ⟨.hbm, 379, rfl⟩
abbrev main_v313 : Ref sig .tc := ⟨.hbm, 380, rfl⟩
abbrev main_cst_42 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_cst_43 : Ref sig .tc := ⟨.hbm, 395, rfl⟩
abbrev main_v327 : Ref sig .tc := ⟨.hbm, 396, rfl⟩
abbrev main_cst_44 : Ref sig .tc := ⟨.hbm, 397, rfl⟩
abbrev main_v328 : Ref sig .tc := ⟨.hbm, 398, rfl⟩
abbrev main_v329 : Ref sig .tc := ⟨.hbm, 399, rfl⟩
abbrev main_cst_45 : Ref sig .tc := ⟨.hbm, 400, rfl⟩
abbrev main_v330 : Ref sig .tc := ⟨.hbm, 401, rfl⟩
abbrev main_cst_46 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_cst_47 : Ref sig .tc := ⟨.hbm, 416, rfl⟩
abbrev main_v344 : Ref sig .tc := ⟨.hbm, 417, rfl⟩
abbrev main_cst_48 : Ref sig .tc := ⟨.hbm, 418, rfl⟩
abbrev main_v345 : Ref sig .tc := ⟨.hbm, 419, rfl⟩
abbrev main_v346 : Ref sig .tc := ⟨.hbm, 420, rfl⟩
abbrev main_cst_49 : Ref sig .tc := ⟨.hbm, 421, rfl⟩
abbrev main_v347 : Ref sig .tc := ⟨.hbm, 422, rfl⟩
abbrev main_cst_50 : Ref sig .tc := ⟨.hbm, 423, rfl⟩
abbrev main_v348 : Ref sig .tc := ⟨.hbm, 424, rfl⟩
abbrev main_v349 : Ref sig .tc := ⟨.hbm, 425, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024x12288 : Shape := ⟨2, ![1024, 12288]⟩
abbrev S1024x8x1536 : Shape := ⟨3, ![1024, 8, 1536]⟩
abbrev S8x1024x1536 : Shape := ⟨3, ![8, 1024, 1536]⟩
abbrev S_ : Shape := ⟨0, ![]⟩
abbrev S8x128 : Shape := ⟨2, ![8, 128]⟩
abbrev S12x2x2048x1024 : Shape := ⟨4, ![12, 2, 2048, 1024]⟩
abbrev S1x2048x1024 : Shape := ⟨3, ![1, 2048, 1024]⟩
abbrev S1x1024x512 : Shape := ⟨3, ![1, 1024, 512]⟩
abbrev S1x1x2048x512 : Shape := ⟨4, ![1, 1, 2048, 512]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x1024, .bf16⟩
  | .hbm, ⟨3, _⟩ => ⟨S1024x8x1536, .f32⟩
  | .hbm, ⟨4, _⟩ => ⟨S8x1024x1536, .f32⟩
  | .hbm, ⟨5, _⟩ => ⟨S8x1024x1536, .bf16⟩
  | .hbm, ⟨6, _⟩ => ⟨S_, .f32⟩
  | .hbm, ⟨7, _⟩ => ⟨S8x128, .f32⟩
  | .hbm, ⟨8, _⟩ => ⟨S12x2x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S8x128, .f32⟩
  | .local _ .vmem, ⟨5, _⟩ => ⟨S1x1x2048x512, .bf16⟩
  | .local _ .vmem, ⟨6, _⟩ => ⟨S1x1x2048x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x2048x1024 : Shape := ⟨3, ![2, 2048, 1024]⟩
abbrev S1024x12288 : Shape := ⟨2, ![1024, 12288]⟩
abbrev S2x2048x12288 : Shape := ⟨3, ![2, 2048, 12288]⟩
abbrev S2x2048x12x1024 : Shape := ⟨4, ![2, 2048, 12, 1024]⟩
abbrev S12x2x2048x1024 : Shape := ⟨4, ![12, 2, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x12288, .f32⟩
  | .hbm, ⟨3, _⟩ => ⟨S2x2048x12x1024, .f32⟩
  | .hbm, ⟨4, _⟩ => ⟨S12x2x2048x1024, .f32⟩
  | .hbm, ⟨5, _⟩ => ⟨S12x2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024x12288 : Shape := ⟨2, ![1024, 12288]⟩
abbrev S2x2048x12288 : Shape := ⟨3, ![2, 2048, 12288]⟩
abbrev S2x2048x12x1024 : Shape := ⟨4, ![2, 2048, 12, 1024]⟩
abbrev S12x2x2048x1024 : Shape := ⟨4, ![12, 2, 2048, 1024]⟩
abbrev S1024x8x1536 : Shape := ⟨3, ![1024, 8, 1536]⟩
abbrev S8x1024x1536 : Shape := ⟨3, ![8, 1024, 1536]⟩
abbrev S_ : Shape := ⟨0, ![]⟩
abbrev S8x128 : Shape := ⟨2, ![8, 128]⟩
abbrev S1x1x1024x1024 : Shape := ⟨4, ![1, 1, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 12
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x12288, .f32⟩
  | .hbm, ⟨3, _⟩ => ⟨S2x2048x12x1024, .f32⟩
  | .hbm, ⟨4, _⟩ => ⟨S12x2x2048x1024, .f32⟩
  | .hbm, ⟨5, _⟩ => ⟨S12x2x2048x1024, .bf16⟩
  | .hbm, ⟨6, _⟩ => ⟨S1024x8x1536, .f32⟩
  | .hbm, ⟨7, _⟩ => ⟨S8x1024x1536, .f32⟩
  | .hbm, ⟨8, _⟩ => ⟨S8x1024x1536, .bf16⟩
  | .hbm, ⟨9, _⟩ => ⟨S_, .f32⟩
  | .hbm, ⟨10, _⟩ => ⟨S8x128, .f32⟩
  | .hbm, ⟨11, _⟩ => ⟨S2x2048x1024, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S8x128, .f32⟩
  | .local _ .vmem, ⟨13, _⟩ => ⟨S1x1024x1024, .f32⟩
  | .local _ .vmem, ⟨14, _⟩ => ⟨S1x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 2, 6], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_20 : BitVec 32 := 0#32
  let v19 : BitVec 1 := Scalar.cmpi .ne v18 c0_i32_20
  v19

def k0_cond2 (i : grid0.Coords) : BitVec 1 :=
  let arg2 : BitVec 32 := BitVec.ofNat 32 (i 2).val
  let c0_i32_21 : BitVec 32 := 0#32
  let v20 : BitVec 1 := Scalar.cmpi .sgt arg2 c0_i32_21
  let v21 : BitVec 32 := Scalar.extui v20
  let c0_i32_22 : BitVec 32 := 0#32
  let v22 : BitVec 1 := Scalar.cmpi .ne v21 c0_i32_22
  v22

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c0_i32 : BitVec 32 := 0#32
  let v1 : BitVec 32 := Scalar.addi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c0_i32_6 : BitVec 32 := 0#32
  let v20 : BitVec 32 := Scalar.addi v19 c0_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi v0 c1_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli c4_i32_5 arg2
  let c1_i32_6 : BitVec 32 := 1#32
  let v20 : BitVec 32 := Scalar.addi v19 c1_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c2_i32 : BitVec 32 := 2#32
  let v1 : BitVec 32 := Scalar.addi v0 c2_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli c4_i32_4 arg2
  let c2_i32_5 : BitVec 32 := 2#32
  let v20 : BitVec 32 := Scalar.addi v19 c2_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c3_i32 : BitVec 32 := 3#32
  let v1 : BitVec 32 := Scalar.addi v0 c3_i32
  let c3_i32_0 : BitVec 32 := 3#32
  let v2 : BitVec 32 := Scalar.divsi v1 c3_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32_0 c0_i32_2
  let v9 : BitVec 32 := Scalar.extui v8
  let c0_i32_3 : BitVec 32 := 0#32
  let v10 : BitVec 1 := Scalar.cmpi .slt c3_i32_0 c0_i32_3
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli c4_i32_5 arg2
  let c3_i32_6 : BitVec 32 := 3#32
  let v20 : BitVec 32 := Scalar.addi v19 c3_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference11Ideal.lean ====
abbrev S2x2048x1024 : Shape := ⟨3, ![2, 2048, 1024]⟩
abbrev S1024x12288 : Shape := ⟨2, ![1024, 12288]⟩
abbrev S2x2048x12288 : Shape := ⟨3, ![2, 2048, 12288]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x12288, .f32⟩
  | .hbm, ⟨3, _⟩ => ⟨S2x2048x12288, .f32⟩
  | .hbm, ⟨4, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024x12288 : Shape := ⟨2, ![1024, 12288]⟩
abbrev S2x2048x12288 : Shape := ⟨3, ![2, 2048, 12288]⟩
abbrev S2x2048x12x1024 : Shape := ⟨4, ![2, 2048, 12, 1024]⟩
abbrev S12x2x2048x1024 : Shape := ⟨4, ![12, 2, 2048, 1024]⟩
abbrev S_ : Shape := ⟨0, ![]⟩
abbrev S8x128 : Shape := ⟨2, ![8, 128]⟩
abbrev S24x1024x512 : Shape := ⟨3, ![24, 1024, 512]⟩
abbrev S1x2048x1024 : Shape := ⟨3, ![1, 2048, 1024]⟩
abbrev S1x1x2048x1024 : Shape := ⟨4, ![1, 1, 2048, 1024]⟩
abbrev S2x1024x512 : Shape := ⟨3, ![2, 1024, 512]⟩
abbrev S1024x1024 : Shape := ⟨2, ![1024, 1024]⟩
abbrev S2048x1024 : Shape := ⟨2, ![2048, 1024]⟩
abbrev S1024x512 : Shape := ⟨2, ![1024, 512]⟩
abbrev S1x1024x512 : Shape := ⟨3, ![1, 1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x12288, .f32⟩
  | .hbm, ⟨3, _⟩ => ⟨S2x2048x1024, .bf16⟩
  | .hbm, ⟨4, _⟩ => ⟨S2x2048x12x1024, .f32⟩
  | .hbm, ⟨5, _⟩ => ⟨S12x2x2048x1024, .f32⟩
  | .hbm, ⟨6, _⟩ => ⟨S12x2x2048x1024, .bf16⟩
  | .hbm, ⟨7, _⟩ => ⟨S_, .f32⟩
  | .hbm, ⟨8, _⟩ => ⟨S8x128, .f32⟩
  | .hbm, ⟨9, _⟩ => ⟨S24x1024x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S8x128, .f32⟩
  | .local _ .vmem, ⟨5, _⟩ => ⟨S2x1024x512, .bf16⟩
  | .local _ .vmem, ⟨6, _⟩ => ⟨S2x1024x512, .bf16⟩
  | .local _ .vmem, ⟨7, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![12, 2, 1], ![false, false, false]⟩

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let arg2 : BitVec 32 := BitVec.ofNat 32 (i 2).val
  let c0_i32_12 : BitVec 32 := 0#32
  let v16 : BitVec 1 := Scalar.cmpi .eq arg2 c0_i32_12
  let v17 : BitVec 1 := Scalar.andi v15 v16
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference12Ideal.lean ====
abbrev S2x2048x1024 : Shape := ⟨3, ![2, 2048, 1024]⟩
abbrev S1024x12288 : Shape := ⟨2, ![1024, 12288]⟩
abbrev S2x2048x12288 : Shape := ⟨3, ![2, 2048, 12288]⟩
abbrev S12288x1024 : Shape := ⟨2, ![12288, 1024]⟩
abbrev S1024x24x512 : Shape := ⟨3, ![1024, 24, 512]⟩
abbrev S24x1024x512 : Shape := ⟨3, ![24, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x12288, .f32⟩
  | .hbm, ⟨2, _⟩ => ⟨S2x2048x12288, .f32⟩
  | .hbm, ⟨3, _⟩ => ⟨S2x2048x12288, .f32⟩
  | .hbm, ⟨4, _⟩ => ⟨S12288x1024, .f32⟩
  | .hbm, ⟨5, _⟩ => ⟨S1024x12288, .f32⟩
  | .hbm, ⟨6, _⟩ => ⟨S1024x24x512, .f32⟩
  | .hbm, ⟨7, _⟩ => ⟨S24x1024x512, .f32⟩
  | .hbm, ⟨8, _⟩ => ⟨S24x1024x512, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x384 : Shape := ⟨2, ![4096, 384]⟩
abbrev S1x1x4096x384 : Shape := ⟨4, ![1, 1, 4096, 384]⟩
abbrev S1x1x512x384 : Shape := ⟨4, ![1, 1, 512, 384]⟩
abbrev S512x384 : Shape := ⟨2, ![512, 384]⟩

abbrev nBuf : Space → Nat
  | .hbm => 9
  | .vmem => 16
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S1x1x4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .local _ .vmem, ⟨0, _⟩ => ⟨S1x1x512x384, .f32⟩
  | .local _ .vmem, ⟨1, _⟩ => ⟨S1x1x512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x384 : Shape := ⟨2, ![4096, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S_, .f32⟩
  | .hbm, ⟨5, _⟩ => ⟨S4096x384, .f32⟩
  | .hbm, ⟨6, _⟩ => ⟨S4096x384, .f32⟩
  | .hbm, ⟨7, _⟩ => ⟨S_, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S_, .f32⟩
  | .hbm, ⟨12, _⟩ => ⟨S4096x384, .f32⟩
  | .hbm, ⟨13, _⟩ => ⟨S4096x384, .f32⟩
  | .hbm, ⟨14, _⟩ => ⟨S4096x384, .f32⟩
  | .hbm, ⟨15, _⟩ => ⟨S_, .f32⟩
  | .hbm, ⟨16, _⟩ => ⟨S4096x384, .f32⟩
  | .hbm, ⟨17, _⟩ => ⟨S4096x384, .f32⟩
  | .hbm, ⟨18, _⟩ => ⟨S4096x384, .f32⟩
  | .hbm, ⟨19, _⟩ => ⟨S_, .f32⟩
  | .hbm, ⟨20, _⟩ => ⟨S4096x384, .f32⟩
  | .hbm, ⟨21, _⟩ => ⟨S4096x384, .f32⟩
  | .hbm, ⟨22, _⟩ => ⟨S_, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S_, .f32⟩
  | .hbm, ⟨27, _⟩ => ⟨S4096x384, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S4096x384, .f32⟩
  | .hbm, ⟨32, _⟩ => ⟨S4096x384, .f32⟩
  | .hbm, ⟨33, _⟩ => ⟨S4096x384, .f32⟩
  | .hbm, ⟨34, _⟩ => ⟨S_, .f32⟩
  | .hbm, ⟨35, _⟩ => ⟨S4096x384, .f32⟩
  | .hbm, ⟨36, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x5x1024 : Shape := ⟨3, ![8, 5, 1024]⟩
abbrev S5x1024 : Shape := ⟨2, ![5, 1024]⟩
abbrev S8x1x5x1024 : Shape := ⟨4, ![8, 1, 5, 1024]⟩
abbrev S1x1x5x1024 : Shape := ⟨4, ![1, 1, 5, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x5x1024, .f32⟩
  | .hbm, ⟨1, _⟩ => ⟨S5x1024, .f32⟩
  | .hbm, ⟨2, _⟩ => ⟨S5x1024, .f32⟩
  | .hbm, ⟨3, _⟩ => ⟨S5x1024, .f32⟩
  | .hbm, ⟨4, _⟩ => ⟨S8x1x5x1024, .f32⟩
  | .hbm, ⟨5, _⟩ => ⟨S5x1024, .f32⟩
  | .hbm, ⟨6, _⟩ => ⟨S5x1024, .f32⟩
  | .hbm, ⟨7, _⟩ => ⟨S5x1024, .f32⟩
  | .hbm, ⟨8, _⟩ => ⟨S5x1024, .f32⟩
  | .local _ .vmem, ⟨0, _⟩ => ⟨S8x1x5x1024, .f32⟩
  | .local _ .vmem, ⟨1, _⟩ => ⟨S5x1024, .f32⟩
  | .local _ .vmem, ⟨2, _⟩ => ⟨S5x1024, .f32⟩
  | .local _ .vmem, ⟨3, _⟩ => ⟨S5x1024, .f32⟩
  | .local _ .vmem, ⟨4, _⟩ => ⟨S5x1024, .f32⟩
  | .local _ .vmem, ⟨5, _⟩ => ⟨S5x1024, .f32⟩
  | .local _ .vmem, ⟨6, _⟩ => ⟨S5x1024, .f32⟩
  | .local _ .vmem, ⟨7, _⟩ => ⟨S5x1024, .f32⟩
  | _, _ => ⟨S8x5x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x1x5x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S5x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S5x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S5x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S5x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x5x1024 : Shape := ⟨3, ![8, 5, 1024]⟩
abbrev S5x1024 : Shape := ⟨2, ![5, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x5x1024, .f32⟩
  | .hbm, ⟨1, _⟩ => ⟨S5x1024, .f32⟩
  | .hbm, ⟨2, _⟩ => ⟨S5x1024, .f32⟩
  | .hbm, ⟨3, _⟩ => ⟨S5x1024, .f32⟩
  | .hbm, ⟨4, _⟩ => ⟨S_, .f32⟩
  | .hbm, ⟨5, _⟩ => ⟨S5x1024, .f32⟩
  | .hbm, ⟨6, _⟩ => ⟨S_, .f32⟩
  | .hbm, ⟨7, _⟩ => ⟨S5x1024, .f32⟩
  | .hbm, ⟨8, _⟩ => ⟨S5x1024, .f32⟩
  | .hbm, ⟨9, _⟩ => ⟨S_, .f32⟩
  | .hbm, ⟨10, _⟩ => ⟨S5x1024, .f32⟩
  | .hbm, ⟨11, _⟩ => ⟨S5x1024, .f32⟩
  | .hbm, ⟨12, _⟩ => ⟨S5x1024, .f32⟩
  | .hbm, ⟨13, _⟩ => ⟨S_, .f32⟩
  | .hbm, ⟨14, _⟩ => ⟨S5x1024, .f32⟩
  | .hbm, ⟨15, _⟩ => ⟨S5x1024, .f32⟩
  | .hbm, ⟨16, _⟩ => ⟨S5x1024, .f32⟩
  | .hbm, ⟨17, _⟩ => ⟨S_, .f32⟩
  | .hbm, ⟨18, _⟩ => ⟨S5x1024, .f32⟩
  | .hbm, ⟨19, _⟩ => ⟨S5x1024, .f32⟩
  | .hbm, ⟨20, _⟩ => ⟨S5x1024, .f32⟩
  | .hbm, ⟨21, _⟩ => ⟨S_, .f32⟩
  | .hbm, ⟨22, _⟩ => ⟨S5x1024, .f32⟩
  | .hbm, ⟨23, _⟩ => ⟨S5x1024, .f32⟩
  | .hbm, ⟨24, _⟩ => ⟨S_, .f32⟩
  | .hbm, ⟨25, _⟩ => ⟨S5x1024, .f32⟩
  | .hbm, ⟨26, _⟩ => ⟨S5x1024, .f32⟩
  | .hbm, ⟨27, _⟩ => ⟨S5x1024, .f32⟩
  | .hbm, ⟨28, _⟩ => ⟨S_, .f32⟩
  | .hbm, ⟨29, _⟩ => ⟨S5x1024, .f32⟩
  | .hbm, ⟨30, _⟩ => ⟨S5x1024, .f32⟩
  | .hbm, ⟨31, _⟩ => ⟨S5x1024, .f32⟩
  | .hbm, ⟨32, _⟩ => ⟨S_, .f32⟩
  | .hbm, ⟨33, _⟩ => ⟨S5x1024, .f32⟩
  | .hbm, ⟨34, _⟩ => ⟨S5x1024, .f32⟩
  | .hbm, ⟨35, _⟩ => ⟨S5x1024, .f32⟩
  | .hbm, ⟨36, _⟩ => ⟨S_, .f32⟩
  | .hbm, ⟨37, _⟩ => ⟨S5x1024, .f32⟩
  | .hbm, ⟨38, _⟩ => ⟨S5x1024, .f32⟩
  | _, _ => ⟨S8x5x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.NormCases.lean ====
/-
  What the body of the norm's backward kernel leaves in its four output blocks at a grid point, for any floats: the
  block of the gradient of `x`, and the three running sums with the block's own sum added. The three cases of a point
  (the first of all, the first of an example, any other) differ in what the running sums start from.
-/
module

public import proofs.«01_k».proof.Defs
public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.NormCases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of the gradient of `x`, from the blocks of `dh`, `x`, `dxo`, the gain and the scale. -/
def blk5 (x0 x1 x2 : Vec F S1x512x1024 .f32) (x3 : Vec F S1x1024 .f32) (x4 : Vec F S1x1x1024 .f32) : Vec F S1x512x1024 .f32 :=
  k0_pay1 (k0_pay7 x1) (k0_pay16 x2) (k0_pay17 (k0_pay5 x0) (k0_pay8 x1) (k0_pay9 x3) (k0_pay10 x4))

/-- The shift's gradient after a block: what stood there and the block's rows summed. -/
def acc6 (x0 : Vec F S1x512x1024 .f32) (y : Vec F S1x1x1024 .f32) : Vec F S1x1x1024 .f32 :=
  k0_pay13 (k0_pay11 y) (k0_pay12 x0)

/-- The scale's gradient after a block. -/
def acc7 (x0 x1 : Vec F S1x512x1024 .f32) (x3 : Vec F S1x1024 .f32) (y : Vec F S1x1x1024 .f32) : Vec F S1x1x1024 .f32 :=
  k0_pay14 (k0_pay5 x0) (k0_pay8 x1) (k0_pay9 x3) y

/-- The gain's gradient after a block. -/
def acc8 (x0 x1 : Vec F S1x512x1024 .f32) (x4 : Vec F S1x1x1024 .f32) (y : Vec F S1x1024 .f32) : Vec F S1x1024 .f32 :=
  k0_pay15 (k0_pay5 x0) (k0_pay8 x1) (k0_pay10 x4) y

variable (c : Dev nD) (i : grid0.Coords) (a2 : Memref sig .tc .vmem S1x512x1024 .f32) (h2 : a2.IsWhole) (a3 : Memref sig .tc .vmem S1x512x1024 .f32) (h3 : a3.IsWhole) (a4 : Memref sig .tc .vmem S1x512x1024 .f32) (h4 : a4.IsWhole) (a5 : Memref sig .tc .vmem S1x1024 .f32) (h5 : a5.IsWhole) (a6 : Memref sig .tc .vmem S1x1x1024 .f32) (h6 : a6.IsWhole) (a7 : Memref sig .tc .vmem S1x512x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x1024 .f32) (h10 : a10.IsWhole)
variable (x0 x1 x2 : Vec F S1x512x1024 .f32) (x3 : Vec F S1x1024 .f32) (x4 : Vec F S1x1x1024 .f32)

/-- At the first point the block of the gradient of `x` is its value at the blocks read. -/
theorem out_A_5 (hc0 : cond0_0 i) (hc1 : cond0_1 i) :
    out0_A_5 c i a2 h2 a3 h3 a4 h4 a5 h5 a6 h6 a7 h7 a8 h8 a9 h9 a10 h10 hc0 hc1 x0 x1 x2 x3 x4 = blk5 x0 x1 x2 x3 x4 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero (S := S1x512x1024) hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At the first point the shift's gradient gains the block's. -/
theorem out_A_6 (hc0 : cond0_0 i) (hc1 : cond0_1 i) :
    out0_A_6 c i a2 h2 a3 h3 a4 h4 a5 h5 a6 h6 a7 h7 a8 h8 a9 h9 a10 h10 hc0 hc1 x0 x1 x2 x3 x4 = acc6 x0 (k0_pay3 (F := F)) := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At the first point the scale's gradient gains the block's. -/
theorem out_A_7 (hc0 : cond0_0 i) (hc1 : cond0_1 i) :
    out0_A_7 c i a2 h2 a3 h3 a4 h4 a5 h5 a6 h6 a7 h7 a8 h8 a9 h9 a10 h10 hc0 hc1 x0 x1 x2 x3 x4 = acc7 x0 x1 x3 (k0_pay4 (F := F)) := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At the first point the gain's gradient gains the block's. -/
theorem out_A_8 (hc0 : cond0_0 i) (hc1 : cond0_1 i) :
    out0_A_8 c i a2 h2 a3 h3 a4 h4 a5 h5 a6 h6 a7 h7 a8 h8 a9 h9 a10 h10 hc0 hc1 x0 x1 x2 x3 x4 = acc8 x0 x1 x4 (k0_pay2 (F := F)) := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At a point inside an example the block of the gradient of `x` is its value at the blocks read. -/
theorem out_B_5 (hc0 : ¬cond0_0 i) (hc1 : ¬cond0_1 i) (y6 y7 : Vec F S1x1x1024 .f32) (y8 : Vec F S1x1024 .f32) :
    out0_B_5 c i a2 h2 a3 h3 a4 h4 a5 h5 a6 h6 a7 h7 a8 h8 a9 h9 a10 h10 hc0 hc1 x0 x1 x2 x3 x4 y6 y7 y8 = blk5 x0 x1 x2 x3 x4 := by
  unfold out0_B_5
  rw [View.read_writes_eq_canon _ _ _ (cover0_B_5 c i a2 h2 a3 h3 a4 h4 a5 h5 a6 h6 a7 h7 a8 h8 a9 h9 a10 h10 hc0 hc1 x0 x1 x2 x3 x4 y6 y7 y8)]
  unfold kernelRun0_B
  dsimp only
  sl_unfold_words
  rw [View.canon_unit_zero (S := S1x512x1024) hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At a point inside an example the shift's gradient gains the block's. -/
theorem out_B_6 (hc0 : ¬cond0_0 i) (hc1 : ¬cond0_1 i) (y6 y7 : Vec F S1x1x1024 .f32) (y8 : Vec F S1x1024 .f32) :
    out0_B_6 c i a2 h2 a3 h3 a4 h4 a5 h5 a6 h6 a7 h7 a8 h8 a9 h9 a10 h10 hc0 hc1 x0 x1 x2 x3 x4 y6 y7 y8 = acc6 x0 y6 := by
  unfold out0_B_6
  rw [View.read_writes_eq_canon _ _ _ (cover0_B_6 c i a2 h2 a3 h3 a4 h4 a5 h5 a6 h6 a7 h7 a8 h8 a9 h9 a10 h10 hc0 hc1 x0 x1 x2 x3 x4 y6 y7 y8)]
  unfold kernelRun0_B
  dsimp only
  sl_unfold_words
  rw [View.canon_unit_zero (S := S1x1x1024) hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At a point inside an example the scale's gradient gains the block's. -/
theorem out_B_7 (hc0 : ¬cond0_0 i) (hc1 : ¬cond0_1 i) (y6 y7 : Vec F S1x1x1024 .f32) (y8 : Vec F S1x1024 .f32) :
    out0_B_7 c i a2 h2 a3 h3 a4 h4 a5 h5 a6 h6 a7 h7 a8 h8 a9 h9 a10 h10 hc0 hc1 x0 x1 x2 x3 x4 y6 y7 y8 = acc7 x0 x1 x3 y7 := by
  unfold out0_B_7
  rw [View.read_writes_eq_canon _ _ _ (cover0_B_7 c i a2 h2 a3 h3 a4 h4 a5 h5 a6 h6 a7 h7 a8 h8 a9 h9 a10 h10 hc0 hc1 x0 x1 x2 x3 x4 y6 y7 y8)]
  unfold kernelRun0_B
  dsimp only
  sl_unfold_words
  rw [View.canon_unit_zero (S := S1x1x1024) hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At a point inside an example the gain's gradient gains the block's. -/
theorem out_B_8 (hc0 : ¬cond0_0 i) (hc1 : ¬cond0_1 i) (y6 y7 : Vec F S1x1x1024 .f32) (y8 : Vec F S1x1024 .f32) :
    out0_B_8 c i a2 h2 a3 h3 a4 h4 a5 h5 a6 h6 a7 h7 a8 h8 a9 h9 a10 h10 hc0 hc1 x0 x1 x2 x3 x4 y6 y7 y8 = acc8 x0 x1 x4 y8 := by
  unfold out0_B_8
  rw [View.read_writes_eq_canon _ _ _ (cover0_B_8 c i a2 h2 a3 h3 a4 h4 a5 h5 a6 h6 a7 h7 a8 h8 a9 h9 a10 h10 hc0 hc1 x0 x1 x2 x3 x4 y6 y7 y8)]
  unfold kernelRun0_B
  dsimp only
  sl_unfold_words
  rw [View.canon_unit_zero (S := S1x1024) hz2]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At an example's first point but the first the block of the gradient of `x` is its value at the blocks read. -/
theorem out_C_5 (hc0 : ¬cond0_0 i) (hc1 : cond0_1 i) (y8 : Vec F S1x1024 .f32) :
    out0_C_5 c i a2 h2 a3 h3 a4 h4 a5 h5 a6 h6 a7 h7 a8 h8 a9 h9 a10 h10 hc0 hc1 x0 x1 x2 x3 x4 y8 = blk5 x0 x1 x2 x3 x4 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 y8)]
  unfold kernelRun0_C
  dsimp only
  sl_unfold_words
  rw [View.canon_unit_zero (S := S1x512x1024) hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At an example's first point but the first the shift's gradient gains the block's. -/
theorem out_C_6 (hc0 : ¬cond0_0 i) (hc1 : cond0_1 i) (y8 : Vec F S1x1024 .f32) :
    out0_C_6 c i a2 h2 a3 h3 a4 h4 a5 h5 a6 h6 a7 h7 a8 h8 a9 h9 a10 h10 hc0 hc1 x0 x1 x2 x3 x4 y8 = acc6 x0 (k0_pay3 (F := F)) := by
  unfold out0_C_6
  rw [View.read_writes_eq_canon _ _ _ (cover0_C_6 c i a2 h2 a3 h3 a4 h4 a5 h5 a6 h6 a7 h7 a8 h8 a9 h9 a10 h10 hc0 hc1 x0 x1 x2 x3 x4 y8)]
  unfold kernelRun0_C
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At an example's first point but the first the scale's gradient gains the block's. -/
theorem out_C_7 (hc0 : ¬cond0_0 i) (hc1 : cond0_1 i) (y8 : Vec F S1x1024 .f32) :
    out0_C_7 c i a2 h2 a3 h3 a4 h4 a5 h5 a6 h6 a7 h7 a8 h8 a9 h9 a10 h10 hc0 hc1 x0 x1 x2 x3 x4 y8 = acc7 x0 x1 x3 (k0_pay4 (F := F)) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 y8)]
  unfold kernelRun0_C
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

/-- At an example's first point but the first the gain's gradient gains the block's. -/
theorem out_C_8 (hc0 : ¬cond0_0 i) (hc1 : cond0_1 i) (y8 : Vec F S1x1024 .f32) :
    out0_C_8 c i a2 h2 a3 h3 a4 h4 a5 h5 a6 h6 a7 h7 a8 h8 a9 h9 a10 h10 hc0 hc1 x0 x1 x2 x3 x4 y8 = acc8 x0 x1 x4 y8 := by
  unfold out0_C_8
  rw [View.read_writes_eq_canon _ _ _ (cover0_C_8 c i a2 h2 a3 h3 a4 h4 a5 h5 a6 h6 a7 h7 a8 h8 a9 h9 a10 h10 hc0 hc1 x0 x1 x2 x3 x4 y8)]
  unfold kernelRun0_C
  dsimp only
  sl_unfold_words
  rw [View.canon_unit_zero (S := S1x1024) hz2]
  simp only [View.readAt_eq_ld, h2.read_unread, h3.read_unread, h4.read_unread, h5.read_unread, h6.read_unread, h8.read_unread, h9.read_unread,
    h10.read_unread, View.ld_unit_zero (S := S1x512x1024) hz3, View.ld_unit_zero (S := S1x1x1024) hz3, View.ld_unit_zero (S := S1x1024) hz2]
  rfl

end Cert.KernelIdeal.NormCases
-- ==== Proof.NormArrays.lean ====
/-
  The four result arrays of the norm's backward kernel over the reals, each at an index as a term over the arguments.
-/
module

public import proofs.«01_k».proof.Proof.NormCases
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.NormArrays

open Cert.KernelIdeal Cert.KernelIdeal.Gen Cert.KernelIdeal.NormCases Idealize.ShloMosaic.Pointwise

/-- `1 / √(mean of the squares + 1e-6)` of a row of `x`, the constants the rationals the kernel's words denote. -/
abbrev rr (x : FVec Ideal S2x2048x1024 .f32) (b : Fin 2) (r : Fin 2048) : EReal :=
  Ideal.rsqrt (Ideal.div (∑ k, x (ix3 b r k) * x (ix3 b r k)) (Ideal.ofBits FTy.f32 1149239296#32) + Ideal.ofBits FTy.f32 897988541#32)

/-- The gradient reaching the normalised row: `dh` times the gain times `1 + scale`. -/
abbrev dn (g : FVec Ideal S1024 .f32) (sc : FVec Ideal S2x1024 .f32) (dh : FVec Ideal S2x2048x1024 .f32) (b : Fin 2) (r : Fin 2048)
    (k : Fin 1024) : EReal :=
  dh (ix3 b r k) * (g (ix1 k) * (1 + sc (ix2 b k)))

/-- The kernel's gradient of `x`. -/
def KX (x : FVec Ideal S2x2048x1024 .f32) (g : FVec Ideal S1024 .f32) (sc : FVec Ideal S2x1024 .f32)
    (dh dxo : FVec Ideal S2x2048x1024 .f32) : FVec Ideal S2x2048x1024 .f32 := fun i =>
  dxo (ix3 (i 0) (i 1) (i 2)) + rr x (i 0) (i 1) * (dn g sc dh (i 0) (i 1) (i 2) - x (ix3 (i 0) (i 1) (i 2)) * rr x (i 0) (i 1)
    * Ideal.div (∑ k, dn g sc dh (i 0) (i 1) k * (x (ix3 (i 0) (i 1) k) * rr x (i 0) (i 1))) (Ideal.ofBits FTy.f32 1149239296#32))

/-- The kernel's gradient of the shift. -/
def KShift (dh : FVec Ideal S2x2048x1024 .f32) : FVec Ideal S2x1x1024 .f32 := fun i => ∑ r : Fin 2048, dh (ix3 (i 0) r (i 2))

/-- The kernel's gradient of the scale. -/
def KScale (x : FVec Ideal S2x2048x1024 .f32) (g : FVec Ideal S1024 .f32) (dh : FVec Ideal S2x2048x1024 .f32) :
    FVec Ideal S2x1x1024 .f32 := fun i =>
  ∑ r : Fin 2048, dh (ix3 (i 0) r (i 2)) * (x (ix3 (i 0) r (i 2)) * rr x (i 0) r * g (ix1 (i 2)))

/-- The kernel's gradient of the gain. -/
def KGain (x : FVec Ideal S2x2048x1024 .f32) (sc : FVec Ideal S2x1024 .f32) (dh : FVec Ideal S2x2048x1024 .f32) :
    FVec Ideal S1x1024 .f32 := fun i =>
  ∑ b : Fin 2, ∑ r : Fin 2048, dh (ix3 b r (i 1)) * (1 + sc (ix2 b (i 1))) * (x (ix3 b r (i 1)) * rr x b r)

variable (m : (ℓ : Loc nD τ sig) → Buf (Elt Ideal) ℓ) (c : Dev nD)

/-- Where each window's block lies at a point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0] ∧ win0_4.index t = ![t.val / 4, 0, 0]
    ∧ win0_5.index t = ![t.val / 4, t.val % 4, 0] ∧ win0_6.index t = ![t.val / 4, 0, 0] ∧ win0_7.index t = ![t.val / 4, 0, 0]
    ∧ win0_8.index t = ![0, 0] := by decide +kernel

abbrev X : FVec Ideal S2x2048x1024 .f32 := m ((c : Thread nD τ).loc main_arg0)
abbrev G : FVec Ideal S1024 .f32 := m ((c : Thread nD τ).loc main_arg1)
abbrev SC : FVec Ideal S2x1024 .f32 := m ((c : Thread nD τ).loc main_arg3)
abbrev DH : FVec Ideal S2x2048x1024 .f32 := m ((c : Thread nD τ).loc main_arg4)
abbrev DXO : FVec Ideal S2x2048x1024 .f32 := m ((c : Thread nD τ).loc main_arg5)

/-- The example a point works on, and the row of the example that row `r` of its block is. -/
def bt (t : Fin cfg0.N) : Fin 2 := ⟨t.val / 4, by have : t.val < 8 := t.isLt; omega⟩
def row (t : Fin cfg0.N) (r : Fin 512) : Fin 2048 := ⟨t.val % 4 * 512 + r.val, by have := r.isLt; omega⟩

theorem blk0 (t : Fin cfg0.N) (a : Fin 1) (r : Fin 512) (k : Fin 1024) : iblk m c 0 t (ix3 a r k) = DH m c (ix3 (bt t) (row t r) k) := by
  blk_ext [iblk, V, idx t, bt, row]
theorem blk1 (t : Fin cfg0.N) (a : Fin 1) (r : Fin 512) (k : Fin 1024) : iblk m c 1 t (ix3 a r k) = X m c (ix3 (bt t) (row t r) k) := by
  blk_ext [iblk, V, idx t, bt, row]
theorem blk2 (t : Fin cfg0.N) (a : Fin 1) (r : Fin 512) (k : Fin 1024) : iblk m c 2 t (ix3 a r k) = DXO m c (ix3 (bt t) (row t r) k) := by
  blk_ext [iblk, V, idx t, bt, row]
theorem blk3 (t : Fin cfg0.N) (a : Fin 1) (k : Fin 1024) : iblk m c 3 t (ix2 a k) = G m c (ix1 k) := by
  unfold iblk
  blk_simp [idx t]
  entry_read
  pointwise
  blk_ext [idx t]
theorem blk4 (t : Fin cfg0.N) (a b : Fin 1) (k : Fin 1024) : iblk m c 4 t (ix3 a b k) = SC m c (ix2 (bt t) k) := by
  unfold iblk
  blk_simp [idx t]
  entry_read
  pointwise
  blk_ext [idx t, bt]

/-- What a point adds to the scale's gradient. -/
theorem acc7_at (x0 x1 : Vec Ideal S1x512x1024 .f32) (x3 : Vec Ideal S1x1024 .f32) (y : Vec Ideal S1x1x1024 .f32) (a b : Fin 1) (k : Fin 1024) :
    acc7 x0 x1 x3 y (ix3 a b k) = y (ix3 a b k) + ∑ r : Fin 512, x0 (ix3 0 r k) * (x1 (ix3 0 r k) * Ideal.rsqrt (Ideal.div (∑ l : Fin 1024, x1 (ix3 0 r l)
      * x1 (ix3 0 r l)) (Ideal.ofBits FTy.f32 1149239296#32) + Ideal.ofBits FTy.f32 897988541#32) * x3 (ix2 0 k)) := by
  obtain rfl : a = 0 := Subsingleton.elim _ _
  obtain rfl : b = 0 := Subsingleton.elim _ _
  unfold acc7 k0_pay14 k0_pay5 k0_pay8 k0_pay7 k0_pay6 k0_pay9
  pointwise

/-- What a point adds to the gain's gradient. -/
theorem acc8_at (x0 x1 : Vec Ideal S1x512x1024 .f32) (x4 : Vec Ideal S1x1x1024 .f32) (y : Vec Ideal S1x1024 .f32) (a : Fin 1) (k : Fin 1024) :
    acc8 x0 x1 x4 y (ix2 a k) = y (ix2 a k) + ∑ r : Fin 512, x0 (ix3 0 r k) * (1 + x4 (ix3 0 0 k)) * (x1 (ix3 0 r k) * Ideal.rsqrt (Ideal.div (∑ l : Fin 1024, x1 (ix3 0 r l)
      * x1 (ix3 0 r l)) (Ideal.ofBits FTy.f32 1149239296#32) + Ideal.ofBits FTy.f32 897988541#32)) := by
  unfold acc8 k0_pay15 k0_pay5 k0_pay8 k0_pay7 k0_pay6 k0_pay10
  pointwise

theorem acc6_at (x0 : Vec Ideal S1x512x1024 .f32) (y : Vec Ideal S1x1x1024 .f32) (a b : Fin 1) (k : Fin 1024) :
    acc6 x0 y (ix3 a b k) = y (ix3 a b k) + ∑ r : Fin 512, x0 (ix3 0 r k) := by
  obtain rfl : a = 0 := Subsingleton.elim _ _
  obtain rfl : b = 0 := Subsingleton.elim _ _
  unfold acc6 k0_pay13 k0_pay12 k0_pay11 k0_pay5
  pointwise

theorem zero3 (i : S1x1x1024.Idx) : k0_pay3 (F := Ideal) i = (0 : EReal) := by unfold k0_pay3; pointwise
theorem zero4 (i : S1x1x1024.Idx) : k0_pay4 (F := Ideal) i = (0 : EReal) := by unfold k0_pay4; pointwise
theorem zero2 (i : S1x1024.Idx) : k0_pay2 (F := Ideal) i = (0 : EReal) := by unfold k0_pay2; pointwise

theorem emb5 (t : Fin cfg0.N) (y : S1x512x1024.Idx) : (win0_5.blk t).view.emb y = ix3 (bt t) (row t (y 1)) (y 2) := by
  blk_ext [idx t, bt, row]

theorem emb6 (t : Fin cfg0.N) (y : S1x1x1024.Idx) : ((cfg0.win 6).blk t).view.emb y = ix3 (bt t) 0 (y 2) := by
  blk_ext [idx t, bt]
theorem emb7 (t : Fin cfg0.N) (y : S1x1x1024.Idx) : ((cfg0.win 7).blk t).view.emb y = ix3 (bt t) 0 (y 2) := by
  blk_ext [idx t, bt]
theorem emb8 (t : Fin cfg0.N) (y : S1x1024.Idx) : ((cfg0.win 8).blk t).view.emb y = ix2 0 (y 1) := by
  blk_ext [idx t]

/-- The four points of an example, their examples and rows. -/
theorem bt_run (t : Fin cfg0.N) (s : Fin 4) (h) : bt ⟨4 * (t.val / 4) + s.val, h⟩ = bt t := by
  apply Fin.ext; have := s.isLt; simp only [bt]; omega
theorem row_run (t : Fin cfg0.N) (s : Fin 4) (h) (r : Fin 512) (h') : row ⟨4 * (t.val / 4) + s.val, h⟩ r = ⟨s.val * 512 + r.val, h'⟩ := by
  apply Fin.ext; have := s.isLt; simp only [row]; omega

/-- The block of the gradient of `x` at an index. -/
theorem blk5_at (x0 x1 x2 : Vec Ideal S1x512x1024 .f32) (x3 : Vec Ideal S1x1024 .f32) (x4 : Vec Ideal S1x1x1024 .f32) (a : Fin 1) (r : Fin 512) (k : Fin 1024) :
    blk5 x0 x1 x2 x3 x4 (ix3 a r k) = x2 (ix3 0 r k) + Ideal.rsqrt (Ideal.div (∑ l : Fin 1024, x1 (ix3 0 r l) * x1 (ix3 0 r l)) (Ideal.ofBits FTy.f32 1149239296#32) + Ideal.ofBits FTy.f32 897988541#32)
      * (x0 (ix3 0 r k) * (x3 (ix2 0 k) * (1 + x4 (ix3 0 0 k))) - x1 (ix3 0 r k) * Ideal.rsqrt (Ideal.div (∑ l : Fin 1024, x1 (ix3 0 r l) * x1 (ix3 0 r l)) (Ideal.ofBits FTy.f32 1149239296#32) + Ideal.ofBits FTy.f32 897988541#32)
        * Ideal.div (∑ l : Fin 1024, x0 (ix3 0 r l) * (x3 (ix2 0 l) * (1 + x4 (ix3 0 0 l))) * (x1 (ix3 0 r l) * Ideal.rsqrt (Ideal.div (∑ l : Fin 1024, x1 (ix3 0 r l) * x1 (ix3 0 r l)) (Ideal.ofBits FTy.f32 1149239296#32) + Ideal.ofBits FTy.f32 897988541#32)))
          (Ideal.ofBits FTy.f32 1149239296#32)) := by
  unfold blk5 k0_pay1 k0_pay17 k0_pay16 k0_pay5 k0_pay8 k0_pay7 k0_pay6 k0_pay9 k0_pay10
  pointwise

/-- THE GRADIENT OF `x`: every point writes its rows. -/
theorem final5 : (dats m 0 c).arrAt 5 (cfgs 0).N = KX (X m c) (G m c) (SC m c) (DH m c) (DXO m c) := by
  refine (dats m 0 c).arrAt_eq_of_covers 5 _ (by decide +kernel) fun t hf y => ?_
  blk_simp
  rw [after0_5]
  have h : (outsAt0 m c t.val t.isLt).1 = blk5 (iblk m c 0 t) (iblk m c 1 t) (iblk m c 2 t) (iblk m c 3 t) (iblk m c 4 t) := by
    by_cases h8 : t.val % 8 = 0
    · rw [outsAt0_A m c t h8 (by omega), out_A_5]
    · by_cases h4 : t.val % 4 = 0
      · rw [outsAt0_C m c t h8 h4, out_C_5]
      · rw [outsAt0_B m c t h8 h4, out_B_5]
  rw [h]
  rw [show (win0_5.blk t).view.emb y = _ from emb5 t y]
  obtain ⟨a, r, k, rfl⟩ : ∃ (a : Fin 1) (r : Fin 512) (k : Fin 1024), y = ix3 a r k := ⟨_, _, _, eq_ix3 y⟩
  refine (blk5_at ..).trans ?_
  simp only [blk0, blk1, blk2, blk3, blk4]
  rfl

/-- THE GRADIENT OF THE SHIFT: an example's four points add their rows, the last writes the sum. -/
theorem final6 : (dats m 0 c).arrAt 6 (cfgs 0).N = KShift (DH m c) := by
  refine (dats m 0 c).arrAt_eq_of_covers 6 _ (by decide +kernel) fun t hf y => ?_
  blk_simp
  rw [after0_6]
  have h6 := Pipeline.eq_sum_fin_of_reset_step_apply_of_flush (fun n h => (outsAt0 m c n h).2.1) 4 (fun _ => (0 : EReal))
    (fun t j => ∑ r : Fin 512, DH m c (ix3 (bt t) (row t r) (j 2)))
    (fun t h j => by
      by_cases h8 : t.val % 8 = 0
      · rw [outsAt0_A m c t h8 h, out_A_6]
        obtain ⟨a, b, k, rfl⟩ : ∃ (a b : Fin 1) (k : Fin 1024), j = ix3 a b k := ⟨_, _, _, eq_ix3 j⟩
        refine (acc6_at ..).trans ?_
        rw [zero3]
        simp only [blk0]
        rfl
      · rw [outsAt0_C m c t h8 h, out_C_6]
        obtain ⟨a, b, k, rfl⟩ : ∃ (a b : Fin 1) (k : Fin 1024), j = ix3 a b k := ⟨_, _, _, eq_ix3 j⟩
        refine (acc6_at ..).trans ?_
        rw [zero3]
        simp only [blk0]
        rfl)
    (fun t h j => by
      rw [outsAt0_B m c t (by omega) h, out_B_6]
      obtain ⟨a, b, k, rfl⟩ : ∃ (a b : Fin 1) (k : Fin 1024), j = ix3 a b k := ⟨_, _, _, eq_ix3 j⟩
      refine (acc6_at ..).trans ?_
      simp only [blk0]
      rfl) t ((flush0_6 t).mp hf) y
  refine h6.trans ?_
  rw [zero_add, emb6]
  unfold KShift
  refine Eq.trans ?_ (Fin.sum_mul_add_fin 4 512 (fun r : Fin 2048 => DH m c (ix3 (bt t) r (y 2))) rfl)
  refine Finset.sum_congr rfl fun s _ => Finset.sum_congr rfl fun r _ => ?_
  rw [bt_run, row_run]

/-- THE GRADIENT OF THE SCALE, likewise. -/
theorem final7 : (dats m 0 c).arrAt 7 (cfgs 0).N = KScale (X m c) (G m c) (DH m c) := by
  refine (dats m 0 c).arrAt_eq_of_covers 7 _ (by decide +kernel) fun t hf y => ?_
  blk_simp
  rw [after0_7]
  have h7 := Pipeline.eq_sum_fin_of_reset_step_apply_of_flush (fun n h => (outsAt0 m c n h).2.2.1) 4 (fun _ => (0 : EReal))
    (fun t j => ∑ r : Fin 512, DH m c (ix3 (bt t) (row t r) (j 2)) * (X m c (ix3 (bt t) (row t r) (j 2)) * rr (X m c) (bt t) (row t r) * G m c (ix1 (j 2))))
    (fun t h j => by
      by_cases h8 : t.val % 8 = 0
      · rw [outsAt0_A m c t h8 h, out_A_7]
        obtain ⟨a, b, k, rfl⟩ : ∃ (a b : Fin 1) (k : Fin 1024), j = ix3 a b k := ⟨_, _, _, eq_ix3 j⟩
        refine (acc7_at ..).trans ?_
        rw [zero4]
        simp only [blk0, blk1, blk3]
        rfl
      · rw [outsAt0_C m c t h8 h, out_C_7]
        obtain ⟨a, b, k, rfl⟩ : ∃ (a b : Fin 1) (k : Fin 1024), j = ix3 a b k := ⟨_, _, _, eq_ix3 j⟩
        refine (acc7_at ..).trans ?_
        rw [zero4]
        simp only [blk0, blk1, blk3]
        rfl)
    (fun t h j => by
      rw [outsAt0_B m c t (by omega) h, out_B_7]
      obtain ⟨a, b, k, rfl⟩ : ∃ (a b : Fin 1) (k : Fin 1024), j = ix3 a b k := ⟨_, _, _, eq_ix3 j⟩
      refine (acc7_at ..).trans ?_
      simp only [blk0, blk1, blk3]
      rfl) t ((flush0_7 t).mp hf) y
  refine h7.trans ?_
  rw [zero_add, emb7]
  unfold KScale
  refine Eq.trans ?_ (Fin.sum_mul_add_fin 4 512 (fun r : Fin 2048 => DH m c (ix3 (bt t) r (y 2)) * (X m c (ix3 (bt t) r (y 2)) * rr (X m c) (bt t) r * G m c (ix1 (y 2)))) rfl)
  refine Finset.sum_congr rfl fun s _ => Finset.sum_congr rfl fun r _ => ?_
  rw [bt_run, row_run]

/-- THE GRADIENT OF THE GAIN: all eight points add their rows, the last writes the sum. -/
theorem final8 : (dats m 0 c).arrAt 8 (cfgs 0).N = KGain (X m c) (SC m c) (DH m c) := by
  refine (dats m 0 c).arrAt_eq_of_covers 8 _ (by decide +kernel) fun t hf y => ?_
  have hN : cfg0.N = 8 := N_0
  blk_simp
  rw [after0_8]
  have h8 := Pipeline.eq_sum_fin_of_reset_step_apply_last (fun n h => (outsAt0 m c n h).2.2.2) 8 (fun _ => (0 : EReal))
    (fun t j => ∑ r : Fin 512, DH m c (ix3 (bt t) (row t r) (j 1)) * (1 + SC m c (ix2 (bt t) (j 1))) * (X m c (ix3 (bt t) (row t r) (j 1)) * rr (X m c) (bt t) (row t r)))
    (fun t h j => by
      rw [outsAt0_A m c t h (by omega), out_A_8]
      obtain ⟨a, k, rfl⟩ : ∃ (a : Fin 1) (k : Fin 1024), j = ix2 a k := ⟨_, _, eq_ix2 j⟩
      refine (acc8_at ..).trans ?_
      rw [zero2]
      simp only [blk0, blk1, blk4]
      rfl)
    (fun t h j => by
      by_cases h4 : t.val % 4 = 0
      · rw [outsAt0_C m c t h h4, out_C_8]
        obtain ⟨a, k, rfl⟩ : ∃ (a : Fin 1) (k : Fin 1024), j = ix2 a k := ⟨_, _, eq_ix2 j⟩
        refine (acc8_at ..).trans ?_
        simp only [blk0, blk1, blk4]
        rfl
      · rw [outsAt0_B m c t h h4, out_B_8]
        obtain ⟨a, k, rfl⟩ : ∃ (a : Fin 1) (k : Fin 1024), j = ix2 a k := ⟨_, _, eq_ix2 j⟩
        refine (acc8_at ..).trans ?_
        simp only [blk0, blk1, blk4]
        rfl) hN.le t (by have := (flush0_8 t).mp hf; have : t.val < 8 := t.isLt; omega) y
  refine h8.trans ?_
  rw [zero_add, emb8]
  unfold KGain
  exact Fin.sum_points_lanes_congr 4 (fun p k ha hl => rfl)

end Cert.KernelIdeal.NormArrays
-- ==== Proof.Sums.lean ====
/-
  Sums over the reals that more than one claim needs: a sum over the first two axes of a rank-3 array, and
  finite sums, quotients and bounds of extended reals that are real numbers.
-/
module

public import Idealize.ShloMosaic.Lib.Pointwise
public import Idealize.ShloMosaic.Lib.ReduceAll
public import Idealize.ShloMosaic.Lib.Tactic

@[expose] public section

noncomputable section

open Idealize.ShloMosaic

namespace Cert.Sums

/-- An index of a rank-3 array that a sum over its first two axes sends to column `k` is `(a, b, k)` for some `a`, `b`. -/
theorem fiber01 {n0 n1 n2 : Nat} (h : (⟨3, ![n0, n1, n2]⟩ : Shape).ReducesTo [0, 1] ⟨1, ![n2]⟩) (k : Fin n2)
    (i : (⟨3, ![n0, n1, n2]⟩ : Shape).Idx) : h.drop i = ix1 k ↔ ∃ p : Fin n0 × Fin n1, ix3 p.1 p.2 k = i := by
  constructor
  · intro e
    refine ⟨(i 0, i 1), ?_⟩
    have e0 := congrArg Fin.val (congrFun e 0)
    funext a; apply Fin.ext
    match a with
    | ⟨0, _⟩ => rfl
    | ⟨1, _⟩ => rfl
    | ⟨2, _⟩ => exact e0.symm
  · rintro ⟨p, rfl⟩
    funext a; apply Fin.ext
    match a with
    | ⟨0, _⟩ => rfl

/-- A host sum over the first two axes of a rank-3 array, at a column: the double sum. -/
theorem hostReduceAdd01 {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  rw [Finset.sum_filter_eq_sum_of_fiber _ (fun p : Fin n0 × Fin n1 => ix3 p.1 p.2 k) (fun p q e => ?_) (fiber01 h k) v,
    Fintype.sum_prod_type]
  exact Prod.ext (congrFun e 0) (congrFun e 1)

/-- A finite sum of real numbers is the real sum. -/
theorem coe_sum {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The quotient of two real numbers whose divisor is not 0 is the real quotient. -/
theorem coe_div (a : ℝ) {b : ℝ} (hb : b ≠ 0) : Ideal.div (a : EReal) (b : EReal) = ((a / b : ℝ) : EReal) := by
  rw [Ideal.div_coe hb, ← EReal.coe_mul]; congr 1; ring

/-- The reciprocal root of a positive real number. -/
theorem coe_rsqrt {v : ℝ} (hv : 0 < v) : Ideal.rsqrt (v : EReal) = (((Real.sqrt v)⁻¹ : ℝ) : EReal) := by
  rw [Ideal.rsqrt_coe, if_neg (not_lt.mpr hv.le), if_neg hv.ne']

/-- An extended real whose absolute value is below `+inf` is a real number. -/
theorem real_of_abs_lt {a : EReal} (h : max a (-a) < ⊤) : ∃ r : ℝ, a = r := by
  induction a using EReal.rec with
  | bot => exact absurd h (by simp)
  | coe r => exact ⟨r, rfl⟩
  | top => exact absurd h (by simp)

/-- The word of `+inf`. -/
theorem inf_eq : Ideal.ofBits FTy.f32 0x7F800000#32 = ⊤ := by
  simp [Ideal.ofBits, Ideal.ieee]

/-- A comparison `|a| < +inf` that is true makes `a` a real number. -/
theorem real_of_cmp {a : EReal} (h : Ideal.cmp .olt (max a (-a)) (Ideal.ofBits FTy.f32 0x7F800000#32) = 1#1) :
    ∃ r : ℝ, a = r := by
  apply real_of_abs_lt
  by_contra hn
  rw [inf_eq] at h
  simp [Ideal.cmp, hn] at h

/-- Two bits whose conjunction is 1 are both 1. -/
theorem and_one {a b : BitVec 1} (h : a &&& b = 1#1) : a = 1#1 ∧ b = 1#1 := by
  revert h; revert a b; decide

/-- An array of which a program's test `all(|x| < inf)` is true holds real numbers. -/
theorem real_of_all {s t u : Shape} {axes : List (Fin s.rank)} [Subsingleton t.Idx] (x : FVec Ideal s .f32) (bound : FVec Ideal s .f32)
    (hb : ∀ i, bound i = Ideal.ofBits FTy.f32 0x7F800000#32) (init : IVec u 1) (h : s.ReducesTo axes t) (hu : 0 < u.numel)
    (j : t.Idx) (e : Host.reduce IntOp.andi (cmpf .olt (Host.absf x) bound) init h hu j = 1#1) (i : s.Idx) : ∃ r : ℝ, x i = r := by
  have e1 := Host.reduce_andi_all _ init h hu j e i
  apply real_of_cmp
  rw [← hb i]
  exact e1

end Cert.Sums
-- ==== Proof.NormRef.lean ====
/-
  The reference's four results of the norm's backward pass over the reals, each at an index.
-/
module

public import proofs.«01_k».proof.Proof.Gen.ReferenceIdeal.Run
public import proofs.«01_k».proof.Proof.Gen.ReferenceIdeal.Read
public import proofs.«01_k».proof.Proof.Sums
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.NormRef

open Cert.ReferenceIdeal Cert.ReferenceIdeal.Gen Cert.ReferenceIdeal.Read Idealize.ShloMosaic.Pointwise

variable (x : FVec Ideal S2x2048x1024 .f32) (g : FVec Ideal S1024 .f32) (sc : FVec Ideal S2x1024 .f32)
  (dh dxo : FVec Ideal S2x2048x1024 .f32)

/-- The quotient of the row's sum of squares by the row's length, plus epsilon. -/
def vv (x : FVec Ideal S2x2048x1024 .f32) (b : Fin 2) (r : Fin 2048) : EReal :=
  Ideal.div (∑ k : Fin 1024, x (ix3 b r k) * x (ix3 b r k)) (Ideal.ofBits FTy.f32 1149239296#32) + Ideal.ofBits FTy.f32 897988541#32

/-- What a row's mean square receives: the row's product with the gradient of the normalised row, times the slope of
    the reciprocal root, over the row's length. -/
def cc (b : Fin 2) (r : Fin 2048) : EReal :=
  Ideal.div ((∑ k : Fin 1024, x (ix3 b r k) * (dh (ix3 b r k) * (1 + sc (ix2 b k)) * g (ix1 k)))
    * (Ideal.ofBits FTy.f32 3204448256#32 * Ideal.div (Ideal.rsqrt (vv x b r)) (vv x b r))) (Ideal.ofBits FTy.f32 1149239296#32)

/-- The gradient of the shift: the column sums of one batch of `dh`. -/
theorem shift_at (i : S2x1x1024.Idx) : val_main_v55 (F := Ideal) dh i = ∑ r : Fin 2048, dh (ix3 (i 0) r (i 2)) := by
  rw [← val_main_v55_eq]
  pointwise
  simp only [Finset.univ_unique, Finset.sum_singleton]

/-- The gradient of the scale: the column sums of the normalised rows times the gain times `dh`. -/
theorem scale_at (i : S2x1x1024.Idx) : val_main_v56 (F := Ideal) x g dh i
    = ∑ r : Fin 2048, x (ix3 (i 0) r (i 2)) * Ideal.rsqrt (vv x (i 0) r) * g (ix1 (i 2)) * dh (ix3 (i 0) r (i 2)) := by
  rw [← val_main_v56_eq]
  pointwise
  simp only [Finset.univ_unique, Finset.sum_singleton]
  rfl

/-- The gradient of the gain: the sums over both batches and all rows. -/
theorem gain_at (a : Fin 1) (k : Fin 1024) : val_main_v57 (F := Ideal) x sc dh (ix2 a k)
    = ∑ b : Fin 2, ∑ r : Fin 2048, x (ix3 b r k) * Ideal.rsqrt (vv x b r) * (dh (ix3 b r k) * (1 + sc (ix2 b k))) := by
  rw [← val_main_v57_eq]
  pointwise
  rw [Sums.hostReduceAdd01]
  pointwise
  simp only [Finset.univ_unique, Finset.sum_singleton, Sums.hostReduceAdd01]
  pointwise
  rfl

/-- The gradient of the norm's operand, as the rules of differentiation spell it. -/
theorem x_at (b : Fin 2) (r : Fin 2048) (k : Fin 1024) : val_main_v54 (F := Ideal) x g sc dh dxo (ix3 b r k)
    = dxo (ix3 b r k) + dh (ix3 b r k) * (1 + sc (ix2 b k)) * g (ix1 k) * Ideal.rsqrt (vv x b r)
      + x (ix3 b r k) * cc x g sc dh b r + cc x g sc dh b r * x (ix3 b r k) := by
  simp only [val_main_v54, val_main_v53, val_main_v52, val_main_v51, val_main_v50, val_main_v49, val_main_cst_12,
    val_main_v48, val_main_v47, val_main_cst_11, val_main_v46, val_main_v45, val_main_v44, val_main_v43,
    val_main_v42, val_main_v41, val_main_cst_10, val_main_v40, val_main_v39, val_main_cst_9, val_main_v38,
    val_main_v37, val_main_v36, val_main_v35, val_main_cst_8, val_main_v34, val_main_v33, val_main_cst_7,
    val_main_v32, val_main_v31, val_main_v30, val_main_v29, val_main_cst_6, val_main_v28, val_main_v27,
    val_main_cst_5, val_main_v26, val_main_v25, val_main_cst_4, val_main_v24, val_main_v23, val_main_v22,
    val_main_v21, val_main_v20, val_main_v19, val_main_v18, val_main_v17, val_main_cst_3, val_main_v16,
    val_main_v15, val_main_v14, val_main_v13, val_main_v12, val_main_v11, val_main_v10, val_main_v9,
    val_main_cst_2, val_main_v8, val_main_v7, val_main_v6, val_main_v5, val_main_cst_1, val_main_v4, val_main_v3,
    val_main_cst_0, val_main_v2, val_main_v1, val_main_cst, val_main_v0]
  pointwise
  simp only [Finset.univ_unique, Finset.sum_singleton]
  rfl

end Cert.ReferenceIdeal.NormRef
-- ==== Proof.RowGrad.lean ====
/-
  The gradient of one row through a reciprocal root mean square, over the extended reals: what the rules of
  differentiation give is what the form written out by hand gives, at all arguments, infinite ones included.
-/
module

public import proofs.«01_k».proof.Proof.Sums

@[expose] public section

noncomputable section

open Idealize.ShloMosaic

namespace Cert.RowGrad

/-- The word of the row's length is 1024. -/
theorem len_eq : Ideal.ofBits FTy.f32 1149239296#32 = ((1024 : ℝ) : EReal) := by
  simp [Ideal.ofBits, Ideal.ieee, -EReal.coe_mul]; norm_num

/-- The word of minus one half. -/
theorem half_eq : Ideal.ofBits FTy.f32 3204448256#32 = ((-(1 / 2) : ℝ) : EReal) := by
  simp [Ideal.ofBits, Ideal.ieee, -EReal.coe_mul]; norm_num

/-- The word of epsilon is a positive real number. -/
theorem eps_eq : ∃ e : ℝ, 0 < e ∧ Ideal.ofBits FTy.f32 897988541#32 = (e : EReal) := by
  refine ⟨_, ?_, by simp [Ideal.ofBits, Ideal.ieee, -EReal.coe_mul]; rfl⟩
  norm_num

/-- A real factor of any sign comes out of a sum of two equal terms. -/
theorem mul_coe_add_self (S : EReal) (a : ℝ) : S * (a : EReal) + S * (a : EReal) = S * ((a + a : ℝ) : EReal) := by
  induction S using EReal.rec with
  | coe r => rw [← EReal.coe_mul, ← EReal.coe_add, ← EReal.coe_mul, mul_add]
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A factor that is a real number and not negative comes out of a finite sum. -/
theorem sum_mul_coe {ι : Type} [Fintype ι] (f : ι → EReal) {s : ℝ} (hs : 0 ≤ s) : ∑ i, f i * (s : EReal) = (∑ i, f i) * (s : EReal) := by
  classical
  induction (Finset.univ : Finset ι) using Finset.induction_on with
  | empty => simp
  | insert a t ha ih =>
    rw [Finset.sum_insert ha, Finset.sum_insert ha, ih, mul_comm, mul_comm (∑ i ∈ t, f i), ← EReal.left_distrib_of_nonneg_of_ne_top (EReal.coe_nonneg.mpr hs) (EReal.coe_ne_top s), mul_comm]

variable (x d : Fin 1024 → EReal)

/-- The quotient of the row's sum of squares by the row's length, plus epsilon. -/
def vr : EReal := Ideal.div (∑ k : Fin 1024, x k * x k) (Ideal.ofBits FTy.f32 1149239296#32) + Ideal.ofBits FTy.f32 897988541#32

/-- What a row's mean square receives. -/
def cr : EReal :=
  Ideal.div ((∑ k : Fin 1024, x k * d k) * (Ideal.ofBits FTy.f32 3204448256#32 * Ideal.div (Ideal.rsqrt (vr x)) (vr x))) (Ideal.ofBits FTy.f32 1149239296#32)

/-- A row with an infinite element has an infinite mean square. -/
theorem vr_top {k : Fin 1024} (h : x k = ⊤ ∨ x k = ⊥) : vr x = ⊤ := by
  obtain ⟨e, he, hee⟩ := eps_eq
  have hk : x k * x k = ⊤ := by rcases h with h | h <;> rw [h] <;> rfl
  have nn : ∀ a : EReal, 0 ≤ a * a := fun a => by
    induction a using EReal.rec with
    | coe r => rw [← EReal.coe_mul]; exact EReal.coe_nonneg.mpr (mul_self_nonneg r)
    | top => exact le_top
    | bot => exact le_top
  have hs : ∑ k : Fin 1024, x k * x k = ⊤ := by
    refine top_le_iff.mp (hk ▸ ?_)
    exact Finset.single_le_sum (f := fun k => x k * x k) (fun i _ => nn (x i)) (Finset.mem_univ k)
  rw [vr, hs, len_eq, hee, Ideal.div_coe (by norm_num), EReal.top_mul_coe_of_pos (by norm_num), EReal.top_add_coe]

/-- One element of the gradient. -/
theorem row_all (k : Fin 1024) : d k * Ideal.rsqrt (vr x) + x k * cr x d + cr x d * x k
    = Ideal.rsqrt (vr x) * (d k - x k * Ideal.rsqrt (vr x) * Ideal.div (∑ l : Fin 1024, d l * (x l * Ideal.rsqrt (vr x))) (Ideal.ofBits FTy.f32 1149239296#32)) := by
  by_cases hx : ∀ k, ∃ r : ℝ, x k = r
  · choose x' hx using hx
    obtain ⟨e, he, hee⟩ := eps_eq
    have hv0 : 0 < (∑ k : Fin 1024, x' k * x' k) / 1024 + e :=
      add_pos_of_nonneg_of_pos (div_nonneg (Finset.sum_nonneg fun _ _ => mul_self_nonneg _) (by norm_num)) he
    have hv : vr x = (((∑ k : Fin 1024, x' k * x' k) / 1024 + e : ℝ) : EReal) := by
      simp only [vr, len_eq, hee, hx, ← EReal.coe_mul, Sums.coe_sum, Sums.coe_div _ (by norm_num : (1024 : ℝ) ≠ 0), ← EReal.coe_add]
    generalize (∑ k : Fin 1024, x' k * x' k) / 1024 + e = v at hv0 hv
    have hs : Ideal.rsqrt (vr x) = (((Real.sqrt v)⁻¹ : ℝ) : EReal) := by rw [hv, Sums.coe_rsqrt hv0]
    have hs0 : 0 < (Real.sqrt v)⁻¹ := inv_pos.mpr (Real.sqrt_pos.mpr hv0)
    have h2 : (Real.sqrt v)⁻¹ / v = (Real.sqrt v)⁻¹ * ((Real.sqrt v)⁻¹ * (Real.sqrt v)⁻¹) := by
      rw [div_eq_iff hv0.ne', mul_assoc, ← mul_inv, Real.mul_self_sqrt hv0.le, inv_mul_cancel₀ hv0.ne', mul_one]
    have hc : cr x d = (∑ k : Fin 1024, x k * d k) * ((-(1 / 2) * ((Real.sqrt v)⁻¹ / v) * (1 / 1024) : ℝ) : EReal) := by
      rw [cr, hs, hv, half_eq, len_eq, Sums.coe_div _ hv0.ne', ← EReal.coe_mul, Ideal.div_coe (by norm_num), mul_assoc, ← EReal.coe_mul]
    have hm : (∑ l : Fin 1024, d l * (x l * (((Real.sqrt v)⁻¹ : ℝ) : EReal))) = (∑ k : Fin 1024, x k * d k) * (((Real.sqrt v)⁻¹ : ℝ) : EReal) := by
      rw [← sum_mul_coe _ hs0.le]
      exact Finset.sum_congr rfl fun l _ => by rw [← mul_assoc, mul_comm (d l)]
    rw [hc, hs, hm, len_eq, Ideal.div_coe (by norm_num), hx k, h2]
    generalize (Real.sqrt v)⁻¹ = s at hs0
    generalize (∑ k : Fin 1024, x k * d k) = S
    rw [sub_eq_add_neg, EReal.left_distrib_of_nonneg_of_ne_top (EReal.coe_nonneg.mpr hs0.le) (EReal.coe_ne_top s), add_assoc, mul_comm (d k)]
    congr 1
    have e1 : ((x' k : ℝ) : EReal) * (S * ((-(1 / 2) * (s * (s * s)) * (1 / 1024) : ℝ) : EReal))
        = S * ((x' k * (-(1 / 2) * (s * (s * s)) * (1 / 1024)) : ℝ) : EReal) := by
      rw [mul_left_comm, ← EReal.coe_mul]
    have e2 : (s : EReal) * -(((x' k : ℝ) : EReal) * (s : EReal) * (S * (s : EReal) * ((1 / 1024 : ℝ) : EReal)))
        = S * ((-(s * x' k * s * s * (1 / 1024)) : ℝ) : EReal) := by
      rw [EReal.coe_neg, mul_neg, mul_neg]
      simp only [EReal.coe_mul]
      congr 1
      ac_rfl
    rw [mul_comm _ ((x' k : ℝ) : EReal), e1, e2, mul_coe_add_self]
    congr 2
    ring
  · obtain ⟨k0, h0⟩ := not_forall.mp hx
    have h : x k0 = ⊤ ∨ x k0 = ⊥ := by
      revert h0
      induction x k0 using EReal.rec with
      | coe r => intro h0; exact absurd ⟨r, rfl⟩ h0
      | top => intro _; exact Or.inl rfl
      | bot => intro _; exact Or.inr rfl
    have hv := vr_top x h
    have hs : Ideal.rsqrt (vr x) = 0 := by rw [hv, Ideal.rsqrt_top]
    have hc : cr x d = 0 := by
      rw [cr, hs, hv, len_eq, half_eq, Ideal.div_coe (by norm_num)]
      simp [Ideal.div]
    rw [hc, hs]
    simp

end Cert.RowGrad
-- ==== Proof.NormMath.lean ====
/-
  The norm's backward pass over the reals: the gradient written out by hand is the gradient that the rules of
  differentiation give, at all arguments.
-/
module

public import proofs.«01_k».proof.Proof.NormArrays
public import proofs.«01_k».proof.Proof.NormRef
public import proofs.«01_k».proof.Proof.RowGrad

@[expose] public section

noncomputable section

open Idealize.ShloMosaic

namespace Cert.NormMath

open Cert.KernelIdeal Cert.KernelIdeal.NormArrays Cert.ReferenceIdeal.NormRef Cert.ReferenceIdeal.Read

variable (x : FVec Ideal S2x2048x1024 .f32) (g : FVec Ideal S1024 .f32) (sc : FVec Ideal S2x1024 .f32)
  (dh dxo : FVec Ideal S2x2048x1024 .f32)

/-- The gradient of the shift. -/
theorem shift_eq : KShift dh = val_main_v55 (F := Ideal) dh := by
  funext i; rw [shift_at]; rfl

/-- The gradient of the scale. -/
theorem scale_eq : KScale x g dh = val_main_v56 (F := Ideal) x g dh := by
  funext i; rw [scale_at]
  exact Finset.sum_congr rfl fun r _ => mul_comm _ _

/-- The gradient of the gain. -/
theorem gain_eq : KGain x sc dh = val_main_v57 (F := Ideal) x sc dh := by
  funext i
  obtain ⟨a, k, rfl⟩ : ∃ (a : Fin 1) (k : Fin 1024), i = ix2 a k := ⟨_, _, eq_ix2 i⟩
  rw [gain_at]
  exact Finset.sum_congr rfl fun b _ => Finset.sum_congr rfl fun r _ => mul_comm _ _

/-- The gradient of the norm's operand. -/
theorem x_eq : KX x g sc dh dxo = val_main_v54 (F := Ideal) x g sc dh dxo := by
  funext i
  obtain ⟨b, r, k, rfl⟩ : ∃ (b : Fin 2) (r : Fin 2048) (k : Fin 1024), i = ix3 b r k := ⟨_, _, _, eq_ix3 i⟩
  rw [x_at]
  have hd : ∀ k, dn g sc dh b r k = dh (ix3 b r k) * (1 + sc (ix2 b k)) * g (ix1 k) := fun k => by
    rw [dn, mul_assoc, mul_comm (g _)]
  have h := RowGrad.row_all (fun k => x (ix3 b r k)) (fun k => dn g sc dh b r k) k
  show dxo (ix3 b r k) + Ideal.rsqrt (RowGrad.vr fun k => x (ix3 b r k)) * (dn g sc dh b r k
    - x (ix3 b r k) * Ideal.rsqrt (RowGrad.vr fun k => x (ix3 b r k))
    * Ideal.div (∑ k : Fin 1024, dn g sc dh b r k * (x (ix3 b r k) * Ideal.rsqrt (RowGrad.vr fun k => x (ix3 b r k)))) (Ideal.ofBits FTy.f32 1149239296#32)) = _
  rw [← h, ← add_assoc, ← add_assoc]
  simp only [hd]
  rfl

end Cert.NormMath
-- ==== Proof.NormRun.lean ====
/-
  The two runs of the norm's backward pass: the results of the kernel's program and of the reference's at the same
  arguments.
-/
module

public import proofs.«01_k».proof.Defs
public import proofs.«01_k».proof.Proof.NormMath
public import proofs.«01_k».proof.Proof.Gen.KernelIdeal.Value
public import proofs.«01_k».proof.Proof.Gen.ReferenceIdeal.Run

@[expose] public section

noncomputable section

open Idealize.ShloMosaic Idealize.ShloMosaic.TcCoe Idealize.SL.Sem

namespace Cert.NormRun

/-- The frame of the reference's program, which declares no semaphore. -/
theorem frame_reference : Cert.quiescent_ReferenceIdeal := fun m g _ =>
  (θ_run _ _ _).mono (fun r h => ⟨fun c => (h c).2.2.2.2, sem_eq_zero_of_no_sems (by decide) r.2⟩)
    (Cert.ReferenceIdeal.Value.run m g)

open Cert.KernelIdeal Cert.KernelIdeal.Gen Cert.KernelIdeal.NormArrays in
/-- The claim about the values: the kernel's four results are the reference's, at all arguments. -/
theorem values : Cert.algebraic_KernelIdeal_ReferenceIdeal := by
  intro m g m' g' hpre hagree
  refine ⟨fun c => KX (X m c) (G m c) (SC m c) (DH m c) (DXO m c), fun c => KShift (DH m c),
    fun c => KScale (X m c) (G m c) (DH m c), fun c => KGain (X m c) (SC m c) (DH m c),
    (θ_run _ _ _).mono (fun r h c => ?_) (Cert.KernelIdeal.Value.run_blocks m g),
    (θ_run _ _ _).mono (fun r h c => ?_) (Cert.ReferenceIdeal.Value.run m' g')⟩
  · obtain ⟨h0, h1, h2, h3, h⟩ := h c
    exact ⟨h0.trans (final5 m c), h1.trans (final6 m c), h2.trans (final7 m c), h3.trans (final8 m c), h⟩
  · obtain ⟨h0, h1, h2, h3, h⟩ := h c
    obtain ⟨a0, a1, a2, a3, a4, a5⟩ := hagree c
    refine ⟨h0.trans ?_, h1.trans ?_, h2.trans ?_, h3.trans ?_, h⟩
    · rw [Cert.ReferenceIdeal.Read.val_main_v54_eq, a0, a1, a3, a4, a5]
      exact (NormMath.x_eq _ _ _ _ _).symm
    · rw [a4]
      exact (Cert.ReferenceIdeal.Read.val_main_v55_eq (F := Ideal) (DH m c)).trans (NormMath.shift_eq _).symm
    · rw [a0, a1, a4]
      exact (Cert.ReferenceIdeal.Read.val_main_v56_eq (F := Ideal) (X m c) (G m c) (DH m c)).trans (NormMath.scale_eq _ _ _).symm
    · rw [a0, a3, a4]
      exact (Cert.ReferenceIdeal.Read.val_main_v57_eq (F := Ideal) (X m c) (SC m c) (DH m c)).trans (NormMath.gain_eq _ _ _).symm

end Cert.NormRun
-- ==== Proof.MixLoops.lean ====
/- The chunk loop of the mixers' backward kernel: what one trip carries and stores, the state before a trip, the invariant. -/
module

public import proofs.«01_k».proof.Proof.Gen.Kernel2Ideal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel2Ideal.Mix

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the runs. -/
local notation "𝕄G" => MT nD τ sig Unit (Elt F) ℕ (UR sig nD τ) ℕ
/-! ## `cc0_mixer_bwd` -/

/-- The type of an invariant of the chunk loop of `cc0_mixer_bwd`: the loop carries the first 16 rows of the later
    chunk's convolution gradients, of its scanned gradient and of its decay, and walks the 16 chunks from the last to the
    first. A trip loads a chunk of the projections, of the incoming gradient and of the saved state, stores a chunk of each
    segment's gradient and adds to the seven weight gradients. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (init : FVec F S16x128 .f32 × FVec F S16x128 .f32 × FVec F S16x128 .f32 × FVec F S16x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64)

/-! ### The chunk loop and its invariant -/

/-- One trip's resources: what the region reads (arg2, arg3, arg4) at its contents, what it writes
   (arg15, arg16, arg17, arg18, arg19, arg20, arg21, arg22) at any. -/
abbrev Trip_k0_t1 (c : Dev nD) (arg2 : Memref sig .tc .vmem S12x1x2048x128 .bf16) (arg3 : Memref sig .tc .vmem S1x2048x128 .bf16) (arg4 : Memref sig .tc .vmem S1x2048x128 .f32) (arg15 : Memref sig .tc .vmem S12x1x2048x128 .bf16) (arg16 : Memref sig .tc .vmem S3x128 .f32) (arg17 : Memref sig .tc .vmem S1x128x128 .f32) (arg18 : Memref sig .tc .vmem S1x128x128 .f32) (arg19 : Memref sig .tc .vmem S4x128 .f32) (arg20 : Memref sig .tc .vmem S8x128 .f32) (arg21 : Memref sig .tc .vmem S1x128x128 .f32) (arg22 : Memref sig .tc .vmem S1x128x128 .f32) (X_arg2 : BufTy.Contents (Elt F) arg2.view.ty) (X_arg3 : BufTy.Contents (Elt F) arg3.view.ty) (X_arg4 : BufTy.Contents (Elt F) arg4.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22))

/-- ONE TRIP of `k0_t1_loop` at a symbolic `k` and carried value `acc`, run by `sl_exec` (its
   rectangles' offsets closed forms of `k`, their geometry linear arithmetic): what it yields and
   the pieces it writes into arg15, arg16, arg17, arg18, arg19, arg20, arg21, arg22 are the run's
   own finds — the witnesses `sl_close` assigns handing the buffers to the continuation, as
   functions of the carried value and of the contents the trip finds in the memrefs it writes (the
   region loads some of them back). `@[irreducible]`: cited, never unfolded. -/
@[irreducible] def trip_k0_t1 (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (k : Fin k0_t1_loop.trips) :
    Σ' (R_k0_t1 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → FVec F S16x128 .f32 × FVec F S16x128 .f32 × FVec F S16x128 .f32 × FVec F S16x128 .f32)) (L_arg15 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S12x1x2048x128 .bf16))) (L_arg16 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S3x128 .f32))) (L_arg17 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S1x128x128 .f32))) (L_arg18 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S1x128x128 .f32))) (L_arg19 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S4x128 .f32))) (L_arg20 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S8x128 .f32))) (L_arg21 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S1x128x128 .f32))) , { L_arg22 : ((FVec F S16x128 .f32 × FVec F S16x128 .f32 × FVec F S16x128 .f32 × FVec F S16x128 .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → List (View.Piece (Elt F) S1x128x128 .f32)) // ∀ (E : Set ℕ) (acc : FVec F S16x128 .f32 × FVec F S16x128 .f32 × FVec F S16x128 .f32 × FVec F S16x128 .f32) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty),
      Trip_k0_t1 (F := F) c arg2 arg3 arg4 arg15 arg16 arg17 arg18 arg19 arg20 arg21 arg22 X_arg2 X_arg3 X_arg4 f_arg15 f_arg16 f_arg17 f_arg18 f_arg19 f_arg20 f_arg21 f_arg22
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 k acc)
          (fun yld => iprop(⌜yld = R_k0_t1 acc f_arg15 f_arg16 f_arg17 f_arg18 f_arg19 f_arg20 f_arg21 f_arg22⌝ ∗ Trip_k0_t1 (F := F) c arg2 arg3 arg4 arg15 arg16 arg17 arg18 arg19 arg20 arg21 arg22 X_arg2 X_arg3 X_arg4 (arg15.view.writes (Elt F) f_arg15 (L_arg15 acc f_arg15 f_arg16 f_arg17 f_arg18 f_arg19 f_arg20 f_arg21 f_arg22)) (arg16.view.writes (Elt F) f_arg16 (L_arg16 acc f_arg15 f_arg16 f_arg17 f_arg18 f_arg19 f_arg20 f_arg21 f_arg22)) (arg17.view.writes (Elt F) f_arg17 (L_arg17 acc f_arg15 f_arg16 f_arg17 f_arg18 f_arg19 f_arg20 f_arg21 f_arg22)) (arg18.view.writes (Elt F) f_arg18 (L_arg18 acc f_arg15 f_arg16 f_arg17 f_arg18 f_arg19 f_arg20 f_arg21 f_arg22)) (arg19.view.writes (Elt F) f_arg19 (L_arg19 acc f_arg15 f_arg16 f_arg17 f_arg18 f_arg19 f_arg20 f_arg21 f_arg22)) (arg20.view.writes (Elt F) f_arg20 (L_arg20 acc f_arg15 f_arg16 f_arg17 f_arg18 f_arg19 f_arg20 f_arg21 f_arg22)) (arg21.view.writes (Elt F) f_arg21 (L_arg21 acc f_arg15 f_arg16 f_arg17 f_arg18 f_arg19 f_arg20 f_arg21 f_arg22)) (arg22.view.writes (Elt F) f_arg22 (L_arg22 acc f_arg15 f_arg16 f_arg17 f_arg18 f_arg19 f_arg20 f_arg21 f_arg22)))) } := by
  have hk : k.val < 16 := Nat.lt_of_lt_of_le k.isLt k0_t1_abs.2.1
  refine ⟨?_, ?_, ?_, ?_, ?_, ?_, ?_, ?_, ?_, fun E acc f_arg15 f_arg16 f_arg17 f_arg18 f_arg19 f_arg20 f_arg21 f_arg22 => ?run⟩
  case run =>
    unfold k0_t1_body
    iintro ⟨HR_arg2, HR_arg3, HR_arg4, HW_arg15, HW_arg16, HW_arg17, HW_arg18, HW_arg19, HW_arg20, HW_arg21, HW_arg22⟩
    sl_exec
    sl_step
    sl_close

/-- The trip's result (a plain projection of `trip_…`, for the recursion below to cite without its
   proof). -/
abbrev tripR_k0_t1 (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (k : Fin k0_t1_loop.trips) (acc : FVec F S16x128 .f32 × FVec F S16x128 .f32 × FVec F S16x128 .f32 × FVec F S16x128 .f32) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) : FVec F S16x128 .f32 × FVec F S16x128 .f32 × FVec F S16x128 .f32 × FVec F S16x128 .f32 :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).1 acc f_arg15 f_arg16 f_arg17 f_arg18 f_arg19 f_arg20 f_arg21 f_arg22

/-- The trip's piece lists (plain projections of `trip_…`, for the recursion below to cite without
   its proof), at the carried value and the contents the trip finds in the written memrefs. -/
abbrev tripL_k0_t1 (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (k : Fin k0_t1_loop.trips) (acc : FVec F S16x128 .f32 × FVec F S16x128 .f32 × FVec F S16x128 .f32 × FVec F S16x128 .f32) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) : List (View.Piece (Elt F) S12x1x2048x128 .bf16) × List (View.Piece (Elt F) S3x128 .f32) × List (View.Piece (Elt F) S1x128x128 .f32) × List (View.Piece (Elt F) S1x128x128 .f32) × List (View.Piece (Elt F) S4x128 .f32) × List (View.Piece (Elt F) S8x128 .f32) × List (View.Piece (Elt F) S1x128x128 .f32) × List (View.Piece (Elt F) S1x128x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.2.2.2.1 acc f_arg15 f_arg16 f_arg17 f_arg18 f_arg19 f_arg20 f_arg21 f_arg22, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.2.2.2.2.1 acc f_arg15 f_arg16 f_arg17 f_arg18 f_arg19 f_arg20 f_arg21 f_arg22)

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) (k : ℕ) (prev : (FVec F S16x128 .f32 × FVec F S16x128 .f32 × FVec F S16x128 .f32 × FVec F S16x128 .f32) × List (View.Piece (Elt F) S12x1x2048x128 .bf16) × List (View.Piece (Elt F) S3x128 .f32) × List (View.Piece (Elt F) S1x128x128 .f32) × List (View.Piece (Elt F) S1x128x128 .f32) × List (View.Piece (Elt F) S4x128 .f32) × List (View.Piece (Elt F) S8x128 .f32) × List (View.Piece (Elt F) S1x128x128 .f32) × List (View.Piece (Elt F) S1x128x128 .f32)) : (FVec F S16x128 .f32 × FVec F S16x128 .f32 × FVec F S16x128 .f32 × FVec F S16x128 .f32) × List (View.Piece (Elt F) S12x1x2048x128 .bf16) × List (View.Piece (Elt F) S3x128 .f32) × List (View.Piece (Elt F) S1x128x128 .f32) × List (View.Piece (Elt F) S1x128x128 .f32) × List (View.Piece (Elt F) S4x128 .f32) × List (View.Piece (Elt F) S8x128 .f32) × List (View.Piece (Elt F) S1x128x128 .f32) × List (View.Piece (Elt F) S1x128x128 .f32) :=
  if h : k < k0_t1_loop.trips then
    (tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2), (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.2.2.2.2.1 ++ prev.2.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 ⟨k, h⟩ prev.1 (arg15.view.writes (Elt F) G_arg15 prev.2.1) (arg16.view.writes (Elt F) G_arg16 prev.2.2.1) (arg17.view.writes (Elt F) G_arg17 prev.2.2.2.1) (arg18.view.writes (Elt F) G_arg18 prev.2.2.2.2.1) (arg19.view.writes (Elt F) G_arg19 prev.2.2.2.2.2.1) (arg20.view.writes (Elt F) G_arg20 prev.2.2.2.2.2.2.1) (arg21.view.writes (Elt F) G_arg21 prev.2.2.2.2.2.2.2.1) (arg22.view.writes (Elt F) G_arg22 prev.2.2.2.2.2.2.2.2)).2.2.2.2.2.2.2 ++ prev.2.2.2.2.2.2.2.2)
  else prev

/-- The STATE before trip `k`: the carried value and, per written memref, the pieces of the trips
   before (last first), starting from the contents `G_·` at loop entry; each trip's pieces taken at
   the contents the earlier trips left. -/
def st_k0_t1 (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) : ℕ → (FVec F S16x128 .f32 × FVec F S16x128 .f32 × FVec F S16x128 .f32 × FVec F S16x128 .f32) × List (View.Piece (Elt F) S12x1x2048x128 .bf16) × List (View.Piece (Elt F) S3x128 .f32) × List (View.Piece (Elt F) S1x128x128 .f32) × List (View.Piece (Elt F) S1x128x128 .f32) × List (View.Piece (Elt F) S4x128 .f32) × List (View.Piece (Elt F) S8x128 .f32) × List (View.Piece (Elt F) S1x128x128 .f32) × List (View.Piece (Elt F) S1x128x128 .f32)
  | 0 => (init, [], [], [], [], [], [], [], [])
  | k + 1 => st_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k)

theorem st_k0_t1_succ (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) (k : Fin k0_t1_loop.trips) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init (k.val + 1)
      = ((tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)), (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.2.2.2.2.1 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).1 (arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.1) (arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.1) (arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.1) (arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.1) (arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.1) (arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.1) (arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.1) (arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2)).2.2.2.2.2.2.2 ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k.val).2.2.2.2.2.2.2.2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init 0).1 = init := rfl

/-- THE INVARIANT before trip `k`: arg2, arg3, arg4 read at `X_·`; arg15, arg16, arg17, arg18,
   arg19, arg20, arg21, arg22 holding the pieces of the trips before `k` written over the contents
   at loop entry `G_·` (stated `∃ f, … ∗ ⌜f = …⌝`, so that a hypothesis of any contents matches and
   the equation is what is proved); and `acc` equal to the state's carried value (an equation the
   run substitutes after the loop). -/
abbrev inv_k0_t1 (𝒱 : Variants) (c : Dev nD) (bd : Option 𝒱.V) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) (k : ℕ) (acc : FVec F S16x128 .f32 × FVec F S16x128 .f32 × FVec F S16x128 .f32 × FVec F S16x128 .f32) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg15.view.loc (c : Thread nD τ) ↦[arg15.view.set]{fullShare} f) ∗ ⌜f = arg15.view.writes (Elt F) G_arg15 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.1⌝) ∗ (∃ f, (arg16.view.loc (c : Thread nD τ) ↦[arg16.view.set]{fullShare} f) ∗ ⌜f = arg16.view.writes (Elt F) G_arg16 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.1⌝) ∗ (∃ f, (arg17.view.loc (c : Thread nD τ) ↦[arg17.view.set]{fullShare} f) ∗ ⌜f = arg17.view.writes (Elt F) G_arg17 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.1⌝) ∗ (∃ f, (arg18.view.loc (c : Thread nD τ) ↦[arg18.view.set]{fullShare} f) ∗ ⌜f = arg18.view.writes (Elt F) G_arg18 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.2.1⌝) ∗ (∃ f, (arg19.view.loc (c : Thread nD τ) ↦[arg19.view.set]{fullShare} f) ∗ ⌜f = arg19.view.writes (Elt F) G_arg19 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.2.2.1⌝) ∗ (∃ f, (arg20.view.loc (c : Thread nD τ) ↦[arg20.view.set]{fullShare} f) ∗ ⌜f = arg20.view.writes (Elt F) G_arg20 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.2.2.2.1⌝) ∗ (∃ f, (arg21.view.loc (c : Thread nD τ) ↦[arg21.view.set]{fullShare} f) ∗ ⌜f = arg21.view.writes (Elt F) G_arg21 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.2.2.2.2.1⌝) ∗ (∃ f, (arg22.view.loc (c : Thread nD τ) ↦[arg22.view.set]{fullShare} f) ∗ ⌜f = arg22.view.writes (Elt F) G_arg22 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).2.2.2.2.2.2.2.2⌝) ∗ ⌜acc = (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).1⌝)

set_option warn.classDefReducibility false in
/-- The chunk loop by its invariant: after it each written memref holds the trips' pieces over what it held before, and
    the loop yields the last trip's carried rows. -/
@[sl_loop] def loopInv_k0_t1 (𝒱 : Variants) (c : Dev nD) (bd : Option 𝒱.V) (E : Set ℕ) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (v0 : Vec F S1x128 .f32) (v1 : Vec F S1x128 .f32) (v2 : Vec F S1x128 .f32) (v3 : Vec F S1x128 .f32) (v4 : Vec F S1x128 .f32) (v5 : Vec F S1x128 .f32) (v6 : Vec F S1x128 .f32) (v8 : FVec F S1x128 .f32) (v16 : FVec F S128x128 .bf16) (v18 : FVec F S128x128 .f32) (v20 : FVec F S128x128 .bf16) (v22 : FVec F S128x128 .bf16) (v24 : FVec F S1x128 .f32) (v26 : FVec F S1x128 .f32) (v53 : FVec F S1x128 .f32) (v64 : FVec F S1x128 .f32) (X_arg2 : BufTy.Contents (Elt F) arg2.view.ty) (X_arg3 : BufTy.Contents (Elt F) arg3.view.ty) (X_arg4 : BufTy.Contents (Elt F) arg4.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S16x128 .f32 × FVec F S16x128 .f32 × FVec F S16x128 .f32 × FVec F S16x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 init where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init
  step k acc := by
    iintro ⟨HR_arg2, HR_arg3, HR_arg4, ⟨%f_arg15, HW_arg15, %h_arg15⟩, ⟨%f_arg16, HW_arg16, %h_arg16⟩, ⟨%f_arg17, HW_arg17, %h_arg17⟩, ⟨%f_arg18, HW_arg18, %h_arg18⟩, ⟨%f_arg19, HW_arg19, %h_arg19⟩, ⟨%f_arg20, HW_arg20, %h_arg20⟩, ⟨%f_arg21, HW_arg21, %h_arg21⟩, ⟨%f_arg22, HW_arg22, %h_arg22⟩, %h_acc⟩
    subst h_acc
    iapply (wp_wand_r Idealize.ShloMosaic.frame (wpE (defs₀ (F := F)) 𝒱 (c : Thread nD τ) bd) E)
    isplitl [HR_arg2 HR_arg3 HR_arg4 HW_arg15 HW_arg16 HW_arg17 HW_arg18 HW_arg19 HW_arg20 HW_arg21 HW_arg22]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 k).2.2.2.2.2.2.2.2.2 E (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v3 v4 v5 v6 v8 v16 v18 v20 v22 v24 v26 v53 v64 X_arg2 X_arg3 X_arg4 G_arg15 G_arg16 G_arg17 G_arg18 G_arg19 G_arg20 G_arg21 G_arg22 init k).1 f_arg15 f_arg16 f_arg17 f_arg18 f_arg19 f_arg20 f_arg21 f_arg22)
      isplitl [HR_arg2]; · iexact HR_arg2
      isplitl [HR_arg3]; · iexact HR_arg3
      isplitl [HR_arg4]; · iexact HR_arg4
      isplitl [HW_arg15]; · iexact HW_arg15
      isplitl [HW_arg16]; · iexact HW_arg16
      isplitl [HW_arg17]; · iexact HW_arg17
      isplitl [HW_arg18]; · iexact HW_arg18
      isplitl [HW_arg19]; · iexact HW_arg19
      isplitl [HW_arg20]; · iexact HW_arg20
      isplitl [HW_arg21]; · iexact HW_arg21
      iexact HW_arg22
    · iintro %yld ⟨%h_res, HR_arg2, HR_arg3, HR_arg4, HW_arg15, HW_arg16, HW_arg17, HW_arg18, HW_arg19, HW_arg20, HW_arg21, HW_arg22⟩
      isplitl [HR_arg2]; · iexact HR_arg2
      isplitl [HR_arg3]; · iexact HR_arg3
      isplitl [HR_arg4]; · iexact HR_arg4
      simp only [st_k0_t1_succ]
      isplitl [HW_arg15]
      · iexists _; isplitl [HW_arg15]; · iexact HW_arg15
        ipureintro; rw [h_arg15, h_arg16, h_arg17, h_arg18, h_arg19, h_arg20, h_arg21, h_arg22, ← View.writes_append]
      isplitl [HW_arg16]
      · iexists _; isplitl [HW_arg16]; · iexact HW_arg16
        ipureintro; rw [h_arg15, h_arg16, h_arg17, h_arg18, h_arg19, h_arg20, h_arg21, h_arg22, ← View.writes_append]
      isplitl [HW_arg17]
      · iexists _; isplitl [HW_arg17]; · iexact HW_arg17
        ipureintro; rw [h_arg15, h_arg16, h_arg17, h_arg18, h_arg19, h_arg20, h_arg21, h_arg22, ← View.writes_append]
      isplitl [HW_arg18]
      · iexists _; isplitl [HW_arg18]; · iexact HW_arg18
        ipureintro; rw [h_arg15, h_arg16, h_arg17, h_arg18, h_arg19, h_arg20, h_arg21, h_arg22, ← View.writes_append]
      isplitl [HW_arg19]
      · iexists _; isplitl [HW_arg19]; · iexact HW_arg19
        ipureintro; rw [h_arg15, h_arg16, h_arg17, h_arg18, h_arg19, h_arg20, h_arg21, h_arg22, ← View.writes_append]
      isplitl [HW_arg20]
      · iexists _; isplitl [HW_arg20]; · iexact HW_arg20
        ipureintro; rw [h_arg15, h_arg16, h_arg17, h_arg18, h_arg19, h_arg20, h_arg21, h_arg22, ← View.writes_append]
      isplitl [HW_arg21]
      · iexists _; isplitl [HW_arg21]; · iexact HW_arg21
        ipureintro; rw [h_arg15, h_arg16, h_arg17, h_arg18, h_arg19, h_arg20, h_arg21, h_arg22, ← View.writes_append]
      isplitl [HW_arg22]
      · iexists _; isplitl [HW_arg22]; · iexact HW_arg22
        ipureintro; rw [h_arg15, h_arg16, h_arg17, h_arg18, h_arg19, h_arg20, h_arg21, h_arg22, ← View.writes_append]
      ipureintro; rw [h_res, h_arg15, h_arg16, h_arg17, h_arg18, h_arg19, h_arg20, h_arg21, h_arg22]

end Cert.Kernel2Ideal.Mix

end
-- ==== Proof.MixRuns.lean ====
/- The frame of the mixers' backward kernel, first part: the host lines around the region, the blocks, the conditions. -/
module

public import proofs.«01_k».proof.Proof.Gen.Kernel2Ideal.Launch
public import proofs.«01_k».proof.Proof.Gen.Kernel2Ideal.Skeleton
public import proofs.«01_k».proof.Proof.MixLoops
public import proofs.«01_k».proof.Proof.Gen.Kernel2Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Mix

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 840000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- The frame from a run: for any proof data whose arrays are the contents at the region's entry, a run to the region's
    final state leaves every argument as it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      (((h c).2 main_arg4 (Pipeline.mem_restRefs_of main_arg4 (by decide) (by decide))).trans (W_main_arg4 m dats c)),
      ((h c).1 6).trans (((dats 0 c).arrAt_in 6 rfl _).trans ((hA c 6).trans (V_main_arg5 m c))),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 1#32)) 0#32) = 1#1
/-- It holds at the points ≡ 1 (mod 2) — by arithmetic of the point. -/
theorem hcond0_1 : ∀ t : Fin cfg0.N, cond0_1 (grid0.coords t) ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_1, e0, e1]
    word_cmp
   : ∀ t : Fin grid0.N, cond0_1 (grid0.coords t) ↔ t.val % 2 = 1)

/-! ## The kernel body on any staging memrefs: a subtype the run finds -/

/-- One staging buffer of output window 13, through which its contents are stated (`View.read_writes_of_cover`: the
    choice does not matter). -/
abbrev VO0_13 : View sig .tc .vmem S12x1x2048x128 .bf16 := (Memref.whole cc0_stg13_0 : Memref sig .tc .vmem S12x1x2048x128 .bf16).view
/-- One staging buffer of output window 14, through which its contents are stated (`View.read_writes_of_cover`: the
    choice does not matter). -/
abbrev VO0_14 : View sig .tc .vmem S3x128 .f32 := (Memref.whole cc0_stg14_0 : Memref sig .tc .vmem S3x128 .f32).view
/-- One staging buffer of output window 15, through which its contents are stated (`View.read_writes_of_cover`: the
    choice does not matter). -/
abbrev VO0_15 : View sig .tc .vmem S1x128x128 .f32 := (Memref.whole cc0_stg15_0 : Memref sig .tc .vmem S1x128x128 .f32).view
/-- One staging buffer of output window 16, through which its contents are stated (`View.read_writes_of_cover`: the
    choice does not matter). -/
abbrev VO0_16 : View sig .tc .vmem S1x128x128 .f32 := (Memref.whole cc0_stg16_0 : Memref sig .tc .vmem S1x128x128 .f32).view
/-- One staging buffer of output window 17, through which its contents are stated (`View.read_writes_of_cover`: the
    choice does not matter). -/
abbrev VO0_17 : View sig .tc .vmem S4x128 .f32 := (Memref.whole cc0_stg17_0 : Memref sig .tc .vmem S4x128 .f32).view
/-- One staging buffer of output window 18, through which its contents are stated (`View.read_writes_of_cover`: the
    choice does not matter). -/
abbrev VO0_18 : View sig .tc .vmem S8x128 .f32 := (Memref.whole cc0_stg18_0 : Memref sig .tc .vmem S8x128 .f32).view
/-- One staging buffer of output window 19, through which its contents are stated (`View.read_writes_of_cover`: the
    choice does not matter). -/
abbrev VO0_19 : View sig .tc .vmem S1x128x128 .f32 := (Memref.whole cc0_stg19_0 : Memref sig .tc .vmem S1x128x128 .f32).view
/-- One staging buffer of output window 20, through which its contents are stated (`View.read_writes_of_cover`: the
    choice does not matter). -/
abbrev VO0_20 : View sig .tc .vmem S1x128x128 .f32 := (Memref.whole cc0_stg20_0 : Memref sig .tc .vmem S1x128x128 .f32).view
/-- Each window's current staging memref at point `t`, spelled as the pipeline passes it (`bodyAt0`), and its wholeness. -/
abbrev ms0_0 (t : Fin cfg0.N) : Memref sig .tc .vmem S12x1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x1x2048x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128x128 .f32 := win0_20.stage (cfg0.slots t 20)
abbrev hs0_20 (t : Fin cfg0.N) : (ms0_20 t).IsWhole := hstage0_20 ((cfg0.slots t 20).cast nbuf0_20)

end Cert.Kernel2Ideal.Mix

end
-- ==== Proof.MixState.lean ====
/- What the chunk loop of the mixers' backward kernel leaves, as plain recursions on the trips: the carried rows, the
   stored pieces of the segment gradients, and each weight gradient's running value. The trips before `n` of the
   loop's own state are these recursions. -/
module

public import proofs.«01_k».proof.Proof.MixLoops
public import Idealize.ShloMosaic.Lib.Pipeline.FrameBody
public import Idealize.ShloMosaic.Lib.Tactic

@[expose] public section

set_option maxRecDepth 8192
set_option maxHeartbeats 1000000

noncomputable section

namespace Cert.Kernel2Ideal.Mix

open Cert.Kernel2Ideal.Gen
open Idealize.ShloMosaic Idealize.ShloMosaic.TcCoe Idealize.ShloMosaic.Tactic

variable {F : FTy → Type} [FloatOps F]

/-- What one run of the body is given: the memrefs, the words read before the loop, the inputs' contents. -/
structure Env (F : FTy → Type) [FloatOps F] where
  (c : Dev nD)
  (i : grid0.Coords)
  (arg2 : Memref sig .tc .vmem S12x1x2048x128 .bf16)
  (harg2 : arg2.IsWhole)
  (arg3 : Memref sig .tc .vmem S1x2048x128 .bf16)
  (harg3 : arg3.IsWhole)
  (arg4 : Memref sig .tc .vmem S1x2048x128 .f32)
  (harg4 : arg4.IsWhole)
  (arg5 : Memref sig .tc .vmem S3x128 .f32)
  (harg5 : arg5.IsWhole)
  (arg6 : Memref sig .tc .vmem S1x128x128 .f32)
  (harg6 : arg6.IsWhole)
  (arg7 : Memref sig .tc .vmem S1x128x128 .f32)
  (harg7 : arg7.IsWhole)
  (arg8 : Memref sig .tc .vmem S4x128 .f32)
  (harg8 : arg8.IsWhole)
  (arg9 : Memref sig .tc .vmem S1x128 .f32)
  (harg9 : arg9.IsWhole)
  (arg10 : Memref sig .tc .vmem S1x128x128 .bf16)
  (harg10 : arg10.IsWhole)
  (arg11 : Memref sig .tc .vmem S1x128x128 .bf16)
  (harg11 : arg11.IsWhole)
  (arg12 : Memref sig .tc .vmem S1x128 .f32)
  (harg12 : arg12.IsWhole)
  (arg13 : Memref sig .tc .vmem S1x128 .f32)
  (harg13 : arg13.IsWhole)
  (arg14 : Memref sig .tc .vmem S1x128 .f32)
  (harg14 : arg14.IsWhole)
  (arg15 : Memref sig .tc .vmem S12x1x2048x128 .bf16)
  (harg15 : arg15.IsWhole)
  (arg16 : Memref sig .tc .vmem S3x128 .f32)
  (harg16 : arg16.IsWhole)
  (arg17 : Memref sig .tc .vmem S1x128x128 .f32)
  (harg17 : arg17.IsWhole)
  (arg18 : Memref sig .tc .vmem S1x128x128 .f32)
  (harg18 : arg18.IsWhole)
  (arg19 : Memref sig .tc .vmem S4x128 .f32)
  (harg19 : arg19.IsWhole)
  (arg20 : Memref sig .tc .vmem S8x128 .f32)
  (harg20 : arg20.IsWhole)
  (arg21 : Memref sig .tc .vmem S1x128x128 .f32)
  (harg21 : arg21.IsWhole)
  (arg22 : Memref sig .tc .vmem S1x128x128 .f32)
  (harg22 : arg22.IsWhole)
  (v0 : Vec F S1x128 .f32)
  (v1 : Vec F S1x128 .f32)
  (v2 : Vec F S1x128 .f32)
  (v3 : Vec F S1x128 .f32)
  (v4 : Vec F S1x128 .f32)
  (v5 : Vec F S1x128 .f32)
  (v6 : Vec F S1x128 .f32)
  (v8 : FVec F S1x128 .f32)
  (v16 : FVec F S128x128 .bf16)
  (v18 : FVec F S128x128 .f32)
  (v20 : FVec F S128x128 .bf16)
  (v22 : FVec F S128x128 .bf16)
  (v24 : FVec F S1x128 .f32)
  (v26 : FVec F S1x128 .f32)
  (v53 : FVec F S1x128 .f32)
  (v64 : FVec F S1x128 .f32)
  (X_arg2 : BufTy.Contents (Elt F) arg2.view.ty)
  (X_arg3 : BufTy.Contents (Elt F) arg3.view.ty)
  (X_arg4 : BufTy.Contents (Elt F) arg4.view.ty)

/-- What a trip hands to the next: the first rows of its chunk. -/
abbrev Carry (F : FTy → Type) := FVec F S16x128 .f32 × FVec F S16x128 .f32 × FVec F S16x128 .f32 × FVec F S16x128 .f32

/-- One trip of the loop. -/
abbrev Env.trip (e : Env F) (k : Fin k0_t1_loop.trips) := trip_k0_t1 (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.v0 e.v1 e.v2 e.v3 e.v4 e.v5 e.v6 e.v8 e.v16 e.v18 e.v20 e.v22 e.v24 e.v26 e.v53 e.v64 e.X_arg2 e.X_arg3 e.X_arg4 k

/-- The loop's own state before trip `n`. -/
abbrev Env.st (e : Env F) (G15 : BufTy.Contents (Elt F) e.arg15.view.ty) (G16 : BufTy.Contents (Elt F) e.arg16.view.ty) (G17 : BufTy.Contents (Elt F) e.arg17.view.ty) (G18 : BufTy.Contents (Elt F) e.arg18.view.ty) (G19 : BufTy.Contents (Elt F) e.arg19.view.ty) (G20 : BufTy.Contents (Elt F) e.arg20.view.ty) (G21 : BufTy.Contents (Elt F) e.arg21.view.ty) (G22 : BufTy.Contents (Elt F) e.arg22.view.ty) (n : ℕ) :=
  st_k0_t1 (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.v0 e.v1 e.v2 e.v3 e.v4 e.v5 e.v6 e.v8 e.v16 e.v18 e.v20 e.v22 e.v24 e.v26 e.v53 e.v64 e.X_arg2 e.X_arg3 e.X_arg4 G15 G16 G17 G18 G19 G20 G21 G22 (k0_pay8, k0_pay8, k0_pay8, k0_pay8) n

/-- The rows a trip carries on. -/
def Env.next (e : Env F) (k : Fin k0_t1_loop.trips) (acc : Carry F) : Carry F := (e.trip k).1 acc e.arg15.view.junk e.arg16.view.junk e.arg17.view.junk e.arg18.view.junk e.arg19.view.junk e.arg20.view.junk e.arg21.view.junk e.arg22.view.junk

/-- What a trip stores of the segment gradients, the last first. -/
def Env.L15 (e : Env F) (k : Fin k0_t1_loop.trips) (acc : Carry F) : List (View.Piece (Elt F) S12x1x2048x128 .bf16) := (e.trip k).2.1 acc e.arg15.view.junk e.arg16.view.junk e.arg17.view.junk e.arg18.view.junk e.arg19.view.junk e.arg20.view.junk e.arg21.view.junk e.arg22.view.junk

/-- What a trip stores of the gradient of the convolution taps, over the contents `f`. -/
def Env.L16 (e : Env F) (k : Fin k0_t1_loop.trips) (acc : Carry F) (f : BufTy.Contents (Elt F) e.arg16.view.ty) : List (View.Piece (Elt F) S3x128 .f32) :=
  (e.trip k).2.2.1 acc e.arg15.view.junk f e.arg17.view.junk e.arg18.view.junk e.arg19.view.junk e.arg20.view.junk e.arg21.view.junk e.arg22.view.junk

/-- What a trip stores of the gradient of the mixing matrix, over the contents `f`. -/
def Env.L17 (e : Env F) (k : Fin k0_t1_loop.trips) (acc : Carry F) (f : BufTy.Contents (Elt F) e.arg17.view.ty) : List (View.Piece (Elt F) S1x128x128 .f32) :=
  (e.trip k).2.2.2.1 acc e.arg15.view.junk e.arg16.view.junk f e.arg18.view.junk e.arg19.view.junk e.arg20.view.junk e.arg21.view.junk e.arg22.view.junk

/-- What a trip stores of the gradient of the mixing bias, over the contents `f`. -/
def Env.L18 (e : Env F) (k : Fin k0_t1_loop.trips) (acc : Carry F) (f : BufTy.Contents (Elt F) e.arg18.view.ty) : List (View.Piece (Elt F) S1x128x128 .f32) :=
  (e.trip k).2.2.2.2.1 acc e.arg15.view.junk e.arg16.view.junk e.arg17.view.junk f e.arg19.view.junk e.arg20.view.junk e.arg21.view.junk e.arg22.view.junk

/-- What a trip stores of the gradient of the second convolution's taps, over the contents `f`. -/
def Env.L19 (e : Env F) (k : Fin k0_t1_loop.trips) (acc : Carry F) (f : BufTy.Contents (Elt F) e.arg19.view.ty) : List (View.Piece (Elt F) S4x128 .f32) :=
  (e.trip k).2.2.2.2.2.1 acc e.arg15.view.junk e.arg16.view.junk e.arg17.view.junk e.arg18.view.junk f e.arg20.view.junk e.arg21.view.junk e.arg22.view.junk

/-- What a trip stores of the gradient of the four vectors of the recurrence, over the contents `f`. -/
def Env.L20 (e : Env F) (k : Fin k0_t1_loop.trips) (acc : Carry F) (f : BufTy.Contents (Elt F) e.arg20.view.ty) : List (View.Piece (Elt F) S8x128 .f32) :=
  (e.trip k).2.2.2.2.2.2.1 acc e.arg15.view.junk e.arg16.view.junk e.arg17.view.junk e.arg18.view.junk e.arg19.view.junk f e.arg21.view.junk e.arg22.view.junk

/-- What a trip stores of the gradient of the first gate matrix, over the contents `f`. -/
def Env.L21 (e : Env F) (k : Fin k0_t1_loop.trips) (acc : Carry F) (f : BufTy.Contents (Elt F) e.arg21.view.ty) : List (View.Piece (Elt F) S1x128x128 .f32) :=
  (e.trip k).2.2.2.2.2.2.2.1 acc e.arg15.view.junk e.arg16.view.junk e.arg17.view.junk e.arg18.view.junk e.arg19.view.junk e.arg20.view.junk f e.arg22.view.junk

/-- What a trip stores of the gradient of the second gate matrix, over the contents `f`. -/
def Env.L22 (e : Env F) (k : Fin k0_t1_loop.trips) (acc : Carry F) (f : BufTy.Contents (Elt F) e.arg22.view.ty) : List (View.Piece (Elt F) S1x128x128 .f32) :=
  (e.trip k).2.2.2.2.2.2.2.2.1 acc e.arg15.view.junk e.arg16.view.junk e.arg17.view.junk e.arg18.view.junk e.arg19.view.junk e.arg20.view.junk e.arg21.view.junk f

/-- The rows carried into trip `n`. -/
def Env.carry (e : Env F) : ℕ → Carry F
  | 0 => (k0_pay8, k0_pay8, k0_pay8, k0_pay8)
  | n + 1 => if h : n < k0_t1_loop.trips then e.next ⟨n, h⟩ (Env.carry e n) else Env.carry e n

/-- The pieces of the segment gradients stored before trip `n`, the last first. -/
def Env.pieces (e : Env F) : ℕ → List (View.Piece (Elt F) S12x1x2048x128 .bf16)
  | 0 => []
  | n + 1 => if h : n < k0_t1_loop.trips then e.L15 ⟨n, h⟩ (e.carry n) ++ Env.pieces e n else Env.pieces e n

/-- The gradient of the convolution taps before trip `n`, from `g`. -/
def Env.g16 (e : Env F) (g : Vec F S3x128 .f32) : ℕ → Vec F S3x128 .f32
  | 0 => g
  | n + 1 => if h : n < k0_t1_loop.trips then
      e.arg16.view.read (Elt F) (e.arg16.view.writes (Elt F) (e.harg16.unread (Env.g16 e g n))
        (e.L16 ⟨n, h⟩ (e.carry n) (e.harg16.unread (Env.g16 e g n))))
    else Env.g16 e g n

/-- The gradient of the mixing matrix before trip `n`, from `g`. -/
def Env.g17 (e : Env F) (g : Vec F S1x128x128 .f32) : ℕ → Vec F S1x128x128 .f32
  | 0 => g
  | n + 1 => if h : n < k0_t1_loop.trips then
      e.arg17.view.read (Elt F) (e.arg17.view.writes (Elt F) (e.harg17.unread (Env.g17 e g n))
        (e.L17 ⟨n, h⟩ (e.carry n) (e.harg17.unread (Env.g17 e g n))))
    else Env.g17 e g n

/-- The gradient of the mixing bias before trip `n`, from `g`. -/
def Env.g18 (e : Env F) (g : Vec F S1x128x128 .f32) : ℕ → Vec F S1x128x128 .f32
  | 0 => g
  | n + 1 => if h : n < k0_t1_loop.trips then
      e.arg18.view.read (Elt F) (e.arg18.view.writes (Elt F) (e.harg18.unread (Env.g18 e g n))
        (e.L18 ⟨n, h⟩ (e.carry n) (e.harg18.unread (Env.g18 e g n))))
    else Env.g18 e g n

/-- The gradient of the second convolution's taps before trip `n`, from `g`. -/
def Env.g19 (e : Env F) (g : Vec F S4x128 .f32) : ℕ → Vec F S4x128 .f32
  | 0 => g
  | n + 1 => if h : n < k0_t1_loop.trips then
      e.arg19.view.read (Elt F) (e.arg19.view.writes (Elt F) (e.harg19.unread (Env.g19 e g n))
        (e.L19 ⟨n, h⟩ (e.carry n) (e.harg19.unread (Env.g19 e g n))))
    else Env.g19 e g n

/-- The gradient of the four vectors of the recurrence before trip `n`, from `g`. -/
def Env.g20 (e : Env F) (g : Vec F S8x128 .f32) : ℕ → Vec F S8x128 .f32
  | 0 => g
  | n + 1 => if h : n < k0_t1_loop.trips then
      e.arg20.view.read (Elt F) (e.arg20.view.writes (Elt F) (e.harg20.unread (Env.g20 e g n))
        (e.L20 ⟨n, h⟩ (e.carry n) (e.harg20.unread (Env.g20 e g n))))
    else Env.g20 e g n

/-- The gradient of the first gate matrix before trip `n`, from `g`. -/
def Env.g21 (e : Env F) (g : Vec F S1x128x128 .f32) : ℕ → Vec F S1x128x128 .f32
  | 0 => g
  | n + 1 => if h : n < k0_t1_loop.trips then
      e.arg21.view.read (Elt F) (e.arg21.view.writes (Elt F) (e.harg21.unread (Env.g21 e g n))
        (e.L21 ⟨n, h⟩ (e.carry n) (e.harg21.unread (Env.g21 e g n))))
    else Env.g21 e g n

/-- The gradient of the second gate matrix before trip `n`, from `g`. -/
def Env.g22 (e : Env F) (g : Vec F S1x128x128 .f32) : ℕ → Vec F S1x128x128 .f32
  | 0 => g
  | n + 1 => if h : n < k0_t1_loop.trips then
      e.arg22.view.read (Elt F) (e.arg22.view.writes (Elt F) (e.harg22.unread (Env.g22 e g n))
        (e.L22 ⟨n, h⟩ (e.carry n) (e.harg22.unread (Env.g22 e g n))))
    else Env.g22 e g n

/-- What a trip carries on does not depend on what the outputs hold. -/
theorem Env.trip_carry (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).1 acc f15 f16 f17 f18 f19 f20 f21 f22 = e.next k acc := by
  unfold Env.next Env.trip trip_k0_t1; rfl

/-- What a trip stores of the segment gradients does not depend on what the outputs hold. -/
theorem Env.trip_pieces (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.1 acc f15 f16 f17 f18 f19 f20 f21 f22 = e.L15 k acc := by
  unfold Env.L15 Env.trip trip_k0_t1; rfl

/-- What a trip stores of the gradient of the convolution taps depends on that output alone. -/
theorem Env.trip_g16 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.1 acc f15 f16 f17 f18 f19 f20 f21 f22 = e.L16 k acc f16 := by
  unfold Env.L16 Env.trip trip_k0_t1; rfl

/-- What a trip stores of the gradient of the mixing matrix depends on that output alone. -/
theorem Env.trip_g17 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.1 acc f15 f16 f17 f18 f19 f20 f21 f22 = e.L17 k acc f17 := by
  unfold Env.L17 Env.trip trip_k0_t1; rfl

/-- What a trip stores of the gradient of the mixing bias depends on that output alone. -/
theorem Env.trip_g18 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.2.1 acc f15 f16 f17 f18 f19 f20 f21 f22 = e.L18 k acc f18 := by
  unfold Env.L18 Env.trip trip_k0_t1; rfl

/-- What a trip stores of the gradient of the second convolution's taps depends on that output alone. -/
theorem Env.trip_g19 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.2.2.1 acc f15 f16 f17 f18 f19 f20 f21 f22 = e.L19 k acc f19 := by
  unfold Env.L19 Env.trip trip_k0_t1; rfl

/-- What a trip stores of the gradient of the four vectors of the recurrence depends on that output alone. -/
theorem Env.trip_g20 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.2.2.2.1 acc f15 f16 f17 f18 f19 f20 f21 f22 = e.L20 k acc f20 := by
  unfold Env.L20 Env.trip trip_k0_t1; rfl

/-- What a trip stores of the gradient of the first gate matrix depends on that output alone. -/
theorem Env.trip_g21 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.2.2.2.2.1 acc f15 f16 f17 f18 f19 f20 f21 f22 = e.L21 k acc f21 := by
  unfold Env.L21 Env.trip trip_k0_t1; rfl

/-- What a trip stores of the gradient of the second gate matrix depends on that output alone. -/
theorem Env.trip_g22 (e : Env F) (k : Fin k0_t1_loop.trips) (acc : Carry F) (f15 : BufTy.Contents (Elt F) e.arg15.view.ty) (f16 : BufTy.Contents (Elt F) e.arg16.view.ty) (f17 : BufTy.Contents (Elt F) e.arg17.view.ty) (f18 : BufTy.Contents (Elt F) e.arg18.view.ty) (f19 : BufTy.Contents (Elt F) e.arg19.view.ty) (f20 : BufTy.Contents (Elt F) e.arg20.view.ty) (f21 : BufTy.Contents (Elt F) e.arg21.view.ty) (f22 : BufTy.Contents (Elt F) e.arg22.view.ty) :
    (e.trip k).2.2.2.2.2.2.2.2.1 acc f15 f16 f17 f18 f19 f20 f21 f22 = e.L22 k acc f22 := by
  unfold Env.L22 Env.trip trip_k0_t1; rfl

/-- A store over contents that read `g` is a store over `g`. -/
theorem read_step {S : Shape} {t : EltTy} {v : Memref sig .tc .vmem S t} (hv : v.IsWhole) (f : BufTy.Contents (Elt F) v.view.ty)
    (L : BufTy.Contents (Elt F) v.view.ty → List (View.Piece (Elt F) S t)) (g : Vec F S t) (h : v.view.read (Elt F) f = g) :
    v.view.read (Elt F) (v.view.writes (Elt F) f (L f)) = v.view.read (Elt F) (v.view.writes (Elt F) (hv.unread g) (L (hv.unread g))) := by
  obtain rfl := hv.eq_unread h
  rfl

/-- The loop's state before trip `n` is the plain recursions. -/
theorem Env.st_eq (e : Env F) (G15 : BufTy.Contents (Elt F) e.arg15.view.ty) (G16 : BufTy.Contents (Elt F) e.arg16.view.ty) (G17 : BufTy.Contents (Elt F) e.arg17.view.ty) (G18 : BufTy.Contents (Elt F) e.arg18.view.ty) (G19 : BufTy.Contents (Elt F) e.arg19.view.ty) (G20 : BufTy.Contents (Elt F) e.arg20.view.ty) (G21 : BufTy.Contents (Elt F) e.arg21.view.ty) (G22 : BufTy.Contents (Elt F) e.arg22.view.ty) (n : ℕ) (hn : n ≤ k0_t1_loop.trips) :
    (e.st G15 G16 G17 G18 G19 G20 G21 G22 n).1 = e.carry n ∧ (e.st G15 G16 G17 G18 G19 G20 G21 G22 n).2.1 = e.pieces n
    ∧ e.arg16.view.read (Elt F) (e.arg16.view.writes (Elt F) G16 (e.st G15 G16 G17 G18 G19 G20 G21 G22 n).2.2.1) = e.g16 (e.arg16.view.read (Elt F) G16) n
    ∧ e.arg17.view.read (Elt F) (e.arg17.view.writes (Elt F) G17 (e.st G15 G16 G17 G18 G19 G20 G21 G22 n).2.2.2.1) = e.g17 (e.arg17.view.read (Elt F) G17) n
    ∧ e.arg18.view.read (Elt F) (e.arg18.view.writes (Elt F) G18 (e.st G15 G16 G17 G18 G19 G20 G21 G22 n).2.2.2.2.1) = e.g18 (e.arg18.view.read (Elt F) G18) n
    ∧ e.arg19.view.read (Elt F) (e.arg19.view.writes (Elt F) G19 (e.st G15 G16 G17 G18 G19 G20 G21 G22 n).2.2.2.2.2.1) = e.g19 (e.arg19.view.read (Elt F) G19) n
    ∧ e.arg20.view.read (Elt F) (e.arg20.view.writes (Elt F) G20 (e.st G15 G16 G17 G18 G19 G20 G21 G22 n).2.2.2.2.2.2.1) = e.g20 (e.arg20.view.read (Elt F) G20) n
    ∧ e.arg21.view.read (Elt F) (e.arg21.view.writes (Elt F) G21 (e.st G15 G16 G17 G18 G19 G20 G21 G22 n).2.2.2.2.2.2.2.1) = e.g21 (e.arg21.view.read (Elt F) G21) n
    ∧ e.arg22.view.read (Elt F) (e.arg22.view.writes (Elt F) G22 (e.st G15 G16 G17 G18 G19 G20 G21 G22 n).2.2.2.2.2.2.2.2) = e.g22 (e.arg22.view.read (Elt F) G22) n := by
  induction n with
  | zero => exact ⟨rfl, rfl, rfl, rfl, rfl, rfl, rfl, rfl, rfl⟩
  | succ n ih =>
    have h : n < k0_t1_loop.trips := hn
    obtain ⟨hc, hp, h16, h17, h18, h19, h20, h21, h22⟩ := ih (Nat.le_of_lt h)
    have hs := st_k0_t1_succ (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.v0 e.v1 e.v2 e.v3 e.v4 e.v5 e.v6 e.v8 e.v16 e.v18 e.v20 e.v22 e.v24 e.v26 e.v53 e.v64 e.X_arg2 e.X_arg3 e.X_arg4 G15 G16 G17 G18 G19 G20 G21 G22 (k0_pay8, k0_pay8, k0_pay8, k0_pay8) ⟨n, h⟩
    refine ⟨?_, ?_, ?_, ?_, ?_, ?_, ?_, ?_, ?_⟩
    · rw [Env.carry, dif_pos h]
      exact (congrArg (·.1) hs).trans ((e.trip_carry ⟨n, h⟩ _ _ _ _ _ _ _ _ _).trans (by rw [hc]))
    · rw [Env.pieces, dif_pos h]
      exact (congrArg (·.2.1) hs).trans (congrArg₂ (· ++ ·) ((e.trip_pieces ⟨n, h⟩ _ _ _ _ _ _ _ _ _).trans (by rw [hc])) hp)
    · rw [Env.g16, dif_pos h]
      refine (congrArg (fun L => e.arg16.view.read (Elt F) (e.arg16.view.writes (Elt F) G16 L)) ((congrArg (·.2.2.1) hs).trans
        (congrArg (· ++ _) (e.trip_g16 ⟨n, h⟩ _ _ _ _ _ _ _ _ _)))).trans ?_
      rw [View.writes_append, hc]
      exact read_step e.harg16 _ (fun f => e.L16 ⟨n, h⟩ (e.carry n) f) _ h16
    · rw [Env.g17, dif_pos h]
      refine (congrArg (fun L => e.arg17.view.read (Elt F) (e.arg17.view.writes (Elt F) G17 L)) ((congrArg (·.2.2.2.1) hs).trans
        (congrArg (· ++ _) (e.trip_g17 ⟨n, h⟩ _ _ _ _ _ _ _ _ _)))).trans ?_
      rw [View.writes_append, hc]
      exact read_step e.harg17 _ (fun f => e.L17 ⟨n, h⟩ (e.carry n) f) _ h17
    · rw [Env.g18, dif_pos h]
      refine (congrArg (fun L => e.arg18.view.read (Elt F) (e.arg18.view.writes (Elt F) G18 L)) ((congrArg (·.2.2.2.2.1) hs).trans
        (congrArg (· ++ _) (e.trip_g18 ⟨n, h⟩ _ _ _ _ _ _ _ _ _)))).trans ?_
      rw [View.writes_append, hc]
      exact read_step e.harg18 _ (fun f => e.L18 ⟨n, h⟩ (e.carry n) f) _ h18
    · rw [Env.g19, dif_pos h]
      refine (congrArg (fun L => e.arg19.view.read (Elt F) (e.arg19.view.writes (Elt F) G19 L)) ((congrArg (·.2.2.2.2.2.1) hs).trans
        (congrArg (· ++ _) (e.trip_g19 ⟨n, h⟩ _ _ _ _ _ _ _ _ _)))).trans ?_
      rw [View.writes_append, hc]
      exact read_step e.harg19 _ (fun f => e.L19 ⟨n, h⟩ (e.carry n) f) _ h19
    · rw [Env.g20, dif_pos h]
      refine (congrArg (fun L => e.arg20.view.read (Elt F) (e.arg20.view.writes (Elt F) G20 L)) ((congrArg (·.2.2.2.2.2.2.1) hs).trans
        (congrArg (· ++ _) (e.trip_g20 ⟨n, h⟩ _ _ _ _ _ _ _ _ _)))).trans ?_
      rw [View.writes_append, hc]
      exact read_step e.harg20 _ (fun f => e.L20 ⟨n, h⟩ (e.carry n) f) _ h20
    · rw [Env.g21, dif_pos h]
      refine (congrArg (fun L => e.arg21.view.read (Elt F) (e.arg21.view.writes (Elt F) G21 L)) ((congrArg (·.2.2.2.2.2.2.2.1) hs).trans
        (congrArg (· ++ _) (e.trip_g21 ⟨n, h⟩ _ _ _ _ _ _ _ _ _)))).trans ?_
      rw [View.writes_append, hc]
      exact read_step e.harg21 _ (fun f => e.L21 ⟨n, h⟩ (e.carry n) f) _ h21
    · rw [Env.g22, dif_pos h]
      refine (congrArg (fun L => e.arg22.view.read (Elt F) (e.arg22.view.writes (Elt F) G22 L)) ((congrArg (·.2.2.2.2.2.2.2.2) hs).trans
        (congrArg (· ++ _) (e.trip_g22 ⟨n, h⟩ _ _ _ _ _ _ _ _ _)))).trans ?_
      rw [View.writes_append, hc]
      exact read_step e.harg22 _ (fun f => e.L22 ⟨n, h⟩ (e.carry n) f) _ h22

end Cert.Kernel2Ideal.Mix

end
-- ==== Proof.MixEnv.lean ====
/- What one run of the body is given, from the memrefs and the inputs' contents. -/
module

public import proofs.«01_k».proof.Proof.MixState
public import Idealize.ShloMosaic.Lib.Ring

@[expose] public section

set_option maxRecDepth 16384

noncomputable section

namespace Cert.Kernel2Ideal.Mix

open Cert.Kernel2Ideal.Gen
open Idealize.ShloMosaic Idealize.ShloMosaic.TcCoe Idealize.ShloMosaic.Tactic

variable {F : FTy → Type} [FloatOps F]

/-- The words and contents the loop runs over, when the inputs' buffers hold `x0` … `x12`. -/
def envOf (c : Dev nD) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole)
    (x0 : Vec F S12x1x2048x128 .bf16) (x1 : Vec F S1x2048x128 .bf16) (x2 : Vec F S1x2048x128 .f32) (x3 : Vec F S3x128 .f32) (x4 : Vec F S1x128x128 .f32) (x5 : Vec F S1x128x128 .f32) (x6 : Vec F S4x128 .f32) (x7 : Vec F S1x128 .f32) (x8 : Vec F S1x128x128 .bf16) (x9 : Vec F S1x128x128 .bf16) (x10 : Vec F S1x128 .f32) (x11 : Vec F S1x128 .f32) (x12 : Vec F S1x128 .f32) : Env F where
  c := c
  i := i
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  arg11 := arg11
  harg11 := harg11
  arg12 := arg12
  harg12 := harg12
  arg13 := arg13
  harg13 := harg13
  arg14 := arg14
  harg14 := harg14
  arg15 := arg15
  harg15 := harg15
  arg16 := arg16
  harg16 := harg16
  arg17 := arg17
  harg17 := harg17
  arg18 := arg18
  harg18 := harg18
  arg19 := arg19
  harg19 := harg19
  arg20 := arg20
  harg20 := harg20
  arg21 := arg21
  harg21 := harg21
  arg22 := arg22
  harg22 := harg22
  v0 := View.readAt (Elt F) arg5.view (Rect.unit (s := S3x128) ![0, 0] S1x128.size inb_S3x128_S1x128_0_0).toLoadRect (harg5.unread x3)
  v1 := View.readAt (Elt F) arg5.view (Rect.unit (s := S3x128) ![1, 0] S1x128.size inb_S3x128_S1x128_1_0).toLoadRect (harg5.unread x3)
  v2 := View.readAt (Elt F) arg5.view (Rect.unit (s := S3x128) ![2, 0] S1x128.size inb_S3x128_S1x128_2_0).toLoadRect (harg5.unread x3)
  v3 := View.readAt (Elt F) arg8.view (Rect.unit (s := S4x128) ![0, 0] S1x128.size inb_S4x128_S1x128_0_0).toLoadRect (harg8.unread x6)
  v4 := View.readAt (Elt F) arg8.view (Rect.unit (s := S4x128) ![1, 0] S1x128.size inb_S4x128_S1x128_1_0).toLoadRect (harg8.unread x6)
  v5 := View.readAt (Elt F) arg8.view (Rect.unit (s := S4x128) ![2, 0] S1x128.size inb_S4x128_S1x128_2_0).toLoadRect (harg8.unread x6)
  v6 := View.readAt (Elt F) arg8.view (Rect.unit (s := S4x128) ![3, 0] S1x128.size inb_S4x128_S1x128_3_0).toLoadRect (harg8.unread x6)
  v8 := k0_pay146 (View.readAt (Elt F) arg9.view (Rect.unit (s := S1x128) ![0, 0] S1x128.size inb_S1x128_S1x128_0_0).toLoadRect (harg9.unread x7))
  v16 := k0_pay148 (View.readAt (Elt F) arg6.view (Rect.unit (s := S1x128x128) ![0, 0, 0] S1x128x128.size inb_S1x128x128_S1x128x128_0_0_0).toLoadRect (harg6.unread x4))
  v18 := k0_pay149 (View.readAt (Elt F) arg7.view (Rect.unit (s := S1x128x128) ![0, 0, 0] S1x128x128.size inb_S1x128x128_S1x128x128_0_0_0).toLoadRect (harg7.unread x5))
  v20 := k0_pay150 (View.readAt (Elt F) arg10.view (Rect.unit (s := S1x128x128) ![0, 0, 0] S1x128x128.size inb_S1x128x128_S1x128x128_0_0_0).toLoadRect (harg10.unread x8))
  v22 := k0_pay151 (View.readAt (Elt F) arg11.view (Rect.unit (s := S1x128x128) ![0, 0, 0] S1x128x128.size inb_S1x128x128_S1x128x128_0_0_0).toLoadRect (harg11.unread x9))
  v24 := k0_pay152 (View.readAt (Elt F) arg12.view (Rect.unit (s := S1x128) ![0, 0] S1x128.size inb_S1x128_S1x128_0_0).toLoadRect (harg12.unread x10))
  v26 := k0_pay153 (View.readAt (Elt F) arg13.view (Rect.unit (s := S1x128) ![0, 0] S1x128.size inb_S1x128_S1x128_0_0).toLoadRect (harg13.unread x11))
  v53 := k0_pay155 (View.readAt (Elt F) arg14.view (Rect.unit (s := S1x128) ![0, 0] S1x128.size inb_S1x128_S1x128_0_0).toLoadRect (harg14.unread x12))
  v64 := k0_pay156 (View.readAt (Elt F) arg14.view (Rect.unit (s := S1x128) ![0, 0] S1x128.size inb_S1x128_S1x128_0_0).toLoadRect (harg14.unread x12))
  X_arg2 := harg2.unread x0
  X_arg3 := harg3.unread x1
  X_arg4 := harg4.unread x2

/-- The segment gradients the loop leaves: every block of the buffer is stored by one trip. -/
def Env.out15 (e : Env F) : Vec F S12x1x2048x128 .bf16 :=
  View.canon (e.pieces k0_t1_loop.trips)

/-- The trips' stores of the segment gradients cover the buffer. -/
theorem Env.cover15 (e : Env F) (y : S12x1x2048x128.Idx) : ∃ pc ∈ e.pieces k0_t1_loop.trips, y ∈ pc.1.set :=
  View.cover_of_tiledL (e.pieces k0_t1_loop.trips) S1x1x128x128.size (by sl_kernel_rfl) y

end Cert.Kernel2Ideal.Mix

end
-- ==== Proof.MixRunA.lean ====
/- One run of the mixers' backward body, case A: what every output holds afterwards. -/
module

public import proofs.«01_k».proof.Proof.MixRuns
public import proofs.«01_k».proof.Proof.MixEnv
public import Idealize.ShloMosaic.Lib.VecWindow

@[expose] public section

set_option maxRecDepth 16384

noncomputable section

namespace Cert.Kernel2Ideal.Mix

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a block's first batch: the weight gradients are set to zero, then the loop runs. The inputs are left as they were. -/
theorem runA (c : Dev nD) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (hc0 : cond0_0 i) (hc1 : ¬cond0_1 i)
    (x0 : Vec F S12x1x2048x128 .bf16) (x1 : Vec F S1x2048x128 .bf16) (x2 : Vec F S1x2048x128 .f32) (x3 : Vec F S3x128 .f32) (x4 : Vec F S1x128x128 .f32) (x5 : Vec F S1x128x128 .f32) (x6 : Vec F S4x128 .f32) (x7 : Vec F S1x128 .f32) (x8 : Vec F S1x128x128 .bf16) (x9 : Vec F S1x128x128 .bf16) (x10 : Vec F S1x128 .f32) (x11 : Vec F S1x128 .f32) (x12 : Vec F S1x128 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).out15 ∗ owns (c : Thread nD τ) arg16 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g16 k0_pay1 k0_t1_loop.trips) ∗ owns (c : Thread nD τ) arg17 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g17 k0_pay2 k0_t1_loop.trips) ∗ owns (c : Thread nD τ) arg18 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g18 k0_pay3 k0_t1_loop.trips) ∗ owns (c : Thread nD τ) arg19 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g19 k0_pay4 k0_t1_loop.trips) ∗ owns (c : Thread nD τ) arg20 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g20 k0_pay5 k0_t1_loop.trips) ∗ owns (c : Thread nD τ) arg21 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g21 k0_pay6 k0_t1_loop.trips) ∗ owns (c : Thread nD τ) arg22 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g22 k0_pay7 k0_t1_loop.trips)) -∗ K ⟨⟩))
          ⊢ wp frame (wpE (defs₀ (F := F)) Variants.none c none) E (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    have hst := fun G15 G16 G17 G18 G19 G20 G21 G22 => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).st_eq G15 G16 G17 G18 G19 G20 G21 G22 k0_t1_loop.trips le_rfl
    simp only [cc0_mixer_bwd_eq_skeleton]; unfold cc0_mixer_bwd_skel
    simp only [k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      exact (congrArg (fun L => arg15.view.read (Elt F) (arg15.view.writes (Elt F) _ L)) (hst _ _ _ _ _ _ _ _).2.1).trans
        (View.read_writes_eq_canon _ _ _ (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).cover15)
    isplitl [H14]
    · iexists _; isplitr; swap; · iexact H14
      ipureintro
      rw [View.writes_append]; exact ((hst _ _ _ _ _ _ _ _).2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g16 g k0_t1_loop.trips) (View.read_writes_full _ _ _ _ _))
    isplitl [H15]
    · iexists _; isplitr; swap; · iexact H15
      ipureintro
      rw [View.writes_append]; exact ((hst _ _ _ _ _ _ _ _).2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g17 g k0_t1_loop.trips) (View.read_writes_full _ _ _ _ _))
    isplitl [H16]
    · iexists _; isplitr; swap; · iexact H16
      ipureintro
      rw [View.writes_append]; exact ((hst _ _ _ _ _ _ _ _).2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g18 g k0_t1_loop.trips) (View.read_writes_full _ _ _ _ _))
    isplitl [H17]
    · iexists _; isplitr; swap; · iexact H17
      ipureintro
      rw [View.writes_append]; exact ((hst _ _ _ _ _ _ _ _).2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g19 g k0_t1_loop.trips) (View.read_writes_full _ _ _ _ _))
    isplitl [H18]
    · iexists _; isplitr; swap; · iexact H18
      ipureintro
      rw [View.writes_append]; exact ((hst _ _ _ _ _ _ _ _).2.2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g20 g k0_t1_loop.trips) (View.read_writes_full _ _ _ _ _))
    isplitl [H19]
    · iexists _; isplitr; swap; · iexact H19
      ipureintro
      rw [View.writes_append]; exact ((hst _ _ _ _ _ _ _ _).2.2.2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g21 g k0_t1_loop.trips) (View.read_writes_full _ _ _ _ _))
    iexists _; isplitr; swap; · iexact H20
    ipureintro
    rw [View.writes_append]; exact ((hst _ _ _ _ _ _ _ _).2.2.2.2.2.2.2.2).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g22 g k0_t1_loop.trips) (View.read_writes_full _ _ _ _ _))

end Cert.Kernel2Ideal.Mix

end
-- ==== Proof.MixRunB.lean ====
/- One run of the mixers' backward body, case B: what every output holds afterwards. -/
module

public import proofs.«01_k».proof.Proof.MixRuns
public import proofs.«01_k».proof.Proof.MixEnv
public import Idealize.ShloMosaic.Lib.VecWindow

@[expose] public section

set_option maxRecDepth 16384

noncomputable section

namespace Cert.Kernel2Ideal.Mix

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a block's second batch: the loop runs over the first batch's gradients, then the mixing matrix's gradient is masked. The inputs are left as they were. -/
theorem runB (c : Dev nD) (i : grid0.Coords) (arg2 : Memref sig .tc .vmem S12x1x2048x128 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S3x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S12x1x2048x128 .bf16) (harg15 : arg15.IsWhole) (arg16 : Memref sig .tc .vmem S3x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S4x128 .f32) (harg19 : arg19.IsWhole) (arg20 : Memref sig .tc .vmem S8x128 .f32) (harg20 : arg20.IsWhole) (arg21 : Memref sig .tc .vmem S1x128x128 .f32) (harg21 : arg21.IsWhole) (arg22 : Memref sig .tc .vmem S1x128x128 .f32) (harg22 : arg22.IsWhole) (hc0 : ¬cond0_0 i) (hc1 : cond0_1 i)
    (x0 : Vec F S12x1x2048x128 .bf16) (x1 : Vec F S1x2048x128 .bf16) (x2 : Vec F S1x2048x128 .f32) (x3 : Vec F S3x128 .f32) (x4 : Vec F S1x128x128 .f32) (x5 : Vec F S1x128x128 .f32) (x6 : Vec F S4x128 .f32) (x7 : Vec F S1x128 .f32) (x8 : Vec F S1x128x128 .bf16) (x9 : Vec F S1x128x128 .bf16) (x10 : Vec F S1x128 .f32) (x11 : Vec F S1x128 .f32) (x12 : Vec F S1x128 .f32) (xo14 : Vec F S3x128 .f32) (xo15 : Vec F S1x128x128 .f32) (xo16 : Vec F S1x128x128 .f32) (xo17 : Vec F S4x128 .f32) (xo18 : Vec F S8x128 .f32) (xo19 : Vec F S1x128x128 .f32) (xo20 : Vec F S1x128x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xo19 ∗ owns (c : Thread nD τ) arg22 fullShare xo20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).out15 ∗ owns (c : Thread nD τ) arg16 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g16 xo14 k0_t1_loop.trips) ∗ owns (c : Thread nD τ) arg17 fullShare (k0_pay11 k0_pay147 ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g17 xo15 k0_t1_loop.trips)) ∗ owns (c : Thread nD τ) arg18 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g18 xo16 k0_t1_loop.trips) ∗ owns (c : Thread nD τ) arg19 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g19 xo17 k0_t1_loop.trips) ∗ owns (c : Thread nD τ) arg20 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g20 xo18 k0_t1_loop.trips) ∗ owns (c : Thread nD τ) arg21 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g21 xo19 k0_t1_loop.trips) ∗ owns (c : Thread nD τ) arg22 fullShare ((envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g22 xo20 k0_t1_loop.trips)) -∗ K ⟨⟩))
          ⊢ wp frame (wpE (defs₀ (F := F)) Variants.none c none) E (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    have hst := fun G15 G16 G17 G18 G19 G20 G21 G22 => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).st_eq G15 G16 G17 G18 G19 G20 G21 G22 k0_t1_loop.trips le_rfl
    simp only [cc0_mixer_bwd_eq_skeleton]; unfold cc0_mixer_bwd_skel
    simp only [k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      exact (congrArg (fun L => arg15.view.read (Elt F) (arg15.view.writes (Elt F) _ L)) (hst _ _ _ _ _ _ _ _).2.1).trans
        (View.read_writes_eq_canon _ _ _ (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).cover15)
    isplitl [H14]
    · iexists _; isplitr; swap; · iexact H14
      ipureintro
      exact ((hst _ _ _ _ _ _ _ _).2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g16 g k0_t1_loop.trips) (harg16.read_unread _))
    isplitl [H15]
    · iexists _; isplitr; swap; · iexact H15
      ipureintro
      refine (View.read_writes_full _ _ _ _ _).trans (congrArg (k0_pay11 k0_pay147) ((View.readAt_full _ _ _).trans ?_))
      exact ((hst _ _ _ _ _ _ _ _).2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g17 g k0_t1_loop.trips) (harg17.read_unread _))
    isplitl [H16]
    · iexists _; isplitr; swap; · iexact H16
      ipureintro
      exact ((hst _ _ _ _ _ _ _ _).2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g18 g k0_t1_loop.trips) (harg18.read_unread _))
    isplitl [H17]
    · iexists _; isplitr; swap; · iexact H17
      ipureintro
      exact ((hst _ _ _ _ _ _ _ _).2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g19 g k0_t1_loop.trips) (harg19.read_unread _))
    isplitl [H18]
    · iexists _; isplitr; swap; · iexact H18
      ipureintro
      exact ((hst _ _ _ _ _ _ _ _).2.2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g20 g k0_t1_loop.trips) (harg20.read_unread _))
    isplitl [H19]
    · iexists _; isplitr; swap; · iexact H19
      ipureintro
      exact ((hst _ _ _ _ _ _ _ _).2.2.2.2.2.2.2.1).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g21 g k0_t1_loop.trips) (harg21.read_unread _))
    iexists _; isplitr; swap; · iexact H20
    ipureintro
    exact ((hst _ _ _ _ _ _ _ _).2.2.2.2.2.2.2.2).trans (congrArg (fun g => (envOf (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).g22 g k0_t1_loop.trips) (harg22.read_unread _))

end Cert.Kernel2Ideal.Mix

end
-- ==== Proof.MixFrame.lean ====
/- The frame of the mixers' backward kernel: the body at every grid point and the run. -/
module

public import proofs.«01_k».proof.Proof.MixRunA
public import proofs.«01_k».proof.Proof.MixRunB
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Mix

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the eight outputs' buffers hold, in order. -/
abbrev Outs (F : FTy → Type) [FloatOps F] := Vec F S12x1x2048x128 .bf16 × Vec F S3x128 .f32 × Vec F S1x128x128 .f32 × Vec F S1x128x128 .f32 × Vec F S4x128 .f32 × Vec F S8x128 .f32 × Vec F S1x128x128 .f32 × Vec F S1x128x128 .f32

/-- The loop's givens at grid point `t`: the point's buffers, its blocks of the arguments. -/
def env (c : Dev nD) (t : Fin cfg0.N) : Env F :=
  envOf c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- After a block's first batch. -/
def outsA (e : Env F) : Outs F :=
  (e.out15, e.g16 k0_pay1 k0_t1_loop.trips, e.g17 k0_pay2 k0_t1_loop.trips, e.g18 k0_pay3 k0_t1_loop.trips, e.g19 k0_pay4 k0_t1_loop.trips, e.g20 k0_pay5 k0_t1_loop.trips, e.g21 k0_pay6 k0_t1_loop.trips, e.g22 k0_pay7 k0_t1_loop.trips)

/-- After a block's second batch, over what the first left. -/
def outsB (e : Env F) (p : Outs F) : Outs F :=
  (e.out15, e.g16 p.2.1 k0_t1_loop.trips, k0_pay11 k0_pay147 (e.g17 p.2.2.1 k0_t1_loop.trips), e.g18 p.2.2.2.1 k0_t1_loop.trips, e.g19 p.2.2.2.2.1 k0_t1_loop.trips, e.g20 p.2.2.2.2.2.1 k0_t1_loop.trips, e.g21 p.2.2.2.2.2.2.1 k0_t1_loop.trips, e.g22 p.2.2.2.2.2.2.2 k0_t1_loop.trips)

/-- What the outputs' buffers hold after point `n`: even points are first batches, odd points second ones. -/
def outsAt0 (c : Dev nD) : (n : ℕ) → n < cfg0.N → Outs F
  | 0, hn => outsA (env m c ⟨0, hn⟩)
  | n + 1, hn =>
    if (n + 1) % 2 = 0 then outsA (env m c ⟨n + 1, hn⟩)
    else outsB (env m c ⟨n + 1, hn⟩) (outsAt0 c n (Nat.lt_of_succ_lt hn))

/-- `outsAt0` at an even point. -/
theorem outsAt0_A (c : Dev nD) (t : Fin cfg0.N) (h0 : t.val % 2 = 0) :
    outsAt0 m c t.val t.isLt = outsA (env m c t) := by
  obtain ⟨n, hn⟩ := t
  cases n with
  | zero => exact rfl
  | succ n => exact if_pos h0

/-- `outsAt0` at an odd point. -/
theorem outsAt0_B (c : Dev nD) (t : Fin cfg0.N) (h0 : ¬t.val % 2 = 0) :
    outsAt0 m c t.val t.isLt = outsB (env m c t) (outsAt0 m c (t.val - 1) (Nat.lt_of_le_of_lt (Nat.sub_le _ _) t.isLt)) := by
  obtain ⟨n, hn⟩ := t
  cases n with
  | zero => exact absurd (Nat.zero_mod _) h0
  | succ n => exact if_neg h0

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 2 = 0) (h1 : t.val % 2 = 1) (d) :
    (dats m 0 c).before 14 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), the window is live and uncut (Lib/Pipeline/Frame.lean
    `Dat.before_out_kept`). -/
theorem before0_15_B (c : Dev nD) (t : Fin cfg0.N) (h0 : ¬t.val % 2 = 0) (h1 : t.val % 2 = 1) (d) :
    (dats m 0 c).before 15 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 2 = 0) (h1 : t.val % 2 = 1) (d) :
    (dats m 0 c).before 16 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 2 = 0) (h1 : t.val % 2 = 1) (d) :
    (dats m 0 c).before 17 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 2 = 0) (h1 : t.val % 2 = 1) (d) :
    (dats m 0 c).before 18 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 2 = 0) (h1 : t.val % 2 = 1) (d) :
    (dats m 0 c).before 19 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 2 = 0) (h1 : t.val % 2 = 1) (d) :
    (dats m 0 c).before 20 t d = (outsAt0 m c (t.val - 1) (Nat.lt_of_le_of_lt (Nat.sub_le _ _) t.isLt)).2.2.2.2.2.2.2 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4000000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  by_cases h0 : t.val % 2 = 0
  · have h1 : ¬t.val % 2 = 1 := by omega
    rw [outsAt0_A m c t h0]
    unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (runA c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · have h1 : t.val % 2 = 1 := by omega
    rw [outsAt0_B m c t h0]
    simp only [before0_14_B m c t h0 h1, before0_15_B m c t h0 h1, before0_16_B m c t h0 h1, before0_17_B m c t h0 h1, before0_18_B m c t h0 h1, before0_19_B m c t h0 h1, before0_20_B m c t h0 h1]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (runB c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame of the mixers' backward kernel, at any float values: it runs to its end, leaves its arguments as they were
    and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel2Ideal.Mix

end
-- ==== Proof.MixFrames.lean ====
/- The frames of the mixers' backward call: the kernel at the hardware's values, and the reference's host lines. -/
module

public import proofs.«01_k».proof.Defs
public import proofs.«01_k».proof.Proof.Gen.Kernel2
public import proofs.«01_k».proof.Proof.Gen.Kernel2Ideal
public import proofs.«01_k».proof.Proof.Gen.Reference2Ideal.Run
public import proofs.«01_k».proof.Proof.Gen.Pre_mixer_finite
public import proofs.«01_k».proof.Proof.MixFrame
public import proofs.«01_k».proof.Proof.Sums
public import Idealize.ShloMosaic.Lib.Claim

@[expose] public section

noncomputable section

namespace Cert.Kernel2Ideal.Mix

open Idealize.ShloMosaic Idealize.SL.Sem

set_option maxRecDepth 8192 in
set_option maxHeartbeats 2000000 in
/-- The printed kernel at the hardware's values runs to its end, leaves its arguments as they were and every semaphore
    at zero: its text is the idealized kernel's, whose run holds at any values. -/
theorem frame_kernel : Cert.quiescent_Kernel2 := fun m ρ _ =>
  Eq.mp (by sl_kernel_rfl) (frame (F := Bits) m ρ)

/-- The reference's host lines run to their end, leave their arguments as they were and every semaphore at zero. -/
theorem frame_reference : Cert.quiescent_Reference2Ideal := fun m g _ =>
  (θ_run _ _ _).mono (fun r h => ⟨fun c => (h c).2.2.2.2.2.2.2.2.2.2.2.2, Idealize.ShloMosaic.sem_eq_zero_of_no_sems (by decide) r.2⟩)
    (Cert.Reference2Ideal.Value.run m g)

end Cert.Kernel2Ideal.Mix

end
-- ==== Proof.MixReal.lean ====
/-
  The operations of the mixers' backward kernel on arrays of real numbers: each operation takes arrays of real numbers
  to an array of real numbers, element by element. `R2 a` is the matrix of the real numbers `a`.
-/
module

public import proofs.«01_k».proof.Proof.Sums
public import proofs.«01_k».proof.Proof.MixState
public import Idealize.ShloMosaic.Lib.Pointwise
public import Idealize.ShloMosaic.Lib.KernelVsHost

@[expose] public section

set_option maxRecDepth 16384

noncomputable section

open Idealize.ShloMosaic Idealize.ShloMosaic.Pointwise

namespace Cert.Kernel2Ideal.Mix

open Cert.Kernel2Ideal.Gen

/-- The matrix of real numbers `a`. -/
def R2 {n m : ℕ} (a : Fin n → Fin m → ℝ) {φ : FTy} : FVec Ideal ⟨2, ![n, m]⟩ φ := fun i => ((a (i 0) (i 1) : ℝ) : EReal)

/-- The same under one leading axis of length 1. -/
def R3 {n m : ℕ} (a : Fin n → Fin m → ℝ) {φ : FTy} : FVec Ideal ⟨3, ![1, n, m]⟩ φ := fun i => ((a (i 1) (i 2) : ℝ) : EReal)

/-- The same under two leading axes of length 1. -/
def R4 {n m : ℕ} (a : Fin n → Fin m → ℝ) {φ : FTy} : FVec Ideal ⟨4, ![1, 1, n, m]⟩ φ := fun i => ((a (i 2) (i 3) : ℝ) : EReal)

variable {n m : ℕ} {φ ψ : FTy} (a b : Fin n → Fin m → ℝ)

theorem R2_at (i : Fin n) (l : Fin m) : R2 a (φ := φ) (ix2 i l) = ((a i l : ℝ) : EReal) := rfl

theorem mulf_R2 : mulf (R2 a (φ := φ)) (R2 b) = R2 (fun i l => a i l * b i l) := by
  funext i; simp only [R2, EReal.coe_mul]; rfl
theorem addf_R2 : addf (R2 a (φ := φ)) (R2 b) = R2 (fun i l => a i l + b i l) := by
  funext i; simp only [R2, EReal.coe_add]; rfl
theorem subf_R2 : subf (R2 a (φ := φ)) (R2 b) = R2 (fun i l => a i l - b i l) := by
  funext i; simp only [R2, EReal.coe_sub]; rfl
theorem extf_R2 (h) : extf ψ (R2 a (φ := φ)) h = R2 a := rfl
theorem truncf_R2 (h) : truncf ψ (R2 a (φ := φ)) h = R2 a := rfl

/-- The words of the kernel's constants. -/
theorem zero_w : (Scalar.ofBits FTy.f32 0x00000000#32 : Ideal .f32) = ((0 : ℝ) : EReal) := by
  show Ideal.ofBits FTy.f32 0#32 = _
  simp [Ideal.ofBits, Ideal.ieee]
theorem half_w : (Scalar.ofBits FTy.f32 0x3F000000#32 : Ideal .f32) = ((1 / 2 : ℝ) : EReal) := by
  show Ideal.ofBits FTy.f32 0x3F000000#32 = _
  simp [Ideal.ofBits, Ideal.ieee, -EReal.coe_mul]; norm_num
theorem one_w : (Scalar.ofBits FTy.f32 0x3F800000#32 : Ideal .f32) = ((1 : ℝ) : EReal) := by
  show Ideal.ofBits FTy.f32 0x3F800000#32 = _
  simp [Ideal.ofBits, Ideal.ieee, -EReal.coe_mul]; norm_num
theorem len_w : (Scalar.ofBits FTy.f32 0x43000000#32 : Ideal .f32) = ((128 : ℝ) : EReal) := by
  show Ideal.ofBits FTy.f32 0x43000000#32 = _
  simp [Ideal.ofBits, Ideal.ieee, -EReal.coe_mul]; norm_num

/-- The variance's epsilon. -/
def eps : ℝ := (Ideal.ofBits FTy.f32 0x358637BD#32).toReal
theorem eps_w : (Scalar.ofBits FTy.f32 0x358637BD#32 : Ideal .f32) = ((eps : ℝ) : EReal) := by
  have h : ∃ e : ℝ, Ideal.ofBits FTy.f32 0x358637BD#32 = (e : EReal) := ⟨_, by simp [Ideal.ofBits, Ideal.ieee, -EReal.coe_mul]; rfl⟩
  obtain ⟨e, he⟩ := h
  show Ideal.ofBits FTy.f32 0x358637BD#32 = _
  rw [eps, he, EReal.toReal_coe]
theorem eps_pos : 0 < eps := by
  have h : ∃ e : ℝ, 0 < e ∧ Ideal.ofBits FTy.f32 0x358637BD#32 = (e : EReal) := by
    refine ⟨_, ?_, by simp [Ideal.ofBits, Ideal.ieee, -EReal.coe_mul]; rfl⟩
    norm_num
  obtain ⟨e, hp, he⟩ := h
  rw [eps, he, EReal.toReal_coe]; exact hp

theorem splat_R2 (x : ℝ) : broadcast (⟨2, ![n, m]⟩ : Shape) (((x : ℝ) : EReal) : Ideal φ) = R2 (fun _ _ => x) (φ := φ) := rfl

theorem half_splat : broadcast S128x128 (Scalar.ofBits FTy.f32 0x3F000000#32 : Ideal .f32) = R2 (fun _ _ => 1 / 2) := by
  rw [half_w]; rfl
theorem one_splat : broadcast S128x128 (Scalar.ofBits FTy.f32 0x3F800000#32 : Ideal .f32) = R2 (fun _ _ => 1) := by
  rw [one_w]; rfl
theorem one_splat' : broadcast S128x128 (FloatOps.ofBits FTy.f32 0x3F800000#32 : Ideal .f32) = R2 (fun _ _ => 1) := one_splat
theorem len_splat : broadcast S128x1 (Scalar.ofBits FTy.f32 0x43000000#32 : Ideal .f32) = R2 (fun _ _ => 128) := by
  rw [len_w]; rfl
theorem eps_splat : broadcast S128x1 (Scalar.ofBits FTy.f32 0x358637BD#32 : Ideal .f32) = R2 (fun _ _ => eps) := by
  rw [eps_w]; rfl
theorem zero_splat : broadcast S16x128 (Scalar.ofBits FTy.f32 0x00000000#32 : Ideal .f32) = R2 (fun _ _ => 0) := by
  rw [zero_w]; rfl

/-- The logistic function. -/
def sg (x : ℝ) : ℝ := (1 + Real.exp (-x))⁻¹

/-- The kernel's spelling of the logistic function, by the hyperbolic tangent. -/
theorem sg_tanh (x : ℝ) : 1 / 2 * Real.tanh (1 / 2 * x) + 1 / 2 = sg x := by
  rw [Real.tanh_eq_sinh_div_cosh, Real.sinh_eq, Real.cosh_eq, sg]
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  have p1 := Real.exp_pos (1 / 2 * x)
  have p2 := Real.exp_pos (-(1 / 2 * x))
  generalize Real.exp (1 / 2 * x) = u at *
  generalize Real.exp (-(1 / 2 * x)) = v at *
  rw [e1]
  have h1 : u + v ≠ 0 := by positivity
  have h2 : 1 + v * v ≠ 0 := by positivity
  field_simp
  linear_combination (2 * v) * e2

theorem tanh_R2 : tanh (R2 a (φ := φ)) = R2 (fun i l => Real.tanh (a i l)) := rfl

/-- A row of real numbers repeated over the rows. -/
theorem row_R2 (r : Fin 1 → Fin 128 → ℝ) : broadcastTo S128x128 (R2 r (φ := φ)) broadcasts_S1x128_S128x128 = R2 (fun _ l => r 0 l) := by
  funext i; obtain ⟨i, l, rfl⟩ : ∃ (a : Fin 128) (b : Fin 128), i = ix2 a b := ⟨_, _, eq_ix2 i⟩
  pointwise; rfl

/-- A column of real numbers repeated over the lanes. -/
theorem col_R2 (r : Fin 128 → Fin 1 → ℝ) : broadcastTo S128x128 (R2 r (φ := φ)) broadcasts_S128x1_S128x128 = R2 (fun i _ => r i 0) := by
  funext i; obtain ⟨i, l, rfl⟩ : ∃ (a : Fin 128) (b : Fin 128), i = ix2 a b := ⟨_, _, eq_ix2 i⟩
  pointwise; rfl

theorem cast4_R4 (a : Fin 128 → Fin 128 → ℝ) : shapeCast S128x128 (R4 a (φ := φ)) shapeCasts_S1x1x128x128_S128x128 = R2 a := by
  funext i; obtain ⟨i, l, rfl⟩ : ∃ (a : Fin 128) (b : Fin 128), i = ix2 a b := ⟨_, _, eq_ix2 i⟩
  pointwise; rfl
theorem cast4_R2 (a : Fin 128 → Fin 128 → ℝ) : shapeCast S1x1x128x128 (R2 a (φ := φ)) shapeCasts_S128x128_S1x1x128x128 = R4 a := by
  funext i
  obtain ⟨x, y, i, l, rfl⟩ : ∃ (x : Fin 1) (y : Fin 1) (a : Fin 128) (b : Fin 128), i = ix4 x y a b := ⟨_, _, _, _, eq_ix4 i⟩
  pointwise; rfl
theorem cast16_R4 (a : Fin 16 → Fin 128 → ℝ) : shapeCast S16x128 (R4 a (φ := φ)) shapeCasts_S1x1x16x128_S16x128 = R2 a := by
  funext i; obtain ⟨i, l, rfl⟩ : ∃ (a : Fin 16) (b : Fin 128), i = ix2 a b := ⟨_, _, eq_ix2 i⟩
  pointwise; rfl
theorem cast3_R3 (a : Fin 128 → Fin 128 → ℝ) : shapeCast S128x128 (R3 a (φ := φ)) shapeCasts_S1x128x128_S128x128 = R2 a := by
  funext i; obtain ⟨i, l, rfl⟩ : ∃ (a : Fin 128) (b : Fin 128), i = ix2 a b := ⟨_, _, eq_ix2 i⟩
  pointwise; rfl
theorem cast3_R2 (a : Fin 128 → Fin 128 → ℝ) : shapeCast S1x128x128 (R2 a (φ := φ)) shapeCasts_S128x128_S1x128x128 = R3 a := by
  funext i
  obtain ⟨x, i, l, rfl⟩ : ∃ (x : Fin 1) (a : Fin 128) (b : Fin 128), i = ix3 x a b := ⟨_, _, _, eq_ix3 i⟩
  pointwise; rfl

/-- The sum over the lanes, as a column. -/
theorem lanes_R2 (a : Fin 128 → Fin 128 → ℝ) :
    shapeCast S128x1 (multiReduction (s := S128x128) .add ([1] : List (Fin S128x128.rank)) S128 (R2 a (φ := .f32)) 0x00000000#32 reduces_S128x128_S128 (.inl rfl) rfl) shapeCasts_S128_S128x1
      = R2 (fun i _ => ∑ l, a i l) := by
  funext i; obtain ⟨i, l, rfl⟩ : ∃ (a : Fin 128) (b : Fin 1), i = ix2 a b := ⟨_, _, eq_ix2 i⟩
  pointwise
  simp only [R2_at, Sums.coe_sum]

/-- The sum over the rows, as a row. -/
theorem rows_R2 (a : Fin 128 → Fin 128 → ℝ) :
    shapeCast S1x128 (multiReduction (s := S128x128) .add ([0] : List (Fin S128x128.rank)) S128 (R2 a (φ := .f32)) 0x00000000#32 reduces_S128x128_S128_2 (.inl rfl) rfl) shapeCasts_S128_S1x128
      = R2 (fun _ l => ∑ i, a i l) := by
  funext i; obtain ⟨i, l, rfl⟩ : ∃ (a : Fin 1) (b : Fin 128), i = ix2 a b := ⟨_, _, eq_ix2 i⟩
  pointwise
  simp only [R2_at, Sums.coe_sum]

theorem div128_R2 (r : Fin 128 → Fin 1 → ℝ) : divf (R2 r (φ := .f32)) (R2 fun _ _ => 128) = R2 (fun i l => r i l / 128) := by
  funext i
  exact Sums.coe_div _ (by norm_num)

theorem rsqrt_R2 (r : Fin 128 → Fin 1 → ℝ) (h : ∀ i l, 0 < r i l) : rsqrt (R2 r (φ := .f32)) = R2 (fun i l => (Real.sqrt (r i l))⁻¹) := by
  funext i
  exact Sums.coe_rsqrt (h _ _)

theorem dot_R2 (a b : Fin 128 → Fin 128 → ℝ) :
    matmul dot_S128x128_S128x128_S128x128_1_0_0_1_n_n none (R2 a (φ := .bf16)) (R2 b (φ := .bf16)) (constant S128x128 .f32 0x00000000#32)
      = R2 (fun i l => ∑ j, a i j * b j l) := by
  funext i; obtain ⟨i, l, rfl⟩ : ∃ (a : Fin 128) (b : Fin 128), i = ix2 a b := ⟨_, _, eq_ix2 i⟩
  pointwise
  simp only [R2_at, ← EReal.coe_mul, Sums.coe_sum]
theorem dot_nt_R2 (a b : Fin 128 → Fin 128 → ℝ) :
    matmul dot_S128x128_S128x128_S128x128_1_1_0_0_n_n none (R2 a (φ := .bf16)) (R2 b (φ := .bf16)) (constant S128x128 .f32 0x00000000#32)
      = R2 (fun i l => ∑ j, a i j * b l j) := by
  funext i; obtain ⟨i, l, rfl⟩ : ∃ (a : Fin 128) (b : Fin 128), i = ix2 a b := ⟨_, _, eq_ix2 i⟩
  pointwise
  simp only [R2_at, ← EReal.coe_mul, Sums.coe_sum]
theorem dot_tn_R2 (a b : Fin 128 → Fin 128 → ℝ) :
    matmul dot_S128x128_S128x128_S128x128_0_0_1_1_n_n none (R2 a (φ := .bf16)) (R2 b (φ := .bf16)) (constant S128x128 .f32 0x00000000#32)
      = R2 (fun i l => ∑ j, a j i * b j l) := by
  funext i; obtain ⟨i, l, rfl⟩ : ∃ (a : Fin 128) (b : Fin 128), i = ix2 a b := ⟨_, _, eq_ix2 i⟩
  pointwise
  simp only [R2_at, ← EReal.coe_mul, Sums.coe_sum]

/-- Rows `p`, then the 128 rows `a`. -/
theorem concat_down (p : Fin 16 → Fin 128 → ℝ) (a : Fin 128 → Fin 128 → ℝ) (g : ℕ → Fin 128 → ℝ)
    (hp : ∀ (i : Fin 16) l, p i l = g i.val l) (ha : ∀ (i : Fin 128) l, a i l = g (16 + i.val) l) :
    concatenate S144x128 0 [⟨S16x128, R2 p (φ := .f32)⟩, ⟨S128x128, R2 a (φ := .f32)⟩] concatenates_S16x128_S128x128_S144x128_d0
      = R2 (fun (i : Fin 144) l => g i.val l) := by
  funext i; obtain ⟨i, l, rfl⟩ : ∃ (a : Fin 144) (b : Fin 128), i = ix2 a b := ⟨_, _, eq_ix2 i⟩
  pointwise
  split
  · rename_i h; simp only [R2_at, hp]
  · rename_i h
    simp only [R2_at, ha]
    congr 2
    exact Nat.add_sub_cancel' (not_lt.mp h)

/-- The 128 rows `a`, then the rows `p`. -/
theorem concat_up (p : Fin 16 → Fin 128 → ℝ) (a : Fin 128 → Fin 128 → ℝ) (g : ℕ → Fin 128 → ℝ)
    (hp : ∀ (i : Fin 16) l, p i l = g (128 + i.val) l) (ha : ∀ (i : Fin 128) l, a i l = g i.val l) :
    concatenate S144x128 0 [⟨S128x128, R2 a (φ := .f32)⟩, ⟨S16x128, R2 p (φ := .f32)⟩] concatenates_S128x128_S16x128_S144x128_d0
      = R2 (fun (i : Fin 144) l => g i.val l) := by
  funext i; obtain ⟨i, l, rfl⟩ : ∃ (a : Fin 144) (b : Fin 128), i = ix2 a b := ⟨_, _, eq_ix2 i⟩
  pointwise
  split
  · rename_i h; simp only [R2_at, ha]
  · rename_i h
    simp only [R2_at, hp]
    congr 2
    exact Nat.add_sub_cancel' (not_lt.mp h)

/-- Rows turned by `s`, then rows 16 on: each row is the one `s` above it. -/
theorem down_R2 (g : ℕ → Fin 128 → ℝ) (s : ℕ) (hs : s ≤ 16) (sb : BitVec 32) (hsb : sb.toNat = s) :
    extractStridedSlice S128x128 ![16, 0] (dynamicRotate 0 sb none (R2 (fun (i : Fin 144) l => g i.val l) (φ := .f32)) rotates_S144x128_d0)
      slices_S144x128_o16_0_S128x128 = R2 (fun i l => g (16 + i.val - s) l) := by
  funext i; obtain ⟨i, l, rfl⟩ : ∃ (a : Fin 128) (b : Fin 128), i = ix2 a b := ⟨_, _, eq_ix2 i⟩
  have hi := i.isLt
  rw [Idealize.ShloMosaic.extractStridedSlice_apply (k := ix2 (⟨16 + i.val, by omega⟩ : Fin 144) l)
    (hk := fun a => by match a with | ⟨0, _⟩ => rfl | ⟨1, _⟩ => exact (Nat.zero_add _).symm)]
  rw [Idealize.ShloMosaic.dynamicRotate_apply (k := ix2 (⟨16 + i.val - s, by omega⟩ : Fin 144) l)
    (hk := fun a => by
      match a with
      | ⟨0, _⟩ =>
        rw [hsb]
        show 16 + i.val - s = (16 + i.val + 144 - s % 144) % 144
        omega
      | ⟨1, _⟩ => rfl)]
  rfl

/-- Rows turned by `144 - s`, then the first 128: each row is the one `s` below it. -/
theorem up_R2 (g : ℕ → Fin 128 → ℝ) (s : ℕ) (hs : s ≤ 16) (h0 : 0 < s) (sb : BitVec 32) (hsb : sb.toNat = 144 - s) :
    extractStridedSlice S128x128 ![0, 0] (dynamicRotate 0 sb none (R2 (fun (i : Fin 144) l => g i.val l) (φ := .f32)) rotates_S144x128_d0)
      slices_S144x128_o0_0_S128x128 = R2 (fun i l => g (i.val + s) l) := by
  funext i; obtain ⟨i, l, rfl⟩ : ∃ (a : Fin 128) (b : Fin 128), i = ix2 a b := ⟨_, _, eq_ix2 i⟩
  have hi := i.isLt
  rw [Idealize.ShloMosaic.extractStridedSlice_apply (k := ix2 (⟨i.val, by omega⟩ : Fin 144) l)
    (hk := fun a => by match a with | ⟨0, _⟩ => exact (Nat.zero_add _).symm | ⟨1, _⟩ => exact (Nat.zero_add _).symm)]
  rw [Idealize.ShloMosaic.dynamicRotate_apply (k := ix2 (⟨i.val + s, by omega⟩ : Fin 144) l)
    (hk := fun a => by
      match a with
      | ⟨0, _⟩ =>
        rw [hsb]
        show i.val + s = (i.val + 144 - (144 - s) % 144) % 144
        omega
      | ⟨1, _⟩ => rfl)]
  rfl

/-- The first 16 rows. -/
theorem head_R2 (a : Fin 128 → Fin 128 → ℝ) :
    extractStridedSlice S16x128 ![0, 0] (R2 a (φ := .f32)) slices_S128x128_o0_0_S16x128 = R2 (fun i l => a ⟨i.val, by omega⟩ l) := by
  funext i; obtain ⟨i, l, rfl⟩ : ∃ (a : Fin 16) (b : Fin 128), i = ix2 a b := ⟨_, _, eq_ix2 i⟩
  rw [Idealize.ShloMosaic.extractStridedSlice_apply (k := ix2 (⟨i.val, by omega⟩ : Fin 128) l)
    (hk := fun a => by match a with | ⟨0, _⟩ => exact (Nat.zero_add _).symm | ⟨1, _⟩ => exact (Nat.zero_add _).symm)]
  rfl

end Cert.Kernel2Ideal.Mix

end
-- ==== Proof.MixSpec.lean ====
/-
  The gradients of the two mixers and their gates over the real numbers, for one example and one block of 128 channels:
  rows are numbered by ℕ, and what lies before the first or behind the last of the 2048 rows is zero.
-/
module

public import proofs.«01_k».proof.Proof.MixReal

@[expose] public section

noncomputable section

namespace Cert.Kernel2Ideal.Mix

/-- The segments' rows `p`, the incoming gradient `d`, the convolution's taps `w`, the (lower triangular) mixing matrix
    `sw` and its bias `sb`. -/
structure Slab where
  p : Fin 12 → ℕ → Fin 128 → ℝ
  d : ℕ → Fin 128 → ℝ
  w : Fin 3 → Fin 128 → ℝ
  sw : Fin 128 → Fin 128 → ℝ
  sb : Fin 128 → ℝ

namespace Slab

variable (S : Slab) (s : ℕ) (l : Fin 128)

/-- `x · logistic x` and its slope. -/
def silu (x : ℝ) : ℝ := x * sg x
def dsilu (x : ℝ) : ℝ := sg x * (1 + x * (1 - sg x))

/-- The convolution's operand, the same `n` rows above, and the convolution. -/
def ca : ℝ := S.p 2 s l * S.p 0 s l
def caS (n : ℕ) : ℝ := if n ≤ s then S.ca (s - n) l else 0
def cv : ℝ := S.w 2 l * S.ca s l + S.w 1 l * S.caS s l 1 + S.w 0 l * S.caS s l 2

/-- The first mixer's value, and the gradients of its parts. -/
def ya : ℝ := silu (S.p 3 s l) * S.p 1 s l * S.cv s l
def dya : ℝ := S.d s l * sg (S.p 9 s l)
def dcv : ℝ := S.dya s l * silu (S.p 3 s l) * S.p 1 s l
def dcvU (n : ℕ) : ℝ := if s + n < 2048 then S.dcv (s + n) l else 0
def dca : ℝ := S.w 2 l * S.dcv s l + S.w 1 l * S.dcvU s l 1 + S.w 0 l * S.dcvU s l 2

/-- The normalised rows of the second mixer: centred, divided by the root of the variance plus epsilon. -/
def vc : ℝ := S.p 5 s l - (∑ j, S.p 5 s j) / 128
def var : ℝ := (∑ j, S.vc s j * S.vc s j) / 128 + eps
def rs : ℝ := (Real.sqrt (S.var s))⁻¹
def vn : ℝ := S.vc s l * S.rs s

/-- The row mixing inside a chunk of 128 rows. -/
def z : ℝ := (∑ j : Fin 128, S.sw ⟨s % 128, Nat.mod_lt _ (by decide)⟩ j * S.vn (128 * (s / 128) + j.val) l) + S.sb ⟨s % 128, Nat.mod_lt _ (by decide)⟩
def ys : ℝ := silu (S.p 6 s l) * S.p 4 s l * S.z s l
def dys : ℝ := S.d s l * sg (S.p 10 s l)
def dz : ℝ := S.dys s l * silu (S.p 6 s l) * S.p 4 s l
def dvn : ℝ := ∑ j : Fin 128, S.sw j ⟨s % 128, Nat.mod_lt _ (by decide)⟩ * S.dz (128 * (s / 128) + j.val) l
def dsv : ℝ := S.rs s * (S.dvn s l - (∑ j, S.dvn s j) / 128 - S.vn s l * ((∑ j, S.dvn s j * S.vn s j) / 128))

/-- The gradients of the segments. -/
def gAX : ℝ := S.dca s l * S.p 2 s l
def gAB : ℝ := S.dya s l * silu (S.p 3 s l) * S.cv s l
def gAC : ℝ := S.dca s l * S.p 0 s l
def gAZ : ℝ := S.dya s l * S.p 1 s l * S.cv s l * dsilu (S.p 3 s l)
def gSU : ℝ := S.dys s l * silu (S.p 6 s l) * S.z s l
def gSZ : ℝ := S.dys s l * S.p 4 s l * S.z s l * dsilu (S.p 6 s l)
def gGA : ℝ := S.d s l * S.ya s l * sg (S.p 9 s l) * (1 - sg (S.p 9 s l))
def gGS : ℝ := S.d s l * S.ys s l * sg (S.p 10 s l) * (1 - sg (S.p 10 s l))

theorem var_pos : 0 < S.var s :=
  add_pos_of_nonneg_of_pos (div_nonneg (Finset.sum_nonneg fun _ _ => mul_self_nonneg _) (by norm_num)) eps_pos

end Slab

end Cert.Kernel2Ideal.Mix

end
-- ==== Proof.MixWords.lean ====
/-
  The values of one trip of the chunk loop, over real numbers: what the trip reads and computes on rows `128 q` to
  `128 q + 127`, with `q` the trip's chunk, are the rows of the gradients' formulas.
-/
module

public import proofs.«01_k».proof.Proof.MixSpec

@[expose] public section

set_option maxRecDepth 16384

noncomputable section

open Idealize.ShloMosaic Idealize.ShloMosaic.Pointwise

namespace Cert.Kernel2Ideal.Mix

open Cert.Kernel2Ideal.Gen

/-- The segments' block and the incoming gradient's block. -/
def Slab.X2 (S : Slab) : Vec Ideal S12x1x2048x128 .bf16 := fun i => ((S.p (i 0) (i 2).val (i 3) : ℝ) : EReal)
def Slab.X3 (S : Slab) : Vec Ideal S1x2048x128 .bf16 := fun i => ((S.d (i 1).val (i 2) : ℝ) : EReal)

/-- The chunk of a trip: the last first. -/
def q (k : Fin k0_t1_loop.trips) : ℕ := 15 - k.val

theorem q_le (k : Fin k0_t1_loop.trips) : k.val ≤ 15 := by
  have h : k.val < 16 := Nat.lt_of_lt_of_le k.isLt k0_t1_abs.2.1
  omega

/-- The rows of chunk `c` of the row function `f`. -/
abbrev ch (c : ℕ) (f : ℕ → Fin 128 → ℝ) {φ : FTy} : FVec Ideal S128x128 φ := R2 (fun i l => f (128 * c + i.val) l)

variable (S : Slab) {arg2 : Memref sig .tc .vmem S12x1x2048x128 .bf16} (h2 : arg2.IsWhole)
  {arg3 : Memref sig .tc .vmem S1x2048x128 .bf16} (h3 : arg3.IsWhole) (k : Fin k0_t1_loop.trips)

/-- Equal places hold equal numbers. -/
theorem p_congr {j j' : Fin 12} {s s' : ℕ} {l l' : Fin 128} (hj : j.val = j'.val) (hs : s = s') (hl : l.val = l'.val) :
    ((S.p j s l : ℝ) : EReal) = ((S.p j' s' l' : ℝ) : EReal) := by
  obtain rfl := Fin.ext hj; obtain rfl := Fin.ext hl; subst hs; rfl
theorem d_congr {s s' : ℕ} {l l' : Fin 128} (hs : s = s') (hl : l.val = l'.val) :
    ((S.d s l : ℝ) : EReal) = ((S.d s' l' : ℝ) : EReal) := by
  obtain rfl := Fin.ext hl; subst hs; rfl

/-- A load of a segment's chunk. -/
theorem load4 (j : Fin 12) {off : Fin 4 → ℕ} (h : off = ![j.val, 0, 1920 - 128 * k.val, 0]) (inb) :
    View.readAt (Elt Ideal) arg2.view (Rect.unit (s := S12x1x2048x128) off S1x1x128x128.size inb).toLoadRect (h2.unread S.X2)
      = R4 (fun i l => S.p j (128 * q k + i.val) l) (φ := .bf16) := by
  subst h
  have hk := q_le k
  funext i
  rw [View.readAt_apply, h2.read_unread]
  have h0 : (i 0).val = 0 := Nat.lt_one_iff.mp (i 0).isLt
  refine p_congr S ?_ ?_ ?_
  · show j.val + 1 * (i 0).val = j.val
    omega
  · show 1920 - 128 * k.val + 1 * (i 2).val = 128 * q k + (i 2).val
    unfold q; omega
  · show 0 + 1 * (i 3).val = (i 3).val
    omega

/-- A load of the 16 rows above a segment's chunk. -/
theorem load4h (j : Fin 12) {off : Fin 4 → ℕ} (h : off = ![j.val, 0, 128 * q k - 16, 0]) (inb) :
    View.readAt (Elt Ideal) arg2.view (Rect.unit (s := S12x1x2048x128) off S1x1x16x128.size inb).toLoadRect (h2.unread S.X2)
      = R4 (fun i l => S.p j (128 * q k - 16 + i.val) l) (φ := .bf16) := by
  subst h
  funext i
  rw [View.readAt_apply, h2.read_unread]
  have h0 : (i 0).val = 0 := Nat.lt_one_iff.mp (i 0).isLt
  refine p_congr S ?_ ?_ ?_
  · show j.val + 1 * (i 0).val = j.val
    omega
  · show 128 * q k - 16 + 1 * (i 2).val = 128 * q k - 16 + (i 2).val
    omega
  · show 0 + 1 * (i 3).val = (i 3).val
    omega

theorem off5 : ∀ k : Fin k0_t1_loop.trips, k0_off5 k = ![2, 0, 128 * q k - 16, 0] := by decide +kernel
theorem off6 : ∀ k : Fin k0_t1_loop.trips, k0_off6 k = ![0, 0, 128 * q k - 16, 0] := by decide +kernel
theorem v105_eq : ∀ k : Fin k0_t1_loop.trips, trip_k0_t1.sl.v105 k = if 0 < q k then 1#1 else 0#1 := by decide +kernel

/-- A load of the incoming gradient's chunk. -/
theorem load3 {off : Fin 3 → ℕ} (h : off = ![0, 1920 - 128 * k.val, 0]) (inb) :
    View.readAt (Elt Ideal) arg3.view (Rect.unit (s := S1x2048x128) off S1x128x128.size inb).toLoadRect (h3.unread S.X3)
      = R3 (fun i l => S.d (128 * q k + i.val) l) (φ := .bf16) := by
  subst h
  have hk := q_le k
  funext i
  rw [View.readAt_apply, h3.read_unread]
  refine d_congr S ?_ ?_
  · show 1920 - 128 * k.val + 1 * (i 1).val = 128 * q k + (i 1).val
    unfold q; omega
  · show 0 + 1 * (i 2).val = (i 2).val
    omega

theorem w_0 : trip_k0_t1.sl.r (F := Ideal) arg2 (h2.unread S.X2) k = ch (q k) (S.p 0) := by
  unfold trip_k0_t1.sl.r k0_pay12
  simp only [load4 S h2 k 0 (k0_off1_eq k), cast4_R4, extf_R2]
theorem w_1 : trip_k0_t1.sl.r_1 (F := Ideal) arg2 (h2.unread S.X2) k = ch (q k) (S.p 2) := by
  unfold trip_k0_t1.sl.r_1 k0_pay13
  simp only [load4 S h2 k 2 (k0_off2_eq k), cast4_R4, extf_R2]
theorem w_2 : trip_k0_t1.sl.r_2 (F := Ideal) arg2 (h2.unread S.X2) k = ch (q k) (S.p 1) := by
  unfold trip_k0_t1.sl.r_2 k0_pay14
  simp only [load4 S h2 k 1 (k0_off3_eq k), cast4_R4, extf_R2]
theorem w_3 : trip_k0_t1.sl.r_3 (F := Ideal) arg2 (h2.unread S.X2) k = ch (q k) (S.p 3) := by
  unfold trip_k0_t1.sl.r_3 k0_pay15
  simp only [load4 S h2 k 3 (k0_off4_eq k), cast4_R4, extf_R2]
theorem w_4 : trip_k0_t1.sl.r_4 (F := Ideal) arg2 (h2.unread S.X2) k = ch (q k) S.ca := by
  unfold trip_k0_t1.sl.r_4 k0_pay16 k0_pay13 k0_pay12
  simp only [load4 S h2 k 2 (k0_off2_eq k), load4 S h2 k 0 (k0_off1_eq k), cast4_R4, extf_R2, mulf_R2]
  rfl

theorem cond_eq : ∀ k : Fin k0_t1_loop.trips, Scalar.cmpi .sgt (Scalar.subi 15#32 (Scf.iv 0#32 1#32 k.val)) 0#32 = if 0 < q k then 1#1 else 0#1 := by
  decide +kernel

theorem select_R2 {n m : ℕ} {φ : FTy} (c : Prop) [Decidable c] (a b : Fin n → Fin m → ℝ) :
    Scalar.select (if c then 1#1 else 0#1) (R2 a (φ := φ)) (R2 b) = R2 (fun i l => if c then a i l else b i l) := by
  by_cases h : c
  · simp only [h, if_true]; rfl
  · simp only [h, if_false]; rfl

/-- The convolution's operand with the 16 rows above the chunk, counted from there. -/
def Slab.ext (c r : ℕ) (l : Fin 128) : ℝ := if 16 ≤ 128 * c + r then S.ca (128 * c + r - 16) l else 0

theorem halo : k0_pay18 (F := Ideal) (trip_k0_t1.sl.r_5 arg2 (h2.unread S.X2) k) (trip_k0_t1.sl.v105 k)
    (View.readAt (Elt Ideal) arg2.view (Rect.unit (s := S12x1x2048x128) (k0_off6 k) S1x1x16x128.size (k0_off6_inb k)).toLoadRect (h2.unread S.X2))
      = R2 (fun i l => S.ext (q k) i.val l) := by
  unfold k0_pay18 trip_k0_t1.sl.r_5 k0_pay17
  rw [v105_eq]
  simp only [load4h S h2 k 2 (off5 k), load4h S h2 k 0 (off6 k), cast16_R4, extf_R2, cond_eq, zero_splat, select_R2, mulf_R2]
  refine congrArg (fun a => R2 a) (funext fun i => funext fun l => ?_)
  have hi := i.isLt
  unfold Slab.ext Slab.ca
  by_cases h : 0 < q k
  · have e : 128 * q k - 16 + i.val = 128 * q k + i.val - 16 := by omega
    rw [if_pos h, if_pos h, if_pos (by omega), e]
  · rw [if_neg h, if_neg h, if_neg (by omega), mul_zero]

theorem rows_ext (c : ℕ) (s : ℕ) (hs : s ≤ 16) : R2 (fun (i : Fin 128) l => S.ext c (16 + i.val - s) l) (φ := .f32) = ch c (fun r l => S.caS r l s) := by
  unfold ch
  refine congrArg (fun a => R2 a) (funext fun i => funext fun l => ?_)
  unfold Slab.ext Slab.caS
  dsimp only
  by_cases h : s ≤ 128 * c + i.val
  · rw [if_pos h, if_pos (by omega)]; congr 1; omega
  · rw [if_neg h, if_neg (by omega)]

theorem concat_ext : concatenate S144x128 0 [⟨S16x128, R2 (fun i l => S.ext (q k) i.val l) (φ := .f32)⟩, ⟨S128x128, ch (q k) S.ca (φ := .f32)⟩]
    concatenates_S16x128_S128x128_S144x128_d0 = R2 (fun (i : Fin 144) l => S.ext (q k) i.val l) :=
  concat_down _ _ (S.ext (q k)) (fun _ _ => rfl) fun i l => by
    unfold Slab.ext
    rw [if_pos (by omega)]; congr 1; omega

theorem w_6 : trip_k0_t1.sl.r_6 (F := Ideal) arg2 (h2.unread S.X2) k = ch (q k) (fun r l => S.caS r l 1) := by
  unfold trip_k0_t1.sl.r_6 k0_pay19
  dsimp only
  rw [w_4, halo, concat_ext]
  simp only [down_R2 _ 1 (by omega) 1#32 rfl, rows_ext S _ 1 (by omega)]
theorem w_7 : trip_k0_t1.sl.r_7 (F := Ideal) arg2 (h2.unread S.X2) k = ch (q k) (fun r l => S.caS r l 2) := by
  unfold trip_k0_t1.sl.r_7 k0_pay20
  dsimp only
  rw [w_4, halo, concat_ext]
  simp only [down_R2 _ 2 (by omega) 2#32 rfl, rows_ext S _ 2 (by omega)]

/-- The convolution's three taps, as rows. -/
abbrev Slab.wr (j : Fin 3) : Vec Ideal S1x128 .f32 := R2 (fun _ l => S.w j l) (φ := .f32)

theorem w_8 : trip_k0_t1.sl.r_8 (F := Ideal) arg2 (S.wr 0) (S.wr 1) (S.wr 2) (h2.unread S.X2) k = ch (q k) S.cv := by
  have e6 := w_6 S h2 k
  have e7 := w_7 S h2 k
  unfold trip_k0_t1.sl.r_6 at e6
  unfold trip_k0_t1.sl.r_7 at e7
  unfold trip_k0_t1.sl.r_8 k0_pay21
  rw [e6, e7]
  simp only [w_4, row_R2, mulf_R2, addf_R2]
  rfl

/-- The kernel's logistic function. -/
theorem sg_R2 (a : Fin 128 → Fin 128 → ℝ) : addf (mulf (broadcast S128x128 (Scalar.ofBits (F := Ideal) .f32 0x3F000000#32))
    (tanh (mulf (broadcast S128x128 (Scalar.ofBits .f32 0x3F000000#32)) (R2 a)))) (broadcast S128x128 (Scalar.ofBits .f32 0x3F000000#32))
      = R2 (fun i l => sg (a i l)) := by
  simp only [half_splat, mulf_R2, tanh_R2, addf_R2, sg_tanh]

theorem w_9 : trip_k0_t1.sl.r_9 (F := Ideal) arg2 (h2.unread S.X2) k = ch (q k) (fun r l => sg (S.p 3 r l)) := by
  unfold trip_k0_t1.sl.r_9 k0_pay22
  simp only [w_3, sg_R2]
theorem w_10 : trip_k0_t1.sl.r_10 (F := Ideal) arg2 (h2.unread S.X2) k = ch (q k) (fun r l => Slab.silu (S.p 3 r l)) := by
  unfold trip_k0_t1.sl.r_10 k0_pay23 k0_pay22
  simp only [w_3, sg_R2, mulf_R2]
  rfl
theorem w_11 : trip_k0_t1.sl.r_11 (F := Ideal) arg2 (S.wr 0) (S.wr 1) (S.wr 2) (h2.unread S.X2) k = ch (q k) S.ya := by
  have e8 := w_8 S h2 k
  unfold trip_k0_t1.sl.r_8 at e8
  unfold trip_k0_t1.sl.r_11 k0_pay24 k0_pay23 k0_pay22
  simp only [e8, w_2, w_3, sg_R2, mulf_R2]
  rfl
theorem w_12 : trip_k0_t1.sl.r_12 (F := Ideal) arg2 (h2.unread S.X2) k = ch (q k) S.vc := by
  unfold trip_k0_t1.sl.r_12 k0_pay25
  simp only [load4 S h2 k 5 (k0_off7_eq k), cast4_R4, extf_R2, len_splat]
  erw [lanes_R2]
  simp only [div128_R2, col_R2, subf_R2]
  rfl
theorem w_13 : trip_k0_t1.sl.r_13 (F := Ideal) arg2 (h2.unread S.X2) k = R2 (fun i _ => S.var (128 * q k + i.val) - eps) := by
  have e12 := w_12 S h2 k
  unfold trip_k0_t1.sl.r_12 at e12
  unfold trip_k0_t1.sl.r_13 k0_pay26
  simp only [e12, mulf_R2, len_splat]
  erw [lanes_R2]
  simp only [div128_R2, Slab.var, add_sub_cancel_right]
theorem rs_eq : k0_pay28 (F := Ideal) (trip_k0_t1.sl.r_13 arg2 (h2.unread S.X2) k) k0_pay27 = R2 (fun i _ => S.rs (128 * q k + i.val)) := by
  unfold k0_pay28 k0_pay27
  simp only [w_13, eps_splat, addf_R2, sub_add_cancel]
  exact rsqrt_R2 _ fun i _ => S.var_pos _
theorem w_14 : trip_k0_t1.sl.r_14 (F := Ideal) arg2 (h2.unread S.X2) k = R2 (fun i _ => S.rs (128 * q k + i.val)) := by
  unfold trip_k0_t1.sl.r_14
  exact rs_eq S h2 k
theorem w_15 : trip_k0_t1.sl.r_15 (F := Ideal) arg2 (h2.unread S.X2) k = ch (q k) S.vn := by
  unfold trip_k0_t1.sl.r_15 k0_pay29
  simp only [rs_eq, w_12, col_R2, mulf_R2]
  rfl

/-- Row `i` of chunk `c`: its place in the chunk, and the chunk's first row. -/
theorem mod_row (c : ℕ) (i : Fin 128) : (⟨(128 * c + i.val) % 128, Nat.mod_lt _ (by decide)⟩ : Fin 128) = i := by
  apply Fin.ext
  show (128 * c + i.val) % 128 = i.val
  omega
theorem div_row (c : ℕ) (i : Fin 128) : (128 * c + i.val) / 128 = c := by omega

/-- The mixing matrix and the bias repeated over the lanes. -/
abbrev Slab.swm : FVec Ideal S128x128 .bf16 := R2 S.sw
abbrev Slab.sbm : FVec Ideal S128x128 .f32 := R2 (fun i _ => S.sb i)

theorem w_16 : trip_k0_t1.sl.r_16 (F := Ideal) arg2 S.swm S.sbm (h2.unread S.X2) k = ch (q k) S.z := by
  have e15 := w_15 S h2 k
  unfold trip_k0_t1.sl.r_15 at e15
  unfold trip_k0_t1.sl.r_16 k0_pay30
  simp only [e15, truncf_R2, dot_R2, addf_R2, ch, Slab.z, mod_row, div_row]
theorem w_17 : trip_k0_t1.sl.r_17 (F := Ideal) arg2 (h2.unread S.X2) k = ch (q k) (S.p 4) := by
  unfold trip_k0_t1.sl.r_17 k0_pay31
  simp only [load4 S h2 k 4 (k0_off8_eq k), cast4_R4, extf_R2]
theorem w_18 : trip_k0_t1.sl.r_18 (F := Ideal) arg2 (h2.unread S.X2) k = ch (q k) (S.p 6) := by
  unfold trip_k0_t1.sl.r_18 k0_pay32
  simp only [load4 S h2 k 6 (k0_off9_eq k), cast4_R4, extf_R2]
theorem w_19 : trip_k0_t1.sl.r_19 (F := Ideal) arg2 (h2.unread S.X2) k = ch (q k) (fun r l => sg (S.p 6 r l)) := by
  unfold trip_k0_t1.sl.r_19 k0_pay33 k0_pay32
  simp only [load4 S h2 k 6 (k0_off9_eq k), cast4_R4, extf_R2, sg_R2]
theorem w_20 : trip_k0_t1.sl.r_20 (F := Ideal) arg2 (h2.unread S.X2) k = ch (q k) (fun r l => Slab.silu (S.p 6 r l)) := by
  unfold trip_k0_t1.sl.r_20 k0_pay34 k0_pay33 k0_pay32
  simp only [load4 S h2 k 6 (k0_off9_eq k), cast4_R4, extf_R2, sg_R2, mulf_R2]
  rfl
theorem w_21 : trip_k0_t1.sl.r_21 (F := Ideal) arg2 S.swm S.sbm (h2.unread S.X2) k = ch (q k) S.ys := by
  have e16 := w_16 S h2 k
  have e17 := w_17 S h2 k
  have e20 := w_20 S h2 k
  unfold trip_k0_t1.sl.r_16 at e16
  unfold trip_k0_t1.sl.r_17 at e17
  unfold trip_k0_t1.sl.r_20 at e20
  unfold trip_k0_t1.sl.r_21 k0_pay35
  simp only [e16, e17, e20, mulf_R2]
  rfl
theorem w_41 : trip_k0_t1.sl.r_41 (F := Ideal) arg2 (h2.unread S.X2) k = ch (q k) (fun r l => sg (S.p 9 r l)) := by
  unfold trip_k0_t1.sl.r_41 k0_pay58
  simp only [load4 S h2 k 9 (k0_off13_eq k), cast4_R4, extf_R2, sg_R2]
theorem w_42 : trip_k0_t1.sl.r_42 (F := Ideal) arg2 (h2.unread S.X2) k = ch (q k) (fun r l => sg (S.p 10 r l)) := by
  unfold trip_k0_t1.sl.r_42 k0_pay59
  simp only [load4 S h2 k 10 (k0_off14_eq k), cast4_R4, extf_R2, sg_R2]
theorem w_46 : trip_k0_t1.sl.r_46 (F := Ideal) arg3 (h3.unread S.X3) k = ch (q k) S.d := by
  unfold trip_k0_t1.sl.r_46 k0_pay63
  simp only [load3 S h3 k (k0_off16_eq k), cast3_R3, extf_R2]
theorem w_48 : trip_k0_t1.sl.r_48 (F := Ideal) arg2 arg3 (S.wr 0) (S.wr 1) (S.wr 2) (h2.unread S.X2) (h3.unread S.X3) k
    = ch (q k) (fun r l => S.d r l * S.ya r l * sg (S.p 9 r l)) := by
  unfold trip_k0_t1.sl.r_48 k0_pay65 k0_pay63
  simp only [load3 S h3 k (k0_off16_eq k), cast3_R3, extf_R2, w_11, w_41, mulf_R2]
theorem w_49 : trip_k0_t1.sl.r_49 (F := Ideal) arg2 arg3 (h2.unread S.X2) (h3.unread S.X3) k = ch (q k) S.dya := by
  unfold trip_k0_t1.sl.r_49 k0_pay69
  simp only [w_41, w_46, mulf_R2]
  rfl
theorem w_50 : trip_k0_t1.sl.r_50 (F := Ideal) arg2 arg3 (S.wr 0) (S.wr 1) (S.wr 2) (h2.unread S.X2) (h3.unread S.X3) k = ch (q k) S.gAZ := by
  unfold trip_k0_t1.sl.r_50 k0_pay70 k0_pay69
  simp only [w_2, w_3, w_8, w_9, w_41, w_46, mulf_R2, one_splat, subf_R2, addf_R2, truncf_R2]
  rfl
theorem w_51 : trip_k0_t1.sl.r_51 (F := Ideal) arg2 arg3 (h2.unread S.X2) (h3.unread S.X3) k = ch (q k) S.dcv := by
  unfold trip_k0_t1.sl.r_51 k0_pay73
  simp only [w_2, w_10, w_49, mulf_R2]
  rfl
theorem w_53 : trip_k0_t1.sl.r_53 (F := Ideal) arg2 arg3 (h2.unread S.X2) (h3.unread S.X3) k
    = R2 (fun _ l => ∑ i : Fin 128, S.dcv (128 * q k + i.val) l * S.ca (128 * q k + i.val) l) := by
  have e51 := w_51 S h2 h3 k
  unfold trip_k0_t1.sl.r_51 at e51
  unfold trip_k0_t1.sl.r_53 k0_pay78
  simp only [e51, w_4, mulf_R2]
  exact rows_R2 _
theorem w_54 : trip_k0_t1.sl.r_54 (F := Ideal) arg2 arg3 (h2.unread S.X2) (h3.unread S.X3) k = ch (q k) S.dys := by
  unfold trip_k0_t1.sl.r_54 k0_pay82
  simp only [w_42, w_46, mulf_R2]
  rfl
theorem w_55 : trip_k0_t1.sl.r_55 (F := Ideal) arg2 arg3 S.swm S.sbm (h2.unread S.X2) (h3.unread S.X3) k = ch (q k) S.gSU := by
  unfold trip_k0_t1.sl.r_55 k0_pay84 k0_pay82
  simp only [w_16, w_20, w_42, w_46, mulf_R2, truncf_R2]
  rfl
theorem dz_eq : k0_pay86 (F := Ideal) (trip_k0_t1.sl.r_17 arg2 (h2.unread S.X2) k) (trip_k0_t1.sl.r_20 arg2 (h2.unread S.X2) k)
    (trip_k0_t1.sl.r_54 arg2 arg3 (h2.unread S.X2) (h3.unread S.X3) k) = ch (q k) S.dz := by
  unfold k0_pay86
  simp only [w_17, w_20, w_54, mulf_R2]
  rfl
theorem dz_eq' : k0_pay87 (F := Ideal) (trip_k0_t1.sl.r_17 arg2 (h2.unread S.X2) k) (trip_k0_t1.sl.r_20 arg2 (h2.unread S.X2) k)
    (trip_k0_t1.sl.r_54 arg2 arg3 (h2.unread S.X2) (h3.unread S.X3) k) = ch (q k) S.dz := by
  unfold k0_pay87
  rw [dz_eq]
  rfl
theorem dvn_eq (c : ℕ) : R2 (fun (i : Fin 128) l => ∑ j : Fin 128, S.sw j i * S.dz (128 * c + j.val) l) (φ := .f32) = ch c S.dvn := by
  simp only [ch, Slab.dvn, mod_row, div_row]
theorem w_56 : trip_k0_t1.sl.r_56 (F := Ideal) arg2 arg3 S.swm (h2.unread S.X2) (h3.unread S.X3) k
    = ch (q k) (fun r l => S.dvn r l - (∑ j, S.dvn r j) / 128 - S.vn r l * ((∑ j, S.dvn r j * S.vn r j) / 128)) := by
  unfold trip_k0_t1.sl.r_56 k0_pay90
  simp only [dz_eq', w_15, dot_tn_R2, dvn_eq, mulf_R2, len_splat]
  erw [lanes_R2, lanes_R2]
  simp only [div128_R2, col_R2, mulf_R2, subf_R2]

/-- What a trip stores in the segments, and adds to the weights. -/
theorem o_GA : k0_pay66 (F := Ideal) (trip_k0_t1.sl.r_41 arg2 (h2.unread S.X2) k)
    (trip_k0_t1.sl.r_48 arg2 arg3 (S.wr 0) (S.wr 1) (S.wr 2) (h2.unread S.X2) (h3.unread S.X3) k) trip_k0_t1.sl.cst_148
      = R4 (fun i l => S.gGA (128 * q k + i.val) l) := by
  unfold k0_pay66 trip_k0_t1.sl.cst_148
  simp only [w_41, w_48, one_splat', subf_R2, mulf_R2, truncf_R2, cast4_R2]
  rfl
theorem o_GS : k0_pay67 (F := Ideal) (trip_k0_t1.sl.r_21 arg2 S.swm S.sbm (h2.unread S.X2) k) (trip_k0_t1.sl.r_42 arg2 (h2.unread S.X2) k)
    (trip_k0_t1.sl.r_46 arg3 (h3.unread S.X3) k) = R4 (fun i l => S.gGS (128 * q k + i.val) l) := by
  unfold k0_pay67
  simp only [w_21, w_42, w_46, one_splat, subf_R2, mulf_R2, truncf_R2, cast4_R2]
  rfl
theorem o_AZ : k0_pay71 (F := Ideal) (trip_k0_t1.sl.r_50 arg2 arg3 (S.wr 0) (S.wr 1) (S.wr 2) (h2.unread S.X2) (h3.unread S.X3) k)
    = R4 (fun i l => S.gAZ (128 * q k + i.val) l) := by
  unfold k0_pay71
  simp only [w_50, cast4_R2]
theorem o_AB : k0_pay72 (F := Ideal) (trip_k0_t1.sl.r_8 arg2 (S.wr 0) (S.wr 1) (S.wr 2) (h2.unread S.X2) k) (trip_k0_t1.sl.r_10 arg2 (h2.unread S.X2) k)
    (trip_k0_t1.sl.r_49 arg2 arg3 (h2.unread S.X2) (h3.unread S.X3) k) = R4 (fun i l => S.gAB (128 * q k + i.val) l) := by
  unfold k0_pay72
  simp only [w_8, w_10, w_49, mulf_R2, truncf_R2, cast4_R2]
  rfl

/-- The rows behind a chunk that a trip is handed: the next chunk's first rows of the convolution's gradient. -/
def Slab.after (c : ℕ) : FVec Ideal S16x128 .f32 := R2 (fun i l => S.dcvU (128 * c) l (128 + i.val))

theorem dca_eq : k0_pay74 (F := Ideal) (S.wr 0) (S.wr 1) (S.wr 2) (S.after (q k)) (trip_k0_t1.sl.r_2 arg2 (h2.unread S.X2) k)
    (trip_k0_t1.sl.r_10 arg2 (h2.unread S.X2) k) (trip_k0_t1.sl.r_49 arg2 arg3 (h2.unread S.X2) (h3.unread S.X3) k) = ch (q k) S.dca := by
  have e51 := w_51 S h2 h3 k
  unfold trip_k0_t1.sl.r_51 at e51
  have hq : q k ≤ 15 := Nat.sub_le _ _
  unfold k0_pay74 Slab.after
  rw [e51]
  have hc : concatenate S144x128 0 [⟨S128x128, ch (q k) S.dcv (φ := .f32)⟩, ⟨S16x128, R2 (fun i l => S.dcvU (128 * q k) l (128 + i.val)) (φ := .f32)⟩]
      concatenates_S128x128_S16x128_S144x128_d0 = R2 (fun (i : Fin 144) l => S.dcvU (128 * q k) l i.val) :=
    concat_up _ _ (fun r l => S.dcvU (128 * q k) l r) (fun _ _ => rfl) fun i l => by
      have hi := i.isLt
      unfold Slab.dcvU
      rw [if_pos (by omega)]
  rw [hc]
  simp only [up_R2 (fun r l => S.dcvU (128 * q k) l r) 1 (by omega) (by omega) 143#32 rfl,
    up_R2 (fun r l => S.dcvU (128 * q k) l r) 2 (by omega) (by omega) 142#32 rfl, row_R2, mulf_R2, addf_R2]
  rfl
theorem o_AC : k0_pay75 (F := Ideal) (S.wr 0) (S.wr 1) (S.wr 2) (S.after (q k)) (trip_k0_t1.sl.r arg2 (h2.unread S.X2) k) (trip_k0_t1.sl.r_2 arg2 (h2.unread S.X2) k)
    (trip_k0_t1.sl.r_10 arg2 (h2.unread S.X2) k) (trip_k0_t1.sl.r_49 arg2 arg3 (h2.unread S.X2) (h3.unread S.X3) k) = R4 (fun i l => S.gAC (128 * q k + i.val) l) := by
  unfold k0_pay75
  simp only [dca_eq, w_0, mulf_R2, truncf_R2, cast4_R2]
  rfl
theorem o_AX : k0_pay76 (F := Ideal) (S.wr 0) (S.wr 1) (S.wr 2) (S.after (q k)) (trip_k0_t1.sl.r_1 arg2 (h2.unread S.X2) k) (trip_k0_t1.sl.r_2 arg2 (h2.unread S.X2) k)
    (trip_k0_t1.sl.r_10 arg2 (h2.unread S.X2) k) (trip_k0_t1.sl.r_49 arg2 arg3 (h2.unread S.X2) (h3.unread S.X3) k) = R4 (fun i l => S.gAX (128 * q k + i.val) l) := by
  unfold k0_pay76
  simp only [dca_eq, w_1, mulf_R2, truncf_R2, cast4_R2]
  rfl
theorem o_SZ : k0_pay83 (F := Ideal) (trip_k0_t1.sl.r_16 arg2 S.swm S.sbm (h2.unread S.X2) k) (trip_k0_t1.sl.r_17 arg2 (h2.unread S.X2) k)
    (trip_k0_t1.sl.r_18 arg2 (h2.unread S.X2) k) (trip_k0_t1.sl.r_19 arg2 (h2.unread S.X2) k) (trip_k0_t1.sl.r_42 arg2 (h2.unread S.X2) k)
    (trip_k0_t1.sl.r_46 arg3 (h3.unread S.X3) k) = R4 (fun i l => S.gSZ (128 * q k + i.val) l) := by
  unfold k0_pay83 k0_pay82
  simp only [w_16, w_17, w_18, w_19, w_42, w_46, one_splat, subf_R2, addf_R2, mulf_R2, truncf_R2, cast4_R2]
  rfl
theorem o_SU : k0_pay85 (F := Ideal) (trip_k0_t1.sl.r_55 arg2 arg3 S.swm S.sbm (h2.unread S.X2) (h3.unread S.X3) k) = R4 (fun i l => S.gSU (128 * q k + i.val) l) := by
  unfold k0_pay85
  simp only [w_55, cast4_R2]
theorem o_SV : k0_pay91 (F := Ideal) (trip_k0_t1.sl.r_14 arg2 (h2.unread S.X2) k) (trip_k0_t1.sl.r_56 arg2 arg3 S.swm (h2.unread S.X2) (h3.unread S.X3) k)
    = R4 (fun i l => S.dsv (128 * q k + i.val) l) := by
  unfold k0_pay91
  simp only [w_14, w_56, col_R2, mulf_R2, truncf_R2, cast4_R2]
  rfl

/-- What a trip hands on: the first rows of its chunk, which stand behind the chunk before. -/
theorem next_eq (c : ℕ) (hc : q k = c + 1) : trip_k0_t1.sl.r_89 (F := Ideal) arg2 arg3 (h2.unread S.X2) (h3.unread S.X3) k = S.after c := by
  have hq : q k ≤ 15 := Nat.sub_le _ _
  unfold trip_k0_t1.sl.r_89 k0_pay144
  rw [w_51, head_R2]
  unfold Slab.after
  refine congrArg (fun a => R2 a) (funext fun i => funext fun l => ?_)
  have hi := i.isLt
  unfold Slab.dcvU
  rw [if_pos (by omega), hc]
  congr 1
  show 128 * (c + 1) + i.val = 128 * c + (128 + i.val)
  omega

/-- Behind the last chunk there is nothing. -/
theorem after_last : k0_pay8 (F := Ideal) = S.after 15 := by
  unfold k0_pay8 Slab.after
  simp only [zero_splat]
  refine congrArg (fun a => R2 a) (funext fun i => funext fun l => ?_)
  unfold Slab.dcvU
  rw [if_neg (by omega)]

end Cert.Kernel2Ideal.Mix

end
-- ==== Proof.MixTrip.lean ====
/-
  The chunk loop over real numbers: the rows it carries, the segment gradients it stores, and the weight gradients it
  adds up, from the formulas of the gradients.
-/
module

public import proofs.«01_k».proof.Proof.MixEnv
public import proofs.«01_k».proof.Proof.MixWords
public import Idealize.ShloMosaic.Lib.Pipeline.ValueKit
public import Idealize.ShloMosaic.Lib.VecWindow
public import Idealize.ShloMosaic.Lib.Ring

@[expose] public section

set_option maxRecDepth 16384

noncomputable section

open Idealize.ShloMosaic Idealize.ShloMosaic.Pointwise Idealize.ShloMosaic.Tactic

namespace Cert.Kernel2Ideal.Mix

open Cert.Kernel2Ideal.Gen

/-- The body is run on the blocks of `S`. -/
structure Env.Is (e : Env Ideal) (S : Slab) : Prop where
  x2 : e.X_arg2 = e.harg2.unread S.X2
  x3 : e.X_arg3 = e.harg3.unread S.X3
  v0 : e.v0 = S.wr 0
  v1 : e.v1 = S.wr 1
  v2 : e.v2 = S.wr 2
  v16 : e.v16 = S.swm
  v18 : e.v18 = S.sbm

variable {e : Env Ideal} {S : Slab} (h : e.Is S)
include h

/-- Before the trip on chunk `15 - n` the loop carries the rows behind that chunk. -/
theorem carry_eq (n : ℕ) (hn : n ≤ 15) : (e.carry n).1 = S.after (15 - n) := by
  have ht : k0_t1_loop.trips = 16 := by decide
  induction n with
  | zero => exact after_last S
  | succ n ih =>
    rw [Env.carry, dif_pos (by omega : n < k0_t1_loop.trips)]
    show (e.next ⟨n, _⟩ (e.carry n)).1 = _
    unfold Env.next Env.trip trip_k0_t1
    dsimp only
    rw [h.x2, h.x3]
    exact next_eq S e.harg2 e.harg3 _ _ (by show 15 - n = 15 - (n + 1) + 1; omega)

/-- The segment gradients followed: all but the third mixer's. -/
def tracked (j : ℕ) : Bool := j < 7 || j == 9 || j == 10

/-- The gradients by segment. -/
def _root_.Cert.Kernel2Ideal.Mix.Slab.grad (S : Slab) (j : ℕ) : ℕ → Fin 128 → ℝ :=
  match j with
  | 0 => S.gAX | 1 => S.gAB | 2 => S.gAC | 3 => S.gAZ | 4 => S.gSU | 5 => S.dsv | 6 => S.gSZ | 9 => S.gGA | 10 => S.gGS
  | _ => fun _ _ => 0

omit h in
/-- A stored chunk of segment `j` is the chunk of the segment's gradient. -/
theorem tile_grad (S : Slab) (k : Fin k0_t1_loop.trips) (j : ℕ) (y : S12x1x2048x128.Idx) {off : Fin 4 → ℕ} (ho : off = ![j, 0, 1920 - 128 * k.val, 0])
    (w : Vec Ideal S1x1x128x128 .bf16) (hw : tracked j = true → w = R4 (fun i l => S.grad j (128 * q k + i.val) l) (φ := .bf16)) (hy : tracked (y 0).val = true) :
    View.TileAt (S := S12x1x2048x128) (Val := Elt Ideal) (e := .bf16) y off ![1, 1, 128, 128] w ((S.grad (y 0).val (y 2).val (y 3) : ℝ) : EReal) := by
  subst ho
  intro x hx
  have hk := q_le k
  have h0 : (y 0).val = j + (x 0).val := hx 0
  have h2 : (y 2).val = 1920 - 128 * k.val + (x 2).val := hx 2
  have h3 : (y 3).val = 0 + (x 3).val := hx 3
  have hx0 : (x 0).val = 0 := Nat.lt_one_iff.mp (x 0).isLt
  rw [hx0, Nat.add_zero] at h0
  rw [hw (h0 ▸ hy), h0, h2]
  show ((S.grad j (128 * q k + (x 2).val) (x 3) : ℝ) : EReal) = _
  have e1 : 128 * q k + (x 2).val = 1920 - 128 * k.val + (x 2).val := by unfold q; omega
  have e2 : (x 3 : Fin 128) = y 3 := Fin.ext (by show (x 3).val = (y 3).val; omega)
  rw [e1]
  exact congrArg (fun l => ((S.grad j (1920 - 128 * k.val + (x 2).val) l : ℝ) : EReal)) e2

/-- What a trip stores of the followed segments. -/
theorem L15_at (k : Fin k0_t1_loop.trips) (acc : Carry Ideal) (hacc : acc.1 = S.after (q k)) (y : S12x1x2048x128.Idx) (hy : tracked (y 0).val = true) :
    View.AllAt (e.L15 k acc) y ((S.grad (y 0).val (y 2).val (y 3) : ℝ) : EReal) := by
  unfold Env.L15 Env.trip trip_k0_t1
  dsimp only
  rw [h.x2, h.x3, h.v0, h.v1, h.v2, h.v16, h.v18, hacc]
  refine View.allAt_cons_unit _ _ _ _ _ (tile_grad S k 7 y (k0_off10_eq k) _ (fun h => absurd h (by decide)) hy) ?_
  refine View.allAt_cons_unit _ _ _ _ _ (tile_grad S k 8 y (k0_off12_eq k) _ (fun h => absurd h (by decide)) hy) ?_
  refine View.allAt_cons_unit _ _ _ _ _ (tile_grad S k 5 y (k0_off7_eq k) _ (fun _ => o_SV S e.harg2 e.harg3 k) hy) ?_
  refine View.allAt_cons_unit _ _ _ _ _ (tile_grad S k 4 y (k0_off8_eq k) _ (fun _ => o_SU S e.harg2 e.harg3 k) hy) ?_
  refine View.allAt_cons_unit _ _ _ _ _ (tile_grad S k 6 y (k0_off9_eq k) _ (fun _ => o_SZ S e.harg2 e.harg3 k) hy) ?_
  refine View.allAt_cons_unit _ _ _ _ _ (tile_grad S k 0 y (k0_off1_eq k) _ (fun _ => o_AX S e.harg2 e.harg3 k) hy) ?_
  refine View.allAt_cons_unit _ _ _ _ _ (tile_grad S k 2 y (k0_off2_eq k) _ (fun _ => o_AC S e.harg2 e.harg3 k) hy) ?_
  refine View.allAt_cons_unit _ _ _ _ _ (tile_grad S k 1 y (k0_off3_eq k) _ (fun _ => o_AB S e.harg2 e.harg3 k) hy) ?_
  refine View.allAt_cons_unit _ _ _ _ _ (tile_grad S k 3 y (k0_off4_eq k) _ (fun _ => o_AZ S e.harg2 e.harg3 k) hy) ?_
  refine View.allAt_cons_unit _ _ _ _ _ (tile_grad S k 11 y (k0_off15_eq k) _ (fun h => absurd h (by decide)) hy) ?_
  refine View.allAt_cons_unit _ _ _ _ _ (tile_grad S k 10 y (k0_off14_eq k) _ (fun _ => o_GS S e.harg2 e.harg3 k) hy) ?_
  exact View.allAt_cons_unit _ _ _ _ _ (tile_grad S k 9 y (k0_off13_eq k) _ (fun _ => o_GA S e.harg2 e.harg3 k) hy) (View.allAt_nil _ _)

/-- What the trips before `n` stored of the followed segments. -/
theorem pieces_at (y : S12x1x2048x128.Idx) (hy : tracked (y 0).val = true) (n : ℕ) (hn : n ≤ k0_t1_loop.trips) :
    View.AllAt (e.pieces n) y ((S.grad (y 0).val (y 2).val (y 3) : ℝ) : EReal) := by
  have ht : k0_t1_loop.trips = 16 := by decide
  induction n with
  | zero => exact View.allAt_nil _ _
  | succ n ih =>
    have hn' : n < k0_t1_loop.trips := hn
    rw [Env.pieces, dif_pos hn']
    intro p hp
    rcases List.mem_append.mp hp with hp | hp
    · exact L15_at h ⟨n, hn'⟩ _ (carry_eq h n (by omega)) y hy p hp
    · exact ih (by omega) p hp

/-- The segment gradients the loop leaves. -/
theorem out15_at (y : S12x1x2048x128.Idx) (hy : tracked (y 0).val = true) : e.out15 y = ((S.grad (y 0).val (y 2).val (y 3) : ℝ) : EReal) :=
  View.canon_eq_of_allAt _ y _ (e.cover15 y) (pieces_at h y hy _ le_rfl)

/-- A chunk's part of the gradient of the convolution's taps, of the mixing matrix, and of the bias. -/
def _root_.Cert.Kernel2Ideal.Mix.Slab.pcw (S : Slab) (c : ℕ) (j : Fin 3) (l : Fin 128) : ℝ :=
  ∑ i : Fin 128, S.dcv (128 * c + i.val) l * S.caS (128 * c + i.val) l (2 - j.val)
def _root_.Cert.Kernel2Ideal.Mix.Slab.psw (S : Slab) (c : ℕ) (a b : Fin 128) : ℝ := ∑ l : Fin 128, S.dz (128 * c + a.val) l * S.vn (128 * c + b.val) l
def _root_.Cert.Kernel2Ideal.Mix.Slab.psb (S : Slab) (c : ℕ) (a : Fin 128) (_ : Fin 128) : ℝ := ∑ l : Fin 128, S.dz (128 * c + a.val) l

omit h in
theorem cast1_R2 (a : Fin 1 → Fin 128 → ℝ) : shapeCast S1x128 (R2 a (φ := .f32)) shapeCasts_S1x128_S1x128 = R2 a := by
  funext i; obtain ⟨i, l, rfl⟩ : ∃ (a : Fin 1) (b : Fin 128), i = ix2 a b := ⟨_, _, eq_ix2 i⟩
  pointwise
omit h in
theorem cast1c_R2 (a : Fin 128 → Fin 1 → ℝ) : shapeCast S128x1 (R2 a (φ := .f32)) shapeCasts_S128x1_S128x1 = R2 a := by
  funext i; obtain ⟨i, l, rfl⟩ : ∃ (a : Fin 128) (b : Fin 1), i = ix2 a b := ⟨_, _, eq_ix2 i⟩
  pointwise

omit h in
/-- A load of row `j` of the taps' running gradient. -/
theorem load_row {arg : Memref sig .tc .vmem S3x128 .f32} (ha : arg.IsWhole) (G : Fin 3 → Fin 128 → ℝ) (j : Fin 3) {off : Fin 2 → ℕ} (ho : off = ![j.val, 0]) (inb) :
    View.readAt (Elt Ideal) arg.view (Rect.unit (s := S3x128) off S1x128.size inb).toLoadRect (ha.unread (R2 G (φ := .f32))) = R2 (fun _ l => G j l) (φ := .f32) := by
  subst ho
  funext i
  rw [View.readAt_apply, ha.read_unread]
  have h0 : (i 0).val = 0 := Nat.lt_one_iff.mp (i 0).isLt
  have e1 : (⟨j.val + 1 * (i 0).val, by omega⟩ : Fin 3) = j := Fin.ext (by show j.val + 1 * (i 0).val = _; omega)
  have e2 : (⟨0 + 1 * (i 1).val, by have := (i 1).isLt; simpa using this⟩ : Fin 128) = i 1 := Fin.ext (by show 0 + 1 * (i 1).val = _; omega)
  show ((G ⟨j.val + 1 * (i 0).val, _⟩ ⟨0 + 1 * (i 1).val, _⟩ : ℝ) : EReal) = ((G j (i 1) : ℝ) : EReal)
  rw [e1]
  exact congrArg (fun l => ((G j l : ℝ) : EReal)) e2

omit h in
/-- A stored row of the taps' running gradient. -/
theorem tile_row (y : S3x128.Idx) (j : Fin 3) (G : Fin 3 → Fin 128 → ℝ) (w : Vec Ideal S1x128 .f32) (hw : w = R2 (fun _ l => G j l) (φ := .f32)) :
    View.TileAt (S := S3x128) (Val := Elt Ideal) (e := .f32) y ![j.val, 0] ![1, 128] w ((G (y 0) (y 1) : ℝ) : EReal) := by
  intro x hx
  have h0 : (y 0).val = j.val + (x 0).val := hx 0
  have h1 : (y 1).val = 0 + (x 1).val := hx 1
  have hx0 : (x 0).val = 0 := Nat.lt_one_iff.mp (x 0).isLt
  have e1 : (y 0 : Fin 3) = j := Fin.ext (by show (y 0).val = _; omega)
  have e2 : (y 1 : Fin 128) = x 1 := Fin.ext (by show (y 1).val = (x 1).val; omega)
  subst hw
  show ((G j (x 1) : ℝ) : EReal) = _
  rw [e1]
  exact congrArg (fun l => ((G j l : ℝ) : EReal)) e2.symm

/-- The three rows as pieces, and what they leave. -/
def rows3 (G : Fin 3 → Fin 128 → ℝ) : List (View.Piece (Elt Ideal) S3x128 .f32) := [
  ⟨Rect.unit (s := S3x128) ![0, 0] ![1, 128] inb_S3x128_S1x128_0_0, R2 (fun _ l => G 0 l) (φ := .f32)⟩,
  ⟨Rect.unit (s := S3x128) ![1, 0] ![1, 128] inb_S3x128_S1x128_1_0, R2 (fun _ l => G 1 l) (φ := .f32)⟩,
  ⟨Rect.unit (s := S3x128) ![2, 0] ![1, 128] inb_S3x128_S1x128_2_0, R2 (fun _ l => G 2 l) (φ := .f32)⟩]
omit h in
theorem rows3_cover (G : Fin 3 → Fin 128 → ℝ) (y : S3x128.Idx) : ∃ pc ∈ rows3 G, y ∈ pc.1.set :=
  View.cover_of_tiledL (rows3 G) S1x128.size (by sl_kernel_rfl) y
omit h in
theorem rows3_canon (G : Fin 3 → Fin 128 → ℝ) : View.canon (rows3 G) = R2 G (φ := .f32) := by
  funext y
  refine View.canon_eq_of_allAt (rows3 G) y ((G (y 0) (y 1) : ℝ) : EReal) (rows3_cover G y) ?_
  unfold rows3
  refine View.allAt_cons_unit _ _ _ _ _ (tile_row y 0 G _ rfl) ?_
  refine View.allAt_cons_unit _ _ _ _ _ (tile_row y 1 G _ rfl) ?_
  exact View.allAt_cons_unit _ _ _ _ _ (tile_row y 2 G _ rfl) (View.allAt_nil _ _)

/-- One trip's addition to the taps' gradient. -/
theorem L16_step (k : Fin k0_t1_loop.trips) (acc : Carry Ideal) (G : Fin 3 → Fin 128 → ℝ) :
    e.arg16.view.read (Elt Ideal) (e.arg16.view.writes (Elt Ideal) (e.harg16.unread (R2 G (φ := .f32))) (e.L16 k acc (e.harg16.unread (R2 G (φ := .f32)))))
      = R2 (fun j l => G j l + S.pcw (q k) j l) (φ := .f32) := by
  have hL : e.L16 k acc (e.harg16.unread (R2 G (φ := .f32))) = rows3 (fun j l => G j l + S.pcw (q k) j l) := by
    unfold Env.L16 Env.trip trip_k0_t1
    dsimp only
    rw [h.x2, h.x3]
    congr 1
    · congr 1
      unfold k0_pay81 trip_k0_t1.sl.v414
      rw [w_7, w_51, load_row e.harg16 G 0 (off := ![0, 0]) rfl]
      simp only [cast1_R2, mulf_R2]
      erw [rows_R2]
      rw [addf_R2]
      rfl
    · congr 1
      · congr 1
        unfold k0_pay80 trip_k0_t1.sl.v407
        rw [w_6, w_51, load_row e.harg16 G 1 (off := ![1, 0]) rfl]
        simp only [cast1_R2, mulf_R2]
        erw [rows_R2]
        rw [addf_R2]
        rfl
      · congr 1
        congr 1
        unfold k0_pay79 trip_k0_t1.sl.r_52 k0_pay77
        rw [w_53, load_row e.harg16 G 2 (off := ![2, 0]) rfl]
        simp only [cast1_R2, addf_R2]
        unfold Slab.pcw Slab.caS
        rfl
  rw [hL]
  exact (View.read_writes_eq_canon _ _ _ (rows3_cover _)).trans (rows3_canon _)

/-- One trip's addition to the mixing matrix's gradient. -/
theorem L17_step (k : Fin k0_t1_loop.trips) (acc : Carry Ideal) (G : Fin 128 → Fin 128 → ℝ) :
    e.arg17.view.read (Elt Ideal) (e.arg17.view.writes (Elt Ideal) (e.harg17.unread (R3 G (φ := .f32))) (e.L17 k acc (e.harg17.unread (R3 G (φ := .f32)))))
      = R3 (fun a b => G a b + S.psw (q k) a b) (φ := .f32) := by
  unfold Env.L17 Env.trip trip_k0_t1
  dsimp only
  rw [h.x2, h.x3]
  refine (View.read_writes_full _ _ _ _ _).trans ?_
  have hr : View.readAt (Elt Ideal) e.arg17.view (Rect.unit (s := S1x128x128) ![0, 0, 0] ![1, 128, 128] inb_S1x128x128_S1x128x128_0_0_0).toLoadRect
      (e.harg17.unread (R3 G (φ := .f32))) = R3 G := (View.readAt_full _ _ _).trans (e.harg17.read_unread _)
  unfold k0_pay89
  rw [dz_eq', w_15, hr]
  simp only [cast3_R3, truncf_R2, dot_nt_R2, addf_R2, cast3_R2]
  rfl

/-- One trip's addition to the bias's gradient, on every lane. -/
theorem L18_step (k : Fin k0_t1_loop.trips) (acc : Carry Ideal) (G : Fin 128 → Fin 128 → ℝ) :
    e.arg18.view.read (Elt Ideal) (e.arg18.view.writes (Elt Ideal) (e.harg18.unread (R3 G (φ := .f32))) (e.L18 k acc (e.harg18.unread (R3 G (φ := .f32)))))
      = R3 (fun a b => G a b + S.psb (q k) a b) (φ := .f32) := by
  unfold Env.L18 Env.trip trip_k0_t1
  dsimp only
  rw [h.x2, h.x3]
  refine (View.read_writes_full _ _ _ _ _).trans ?_
  have hr : View.readAt (Elt Ideal) e.arg18.view (Rect.unit (s := S1x128x128) ![0, 0, 0] ![1, 128, 128] inb_S1x128x128_S1x128x128_0_0_0).toLoadRect
      (e.harg18.unread (R3 G (φ := .f32))) = R3 G := (View.readAt_full _ _ _).trans (e.harg18.read_unread _)
  unfold k0_pay88
  rw [dz_eq, hr]
  dsimp only
  erw [lanes_R2]
  simp only [cast1c_R2, cast3_R3, col_R2, addf_R2, cast3_R2]
  rfl

/-- The weight gradients before trip `n`: the start and the parts of the chunks so far. -/
theorem g16_eq (G : Fin 3 → Fin 128 → ℝ) (n : ℕ) (hn : n ≤ k0_t1_loop.trips) :
    e.g16 (R2 G (φ := .f32)) n = R2 (fun j l => G j l + ∑ k ∈ Finset.range n, S.pcw (15 - k) j l) (φ := .f32) := by
  induction n with
  | zero => simp [Env.g16]
  | succ n ih =>
    have hn' : n < k0_t1_loop.trips := hn
    rw [Env.g16, dif_pos hn', ih (by omega), L16_step h]
    simp only [Finset.sum_range_succ, ← add_assoc]
    rfl
theorem g17_eq (G : Fin 128 → Fin 128 → ℝ) (n : ℕ) (hn : n ≤ k0_t1_loop.trips) :
    e.g17 (R3 G (φ := .f32)) n = R3 (fun a b => G a b + ∑ k ∈ Finset.range n, S.psw (15 - k) a b) (φ := .f32) := by
  induction n with
  | zero => simp [Env.g17]
  | succ n ih =>
    have hn' : n < k0_t1_loop.trips := hn
    rw [Env.g17, dif_pos hn', ih (by omega), L17_step h]
    simp only [Finset.sum_range_succ, ← add_assoc]
    rfl
theorem g18_eq (G : Fin 128 → Fin 128 → ℝ) (n : ℕ) (hn : n ≤ k0_t1_loop.trips) :
    e.g18 (R3 G (φ := .f32)) n = R3 (fun a b => G a b + ∑ k ∈ Finset.range n, S.psb (15 - k) a b) (φ := .f32) := by
  induction n with
  | zero => simp [Env.g18]
  | succ n ih =>
    have hn' : n < k0_t1_loop.trips := hn
    rw [Env.g18, dif_pos hn', ih (by omega), L18_step h]
    simp only [Finset.sum_range_succ, ← add_assoc]
    rfl

end Cert.Kernel2Ideal.Mix

end
-- ==== Proof.MixNums.lean ====
/-
  The real numbers behind the arguments of the mixers' backward pass, and its results over them.
-/
module

public import proofs.«01_k».proof.Proof.MixTrip

@[expose] public section

noncomputable section

open Idealize.ShloMosaic Idealize.ShloMosaic.Pointwise

namespace Cert.Kernel2Ideal.Mix

open Cert.Kernel2Ideal.Gen

/-- A channel of a block of 128, a channel's block and its place there, and a segment's channel in the projection. -/
def chan (b : Fin 8) (l : Fin 128) : Fin 1024 := ⟨128 * b.val + l.val, by omega⟩
def hi (k : Fin 1024) : Fin 8 := ⟨k.val / 128, by omega⟩
def lo (k : Fin 1024) : Fin 128 := ⟨k.val % 128, by omega⟩
def seg (j : Fin 12) (k : Fin 1024) : Fin 12288 := ⟨1024 * j.val + k.val, by omega⟩

theorem hi_chan (b : Fin 8) (l : Fin 128) : hi (chan b l) = b := Fin.ext (by show (128 * b.val + l.val) / 128 = b.val; omega)
theorem lo_chan (b : Fin 8) (l : Fin 128) : lo (chan b l) = l := Fin.ext (by show (128 * b.val + l.val) % 128 = l.val; omega)
theorem chan_hi_lo (k : Fin 1024) : chan (hi k) (lo k) = k := Fin.ext (by show 128 * (k.val / 128) + k.val % 128 = k.val; omega)

/-- The projection, the incoming gradient, the convolution's taps, the mixing matrices and their biases. -/
structure Nums where
  P : Fin 2 → Fin 2048 → Fin 12288 → ℝ
  D : Fin 2 → Fin 2048 → Fin 1024 → ℝ
  W : Fin 3 → Fin 1024 → ℝ
  M : Fin 8 → Fin 128 → Fin 128 → ℝ
  B : Fin 8 → Fin 128 → ℝ

/-- A row function from rows below 2048, zero elsewhere. -/
def rows {α : Type} (f : Fin 2048 → α → ℝ) (s : ℕ) (l : α) : ℝ := if h : s < 2048 then f ⟨s, h⟩ l else 0

theorem rows_val {α : Type} (f : Fin 2048 → α → ℝ) (s : Fin 2048) (l : α) : rows f s.val l = f s l := dif_pos s.isLt

/-- One example's block of 128 channels. -/
def Nums.slab (R : Nums) (b : Fin 2) (g : Fin 8) : Slab where
  p j := rows (fun s l => R.P b s (seg j (chan g l)))
  d := rows (fun s l => R.D b s (chan g l))
  w j l := R.W j (chan g l)
  sw i l := if l ≤ i then R.M g i l else 0
  sb i := R.B g i

/-- The gradients of the segments, of the taps, of the mixing matrices (lower triangular) and of their biases. -/
def Nums.dp (R : Nums) (j : ℕ) (b : Fin 2) (s : Fin 2048) (k : Fin 1024) : ℝ := (R.slab b (hi k)).grad j s.val (lo k)
def Nums.gw (R : Nums) (j : Fin 3) (k : Fin 1024) : ℝ :=
  ∑ n ∈ Finset.range 16, (R.slab 0 (hi k)).pcw (15 - n) j (lo k) + ∑ n ∈ Finset.range 16, (R.slab 1 (hi k)).pcw (15 - n) j (lo k)
def Nums.gm (R : Nums) (g : Fin 8) (i l : Fin 128) : ℝ := if l ≤ i then
  ∑ n ∈ Finset.range 16, (R.slab 0 g).psw (15 - n) i l + ∑ n ∈ Finset.range 16, (R.slab 1 g).psw (15 - n) i l else 0
def Nums.gb (R : Nums) (g : Fin 8) (i : Fin 128) : ℝ :=
  ∑ n ∈ Finset.range 16, (R.slab 0 g).psb (15 - n) i 0 + ∑ n ∈ Finset.range 16, (R.slab 1 g).psb (15 - n) i 0

/-- The lower triangle, as the kernel selects it. -/
theorem tril_eq (i l : Fin 128) : k0_pay147 (ix2 i l) = if l ≤ i then 1#1 else 0#1 := by
  revert i l
  decide +kernel

theorem tril_R2 (a b : Fin 128 → Fin 128 → ℝ) : select k0_pay147 (R2 a (φ := .f32)) (R2 b) = R2 (fun i l => if l ≤ i then a i l else b i l) := by
  funext i; obtain ⟨i, l, rfl⟩ : ∃ (a : Fin 128) (b : Fin 128), i = ix2 a b := ⟨_, _, eq_ix2 i⟩
  show Scalar.select (k0_pay147 (ix2 i l)) _ _ = _
  rw [tril_eq]
  by_cases h : l ≤ i
  · rw [if_pos h, R2_at, R2_at, R2_at, if_pos h]; rfl
  · rw [if_neg h, R2_at, R2_at, R2_at, if_neg h]; rfl

theorem zero_splat2 : broadcast S128x128 (Scalar.ofBits FTy.f32 0x00000000#32 : Ideal .f32) = R2 (fun _ _ => 0) := by
  rw [zero_w]; rfl

theorem pay148_R3 (a : Fin 128 → Fin 128 → ℝ) : k0_pay148 (F := Ideal) (R3 a (φ := .f32)) = R2 (fun i l => if l ≤ i then a i l else 0) := by
  unfold k0_pay148
  simp only [cast3_R3, zero_splat2, tril_R2, truncf_R2]
theorem pay149_R3 (a : Fin 128 → Fin 128 → ℝ) : k0_pay149 (F := Ideal) (R3 a (φ := .f32)) = R2 a := by
  unfold k0_pay149
  simp only [cast3_R3]
theorem pay11_R3 (a : Fin 128 → Fin 128 → ℝ) : k0_pay11 (F := Ideal) k0_pay147 (R3 a (φ := .f32)) = R3 (fun i l => if l ≤ i then a i l else 0) := by
  unfold k0_pay11
  simp only [cast3_R3, zero_splat2, tril_R2, cast3_R2]
theorem pay1_R2 : k0_pay1 (F := Ideal) = R2 (fun _ _ => 0) := by
  unfold k0_pay1
  rw [zero_w]; rfl
theorem pay2_R3 : k0_pay2 (F := Ideal) = R3 (fun _ _ => 0) := by
  unfold k0_pay2
  simp only [zero_splat2, cast3_R2]
theorem pay3_R3 : k0_pay3 (F := Ideal) = R3 (fun _ _ => 0) := by
  unfold k0_pay3
  simp only [zero_splat2, cast3_R2]

end Cert.Kernel2Ideal.Mix

end
-- ==== Proof.MixBlocks.lean ====
/-
  The blocks of the arguments that a grid point of the mixers' backward kernel works on, element by element.
-/
module

public import proofs.«01_k».proof.Proof.MixFrame
public import proofs.«01_k».proof.Proof.MixNums
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![0, t.val % 2, 0, t.val / 2] ∧ win0_1.index t = ![t.val % 2, 0, t.val / 2]
    ∧ win0_3.index t = ![0, t.val / 2] ∧ win0_4.index t = ![t.val / 2, 0, 0] ∧ win0_5.index t = ![t.val / 2, 0, 0]
    ∧ win0_13.index t = ![0, t.val % 2, 0, t.val / 2] ∧ win0_14.index t = ![0, t.val / 2] ∧ win0_15.index t = ![t.val / 2, 0, 0]
    ∧ win0_16.index t = ![t.val / 2, 0, 0] := by decide +kernel

abbrev PR : FVec Ideal S2x2048x12288 .f32 := m ((c : Thread nD τ).loc main_arg0)
abbrev DM : FVec Ideal S2x2048x1024 .f32 := m ((c : Thread nD τ).loc main_arg1)
abbrev CW : FVec Ideal S3x1024 .f32 := m ((c : Thread nD τ).loc main_arg2)
abbrev SW : FVec Ideal S8x128x128 .f32 := m ((c : Thread nD τ).loc main_arg3)
abbrev SB : FVec Ideal S8x128 .f32 := m ((c : Thread nD τ).loc main_arg4)

/-- The batch and the channel block of a point. -/
def bt (t : Fin cfg0.N) : Fin 2 := ⟨t.val % 2, Nat.mod_lt _ (by decide)⟩
def cb (t : Fin cfg0.N) : Fin 8 := ⟨t.val / 2, by have : t.val < 16 := t.isLt; omega⟩

/-- The bias repeated over the lanes, and the projection split into its segments, as the launch finds them. -/
theorem hv1 : V m c main_v1 = broadcastInDim S8x128x128 ![0, 1, 2] bcast_S8x128x1_S8x128x128_0_1_2 (broadcastInDim S8x128x1 ![0, 1] bcast_S8x128_S8x128x1_0_1 (SB m c)) := by
  rfl
theorem hv28 : V m c main_v28 = truncf (F := Ideal) (φ := .f32) .bf16 (transpose S12x2x2048x1024 [2, 0, 1, 3]
    (shapeCast S2x2048x12x1024 (PR m c) shapeCasts_S2x2048x12288_S2x2048x12x1024) transposes_S2x2048x12x1024_S12x2x2048x1024_2_0_1_3) bitsLt_bf16_f32 := by
  rfl

theorem blk1 (t : Fin cfg0.N) (a : Fin 1) (s : Fin 2048) (l : Fin 128) : (iblk m c 1 t : Vec Ideal S1x2048x128 .bf16) (ix3 a s l) = DM m c (ix3 (bt t) s (chan (cb t) l)) := by
  unfold iblk
  blk_simp [idx t]
  entry_read
  pointwise
  blk_ext [idx t, bt, cb, chan]
theorem blk3 (t : Fin cfg0.N) (j : Fin 3) (l : Fin 128) : (iblk m c 3 t : Vec Ideal S3x128 .f32) (ix2 j l) = CW m c (ix2 j (chan (cb t) l)) := by
  blk_ext [iblk, V, idx t, cb, chan]
theorem blk4 (t : Fin cfg0.N) (a : Fin 1) (i l : Fin 128) : (iblk m c 4 t : Vec Ideal S1x128x128 .f32) (ix3 a i l) = SW m c (ix3 (cb t) i l) := by
  blk_ext [iblk, V, idx t, cb]
theorem blk5 (t : Fin cfg0.N) (a : Fin 1) (i l : Fin 128) : (iblk m c 5 t : Vec Ideal S1x128x128 .f32) (ix3 a i l) = SB m c (ix2 (cb t) i) := by
  unfold iblk
  blk_simp [idx t]
  rw [hv1]
  pointwise
  blk_ext [idx t, cb]
theorem blk0 (t : Fin cfg0.N) (j : Fin 12) (a : Fin 1) (s : Fin 2048) (l : Fin 128) :
    (iblk m c 0 t : Vec Ideal S12x1x2048x128 .bf16) (ix4 j a s l) = PR m c (ix3 (bt t) s (seg j (chan (cb t) l))) := by
  unfold iblk
  blk_simp [idx t]
  rw [hv28]
  pointwise
  blk_ext [idx t, bt, cb, chan, seg]

end Cert.Kernel2Ideal.Mix

end
-- ==== Proof.MixArrays.lean ====
/-
  The result arrays of the mixers' backward kernel over the reals, from arguments that are real numbers.
-/
module

public import proofs.«01_k».proof.Proof.MixBlocks

@[expose] public section

set_option maxRecDepth 16384
set_option maxHeartbeats 4000000

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Idealize.ShloMosaic.Pointwise

variable (m : (ℓ : Loc nD τ sig) → Buf (Elt Ideal) ℓ) (c : Dev nD)

/-- The device's arguments are the real numbers `R`. -/
structure IsNums (R : Nums) : Prop where
  pr : ∀ b s k, PR m c (ix3 b s k) = ((R.P b s k : ℝ) : EReal)
  dm : ∀ b s k, DM m c (ix3 b s k) = ((R.D b s k : ℝ) : EReal)
  cw : ∀ j k, CW m c (ix2 j k) = ((R.W j k : ℝ) : EReal)
  sw : ∀ g i l, SW m c (ix3 g i l) = ((R.M g i l : ℝ) : EReal)
  sb : ∀ g i, SB m c (ix2 g i) = ((R.B g i : ℝ) : EReal)

variable {m c} {R : Nums} (hR : IsNums m c R)
include hR

theorem x0_eq (t : Fin cfg0.N) : (iblk m c 0 t : Vec Ideal S12x1x2048x128 .bf16) = (R.slab (bt t) (cb t)).X2 := by
  funext i; obtain ⟨j, a, s, l, rfl⟩ : ∃ (j : Fin 12) (a : Fin 1) (s : Fin 2048) (l : Fin 128), i = ix4 j a s l := ⟨_, _, _, _, eq_ix4 i⟩
  refine (blk0 m c t j a s l).trans ((hR.pr _ _ _).trans ?_)
  exact congrArg (fun x : ℝ => (x : EReal)) (rows_val (fun s l => R.P (bt t) s (seg j (chan (cb t) l))) s l).symm
theorem x1_eq (t : Fin cfg0.N) : (iblk m c 1 t : Vec Ideal S1x2048x128 .bf16) = (R.slab (bt t) (cb t)).X3 := by
  funext i; obtain ⟨a, s, l, rfl⟩ : ∃ (a : Fin 1) (s : Fin 2048) (l : Fin 128), i = ix3 a s l := ⟨_, _, _, eq_ix3 i⟩
  refine (blk1 m c t a s l).trans ((hR.dm _ _ _).trans ?_)
  exact congrArg (fun x : ℝ => (x : EReal)) (rows_val (fun s l => R.D (bt t) s (chan (cb t) l)) s l).symm
theorem x3_eq (t : Fin cfg0.N) : (iblk m c 3 t : Vec Ideal S3x128 .f32) = R2 (fun j l => R.W j (chan (cb t) l)) (φ := .f32) := by
  funext i; obtain ⟨j, l, rfl⟩ : ∃ (j : Fin 3) (l : Fin 128), i = ix2 j l := ⟨_, _, eq_ix2 i⟩
  exact (blk3 m c t j l).trans (hR.cw _ _)
theorem x4_eq (t : Fin cfg0.N) : (iblk m c 4 t : Vec Ideal S1x128x128 .f32) = R3 (R.M (cb t)) (φ := .f32) := by
  funext i; obtain ⟨a, j, l, rfl⟩ : ∃ (a : Fin 1) (j : Fin 128) (l : Fin 128), i = ix3 a j l := ⟨_, _, _, eq_ix3 i⟩
  exact (blk4 m c t a j l).trans (hR.sw _ _ _)
theorem x5_eq (t : Fin cfg0.N) : (iblk m c 5 t : Vec Ideal S1x128x128 .f32) = R3 (fun i _ => R.B (cb t) i) (φ := .f32) := by
  funext i; obtain ⟨a, j, l, rfl⟩ : ∃ (a : Fin 1) (j : Fin 128) (l : Fin 128), i = ix3 a j l := ⟨_, _, _, eq_ix3 i⟩
  exact (blk5 m c t a j l).trans (hR.sb _ _)

omit hR in
/-- A load of a whole block reads its contents. -/
theorem load_all {arg : Memref sig .tc .vmem S1x128x128 .f32} (ha : arg.IsWhole) (x : Vec Ideal S1x128x128 .f32) (inb) :
    View.readAt (Elt Ideal) arg.view (Rect.unit (s := S1x128x128) ![0, 0, 0] S1x128x128.size inb).toLoadRect (ha.unread x) = x := by
  funext i
  rw [View.readAt_apply, ha.read_unread]
  exact congrArg x (funext fun a => Fin.ext (by show ![0, 0, 0] a + 1 * (i a).val = (i a).val; fin_cases a <;> simp))

/-- A point's run of the body is on its example's block. -/
theorem env_is (t : Fin cfg0.N) : (env m c t).Is (R.slab (bt t) (cb t)) where
  x2 := congrArg (hs0_0 t).unread (x0_eq hR t)
  x3 := congrArg (hs0_1 t).unread (x1_eq hR t)
  v0 := (congrArg (fun x : Vec Ideal S3x128 .f32 => View.readAt (Elt Ideal) (ms0_3 t).view (Rect.unit (s := S3x128) ![0, 0] S1x128.size inb_S3x128_S1x128_0_0).toLoadRect ((hs0_3 t).unread x)) (x3_eq hR t)).trans
    (load_row (hs0_3 t) _ 0 rfl _)
  v1 := (congrArg (fun x : Vec Ideal S3x128 .f32 => View.readAt (Elt Ideal) (ms0_3 t).view (Rect.unit (s := S3x128) ![1, 0] S1x128.size inb_S3x128_S1x128_1_0).toLoadRect ((hs0_3 t).unread x)) (x3_eq hR t)).trans
    (load_row (hs0_3 t) _ 1 rfl _)
  v2 := (congrArg (fun x : Vec Ideal S3x128 .f32 => View.readAt (Elt Ideal) (ms0_3 t).view (Rect.unit (s := S3x128) ![2, 0] S1x128.size inb_S3x128_S1x128_2_0).toLoadRect ((hs0_3 t).unread x)) (x3_eq hR t)).trans
    (load_row (hs0_3 t) _ 2 rfl _)
  v16 := (congrArg (fun x : Vec Ideal S1x128x128 .f32 => k0_pay148 (F := Ideal) (View.readAt (Elt Ideal) (ms0_4 t).view (Rect.unit (s := S1x128x128) ![0, 0, 0] S1x128x128.size inb_S1x128x128_S1x128x128_0_0_0).toLoadRect ((hs0_4 t).unread x))) (x4_eq hR t)).trans
    ((congrArg (k0_pay148 (F := Ideal)) (load_all (hs0_4 t) _ _)).trans (pay148_R3 _))
  v18 := (congrArg (fun x : Vec Ideal S1x128x128 .f32 => k0_pay149 (F := Ideal) (View.readAt (Elt Ideal) (ms0_5 t).view (Rect.unit (s := S1x128x128) ![0, 0, 0] S1x128x128.size inb_S1x128x128_S1x128x128_0_0_0).toLoadRect ((hs0_5 t).unread x))) (x5_eq hR t)).trans
    ((congrArg (k0_pay149 (F := Ideal)) (load_all (hs0_5 t) _ _)).trans (pay149_R3 _))

omit hR in
theorem trips_eq : k0_t1_loop.trips = 16 := by decide

/-- After a first batch. -/
theorem outsA_at (t : Fin cfg0.N) (h0 : t.val % 2 = 0) : (outsAt0 m c t.val t.isLt).2.1 = R2 (fun j l => ∑ n ∈ Finset.range 16, (R.slab 0 (cb t)).pcw (15 - n) j l) (φ := .f32)
    ∧ (outsAt0 m c t.val t.isLt).2.2.1 = R3 (fun i l => ∑ n ∈ Finset.range 16, (R.slab 0 (cb t)).psw (15 - n) i l) (φ := .f32)
    ∧ (outsAt0 m c t.val t.isLt).2.2.2.1 = R3 (fun i l => ∑ n ∈ Finset.range 16, (R.slab 0 (cb t)).psb (15 - n) i l) (φ := .f32) := by
  have hb : bt t = 0 := Fin.ext h0
  have h := env_is hR t
  rw [hb] at h
  rw [outsAt0_A m c t h0]
  unfold outsA
  refine ⟨?_, ?_, ?_⟩
  · show (env m c t).g16 (k0_pay1 (F := Ideal)) _ = _
    rw [pay1_R2, g16_eq h _ _ le_rfl, trips_eq]
    simp only [zero_add]
  · show (env m c t).g17 (k0_pay2 (F := Ideal)) _ = _
    rw [pay2_R3, g17_eq h _ _ le_rfl, trips_eq]
    simp only [zero_add]
  · show (env m c t).g18 (k0_pay3 (F := Ideal)) _ = _
    rw [pay3_R3, g18_eq h _ _ le_rfl, trips_eq]
    simp only [zero_add]

/-- After a second batch. -/
theorem outsB_at (t : Fin cfg0.N) (h1 : t.val % 2 = 1) : (outsAt0 m c t.val t.isLt).2.1 = R2 (fun j l => R.gw j (chan (cb t) l)) (φ := .f32)
    ∧ (outsAt0 m c t.val t.isLt).2.2.1 = R3 (R.gm (cb t)) (φ := .f32)
    ∧ (outsAt0 m c t.val t.isLt).2.2.2.1 = R3 (fun i l => ∑ n ∈ Finset.range 16, (R.slab 0 (cb t)).psb (15 - n) i l + ∑ n ∈ Finset.range 16, (R.slab 1 (cb t)).psb (15 - n) i l) (φ := .f32) := by
  have hb : bt t = 1 := Fin.ext h1
  have h := env_is hR t
  rw [hb] at h
  have hlt : t.val - 1 < cfg0.N := Nat.lt_of_le_of_lt (Nat.sub_le _ _) t.isLt
  have hc : cb (⟨t.val - 1, hlt⟩ : Fin cfg0.N) = cb t := Fin.ext (by show (t.val - 1) / 2 = t.val / 2; omega)
  obtain ⟨a1, a2, a3⟩ := outsA_at hR ⟨t.val - 1, hlt⟩ (by show (t.val - 1) % 2 = 0; omega)
  rw [hc] at a1 a2 a3
  rw [outsAt0_B m c t (by omega)]
  unfold outsB
  refine ⟨?_, ?_, ?_⟩
  · show (env m c t).g16 (outsAt0 m c (t.val - 1) hlt).2.1 _ = _
    rw [a1, g16_eq h _ _ le_rfl, trips_eq]
    unfold Nums.gw
    simp only [hi_chan, lo_chan]
  · show k0_pay11 k0_pay147 ((env m c t).g17 (outsAt0 m c (t.val - 1) hlt).2.2.1 _) = _
    rw [a2, g17_eq h _ _ le_rfl, trips_eq, pay11_R3]
    rfl
  · show (env m c t).g18 (outsAt0 m c (t.val - 1) hlt).2.2.2.1 _ = _
    rw [a3, g18_eq h _ _ le_rfl, trips_eq]

omit hR in
theorem emb13 (t : Fin cfg0.N) (y : S12x1x2048x128.Idx) : ((cfg0.win 13).blk t).view.emb y = ix4 (y 0) (bt t) (y 2) (chan (cb t) (y 3)) := by
  blk_ext [idx t, bt, cb, chan]
omit hR in
theorem emb14 (t : Fin cfg0.N) (y : S3x128.Idx) : ((cfg0.win 14).blk t).view.emb y = ix2 (y 0) (chan (cb t) (y 1)) := by
  blk_ext [idx t, cb, chan]
omit hR in
theorem emb15 (t : Fin cfg0.N) (y : S1x128x128.Idx) : ((cfg0.win 15).blk t).view.emb y = ix3 (cb t) (y 1) (y 2) := by
  blk_ext [idx t, cb]
omit hR in
theorem emb16 (t : Fin cfg0.N) (y : S1x128x128.Idx) : ((cfg0.win 16).blk t).view.emb y = ix3 (cb t) (y 1) (y 2) := by
  blk_ext [idx t, cb]

/-- The point that works on an example's channel. -/
def pt (b : Fin 2) (k : Fin 1024) : Fin cfg0.N := ⟨2 * (hi k).val + b.val, by have h1 := (hi k).isLt; have h2 := b.isLt; show _ < 16; omega⟩
omit hR in
theorem pt_eq (t : Fin cfg0.N) (l : Fin 128) : pt (bt t) (chan (cb t) l) = t := by
  apply Fin.ext
  show 2 * (hi (chan (cb t) l)).val + t.val % 2 = t.val
  rw [hi_chan]
  show 2 * (t.val / 2) + t.val % 2 = t.val
  omega
omit hR in
theorem bt_pt (b : Fin 2) (k : Fin 1024) : bt (pt b k) = b := by
  apply Fin.ext
  have := b.isLt
  show (2 * (hi k).val + b.val) % 2 = b.val
  omega
omit hR in
theorem cb_pt (b : Fin 2) (k : Fin 1024) : cb (pt b k) = hi k := by
  apply Fin.ext
  have := b.isLt
  show (2 * (hi k).val + b.val) / 2 = (hi k).val
  omega

omit hR in
variable (m c) in
/-- The segment gradients: every point writes its channels of its example. -/
theorem final13 : (dats m 0 c).arrAt 13 (cfgs 0).N = fun i : S12x2x2048x1024.Idx => (env m c (pt (i 1) (i 3))).out15 (ix4 (i 0) 0 (i 2) (lo (i 3))) := by
  refine (dats m 0 c).arrAt_eq_of_covers 13 _ (by decide +kernel) fun t hf y => ?_
  blk_simp
  rw [after0_13]
  have h : (outsAt0 m c t.val t.isLt).1 = (env m c t).out15 := by
    by_cases h0 : t.val % 2 = 0
    · rw [outsAt0_A m c t h0]; rfl
    · rw [outsAt0_B m c t h0]; rfl
  rw [h, show ((cfg0.win 13).blk t).view.emb y = _ from emb13 t y]
  obtain ⟨j, a, s, l, rfl⟩ : ∃ (j : Fin 12) (a : Fin 1) (s : Fin 2048) (l : Fin 128), y = ix4 j a s l := ⟨_, _, _, _, eq_ix4 y⟩
  obtain rfl : a = 0 := Subsingleton.elim _ _
  show (env m c t).out15 (ix4 j 0 s l) = (env m c (pt (bt t) (chan (cb t) l))).out15 (ix4 j 0 s (lo (chan (cb t) l)))
  rw [pt_eq, lo_chan]

/-- The gradient of the taps. -/
theorem final14 : (dats m 0 c).arrAt 14 (cfgs 0).N = fun i : S3x1024.Idx => ((R.gw (i 0) (i 1) : ℝ) : EReal) := by
  refine (dats m 0 c).arrAt_eq_of_covers 14 _ (by decide +kernel) fun t hf y => ?_
  blk_simp
  rw [after0_14, (outsB_at hR t ((flush0_14 t).mp hf)).1, show ((cfg0.win 14).blk t).view.emb y = _ from emb14 t y]
  rfl

/-- The gradient of the mixing matrix. -/
theorem final15 : (dats m 0 c).arrAt 15 (cfgs 0).N = fun i : S8x128x128.Idx => ((R.gm (i 0) (i 1) (i 2) : ℝ) : EReal) := by
  refine (dats m 0 c).arrAt_eq_of_covers 15 _ (by decide +kernel) fun t hf y => ?_
  blk_simp
  rw [after0_15, (outsB_at hR t ((flush0_15 t).mp hf)).2.1, show ((cfg0.win 15).blk t).view.emb y = _ from emb15 t y]
  rfl

/-- The gradient of the mixing bias, in every column. -/
theorem final16 : (dats m 0 c).arrAt 16 (cfgs 0).N = fun i : S8x128x128.Idx => ((R.gb (i 0) (i 1) : ℝ) : EReal) := by
  refine (dats m 0 c).arrAt_eq_of_covers 16 _ (by decide +kernel) fun t hf y => ?_
  blk_simp
  rw [after0_16, (outsB_at hR t ((flush0_16 t).mp hf)).2.2, show ((cfg0.win 16).blk t).view.emb y = _ from emb16 t y]
  rfl

/-- A tracked segment's gradient. -/
theorem seg_at (j : Fin 12) (hj : tracked j.val = true) (b : Fin 2) (s : Fin 2048) (k : Fin 1024) :
    (env m c (pt b k)).out15 (ix4 j 0 s (lo k)) = ((R.dp j b s k : ℝ) : EReal) := by
  have h := env_is hR (pt b k)
  rw [bt_pt, cb_pt] at h
  exact out15_at h _ hj

end Cert.Kernel2Ideal.Mix

end
-- ==== Proof.MixTail.lean ====
/-
  The results of the mixers' backward program: the segments of the projection's gradient sliced out after the kernel,
  and the weights' gradients.
-/
module

public import proofs.«01_k».proof.Proof.MixArrays

@[expose] public section

set_option maxRecDepth 16384
set_option maxHeartbeats 4000000

noncomputable section

open Idealize.ShloMosaic Idealize.ShloMosaic.TcCoe Idealize.SL.Sem

namespace Cert.Kernel2Ideal.Mix

open Cert.Kernel2Ideal Cert.Kernel2Ideal.Gen Idealize.ShloMosaic.Pointwise

variable (m : (ℓ : Loc nD τ sig) → Buf (Elt Ideal) ℓ) (c : Dev nD)

/-- What the buffers hold right after the kernel. -/
abbrev left : Valuation τ sig (Elt Ideal) := Pipeline.withArrays (cfgs 0).spec c (V0 m c) fun w => (dats m 0 c).arrAt w (cfgs 0).N

/-- What the region leaves in a window's array. -/
theorem left_arr (w : Fin cfg0.W) : left m c (Proc.devRef .tc (Pipeline.arrRef (cfgs 0).spec w)) = (dats m 0 c).arrAt w (cfgs 0).N :=
  Pipeline.withArrays_arr (cfgs 0).spec (by decide) c (V0 m c) _ w

/-- The host lines after the region, segment 0: that slice of the gradient array. -/
theorem tail371 : Pipeline.afterTail₀ cfgs (dats m) 0 (V0 m) [hostOps1] c main_v371 = shapeCast S2x2048x1024 (extractStridedSlice S1x2x2048x1024 ![0, 0, 0, 0] (left m c (Proc.devRef .tc main_v369_0)) slices_S12x2x2048x1024_S1x2x2048x1024_0_0_0_0) shapeCasts_S1x2x2048x1024_S2x2048x1024 := by
  rfl
/-- The host lines after the region, segment 1: that slice of the gradient array. -/
theorem tail373 : Pipeline.afterTail₀ cfgs (dats m) 0 (V0 m) [hostOps1] c main_v373 = shapeCast S2x2048x1024 (extractStridedSlice S1x2x2048x1024 ![1, 0, 0, 0] (left m c (Proc.devRef .tc main_v369_0)) slices_S12x2x2048x1024_S1x2x2048x1024_1_0_0_0) shapeCasts_S1x2x2048x1024_S2x2048x1024 := by
  rfl
/-- The host lines after the region, segment 2: that slice of the gradient array. -/
theorem tail375 : Pipeline.afterTail₀ cfgs (dats m) 0 (V0 m) [hostOps1] c main_v375 = shapeCast S2x2048x1024 (extractStridedSlice S1x2x2048x1024 ![2, 0, 0, 0] (left m c (Proc.devRef .tc main_v369_0)) slices_S12x2x2048x1024_S1x2x2048x1024_2_0_0_0) shapeCasts_S1x2x2048x1024_S2x2048x1024 := by
  rfl
/-- The host lines after the region, segment 3: that slice of the gradient array. -/
theorem tail377 : Pipeline.afterTail₀ cfgs (dats m) 0 (V0 m) [hostOps1] c main_v377 = shapeCast S2x2048x1024 (extractStridedSlice S1x2x2048x1024 ![3, 0, 0, 0] (left m c (Proc.devRef .tc main_v369_0)) slices_S12x2x2048x1024_S1x2x2048x1024_3_0_0_0) shapeCasts_S1x2x2048x1024_S2x2048x1024 := by
  rfl
/-- The host lines after the region, segment 4: that slice of the gradient array. -/
theorem tail379 : Pipeline.afterTail₀ cfgs (dats m) 0 (V0 m) [hostOps1] c main_v379 = shapeCast S2x2048x1024 (extractStridedSlice S1x2x2048x1024 ![4, 0, 0, 0] (left m c (Proc.devRef .tc main_v369_0)) slices_S12x2x2048x1024_S1x2x2048x1024_4_0_0_0) shapeCasts_S1x2x2048x1024_S2x2048x1024 := by
  rfl
/-- The host lines after the region, segment 5: that slice of the gradient array. -/
theorem tail381 : Pipeline.afterTail₀ cfgs (dats m) 0 (V0 m) [hostOps1] c main_v381 = shapeCast S2x2048x1024 (extractStridedSlice S1x2x2048x1024 ![5, 0, 0, 0] (left m c (Proc.devRef .tc main_v369_0)) slices_S12x2x2048x1024_S1x2x2048x1024_5_0_0_0) shapeCasts_S1x2x2048x1024_S2x2048x1024 := by
  rfl
/-- The host lines after the region, segment 6: that slice of the gradient array. -/
theorem tail383 : Pipeline.afterTail₀ cfgs (dats m) 0 (V0 m) [hostOps1] c main_v383 = shapeCast S2x2048x1024 (extractStridedSlice S1x2x2048x1024 ![6, 0, 0, 0] (left m c (Proc.devRef .tc main_v369_0)) slices_S12x2x2048x1024_S1x2x2048x1024_6_0_0_0) shapeCasts_S1x2x2048x1024_S2x2048x1024 := by
  rfl
/-- The host lines after the region, segment 9: that slice of the gradient array. -/
theorem tail385 : Pipeline.afterTail₀ cfgs (dats m) 0 (V0 m) [hostOps1] c main_v385 = shapeCast S2x2048x1024 (extractStridedSlice S1x2x2048x1024 ![9, 0, 0, 0] (left m c (Proc.devRef .tc main_v369_0)) slices_S12x2x2048x1024_S1x2x2048x1024_9_0_0_0) shapeCasts_S1x2x2048x1024_S2x2048x1024 := by
  rfl
/-- The host lines after the region, segment 10: that slice of the gradient array. -/
theorem tail387 : Pipeline.afterTail₀ cfgs (dats m) 0 (V0 m) [hostOps1] c main_v387 = shapeCast S2x2048x1024 (extractStridedSlice S1x2x2048x1024 ![10, 0, 0, 0] (left m c (Proc.devRef .tc main_v369_0)) slices_S12x2x2048x1024_S1x2x2048x1024_10_0_0_0) shapeCasts_S1x2x2048x1024_S2x2048x1024 := by
  rfl

/-- The host lines after the region, the mixing bias: the first lane. -/
theorem tail389 : Pipeline.afterTail₀ cfgs (dats m) 0 (V0 m) [hostOps1] c main_v389 = shapeCast S8x128 (extractStridedSlice S8x128x1 ![0, 0, 0] (left m c (Proc.devRef .tc main_v369_3)) slices_S8x128x128_S8x128x1_0_0_0) shapeCasts_S8x128x1_S8x128 := by
  rfl

theorem slice_0 (x : Vec Ideal S12x2x2048x1024 .bf16) (b : Fin 2) (s : Fin 2048) (k : Fin 1024) :
    shapeCast S2x2048x1024 (extractStridedSlice S1x2x2048x1024 ![0, 0, 0, 0] x slices_S12x2x2048x1024_S1x2x2048x1024_0_0_0_0) shapeCasts_S1x2x2048x1024_S2x2048x1024 (ix3 b s k) = x (ix4 0 b s k) := by
  pointwise
theorem slice_1 (x : Vec Ideal S12x2x2048x1024 .bf16) (b : Fin 2) (s : Fin 2048) (k : Fin 1024) :
    shapeCast S2x2048x1024 (extractStridedSlice S1x2x2048x1024 ![1, 0, 0, 0] x slices_S12x2x2048x1024_S1x2x2048x1024_1_0_0_0) shapeCasts_S1x2x2048x1024_S2x2048x1024 (ix3 b s k) = x (ix4 1 b s k) := by
  pointwise
theorem slice_2 (x : Vec Ideal S12x2x2048x1024 .bf16) (b : Fin 2) (s : Fin 2048) (k : Fin 1024) :
    shapeCast S2x2048x1024 (extractStridedSlice S1x2x2048x1024 ![2, 0, 0, 0] x slices_S12x2x2048x1024_S1x2x2048x1024_2_0_0_0) shapeCasts_S1x2x2048x1024_S2x2048x1024 (ix3 b s k) = x (ix4 2 b s k) := by
  pointwise
theorem slice_3 (x : Vec Ideal S12x2x2048x1024 .bf16) (b : Fin 2) (s : Fin 2048) (k : Fin 1024) :
    shapeCast S2x2048x1024 (extractStridedSlice S1x2x2048x1024 ![3, 0, 0, 0] x slices_S12x2x2048x1024_S1x2x2048x1024_3_0_0_0) shapeCasts_S1x2x2048x1024_S2x2048x1024 (ix3 b s k) = x (ix4 3 b s k) := by
  pointwise
theorem slice_4 (x : Vec Ideal S12x2x2048x1024 .bf16) (b : Fin 2) (s : Fin 2048) (k : Fin 1024) :
    shapeCast S2x2048x1024 (extractStridedSlice S1x2x2048x1024 ![4, 0, 0, 0] x slices_S12x2x2048x1024_S1x2x2048x1024_4_0_0_0) shapeCasts_S1x2x2048x1024_S2x2048x1024 (ix3 b s k) = x (ix4 4 b s k) := by
  pointwise
theorem slice_5 (x : Vec Ideal S12x2x2048x1024 .bf16) (b : Fin 2) (s : Fin 2048) (k : Fin 1024) :
    shapeCast S2x2048x1024 (extractStridedSlice S1x2x2048x1024 ![5, 0, 0, 0] x slices_S12x2x2048x1024_S1x2x2048x1024_5_0_0_0) shapeCasts_S1x2x2048x1024_S2x2048x1024 (ix3 b s k) = x (ix4 5 b s k) := by
  pointwise
theorem slice_6 (x : Vec Ideal S12x2x2048x1024 .bf16) (b : Fin 2) (s : Fin 2048) (k : Fin 1024) :
    shapeCast S2x2048x1024 (extractStridedSlice S1x2x2048x1024 ![6, 0, 0, 0] x slices_S12x2x2048x1024_S1x2x2048x1024_6_0_0_0) shapeCasts_S1x2x2048x1024_S2x2048x1024 (ix3 b s k) = x (ix4 6 b s k) := by
  pointwise
theorem slice_9 (x : Vec Ideal S12x2x2048x1024 .bf16) (b : Fin 2) (s : Fin 2048) (k : Fin 1024) :
    shapeCast S2x2048x1024 (extractStridedSlice S1x2x2048x1024 ![9, 0, 0, 0] x slices_S12x2x2048x1024_S1x2x2048x1024_9_0_0_0) shapeCasts_S1x2x2048x1024_S2x2048x1024 (ix3 b s k) = x (ix4 9 b s k) := by
  pointwise
theorem slice_10 (x : Vec Ideal S12x2x2048x1024 .bf16) (b : Fin 2) (s : Fin 2048) (k : Fin 1024) :
    shapeCast S2x2048x1024 (extractStridedSlice S1x2x2048x1024 ![10, 0, 0, 0] x slices_S12x2x2048x1024_S1x2x2048x1024_10_0_0_0) shapeCasts_S1x2x2048x1024_S2x2048x1024 (ix3 b s k) = x (ix4 10 b s k) := by
  pointwise

variable {m c} {R : Nums} (hR : IsNums m c R)

/-- A segment of the projection's gradient over the reals. -/
def Nums.seg (R : Nums) (j : ℕ) : Vec Ideal S2x2048x1024 .bf16 := fun i => ((R.dp j (i 0) (i 1) (i 2) : ℝ) : EReal)
def Nums.taps (R : Nums) : Vec Ideal S3x1024 .f32 := fun i => ((R.gw (i 0) (i 1) : ℝ) : EReal)
def Nums.mat (R : Nums) : Vec Ideal S8x128x128 .f32 := fun i => ((R.gm (i 0) (i 1) (i 2) : ℝ) : EReal)
def Nums.bias (R : Nums) : Vec Ideal S8x128 .f32 := fun i => ((R.gb (i 0) (i 1) : ℝ) : EReal)

include hR
/-- Segment 0 of the returned gradients, over the reals. -/
theorem seg0 : Pipeline.afterTail₀ cfgs (dats m) 0 (V0 m) [hostOps1] c main_v371 = R.seg 0 := by
  rw [tail371, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_0]
  exact seg_at hR 0 rfl b s k
/-- Segment 1 of the returned gradients, over the reals. -/
theorem seg1 : Pipeline.afterTail₀ cfgs (dats m) 0 (V0 m) [hostOps1] c main_v373 = R.seg 1 := by
  rw [tail373, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_1]
  exact seg_at hR 1 rfl b s k
/-- Segment 2 of the returned gradients, over the reals. -/
theorem seg2 : Pipeline.afterTail₀ cfgs (dats m) 0 (V0 m) [hostOps1] c main_v375 = R.seg 2 := by
  rw [tail375, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_2]
  exact seg_at hR 2 rfl b s k
/-- Segment 3 of the returned gradients, over the reals. -/
theorem seg3 : Pipeline.afterTail₀ cfgs (dats m) 0 (V0 m) [hostOps1] c main_v377 = R.seg 3 := by
  rw [tail377, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_3]
  exact seg_at hR 3 rfl b s k
/-- Segment 4 of the returned gradients, over the reals. -/
theorem seg4 : Pipeline.afterTail₀ cfgs (dats m) 0 (V0 m) [hostOps1] c main_v379 = R.seg 4 := by
  rw [tail379, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_4]
  exact seg_at hR 4 rfl b s k
/-- Segment 5 of the returned gradients, over the reals. -/
theorem seg5 : Pipeline.afterTail₀ cfgs (dats m) 0 (V0 m) [hostOps1] c main_v381 = R.seg 5 := by
  rw [tail381, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_5]
  exact seg_at hR 5 rfl b s k
/-- Segment 6 of the returned gradients, over the reals. -/
theorem seg6 : Pipeline.afterTail₀ cfgs (dats m) 0 (V0 m) [hostOps1] c main_v383 = R.seg 6 := by
  rw [tail383, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_6]
  exact seg_at hR 6 rfl b s k
/-- Segment 9 of the returned gradients, over the reals. -/
theorem seg9 : Pipeline.afterTail₀ cfgs (dats m) 0 (V0 m) [hostOps1] c main_v385 = R.seg 9 := by
  rw [tail385, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_9]
  exact seg_at hR 9 rfl b s k
/-- Segment 10 of the returned gradients, over the reals. -/
theorem seg10 : Pipeline.afterTail₀ cfgs (dats m) 0 (V0 m) [hostOps1] c main_v387 = R.seg 10 := by
  rw [tail387, show left m c (Proc.devRef .tc main_v369_0) = _ from left_arr m c 13, final13]
  funext i
  obtain ⟨b, s, k, rfl⟩ : ∃ (b : Fin 2) (s : Fin 2048) (k : Fin 1024), i = ix3 b s k := ⟨_, _, _, eq_ix3 i⟩
  rw [slice_10]
  exact seg_at hR 10 rfl b s k

/-- The returned gradient of the mixing bias, over the reals. -/
theorem segBias : Pipeline.afterTail₀ cfgs (dats m) 0 (V0 m) [hostOps1] c main_v389 = R.bias := by
  rw [tail389, show left m c (Proc.devRef .tc main_v369_3) = _ from left_arr m c 16, final16 hR]
  funext i
  obtain ⟨g, j, rfl⟩ : ∃ (g : Fin 8) (j : Fin 128), i = ix2 g j := ⟨_, _, eq_ix2 i⟩
  pointwise
  rfl

omit hR in
/-- The kernel's program over the reals: each result it returns, the arguments unchanged. -/
theorem run_values (ρ : Dev nD → PrngReg) (R : Dev nD → Nums) (hR : ∀ c, IsNums m c (R c)) : θ_run defs (onTc (τ := τ) (main (F := Ideal))) ⟨m, fun _ => 0, ρ⟩ (fun r => ∀ c : Dev nD,
      r.2.mem ((c.tc : Thread nD τ).loc main_v371) = (R c).seg 0
      ∧ r.2.mem ((c.tc : Thread nD τ).loc main_v373) = (R c).seg 1
      ∧ r.2.mem ((c.tc : Thread nD τ).loc main_v375) = (R c).seg 2
      ∧ r.2.mem ((c.tc : Thread nD τ).loc main_v377) = (R c).seg 3
      ∧ r.2.mem ((c.tc : Thread nD τ).loc main_v379) = (R c).seg 4
      ∧ r.2.mem ((c.tc : Thread nD τ).loc main_v381) = (R c).seg 5
      ∧ r.2.mem ((c.tc : Thread nD τ).loc main_v383) = (R c).seg 6
      ∧ r.2.mem ((c.tc : Thread nD τ).loc main_v385) = (R c).seg 9
      ∧ r.2.mem ((c.tc : Thread nD τ).loc main_v387) = (R c).seg 10
      ∧ r.2.mem ((c.tc : Thread nD τ).loc main_v369_1) = (R c).taps
      ∧ r.2.mem ((c.tc : Thread nD τ).loc main_v369_2) = (R c).mat
      ∧ r.2.mem ((c.tc : Thread nD τ).loc main_v389) = (R c).bias
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h.1 c).2 main_v371 (Pipeline.mem_restRefs_of main_v371 (by decide) (by decide))).trans (seg0 (hR c)),
    ((h.1 c).2 main_v373 (Pipeline.mem_restRefs_of main_v373 (by decide) (by decide))).trans (seg1 (hR c)),
    ((h.1 c).2 main_v375 (Pipeline.mem_restRefs_of main_v375 (by decide) (by decide))).trans (seg2 (hR c)),
    ((h.1 c).2 main_v377 (Pipeline.mem_restRefs_of main_v377 (by decide) (by decide))).trans (seg3 (hR c)),
    ((h.1 c).2 main_v379 (Pipeline.mem_restRefs_of main_v379 (by decide) (by decide))).trans (seg4 (hR c)),
    ((h.1 c).2 main_v381 (Pipeline.mem_restRefs_of main_v381 (by decide) (by decide))).trans (seg5 (hR c)),
    ((h.1 c).2 main_v383 (Pipeline.mem_restRefs_of main_v383 (by decide) (by decide))).trans (seg6 (hR c)),
    ((h.1 c).2 main_v385 (Pipeline.mem_restRefs_of main_v385 (by decide) (by decide))).trans (seg9 (hR c)),
    ((h.1 c).2 main_v387 (Pipeline.mem_restRefs_of main_v387 (by decide) (by decide))).trans (seg10 (hR c)),
    ((h.1 c).1 14).trans (final14 (hR c)),
    ((h.1 c).1 15).trans (final15 (hR c)),
    ((h.1 c).2 main_v389 (Pipeline.mem_restRefs_of main_v389 (by decide) (by decide))).trans (segBias (hR c)),
    h.2 c⟩)
    (θ_run_and (run_main m ρ) (unchanged m ρ))

end Cert.Kernel2Ideal.Mix

end
-- ==== Proof.MixRefA.lean ====
/-
  The reference's lines of the mixers' backward pass over the reals, at an index: the segments, the gates, the short
  convolution and its gradients.
-/
module

public import proofs.«01_k».proof.Proof.MixNums
public import proofs.«01_k».proof.Proof.Sums
public import proofs.«01_k».proof.Proof.Gen.Reference2Ideal.Read

@[expose] public section

set_option maxRecDepth 16384
set_option maxHeartbeats 1000000

noncomputable section

open Idealize.ShloMosaic Idealize.ShloMosaic.TcCoe Idealize.SL.Sem

namespace Cert.Reference2Ideal.MixRef

open Cert.Reference2Ideal Cert.Reference2Ideal.Gen Cert.Reference2Ideal.Read Idealize.ShloMosaic.Pointwise
open Cert.Kernel2Ideal.Mix (Nums Slab rows_val chan hi lo seg hi_chan lo_chan chan_hi_lo sg eps)

theorem mul_c {x y : EReal} {a b : ℝ} (hx : x = a) (hy : y = b) : x * y = ((a * b : ℝ) : EReal) := by rw [hx, hy, EReal.coe_mul]
theorem add_c {x y : EReal} {a b : ℝ} (hx : x = a) (hy : y = b) : x + y = ((a + b : ℝ) : EReal) := by rw [hx, hy, EReal.coe_add]
theorem sub_c {x y : EReal} {a b : ℝ} (hx : x = a) (hy : y = b) : x - y = ((a - b : ℝ) : EReal) := by rw [hx, hy, EReal.coe_sub]
theorem neg_c {x : EReal} {a : ℝ} (hx : x = a) : -x = ((-a : ℝ) : EReal) := by rw [hx, EReal.coe_neg]

theorem zero_b : Ideal.ofBits FTy.f32 0x00000000#32 = ((0 : ℝ) : EReal) := Cert.Kernel2Ideal.Mix.zero_w
theorem one_b : Ideal.ofBits FTy.f32 0x3F800000#32 = ((1 : ℝ) : EReal) := Cert.Kernel2Ideal.Mix.one_w
theorem len_b : Ideal.ofBits FTy.f32 0x43000000#32 = ((128 : ℝ) : EReal) := Cert.Kernel2Ideal.Mix.len_w
theorem eps_b : Ideal.ofBits FTy.f32 0x358637BD#32 = ((eps : ℝ) : EReal) := Cert.Kernel2Ideal.Mix.eps_w
theorem two_b : Ideal.ofBits FTy.f32 0x40000000#32 = ((2 : ℝ) : EReal) := by
  simp [Ideal.ofBits, Ideal.ieee, -EReal.coe_mul]; norm_num
theorem mhalf_b : Ideal.ofBits FTy.f32 0xBF000000#32 = ((-(1 / 2) : ℝ) : EReal) := by
  simp [Ideal.ofBits, Ideal.ieee, -EReal.coe_mul]; norm_num

/-- The reference's spelling of the logistic function. -/
theorem sg_c {x : EReal} {a : ℝ} (hx : x = a) : Ideal.div ((1 : ℝ) : EReal) (((1 : ℝ) : EReal) + Ideal.exp (-x)) = ((sg a : ℝ) : EReal) := by
  have h : (1 + Real.exp (-a)) ≠ 0 := (add_pos one_pos (Real.exp_pos _)).ne'
  rw [hx, ← EReal.coe_neg, show Ideal.exp ((-a : ℝ) : EReal) = ((Real.exp (-a) : ℝ) : EReal) from rfl, ← EReal.coe_add, Sums.coe_div _ h, sg, one_div]

variable (R : Nums)

/-- The arguments, and the block an example's channel lies in. -/
def x0 : FVec Ideal S2x2048x12288 .f32 := fun i => ((R.P (i 0) (i 1) (i 2) : ℝ) : EReal)
def x1 : FVec Ideal S2x2048x1024 .f32 := fun i => ((R.D (i 0) (i 1) (i 2) : ℝ) : EReal)
def x2 : FVec Ideal S3x1024 .f32 := fun i => ((R.W (i 0) (i 1) : ℝ) : EReal)
def x3 : FVec Ideal S8x128x128 .f32 := fun i => ((R.M (i 0) (i 1) (i 2) : ℝ) : EReal)
def x4 : FVec Ideal S8x128 .f32 := fun i => ((R.B (i 0) (i 1) : ℝ) : EReal)
abbrev sl (b : Fin 2) (k : Fin 1024) : Slab := R.slab b (hi k)

variable (b : Fin 2) (s : Fin 2048) (k : Fin 1024)

theorem p_eq (j : Fin 12) : (sl R b k).p j s.val (lo k) = R.P b s (seg j k) := by
  refine (rows_val (fun s l => R.P b s (seg j (chan (hi k) l))) s (lo k)).trans ?_
  rw [chan_hi_lo]
theorem d_eq : (sl R b k).d s.val (lo k) = R.D b s k := by
  refine (rows_val (fun s l => R.D b s (chan (hi k) l)) s (lo k)).trans ?_
  rw [chan_hi_lo]
theorem w_eq (j : Fin 3) : (sl R b k).w j (lo k) = R.W j k := by
  show R.W j (chan (hi k) (lo k)) = _
  rw [chan_hi_lo]
theorem seg0 : val_main_v0 (F := Ideal) (x0 R) (ix3 b s k) = (((sl R b k).p 0 s.val (lo k) : ℝ) : EReal) := by
  rw [p_eq]
  unfold val_main_v0
  pointwise
  exact congrArg (fun i => ((R.P b s i : ℝ) : EReal)) (Fin.ext (by show _ = 1024 * 0 + k.val; simp <;> omega))
theorem seg1 : val_main_v1 (F := Ideal) (x0 R) (ix3 b s k) = (((sl R b k).p 1 s.val (lo k) : ℝ) : EReal) := by
  rw [p_eq]
  unfold val_main_v1
  pointwise
  exact congrArg (fun i => ((R.P b s i : ℝ) : EReal)) (Fin.ext (by show _ = 1024 * 1 + k.val; simp <;> omega))
theorem seg2 : val_main_v2 (F := Ideal) (x0 R) (ix3 b s k) = (((sl R b k).p 2 s.val (lo k) : ℝ) : EReal) := by
  rw [p_eq]
  unfold val_main_v2
  pointwise
  exact congrArg (fun i => ((R.P b s i : ℝ) : EReal)) (Fin.ext (by show _ = 1024 * 2 + k.val; simp <;> omega))
theorem seg3 : val_main_v3 (F := Ideal) (x0 R) (ix3 b s k) = (((sl R b k).p 3 s.val (lo k) : ℝ) : EReal) := by
  rw [p_eq]
  unfold val_main_v3
  pointwise
  exact congrArg (fun i => ((R.P b s i : ℝ) : EReal)) (Fin.ext (by show _ = 1024 * 3 + k.val; simp <;> omega))
theorem seg4 : val_main_v4 (F := Ideal) (x0 R) (ix3 b s k) = (((sl R b k).p 4 s.val (lo k) : ℝ) : EReal) := by
  rw [p_eq]
  unfold val_main_v4
  pointwise
  exact congrArg (fun i => ((R.P b s i : ℝ) : EReal)) (Fin.ext (by show _ = 1024 * 4 + k.val; simp <;> omega))
theorem seg5 : val_main_v5 (F := Ideal) (x0 R) (ix3 b s k) = (((sl R b k).p 5 s.val (lo k) : ℝ) : EReal) := by
  rw [p_eq]
  unfold val_main_v5
  pointwise
  exact congrArg (fun i => ((R.P b s i : ℝ) : EReal)) (Fin.ext (by show _ = 1024 * 5 + k.val; simp <;> omega))
theorem seg6 : val_main_v6 (F := Ideal) (x0 R) (ix3 b s k) = (((sl R b k).p 6 s.val (lo k) : ℝ) : EReal) := by
  rw [p_eq]
  unfold val_main_v6
  pointwise
  exact congrArg (fun i => ((R.P b s i : ℝ) : EReal)) (Fin.ext (by show _ = 1024 * 6 + k.val; simp <;> omega))
theorem seg9 : val_main_v9 (F := Ideal) (x0 R) (ix3 b s k) = (((sl R b k).p 9 s.val (lo k) : ℝ) : EReal) := by
  rw [p_eq]
  unfold val_main_v9
  pointwise
  exact congrArg (fun i => ((R.P b s i : ℝ) : EReal)) (Fin.ext (by show _ = 1024 * 9 + k.val; simp <;> omega))
theorem seg10 : val_main_v10 (F := Ideal) (x0 R) (ix3 b s k) = (((sl R b k).p 10 s.val (lo k) : ℝ) : EReal) := by
  rw [p_eq]
  unfold val_main_v10
  pointwise
  exact congrArg (fun i => ((R.P b s i : ℝ) : EReal)) (Fin.ext (by show _ = 1024 * 10 + k.val; simp <;> omega))
theorem sg3 : val_main_v12_2 (F := Ideal) (x0 R) (ix3 b s k) = ((sg ((sl R b k).p 3 s.val (lo k)) : ℝ) : EReal) := by
  refine Eq.trans ?_ (sg_c (seg3 R b s k))
  unfold val_main_v12_2 val_main_call0_v4 val_main_call0_cst_0 val_main_call0_v3 val_main_call0_v2 val_main_call0_cst val_main_call0_v1 val_main_call0_v0
  pointwise
  rw [EReal.coe_one]
theorem sil3 : val_main_v12_0 (F := Ideal) (x0 R) (ix3 b s k) = ((Slab.silu ((sl R b k).p 3 s.val (lo k)) : ℝ) : EReal) :=
  mul_c (seg3 R b s k) (sg3 R b s k)
theorem sg6 : val_main_v41_2 (F := Ideal) (x0 R) (ix3 b s k) = ((sg ((sl R b k).p 6 s.val (lo k)) : ℝ) : EReal) := by
  refine Eq.trans ?_ (sg_c (seg6 R b s k))
  unfold val_main_v41_2 val_main_call1_v4 val_main_call1_cst_0 val_main_call1_v3 val_main_call1_v2 val_main_call1_cst val_main_call1_v1 val_main_call1_v0
  pointwise
  rw [EReal.coe_one]
theorem sil6 : val_main_v41_0 (F := Ideal) (x0 R) (ix3 b s k) = ((Slab.silu ((sl R b k).p 6 s.val (lo k)) : ℝ) : EReal) :=
  mul_c (seg6 R b s k) (sg6 R b s k)
theorem sg9 : val_main_v85 (F := Ideal) (x0 R) (ix3 b s k) = ((sg ((sl R b k).p 9 s.val (lo k)) : ℝ) : EReal) := by
  refine Eq.trans ?_ (sg_c (seg9 R b s k))
  unfold val_main_v85 val_main_v84 val_main_v83 val_main_v82 val_main_v81 val_main_v80 val_main_cst_10 val_main_cst_11
  pointwise
  rw [EReal.coe_one]
theorem sg10 : val_main_v95 (F := Ideal) (x0 R) (ix3 b s k) = ((sg ((sl R b k).p 10 s.val (lo k)) : ℝ) : EReal) := by
  refine Eq.trans ?_ (sg_c (seg10 R b s k))
  unfold val_main_v95 val_main_v94 val_main_v93 val_main_v92 val_main_v91 val_main_v90 val_main_cst_13 val_main_cst_14
  pointwise
  rw [EReal.coe_one]
theorem om9 : val_main_v86 (F := Ideal) (ix3 b s k) = ((1 : ℝ) : EReal) := by
  unfold val_main_v86 val_main_cst_12
  pointwise
  exact EReal.coe_one.symm
theorem om10 : val_main_v96 (F := Ideal) (ix3 b s k) = ((1 : ℝ) : EReal) := by
  unfold val_main_v96 val_main_cst_15
  pointwise
  exact EReal.coe_one.symm
theorem om3 : val_main_call0_v6 (F := Ideal) (ix3 b s k) = ((1 : ℝ) : EReal) := by
  unfold val_main_call0_v6 val_main_call0_cst_1
  pointwise
  exact EReal.coe_one.symm
theorem om6 : val_main_call1_v6 (F := Ideal) (ix3 b s k) = ((1 : ℝ) : EReal) := by
  unfold val_main_call1_v6 val_main_call1_cst_1
  pointwise
  exact EReal.coe_one.symm

/-- The convolution. -/
theorem ca_at : val_main_v13 (F := Ideal) (x0 R) (ix3 b s k) = (((sl R b k).ca s.val (lo k) : ℝ) : EReal) := mul_c (seg2 R b s k) (seg0 R b s k)
theorem pad_at (r : Fin 2050) : val_main_v15 (F := Ideal) (x0 R) (ix3 b r k) = ((if 2 ≤ r.val then (sl R b k).ca (r.val - 2) (lo k) else 0 : ℝ) : EReal) := by
  unfold val_main_v15 val_main_v14 val_main_cst
  pointwise
  by_cases h : r.val < 2
  · rw [if_neg (by omega : ¬ 2 ≤ r.val)]
    simp only [h, if_true, dif_pos]
    exact EReal.coe_zero.symm
  · rw [if_pos (by omega : 2 ≤ r.val)]
    simp only [h, if_false, dif_neg, not_false_eq_true]
    exact ca_at R b ⟨r.val - 2, _⟩ k
theorem caS2 : val_main_v19 (F := Ideal) (x0 R) (ix3 b s k) = (((sl R b k).caS s.val (lo k) 2 : ℝ) : EReal) := by
  unfold val_main_v19
  pointwise
  exact pad_at R b k ⟨s.val, _⟩
theorem caS1 : val_main_v27 (F := Ideal) (x0 R) (ix3 b s k) = (((sl R b k).caS s.val (lo k) 1 : ℝ) : EReal) := by
  unfold val_main_v27
  pointwise
  refine (pad_at R b k ⟨1 + s.val, _⟩).trans (congrArg (fun x : ℝ => (x : EReal)) ?_)
  show (if 2 ≤ 1 + s.val then (sl R b k).ca (1 + s.val - 2) (lo k) else 0) = if 1 ≤ s.val then (sl R b k).ca (s.val - 1) (lo k) else 0
  by_cases h : 1 ≤ s.val
  · rw [if_pos h, if_pos (by omega), show 1 + s.val - 2 = s.val - 1 by omega]
  · rw [if_neg h, if_neg (by omega)]
theorem caS0 : val_main_v34 (F := Ideal) (x0 R) (ix3 b s k) = (((sl R b k).ca s.val (lo k) : ℝ) : EReal) := by
  unfold val_main_v34
  pointwise
  refine (pad_at R b k ⟨2 + s.val, _⟩).trans (congrArg (fun x : ℝ => (x : EReal)) ?_)
  show (if 2 ≤ 2 + s.val then (sl R b k).ca (2 + s.val - 2) (lo k) else 0) = (sl R b k).ca s.val (lo k)
  rw [if_pos (by omega), show 2 + s.val - 2 = s.val by omega]
theorem w21 : val_main_v21 (F := Ideal) (x2 R) (ix3 b s k) = (((sl R b k).w 0 (lo k) : ℝ) : EReal) := by
  rw [w_eq]
  unfold val_main_v21 val_main_v20 val_main_v18 val_main_v17
  pointwise
  rfl
theorem w29 : val_main_v29 (F := Ideal) (x2 R) (ix3 b s k) = (((sl R b k).w 1 (lo k) : ℝ) : EReal) := by
  rw [w_eq]
  unfold val_main_v29 val_main_v28 val_main_v26 val_main_v25
  pointwise
  rfl
theorem w36 : val_main_v36 (F := Ideal) (x2 R) (ix3 b s k) = (((sl R b k).w 2 (lo k) : ℝ) : EReal) := by
  rw [w_eq]
  unfold val_main_v36 val_main_v35 val_main_v33 val_main_v32
  pointwise
  rfl
theorem w173 : val_main_v173 (F := Ideal) (x2 R) (ix3 b s k) = (((sl R b k).w 0 (lo k) : ℝ) : EReal) := by
  rw [w_eq]
  unfold val_main_v173 val_main_v20 val_main_v18 val_main_v17
  pointwise
  rfl
theorem w162 : val_main_v162 (F := Ideal) (x2 R) (ix3 b s k) = (((sl R b k).w 1 (lo k) : ℝ) : EReal) := by
  rw [w_eq]
  unfold val_main_v162 val_main_v28 val_main_v26 val_main_v25
  pointwise
  rfl
theorem w153 : val_main_v153 (F := Ideal) (x2 R) (ix3 b s k) = (((sl R b k).w 2 (lo k) : ℝ) : EReal) := by
  rw [w_eq]
  unfold val_main_v153 val_main_v35 val_main_v33 val_main_v32
  pointwise
  rfl
theorem cv_at : val_main_v38 (F := Ideal) (x0 R) (x2 R) (ix3 b s k) = (((sl R b k).cv s.val (lo k) : ℝ) : EReal) := by
  refine (add_c (add_c (add_c (a := 0) ?_ (mul_c (w21 R b s k) (caS2 R b s k))) (mul_c (w29 R b s k) (caS1 R b s k))) (mul_c (w36 R b s k) (caS0 R b s k))).trans (congrArg (fun x : ℝ => (x : EReal)) ?_)
  · show val_main_v23 (F := Ideal) (ix3 b s k) = _
    unfold val_main_v23 val_main_cst_1
    pointwise
    exact EReal.coe_zero.symm
  · unfold Slab.cv; ring
theorem ya_at : val_main_v40 (F := Ideal) (x0 R) (x2 R) (ix3 b s k) = (((sl R b k).ya s.val (lo k) : ℝ) : EReal) :=
  (mul_c (sil3 R b s k) (mul_c (seg1 R b s k) (cv_at R b s k))).trans (congrArg (fun x : ℝ => (x : EReal)) (by unfold Slab.ya; ring))
theorem d_at : val_main_v101 (F := Ideal) (x1 R) (ix3 b s k) = (((sl R b k).d s.val (lo k) : ℝ) : EReal) := by
  rw [d_eq]
  unfold val_main_v101
  pointwise
  rfl
theorem d_at' : val_main_v102 (F := Ideal) (x1 R) (ix3 b s k) = (((sl R b k).d s.val (lo k) : ℝ) : EReal) := by
  rw [d_eq]
  unfold val_main_v102
  pointwise
  rfl
theorem dya_at : val_main_v106 (F := Ideal) (x0 R) (x1 R) (ix3 b s k) = (((sl R b k).dya s.val (lo k) : ℝ) : EReal) :=
  (mul_c (sg9 R b s k) (d_at R b s k)).trans (congrArg (fun x : ℝ => (x : EReal)) (by unfold Slab.dya; ring))
theorem v149_at : val_main_v149 (F := Ideal) (x0 R) (x1 R) (ix3 b s k) = (((sl R b k).dya s.val (lo k) * Slab.silu ((sl R b k).p 3 s.val (lo k)) : ℝ) : EReal) :=
  (mul_c (sil3 R b s k) (dya_at R b s k)).trans (congrArg (fun x : ℝ => (x : EReal)) (by ring))
theorem dcv_at : val_main_v151 (F := Ideal) (x0 R) (x1 R) (ix3 b s k) = (((sl R b k).dcv s.val (lo k) : ℝ) : EReal) :=
  (mul_c (seg1 R b s k) (v149_at R b s k)).trans (congrArg (fun x : ℝ => (x : EReal)) (by unfold Slab.dcv; ring))
theorem gGA_at : val_main_v196 (F := Ideal) (x0 R) (x1 R) (x2 R) (ix3 b s k) = (((sl R b k).gGA s.val (lo k) : ℝ) : EReal) :=
  (mul_c (mul_c (d_at R b s k) (ya_at R b s k)) (mul_c (sg9 R b s k) (sub_c (om9 b s k) (sg9 R b s k)))).trans (congrArg (fun x : ℝ => (x : EReal)) (by unfold Slab.gGA; ring))
theorem gAB_at : val_main_v190 (F := Ideal) (x0 R) (x1 R) (x2 R) (ix3 b s k) = (((sl R b k).gAB s.val (lo k) : ℝ) : EReal) :=
  (mul_c (v149_at R b s k) (cv_at R b s k)).trans (congrArg (fun x : ℝ => (x : EReal)) (by unfold Slab.gAB; ring))
theorem v150_at : val_main_v150 (F := Ideal) (x0 R) (x1 R) (x2 R) (ix3 b s k) = (((sl R b k).dya s.val (lo k) * ((sl R b k).p 1 s.val (lo k) * (sl R b k).cv s.val (lo k)) : ℝ) : EReal) :=
  mul_c (dya_at R b s k) (mul_c (seg1 R b s k) (cv_at R b s k))
theorem gAZ_at : val_main_v192 (F := Ideal) (x0 R) (x1 R) (x2 R) (ix3 b s k) = (((sl R b k).gAZ s.val (lo k) : ℝ) : EReal) :=
  (add_c (mul_c (v150_at R b s k) (sg3 R b s k)) (mul_c (mul_c (seg3 R b s k) (v150_at R b s k)) (mul_c (sg3 R b s k) (sub_c (om3 b s k) (sg3 R b s k))))).trans
    (congrArg (fun x : ℝ => (x : EReal)) (by unfold Slab.gAZ Slab.dsilu; ring))

/-- The gradient of the convolution's operand. -/
theorem pad2_at (r : Fin 2050) : val_main_v159 (F := Ideal) (x0 R) (x1 R) (x2 R) (ix3 b r k) = ((if 2 ≤ r.val then (sl R b k).w 2 (lo k) * (sl R b k).dcv (r.val - 2) (lo k) else 0 : ℝ) : EReal) := by
  unfold val_main_v159 val_main_cst_27
  pointwise
  by_cases h : 2 ≤ r.val ∧ r.val - 2 < 2048
  · rw [dif_pos h, if_pos (by omega)]
    exact mul_c (w153 R b ⟨r.val - 2, _⟩ k) (dcv_at R b ⟨r.val - 2, _⟩ k)
  · rw [dif_neg h, if_neg (by omega)]
    exact EReal.coe_zero.symm
theorem pad1_at (r : Fin 2050) : val_main_v168 (F := Ideal) (x0 R) (x1 R) (x2 R) (ix3 b r k) = ((if 1 ≤ r.val ∧ r.val < 2049 then (sl R b k).w 1 (lo k) * (sl R b k).dcv (r.val - 1) (lo k) else 0 : ℝ) : EReal) := by
  unfold val_main_v168 val_main_cst_31
  pointwise
  by_cases h : 1 ≤ r.val ∧ r.val - 1 < 2048
  · rw [dif_pos h, if_pos (by omega)]
    exact mul_c (w162 R b ⟨r.val - 1, _⟩ k) (dcv_at R b ⟨r.val - 1, _⟩ k)
  · rw [dif_neg h, if_neg (by omega)]
    exact EReal.coe_zero.symm
theorem pad0_at (r : Fin 2050) : val_main_v179 (F := Ideal) (x0 R) (x1 R) (x2 R) (ix3 b r k) = ((if r.val < 2048 then (sl R b k).w 0 (lo k) * (sl R b k).dcv (r.val) (lo k) else 0 : ℝ) : EReal) := by
  unfold val_main_v179 val_main_cst_35
  pointwise
  by_cases h : r.val < 2048
  · rw [dif_pos h, if_pos (by omega)]
    exact mul_c (w173 R b ⟨r.val, _⟩ k) (dcv_at R b ⟨r.val, _⟩ k)
  · rw [dif_neg h, if_neg (by omega)]
    exact EReal.coe_zero.symm
theorem dca_at : val_main_v185 (F := Ideal) (x0 R) (x1 R) (x2 R) (ix3 b s k) = (((sl R b k).dca s.val (lo k) : ℝ) : EReal) := by
  unfold val_main_v185
  pointwise
  refine (add_c (add_c (pad2_at R b k ⟨2 + s.val, _⟩) (pad1_at R b k ⟨2 + s.val, _⟩)) (pad0_at R b k ⟨2 + s.val, _⟩)).trans (congrArg (fun x : ℝ => (x : EReal)) ?_)
  have hs := s.isLt
  unfold Slab.dca Slab.dcvU
  show (if 2 ≤ 2 + s.val then (sl R b k).w 2 (lo k) * (sl R b k).dcv (2 + s.val - 2) (lo k) else 0)
    + (if 1 ≤ 2 + s.val ∧ 2 + s.val < 2049 then (sl R b k).w 1 (lo k) * (sl R b k).dcv (2 + s.val - 1) (lo k) else 0)
    + (if 2 + s.val < 2048 then (sl R b k).w 0 (lo k) * (sl R b k).dcv (2 + s.val) (lo k) else 0) = _
  rw [if_pos (by omega : 2 ≤ 2 + s.val), show 2 + s.val - 2 = s.val by omega, show 2 + s.val - 1 = s.val + 1 by omega, show 2 + s.val = s.val + 2 by omega]
  congr 2
  · by_cases h : s.val + 1 < 2048
    · rw [if_pos h, if_pos (by omega)]
    · rw [if_neg h, if_neg (by omega), mul_zero]
  · by_cases h : s.val + 2 < 2048
    · rw [if_pos h, if_pos h]
    · rw [if_neg h, if_neg h, mul_zero]
theorem gAX_at : val_main_v189 (F := Ideal) (x0 R) (x1 R) (x2 R) (ix3 b s k) = (((sl R b k).gAX s.val (lo k) : ℝ) : EReal) :=
  (mul_c (seg2 R b s k) (dca_at R b s k)).trans (congrArg (fun x : ℝ => (x : EReal)) (by unfold Slab.gAX; ring))
theorem gAC_at : val_main_v191 (F := Ideal) (x0 R) (x1 R) (x2 R) (ix3 b s k) = (((sl R b k).gAC s.val (lo k) : ℝ) : EReal) :=
  mul_c (dca_at R b s k) (seg0 R b s k)

/-- A sum over an example's rows, chunk after chunk, the last chunk first. -/
theorem sum_rows (f : ℕ → ℝ) : ∑ s : Fin 2048, f s.val = ∑ n ∈ Finset.range 16, ∑ i : Fin 128, f (128 * (15 - n) + i.val) := by
  have h := Finset.sum_range_reflect (fun n => ∑ i : Fin 128, f (128 * n + i.val)) 16
  rw [show (∑ n ∈ Finset.range 16, ∑ i : Fin 128, f (128 * (15 - n) + i.val)) = _ from h, Finset.sum_range (fun n => ∑ i : Fin 128, f (128 * n + i.val))]
  refine (Fin.sum_mul_add_fin 16 128 (fun s : Fin 2048 => f s.val) rfl).symm.trans ?_
  refine Finset.sum_congr rfl fun n _ => Finset.sum_congr rfl fun i _ => congrArg f ?_
  show n.val * 128 + i.val = 128 * n.val + i.val
  omega

theorem tap_sum (j : Fin 3) (n : ℕ) (hn : n = 2 - j.val) (v : S2x2048x1024.Idx → EReal)
    (h : ∀ (b : Fin 2) (s : Fin 2048), v (ix3 b s k) = (((sl R b k).dcv s.val (lo k) * (sl R b k).caS s.val (lo k) n : ℝ) : EReal)) :
    ∑ a : Fin 2, ∑ b : Fin 2048, v (ix3 a b k) = ((R.gw j k : ℝ) : EReal) := by
  subst hn
  simp only [h, Sums.coe_sum]
  rw [Fin.sum_univ_two, sum_rows (fun s => (sl R 0 k).dcv s (lo k) * (sl R 0 k).caS s (lo k) (2 - j.val)),
    sum_rows (fun s => (sl R 1 k).dcv s (lo k) * (sl R 1 k).caS s (lo k) (2 - j.val))]
  rfl

/-- The gradient of the taps. -/
theorem tap2 : val_main_v158 (F := Ideal) (x0 R) (x1 R) (ix1 k) = ((R.gw 2 k : ℝ) : EReal) := by
  unfold val_main_v158 val_main_v157 val_main_v156 val_main_cst_25 val_main_cst_26
  pointwise
  simp only [Finset.univ_unique, Finset.sum_singleton, Sums.hostReduceAdd01]
  pointwise
  simp only [Sums.hostReduceAdd01]
  pointwise
  have h : ∀ (b : Fin 2) (s : Fin 2048), val_main_v155 (F := Ideal) (x0 R) (x1 R) (ix3 b s k) = (((sl R b k).dcv s.val (lo k) * (sl R b k).caS s.val (lo k) (0) : ℝ) : EReal) :=
    fun b s => (mul_c (dcv_at R b s k) (caS0 R b s k)).trans (congrArg (fun x : ℝ => (x : EReal)) (by unfold Slab.caS; rw [if_pos (Nat.zero_le _)]; rfl))
  exact tap_sum R k 2 0 rfl _ h
theorem tap1 : val_main_v167 (F := Ideal) (x0 R) (x1 R) (ix1 k) = ((R.gw 1 k : ℝ) : EReal) := by
  unfold val_main_v167 val_main_v166 val_main_v165 val_main_cst_29 val_main_cst_30
  pointwise
  simp only [Finset.univ_unique, Finset.sum_singleton, Sums.hostReduceAdd01]
  pointwise
  simp only [Sums.hostReduceAdd01]
  pointwise
  have h : ∀ (b : Fin 2) (s : Fin 2048), val_main_v164 (F := Ideal) (x0 R) (x1 R) (ix3 b s k) = (((sl R b k).dcv s.val (lo k) * (sl R b k).caS s.val (lo k) (1) : ℝ) : EReal) :=
    fun b s => (mul_c (dcv_at R b s k) (caS1 R b s k)).trans (congrArg (fun x : ℝ => (x : EReal)) (by rfl))
  exact tap_sum R k 1 1 rfl _ h
theorem tap0 : val_main_v178 (F := Ideal) (x0 R) (x1 R) (ix1 k) = ((R.gw 0 k : ℝ) : EReal) := by
  unfold val_main_v178 val_main_v177 val_main_v176 val_main_cst_33 val_main_cst_34
  pointwise
  simp only [Finset.univ_unique, Finset.sum_singleton, Sums.hostReduceAdd01]
  pointwise
  simp only [Sums.hostReduceAdd01]
  pointwise
  have h : ∀ (b : Fin 2) (s : Fin 2048), val_main_v175 (F := Ideal) (x0 R) (x1 R) (ix3 b s k) = (((sl R b k).dcv s.val (lo k) * (sl R b k).caS s.val (lo k) (2) : ℝ) : EReal) :=
    fun b s => (mul_c (dcv_at R b s k) (caS2 R b s k)).trans (congrArg (fun x : ℝ => (x : EReal)) (by rfl))
  exact tap_sum R k 0 2 rfl _ h
theorem taps_at (j : Fin 3) : val_main_v183 (F := Ideal) (x0 R) (x1 R) (ix2 j k) = ((R.gw j k : ℝ) : EReal) := by
  unfold val_main_v183 val_main_v172 val_main_v161 val_main_v171 val_main_v182 val_main_v160 val_main_v170 val_main_v181 val_main_cst_28 val_main_cst_32 val_main_cst_36
  pointwise
  fin_cases j
  · simp
    exact tap0 R k
  · simp
    exact tap1 R k
  · simp
    exact tap2 R k

end Cert.Reference2Ideal.MixRef

end
-- ==== Proof.MixRefB.lean ====
/-
  The reference's lines of the second mixer's backward pass over the reals, at an index.
-/
module

public import proofs.«01_k».proof.Proof.MixRefA

@[expose] public section

set_option maxRecDepth 16384
set_option maxHeartbeats 1000000

noncomputable section

open Idealize.ShloMosaic Idealize.ShloMosaic.TcCoe Idealize.SL.Sem

namespace Cert.Reference2Ideal.MixRef

open Cert.Reference2Ideal Cert.Reference2Ideal.Gen Cert.Reference2Ideal.Read Idealize.ShloMosaic.Pointwise
open Cert.Kernel2Ideal.Mix (Nums Slab rows_val chan hi lo seg hi_chan lo_chan chan_hi_lo sg eps)

variable (R : Nums)

/-- A row by its chunk and its place there. -/
def row (n : Fin 16) (i : Fin 128) : Fin 2048 := ⟨128 * n.val + i.val, by omega⟩

/-- Between rows of 1024 channels and chunks of 128 rows of 8 blocks of 128 channels. -/
theorem to5 (x : FVec Ideal S2x2048x1024 .f32) (f : Slab → ℕ → Fin 128 → ℝ)
    (h : ∀ (b : Fin 2) (s : Fin 2048) (k : Fin 1024), x (ix3 b s k) = ((f (sl R b k) s.val (lo k) : ℝ) : EReal))
    (b : Fin 2) (n : Fin 16) (i : Fin 128) (g : Fin 8) (l : Fin 128) :
    shapeCast S2x16x128x8x128 x shapeCasts_S2x2048x1024_S2x16x128x8x128 (ix5 b n i g l) = ((f (R.slab b g) (128 * n.val + i.val) l : ℝ) : EReal) := by
  have e := h b (row n i) (chan g l)
  unfold sl at e
  rw [hi_chan, lo_chan] at e
  refine Eq.trans ?_ e
  pointwise
  exact congrArg₂ (fun a c => x (ix3 b a c)) (Fin.ext (by show n.val * 128 + i.val = 128 * n.val + i.val; omega)) (Fin.ext (by show g.val * 128 + l.val = 128 * g.val + l.val; omega))
theorem of5 (x : FVec Ideal S2x16x128x8x128 .f32) (f : Slab → ℕ → Fin 128 → ℝ)
    (h : ∀ (b : Fin 2) (n : Fin 16) (i : Fin 128) (g : Fin 8) (l : Fin 128), x (ix5 b n i g l) = ((f (R.slab b g) (128 * n.val + i.val) l : ℝ) : EReal))
    (b : Fin 2) (s : Fin 2048) (k : Fin 1024) :
    shapeCast S2x2048x1024 x shapeCasts_S2x16x128x8x128_S2x2048x1024 (ix3 b s k) = ((f (sl R b k) s.val (lo k) : ℝ) : EReal) := by
  have e := h b ⟨s.val / 128, by omega⟩ ⟨s.val % 128, by omega⟩ (hi k) (lo k)
  rw [show 128 * (s.val / 128) + s.val % 128 = s.val from Nat.div_add_mod _ _] at e
  refine Eq.trans ?_ e
  pointwise
  rfl

variable (b : Fin 2) (n : Fin 16) (i : Fin 128) (g : Fin 8) (l : Fin 128)

theorem v42_at : val_main_v42 (F := Ideal) (x0 R) (ix5 b n i g l) = (((R.slab b g).p 5 (128 * n.val + i.val) l : ℝ) : EReal) :=
  to5 R _ (fun S s l => S.p 5 s l) (seg5 R) b n i g l
theorem v43_at : val_main_v43 (F := Ideal) (x0 R) (ix4 b n i g) = ((∑ l, (R.slab b g).p 5 (128 * n.val + i.val) l : ℝ) : EReal) := by
  unfold val_main_v43 val_main_cst_2
  pointwise
  simp only [v42_at]
  rw [Sums.coe_sum]
theorem v46_at (u : Fin 1) : val_main_v46 (F := Ideal) (x0 R) (ix5 b n i g u) = (((∑ l, (R.slab b g).p 5 (128 * n.val + i.val) l) / 128 : ℝ) : EReal) := by
  unfold val_main_v46 val_main_v44 val_main_v45 val_main_cst_3
  pointwise
  rw [v43_at, len_b, Sums.coe_div _ (by norm_num)]
theorem v48_at : val_main_v48 (F := Ideal) (x0 R) (ix5 b n i g l) = (((R.slab b g).vc (128 * n.val + i.val) l : ℝ) : EReal) := by
  unfold val_main_v48 val_main_v47
  pointwise
  exact sub_c (v42_at R b n i g l) (v46_at R b n i g 0)
theorem v57_at : val_main_v57 (F := Ideal) (x0 R) (ix5 b n i g l) = (((R.slab b g).vc (128 * n.val + i.val) l : ℝ) : EReal) := by
  unfold val_main_v57 val_main_v56
  pointwise
  exact sub_c (v42_at R b n i g l) (v46_at R b n i g 0)
theorem v52_at : val_main_v52 (F := Ideal) (x0 R) (ix4 b n i g) = ((∑ l, (R.slab b g).vc (128 * n.val + i.val) l * (R.slab b g).vc (128 * n.val + i.val) l : ℝ) : EReal) := by
  unfold val_main_v52 val_main_v49 val_main_cst_5
  pointwise
  simp only [v48_at, ← EReal.coe_mul]
  rw [Sums.coe_sum]
theorem v59_at (u : Fin 1) : val_main_v59 (F := Ideal) (x0 R) (ix5 b n i g u) = (((R.slab b g).var (128 * n.val + i.val) : ℝ) : EReal) := by
  unfold val_main_v59 val_main_v58 val_main_v55 val_main_v54 val_main_v53 val_main_cst_6 val_main_cst_7
  pointwise
  rw [v52_at, len_b, Sums.coe_div _ (by norm_num), eps_b, ← EReal.coe_add]
  rfl
theorem v60_at (u : Fin 1) : val_main_v60 (F := Ideal) (x0 R) (ix5 b n i g u) = (((R.slab b g).rs (128 * n.val + i.val) : ℝ) : EReal) := by
  unfold val_main_v60
  pointwise
  rw [v59_at, Sums.coe_rsqrt (Slab.var_pos _ _)]
  rfl
theorem v63_at (u : Fin 1) : val_main_v63 (F := Ideal) (x0 R) (ix5 b n i g u) = ((-(1 / 2) * ((R.slab b g).rs (128 * n.val + i.val) / (R.slab b g).var (128 * n.val + i.val)) : ℝ) : EReal) := by
  unfold val_main_v63 val_main_v62 val_main_v61 val_main_cst_8
  pointwise
  rw [v60_at, v59_at, Sums.coe_div _ (Slab.var_pos _ _).ne', mhalf_b, ← EReal.coe_mul]
theorem v65_at : val_main_v65 (F := Ideal) (x0 R) (ix5 b n i g l) = (((R.slab b g).vn (128 * n.val + i.val) l : ℝ) : EReal) := by
  unfold val_main_v65 val_main_v64
  pointwise
  exact mul_c (v57_at R b n i g l) (v60_at R b n i g 0)

/-- The lower triangle of the mixing matrices. -/
theorem tril_at (j : Fin 128) : val_main_v70_1 (F := Ideal) (ix3 g i j) = if j ≤ i then 1#1 else 0#1 := by
  unfold val_main_v70_1 val_main_v68 val_main_v67 val_main_v66 val_main_c val_main_call2_v5 val_main_call2_v4 val_main_call2_v3 val_main_call2_v2 val_main_call2_v1 val_main_call2_v0 val_main_call2_c val_main_call2_c_0
  pointwise
  revert i j
  decide +kernel
theorem sw_at (j : Fin 128) : val_main_v70_0 (F := Ideal) (x3 R) (ix3 g i j) = (((R.slab b g).sw i j : ℝ) : EReal) := by
  show Scalar.select (val_main_v70_1 (F := Ideal) (ix3 g i j)) (x3 R (ix3 g i j)) (val_main_v69 (F := Ideal) (ix3 g i j)) = _
  rw [tril_at]
  show _ = ((if j ≤ i then R.M g i j else 0 : ℝ) : EReal)
  by_cases h : j ≤ i
  · rw [if_pos h, if_pos h]; rfl
  · rw [if_neg h, if_neg h]
    show val_main_v69 (F := Ideal) (ix3 g i j) = _
    unfold val_main_v69 val_main_cst_9
    pointwise
    exact EReal.coe_zero.symm
theorem v71_at : val_main_v71 (F := Ideal) (x0 R) (x3 R) (ix5 g b n l i) = ((∑ j, (R.slab b g).sw i j * (R.slab b g).vn (128 * n.val + j.val) l : ℝ) : EReal) := by
  unfold val_main_v71
  pointwise
  simp only [v65_at, fun j => sw_at R b i g j, ← EReal.coe_mul, Sums.coe_sum]
  exact congrArg (fun x : ℝ => (x : EReal)) (Finset.sum_congr rfl fun j _ => mul_comm _ _)
theorem z_at : val_main_v76 (F := Ideal) (x0 R) (x3 R) (x4 R) (ix5 b n i g l) = (((R.slab b g).z (128 * n.val + i.val) l : ℝ) : EReal) := by
  have hi := i.isLt
  have e1 : (⟨(128 * n.val + i.val) % 128, Nat.mod_lt _ (by decide)⟩ : Fin 128) = i := Fin.ext (by show (128 * n.val + i.val) % 128 = i.val; omega)
  have e2 : (128 * n.val + i.val) / 128 = n.val := by omega
  unfold Slab.z
  rw [e1, e2]
  unfold val_main_v76 val_main_v72 val_main_v75 val_main_v74 val_main_v73
  pointwise
  exact add_c (v71_at R b n i g l) rfl

variable (s : Fin 2048) (k : Fin 1024)

theorem z3_at : val_main_v77 (F := Ideal) (x0 R) (x3 R) (x4 R) (ix3 b s k) = (((sl R b k).z s.val (lo k) : ℝ) : EReal) :=
  of5 R _ (fun S s l => S.z s l) (z_at R) b s k
theorem v78_at : val_main_v78 (F := Ideal) (x0 R) (x3 R) (x4 R) (ix3 b s k) = (((sl R b k).p 4 s.val (lo k) * (sl R b k).z s.val (lo k) : ℝ) : EReal) :=
  mul_c (seg4 R b s k) (z3_at R b s k)
theorem ys_at : val_main_v79 (F := Ideal) (x0 R) (x3 R) (x4 R) (ix3 b s k) = (((sl R b k).ys s.val (lo k) : ℝ) : EReal) :=
  (mul_c (sil6 R b s k) (v78_at R b s k)).trans (congrArg (fun x : ℝ => (x : EReal)) (by unfold Slab.ys; ring))
theorem dys_at : val_main_v103 (F := Ideal) (x0 R) (x1 R) (ix3 b s k) = (((sl R b k).dys s.val (lo k) : ℝ) : EReal) :=
  (mul_c (sg10 R b s k) (d_at' R b s k)).trans (congrArg (fun x : ℝ => (x : EReal)) (by unfold Slab.dys; ring))
theorem gGS_at : val_main_v197 (F := Ideal) (x0 R) (x1 R) (x3 R) (x4 R) (ix3 b s k) = (((sl R b k).gGS s.val (lo k) : ℝ) : EReal) :=
  (mul_c (mul_c (d_at' R b s k) (ys_at R b s k)) (mul_c (sg10 R b s k) (sub_c (om10 b s k) (sg10 R b s k)))).trans (congrArg (fun x : ℝ => (x : EReal)) (by unfold Slab.gGS; ring))
theorem v109_at : val_main_v109 (F := Ideal) (x0 R) (x1 R) (ix3 b s k) = ((Slab.silu ((sl R b k).p 6 s.val (lo k)) * (sl R b k).dys s.val (lo k) : ℝ) : EReal) :=
  mul_c (sil6 R b s k) (dys_at R b s k)
theorem gSU_at : val_main_v193 (F := Ideal) (x0 R) (x1 R) (x3 R) (x4 R) (ix3 b s k) = (((sl R b k).gSU s.val (lo k) : ℝ) : EReal) :=
  (mul_c (v109_at R b s k) (z3_at R b s k)).trans (congrArg (fun x : ℝ => (x : EReal)) (by unfold Slab.gSU; ring))
theorem v110_at : val_main_v110 (F := Ideal) (x0 R) (x1 R) (x3 R) (x4 R) (ix3 b s k) = (((sl R b k).dys s.val (lo k) * ((sl R b k).p 4 s.val (lo k) * (sl R b k).z s.val (lo k)) : ℝ) : EReal) :=
  mul_c (dys_at R b s k) (v78_at R b s k)
theorem gSZ_at : val_main_v195 (F := Ideal) (x0 R) (x1 R) (x3 R) (x4 R) (ix3 b s k) = (((sl R b k).gSZ s.val (lo k) : ℝ) : EReal) :=
  (add_c (mul_c (v110_at R b s k) (sg6 R b s k)) (mul_c (mul_c (seg6 R b s k) (v110_at R b s k)) (mul_c (sg6 R b s k) (sub_c (om6 b s k) (sg6 R b s k))))).trans
    (congrArg (fun x : ℝ => (x : EReal)) (by unfold Slab.gSZ Slab.dsilu; ring))
theorem v111_at : val_main_v111 (F := Ideal) (x0 R) (x1 R) (ix3 b s k) = (((sl R b k).dz s.val (lo k) : ℝ) : EReal) :=
  (mul_c (seg4 R b s k) (v109_at R b s k)).trans (congrArg (fun x : ℝ => (x : EReal)) (by unfold Slab.dz; ring))
theorem dz_at : val_main_v113 (F := Ideal) (x0 R) (x1 R) (ix5 b n i g l) = (((R.slab b g).dz (128 * n.val + i.val) l : ℝ) : EReal) :=
  to5 R _ (fun S s l => S.dz s l) (v111_at R) b n i g l
theorem v118_at : val_main_v118 (F := Ideal) (x0 R) (x1 R) (ix5 g b n l i) = (((R.slab b g).dz (128 * n.val + i.val) l : ℝ) : EReal) := by
  unfold val_main_v118
  pointwise
  exact dz_at R b n i g l
theorem v120_at (j : Fin 128) : val_main_v120 (F := Ideal) (x0 R) (x1 R) (x3 R) (ix5 g b n l j) = ((∑ i : Fin 128, (R.slab b g).sw i j * (R.slab b g).dz (128 * n.val + i.val) l : ℝ) : EReal) := by
  unfold val_main_v120
  pointwise
  simp only [v118_at, fun i => sw_at R b i g j, ← EReal.coe_mul, Sums.coe_sum]
  exact congrArg (fun x : ℝ => (x : EReal)) (Finset.sum_congr rfl fun j _ => mul_comm _ _)
theorem dvn_at : val_main_v121 (F := Ideal) (x0 R) (x1 R) (x3 R) (ix5 b n i g l) = (((R.slab b g).dvn (128 * n.val + i.val) l : ℝ) : EReal) := by
  have hi := i.isLt
  have e1 : (⟨(128 * n.val + i.val) % 128, Nat.mod_lt _ (by decide)⟩ : Fin 128) = i := Fin.ext (by show (128 * n.val + i.val) % 128 = i.val; omega)
  have e2 : (128 * n.val + i.val) / 128 = n.val := by omega
  unfold Slab.dvn
  rw [e1, e2]
  unfold val_main_v121
  pointwise
  exact v120_at R b n g l i

/-- The gradient through the normalisation. -/
theorem v127_at : val_main_v127 (F := Ideal) (x0 R) (x1 R) (x3 R) (ix5 b n i g l) = (((R.slab b g).dvn (128 * n.val + i.val) l * (R.slab b g).rs (128 * n.val + i.val) : ℝ) : EReal) := by
  unfold val_main_v127 val_main_v126
  pointwise
  exact mul_c (dvn_at R b n i g l) (v60_at R b n i g 0)
theorem v124_at : val_main_v124 (F := Ideal) (x0 R) (x1 R) (x3 R) (ix4 b n i g) = ((∑ l, (R.slab b g).vc (128 * n.val + i.val) l * (R.slab b g).dvn (128 * n.val + i.val) l : ℝ) : EReal) := by
  unfold val_main_v124 val_main_v123 val_main_cst_18
  pointwise
  simp only [v57_at, dvn_at, ← EReal.coe_mul]
  rw [Sums.coe_sum]
theorem v134_at : val_main_v134 (F := Ideal) (x0 R) (x1 R) (x3 R) (ix4 b n i g) = (((∑ l, (R.slab b g).vc (128 * n.val + i.val) l * (R.slab b g).dvn (128 * n.val + i.val) l)
    * (-(1 / 2) * ((R.slab b g).rs (128 * n.val + i.val) / (R.slab b g).var (128 * n.val + i.val))) / 128 : ℝ) : EReal) := by
  unfold val_main_v134 val_main_v133 val_main_v132 val_main_v128 val_main_v125 val_main_cst_20 val_main_cst_21
  pointwise
  simp only [Finset.univ_unique, Finset.sum_singleton]
  rw [v124_at, v63_at, len_b, ← EReal.coe_mul, Sums.coe_div _ (by norm_num)]
theorem v136_at : val_main_v136 (F := Ideal) (x0 R) (x1 R) (x3 R) (ix5 b n i g l) = ((((∑ l, (R.slab b g).vc (128 * n.val + i.val) l * (R.slab b g).dvn (128 * n.val + i.val) l)
    * (-(1 / 2) * ((R.slab b g).rs (128 * n.val + i.val) / (R.slab b g).var (128 * n.val + i.val))) / 128) * (2 * (R.slab b g).vc (128 * n.val + i.val) l) : ℝ) : EReal) := by
  unfold val_main_v136 val_main_v135 val_main_v51 val_main_v50 val_main_cst_4
  pointwise
  exact mul_c (v134_at R b n i g) (mul_c two_b (v48_at R b n i g l))
theorem v144_at : val_main_v144 (F := Ideal) (x0 R) (x1 R) (x3 R) (ix4 b n i g) = (((∑ l, -((R.slab b g).dvn (128 * n.val + i.val) l * (R.slab b g).rs (128 * n.val + i.val))
    + ∑ l, -(((∑ l, (R.slab b g).vc (128 * n.val + i.val) l * (R.slab b g).dvn (128 * n.val + i.val) l)
    * (-(1 / 2) * ((R.slab b g).rs (128 * n.val + i.val) / (R.slab b g).var (128 * n.val + i.val))) / 128) * (2 * (R.slab b g).vc (128 * n.val + i.val) l))) / 128 : ℝ) : EReal) := by
  unfold val_main_v144 val_main_v143 val_main_v142 val_main_v141 val_main_v139 val_main_v138 val_main_v137 val_main_v131 val_main_v130 val_main_v129 val_main_cst_19 val_main_cst_22 val_main_cst_23 val_main_cst_24
  pointwise
  simp only [Finset.univ_unique, Finset.sum_singleton]
  simp only [v127_at, v136_at, ← EReal.coe_neg, Sums.coe_sum]
  rw [len_b, ← EReal.coe_add, Sums.coe_div _ (by norm_num)]
/-- The two spellings of the gradient through the normalisation agree. -/
theorem dsv_eq (S : Slab) (s : ℕ) (l : Fin 128) : S.dvn s l * S.rs s + ((∑ l, S.vc s l * S.dvn s l) * (-(1 / 2) * (S.rs s / S.var s)) / 128) * (2 * S.vc s l)
    + (∑ l, -(S.dvn s l * S.rs s) + ∑ l, -(((∑ l, S.vc s l * S.dvn s l) * (-(1 / 2) * (S.rs s / S.var s)) / 128) * (2 * S.vc s l))) / 128 = S.dsv s l := by
  have hv := S.var_pos s
  have h0 : ∑ l, S.vc s l = 0 := by
    unfold Slab.vc
    rw [Finset.sum_sub_distrib, Finset.sum_const, Finset.card_univ, Fintype.card_fin, nsmul_eq_mul]
    push_cast
    ring
  have h1 : ∑ j, S.dvn s j * S.vn s j = (∑ l, S.vc s l * S.dvn s l) * S.rs s := by
    rw [Finset.sum_mul]
    exact Finset.sum_congr rfl fun j _ => by unfold Slab.vn; ring
  have h2 : S.rs s * S.rs s = 1 / S.var s := by
    unfold Slab.rs
    rw [← mul_inv, Real.mul_self_sqrt hv.le, one_div]
  have h3 : S.rs s / S.var s = S.rs s * (S.rs s * S.rs s) := by rw [h2]; ring
  rw [Finset.sum_neg_distrib, Finset.sum_neg_distrib, ← Finset.sum_mul, ← Finset.mul_sum, ← Finset.mul_sum, h0, h3]
  unfold Slab.dsv
  rw [h1]
  unfold Slab.vn
  ring
theorem v146_at : val_main_v146 (F := Ideal) (x0 R) (x1 R) (x3 R) (ix5 b n i g l) = (((R.slab b g).dsv (128 * n.val + i.val) l : ℝ) : EReal) := by
  refine Eq.trans ?_ (congrArg (fun x : ℝ => (x : EReal)) (dsv_eq (R.slab b g) (128 * n.val + i.val) l))
  unfold val_main_v146 val_main_v145 val_main_v140
  pointwise
  exact add_c (add_c (v127_at R b n i g l) (v136_at R b n i g l)) (v144_at R b n i g)
theorem gSV_at : val_main_v194 (F := Ideal) (x0 R) (x1 R) (x3 R) (ix3 b s k) = (((sl R b k).dsv s.val (lo k) : ℝ) : EReal) :=
  of5 R _ (fun S s l => S.dsv s l) (v146_at R) b s k

/-- Sums over the chunks of both examples, the last chunk first. -/
theorem sum_chunks (f : ℕ → ℝ) : ∑ n : Fin 16, f n.val = ∑ n ∈ Finset.range 16, f (15 - n) := by
  rw [show (∑ n ∈ Finset.range 16, f (15 - n)) = _ from Finset.sum_range_reflect f 16, Finset.sum_range f]

/-- The contraction of the mixing matrices' gradient runs over the examples, the chunks and the lanes. -/
def ctr (p : Fin 2 × Fin 16 × Fin 128) : dot_S8x2x16x128x128_S2x16x128x8x128_S8x128x128_123_014_4_2_0_3.contr.Idx
  | ⟨0, _⟩ => p.1
  | ⟨1, _⟩ => p.2.1
  | ⟨2, _⟩ => p.2.2
theorem ctr_bij : Function.Bijective ctr := by
  constructor
  · rintro ⟨a, n, l⟩ ⟨a', n', l'⟩ h
    exact Prod.ext (congrFun h (0 : Fin 3)) (Prod.ext (congrFun h (1 : Fin 3)) (congrFun h (2 : Fin 3)))
  · intro k
    refine ⟨(k (0 : Fin 3), k (1 : Fin 3), k (2 : Fin 3)), funext fun a => ?_⟩
    match a with
    | ⟨0, _⟩ => rfl
    | ⟨1, _⟩ => rfl
    | ⟨2, _⟩ => rfl
theorem v119_at (j : Fin 128) : val_main_v119 (F := Ideal) (x0 R) (x1 R) (ix3 g i j)
    = ((∑ b : Fin 2, ∑ n : Fin 16, ∑ l : Fin 128, (R.slab b g).dz (128 * n.val + i.val) l * (R.slab b g).vn (128 * n.val + j.val) l : ℝ) : EReal) := by
  unfold val_main_v119
  pointwise
  unfold Ideal.matmul
  rw [← Function.Bijective.sum_comp ctr_bij, Fintype.sum_prod_type, zero_add]
  simp only [Fintype.sum_prod_type]
  refine Eq.trans (Finset.sum_congr rfl fun b _ => Finset.sum_congr rfl fun n _ => Finset.sum_congr rfl fun l _ => ?_)
    (b := ∑ b : Fin 2, ∑ n : Fin 16, ∑ l : Fin 128, (((R.slab b g).dz (128 * n.val + i.val) l * (R.slab b g).vn (128 * n.val + j.val) l : ℝ) : EReal)) ?_
  · rw [EReal.coe_mul, ← v118_at R b n i g l, ← v65_at R b n j g l]
    refine congrArg₂ (fun a c => val_main_v118 (F := Ideal) (x0 R) (x1 R) a * val_main_v65 (F := Ideal) (x0 R) c) (funext fun a => ?_) (funext fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
  · simp only [Sums.coe_sum]

/-- The gradient of the mixing matrices. -/
theorem mat_at (j : Fin 128) : val_main_v122 (F := Ideal) (x0 R) (x1 R) (ix3 g i j) = ((R.gm g i j : ℝ) : EReal) := by
  show Scalar.select (val_main_v70_1 (F := Ideal) (ix3 g i j)) (val_main_v119 (F := Ideal) (x0 R) (x1 R) (ix3 g i j)) (val_main_call4_v0 (F := Ideal) (ix3 g i j)) = _
  rw [tril_at]
  unfold Nums.gm
  by_cases h : j ≤ i
  · rw [if_pos h, if_pos h]
    show val_main_v119 (F := Ideal) (x0 R) (x1 R) (ix3 g i j) = _
    rw [v119_at, Fin.sum_univ_two, sum_chunks (fun n => ∑ l : Fin 128, (R.slab 0 g).dz (128 * n + i.val) l * (R.slab 0 g).vn (128 * n + j.val) l),
      sum_chunks (fun n => ∑ l : Fin 128, (R.slab 1 g).dz (128 * n + i.val) l * (R.slab 1 g).vn (128 * n + j.val) l)]
    rfl
  · rw [if_neg h, if_neg h]
    show val_main_call4_v0 (F := Ideal) (ix3 g i j) = _
    unfold val_main_call4_v0 val_main_call4_cst
    pointwise
    exact EReal.coe_zero.symm

/-- A host sum over the first two axes and the last of a rank-5 array: the triple sum. -/
theorem hostReduceAdd014 {n0 n1 n2 n3 n4 : Nat} (h : (⟨5, ![n0, n1, n2, n3, n4]⟩ : Shape).ReducesTo [0, 1, 4] ⟨2, ![n2, n3]⟩)
    (v : (⟨5, ![n0, n1, n2, n3, n4]⟩ : Shape).Idx → EReal) (init : EReal) (i : Fin n2) (k : Fin n3) :
    Ideal.hostReduceAdd h v init (ix2 i k) = init + ∑ a : Fin n0, ∑ b : Fin n1, ∑ c : Fin n4, v (ix5 a b i k c) := by
  unfold Ideal.hostReduceAdd
  rw [Finset.sum_filter_eq_sum_of_fiber _ (fun p : Fin n0 × Fin n1 × Fin n4 => ix5 p.1 p.2.1 i k p.2.2) (fun p q e => ?_) (fun x => ?_) v]
  · simp only [Fintype.sum_prod_type]
  · exact Prod.ext (congrFun e 0) (Prod.ext (congrFun e 1) (congrFun e 4))
  · constructor
    · intro e
      refine ⟨(x 0, x 1, x 4), funext fun a => ?_⟩
      match a with
      | ⟨0, _⟩ => rfl
      | ⟨1, _⟩ => rfl
      | ⟨2, _⟩ => exact Fin.ext (congrArg Fin.val (congrFun e 0)).symm
      | ⟨3, _⟩ => exact Fin.ext (congrArg Fin.val (congrFun e 1)).symm
      | ⟨4, _⟩ => rfl
    · rintro ⟨p, rfl⟩
      funext a; apply Fin.ext
      match a with
      | ⟨0, _⟩ => rfl
      | ⟨1, _⟩ => rfl

theorem v114_at : val_main_v114 (F := Ideal) (x0 R) (x1 R) (ix2 i g) = ((∑ b : Fin 2, ∑ n : Fin 16, ∑ l : Fin 128, (R.slab b g).dz (128 * n.val + i.val) l : ℝ) : EReal) := by
  unfold val_main_v114 val_main_cst_16
  pointwise
  erw [hostReduceAdd014]
  rw [zero_add]
  simp only [dz_at, Sums.coe_sum]

/-- The gradient of the mixing bias. -/
theorem bias_at : val_main_v117 (F := Ideal) (x0 R) (x1 R) (ix2 g i) = ((R.gb g i : ℝ) : EReal) := by
  refine Eq.trans (b := val_main_v114 (F := Ideal) (x0 R) (x1 R) (ix2 i g)) ?_ ?_
  · unfold val_main_v117 val_main_v116 val_main_v115 val_main_cst_17
    pointwise
    erw [hostReduceAdd014]
    rw [zero_add]
    pointwise
    simp only [Finset.univ_unique, Finset.sum_singleton]
  · rw [v114_at, Fin.sum_univ_two, sum_chunks (fun n => ∑ l : Fin 128, (R.slab 0 g).dz (128 * n + i.val) l),
      sum_chunks (fun n => ∑ l : Fin 128, (R.slab 1 g).dz (128 * n + i.val) l)]
    rfl

end Cert.Reference2Ideal.MixRef

end
-- ==== Proof.MixRun.lean ====
/-
  The two runs of the mixers' backward pass: under the precondition the arguments are real numbers, and the kernel's
  program and the reference's leave the same gradients.
-/
module

public import proofs.«01_k».proof.Defs
public import proofs.«01_k».proof.Proof.MixTail
public import proofs.«01_k».proof.Proof.MixRefB
public import proofs.«01_k».proof.Proof.Gen.Pre_mixer_finite
public import proofs.«01_k».proof.Proof.Gen.Reference2Ideal.Run

@[expose] public section

set_option maxRecDepth 16384
set_option maxHeartbeats 4000000

noncomputable section

open Idealize.ShloMosaic Idealize.ShloMosaic.TcCoe Idealize.SL.Sem

namespace Cert.Reference2Ideal.MixRef

open Cert.Reference2Ideal Cert.Reference2Ideal.Gen Cert.Reference2Ideal.Read Idealize.ShloMosaic.Pointwise
open Cert.Kernel2Ideal.Mix (Nums)

variable (R : Nums)

/-- Each of the reference's results, as an array. -/
theorem arr189 : val_main_v189 (F := Ideal) (x0 R) (x1 R) (x2 R) = R.seg 0 := by
  funext i; obtain ⟨b, s, k, rfl⟩ : ∃ (b : Fin 2) (s : Fin 2048) (k : Fin 1024), i = ix3 b s k := ⟨_, _, _, eq_ix3 i⟩
  exact gAX_at R b s k
theorem arr190 : val_main_v190 (F := Ideal) (x0 R) (x1 R) (x2 R) = R.seg 1 := by
  funext i; obtain ⟨b, s, k, rfl⟩ : ∃ (b : Fin 2) (s : Fin 2048) (k : Fin 1024), i = ix3 b s k := ⟨_, _, _, eq_ix3 i⟩
  exact gAB_at R b s k
theorem arr191 : val_main_v191 (F := Ideal) (x0 R) (x1 R) (x2 R) = R.seg 2 := by
  funext i; obtain ⟨b, s, k, rfl⟩ : ∃ (b : Fin 2) (s : Fin 2048) (k : Fin 1024), i = ix3 b s k := ⟨_, _, _, eq_ix3 i⟩
  exact gAC_at R b s k
theorem arr192 : val_main_v192 (F := Ideal) (x0 R) (x1 R) (x2 R) = R.seg 3 := by
  funext i; obtain ⟨b, s, k, rfl⟩ : ∃ (b : Fin 2) (s : Fin 2048) (k : Fin 1024), i = ix3 b s k := ⟨_, _, _, eq_ix3 i⟩
  exact gAZ_at R b s k
theorem arr193 : val_main_v193 (F := Ideal) (x0 R) (x1 R) (x3 R) (x4 R) = R.seg 4 := by
  funext i; obtain ⟨b, s, k, rfl⟩ : ∃ (b : Fin 2) (s : Fin 2048) (k : Fin 1024), i = ix3 b s k := ⟨_, _, _, eq_ix3 i⟩
  exact gSU_at R b s k
theorem arr194 : val_main_v194 (F := Ideal) (x0 R) (x1 R) (x3 R) = R.seg 5 := by
  funext i; obtain ⟨b, s, k, rfl⟩ : ∃ (b : Fin 2) (s : Fin 2048) (k : Fin 1024), i = ix3 b s k := ⟨_, _, _, eq_ix3 i⟩
  exact gSV_at R b s k
theorem arr195 : val_main_v195 (F := Ideal) (x0 R) (x1 R) (x3 R) (x4 R) = R.seg 6 := by
  funext i; obtain ⟨b, s, k, rfl⟩ : ∃ (b : Fin 2) (s : Fin 2048) (k : Fin 1024), i = ix3 b s k := ⟨_, _, _, eq_ix3 i⟩
  exact gSZ_at R b s k
theorem arr196 : val_main_v196 (F := Ideal) (x0 R) (x1 R) (x2 R) = R.seg 9 := by
  funext i; obtain ⟨b, s, k, rfl⟩ : ∃ (b : Fin 2) (s : Fin 2048) (k : Fin 1024), i = ix3 b s k := ⟨_, _, _, eq_ix3 i⟩
  exact gGA_at R b s k
theorem arr197 : val_main_v197 (F := Ideal) (x0 R) (x1 R) (x3 R) (x4 R) = R.seg 10 := by
  funext i; obtain ⟨b, s, k, rfl⟩ : ∃ (b : Fin 2) (s : Fin 2048) (k : Fin 1024), i = ix3 b s k := ⟨_, _, _, eq_ix3 i⟩
  exact gGS_at R b s k
theorem arr183 : val_main_v183 (F := Ideal) (x0 R) (x1 R) = R.taps := by
  funext i; obtain ⟨j, k, rfl⟩ : ∃ (j : Fin 3) (k : Fin 1024), i = ix2 j k := ⟨_, _, eq_ix2 i⟩
  exact taps_at R k j
theorem arr122 : val_main_v122 (F := Ideal) (x0 R) (x1 R) = R.mat := by
  funext i; obtain ⟨g, a, l, rfl⟩ : ∃ (g : Fin 8) (a l : Fin 128), i = ix3 g a l := ⟨_, _, _, eq_ix3 i⟩
  exact mat_at R a g l
theorem arr117 : val_main_v117 (F := Ideal) (x0 R) (x1 R) = R.bias := by
  funext i; obtain ⟨g, a, rfl⟩ : ∃ (g : Fin 8) (a : Fin 128), i = ix2 g a := ⟨_, _, eq_ix2 i⟩
  exact bias_at R a g

end Cert.Reference2Ideal.MixRef

namespace Cert.MixRun

open Cert.Kernel2Ideal.Mix (Nums IsNums)

/-- What the precondition says: the projections, the incoming gradient, the convolution's taps, the mixing matrices and
    their bias are real numbers. -/
theorem finite (a0 : FVec Ideal Cert.Pre_mixer_finite.S2x2048x12288 .f32) (a1 : FVec Ideal Cert.Pre_mixer_finite.S2x2048x1024 .f32)
    (a2 : FVec Ideal Cert.Pre_mixer_finite.S3x1024 .f32) (a3 : FVec Ideal Cert.Pre_mixer_finite.S8x128x128 .f32)
    (a4 : FVec Ideal Cert.Pre_mixer_finite.S8x128 .f32) (a5 a6 a7 a8 a9 a10 a11)
    (h : Cert.Pre_mixer_finite.fn (F := Ideal) a0 a1 a2 a3 a4 a5 a6 a7 a8 a9 a10 a11 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r) := by
  have h := congrFun h ix0
  have : Subsingleton Cert.Pre_mixer_finite.S_.Idx := ⟨fun a b => funext fun i => i.elim0⟩
  obtain ⟨h, h4⟩ := Sums.and_one h
  obtain ⟨h, h3⟩ := Sums.and_one h
  obtain ⟨h, h2⟩ := Sums.and_one h
  obtain ⟨h0, h1⟩ := Sums.and_one h
  exact ⟨Sums.real_of_all a0 _ (fun _ => rfl) _ _ _ _ h0, Sums.real_of_all a1 _ (fun _ => rfl) _ _ _ _ h1, Sums.real_of_all a2 _ (fun _ => rfl) _ _ _ _ h2,
    Sums.real_of_all a3 _ (fun _ => rfl) _ _ _ _ h3, Sums.real_of_all a4 _ (fun _ => rfl) _ _ _ _ h4⟩

/-- Under the precondition each device's arguments are real numbers. -/
theorem nums (m : (ℓ : Loc Cert.Kernel2Ideal.nD Cert.Kernel2Ideal.τ Cert.Kernel2Ideal.sig) → Buf (Elt Ideal) ℓ)
    (hpre : Cert.Pre_Kernel2Ideal_mixer_finite m) (c : Dev Cert.Kernel2Ideal.nD) : ∃ R : Nums, IsNums m c R := by
  obtain ⟨f0, f1, f2, f3, f4⟩ := finite _ _ _ _ _ _ _ _ _ _ _ _ (hpre c)
  choose P hP using f0
  choose D hD using f1
  choose W hW using f2
  choose M hM using f3
  choose B hB using f4
  exact ⟨⟨fun b s k => P (ix3 b s k), fun b s k => D (ix3 b s k), fun j k => W (ix2 j k), fun g i l => M (ix3 g i l), fun g i => B (ix2 g i)⟩,
    fun _ _ _ => hP _, fun _ _ _ => hD _, fun _ _ => hW _, fun _ _ _ => hM _, fun _ _ => hB _⟩

open Cert.Reference2Ideal.MixRef Cert.Reference2Ideal.Read in
/-- The claim about the values: under the precondition, the kernel's twelve results are the reference's. -/
theorem values : Cert.algebraic_Kernel2Ideal_Reference2Ideal_pre_mixer_finite := by
  intro m g m' g' hpre hagree
  choose R hR using nums m hpre
  refine ⟨fun c => (R c).seg 0, fun c => (R c).seg 1, fun c => (R c).seg 2, fun c => (R c).seg 3, fun c => (R c).seg 4,
    fun c => (R c).seg 5, fun c => (R c).seg 6, fun c => (R c).seg 9, fun c => (R c).seg 10, fun c => (R c).taps,
    fun c => (R c).mat, fun c => (R c).bias, Cert.Kernel2Ideal.Mix.run_values g R hR,
    (θ_run _ _ _).mono (fun r h c => ?_) (Cert.Reference2Ideal.Value.run m' g')⟩
  obtain ⟨h0, h1, h2, h3, h4, h5, h6, h7, h8, h9, h10, h11, h⟩ := h c
  obtain ⟨b0, b1, b2, b3, b4, -⟩ := hagree c
  have e0 : m' ((c.tc : Thread Cert.Reference2Ideal.nD Cert.Reference2Ideal.τ).loc Cert.Reference2Ideal.main_arg0) = x0 (R c) := b0.trans (funext fun i => by
    obtain ⟨b, s, k, rfl⟩ : ∃ (b : Fin 2) (s : Fin 2048) (k : Fin 12288), i = ix3 b s k := ⟨_, _, _, eq_ix3 i⟩
    exact (hR c).pr b s k)
  have e1 : m' ((c.tc : Thread Cert.Reference2Ideal.nD Cert.Reference2Ideal.τ).loc Cert.Reference2Ideal.main_arg1) = x1 (R c) := b1.trans (funext fun i => by
    obtain ⟨b, s, k, rfl⟩ : ∃ (b : Fin 2) (s : Fin 2048) (k : Fin 1024), i = ix3 b s k := ⟨_, _, _, eq_ix3 i⟩
    exact (hR c).dm b s k)
  have e2 : m' ((c.tc : Thread Cert.Reference2Ideal.nD Cert.Reference2Ideal.τ).loc Cert.Reference2Ideal.main_arg2) = x2 (R c) := b2.trans (funext fun i => by
    obtain ⟨j, k, rfl⟩ : ∃ (j : Fin 3) (k : Fin 1024), i = ix2 j k := ⟨_, _, eq_ix2 i⟩
    exact (hR c).cw j k)
  have e3 : m' ((c.tc : Thread Cert.Reference2Ideal.nD Cert.Reference2Ideal.τ).loc Cert.Reference2Ideal.main_arg3) = x3 (R c) := b3.trans (funext fun i => by
    obtain ⟨b, s, k, rfl⟩ : ∃ (b : Fin 8) (s : Fin 128) (k : Fin 128), i = ix3 b s k := ⟨_, _, _, eq_ix3 i⟩
    exact (hR c).sw b s k)
  have e4 : m' ((c.tc : Thread Cert.Reference2Ideal.nD Cert.Reference2Ideal.τ).loc Cert.Reference2Ideal.main_arg4) = x4 (R c) := b4.trans (funext fun i => by
    obtain ⟨j, k, rfl⟩ : ∃ (j : Fin 8) (k : Fin 128), i = ix2 j k := ⟨_, _, eq_ix2 i⟩
    exact (hR c).sb j k)
  refine ⟨h0.trans ?_, h1.trans ?_, h2.trans ?_, h3.trans ?_, h4.trans ?_, h5.trans ?_, h6.trans ?_, h7.trans ?_, h8.trans ?_, h9.trans ?_, h10.trans ?_, h11.trans ?_, h⟩
  · refine (val_main_v189_eq (F := Ideal) _).trans ?_
    show val_main_v189 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
    rw [e0, e1, e2]
    exact arr189 (R c)
  · refine (val_main_v190_eq (F := Ideal) _).trans ?_
    show val_main_v190 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
    rw [e0, e1, e2]
    exact arr190 (R c)
  · refine (val_main_v191_eq (F := Ideal) _).trans ?_
    show val_main_v191 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
    rw [e0, e1, e2]
    exact arr191 (R c)
  · refine (val_main_v192_eq (F := Ideal) _).trans ?_
    show val_main_v192 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
    rw [e0, e1, e2]
    exact arr192 (R c)
  · refine (val_main_v193_eq (F := Ideal) _).trans ?_
    show val_main_v193 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
    rw [e0, e1, e3, e4]
    exact arr193 (R c)
  · refine (val_main_v194_eq (F := Ideal) _).trans ?_
    show val_main_v194 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) = _
    rw [e0, e1, e3]
    exact arr194 (R c)
  · refine (val_main_v195_eq (F := Ideal) _).trans ?_
    show val_main_v195 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
    rw [e0, e1, e3, e4]
    exact arr195 (R c)
  · refine (val_main_v196_eq (F := Ideal) _).trans ?_
    show val_main_v196 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
    rw [e0, e1, e2]
    exact arr196 (R c)
  · refine (val_main_v197_eq (F := Ideal) _).trans ?_
    show val_main_v197 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
    rw [e0, e1, e3, e4]
    exact arr197 (R c)
  · refine (val_main_v183_eq (F := Ideal) _).trans ?_
    show val_main_v183 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) = _
    rw [e0, e1]
    exact arr183 (R c)
  · refine (val_main_v122_eq (F := Ideal) _).trans ?_
    show val_main_v122 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) = _
    rw [e0, e1]
    exact arr122 (R c)
  · refine (val_main_v117_eq (F := Ideal) _).trans ?_
    show val_main_v117 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) = _
    rw [e0, e1]
    exact arr117 (R c)

end Cert.MixRun

end
-- ==== Proof.LossCases.lean ====
/-
  What the body of the loss head's kernel leaves in its three output blocks at a grid point, for any floats: the loss'
  running sum, the block of the gradient of the normalised stream, and the gain gradient's running sum. The three cases
  of a point are the first of all, one between, and the last, which also adds up the loss' lanes.
-/
module

public import proofs.«01_k».proof.Defs
public import proofs.«01_k».proof.Proof.Gen.Kernel3Ideal.Value
public import Idealize.ShloMosaic.Lib.Tactic

@[expose] public section

noncomputable section

open Idealize.ShloMosaic Idealize.ShloMosaic.TcCoe Idealize.SL.Sem

namespace Cert.Kernel3Ideal.LossCases

open Cert.Kernel3Ideal Cert.Kernel3Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The loss by lanes after a block: what stood there and the block's scaled column sums. -/
def acc3 (x0 : Vec F S1x512x1024 .f32) (x1 : Vec F S1x1024 .f32) (x2 : Vec F S1x512x1024 .f32) (y : Vec F S1x1024 .f32) : Vec F S1x1024 .f32 :=
  k0_pay12 x0 x1 x2 y

/-- The block of the stream's gradient. -/
def blk4 (x0 : Vec F S1x512x1024 .f32) (x1 : Vec F S1x1024 .f32) (x2 : Vec F S1x512x1024 .f32) : Vec F S1x512x1024 .f32 :=
  k0_pay3 (k0_pay8 x0) (k0_pay9 x0) (k0_pay10 x1) (k0_pay11 x0 x1 x2)

/-- The gain's gradient after a block: what stood there and the block's column sums. -/
def acc5 (x0 : Vec F S1x512x1024 .f32) (x1 : Vec F S1x1024 .f32) (x2 : Vec F S1x512x1024 .f32) (y : Vec F S1x1024 .f32) : Vec F S1x1024 .f32 :=
  k0_pay2 (k0_pay9 x0) (k0_pay11 x0 x1 x2) y

variable (c : Dev nD) (i : grid0.Coords) (a2 : Memref sig .tc .vmem S1x512x1024 .f32) (h2 : a2.IsWhole) (a3 : Memref sig .tc .vmem S1x1024 .f32) (h3 : a3.IsWhole) (a4 : Memref sig .tc .vmem S1x512x1024 .f32) (h4 : a4.IsWhole) (a5 : Memref sig .tc .vmem S1x1024 .f32) (h5 : a5.IsWhole) (a6 : Memref sig .tc .vmem S1x512x1024 .f32) (h6 : a6.IsWhole) (a7 : Memref sig .tc .vmem S1x1024 .f32) (h7 : a7.IsWhole)
variable (x0 : Vec F S1x512x1024 .f32) (x1 : Vec F S1x1024 .f32) (x2 : Vec F S1x512x1024 .f32)

/-- At the first point the loss gains the block's. -/
theorem out_A_3 (hc0 : cond0_0 i) (hc1 : ¬cond0_1 i) :
    out0_A_3 c i a2 h2 a3 h3 a4 h4 a5 h5 a6 h6 a7 h7 hc0 hc1 x0 x1 x2 = acc3 x0 x1 x2 (k0_pay5 (F := F)) := by
  unfold out0_A_3
  rw [View.read_writes_eq_canon _ _ _ (cover0_A_3 c i a2 h2 a3 h3 a4 h4 a5 h5 a6 h6 a7 h7 hc0 hc1 x0 x1 x2)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h7.read_unread,
    View.ld_unit_zero (S := S1x512x1024) hz3, View.ld_unit_zero (S := S1x1024) hz2]
  rfl

/-- At the first point the block of the gradient is its value at the blocks read. -/
theorem out_A_4 (hc0 : cond0_0 i) (hc1 : ¬cond0_1 i) :
    out0_A_4 c i a2 h2 a3 h3 a4 h4 a5 h5 a6 h6 a7 h7 hc0 hc1 x0 x1 x2 = blk4 x0 x1 x2 := by
  unfold out0_A_4
  rw [View.read_writes_eq_canon _ _ _ (cover0_A_4 c i a2 h2 a3 h3 a4 h4 a5 h5 a6 h6 a7 h7 hc0 hc1 x0 x1 x2)]
  unfold kernelRun0_A
  dsimp only
  sl_unfold_words
  rw [View.canon_unit_zero (S := S1x512x1024) hz3]
  simp only [View.readAt_eq_ld, h2.read_unread, h3.read_unread, h4.read_unread, h5.read_unread, h7.read_unread,
    View.ld_unit_zero (S := S1x512x1024) hz3, View.ld_unit_zero (S := S1x1024) hz2]
  rfl

/-- At the first point the gain's gradient gains the block's. -/
theorem out_A_5 (hc0 : cond0_0 i) (hc1 : ¬cond0_1 i) :
    out0_A_5 c i a2 h2 a3 h3 a4 h4 a5 h5 a6 h6 a7 h7 hc0 hc1 x0 x1 x2 = acc5 x0 x1 x2 (k0_pay6 (F := F)) := by
  unfold out0_A_5
  rw [View.read_writes_eq_canon _ _ _ (cover0_A_5 c i a2 h2 a3 h3 a4 h4 a5 h5 a6 h6 a7 h7 hc0 hc1 x0 x1 x2)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h7.read_unread,
    View.ld_unit_zero (S := S1x512x1024) hz3, View.ld_unit_zero (S := S1x1024) hz2]
  rfl

/-- At a point between the loss gains the block's. -/
theorem out_B_3 (hc0 : ¬cond0_0 i) (hc1 : ¬cond0_1 i) (y3 y5 : Vec F S1x1024 .f32) :
    out0_B_3 c i a2 h2 a3 h3 a4 h4 a5 h5 a6 h6 a7 h7 hc0 hc1 x0 x1 x2 y3 y5 = acc3 x0 x1 x2 y3 := by
  unfold out0_B_3
  rw [View.read_writes_eq_canon _ _ _ (cover0_B_3 c i a2 h2 a3 h3 a4 h4 a5 h5 a6 h6 a7 h7 hc0 hc1 x0 x1 x2 y3 y5)]
  unfold kernelRun0_B
  dsimp only
  sl_unfold_words
  rw [View.canon_unit_zero (S := S1x1024) hz2]
  simp only [View.readAt_eq_ld, h2.read_unread, h3.read_unread, h4.read_unread, h5.read_unread, h7.read_unread,
    View.ld_unit_zero (S := S1x512x1024) hz3, View.ld_unit_zero (S := S1x1024) hz2]
  rfl

/-- At a point between the block of the gradient is its value at the blocks read. -/
theorem out_B_4 (hc0 : ¬cond0_0 i) (hc1 : ¬cond0_1 i) (y3 y5 : Vec F S1x1024 .f32) :
    out0_B_4 c i a2 h2 a3 h3 a4 h4 a5 h5 a6 h6 a7 h7 hc0 hc1 x0 x1 x2 y3 y5 = blk4 x0 x1 x2 := by
  unfold out0_B_4
  rw [View.read_writes_eq_canon _ _ _ (cover0_B_4 c i a2 h2 a3 h3 a4 h4 a5 h5 a6 h6 a7 h7 hc0 hc1 x0 x1 x2 y3 y5)]
  unfold kernelRun0_B
  dsimp only
  sl_unfold_words
  rw [View.canon_unit_zero (S := S1x512x1024) hz3]
  simp only [View.readAt_eq_ld, h2.read_unread, h3.read_unread, h4.read_unread, h5.read_unread, h7.read_unread,
    View.ld_unit_zero (S := S1x512x1024) hz3, View.ld_unit_zero (S := S1x1024) hz2]
  rfl

/-- At a point between the gain's gradient gains the block's. -/
theorem out_B_5 (hc0 : ¬cond0_0 i) (hc1 : ¬cond0_1 i) (y3 y5 : Vec F S1x1024 .f32) :
    out0_B_5 c i a2 h2 a3 h3 a4 h4 a5 h5 a6 h6 a7 h7 hc0 hc1 x0 x1 x2 y3 y5 = acc5 x0 x1 x2 y5 := by
  unfold out0_B_5
  rw [View.read_writes_eq_canon _ _ _ (cover0_B_5 c i a2 h2 a3 h3 a4 h4 a5 h5 a6 h6 a7 h7 hc0 hc1 x0 x1 x2 y3 y5)]
  unfold kernelRun0_B
  dsimp only
  sl_unfold_words
  rw [View.canon_unit_zero (S := S1x1024) hz2]
  simp only [View.readAt_eq_ld, h2.read_unread, h3.read_unread, h4.read_unread, h5.read_unread, h7.read_unread,
    View.ld_unit_zero (S := S1x512x1024) hz3, View.ld_unit_zero (S := S1x1024) hz2]
  rfl

/-- At the last point the loss gains the block's. -/
theorem out_C_3 (hc0 : ¬cond0_0 i) (hc1 : cond0_1 i) (y3 y5 : Vec F S1x1024 .f32) :
    out0_C_3 c i a2 h2 a3 h3 a4 h4 a5 h5 a6 h6 a7 h7 hc0 hc1 x0 x1 x2 y3 y5 = k0_pay4 (acc3 x0 x1 x2 y3) := by
  unfold out0_C_3
  rw [View.read_writes_eq_canon _ _ _ (cover0_C_3 c i a2 h2 a3 h3 a4 h4 a5 h5 a6 h6 a7 h7 hc0 hc1 x0 x1 x2 y3 y5)]
  unfold kernelRun0_C
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h7.read_unread,
    View.ld_unit_zero (S := S1x512x1024) hz3, View.ld_unit_zero (S := S1x1024) hz2]
  rfl

/-- At the last point the block of the gradient is its value at the blocks read. -/
theorem out_C_4 (hc0 : ¬cond0_0 i) (hc1 : cond0_1 i) (y3 y5 : Vec F S1x1024 .f32) :
    out0_C_4 c i a2 h2 a3 h3 a4 h4 a5 h5 a6 h6 a7 h7 hc0 hc1 x0 x1 x2 y3 y5 = blk4 x0 x1 x2 := by
  unfold out0_C_4
  rw [View.read_writes_eq_canon _ _ _ (cover0_C_4 c i a2 h2 a3 h3 a4 h4 a5 h5 a6 h6 a7 h7 hc0 hc1 x0 x1 x2 y3 y5)]
  unfold kernelRun0_C
  dsimp only
  sl_unfold_words
  rw [View.canon_unit_zero (S := S1x512x1024) hz3]
  simp only [View.readAt_eq_ld, h2.read_unread, h3.read_unread, h4.read_unread, h5.read_unread, h7.read_unread,
    View.ld_unit_zero (S := S1x512x1024) hz3, View.ld_unit_zero (S := S1x1024) hz2]
  rfl

/-- At the last point the gain's gradient gains the block's. -/
theorem out_C_5 (hc0 : ¬cond0_0 i) (hc1 : cond0_1 i) (y3 y5 : Vec F S1x1024 .f32) :
    out0_C_5 c i a2 h2 a3 h3 a4 h4 a5 h5 a6 h6 a7 h7 hc0 hc1 x0 x1 x2 y3 y5 = acc5 x0 x1 x2 y5 := by
  unfold out0_C_5
  rw [View.read_writes_eq_canon _ _ _ (cover0_C_5 c i a2 h2 a3 h3 a4 h4 a5 h5 a6 h6 a7 h7 hc0 hc1 x0 x1 x2 y3 y5)]
  unfold kernelRun0_C
  dsimp only
  sl_unfold_words
  rw [View.canon_unit_zero (S := S1x1024) hz2]
  simp only [View.readAt_eq_ld, h2.read_unread, h3.read_unread, h4.read_unread, h5.read_unread, h7.read_unread,
    View.ld_unit_zero (S := S1x512x1024) hz3, View.ld_unit_zero (S := S1x1024) hz2]
  rfl

end Cert.Kernel3Ideal.LossCases
-- ==== Proof.LossArrays.lean ====
/-
  The three result arrays of the loss head's kernel over the reals, each at an index as a sum over the arguments.
-/
module

public import proofs.«01_k».proof.Proof.LossCases
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.LossArrays

open Cert.Kernel3Ideal Cert.Kernel3Ideal.Gen Cert.Kernel3Ideal.LossCases Idealize.ShloMosaic.Pointwise

/-- The example a point works on, and the row of the example that row `r` of its block is. -/
def bt (t : Fin cfg0.N) : Fin 2 := ⟨t.val / 4, by have : t.val < 8 := t.isLt; omega⟩
def row (t : Fin cfg0.N) (r : Fin 512) : Fin 2048 := ⟨t.val % 4 * 512 + r.val, by have := r.isLt; omega⟩

section Spec
variable (x : FVec Ideal S2x2048x1024 .f32) (g : FVec Ideal S1024 .f32) (z : FVec Ideal S2x2048x1024 .f32)

/-- A row's reciprocal root mean square. -/
def rr (b : Fin 2) (r : Fin 2048) : EReal :=
  Ideal.rsqrt (Ideal.div (∑ k : Fin 1024, x (ix3 b r k) * x (ix3 b r k)) (Ideal.ofBits FTy.f32 1149239296#32) + Ideal.ofBits FTy.f32 897988541#32)

/-- The error: the normalised row times the gain, less the target. -/
def ee (b : Fin 2) (r : Fin 2048) (k : Fin 1024) : EReal := x (ix3 b r k) * rr x b r * g (ix1 k) - z (ix3 b r k)

/-- The gradient that the prediction receives. -/
def dy (b : Fin 2) (r : Fin 2048) (k : Fin 1024) : EReal := ee x g z b r k * Ideal.ofBits FTy.f32 981467136#32

/-- The loss in every lane. -/
def KLoss : FVec Ideal S1x1024 .f32 := fun _ =>
  ∑ k : Fin 1024, ∑ p : Fin cfg0.N, (∑ r : Fin 512, ee x g z (bt p) (row p r) k * ee x g z (bt p) (row p r) k) * Ideal.ofBits FTy.f32 973078528#32

/-- The stream's gradient. -/
def KX : FVec Ideal S2x2048x1024 .f32 := fun i =>
  rr x (i 0) (i 1) * (dy x g z (i 0) (i 1) (i 2) * g (ix1 (i 2)) - x (ix3 (i 0) (i 1) (i 2)) * rr x (i 0) (i 1)
    * Ideal.div (∑ l : Fin 1024, dy x g z (i 0) (i 1) l * g (ix1 l) * (x (ix3 (i 0) (i 1) l) * rr x (i 0) (i 1))) (Ideal.ofBits FTy.f32 1149239296#32))

/-- The gain's gradient. -/
def KGain : FVec Ideal S1x1024 .f32 := fun i =>
  ∑ b : Fin 2, ∑ r : Fin 2048, dy x g z b r (i 1) * (x (ix3 b r (i 1)) * rr x b r)

end Spec

variable (m : (ℓ : Loc nD τ sig) → Buf (Elt Ideal) ℓ) (c : Dev nD)

/-- Where each window's block lies at a point. -/
theorem idx : ∀ t : Fin cfg0.N, win0_0.index t = ![t.val / 4, t.val % 4, 0] ∧ win0_1.index t = ![0, 0]
    ∧ win0_2.index t = ![t.val / 4, t.val % 4, 0] ∧ win0_3.index t = ![0, 0] ∧ win0_4.index t = ![t.val / 4, t.val % 4, 0]
    ∧ win0_5.index t = ![0, 0] := by decide +kernel

abbrev X : FVec Ideal S2x2048x1024 .f32 := m ((c : Thread nD τ).loc main_arg0)
abbrev G : FVec Ideal S1024 .f32 := m ((c : Thread nD τ).loc main_arg1)
abbrev Z : FVec Ideal S2x2048x1024 .f32 := m ((c : Thread nD τ).loc main_arg2)

theorem blk0 (t : Fin cfg0.N) (a : Fin 1) (r : Fin 512) (k : Fin 1024) : iblk m c 0 t (ix3 a r k) = X m c (ix3 (bt t) (row t r) k) := by
  blk_ext [iblk, V, idx t, bt, row]
theorem blk1 (t : Fin cfg0.N) (a : Fin 1) (k : Fin 1024) : iblk m c 1 t (ix2 a k) = G m c (ix1 k) := by
  unfold iblk
  blk_simp [idx t]
  entry_read
  pointwise
  blk_ext [idx t]
theorem blk2 (t : Fin cfg0.N) (a : Fin 1) (r : Fin 512) (k : Fin 1024) : iblk m c 2 t (ix3 a r k) = Z m c (ix3 (bt t) (row t r) k) := by
  blk_ext [iblk, V, idx t, bt, row]

section Block
variable (x0 : Vec Ideal S1x512x1024 .f32) (x1 : Vec Ideal S1x1024 .f32) (x2 : Vec Ideal S1x512x1024 .f32)

/-- A block's row's reciprocal root mean square, and its error. -/
def rB (r : Fin 512) : EReal :=
  Ideal.rsqrt (Ideal.div (∑ l : Fin 1024, x0 (ix3 0 r l) * x0 (ix3 0 r l)) (Ideal.ofBits FTy.f32 1149239296#32) + Ideal.ofBits FTy.f32 897988541#32)
def eB (r : Fin 512) (k : Fin 1024) : EReal := x0 (ix3 0 r k) * rB x0 r * x1 (ix2 0 k) - x2 (ix3 0 r k)

theorem pay8_at (r : Fin 512) (a : Fin 1) : k0_pay8 x0 (ix2 r a) = rB x0 r := by
  unfold k0_pay8 k0_pay7
  pointwise
  rfl
theorem pay9_at (r : Fin 512) (k : Fin 1024) : k0_pay9 x0 (ix2 r k) = x0 (ix3 0 r k) * rB x0 r := by
  unfold k0_pay9 k0_pay7
  pointwise
  rw [pay8_at]
theorem pay11_at (r : Fin 512) (k : Fin 1024) : k0_pay11 x0 x1 x2 (ix2 r k) = eB x0 x1 x2 r k := by
  unfold k0_pay11 k0_pay10
  pointwise
  rw [pay9_at]
  rfl

/-- What a point adds to the loss' lanes. -/
theorem acc3_at (y : Vec Ideal S1x1024 .f32) (a : Fin 1) (k : Fin 1024) :
    acc3 x0 x1 x2 y (ix2 a k) = y (ix2 a k) + (∑ r : Fin 512, eB x0 x1 x2 r k * eB x0 x1 x2 r k) * Ideal.ofBits FTy.f32 973078528#32 := by
  unfold acc3 k0_pay12
  pointwise
  simp only [pay11_at]

/-- What a point adds to the gain's gradient. -/
theorem acc5_at (y : Vec Ideal S1x1024 .f32) (a : Fin 1) (k : Fin 1024) :
    acc5 x0 x1 x2 y (ix2 a k) = y (ix2 a k) + ∑ r : Fin 512, eB x0 x1 x2 r k * Ideal.ofBits FTy.f32 981467136#32 * (x0 (ix3 0 r k) * rB x0 r) := by
  unfold acc5 k0_pay2 k0_pay1
  pointwise
  simp only [pay11_at, pay9_at]

/-- The block of the stream's gradient at an index. -/
theorem blk4_at (a : Fin 1) (r : Fin 512) (k : Fin 1024) : LossCases.blk4 x0 x1 x2 (ix3 a r k)
    = rB x0 r * (eB x0 x1 x2 r k * Ideal.ofBits FTy.f32 981467136#32 * x1 (ix2 0 k) - x0 (ix3 0 r k) * rB x0 r
      * Ideal.div (∑ l : Fin 1024, eB x0 x1 x2 r l * Ideal.ofBits FTy.f32 981467136#32 * x1 (ix2 0 l) * (x0 (ix3 0 r l) * rB x0 r)) (Ideal.ofBits FTy.f32 1149239296#32)) := by
  unfold LossCases.blk4 k0_pay3 k0_pay1 k0_pay10
  pointwise
  simp only [pay11_at, pay9_at, pay8_at]

/-- The last point's step: the sum of the lanes in every lane. -/
theorem pay4_at (v : Vec Ideal S1x1024 .f32) (a : Fin 1) (k : Fin 1024) : k0_pay4 v (ix2 a k) = ∑ l : Fin 1024, v (ix2 0 l) := by
  unfold k0_pay4
  pointwise

end Block

theorem zero5 (i : S1x1024.Idx) : k0_pay5 (F := Ideal) i = (0 : EReal) := by unfold k0_pay5; pointwise
theorem zero6 (i : S1x1024.Idx) : k0_pay6 (F := Ideal) i = (0 : EReal) := by unfold k0_pay6; pointwise

theorem rB_eq (t : Fin cfg0.N) (r : Fin 512) : rB (iblk m c 0 t) r = rr (X m c) (bt t) (row t r) := by
  unfold rB rr
  simp only [blk0]
theorem eB_eq (t : Fin cfg0.N) (r : Fin 512) (k : Fin 1024) :
    eB (iblk m c 0 t) (iblk m c 1 t) (iblk m c 2 t) r k = ee (X m c) (G m c) (Z m c) (bt t) (row t r) k := by
  unfold eB ee
  simp only [rB_eq, blk0, blk1, blk2]

theorem emb3 (t : Fin cfg0.N) (y : S1x1024.Idx) : ((cfg0.win 3).blk t).view.emb y = ix2 0 (y 1) := by
  blk_ext [idx t]
theorem emb4 (t : Fin cfg0.N) (y : S1x512x1024.Idx) : (win0_4.blk t).view.emb y = ix3 (bt t) (row t (y 1)) (y 2) := by
  blk_ext [idx t, bt, row]
theorem emb5 (t : Fin cfg0.N) (y : S1x1024.Idx) : ((cfg0.win 5).blk t).view.emb y = ix2 0 (y 1) := by
  blk_ext [idx t]

/-- THE STREAM'S GRADIENT: every point writes its rows. -/
theorem final4 : (dats m 0 c).arrAt 4 (cfgs 0).N = KX (X m c) (G m c) (Z m c) := by
  refine (dats m 0 c).arrAt_eq_of_covers 4 _ (by decide +kernel) fun t hf y => ?_
  blk_simp
  rw [after0_4]
  have h : (outsAt0 m c t.val t.isLt).2.1 = LossCases.blk4 (iblk m c 0 t) (iblk m c 1 t) (iblk m c 2 t) := by
    by_cases h0 : t.val % 8 = 0
    · rw [outsAt0_A m c t h0 (by omega), out_A_4]
    · by_cases h7 : t.val % 8 = 7
      · rw [outsAt0_C m c t h0 h7, out_C_4]
      · rw [outsAt0_B m c t h0 h7, out_B_4]
  rw [h]
  rw [show (win0_4.blk t).view.emb y = _ from emb4 t y]
  obtain ⟨a, r, k, rfl⟩ : ∃ (a : Fin 1) (r : Fin 512) (k : Fin 1024), y = ix3 a r k := ⟨_, _, _, eq_ix3 y⟩
  refine (blk4_at ..).trans ?_
  simp only [eB_eq, rB_eq, blk0, blk1]
  rfl

/-- THE GAIN'S GRADIENT: all eight points add their rows, the last writes the sum. -/
theorem final5 : (dats m 0 c).arrAt 5 (cfgs 0).N = KGain (X m c) (G m c) (Z m c) := by
  refine (dats m 0 c).arrAt_eq_of_covers 5 _ (by decide +kernel) fun t hf y => ?_
  have hN : cfg0.N = 8 := N_0
  blk_simp
  rw [after0_5]
  have h5 := Pipeline.eq_sum_fin_of_reset_step_apply_last (fun n h => (outsAt0 m c n h).2.2) 8 (fun _ => (0 : EReal))
    (fun t j => ∑ r : Fin 512, dy (X m c) (G m c) (Z m c) (bt t) (row t r) (j 1) * (X m c (ix3 (bt t) (row t r) (j 1)) * rr (X m c) (bt t) (row t r)))
    (fun t h j => by
      rw [outsAt0_A m c t h (by omega), out_A_5]
      obtain ⟨a, k, rfl⟩ : ∃ (a : Fin 1) (k : Fin 1024), j = ix2 a k := ⟨_, _, eq_ix2 j⟩
      refine (acc5_at ..).trans ?_
      rw [zero6]
      simp only [eB_eq, rB_eq, blk0]
      rfl)
    (fun t h j => by
      obtain ⟨a, k, rfl⟩ : ∃ (a : Fin 1) (k : Fin 1024), j = ix2 a k := ⟨_, _, eq_ix2 j⟩
      by_cases h7 : t.val % 8 = 7
      · rw [outsAt0_C m c t h h7, out_C_5]
        refine (acc5_at ..).trans ?_
        simp only [eB_eq, rB_eq, blk0]
        rfl
      · rw [outsAt0_B m c t h h7, out_B_5]
        refine (acc5_at ..).trans ?_
        simp only [eB_eq, rB_eq, blk0]
        rfl) hN.le t (by have := (flush0_5 t).mp hf; have : t.val < 8 := t.isLt; omega) y
  refine h5.trans ?_
  rw [zero_add, emb5]
  unfold KGain
  exact Fin.sum_points_lanes_congr 4 (fun p k ha hl => rfl)

/-- The loss' lanes after a point, before the last point's sum over the lanes. -/
def lanes (n : ℕ) (h : n < cfg0.N) : Vec Ideal S1x1024 .f32 :=
  if n % 8 = 7 then acc3 (iblk m c 0 ⟨n, h⟩) (iblk m c 1 ⟨n, h⟩) (iblk m c 2 ⟨n, h⟩) (outsAt0 m c (n - 1) (Nat.lt_of_le_of_lt (Nat.sub_le _ _) h)).1
  else (outsAt0 m c n h).1

theorem lanes_sum (t : Fin cfg0.N) (ht : t.val + 1 = cfg0.N) (j : S1x1024.Idx) : lanes m c t.val t.isLt j
    = ∑ p : Fin cfg0.N, (∑ r : Fin 512, ee (X m c) (G m c) (Z m c) (bt p) (row p r) (j 1) * ee (X m c) (G m c) (Z m c) (bt p) (row p r) (j 1))
      * Ideal.ofBits FTy.f32 973078528#32 := by
  have hN : cfg0.N = 8 := N_0
  have h := Pipeline.eq_sum_fin_of_reset_step_apply_last (lanes m c) 8 (fun _ => (0 : EReal))
    (fun p j => (∑ r : Fin 512, ee (X m c) (G m c) (Z m c) (bt p) (row p r) (j 1) * ee (X m c) (G m c) (Z m c) (bt p) (row p r) (j 1))
      * Ideal.ofBits FTy.f32 973078528#32)
    (fun t h j => by
      unfold lanes
      rw [if_neg (by omega), outsAt0_A m c t h (by omega), out_A_3]
      obtain ⟨a, k, rfl⟩ : ∃ (a : Fin 1) (k : Fin 1024), j = ix2 a k := ⟨_, _, eq_ix2 j⟩
      refine (acc3_at ..).trans ?_
      rw [zero5]
      simp only [eB_eq]
      rfl)
    (fun t h j => by
      obtain ⟨a, k, rfl⟩ : ∃ (a : Fin 1) (k : Fin 1024), j = ix2 a k := ⟨_, _, eq_ix2 j⟩
      have ht : t.val < 8 := t.isLt
      have hp : lanes m c (t.val - 1) (Nat.lt_of_le_of_lt (Nat.sub_le _ _) t.isLt) = (outsAt0 m c (t.val - 1) (Nat.lt_of_le_of_lt (Nat.sub_le _ _) t.isLt)).1 := by
        unfold lanes
        rw [if_neg (by omega)]
      rw [hp]
      unfold lanes
      by_cases h7 : t.val % 8 = 7
      · rw [if_pos h7]
        refine (acc3_at ..).trans ?_
        simp only [eB_eq]
        rfl
      · rw [if_neg h7, outsAt0_B m c t h h7, out_B_3]
        refine (acc3_at ..).trans ?_
        simp only [eB_eq]
        rfl) hN.le t ht j
  rw [h, zero_add]

/-- THE LOSS: the last point adds up the lanes of all eight points' sums. -/
theorem final3 : (dats m 0 c).arrAt 3 (cfgs 0).N = KLoss (X m c) (G m c) (Z m c) := by
  refine (dats m 0 c).arrAt_eq_of_covers 3 _ (by decide +kernel) fun t hf y => ?_
  have hN : cfg0.N = 8 := N_0
  blk_simp
  rw [after0_3]
  have h7 := (flush0_3 t).mp hf
  have hl : (outsAt0 m c t.val t.isLt).1 = k0_pay4 (lanes m c t.val t.isLt) := by
    unfold lanes
    rw [if_pos h7, outsAt0_C m c t (by omega) h7, out_C_3]
  rw [hl, emb3]
  obtain ⟨a, k, rfl⟩ : ∃ (a : Fin 1) (k : Fin 1024), y = ix2 a k := ⟨_, _, eq_ix2 y⟩
  refine (pay4_at ..).trans ?_
  exact Finset.sum_congr rfl fun l _ => lanes_sum m c t (by have : t.val < 8 := t.isLt; omega) (ix2 0 l)

end Cert.Kernel3Ideal.LossArrays
-- ==== Proof.LossRun.lean ====
/-
  The loss head: the reference's three results at an index, that they are the kernel's at all arguments, and the two
  programs' runs.
-/
module

public import proofs.«01_k».proof.Defs
public import proofs.«01_k».proof.Proof.LossArrays
public import proofs.«01_k».proof.Proof.RowGrad
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem

namespace Cert.LossRun

/-- The words of one half, two, 1/1024 and 1/2048. -/
theorem hlf_eq : Ideal.ofBits FTy.f32 1056964608#32 = ((1 / 2 : ℝ) : EReal) := by
  simp [Ideal.ofBits, Ideal.ieee, -EReal.coe_mul]; norm_num
theorem two_eq : Ideal.ofBits FTy.f32 1073741824#32 = ((2 : ℝ) : EReal) := by
  simp [Ideal.ofBits, Ideal.ieee, -EReal.coe_mul]; norm_num
theorem inv_eq : Ideal.ofBits FTy.f32 981467136#32 = ((1 / 1024 : ℝ) : EReal) := by
  simp [Ideal.ofBits, Ideal.ieee, -EReal.coe_mul]; norm_num
theorem inv2_eq : Ideal.ofBits FTy.f32 973078528#32 = ((1 / 2048 : ℝ) : EReal) := by
  simp [Ideal.ofBits, Ideal.ieee, -EReal.coe_mul]; norm_num

/-- The derivative of half the mean of a square: two halves cancel. -/
theorem slope (e : EReal) : Ideal.div (Ideal.ofBits FTy.f32 1056964608#32) (Ideal.ofBits FTy.f32 1149239296#32)
    * (Ideal.ofBits FTy.f32 1073741824#32 * e) = e * Ideal.ofBits FTy.f32 981467136#32 := by
  rw [hlf_eq, RowGrad.len_eq, two_eq, inv_eq, Sums.coe_div _ (by norm_num), ← mul_assoc, ← EReal.coe_mul, mul_comm]
  norm_num

section Ref
open Cert.Reference3Ideal Cert.Reference3Ideal.Read Idealize.ShloMosaic.Pointwise
open Cert.Kernel3Ideal.LossArrays (rr ee dy KLoss KX KGain)

variable (x : FVec Ideal S2x2048x1024 .f32) (g : FVec Ideal S1024 .f32) (z : FVec Ideal S2x2048x1024 .f32)

theorem v7_at (b : Fin 2) (r : Fin 2048) (a : Fin 1) : val_main_v7 (F := Ideal) x (ix3 b r a) = rr x b r := by
  unfold val_main_v7 val_main_v6 val_main_v5 val_main_v4 val_main_v3 val_main_v2 val_main_v1 val_main_v0 val_main_cst val_main_cst_0 val_main_cst_1
  pointwise
  rfl
theorem v12_at (b : Fin 2) (r : Fin 2048) (k : Fin 1024) : val_main_v12 (F := Ideal) x (ix3 b r k) = x (ix3 b r k) * rr x b r := by
  unfold val_main_v12 val_main_v11
  pointwise
  rw [v7_at]
theorem v16_at (b : Fin 2) (r : Fin 2048) (k : Fin 1024) : val_main_v16 (F := Ideal) x g z (ix3 b r k) = ee x g z b r k := by
  unfold val_main_v16 val_main_v15 val_main_v14 val_main_v13
  pointwise
  rw [v12_at]
  rfl
theorem v30_at (b : Fin 2) (r : Fin 2048) (k : Fin 1024) : val_main_v30 (F := Ideal) x g z (ix3 b r k) = dy x g z b r k := by
  unfold val_main_v30 val_main_v29 val_main_v28 val_main_v27 val_main_v26 val_main_v25 val_main_v19 val_main_v18 val_main_cst_3 val_main_cst_8 val_main_cst_9 val_main_cst_10
  pointwise
  rw [v16_at, slope]
  rfl
theorem v35_at (b : Fin 2) (r : Fin 2048) (k : Fin 1024) : val_main_v35 (F := Ideal) x g z (ix3 b r k) = dy x g z b r k * g (ix1 k) := by
  unfold val_main_v35 val_main_v34 val_main_v13
  pointwise
  rw [v30_at]

/-- The loss: half the sum over the rows of the mean square is the sum of all squares over 2048. -/
theorem loss_eq : val_main_v51 (F := Ideal) x g z = KLoss x g z := by
  funext i
  obtain ⟨a, k, rfl⟩ : ∃ (a : Fin 1) (k : Fin 1024), i = ix2 a k := ⟨_, _, eq_ix2 i⟩
  unfold val_main_v51 val_main_v24 val_main_v23 val_main_v22 val_main_v21 val_main_v20 val_main_v17 val_main_cst_4 val_main_cst_5 val_main_cst_6 val_main_cst_7
  pointwise
  simp only [v16_at, RowGrad.len_eq, Ideal.div_coe (by norm_num : (1024 : ℝ) ≠ 0), hlf_eq]
  unfold KLoss
  rw [inv2_eq]
  simp only [RowGrad.sum_mul_coe _ (by norm_num : (0 : ℝ) ≤ 1 / 1024), RowGrad.sum_mul_coe _ (by norm_num : (0 : ℝ) ≤ 1 / 2048)]
  have h : ∀ k : Fin 1024, (∑ p : Fin Cert.Kernel3Ideal.cfg0.N, ∑ r : Fin 512, ee x g z (Cert.Kernel3Ideal.LossArrays.bt p) (Cert.Kernel3Ideal.LossArrays.row p r) k
      * ee x g z (Cert.Kernel3Ideal.LossArrays.bt p) (Cert.Kernel3Ideal.LossArrays.row p r) k) = ∑ b : Fin 2, ∑ r : Fin 2048, ee x g z b r k * ee x g z b r k :=
    fun k => Fin.sum_points_lanes_congr 4 (fun p k ha hl => rfl)
  simp only [h]
  rw [mul_comm, mul_assoc, ← EReal.coe_mul]
  congr 1
  · refine Eq.trans (Finset.sum_congr rfl fun b _ => Finset.sum_comm) ?_
    exact Finset.sum_comm
  · norm_num

/-- The gain's gradient. -/
theorem gain_eq : val_main_v52 (F := Ideal) x g z = KGain x g z := by
  funext i
  obtain ⟨a, k, rfl⟩ : ∃ (a : Fin 1) (k : Fin 1024), i = ix2 a k := ⟨_, _, eq_ix2 i⟩
  unfold val_main_v52 val_main_v36 val_main_v33 val_main_v32 val_main_v31 val_main_cst_11 val_main_cst_12
  pointwise
  simp only [Sums.hostReduceAdd01]
  pointwise
  simp only [Finset.univ_unique, Finset.sum_singleton, Sums.hostReduceAdd01]
  pointwise
  simp only [v12_at, v30_at]
  exact Finset.sum_congr rfl fun b _ => Finset.sum_congr rfl fun r _ => mul_comm _ _

/-- The stream's gradient. -/
theorem x_eq : val_main_v50 (F := Ideal) x g z = KX x g z := by
  funext i
  obtain ⟨b, r, k, rfl⟩ : ∃ (b : Fin 2) (r : Fin 2048) (k : Fin 1024), i = ix3 b r k := ⟨_, _, _, eq_ix3 i⟩
  refine Eq.trans ?_ (RowGrad.row_all (fun k => x (ix3 b r k)) (fun k => dy x g z b r k * g (ix1 k)) k)
  unfold val_main_v50 val_main_v49 val_main_v48 val_main_v47 val_main_v46 val_main_v45 val_main_v44 val_main_v43 val_main_v42 val_main_v41 val_main_v40 val_main_v39 val_main_v38
    val_main_v37 val_main_v10 val_main_v9 val_main_v8 val_main_v6 val_main_v5 val_main_v4 val_main_v3 val_main_v2 val_main_v1 val_main_v0 val_main_cst val_main_cst_0 val_main_cst_1
    val_main_cst_2 val_main_cst_13 val_main_cst_14 val_main_cst_15
  pointwise
  simp only [Finset.univ_unique, Finset.sum_singleton, v7_at, v35_at]
  rfl

end Ref

/-- The frame of the reference's program, which declares no semaphore. -/
theorem frame_reference : Cert.quiescent_Reference3Ideal := fun m g _ =>
  (θ_run _ _ _).mono (fun r h => ⟨fun c => (h c).2.2.2, sem_eq_zero_of_no_sems (by decide) r.2⟩)
    (Cert.Reference3Ideal.Value.run m g)

open Cert.Kernel3Ideal Cert.Kernel3Ideal.Gen Cert.Kernel3Ideal.LossArrays in
/-- The claim about the values: the kernel's three results are the reference's, at all arguments. -/
theorem values : Cert.algebraic_Kernel3Ideal_Reference3Ideal := by
  intro m g m' g' hpre hagree
  refine ⟨fun c => KLoss (X m c) (G m c) (Z m c), fun c => KX (X m c) (G m c) (Z m c), fun c => KGain (X m c) (G m c) (Z m c),
    (θ_run _ _ _).mono (fun r h c => ?_) (Cert.Kernel3Ideal.Value.run_blocks m g),
    (θ_run _ _ _).mono (fun r h c => ?_) (Cert.Reference3Ideal.Value.run m' g')⟩
  · obtain ⟨h0, h1, h2, h⟩ := h c
    exact ⟨h0.trans (final3 m c), h1.trans (final4 m c), h2.trans (final5 m c), h⟩
  · obtain ⟨h0, h1, h2, h⟩ := h c
    obtain ⟨a0, a1, a2⟩ := hagree c
    refine ⟨h0.trans ?_, h1.trans ?_, h2.trans ?_, h⟩
    · rw [a0, a1, a2]
      exact (Cert.Reference3Ideal.Read.val_main_v51_eq (F := Ideal) (X m c) (G m c) (Z m c)).trans (loss_eq _ _ _)
    · rw [Cert.Reference3Ideal.Read.val_main_v50_eq, a0, a1, a2]
      exact x_eq _ _ _
    · rw [a0, a1, a2]
      exact (Cert.Reference3Ideal.Read.val_main_v52_eq (F := Ideal) (X m c) (G m c) (Z m c)).trans (gain_eq _ _ _)

end Cert.LossRun
-- ==== Proof.OutCases.lean ====
/-
  What the body of the output projection's backward kernel leaves in its three output blocks at a grid point, for any
  floats: the block of the gradient of `merged`, and the two running sums with the block's own part added. The three
  cases of a point (the first of all, the first of an example, any other) differ in what the running sums start from.
-/
module

public import proofs.«01_k».proof.Defs
public import proofs.«01_k».proof.Proof.Gen.Kernel4Ideal.Value
public import Idealize.ShloMosaic.Lib.Tactic

@[expose] public section

noncomputable section

open Idealize.ShloMosaic Idealize.ShloMosaic.TcCoe Idealize.SL.Sem

namespace Cert.Kernel4Ideal.OutCases

open Cert.Kernel4Ideal Cert.Kernel4Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of the gradient of `merged`, from the blocks of the incoming gradient, of the weight and of the gate. -/
def blk4 (x0 : Vec F S1x512x1024 .f32) (x2 : Vec F S1024x1024 .bf16) (x3 : Vec F S1x1x1024 .f32) : Vec F S1x512x1024 .bf16 :=
  k0_pay1 (k0_pay10 x0 x2 x3)

/-- The weight's gradient after a block: what stood there and the block's product. -/
def acc5 (x0 : Vec F S1x512x1024 .f32) (x1 : Vec F S1x512x1024 .bf16) (x3 : Vec F S1x1x1024 .f32) (y : Vec F S1024x1024 .f32) :
    Vec F S1024x1024 .f32 :=
  k0_pay2 (k0_pay6 x1) (k0_pay9 x0 x3) y

/-- The gate's gradient after a block: what stood there and the block's rows summed. -/
def acc6 (x0 : Vec F S1x512x1024 .f32) (x1 : Vec F S1x512x1024 .bf16) (x2 : Vec F S1024x1024 .bf16) (y : Vec F S1x1x1024 .f32) :
    Vec F S1x1x1024 .f32 :=
  k0_pay8 x0 x1 x2 y

variable (c : Dev nD) (i : grid0.Coords) (a2 : Memref sig .tc .vmem S1x512x1024 .f32) (h2 : a2.IsWhole) (a3 : Memref sig .tc .vmem S1x512x1024 .bf16) (h3 : a3.IsWhole) (a4 : Memref sig .tc .vmem S1024x1024 .bf16) (h4 : a4.IsWhole) (a5 : Memref sig .tc .vmem S1x1x1024 .f32) (h5 : a5.IsWhole) (a6 : Memref sig .tc .vmem S1x512x1024 .bf16) (h6 : a6.IsWhole) (a7 : Memref sig .tc .vmem S1024x1024 .f32) (h7 : a7.IsWhole) (a8 : Memref sig .tc .vmem S1x1x1024 .f32) (h8 : a8.IsWhole)
variable (x0 : Vec F S1x512x1024 .f32) (x1 : Vec F S1x512x1024 .bf16) (x2 : Vec F S1024x1024 .bf16) (x3 : Vec F S1x1x1024 .f32)

/-- At the first point the block of the gradient of `merged` is its value at the blocks read. -/
theorem out_A_4 (hc0 : cond0_0 i) (hc1 : cond0_1 i) :
    out0_A_4 c i a2 h2 a3 h3 a4 h4 a5 h5 a6 h6 a7 h7 a8 h8 hc0 hc1 x0 x1 x2 x3 = blk4 x0 x2 x3 := by
  unfold out0_A_4
  rw [View.read_writes_eq_canon _ _ _ (cover0_A_4 c i a2 h2 a3 h3 a4 h4 a5 h5 a6 h6 a7 h7 a8 h8 hc0 hc1 x0 x1 x2 x3)]
  unfold kernelRun0_A
  dsimp only
  sl_unfold_words
  rw [View.canon_unit_zero (S := S1x512x1024) hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At the first point the weight's gradient gains the block's. -/
theorem out_A_5 (hc0 : cond0_0 i) (hc1 : cond0_1 i) :
    out0_A_5 c i a2 h2 a3 h3 a4 h4 a5 h5 a6 h6 a7 h7 a8 h8 hc0 hc1 x0 x1 x2 x3 = acc5 x0 x1 x3 (k0_pay3 (F := F)) := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At the first point the gate's gradient gains the block's. -/
theorem out_A_6 (hc0 : cond0_0 i) (hc1 : cond0_1 i) :
    out0_A_6 c i a2 h2 a3 h3 a4 h4 a5 h5 a6 h6 a7 h7 a8 h8 hc0 hc1 x0 x1 x2 x3 = acc6 x0 x1 x2 (k0_pay4 (F := F)) := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At a point inside an example the block of the gradient of `merged` is its value at the blocks read. -/
theorem out_B_4 (hc0 : ¬cond0_0 i) (hc1 : ¬cond0_1 i) (y5 : Vec F S1024x1024 .f32) (y6 : Vec F S1x1x1024 .f32) :
    out0_B_4 c i a2 h2 a3 h3 a4 h4 a5 h5 a6 h6 a7 h7 a8 h8 hc0 hc1 x0 x1 x2 x3 y5 y6 = blk4 x0 x2 x3 := by
  unfold out0_B_4
  rw [View.read_writes_eq_canon _ _ _ (cover0_B_4 c i a2 h2 a3 h3 a4 h4 a5 h5 a6 h6 a7 h7 a8 h8 hc0 hc1 x0 x1 x2 x3 y5 y6)]
  unfold kernelRun0_B
  dsimp only
  sl_unfold_words
  rw [View.canon_unit_zero (S := S1x512x1024) hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At a point inside an example the weight's gradient gains the block's. -/
theorem out_B_5 (hc0 : ¬cond0_0 i) (hc1 : ¬cond0_1 i) (y5 : Vec F S1024x1024 .f32) (y6 : Vec F S1x1x1024 .f32) :
    out0_B_5 c i a2 h2 a3 h3 a4 h4 a5 h5 a6 h6 a7 h7 a8 h8 hc0 hc1 x0 x1 x2 x3 y5 y6 = acc5 x0 x1 x3 y5 := by
  unfold out0_B_5
  rw [View.read_writes_eq_canon _ _ _ (cover0_B_5 c i a2 h2 a3 h3 a4 h4 a5 h5 a6 h6 a7 h7 a8 h8 hc0 hc1 x0 x1 x2 x3 y5 y6)]
  unfold kernelRun0_B
  dsimp only
  sl_unfold_words
  rw [View.canon_unit_zero (S := S1024x1024) hz2]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At a point inside an example the gate's gradient gains the block's. -/
theorem out_B_6 (hc0 : ¬cond0_0 i) (hc1 : ¬cond0_1 i) (y5 : Vec F S1024x1024 .f32) (y6 : Vec F S1x1x1024 .f32) :
    out0_B_6 c i a2 h2 a3 h3 a4 h4 a5 h5 a6 h6 a7 h7 a8 h8 hc0 hc1 x0 x1 x2 x3 y5 y6 = acc6 x0 x1 x2 y6 := by
  unfold out0_B_6
  rw [View.read_writes_eq_canon _ _ _ (cover0_B_6 c i a2 h2 a3 h3 a4 h4 a5 h5 a6 h6 a7 h7 a8 h8 hc0 hc1 x0 x1 x2 x3 y5 y6)]
  unfold kernelRun0_B
  dsimp only
  sl_unfold_words
  rw [View.canon_unit_zero (S := S1x1x1024) hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At the first point of the second example the block of the gradient of `merged` is its value at the blocks read. -/
theorem out_C_4 (hc0 : ¬cond0_0 i) (hc1 : cond0_1 i) (y5 : Vec F S1024x1024 .f32) :
    out0_C_4 c i a2 h2 a3 h3 a4 h4 a5 h5 a6 h6 a7 h7 a8 h8 hc0 hc1 x0 x1 x2 x3 y5 = blk4 x0 x2 x3 := by
  unfold out0_C_4
  rw [View.read_writes_eq_canon _ _ _ (cover0_C_4 c i a2 h2 a3 h3 a4 h4 a5 h5 a6 h6 a7 h7 a8 h8 hc0 hc1 x0 x1 x2 x3 y5)]
  unfold kernelRun0_C
  dsimp only
  sl_unfold_words
  rw [View.canon_unit_zero (S := S1x512x1024) hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At the first point of the second example the weight's gradient gains the block's. -/
theorem out_C_5 (hc0 : ¬cond0_0 i) (hc1 : cond0_1 i) (y5 : Vec F S1024x1024 .f32) :
    out0_C_5 c i a2 h2 a3 h3 a4 h4 a5 h5 a6 h6 a7 h7 a8 h8 hc0 hc1 x0 x1 x2 x3 y5 = acc5 x0 x1 x3 y5 := by
  unfold out0_C_5
  rw [View.read_writes_eq_canon _ _ _ (cover0_C_5 c i a2 h2 a3 h3 a4 h4 a5 h5 a6 h6 a7 h7 a8 h8 hc0 hc1 x0 x1 x2 x3 y5)]
  unfold kernelRun0_C
  dsimp only
  sl_unfold_words
  rw [View.canon_unit_zero (S := S1024x1024) hz2]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

/-- At the first point of the second example the gate's gradient gains the block's. -/
theorem out_C_6 (hc0 : ¬cond0_0 i) (hc1 : cond0_1 i) (y5 : Vec F S1024x1024 .f32) :
    out0_C_6 c i a2 h2 a3 h3 a4 h4 a5 h5 a6 h6 a7 h7 a8 h8 hc0 hc1 x0 x1 x2 x3 y5 = acc6 x0 x1 x2 (k0_pay4 (F := F)) := by
  unfold out0_C_6
  rw [View.read_writes_eq_canon _ _ _ (cover0_C_6 c i a2 h2 a3 h3 a4 h4 a5 h5 a6 h6 a7 h7 a8 h8 hc0 hc1 x0 x1 x2 x3 y5)]
  unfold kernelRun0_C
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h7.read_unread, h8.read_unread,
    View.ld_unit_zero (S := S1x512x1024) hz3, View.ld_unit_zero (S := S1x1x1024) hz3, View.ld_unit_zero (S := S1024x1024) hz2]
  rfl

end Cert.Kernel4Ideal.OutCases
-- ==== Proof.OutArrays.lean ====
/-
  The three result arrays of the output projection's backward kernel over the reals, each at an index as a sum over the
  arguments.
-/
module

public import proofs.«01_k».proof.Proof.OutCases
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.OutArrays

open Cert.Kernel4Ideal Cert.Kernel4Ideal.Gen Cert.Kernel4Ideal.OutCases Idealize.ShloMosaic.Pointwise

/-- The gradient of `merged`: the gated gradient times the transposed weight. -/
def KMerged (d : FVec Ideal S2x2048x1024 .f32) (w : FVec Ideal S1024x1024 .f32) (g : FVec Ideal S2x1024 .f32) :
    FVec Ideal S2x2048x1024 .bf16 := fun i =>
  ∑ k : Fin 1024, d (ix3 (i 0) (i 1) k) * g (ix2 (i 0) k) * w (ix2 (i 2) k)

/-- The gradient of the weight: the transposed `merged` times the gated gradient, over all rows of both examples. -/
def KWeight (d x : FVec Ideal S2x2048x1024 .f32) (g : FVec Ideal S2x1024 .f32) : FVec Ideal S1024x1024 .f32 := fun i =>
  ∑ b : Fin 2, ∑ r : Fin 2048, x (ix3 b r (i 0)) * (d (ix3 b r (i 1)) * g (ix2 b (i 1)))

/-- The gradient of the gate: the gradient times the ungated projection, summed over an example's rows. -/
def KGate (d x : FVec Ideal S2x2048x1024 .f32) (w : FVec Ideal S1024x1024 .f32) : FVec Ideal S2x1x1024 .f32 := fun i =>
  ∑ r : Fin 2048, d (ix3 (i 0) r (i 2)) * ∑ l : Fin 1024, x (ix3 (i 0) r l) * w (ix2 l (i 2))

variable (m : (ℓ : Loc nD τ sig) → Buf (Elt Ideal) ℓ) (c : Dev nD)

/-- Where each window's block lies at a point. -/
theorem idx : ∀ t : Fin cfg0.N, win0_0.index t = ![t.val / 4, t.val % 4, 0] ∧ win0_1.index t = ![t.val / 4, t.val % 4, 0]
    ∧ win0_2.index t = ![0, 0] ∧ win0_3.index t = ![t.val / 4, 0, 0] ∧ win0_4.index t = ![t.val / 4, t.val % 4, 0]
    ∧ win0_5.index t = ![0, 0] ∧ win0_6.index t = ![t.val / 4, 0, 0] := by decide +kernel

abbrev DO : FVec Ideal S2x2048x1024 .f32 := m ((c : Thread nD τ).loc main_arg0)
abbrev ME : FVec Ideal S2x2048x1024 .f32 := m ((c : Thread nD τ).loc main_arg1)
abbrev WO : FVec Ideal S1024x1024 .f32 := m ((c : Thread nD τ).loc main_arg2)
abbrev GA : FVec Ideal S2x1024 .f32 := m ((c : Thread nD τ).loc main_arg3)

/-- The example a point works on, and the row of the example that row `r` of its block is. -/
def bt (t : Fin cfg0.N) : Fin 2 := ⟨t.val / 4, by have : t.val < 8 := t.isLt; omega⟩
def row (t : Fin cfg0.N) (r : Fin 512) : Fin 2048 := ⟨t.val % 4 * 512 + r.val, by have := r.isLt; omega⟩

theorem blk0 (t : Fin cfg0.N) (a : Fin 1) (r : Fin 512) (k : Fin 1024) : iblk m c 0 t (ix3 a r k) = DO m c (ix3 (bt t) (row t r) k) := by
  blk_ext [iblk, V, idx t, bt, row]
theorem blk1 (t : Fin cfg0.N) (a : Fin 1) (r : Fin 512) (k : Fin 1024) : iblk m c 1 t (ix3 a r k) = ME m c (ix3 (bt t) (row t r) k) := by
  unfold iblk
  blk_simp [idx t]
  entry_read
  pointwise
  blk_ext [idx t, bt, row]
theorem blk2 (t : Fin cfg0.N) (a k : Fin 1024) : iblk m c 2 t (ix2 a k) = WO m c (ix2 a k) := by
  unfold iblk
  blk_simp [idx t]
  entry_read
  pointwise
  blk_ext [idx t]
theorem blk3 (t : Fin cfg0.N) (a b : Fin 1) (k : Fin 1024) : iblk m c 3 t (ix3 a b k) = GA m c (ix2 (bt t) k) := by
  unfold iblk
  blk_simp [idx t]
  entry_read
  pointwise
  blk_ext [idx t, bt]

theorem blk4_at (x0 : Vec Ideal S1x512x1024 .f32) (x2 : Vec Ideal S1024x1024 .bf16) (x3 : Vec Ideal S1x1x1024 .f32) (a : Fin 1) (r : Fin 512)
    (k : Fin 1024) : OutCases.blk4 x0 x2 x3 (ix3 a r k) = ∑ l : Fin 1024, x0 (ix3 0 r l) * x3 (ix3 0 0 l) * x2 (ix2 k l) := by
  unfold OutCases.blk4 k0_pay1 k0_pay10 k0_pay9 k0_pay7 k0_pay5
  pointwise

/-- What a point adds to the weight's gradient. -/
theorem acc5_at (x0 : Vec Ideal S1x512x1024 .f32) (x1 : Vec Ideal S1x512x1024 .bf16) (x3 : Vec Ideal S1x1x1024 .f32) (y : Vec Ideal S1024x1024 .f32)
    (a k : Fin 1024) : acc5 x0 x1 x3 y (ix2 a k) = y (ix2 a k) + ∑ r : Fin 512, x1 (ix3 0 r a) * (x0 (ix3 0 r k) * x3 (ix3 0 0 k)) := by
  unfold acc5 k0_pay2 k0_pay6 k0_pay9 k0_pay5
  pointwise

/-- What a point adds to the gate's gradient. -/
theorem acc6_at (x0 : Vec Ideal S1x512x1024 .f32) (x1 : Vec Ideal S1x512x1024 .bf16) (x2 : Vec Ideal S1024x1024 .bf16) (y : Vec Ideal S1x1x1024 .f32)
    (a b : Fin 1) (k : Fin 1024) : acc6 x0 x1 x2 y (ix3 a b k)
      = y (ix3 a b k) + ∑ r : Fin 512, x0 (ix3 0 r k) * ∑ l : Fin 1024, x1 (ix3 0 r l) * x2 (ix2 l k) := by
  obtain rfl : a = 0 := Subsingleton.elim _ _
  obtain rfl : b = 0 := Subsingleton.elim _ _
  unfold acc6 k0_pay8 k0_pay6 k0_pay7 k0_pay5
  pointwise

theorem zero3 (i : S1024x1024.Idx) : k0_pay3 (F := Ideal) i = (0 : EReal) := by unfold k0_pay3; pointwise
theorem zero4 (i : S1x1x1024.Idx) : k0_pay4 (F := Ideal) i = (0 : EReal) := by unfold k0_pay4; pointwise

theorem emb4 (t : Fin cfg0.N) (y : S1x512x1024.Idx) : (win0_4.blk t).view.emb y = ix3 (bt t) (row t (y 1)) (y 2) := by
  blk_ext [idx t, bt, row]
theorem emb5 (t : Fin cfg0.N) (y : S1024x1024.Idx) : ((cfg0.win 5).blk t).view.emb y = ix2 (y 0) (y 1) := by
  blk_ext [idx t]
theorem emb6 (t : Fin cfg0.N) (y : S1x1x1024.Idx) : ((cfg0.win 6).blk t).view.emb y = ix3 (bt t) 0 (y 2) := by
  blk_ext [idx t, bt]

/-- The four points of an example, their examples and rows. -/
theorem bt_run (t : Fin cfg0.N) (s : Fin 4) (h) : bt ⟨4 * (t.val / 4) + s.val, h⟩ = bt t := by
  apply Fin.ext; have := s.isLt; simp only [bt]; omega
theorem row_run (t : Fin cfg0.N) (s : Fin 4) (h) (r : Fin 512) (h') : row ⟨4 * (t.val / 4) + s.val, h⟩ r = ⟨s.val * 512 + r.val, h'⟩ := by
  apply Fin.ext; have := s.isLt; simp only [row]; omega

/-- THE GRADIENT OF `merged`: every point writes its rows. -/
theorem final4 : (dats m 0 c).arrAt 4 (cfgs 0).N = KMerged (DO m c) (WO m c) (GA m c) := by
  refine (dats m 0 c).arrAt_eq_of_covers 4 _ (by decide +kernel) fun t hf y => ?_
  blk_simp
  rw [after0_4]
  have h : (outsAt0 m c t.val t.isLt).1 = OutCases.blk4 (iblk m c 0 t) (iblk m c 2 t) (iblk m c 3 t) := by
    by_cases h8 : t.val % 8 = 0
    · rw [outsAt0_A m c t h8 (by omega), out_A_4]
    · by_cases h4 : t.val % 4 = 0
      · rw [outsAt0_C m c t h8 h4, out_C_4]
      · rw [outsAt0_B m c t h8 h4, out_B_4]
  rw [h]
  rw [show (win0_4.blk t).view.emb y = _ from emb4 t y]
  obtain ⟨a, r, k, rfl⟩ : ∃ (a : Fin 1) (r : Fin 512) (k : Fin 1024), y = ix3 a r k := ⟨_, _, _, eq_ix3 y⟩
  refine (blk4_at ..).trans ?_
  simp only [blk0, blk2, blk3]
  rfl

/-- THE GRADIENT OF THE WEIGHT: all eight points add their products, the last writes the sum. -/
theorem final5 : (dats m 0 c).arrAt 5 (cfgs 0).N = KWeight (DO m c) (ME m c) (GA m c) := by
  refine (dats m 0 c).arrAt_eq_of_covers 5 _ (by decide +kernel) fun t hf y => ?_
  have hN : cfg0.N = 8 := N_0
  blk_simp
  rw [after0_5]
  have h5 := Pipeline.eq_sum_fin_of_reset_step_apply_last (fun n h => (outsAt0 m c n h).2.1) 8 (fun _ => (0 : EReal))
    (fun t j => ∑ r : Fin 512, ME m c (ix3 (bt t) (row t r) (j 0)) * (DO m c (ix3 (bt t) (row t r) (j 1)) * GA m c (ix2 (bt t) (j 1))))
    (fun t h j => by
      rw [outsAt0_A m c t h (by omega), out_A_5]
      obtain ⟨a, k, rfl⟩ : ∃ (a k : Fin 1024), j = ix2 a k := ⟨_, _, eq_ix2 j⟩
      refine (acc5_at ..).trans ?_
      rw [zero3]
      simp only [blk0, blk1, blk3]
      rfl)
    (fun t h j => by
      obtain ⟨a, k, rfl⟩ : ∃ (a k : Fin 1024), j = ix2 a k := ⟨_, _, eq_ix2 j⟩
      by_cases h4 : t.val % 4 = 0
      · rw [outsAt0_C m c t h h4, out_C_5]
        refine (acc5_at ..).trans ?_
        simp only [blk0, blk1, blk3]
        rfl
      · rw [outsAt0_B m c t h h4, out_B_5]
        refine (acc5_at ..).trans ?_
        simp only [blk0, blk1, blk3]
        rfl) hN.le t (by have := (flush0_5 t).mp hf; have : t.val < 8 := t.isLt; omega) y
  refine h5.trans ?_
  rw [zero_add, emb5]
  unfold KWeight
  exact Fin.sum_points_lanes_congr 4 (fun p k ha hl => rfl)

/-- THE GRADIENT OF THE GATE: an example's four points add their rows, the last writes the sum. -/
theorem final6 : (dats m 0 c).arrAt 6 (cfgs 0).N = KGate (DO m c) (ME m c) (WO m c) := by
  refine (dats m 0 c).arrAt_eq_of_covers 6 _ (by decide +kernel) fun t hf y => ?_
  blk_simp
  rw [after0_6]
  have h6 := Pipeline.eq_sum_fin_of_reset_step_apply_of_flush (fun n h => (outsAt0 m c n h).2.2) 4 (fun _ => (0 : EReal))
    (fun t j => ∑ r : Fin 512, DO m c (ix3 (bt t) (row t r) (j 2)) * ∑ l : Fin 1024, ME m c (ix3 (bt t) (row t r) l) * WO m c (ix2 l (j 2)))
    (fun t h j => by
      obtain ⟨a, b, k, rfl⟩ : ∃ (a b : Fin 1) (k : Fin 1024), j = ix3 a b k := ⟨_, _, _, eq_ix3 j⟩
      by_cases h8 : t.val % 8 = 0
      · rw [outsAt0_A m c t h8 h, out_A_6]
        refine (acc6_at ..).trans ?_
        rw [zero4]
        simp only [blk0, blk1, blk2]
        rfl
      · rw [outsAt0_C m c t h8 h, out_C_6]
        refine (acc6_at ..).trans ?_
        rw [zero4]
        simp only [blk0, blk1, blk2]
        rfl)
    (fun t h j => by
      rw [outsAt0_B m c t (by omega) h, out_B_6]
      obtain ⟨a, b, k, rfl⟩ : ∃ (a b : Fin 1) (k : Fin 1024), j = ix3 a b k := ⟨_, _, _, eq_ix3 j⟩
      refine (acc6_at ..).trans ?_
      simp only [blk0, blk1, blk2]
      rfl) t ((flush0_6 t).mp hf) y
  refine h6.trans ?_
  rw [zero_add, emb6]
  unfold KGate
  refine Eq.trans ?_ (Fin.sum_mul_add_fin 4 512 (fun r : Fin 2048 => DO m c (ix3 (bt t) r (y 2)) * ∑ l : Fin 1024, ME m c (ix3 (bt t) r l) * WO m c (ix2 l (y 2))) rfl)
  refine Finset.sum_congr rfl fun s _ => Finset.sum_congr rfl fun r _ => ?_
  rw [bt_run, row_run]

end Cert.Kernel4Ideal.OutArrays
-- ==== Proof.OutRun.lean ====
/-
  The output projection's backward pass: the reference's results at an index, that they are the kernel's, and the two
  programs' runs.
-/
module

public import proofs.«01_k».proof.Defs
public import proofs.«01_k».proof.Proof.OutArrays
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.OutRun

section Ref
open Cert.Reference4Ideal Cert.Reference4Ideal.Read Idealize.ShloMosaic.Pointwise

variable (d x : FVec Ideal S2x2048x1024 .f32) (w : FVec Ideal S1024x1024 .f32) (g : FVec Ideal S2x1024 .f32)

/-- The gated gradient. -/
theorem v5_at (b : Fin 2) (r : Fin 2048) (k : Fin 1024) : val_main_v5 (F := Ideal) d g (ix3 b r k) = d (ix3 b r k) * g (ix2 b k) := by
  unfold val_main_v5 val_main_v4 val_main_v0
  pointwise
  exact mul_comm _ _

theorem v9_at (j i : Fin 1024) : val_main_v9 (F := Ideal) d x g (ix2 j i)
    = ∑ b : Fin 2, ∑ r : Fin 2048, x (ix3 b r i) * (d (ix3 b r j) * g (ix2 b j)) := by
  unfold val_main_v9
  pointwise
  refine Finset.sum_congr rfl fun b _ => Finset.sum_congr rfl fun r _ => ?_
  rw [v5_at, mul_comm]

theorem merged_eq : val_main_v13 (F := Ideal) d w g = Cert.Kernel4Ideal.OutArrays.KMerged d w g := by
  funext i
  obtain ⟨b, r, n, rfl⟩ : ∃ (b : Fin 2) (r : Fin 2048) (n : Fin 1024), i = ix3 b r n := ⟨_, _, _, eq_ix3 i⟩
  unfold val_main_v13 val_main_v11
  pointwise
  exact Finset.sum_congr rfl fun k _ => congrArg (· * _) (v5_at d g b r k)

theorem weight_eq : val_main_v10 (F := Ideal) d x g = Cert.Kernel4Ideal.OutArrays.KWeight d x g := by
  funext i
  obtain ⟨i, j, rfl⟩ : ∃ (a b : Fin 1024), i = ix2 a b := ⟨_, _, eq_ix2 i⟩
  unfold val_main_v10
  pointwise
  exact v9_at d x g j i

theorem gate_eq : val_main_v14 (F := Ideal) d x w = Cert.Kernel4Ideal.OutArrays.KGate d x w := by
  funext i
  obtain ⟨b, z, k, rfl⟩ : ∃ (b : Fin 2) (z : Fin 1) (k : Fin 1024), i = ix3 b z k := ⟨_, _, _, eq_ix3 i⟩
  unfold val_main_v14 val_main_v12 val_main_v8 val_main_v7 val_main_v6 val_main_v1 val_main_cst val_main_cst_0
  pointwise
  simp only [Finset.univ_unique, Finset.sum_singleton]
  rfl

end Ref

/-- The frame of the reference's program, which declares no semaphore. -/
theorem frame_reference : Cert.quiescent_Reference4Ideal := fun m g _ =>
  (θ_run _ _ _).mono (fun r h => ⟨fun c => (h c).2.2.2, sem_eq_zero_of_no_sems (by decide) r.2⟩)
    (Cert.Reference4Ideal.Value.run m g)

open Cert.Kernel4Ideal Cert.Kernel4Ideal.Gen Cert.Kernel4Ideal.OutArrays in
/-- The claim about the values: the kernel's three results are the reference's, at all arguments. -/
theorem values : Cert.algebraic_Kernel4Ideal_Reference4Ideal := by
  intro m g m' g' hpre hagree
  refine ⟨fun c => KMerged (DO m c) (WO m c) (GA m c), fun c => KWeight (DO m c) (ME m c) (GA m c),
    fun c => KGate (DO m c) (ME m c) (WO m c),
    (θ_run _ _ _).mono (fun r h c => ?_) (Cert.Kernel4Ideal.Value.run_blocks m g),
    (θ_run _ _ _).mono (fun r h c => ?_) (Cert.Reference4Ideal.Value.run m' g')⟩
  · obtain ⟨h0, h1, h2, h⟩ := h c
    exact ⟨h0.trans (final4 m c), h1.trans (final5 m c), h2.trans (final6 m c), h⟩
  · obtain ⟨h0, h1, h2, h⟩ := h c
    obtain ⟨a0, a1, a2, a3⟩ := hagree c
    refine ⟨h0.trans ?_, h1.trans ?_, h2.trans ?_, h⟩
    · rw [a0, a2, a3]
      exact (Cert.Reference4Ideal.Read.val_main_v13_eq (F := Ideal) (DO m c) (WO m c) (GA m c)).trans (merged_eq _ _ _)
    · rw [a0, a1, a3]
      exact (Cert.Reference4Ideal.Read.val_main_v10_eq (F := Ideal) (DO m c) (ME m c) (GA m c)).trans (weight_eq _ _ _)
    · rw [a0, a1, a2]
      exact (Cert.Reference4Ideal.Read.val_main_v14_eq (F := Ideal) (DO m c) (ME m c) (WO m c)).trans (gate_eq _ _ _)

end Cert.OutRun
-- ==== Proof.ModRun.lean ====
/-
  The gradients of the layers' modulation: what the kernel and the reference leave in the two arrays, and the two
  programs' runs.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModRun

/-- A layer's weight gradient: the transposed activation times the layer's incoming gradient. -/
def KWeight (x : FVec Ideal Cert.Kernel5Ideal.S16x1024 .f32) (d : FVec Ideal Cert.Kernel5Ideal.S4x16x384 .f32) :
    FVec Ideal Cert.Kernel5Ideal.S4x1024x384 .f32 := fun i =>
  ∑ r : Fin 16, x (ix2 r (i 1)) * Ideal.logistic (x (ix2 r (i 1))) * d (ix3 (i 0) r (i 2))

/-- A layer's bias gradient: the column sums of its incoming gradient. -/
def KBias (d : FVec Ideal Cert.Kernel5Ideal.S4x16x3072 .f32) : FVec Ideal Cert.Kernel5Ideal.S4x1x3072 .f32 := fun i =>
  ∑ r : Fin 16, d (ix3 (i 0) r (i 2))

section Kernel
open Cert.Kernel5Ideal Cert.Kernel5Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] := by decide +kernel

abbrev CC : FVec Ideal S16x1024 .f32 := m ((c : Thread nD τ).loc main_arg0)
abbrev DA : FVec Ideal S4x16x3072 .f32 := m ((c : Thread nD τ).loc main_arg3)
abbrev DM : FVec Ideal S4x16x384 .f32 := m ((c : Thread nD τ).loc main_arg4)

/-- The layer a point works on. -/
def ly (t : Fin cfg0.N) : Fin 4 := ⟨t.val, t.isLt⟩

theorem blk0 (t : Fin cfg0.N) (r : Fin 16) (k : Fin 1024) : iblk m c 0 t (ix2 r k) = CC m c (ix2 r k) := by
  blk_ext [iblk, V, idx t]
theorem blk1 (t : Fin cfg0.N) (a : Fin 1) (r : Fin 16) (k : Fin 3072) : iblk m c 1 t (ix3 a r k) = DA m c (ix3 (ly t) r k) := by
  blk_ext [iblk, V, idx t, ly]
theorem blk2 (t : Fin cfg0.N) (a : Fin 1) (r : Fin 16) (k : Fin 384) : iblk m c 2 t (ix3 a r k) = DM m c (ix3 (ly t) r k) := by
  blk_ext [iblk, V, idx t, ly]

theorem emb3 (t : Fin cfg0.N) (y : S1x1024x384.Idx) : (win0_3.blk t).view.emb y = ix3 (ly t) (y 1) (y 2) := by
  blk_ext [idx t, ly]
theorem emb4 (t : Fin cfg0.N) (y : S1x1x3072.Idx) : (win0_4.blk t).view.emb y = ix3 (ly t) 0 (y 2) := by
  blk_ext [idx t, ly]

theorem hz2 : (![0, 0] : Fin 2 → ℕ) = fun _ => 0 := by decide
theorem hz3 : (![0, 0, 0] : Fin 3 → ℕ) = fun _ => 0 := by decide

theorem final3 : (dats m 0 c).arrAt 3 (cfgs 0).N = KWeight (CC m c) (DM m c) := by
  refine (dats m 0 c).arrAt_eq_of_covers 3 _ (by decide +kernel) fun t hf y => ?_
  blk_simp
  rw [after0_3]
  unfold out0_3
  rw [View.canon_unit_zero (S := S1x1024x384) hz3, View.ld_unit_zero (S := S16x1024) hz2, View.ld_unit_zero (S := S1x16x384) hz3]
  rw [show (win0_3.blk t).view.emb y = _ from emb3 t y]
  obtain ⟨a, r, k, rfl⟩ : ∃ (a : Fin 1) (r : Fin 1024) (k : Fin 384), y = ix3 a r k := ⟨_, _, _, eq_ix3 y⟩
  unfold k0_pay1
  pointwise
  simp only [blk0, blk2]
  rfl

theorem final4 : (dats m 0 c).arrAt 4 (cfgs 0).N = KBias (DA m c) := by
  refine (dats m 0 c).arrAt_eq_of_covers 4 _ (by decide +kernel) fun t hf y => ?_
  blk_simp
  rw [after0_4]
  unfold out0_4
  rw [View.canon_unit_zero (S := S1x1x3072) hz3, View.ld_unit_zero (S := S1x16x3072) hz3]
  rw [show (win0_4.blk t).view.emb y = _ from emb4 t y]
  obtain ⟨a, b, k, rfl⟩ : ∃ (a b : Fin 1) (k : Fin 3072), y = ix3 a b k := ⟨_, _, _, eq_ix3 y⟩
  unfold k0_pay2
  pointwise
  simp only [blk1]
  rfl

end Kernel

section Ref
open Cert.Reference5Ideal Cert.Reference5Ideal.Read Idealize.ShloMosaic.Pointwise

variable (x : FVec Ideal S16x1024 .f32) (d : FVec Ideal S4x16x384 .f32) (e : FVec Ideal S4x16x3072 .f32)

/-- The activation. -/
theorem silu_at (r : Fin 16) (k : Fin 1024) : val_main_v0 (F := Ideal) x (ix2 r k) = x (ix2 r k) * Ideal.logistic (x (ix2 r k)) := by
  unfold val_main_v0 val_main_call0_v5 val_main_call0_v4 val_main_call0_v3 val_main_call0_v2 val_main_call0_v1 val_main_call0_v0 val_main_call0_cst val_main_call0_cst_0
  pointwise
  rfl

theorem weight_eq : val_main_v13 (F := Ideal) x d = KWeight x d := by
  funext i
  obtain ⟨l, a, k, rfl⟩ : ∃ (l : Fin 4) (a : Fin 1024) (k : Fin 384), i = ix3 l a k := ⟨_, _, _, eq_ix3 i⟩
  unfold val_main_v13 val_main_v12 val_main_v8
  pointwise
  simp only [silu_at]
  exact Finset.sum_congr rfl fun r _ => mul_comm _ _

theorem bias_eq : val_main_v25 (F := Ideal) e = KBias e := by
  funext i
  obtain ⟨l, a, k, rfl⟩ : ∃ (l : Fin 4) (a : Fin 1) (k : Fin 3072), i = ix3 l a k := ⟨_, _, _, eq_ix3 i⟩
  unfold val_main_v25 val_main_v22 val_main_v21 val_main_v20 val_main_cst_1 val_main_cst_2
  pointwise
  simp only [Finset.univ_unique, Finset.sum_singleton]
  rfl

end Ref

/-- The frame of the reference's program, which declares no semaphore. -/
theorem frame_reference : Cert.quiescent_Reference5Ideal := fun m g _ =>
  (θ_run _ _ _).mono (fun r h => ⟨fun c => (h c).2.2, sem_eq_zero_of_no_sems (by decide) r.2⟩)
    (Cert.Reference5Ideal.Value.run m g)

open Cert.Kernel5Ideal Cert.Kernel5Ideal.Gen in
/-- The claim about the values: the kernel's two results are the reference's, at all arguments. -/
theorem values : Cert.algebraic_Kernel5Ideal_Reference5Ideal := by
  intro m g m' g' hpre hagree
  refine ⟨fun c => KWeight (CC m c) (DM m c), fun c => KBias (DA m c),
    (θ_run _ _ _).mono (fun r h c => ?_) (Cert.Kernel5Ideal.Value.run_blocks m g),
    (θ_run _ _ _).mono (fun r h c => ?_) (Cert.Reference5Ideal.Value.run m' g')⟩
  · obtain ⟨h0, h1, h⟩ := h c
    exact ⟨h0.trans (final3 m c), h1.trans (final4 m c), h⟩
  · obtain ⟨h0, h1, h⟩ := h c
    obtain ⟨a0, a1, a2, a3, a4⟩ := hagree c
    refine ⟨h0.trans ?_, h1.trans ?_, h⟩
    · rw [a0, a4]
      exact (Cert.Reference5Ideal.Read.val_main_v13_eq (F := Ideal) (CC m c) (DM m c)).trans (weight_eq _ _)
    · rw [a3]
      exact (Cert.Reference5Ideal.Read.val_main_v25_eq (F := Ideal) (DA m c)).trans (bias_eq _)

end Cert.ModRun
-- ==== Proof.NormFwd.lean ====
/-
  The modulated norm's forward call: what the kernel and the reference leave in the result, and the two programs' runs.
-/
module

public import proofs.«01_k».proof.Defs
public import proofs.«01_k».proof.Proof.RowGrad
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFwd

/-- The modulated norm: the normalised row times the gain, scaled and shifted. -/
def KH (x : FVec Ideal Cert.Kernel6Ideal.S2x2048x1024 .f32) (g : FVec Ideal Cert.Kernel6Ideal.S1024 .f32)
    (sh sc : FVec Ideal Cert.Kernel6Ideal.S2x1024 .f32) : FVec Ideal Cert.Kernel6Ideal.S2x2048x1024 .bf16 := fun i =>
  x (ix3 (i 0) (i 1) (i 2)) * Ideal.rsqrt (RowGrad.vr fun k => x (ix3 (i 0) (i 1) k)) * g (ix1 (i 2)) * (1 + sc (ix2 (i 0) (i 2)))
    + sh (ix2 (i 0) (i 2))

section Kernel
open Cert.Kernel6Ideal Cert.Kernel6Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![t.val / 4, t.val % 4, 0] := by decide +kernel

abbrev X : FVec Ideal S2x2048x1024 .f32 := m ((c : Thread nD τ).loc main_arg0)
abbrev G : FVec Ideal S1024 .f32 := m ((c : Thread nD τ).loc main_arg1)
abbrev SH : FVec Ideal S2x1024 .f32 := m ((c : Thread nD τ).loc main_arg2)
abbrev SC : FVec Ideal S2x1024 .f32 := m ((c : Thread nD τ).loc main_arg3)

/-- The example a point works on, and the row of the example that row `r` of its block is. -/
def bt (t : Fin cfg0.N) : Fin 2 := ⟨t.val / 4, by have : t.val < 8 := t.isLt; omega⟩
def row (t : Fin cfg0.N) (r : Fin 512) : Fin 2048 := ⟨t.val % 4 * 512 + r.val, by have := r.isLt; omega⟩

theorem blk0 (t : Fin cfg0.N) (a : Fin 1) (r : Fin 512) (k : Fin 1024) : iblk m c 0 t (ix3 a r k) = X m c (ix3 (bt t) (row t r) k) := by
  blk_ext [iblk, V, idx t, bt, row]
theorem blk1 (t : Fin cfg0.N) (a : Fin 1) (k : Fin 1024) : iblk m c 1 t (ix2 a k) = G m c (ix1 k) := by
  unfold iblk
  blk_simp [idx t]
  entry_read
  pointwise
  blk_ext [idx t]
theorem blk2 (t : Fin cfg0.N) (a b : Fin 1) (k : Fin 1024) : iblk m c 2 t (ix3 a b k) = SH m c (ix2 (bt t) k) := by
  unfold iblk
  blk_simp [idx t]
  entry_read
  pointwise
  blk_ext [idx t, bt]
theorem blk3 (t : Fin cfg0.N) (a b : Fin 1) (k : Fin 1024) : iblk m c 3 t (ix3 a b k) = SC m c (ix2 (bt t) k) := by
  unfold iblk
  blk_simp [idx t]
  entry_read
  pointwise
  blk_ext [idx t, bt]
theorem emb4 (t : Fin cfg0.N) (y : S1x512x1024.Idx) : (win0_4.blk t).view.emb y = ix3 (bt t) (row t (y 1)) (y 2) := by
  blk_ext [idx t, bt, row]

theorem hz2 : (![0, 0] : Fin 2 → ℕ) = fun _ => 0 := by decide
theorem hz3 : (![0, 0, 0] : Fin 3 → ℕ) = fun _ => 0 := by decide

/-- Every point writes its rows. -/
theorem final4 : (dats m 0 c).arrAt 4 (cfgs 0).N = KH (X m c) (G m c) (SH m c) (SC m c) := by
  refine (dats m 0 c).arrAt_eq_of_covers 4 _ (by decide +kernel) fun t hf y => ?_
  blk_simp
  rw [after0_4]
  unfold out0_4
  rw [View.canon_unit_zero (S := S1x512x1024) hz3, View.ld_unit_zero (S := S1x512x1024) hz3, View.ld_unit_zero (S := S1x1024) hz2,
    View.ld_unit_zero (S := S1x1x1024) hz3, View.ld_unit_zero (S := S1x1x1024) hz3]
  rw [show (win0_4.blk t).view.emb y = _ from emb4 t y]
  obtain ⟨a, r, k, rfl⟩ : ∃ (a : Fin 1) (r : Fin 512) (k : Fin 1024), y = ix3 a r k := ⟨_, _, _, eq_ix3 y⟩
  unfold k0_pay1
  pointwise
  simp only [blk0, blk1, blk2, blk3]
  rfl

end Kernel

open Cert.Reference6Ideal Cert.Reference6Ideal.Read Idealize.ShloMosaic.Pointwise in
/-- The reference's result. -/
theorem ref_eq (x : FVec Ideal S2x2048x1024 .f32) (g : FVec Ideal S1024 .f32) (sh sc : FVec Ideal S2x1024 .f32) :
    val_main_v21 (F := Ideal) x g sh sc = KH x g sh sc := by
  funext i
  obtain ⟨b, r, k, rfl⟩ : ∃ (b : Fin 2) (r : Fin 2048) (k : Fin 1024), i = ix3 b r k := ⟨_, _, _, eq_ix3 i⟩
  unfold val_main_v21 val_main_v20 val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0 val_main_cst val_main_cst_0 val_main_cst_1 val_main_cst_2
  pointwise
  rfl

/-- The frame of the reference's program, which declares no semaphore. -/
theorem frame_reference : Cert.quiescent_Reference6Ideal := fun m g _ =>
  (θ_run _ _ _).mono (fun r h => ⟨fun c => (h c).2, sem_eq_zero_of_no_sems (by decide) r.2⟩)
    (Cert.Reference6Ideal.Value.run m g)

open Cert.Kernel6Ideal Cert.Kernel6Ideal.Gen in
/-- The claim about the values, at all arguments. -/
theorem values : Cert.algebraic_Kernel6Ideal_Reference6Ideal := by
  intro m g m' g' hpre hagree
  refine ⟨fun c => KH (X m c) (G m c) (SH m c) (SC m c),
    (θ_run _ _ _).mono (fun r h c => ⟨(h c).1.trans (final4 m c), (h c).2⟩) (Cert.Kernel6Ideal.Value.run_blocks m g),
    (θ_run _ _ _).mono (fun r h c => ⟨(h c).1.trans ?_, (h c).2⟩) (Cert.Reference6Ideal.Value.run m' g')⟩
  obtain ⟨a0, a1, a2, a3⟩ := hagree c
  rw [a0, a1, a2, a3]
  exact (Cert.Reference6Ideal.Read.val_main_v21_eq (F := Ideal) (X m c) (G m c) (SH m c) (SC m c)).trans (ref_eq _ _ _ _)

end Cert.NormFwd
-- ==== Proof.OutFwd.lean ====
/-
  The gated output product's forward call: what the kernel and the reference leave in the result, and the two
  programs' runs.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutFwd

/-- The residual plus the gate times the product. -/
def KO (x e : FVec Ideal Cert.Kernel7Ideal.S2x2048x1024 .f32) (w : FVec Ideal Cert.Kernel7Ideal.S1024x1024 .f32)
    (g : FVec Ideal Cert.Kernel7Ideal.S2x1024 .f32) : FVec Ideal Cert.Kernel7Ideal.S2x2048x1024 .f32 := fun i =>
  x (ix3 (i 0) (i 1) (i 2)) + g (ix2 (i 0) (i 2)) * ∑ l : Fin 1024, e (ix3 (i 0) (i 1) l) * w (ix2 l (i 2))

section Kernel
open Cert.Kernel7Ideal Cert.Kernel7Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![t.val / 4, t.val % 4, 0] ∧ win0_1.index t = ![t.val / 4, t.val % 4, 0]
    ∧ win0_2.index t = ![0, 0] ∧ win0_3.index t = ![t.val / 4, 0, 0] ∧ win0_4.index t = ![t.val / 4, t.val % 4, 0] := by decide +kernel

abbrev X : FVec Ideal S2x2048x1024 .f32 := m ((c : Thread nD τ).loc main_arg0)
abbrev ME : FVec Ideal S2x2048x1024 .f32 := m ((c : Thread nD τ).loc main_arg1)
abbrev WO : FVec Ideal S1024x1024 .f32 := m ((c : Thread nD τ).loc main_arg2)
abbrev GA : FVec Ideal S2x1024 .f32 := m ((c : Thread nD τ).loc main_arg3)

/-- The example a point works on, and the row of the example that row `r` of its block is. -/
def bt (t : Fin cfg0.N) : Fin 2 := ⟨t.val / 4, by have : t.val < 8 := t.isLt; omega⟩
def row (t : Fin cfg0.N) (r : Fin 512) : Fin 2048 := ⟨t.val % 4 * 512 + r.val, by have := r.isLt; omega⟩

theorem blk0 (t : Fin cfg0.N) (a : Fin 1) (r : Fin 512) (k : Fin 1024) : iblk m c 0 t (ix3 a r k) = X m c (ix3 (bt t) (row t r) k) := by
  blk_ext [iblk, V, idx t, bt, row]
theorem blk1 (t : Fin cfg0.N) (a : Fin 1) (r : Fin 512) (k : Fin 1024) : iblk m c 1 t (ix3 a r k) = ME m c (ix3 (bt t) (row t r) k) := by
  unfold iblk
  blk_simp [idx t]
  entry_read
  pointwise
  blk_ext [idx t, bt, row]
theorem blk2 (t : Fin cfg0.N) (a k : Fin 1024) : iblk m c 2 t (ix2 a k) = WO m c (ix2 a k) := by
  unfold iblk
  blk_simp [idx t]
  entry_read
  pointwise
  blk_ext [idx t]
theorem blk3 (t : Fin cfg0.N) (a b : Fin 1) (k : Fin 1024) : iblk m c 3 t (ix3 a b k) = GA m c (ix2 (bt t) k) := by
  unfold iblk
  blk_simp [idx t]
  entry_read
  pointwise
  blk_ext [idx t, bt]
theorem emb4 (t : Fin cfg0.N) (y : S1x512x1024.Idx) : (win0_4.blk t).view.emb y = ix3 (bt t) (row t (y 1)) (y 2) := by
  blk_ext [idx t, bt, row]

theorem hz2 : (![0, 0] : Fin 2 → ℕ) = fun _ => 0 := by decide
theorem hz3 : (![0, 0, 0] : Fin 3 → ℕ) = fun _ => 0 := by decide

/-- Every point writes its rows. -/
theorem final4 : (dats m 0 c).arrAt 4 (cfgs 0).N = KO (X m c) (ME m c) (WO m c) (GA m c) := by
  refine (dats m 0 c).arrAt_eq_of_covers 4 _ (by decide +kernel) fun t hf y => ?_
  blk_simp
  rw [after0_4]
  unfold out0_4
  rw [View.canon_unit_zero (S := S1x512x1024) hz3, View.ld_unit_zero (S := S1x512x1024) hz3, View.ld_unit_zero (S := S1x512x1024) hz3,
    View.ld_unit_zero (S := S1024x1024) hz2, View.ld_unit_zero (S := S1x1x1024) hz3]
  rw [show (win0_4.blk t).view.emb y = _ from emb4 t y]
  obtain ⟨a, r, k, rfl⟩ : ∃ (a : Fin 1) (r : Fin 512) (k : Fin 1024), y = ix3 a r k := ⟨_, _, _, eq_ix3 y⟩
  unfold k0_pay1
  pointwise
  simp only [blk0, blk1, blk2, blk3]
  rfl

end Kernel

open Cert.Reference7Ideal Cert.Reference7Ideal.Read Idealize.ShloMosaic.Pointwise in
/-- The reference's result. -/
theorem ref_eq (x e : FVec Ideal S2x2048x1024 .f32) (w : FVec Ideal S1024x1024 .f32) (g : FVec Ideal S2x1024 .f32) :
    val_main_v4 (F := Ideal) x e w g = KO x e w g := by
  funext i
  obtain ⟨b, r, k, rfl⟩ : ∃ (b : Fin 2) (r : Fin 2048) (k : Fin 1024), i = ix3 b r k := ⟨_, _, _, eq_ix3 i⟩
  unfold val_main_v4 val_main_v3 val_main_v2 val_main_v1 val_main_v0
  pointwise
  rfl

/-- The frame of the reference's program, which declares no semaphore. -/
theorem frame_reference : Cert.quiescent_Reference7Ideal := fun m g _ =>
  (θ_run _ _ _).mono (fun r h => ⟨fun c => (h c).2, sem_eq_zero_of_no_sems (by decide) r.2⟩)
    (Cert.Reference7Ideal.Value.run m g)

open Cert.Kernel7Ideal Cert.Kernel7Ideal.Gen in
/-- The claim about the values, at all arguments. -/
theorem values : Cert.algebraic_Kernel7Ideal_Reference7Ideal := by
  intro m g m' g' hpre hagree
  refine ⟨fun c => KO (X m c) (ME m c) (WO m c) (GA m c),
    (θ_run _ _ _).mono (fun r h c => ⟨(h c).1.trans (final4 m c), (h c).2⟩) (Cert.Kernel7Ideal.Value.run_blocks m g),
    (θ_run _ _ _).mono (fun r h c => ⟨(h c).1.trans ?_, (h c).2⟩) (Cert.Reference7Ideal.Value.run m' g')⟩
  obtain ⟨a0, a1, a2, a3⟩ := hagree c
  rw [a0, a1, a2, a3]
  exact (Cert.Reference7Ideal.Read.val_main_v4_eq (F := Ideal) (X m c) (ME m c) (WO m c) (GA m c)).trans (ref_eq _ _ _ _)

end Cert.OutFwd
-- ==== Proof.ModFwd.lean ====
/-
  The layers' modulation, forward: what the kernel and the reference leave in the result, and the two programs' runs.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModFwd

/-- A layer's modulation: the activation times the weight, plus the bias. -/
def KM (x : FVec Ideal Cert.Kernel8Ideal.S16x1024 .f32) (w : FVec Ideal Cert.Kernel8Ideal.S4x1024x384 .f32)
    (b : FVec Ideal Cert.Kernel8Ideal.S4x384 .f32) : FVec Ideal Cert.Kernel8Ideal.S4x16x384 .f32 := fun i =>
  (∑ l : Fin 1024, x (ix2 (i 1) l) * Ideal.logistic (x (ix2 (i 1) l)) * w (ix3 (i 0) l (i 2))) + b (ix2 (i 0) (i 2))

section Kernel
open Cert.Kernel8Ideal Cert.Kernel8Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![0, 0] ∧ win0_1.index t = ![t.val, 0, 0] ∧ win0_2.index t = ![t.val, 0, 0]
    ∧ win0_3.index t = ![t.val, 0, 0] := by decide +kernel

abbrev CC : FVec Ideal S16x1024 .f32 := m ((c : Thread nD τ).loc main_arg0)
abbrev WM : FVec Ideal S4x1024x384 .f32 := m ((c : Thread nD τ).loc main_arg1)
abbrev BM : FVec Ideal S4x384 .f32 := m ((c : Thread nD τ).loc main_arg2)

/-- The layer a point works on. -/
def ly (t : Fin cfg0.N) : Fin 4 := ⟨t.val, t.isLt⟩

theorem blk0 (t : Fin cfg0.N) (r : Fin 16) (k : Fin 1024) : iblk m c 0 t (ix2 r k) = CC m c (ix2 r k) := by
  blk_ext [iblk, V, idx t]
theorem blk1 (t : Fin cfg0.N) (a : Fin 1) (r : Fin 1024) (k : Fin 384) : iblk m c 1 t (ix3 a r k) = WM m c (ix3 (ly t) r k) := by
  blk_ext [iblk, V, idx t, ly]
theorem blk2 (t : Fin cfg0.N) (a b : Fin 1) (k : Fin 384) : iblk m c 2 t (ix3 a b k) = BM m c (ix2 (ly t) k) := by
  unfold iblk
  blk_simp [idx t]
  entry_read
  pointwise
  blk_ext [idx t, ly]
theorem emb3 (t : Fin cfg0.N) (y : S1x16x384.Idx) : (win0_3.blk t).view.emb y = ix3 (ly t) (y 1) (y 2) := by
  blk_ext [idx t, ly]

theorem hz2 : (![0, 0] : Fin 2 → ℕ) = fun _ => 0 := by decide
theorem hz3 : (![0, 0, 0] : Fin 3 → ℕ) = fun _ => 0 := by decide

/-- Every point writes its layer. -/
theorem final3 : (dats m 0 c).arrAt 3 (cfgs 0).N = KM (CC m c) (WM m c) (BM m c) := by
  refine (dats m 0 c).arrAt_eq_of_covers 3 _ (by decide +kernel) fun t hf y => ?_
  blk_simp
  rw [after0_3]
  unfold out0_3
  rw [View.canon_unit_zero (S := S1x16x384) hz3, View.ld_unit_zero (S := S16x1024) hz2, View.ld_unit_zero (S := S1x1024x384) hz3,
    View.ld_unit_zero (S := S1x1x384) hz3]
  rw [show (win0_3.blk t).view.emb y = _ from emb3 t y]
  obtain ⟨a, r, k, rfl⟩ : ∃ (a : Fin 1) (r : Fin 16) (k : Fin 384), y = ix3 a r k := ⟨_, _, _, eq_ix3 y⟩
  unfold k0_pay1
  pointwise
  simp only [blk0, blk1, blk2]
  rfl

end Kernel

section Ref
open Cert.Reference8Ideal Cert.Reference8Ideal.Read Idealize.ShloMosaic.Pointwise

variable (x : FVec Ideal S16x1024 .f32) (w : FVec Ideal S4x1024x384 .f32) (b : FVec Ideal S4x384 .f32)

/-- The activation. -/
theorem silu_at (r : Fin 16) (k : Fin 1024) : val_main_v0 (F := Ideal) x (ix2 r k) = x (ix2 r k) * Ideal.logistic (x (ix2 r k)) := by
  unfold val_main_v0 val_main_call0_v5 val_main_call0_v4 val_main_call0_v3 val_main_call0_v2 val_main_call0_v1 val_main_call0_v0 val_main_call0_cst val_main_call0_cst_0
  pointwise
  rfl

/-- The reference's result. -/
theorem ref_eq : val_main_v5 (F := Ideal) x w b = KM x w b := by
  funext i
  obtain ⟨l, r, k, rfl⟩ : ∃ (l : Fin 4) (r : Fin 16) (k : Fin 384), i = ix3 l r k := ⟨_, _, _, eq_ix3 i⟩
  unfold val_main_v5 val_main_v4 val_main_v3 val_main_v2 val_main_v1
  pointwise
  simp only [silu_at]
  rfl

end Ref

/-- The frame of the reference's program, which declares no semaphore. -/
theorem frame_reference : Cert.quiescent_Reference8Ideal := fun m g _ =>
  (θ_run _ _ _).mono (fun r h => ⟨fun c => (h c).2, sem_eq_zero_of_no_sems (by decide) r.2⟩)
    (Cert.Reference8Ideal.Value.run m g)

open Cert.Kernel8Ideal Cert.Kernel8Ideal.Gen in
/-- The claim about the values, at all arguments. -/
theorem values : Cert.algebraic_Kernel8Ideal_Reference8Ideal := by
  intro m g m' g' hpre hagree
  refine ⟨fun c => KM (CC m c) (WM m c) (BM m c),
    (θ_run _ _ _).mono (fun r h c => ⟨(h c).1.trans (final3 m c), (h c).2⟩) (Cert.Kernel8Ideal.Value.run_blocks m g),
    (θ_run _ _ _).mono (fun r h c => ⟨(h c).1.trans ?_, (h c).2⟩) (Cert.Reference8Ideal.Value.run m' g')⟩
  obtain ⟨a0, a1, a2⟩ := hagree c
  rw [a0, a1, a2]
  exact (Cert.Reference8Ideal.Read.val_main_v5_eq (F := Ideal) (CC m c) (WM m c) (BM m c)).trans (ref_eq _ _ _)

end Cert.ModFwd
-- ==== Proof.InFwd.lean ====
/-
  The input projection: what the kernel and the reference leave in the twelve parts of the product, and the two
  programs' runs.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InFwd

/-- The columns of part `s` of the product. -/
def colOf (s : Fin 12) (k : Fin 1024) : Fin 12288 := ⟨s.val * 1024 + k.val, by have := s.isLt; have := k.isLt; omega⟩

/-- The twelve parts of the product. -/
def KP (h : FVec Ideal Cert.Kernel10Ideal.S2x2048x1024 .f32) (w : FVec Ideal Cert.Kernel10Ideal.S1024x12288 .f32) :
    FVec Ideal Cert.Kernel10Ideal.S12x2x2048x1024 .bf16 := fun i =>
  ∑ l : Fin 1024, h (ix3 (i 1) (i 2) l) * w (ix2 l (colOf (i 0) (i 3)))

section Kernel
open Cert.Kernel10Ideal Cert.Kernel10Ideal.Gen Idealize.ShloMosaic.Pointwise

variable (m : (ℓ : Loc nD τ sig) → Buf (Elt Ideal) ℓ) (c : Dev nD)

/-- Where each window's block lies at a point. -/
theorem idx : ∀ t : Fin cfg0.N, win0_0.index t = ![t.val / 24, 0, 0] ∧ win0_1.index t = ![t.val % 24 / 3, 0, t.val % 24 % 3]
    ∧ win0_3.index t = ![t.val % 24 / 2, t.val / 24, 0, t.val % 24 % 2] := by decide +kernel

abbrev HH : FVec Ideal S2x2048x1024 .f32 := m ((c : Thread nD τ).loc main_arg0)
abbrev WI : FVec Ideal S1024x12288 .f32 := m ((c : Thread nD τ).loc main_arg1)

/-- The example a point works on, the part it writes to, the column of the part and the column of the weight. -/
def bt (t : Fin cfg0.N) : Fin 2 := ⟨t.val / 24, by have : t.val < 48 := t.isLt; omega⟩
def sg (t : Fin cfg0.N) : Fin 12 := ⟨t.val % 24 / 2, by omega⟩
def co (t : Fin cfg0.N) (k : Fin 512) : Fin 1024 := ⟨t.val % 24 % 2 * 512 + k.val, by have := k.isLt; omega⟩
def wc (t : Fin cfg0.N) (k : Fin 512) : Fin 12288 := ⟨t.val % 24 * 512 + k.val, by have := k.isLt; omega⟩

theorem wc_eq (t : Fin cfg0.N) (k : Fin 512) : wc t k = colOf (sg t) (co t k) := Fin.ext (by
  show t.val % 24 * 512 + k.val = t.val % 24 / 2 * 1024 + (t.val % 24 % 2 * 512 + k.val)
  omega)

theorem blk0 (t : Fin cfg0.N) (a : Fin 1) (r : Fin 2048) (k : Fin 1024) : iblk m c 0 t (ix3 a r k) = HH m c (ix3 (bt t) r k) := by
  unfold iblk
  blk_simp [idx t]
  entry_read
  pointwise
  blk_ext [idx t, bt]
theorem blk1 (t : Fin cfg0.N) (a : Fin 1) (r : Fin 1024) (k : Fin 512) : iblk m c 1 t (ix3 a r k) = WI m c (ix2 r (wc t k)) := by
  unfold iblk
  blk_simp [idx t]
  entry_read
  pointwise
  blk_ext [idx t, wc]
theorem emb3 (t : Fin cfg0.N) (y : S1x1x2048x512.Idx) : (win0_3.blk t).view.emb y = ix4 (sg t) (bt t) (y 2) (co t (y 3)) := by
  blk_ext [idx t, sg, bt, co]

theorem hz3 : (![0, 0, 0] : Fin 3 → ℕ) = fun _ => 0 := by decide
theorem hz4 : (![0, 0, 0, 0] : Fin 4 → ℕ) = fun _ => 0 := by decide

/-- Every point writes its half of a part. -/
theorem final3 : (dats m 0 c).arrAt 3 (cfgs 0).N = KP (HH m c) (WI m c) := by
  refine (dats m 0 c).arrAt_eq_of_covers 3 _ (by decide +kernel) fun t hf y => ?_
  blk_simp
  rw [after0_3]
  unfold out0_3
  rw [View.canon_unit_zero (S := S1x1x2048x512) hz4, View.ld_unit_zero (S := S1x2048x1024) hz3, View.ld_unit_zero (S := S1x1024x512) hz3]
  rw [show (win0_3.blk t).view.emb y = _ from emb3 t y]
  obtain ⟨a, b, r, k, rfl⟩ : ∃ (a b : Fin 1) (r : Fin 2048) (k : Fin 512), y = ix4 a b r k := ⟨_, _, _, _, eq_ix4 y⟩
  unfold k0_pay1
  pointwise
  simp only [blk0, blk1, wc_eq]
  rfl

end Kernel

open Cert.Reference10Ideal Cert.Reference10Ideal.Read Idealize.ShloMosaic.Pointwise in
/-- The reference's result. -/
theorem ref_eq (h : FVec Ideal S2x2048x1024 .f32) (w : FVec Ideal S1024x12288 .f32) : val_main_v3 (F := Ideal) h w = KP h w := by
  funext i
  obtain ⟨s, b, r, k, rfl⟩ : ∃ (s : Fin 12) (b : Fin 2) (r : Fin 2048) (k : Fin 1024), i = ix4 s b r k := ⟨_, _, _, _, eq_ix4 i⟩
  unfold val_main_v3 val_main_v2 val_main_v1 val_main_v0
  pointwise
  refine Finset.sum_congr rfl fun l _ => congrArg₂ (· * ·) (congrArg h ?_) (congrArg w ?_)
  · blk_ext []
  · blk_ext [colOf]

/-- The frame of the reference's program, which declares no semaphore. -/
theorem frame_reference : Cert.quiescent_Reference10Ideal := fun m g _ =>
  (θ_run _ _ _).mono (fun r h => ⟨fun c => (h c).2, sem_eq_zero_of_no_sems (by decide) r.2⟩)
    (Cert.Reference10Ideal.Value.run m g)

open Cert.Kernel10Ideal Cert.Kernel10Ideal.Gen in
/-- The claim about the values, at all arguments. -/
theorem values : Cert.algebraic_Kernel10Ideal_Reference10Ideal := by
  intro m g m' g' hpre hagree
  refine ⟨fun c => KP (HH m c) (WI m c),
    (θ_run _ _ _).mono (fun r h c => ⟨(h c).1.trans (final3 m c), (h c).2⟩) (Cert.Kernel10Ideal.Value.run_blocks m g),
    (θ_run _ _ _).mono (fun r h c => ⟨(h c).1.trans ?_, (h c).2⟩) (Cert.Reference10Ideal.Value.run m' g')⟩
  obtain ⟨a0, a1⟩ := hagree c
  rw [a0, a1]
  exact (Cert.Reference10Ideal.Read.val_main_v3_eq (F := Ideal) (HH m c) (WI m c)).trans (ref_eq _ _)

end Cert.InFwd
-- ==== Proof.InBackH.lean ====
/-
  The gradient of the input projection's rows: what the kernel and the reference leave in it, and the two programs' runs.
  Each point of the kernel takes two of the twelve parts of the incoming gradient; six points make a block of rows.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InBackH

/-- The incoming gradient times the transposed weight. -/
def KH (w : FVec Ideal Cert.Kernel11Ideal.S1024x12288 .f32) (d : FVec Ideal Cert.Kernel11Ideal.S2x2048x12288 .f32) :
    FVec Ideal Cert.Kernel11Ideal.S2x2048x1024 .f32 := fun i =>
  ∑ q : Fin 12288, d (ix3 (i 0) (i 1) q) * w (ix2 (i 2) q)

section Kernel
open Cert.Kernel11Ideal Cert.Kernel11Ideal.Gen Idealize.ShloMosaic.Pointwise

theorem hz3 : (![0, 0, 0] : Fin 3 → ℕ) = fun _ => 0 := by decide
theorem hz4 : (![0, 0, 0, 0] : Fin 4 → ℕ) = fun _ => 0 := by decide

section Cases
variable {F : FTy → Type} [FloatOps F]
variable (c : Dev nD) (i : grid0.Coords) (a3 : Memref sig .tc .vmem S1x1x1024x1024 .bf16) (h3 : a3.IsWhole) (a4 : Memref sig .tc .vmem S1x1x1024x1024 .bf16) (h4 : a4.IsWhole) (a5 : Memref sig .tc .vmem S1x1024x512 .bf16) (h5 : a5.IsWhole) (a6 : Memref sig .tc .vmem S1x1024x512 .bf16) (h6 : a6.IsWhole) (a7 : Memref sig .tc .vmem S1x1024x512 .bf16) (h7 : a7.IsWhole) (a8 : Memref sig .tc .vmem S1x1024x512 .bf16) (h8 : a8.IsWhole) (a9 : Memref sig .tc .vmem S8x128 .f32) (h9 : a9.IsWhole) (a10 : Memref sig .tc .vmem S1x1024x1024 .f32) (h10 : a10.IsWhole)
variable (x0 x1 : Vec F S1x1x1024x1024 .bf16) (x2 x3 x4 x5 : Vec F S1x1024x512 .bf16) (x6 : Vec F S8x128 .f32)

/-- The first point of a block of rows writes its products. -/
theorem out_A (hc0 : cond0_0 i) (hc1 : ¬cond0_1 i) :
    out0_A_7 c i a3 h3 a4 h4 a5 h5 a6 h6 a7 h7 a8 h8 a9 h9 a10 h10 hc0 hc1 x0 x1 x2 x3 x4 x5 x6 = k0_pay2 x0 x2 x3 x1 x4 x5 := by
  unfold out0_A_7
  rw [View.read_writes_eq_canon _ _ _ (cover0_A_7 c i a3 h3 a4 h4 a5 h5 a6 h6 a7 h7 a8 h8 a9 h9 a10 h10 hc0 hc1 x0 x1 x2 x3 x4 x5 x6)]
  unfold kernelRun0_A
  dsimp only
  sl_unfold_words
  rw [View.canon_unit_zero (S := S1x1024x1024) hz3]
  simp only [View.readAt_eq_ld, h3.read_unread, h4.read_unread, h5.read_unread, h6.read_unread, h7.read_unread, h8.read_unread,
    View.ld_unit_zero (S := S1x1x1024x1024) hz4, View.ld_unit_zero (S := S1x1024x512) hz3]

/-- Any other point adds its products to what stood there. -/
theorem out_B (hc0 : ¬cond0_0 i) (hc1 : cond0_1 i) (y : Vec F S1x1024x1024 .f32) :
    out0_B_7 c i a3 h3 a4 h4 a5 h5 a6 h6 a7 h7 a8 h8 a9 h9 a10 h10 hc0 hc1 x0 x1 x2 x3 x4 x5 x6 y = k0_pay3 x0 x2 x3 x1 x4 x5 y := by
  unfold out0_B_7
  rw [View.read_writes_eq_canon _ _ _ (cover0_B_7 c i a3 h3 a4 h4 a5 h5 a6 h6 a7 h7 a8 h8 a9 h9 a10 h10 hc0 hc1 x0 x1 x2 x3 x4 x5 x6 y)]
  unfold kernelRun0_B
  dsimp only
  sl_unfold_words
  rw [View.canon_unit_zero (S := S1x1024x1024) hz3]
  simp only [View.readAt_eq_ld, h3.read_unread, h4.read_unread, h5.read_unread, h6.read_unread, h7.read_unread, h8.read_unread, h10.read_unread,
    View.ld_unit_zero (S := S1x1x1024x1024) hz4, View.ld_unit_zero (S := S1x1024x512) hz3, View.ld_unit_zero (S := S1x1024x1024) hz3]
end Cases

variable (m : (ℓ : Loc nD τ sig) → Buf (Elt Ideal) ℓ) (c : Dev nD)

/-- Where each window's block lies at a point. -/
theorem idx : ∀ t : Fin cfg0.N, win0_0.index t = ![2 * (t.val % 6), t.val / 12, t.val % 12 / 6, 0]
    ∧ win0_1.index t = ![2 * (t.val % 6) + 1, t.val / 12, t.val % 12 / 6, 0]
    ∧ win0_2.index t = ![4 * (t.val % 6) / 3, 0, 4 * (t.val % 6) % 3]
    ∧ win0_3.index t = ![(4 * (t.val % 6) + 1) / 3, 0, (4 * (t.val % 6) + 1) % 3]
    ∧ win0_4.index t = ![(4 * (t.val % 6) + 2) / 3, 0, (4 * (t.val % 6) + 2) % 3]
    ∧ win0_5.index t = ![(4 * (t.val % 6) + 3) / 3, 0, (4 * (t.val % 6) + 3) % 3]
    ∧ win0_7.index t = ![t.val / 12, t.val % 12 / 6, 0] := by decide +kernel

abbrev WI : FVec Ideal S1024x12288 .f32 := m ((c : Thread nD τ).loc main_arg1)
abbrev DP : FVec Ideal S2x2048x12288 .f32 := m ((c : Thread nD τ).loc main_arg2)

/-- The example and the rows a point works on, and the columns of the parts it takes. -/
def bt (t : Fin cfg0.N) : Fin 2 := ⟨t.val / 12, by have : t.val < 24 := t.isLt; omega⟩
def row (t : Fin cfg0.N) (r : Fin 1024) : Fin 2048 := ⟨t.val % 12 / 6 * 1024 + r.val, by have := r.isLt; omega⟩
def col (t : Fin cfg0.N) (l : Fin 2048) : Fin 12288 := ⟨t.val % 6 * 2048 + l.val, by have := l.isLt; omega⟩
/-- The columns of the first part and of the second, and of the four units of the weight. -/
def lo (l : Fin 1024) : Fin 2048 := ⟨l.val, by have := l.isLt; omega⟩
def hi (l : Fin 1024) : Fin 2048 := ⟨1024 + l.val, by have := l.isLt; omega⟩
def un (s : Fin 4) (l : Fin 512) : Fin 2048 := ⟨s.val * 512 + l.val, by have := l.isLt; have := s.isLt; omega⟩

theorem blk0 (t : Fin cfg0.N) (a b : Fin 1) (r l : Fin 1024) : iblk m c 0 t (ix4 a b r l) = DP m c (ix3 (bt t) (row t r) (col t (lo l))) := by
  unfold iblk
  blk_simp [idx t]
  entry_read
  pointwise
  blk_ext [idx t, bt, row, col, lo]
theorem blk1 (t : Fin cfg0.N) (a b : Fin 1) (r l : Fin 1024) : iblk m c 1 t (ix4 a b r l) = DP m c (ix3 (bt t) (row t r) (col t (hi l))) := by
  unfold iblk
  blk_simp [idx t]
  entry_read
  pointwise
  blk_ext [idx t, bt, row, col, hi]
theorem blk2 (t : Fin cfg0.N) (a : Fin 1) (k : Fin 1024) (l : Fin 512) : iblk m c 2 t (ix3 a k l) = WI m c (ix2 k (col t (un 0 l))) := by
  unfold iblk
  blk_simp [idx t]
  entry_read
  pointwise
  blk_ext [idx t, col, un]
theorem blk3 (t : Fin cfg0.N) (a : Fin 1) (k : Fin 1024) (l : Fin 512) : iblk m c 3 t (ix3 a k l) = WI m c (ix2 k (col t (un 1 l))) := by
  unfold iblk
  blk_simp [idx t]
  entry_read
  pointwise
  blk_ext [idx t, col, un]
theorem blk4 (t : Fin cfg0.N) (a : Fin 1) (k : Fin 1024) (l : Fin 512) : iblk m c 4 t (ix3 a k l) = WI m c (ix2 k (col t (un 2 l))) := by
  unfold iblk
  blk_simp [idx t]
  entry_read
  pointwise
  blk_ext [idx t, col, un]
theorem blk5 (t : Fin cfg0.N) (a : Fin 1) (k : Fin 1024) (l : Fin 512) : iblk m c 5 t (ix3 a k l) = WI m c (ix2 k (col t (un 3 l))) := by
  unfold iblk
  blk_simp [idx t]
  entry_read
  pointwise
  blk_ext [idx t, col, un]

/-- Two units of the weight side by side, read at a column. -/
theorem cat_at (v w : FVec Ideal S1024x512 .bf16) (f : Fin 1024 → EReal) (k l : Fin 1024)
    (h1 : ∀ (s : Fin 512), s.val = l.val → v (ix2 k s) = f l) (h2 : ∀ (s : Fin 512), s.val + 512 = l.val → w (ix2 k s) = f l) :
    concatenate S1024x1024 1 [⟨S1024x512, v⟩, ⟨S1024x512, w⟩] concatenates_S1024x512_S1024x512_S1024x1024_d1 (ix2 k l) = f l := by
  pointwise
  split
  · exact h1 _ rfl
  · exact h2 _ (by simp; omega)

/-- A block's own shape, without its leading axes. -/
theorem sq_at (x : FVec Ideal S1x1x1024x1024 .bf16) (r l : Fin 1024) :
    shapeCast S1024x1024 x shapeCasts_S1x1x1024x1024_S1024x1024 (ix2 r l) = x (ix4 0 0 r l) := by pointwise
theorem un_at (x : FVec Ideal S1x1024x512 .bf16) (k : Fin 1024) (s : Fin 512) :
    shapeCast S1024x512 x shapeCasts_S1x1024x512_S1024x512 (ix2 k s) = x (ix3 0 k s) := by pointwise

/-- A product of two blocks, the second transposed. -/
theorem prod_at (a b : FVec Ideal S1024x1024 .bf16) (r k : Fin 1024) :
    matmul dot_S1024x1024_S1024x1024_S1024x1024_1_1_0_0_n_n none a b (constant (F := Ideal) S1024x1024 .f32 0x00000000#32) (ix2 r k)
      = ∑ l : Fin 1024, a (ix2 r l) * b (ix2 k l) := by
  pointwise

/-- A point's two products, summed over the columns of its two parts. -/
theorem part_at (t : Fin cfg0.N) (r k : Fin 1024) :
    k0_pay1 (F := Ideal) (iblk m c 0 t) (iblk m c 2 t) (iblk m c 3 t) (iblk m c 1 t) (iblk m c 4 t) (iblk m c 5 t) (ix2 r k)
      = ∑ l : Fin 2048, DP m c (ix3 (bt t) (row t r) (col t l)) * WI m c (ix2 k (col t l)) := by
  unfold k0_pay1
  refine (congrArg₂ (· + ·) (prod_at _ _ r k) (prod_at _ _ r k)).trans ?_
  refine Eq.trans ?_ (Fin.sum_mul_add_fin 2 1024 (fun l : Fin 2048 => DP m c (ix3 (bt t) (row t r) (col t l)) * WI m c (ix2 k (col t l))) rfl)
  rw [Fin.sum_univ_two]
  refine congrArg₂ (· + ·) (Finset.sum_congr rfl fun l _ => ?_) (Finset.sum_congr rfl fun l _ => ?_)
  · have e : (⟨(0 : Fin 2).val * 1024 + l.val, by have := l.isLt; show 0 * 1024 + l.val < 2048; omega⟩ : Fin 2048) = lo l := Fin.ext (by show 0 * 1024 + l.val = l.val; omega)
    have d : shapeCast S1024x1024 (iblk m c 0 t) shapeCasts_S1x1x1024x1024_S1024x1024 (ix2 r l) = DP m c (ix3 (bt t) (row t r) (col t (lo l))) := (sq_at _ r l).trans (blk0 m c t 0 0 r l)
    refine (congrArg₂ (fun p q : EReal => p * q) d (cat_at _ _ (fun l => WI m c (ix2 k (col t (lo l)))) k l (fun s hs => ?_) (fun s hs => ?_))).trans ?_
    · refine (un_at _ k s).trans ((blk2 m c t 0 k s).trans ?_)
      exact congrArg (fun q => WI m c (ix2 k (col t q))) (Fin.ext (by show 0 * 512 + s.val = l.val; omega))
    · refine (un_at _ k s).trans ((blk3 m c t 0 k s).trans ?_)
      exact congrArg (fun q => WI m c (ix2 k (col t q))) (Fin.ext (by show 1 * 512 + s.val = l.val; omega))
    · exact congrArg (fun q => DP m c (ix3 (bt t) (row t r) (col t q)) * WI m c (ix2 k (col t q))) e.symm
  · have e : (⟨(1 : Fin 2).val * 1024 + l.val, by have := l.isLt; show 1 * 1024 + l.val < 2048; omega⟩ : Fin 2048) = hi l := Fin.ext (by show 1 * 1024 + l.val = 1024 + l.val; omega)
    have d : shapeCast S1024x1024 (iblk m c 1 t) shapeCasts_S1x1x1024x1024_S1024x1024 (ix2 r l) = DP m c (ix3 (bt t) (row t r) (col t (hi l))) := (sq_at _ r l).trans (blk1 m c t 0 0 r l)
    refine (congrArg₂ (fun p q : EReal => p * q) d (cat_at _ _ (fun l => WI m c (ix2 k (col t (hi l)))) k l (fun s hs => ?_) (fun s hs => ?_))).trans ?_
    · refine (un_at _ k s).trans ((blk4 m c t 0 k s).trans ?_)
      exact congrArg (fun q => WI m c (ix2 k (col t q))) (Fin.ext (by show 2 * 512 + s.val = 1024 + l.val; omega))
    · refine (un_at _ k s).trans ((blk5 m c t 0 k s).trans ?_)
      exact congrArg (fun q => WI m c (ix2 k (col t q))) (Fin.ext (by show 3 * 512 + s.val = 1024 + l.val; omega))
    · exact congrArg (fun q => DP m c (ix3 (bt t) (row t r) (col t q)) * WI m c (ix2 k (col t q))) e.symm

theorem emb7 (t : Fin cfg0.N) (y : S1x1024x1024.Idx) : ((cfg0.win 7).blk t).view.emb y = ix3 (bt t) (row t (y 1)) (y 2) := by
  blk_ext [idx t, bt, row]

/-- The six points of a block of rows. -/
theorem bt_run (t : Fin cfg0.N) (s : Fin 6) (h) : bt ⟨6 * (t.val / 6) + s.val, h⟩ = bt t := by
  apply Fin.ext; have := s.isLt; simp only [bt]; omega
theorem row_run (t : Fin cfg0.N) (s : Fin 6) (h) (r : Fin 1024) : row ⟨6 * (t.val / 6) + s.val, h⟩ r = row t r := by
  apply Fin.ext; have := s.isLt; simp only [row]; omega
theorem col_run (t : Fin cfg0.N) (s : Fin 6) (h) (l : Fin 2048) (h') : col ⟨6 * (t.val / 6) + s.val, h⟩ l = ⟨s.val * 2048 + l.val, h'⟩ := by
  apply Fin.ext; have := s.isLt; simp only [col]; omega

/-- A block of rows' six points add their products, the last writes the sum. -/
theorem final7 : (dats m 0 c).arrAt 7 (cfgs 0).N = KH (WI m c) (DP m c) := by
  refine (dats m 0 c).arrAt_eq_of_covers 7 _ (by decide +kernel) fun t hf y => ?_
  blk_simp
  rw [after0_7]
  have h7 := Pipeline.eq_sum_fin_of_reset_step_apply_of_flush (fun n h => outsAt0 m c n h) 6 (fun _ => (0 : EReal))
    (fun t j => ∑ l : Fin 2048, DP m c (ix3 (bt t) (row t (j 1)) (col t l)) * WI m c (ix2 (j 2) (col t l)))
    (fun t h j => by
      obtain ⟨a, r, k, rfl⟩ : ∃ (a : Fin 1) (r k : Fin 1024), j = ix3 a r k := ⟨_, _, _, eq_ix3 j⟩
      rw [outsAt0_A m c t h (by omega), out_A, zero_add]
      unfold k0_pay2
      pointwise
      exact part_at m c t r k)
    (fun t h j => by
      obtain ⟨a, r, k, rfl⟩ : ∃ (a : Fin 1) (r k : Fin 1024), j = ix3 a r k := ⟨_, _, _, eq_ix3 j⟩
      obtain rfl : a = 0 := Subsingleton.elim _ _
      rw [outsAt0_B m c t h (by omega), out_B]
      unfold k0_pay3
      pointwise
      exact congrArg _ (part_at m c t r k)) t ((flush0_7 t).mp hf) y
  refine h7.trans ?_
  rw [zero_add, emb7]
  unfold KH
  refine Eq.trans ?_ (Fin.sum_mul_add_fin 6 2048 (fun q : Fin 12288 => DP m c (ix3 (bt t) (row t (y 1)) q) * WI m c (ix2 (y 2) q)) rfl)
  refine Finset.sum_congr rfl fun s _ => Finset.sum_congr rfl fun l _ => ?_
  rw [bt_run]
  refine congrArg₂ (fun p q => DP m c (ix3 (bt t) p q) * WI m c (ix2 (y 2) q)) (row_run t s _ _) (col_run t s _ l _)

end Kernel

open Cert.Reference11Ideal Cert.Reference11Ideal.Read Idealize.ShloMosaic.Pointwise in
/-- The reference's result. -/
theorem ref_eq (w : FVec Ideal S1024x12288 .f32) (d : FVec Ideal S2x2048x12288 .f32) : val_main_v1 (F := Ideal) w d = KH w d := by
  funext i
  refine (val_main_v1_apply w d i).trans ?_
  refine Finset.sum_congr rfl fun l _ => congrArg₂ (· * ·) (congrArg d ?_) (congrArg w ?_)
  · blk_ext []
  · blk_ext []

/-- The frame of the reference's program, which declares no semaphore. -/
theorem frame_reference : Cert.quiescent_Reference11Ideal := fun m g _ =>
  (θ_run _ _ _).mono (fun r h => ⟨fun c => (h c).2, sem_eq_zero_of_no_sems (by decide) r.2⟩)
    (Cert.Reference11Ideal.Value.run m g)

open Cert.Kernel11Ideal Cert.Kernel11Ideal.Gen in
/-- The claim about the values, at all arguments. -/
theorem values : Cert.algebraic_Kernel11Ideal_Reference11Ideal := by
  intro m g m' g' hpre hagree
  refine ⟨fun c => KH (WI m c) (DP m c),
    (θ_run _ _ _).mono (fun r h c => ⟨(h c).1.trans (final7 m c), (h c).2⟩) (Cert.Kernel11Ideal.Value.run_blocks m g),
    (θ_run _ _ _).mono (fun r h c => ⟨(h c).1.trans ?_, (h c).2⟩) (Cert.Reference11Ideal.Value.run m' g')⟩
  obtain ⟨a0, a1, a2⟩ := hagree c
  rw [a1, a2]
  exact (Cert.Reference11Ideal.Read.val_main_v1_eq (F := Ideal) (WI m c) (DP m c)).trans (ref_eq _ _)

end Cert.InBackH
-- ==== Proof.InBackW.lean ====
/-
  The gradient of the input projection's weight: what the kernel and the reference leave in it, and the two programs'
  runs. Two points of the kernel, one per example, make the 1024 columns of a part; the sum is kept between them.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InBackW

/-- The transposed rows times the incoming gradient, in units of 512 columns. -/
def KW (h : FVec Ideal Cert.Kernel12Ideal.S2x2048x1024 .f32) (d : FVec Ideal Cert.Kernel12Ideal.S2x2048x12288 .f32) :
    FVec Ideal Cert.Kernel12Ideal.S24x1024x512 .bf16 := fun i =>
  ∑ b : Fin 2, ∑ r : Fin 2048, h (ix3 b r (i 1)) * d (ix3 b r ⟨(i 0).val * 512 + (i 2).val, by
    have h0 : (i 0).val < 24 := (i 0).isLt; have h2 : (i 2).val < 512 := (i 2).isLt; omega⟩)

section Kernel
open Cert.Kernel12Ideal Cert.Kernel12Ideal.Gen Idealize.ShloMosaic.Pointwise

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

section Cases
variable (c : Dev nD) (i : grid0.Coords) (a3 : Memref sig .tc .vmem S1x2048x1024 .bf16) (h3 : a3.IsWhole) (a4 : Memref sig .tc .vmem S1x1x2048x1024 .bf16) (h4 : a4.IsWhole) (a5 : Memref sig .tc .vmem S8x128 .f32) (h5 : a5.IsWhole) (a6 : Memref sig .tc .vmem S2x1024x512 .bf16) (h6 : a6.IsWhole) (a7 : Memref sig .tc .vmem S1024x1024 .f32) (h7 : a7.IsWhole)
variable (x0 : Vec Ideal S1x2048x1024 .bf16) (x1 : Vec Ideal S1x1x2048x1024 .bf16) (x2 : Vec Ideal S8x128 .f32)

/-- The first point of a part leaves its product in the running sum. -/
theorem sum_A (hc0 : cond0_0 i) (hc1 : ¬cond0_1 i) :
    sout0_A_0 c i a3 h3 a4 h4 a5 h5 a6 h6 a7 h7 hc0 hc1 x0 x1 x2 = k0_pay2 (k0_pay1 (F := Ideal)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h3.read_unread, h4.read_unread,
    View.ld_unit_zero (S := S1x2048x1024) hz3, View.ld_unit_zero (S := S1x1x2048x1024) hz4]

/-- The two units of a part of 1024 columns. -/
def half (s : Fin 2) (k : Fin 512) : Fin 1024 := ⟨s.val * 512 + k.val, by have := s.isLt; have := k.isLt; omega⟩
def halves (v : Vec Ideal S1024x1024 .f32) : Vec Ideal S2x1024x512 .bf16 := fun i => v (ix2 (i 1) (half (i 0) (i 2)))

/-- The second point adds its product and writes the sum's two halves. -/
theorem out_B (hc0 : ¬cond0_0 i) (hc1 : cond0_1 i) (y : Vec Ideal S1024x1024 .f32) :
    out0_B_3 c i a3 h3 a4 h4 a5 h5 a6 h6 a7 h7 hc0 hc1 x0 x1 x2 y = halves (k0_pay2 y x0 x1) := by
  unfold out0_B_3
  rw [View.read_writes_eq_canon _ _ _ (cover0_B_3 c i a3 h3 a4 h4 a5 h5 a6 h6 a7 h7 hc0 hc1 x0 x1 x2 y)]
  funext j
  refine View.canon_eq_of_allAt _ j _ (cover0_B_3 c i a3 h3 a4 h4 a5 h5 a6 h6 a7 h7 hc0 hc1 x0 x1 x2 y j) ?_
  unfold kernelRun0_B
  dsimp only
  sl_unfold_words
  simp only [View.readAt_eq_ld, h3.read_unread, h4.read_unread, h7.read_unread,
    View.ld_unit_zero (S := S1x2048x1024) hz3, View.ld_unit_zero (S := S1x1x2048x1024) hz4, View.ld_unit_zero (S := S1024x1024) hz2]
  refine View.allAt_cons_unit _ _ _ _ _ ?_ (View.allAt_cons_unit _ _ _ _ _ ?_ (View.allAt_nil _ _))
  · intro x hx
    obtain ⟨a, r, k, rfl⟩ : ∃ (a : Fin 1) (r : Fin 1024) (k : Fin 512), x = ix3 a r k := ⟨_, _, _, eq_ix3 x⟩
    have e0 : (j 0).val = 1 + a.val := hx 0
    have e1 : (j 1).val = 0 + r.val := hx 1
    have e2 : (j 2).val = 0 + k.val := hx 2
    have ha : a.val = 0 := Nat.lt_one_iff.mp a.isLt
    rw [View.readCov_eq_canon_ld _ _ _ (fun z => View.cover_of_tiledL _ S1024x1024.size (by sl_kernel_rfl) z), View.canon_unit_zero (S := S1024x1024) hz2]
    unfold k0_pay4
    pointwise
    refine congrArg (k0_pay2 y x0 x1) (congrArg₂ ix2 (Fin.ext ?_) (Fin.ext ?_))
    · show r.val = (j 1).val
      omega
    · show 512 + k.val = (j 0).val * 512 + (j 2).val
      omega
  · intro x hx
    obtain ⟨a, r, k, rfl⟩ : ∃ (a : Fin 1) (r : Fin 1024) (k : Fin 512), x = ix3 a r k := ⟨_, _, _, eq_ix3 x⟩
    have e0 : (j 0).val = 0 + a.val := hx 0
    have e1 : (j 1).val = 0 + r.val := hx 1
    have e2 : (j 2).val = 0 + k.val := hx 2
    have ha : a.val = 0 := Nat.lt_one_iff.mp a.isLt
    rw [View.readCov_eq_canon_ld _ _ _ (fun z => View.cover_of_tiledL _ S1024x1024.size (by sl_kernel_rfl) z), View.canon_unit_zero (S := S1024x1024) hz2]
    unfold k0_pay3
    pointwise
    refine congrArg (k0_pay2 y x0 x1) (congrArg₂ ix2 (Fin.ext ?_) (Fin.ext ?_))
    · show r.val = (j 1).val
      omega
    · show k.val = (j 0).val * 512 + (j 2).val
      omega
end Cases

variable (m : (ℓ : Loc nD τ sig) → Buf (Elt Ideal) ℓ) (c : Dev nD)

/-- Where each window's block lies at a point. -/
theorem idx : ∀ t : Fin cfg0.N, win0_0.index t = ![t.val % 2, 0, 0] ∧ win0_1.index t = ![t.val / 2, t.val % 2, 0, 0]
    ∧ win0_3.index t = ![t.val / 2, 0, 0] := by decide +kernel

abbrev HH : FVec Ideal S2x2048x1024 .f32 := m ((c : Thread nD τ).loc main_arg0)
abbrev DP : FVec Ideal S2x2048x12288 .f32 := m ((c : Thread nD τ).loc main_arg2)

/-- The example a point works on, and the columns of its part. -/
def bt (t : Fin cfg0.N) : Fin 2 := ⟨t.val % 2, by omega⟩
def col (t : Fin cfg0.N) (l : Fin 1024) : Fin 12288 := ⟨t.val / 2 * 1024 + l.val, by have := l.isLt; have : t.val < 24 := t.isLt; omega⟩
def unit (t : Fin cfg0.N) (s : Fin 2) : Fin 24 := ⟨t.val / 2 * 2 + s.val, by have := s.isLt; have : t.val < 24 := t.isLt; omega⟩

theorem blk0 (t : Fin cfg0.N) (a : Fin 1) (r : Fin 2048) (l : Fin 1024) : iblk m c 0 t (ix3 a r l) = HH m c (ix3 (bt t) r l) := by
  unfold iblk
  blk_simp [idx t]
  entry_read
  pointwise
  blk_ext [idx t, bt]
theorem blk1 (t : Fin cfg0.N) (a b : Fin 1) (r : Fin 2048) (l : Fin 1024) : iblk m c 1 t (ix4 a b r l) = DP m c (ix3 (bt t) r (col t l)) := by
  unfold iblk
  blk_simp [idx t]
  entry_read
  pointwise
  blk_ext [idx t, bt, col]

/-- What a point adds to the running sum. -/
theorem acc_at (y : Vec Ideal S1024x1024 .f32) (x0 : Vec Ideal S1x2048x1024 .bf16) (x1 : Vec Ideal S1x1x2048x1024 .bf16) (a k : Fin 1024) :
    k0_pay2 (F := Ideal) y x0 x1 (ix2 a k) = y (ix2 a k) + ∑ r : Fin 2048, x0 (ix3 0 r a) * x1 (ix4 0 0 r k) := by
  unfold k0_pay2
  pointwise
theorem zero_at (i : S1024x1024.Idx) : k0_pay1 (F := Ideal) i = (0 : EReal) := by unfold k0_pay1; pointwise

theorem emb3 (t : Fin cfg0.N) (y : S2x1024x512.Idx) : (win0_3.blk t).view.emb y = ix3 (unit t (y 0)) (y 1) (y 2) := by
  blk_ext [idx t, unit]

/-- The second point of a part writes the sum of both examples' products. -/
theorem final3 : (dats m 0 c).arrAt 3 (cfgs 0).N = KW (HH m c) (DP m c) := by
  refine (dats m 0 c).arrAt_eq_of_covers 3 _ (by decide +kernel) fun t hf y => ?_
  have h1 : t.val % 2 = 1 := (flush0_3 t).mp hf
  have hN : t.val < 24 := t.isLt
  have ht : t.val - 1 < cfg0.N := Nat.lt_of_le_of_lt (Nat.sub_le _ _) t.isLt
  blk_simp
  rw [after0_3]
  rw [show (win0_3.blk t).view.emb y = _ from emb3 t y]
  obtain ⟨s, k, l, rfl⟩ : ∃ (s : Fin 2) (k : Fin 1024) (l : Fin 512), y = ix3 s k l := ⟨_, _, _, eq_ix3 y⟩
  rw [outsAt0_B m c t (by omega) h1]
  dsimp only
  rw [out_B, outsAt0_A m c ⟨t.val - 1, ht⟩ (by show (t.val - 1) % 2 = 0; omega) (by show ¬(t.val - 1) % 2 = 1; omega)]
  dsimp only
  rw [sum_A]
  refine (acc_at _ _ _ k (half s l)).trans ?_
  rw [acc_at, zero_at, zero_add]
  simp only [blk0, blk1]
  refine Eq.trans ?_ (Fin.sum_univ_two _).symm
  have e0 : bt ⟨t.val - 1, ht⟩ = 0 := Fin.ext (by show (t.val - 1) % 2 = 0; omega)
  have e1 : bt t = 1 := Fin.ext (by show t.val % 2 = 1; omega)
  rw [e0, e1]
  refine congrArg₂ (· + ·) (Finset.sum_congr rfl fun r _ => ?_) (Finset.sum_congr rfl fun r _ => ?_)
  · refine congrArg (fun q => HH m c (ix3 0 r k) * DP m c (ix3 0 r q)) (Fin.ext ?_)
    show (t.val - 1) / 2 * 1024 + (s.val * 512 + l.val) = (t.val / 2 * 2 + s.val) * 512 + l.val
    omega
  · refine congrArg (fun q => HH m c (ix3 1 r k) * DP m c (ix3 1 r q)) (Fin.ext ?_)
    show t.val / 2 * 1024 + (s.val * 512 + l.val) = (t.val / 2 * 2 + s.val) * 512 + l.val
    omega

end Kernel

open Cert.Reference12Ideal Cert.Reference12Ideal.Read Idealize.ShloMosaic.Pointwise in
/-- The reference's result. -/
theorem ref_eq (h : FVec Ideal S2x2048x1024 .f32) (d : FVec Ideal S2x2048x12288 .f32) : val_main_v5 (F := Ideal) h d = KW h d := by
  funext i
  obtain ⟨s, k, l, rfl⟩ : ∃ (s : Fin 24) (k : Fin 1024) (l : Fin 512), i = ix3 s k l := ⟨_, _, _, eq_ix3 i⟩
  unfold val_main_v5 val_main_v4 val_main_v3 val_main_v2 val_main_v1
  pointwise
  exact Finset.sum_congr rfl fun b _ => Finset.sum_congr rfl fun r _ => mul_comm _ _

/-- The frame of the reference's program, which declares no semaphore. -/
theorem frame_reference : Cert.quiescent_Reference12Ideal := fun m g _ =>
  (θ_run _ _ _).mono (fun r h => ⟨fun c => (h c).2, sem_eq_zero_of_no_sems (by decide) r.2⟩)
    (Cert.Reference12Ideal.Value.run m g)

open Cert.Kernel12Ideal Cert.Kernel12Ideal.Gen in
/-- The claim about the values, at all arguments. -/
theorem values : Cert.algebraic_Kernel12Ideal_Reference12Ideal := by
  intro m g m' g' hpre hagree
  refine ⟨fun c => KW (HH m c) (DP m c),
    (θ_run _ _ _).mono (fun r h c => ⟨(h c).1.trans (final3 m c), (h c).2⟩) (Cert.Kernel12Ideal.Value.run_blocks m g),
    (θ_run _ _ _).mono (fun r h c => ⟨(h c).1.trans ?_, (h c).2⟩) (Cert.Reference12Ideal.Value.run m' g')⟩
  obtain ⟨a0, a1, a2⟩ := hagree c
  rw [a0, a2]
  exact (Cert.Reference12Ideal.Read.val_main_v5_eq (F := Ideal) (HH m c) (DP m c)).trans (ref_eq _ _)

end Cert.InBackW
-- ==== Proof.AdamRun.lean ====
/-
  The optimiser's step on a layer's modulation weight: what the kernel and the reference leave in the four arrays, and
  the two programs' runs.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamRun

section Kernel
open Cert.Kernel13Ideal Cert.Kernel13Ideal.Gen Cert.Reference13Ideal.Read Idealize.ShloMosaic.Pointwise

variable (m : (ℓ : Loc nD τ sig) → Buf (Elt Ideal) ℓ) (c : Dev nD)

/-- Where each window's block lies at a point. -/
theorem idx : ∀ t : Fin cfg0.N, win0_0.index t = ![0, 0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

abbrev GR : FVec Ideal S4096x384 .f32 := m ((c : Thread nD τ).loc main_arg0)
abbrev WE : FVec Ideal S4096x384 .f32 := m ((c : Thread nD τ).loc main_arg1)
abbrev MO : FVec Ideal S4096x384 .f32 := m ((c : Thread nD τ).loc main_arg2)
abbrev VA : FVec Ideal S4096x384 .f32 := m ((c : Thread nD τ).loc main_arg3)

/-- The row of the array that row `r` of a point's block is. -/
def row (t : Fin cfg0.N) (r : Fin 512) : Fin 4096 := ⟨t.val * 512 + r.val, by have := r.isLt; have : t.val < 8 := t.isLt; omega⟩

theorem blk0 (t : Fin cfg0.N) (a b : Fin 1) (r : Fin 512) (k : Fin 384) : iblk m c 0 t (ix4 a b r k) = GR m c (ix2 (row t r) k) := by
  unfold iblk
  blk_simp [idx t]
  entry_read
  pointwise
  blk_ext [idx t, row]
theorem blk1 (t : Fin cfg0.N) (r : Fin 512) (k : Fin 384) : iblk m c 1 t (ix2 r k) = WE m c (ix2 (row t r) k) := by
  blk_ext [iblk, V, idx t, row]
theorem blk2 (t : Fin cfg0.N) (r : Fin 512) (k : Fin 384) : iblk m c 2 t (ix2 r k) = MO m c (ix2 (row t r) k) := by
  blk_ext [iblk, V, idx t, row]
theorem blk3 (t : Fin cfg0.N) (r : Fin 512) (k : Fin 384) : iblk m c 3 t (ix2 r k) = VA m c (ix2 (row t r) k) := by
  blk_ext [iblk, V, idx t, row]
theorem emb4 (t : Fin cfg0.N) (y : S512x384.Idx) : (win0_4.blk t).view.emb y = ix2 (row t (y 0)) (y 1) := by
  blk_ext [idx t, row]
theorem emb5 (t : Fin cfg0.N) (y : S512x384.Idx) : (win0_5.blk t).view.emb y = ix2 (row t (y 0)) (y 1) := by
  blk_ext [idx t, row]
theorem emb6 (t : Fin cfg0.N) (y : S512x384.Idx) : (win0_6.blk t).view.emb y = ix2 (row t (y 0)) (y 1) := by
  blk_ext [idx t, row]
theorem emb7 (t : Fin cfg0.N) (y : S512x384.Idx) : (win0_7.blk t).view.emb y = ix2 (row t (y 0)) (y 1) := by
  blk_ext [idx t, row]

theorem hz2 : (![0, 0] : Fin 2 → ℕ) = fun _ => 0 := by decide
theorem hz4 : (![0, 0, 0, 0] : Fin 4 → ℕ) = fun _ => 0 := by decide

/-- Every point writes its rows. -/
theorem final4 : (dats m 0 c).arrAt 4 (cfgs 0).N = GR m c := by
  refine (dats m 0 c).arrAt_eq_of_covers 4 _ (by decide +kernel) fun t hf y => ?_
  blk_simp
  rw [after0_4]
  unfold out0_4
  rw [View.canon_unit_zero (S := S512x384) hz2, View.ld_unit_zero (S := S1x1x512x384) hz4]
  rw [show (win0_4.blk t).view.emb y = _ from emb4 t y]
  obtain ⟨r, k, rfl⟩ : ∃ (r : Fin 512) (k : Fin 384), y = ix2 r k := ⟨_, _, eq_ix2 y⟩
  unfold k0_pay1
  pointwise
  simp only [blk0, blk1, blk2, blk3]

/-- Every point writes its rows. -/
theorem final6 : (dats m 0 c).arrAt 6 (cfgs 0).N = val_main_v4 (F := Ideal) (GR m c) (MO m c) := by
  refine (dats m 0 c).arrAt_eq_of_covers 6 _ (by decide +kernel) fun t hf y => ?_
  blk_simp
  rw [after0_6]
  unfold out0_6
  rw [View.canon_unit_zero (S := S512x384) hz2, View.ld_unit_zero (S := S1x1x512x384) hz4, View.ld_unit_zero (S := S512x384) hz2]
  rw [show (win0_6.blk t).view.emb y = _ from emb6 t y]
  obtain ⟨r, k, rfl⟩ : ∃ (r : Fin 512) (k : Fin 384), y = ix2 r k := ⟨_, _, eq_ix2 y⟩
  unfold k0_pay2 k0_pay1
  unfold val_main_v4 val_main_v3 val_main_v2 val_main_v1 val_main_v0 val_main_cst val_main_cst_0
  pointwise
  simp only [blk0, blk1, blk2, blk3]

/-- Every point writes its rows. -/
theorem final7 : (dats m 0 c).arrAt 7 (cfgs 0).N = val_main_v10 (F := Ideal) (GR m c) (VA m c) := by
  refine (dats m 0 c).arrAt_eq_of_covers 7 _ (by decide +kernel) fun t hf y => ?_
  blk_simp
  rw [after0_7]
  unfold out0_7
  rw [View.canon_unit_zero (S := S512x384) hz2, View.ld_unit_zero (S := S1x1x512x384) hz4, View.ld_unit_zero (S := S512x384) hz2]
  rw [show (win0_7.blk t).view.emb y = _ from emb7 t y]
  obtain ⟨r, k, rfl⟩ : ∃ (r : Fin 512) (k : Fin 384), y = ix2 r k := ⟨_, _, eq_ix2 y⟩
  unfold k0_pay3 k0_pay1
  unfold val_main_v10 val_main_v9 val_main_v8 val_main_v7 val_main_v6 val_main_v5 val_main_cst_1 val_main_cst_2
  pointwise
  simp only [blk0, blk1, blk2, blk3]

/-- Every point writes its rows. -/
theorem final5 : (dats m 0 c).arrAt 5 (cfgs 0).N = val_main_v23 (F := Ideal) (GR m c) (WE m c) (MO m c) (VA m c) := by
  refine (dats m 0 c).arrAt_eq_of_covers 5 _ (by decide +kernel) fun t hf y => ?_
  blk_simp
  rw [after0_5]
  unfold out0_5
  rw [View.canon_unit_zero (S := S512x384) hz2, View.ld_unit_zero (S := S1x1x512x384) hz4, View.ld_unit_zero (S := S512x384) hz2, View.ld_unit_zero (S := S512x384) hz2,
    View.ld_unit_zero (S := S512x384) hz2]
  rw [show (win0_5.blk t).view.emb y = _ from emb5 t y]
  obtain ⟨r, k, rfl⟩ : ∃ (r : Fin 512) (k : Fin 384), y = ix2 r k := ⟨_, _, eq_ix2 y⟩
  unfold k0_pay4 k0_pay3 k0_pay2 k0_pay1
  unfold val_main_v23 val_main_v22 val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0 val_main_cst val_main_cst_0 val_main_cst_1
    val_main_cst_2 val_main_cst_3 val_main_cst_4 val_main_cst_5 val_main_cst_6 val_main_cst_7
  pointwise
  simp only [blk0, blk1, blk2, blk3]

end Kernel

/-- The frame of the reference's program, which declares no semaphore. -/
theorem frame_reference : Cert.quiescent_Reference13Ideal := fun m g _ =>
  (θ_run _ _ _).mono (fun r h => ⟨fun c => (h c).2.2.2.2, sem_eq_zero_of_no_sems (by decide) r.2⟩)
    (Cert.Reference13Ideal.Value.run m g)

open Cert.Kernel13Ideal Cert.Kernel13Ideal.Gen Cert.Reference13Ideal.Read in
/-- The claim about the values, at all arguments: the gradient carried along, the update and the two moments. -/
theorem values : Cert.algebraic_Kernel13Ideal_Reference13Ideal := by
  intro m g m' g' hpre hagree
  refine ⟨fun c => GR m c, fun c => val_main_v23 (F := Ideal) (GR m c) (WE m c) (MO m c) (VA m c),
    fun c => val_main_v4 (F := Ideal) (GR m c) (MO m c), fun c => val_main_v10 (F := Ideal) (GR m c) (VA m c),
    (θ_run _ _ _).mono (fun r h c => ?_) (Cert.Kernel13Ideal.Value.run_blocks m g),
    (θ_run _ _ _).mono (fun r h c => ?_) (Cert.Reference13Ideal.Value.run m' g')⟩
  · obtain ⟨h0, h1, h2, h3, h⟩ := h c
    exact ⟨h0.trans (final4 m c), h1.trans (final5 m c), h2.trans (final6 m c), h3.trans (final7 m c), h⟩
  · obtain ⟨h0, h1, h2, h3, h⟩ := h c
    obtain ⟨a0, a1, a2, a3⟩ := hagree c
    refine ⟨h0.trans a0, h1.trans ?_, h2.trans ?_, h3.trans ?_, h⟩
    · rw [a0, a1, a2, a3]
      exact val_main_v23_eq (F := Ideal) (GR m c) (WE m c) (MO m c) (VA m c)
    · rw [a0, a2]
      exact val_main_v4_eq (F := Ideal) (GR m c) (MO m c)
    · rw [a0, a3]
      exact val_main_v10_eq (F := Ideal) (GR m c) (VA m c)

end Cert.AdamRun
-- ==== Proof.SumRun.lean ====
/-
  The sum of eight devices' gradients of the gains and the optimiser's step on them: what the kernel and the reference
  leave in the four arrays, and the two programs' runs.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SumRun

section Kernel
open Cert.Kernel14Ideal Cert.Kernel14Ideal.Gen Cert.Reference14Ideal.Read Idealize.ShloMosaic.Pointwise

variable (m : (ℓ : Loc nD τ sig) → Buf (Elt Ideal) ℓ) (c : Dev nD)

/-- Where each window's block lies. -/
theorem idx : ∀ t : Fin cfg0.N, win0_0.index t = ![0, 0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by decide +kernel

abbrev GR : FVec Ideal S8x5x1024 .f32 := m ((c : Thread nD τ).loc main_arg0)
abbrev WE : FVec Ideal S5x1024 .f32 := m ((c : Thread nD τ).loc main_arg1)
abbrev MO : FVec Ideal S5x1024 .f32 := m ((c : Thread nD τ).loc main_arg2)
abbrev VA : FVec Ideal S5x1024 .f32 := m ((c : Thread nD τ).loc main_arg3)

theorem blk0 (t : Fin cfg0.N) (d : Fin 8) (r : Fin 5) (k : Fin 1024) : iblk m c 0 t (ix4 d 0 r k) = GR m c (ix3 d r k) := by
  unfold iblk
  blk_simp [idx t]
  entry_read
  pointwise
  blk_ext [idx t]
theorem blk1 (t : Fin cfg0.N) (r : Fin 5) (k : Fin 1024) : iblk m c 1 t (ix2 r k) = WE m c (ix2 r k) := by
  blk_ext [iblk, V, idx t]
theorem blk2 (t : Fin cfg0.N) (r : Fin 5) (k : Fin 1024) : iblk m c 2 t (ix2 r k) = MO m c (ix2 r k) := by
  blk_ext [iblk, V, idx t]
theorem blk3 (t : Fin cfg0.N) (r : Fin 5) (k : Fin 1024) : iblk m c 3 t (ix2 r k) = VA m c (ix2 r k) := by
  blk_ext [iblk, V, idx t]
theorem emb4 (t : Fin cfg0.N) (y : S5x1024.Idx) : (win0_4.blk t).view.emb y = y := by
  blk_ext [idx t]
theorem emb5 (t : Fin cfg0.N) (y : S5x1024.Idx) : (win0_5.blk t).view.emb y = y := by
  blk_ext [idx t]
theorem emb6 (t : Fin cfg0.N) (y : S5x1024.Idx) : (win0_6.blk t).view.emb y = y := by
  blk_ext [idx t]
theorem emb7 (t : Fin cfg0.N) (y : S5x1024.Idx) : (win0_7.blk t).view.emb y = y := by
  blk_ext [idx t]

/-- The body's sum of the parts is the reference's sum over the devices. -/
theorem sum_at (t : Fin cfg0.N) (r : Fin 5) (k : Fin 1024) :
    k0_pay5 (iblk m c 0 t) (iblk m c 1 t) (iblk m c 2 t) (iblk m c 3 t) (ix2 r k) = val_main_v0 (F := Ideal) (GR m c) (ix2 r k) := by
  rw [val_main_v0_apply, Fin.sum_univ_eight]
  unfold k0_pay5 k0_pay4
  pointwise
  simp only [blk0]
  rw [show val_main_cst (F := Ideal) (Shape.Idx.first Cert.Reference14Ideal.Gen.h_S_) = (0 : EReal) from by unfold val_main_cst; pointwise, zero_add]
  have e : ∀ d : Fin 8, idx_main_v0 (ix2 r k) d = ix3 d r k := fun d => funext fun a => Fin.ext (by match a with | ⟨0, _⟩ => rfl | ⟨1, _⟩ => rfl | ⟨2, _⟩ => rfl)
  simp only [e]

theorem hz2 : (![0, 0] : Fin 2 → ℕ) = fun _ => 0 := by decide

/-- Every point writes its rows. -/
theorem final4 : (dats m 0 c).arrAt 4 (cfgs 0).N = val_main_v0 (F := Ideal) (GR m c) := by
  refine (dats m 0 c).arrAt_eq_of_covers 4 _ (by decide +kernel) fun t hf y => ?_
  blk_simp
  rw [after0_4]
  unfold out0_4
  rw [View.canon_unit_zero (S := S5x1024) hz2]
  rw [show (win0_4.blk t).view.emb y = _ from emb4 t y]
  obtain ⟨r, k, rfl⟩ : ∃ (r : Fin 5) (k : Fin 1024), y = ix2 r k := ⟨_, _, eq_ix2 y⟩
  exact sum_at m c t r k

/-- Every point writes its rows. -/
theorem final6 : (dats m 0 c).arrAt 6 (cfgs 0).N = val_main_v5 (F := Ideal) (GR m c) (MO m c) := by
  refine (dats m 0 c).arrAt_eq_of_covers 6 _ (by decide +kernel) fun t hf y => ?_
  blk_simp
  rw [after0_6]
  unfold out0_6
  rw [View.canon_unit_zero (S := S5x1024) hz2, View.ld_unit_zero (S := S5x1024) hz2]
  rw [show (win0_6.blk t).view.emb y = _ from emb6 t y]
  obtain ⟨r, k, rfl⟩ : ∃ (r : Fin 5) (k : Fin 1024), y = ix2 r k := ⟨_, _, eq_ix2 y⟩
  unfold k0_pay1
  unfold val_main_v5 val_main_v4 val_main_v3 val_main_v2 val_main_v1 val_main_cst_0 val_main_cst_1
  pointwise
  simp only [sum_at, blk1, blk2, blk3]

/-- Every point writes its rows. -/
theorem final7 : (dats m 0 c).arrAt 7 (cfgs 0).N = val_main_v11 (F := Ideal) (GR m c) (VA m c) := by
  refine (dats m 0 c).arrAt_eq_of_covers 7 _ (by decide +kernel) fun t hf y => ?_
  blk_simp
  rw [after0_7]
  unfold out0_7
  rw [View.canon_unit_zero (S := S5x1024) hz2, View.ld_unit_zero (S := S5x1024) hz2]
  rw [show (win0_7.blk t).view.emb y = _ from emb7 t y]
  obtain ⟨r, k, rfl⟩ : ∃ (r : Fin 5) (k : Fin 1024), y = ix2 r k := ⟨_, _, eq_ix2 y⟩
  unfold k0_pay2
  unfold val_main_v11 val_main_v10 val_main_v9 val_main_v8 val_main_v7 val_main_v6 val_main_cst_2 val_main_cst_3
  pointwise
  simp only [sum_at, blk1, blk2, blk3]

/-- Every point writes its rows. -/
theorem final5 : (dats m 0 c).arrAt 5 (cfgs 0).N = val_main_v24 (F := Ideal) (GR m c) (WE m c) (MO m c) (VA m c) := by
  refine (dats m 0 c).arrAt_eq_of_covers 5 _ (by decide +kernel) fun t hf y => ?_
  blk_simp
  rw [after0_5]
  unfold out0_5
  rw [View.canon_unit_zero (S := S5x1024) hz2, View.ld_unit_zero (S := S5x1024) hz2, View.ld_unit_zero (S := S5x1024) hz2,
    View.ld_unit_zero (S := S5x1024) hz2]
  rw [show (win0_5.blk t).view.emb y = _ from emb5 t y]
  obtain ⟨r, k, rfl⟩ : ∃ (r : Fin 5) (k : Fin 1024), y = ix2 r k := ⟨_, _, eq_ix2 y⟩
  unfold k0_pay3 k0_pay2 k0_pay1
  unfold val_main_v24 val_main_v23 val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_cst_0 val_main_cst_1 val_main_cst_2
    val_main_cst_3 val_main_cst_4 val_main_cst_5 val_main_cst_6 val_main_cst_7 val_main_cst_8
  pointwise
  simp only [sum_at, blk1, blk2, blk3]

end Kernel

/-- The frame of the reference's program, which declares no semaphore. -/
theorem frame_reference : Cert.quiescent_Reference14Ideal := fun m g _ =>
  (θ_run _ _ _).mono (fun r h => ⟨fun c => (h c).2.2.2.2, sem_eq_zero_of_no_sems (by decide) r.2⟩)
    (Cert.Reference14Ideal.Value.run m g)

open Cert.Kernel14Ideal Cert.Kernel14Ideal.Gen Cert.Reference14Ideal.Read in
/-- The claim about the values, at all arguments: the gradient carried along, the update and the two moments. -/
theorem values : Cert.algebraic_Kernel14Ideal_Reference14Ideal := by
  intro m g m' g' hpre hagree
  refine ⟨fun c => val_main_v0 (F := Ideal) (GR m c), fun c => val_main_v24 (F := Ideal) (GR m c) (WE m c) (MO m c) (VA m c),
    fun c => val_main_v5 (F := Ideal) (GR m c) (MO m c), fun c => val_main_v11 (F := Ideal) (GR m c) (VA m c),
    (θ_run _ _ _).mono (fun r h c => ?_) (Cert.Kernel14Ideal.Value.run_blocks m g),
    (θ_run _ _ _).mono (fun r h c => ?_) (Cert.Reference14Ideal.Value.run m' g')⟩
  · obtain ⟨h0, h1, h2, h3, h⟩ := h c
    exact ⟨h0.trans (final4 m c), h1.trans (final5 m c), h2.trans (final6 m c), h3.trans (final7 m c), h⟩
  · obtain ⟨h0, h1, h2, h3, h⟩ := h c
    obtain ⟨a0, a1, a2, a3⟩ := hagree c
    refine ⟨h0.trans ?_, h1.trans ?_, h2.trans ?_, h3.trans ?_, h⟩
    · rw [a0]
      exact val_main_v0_eq (F := Ideal) (GR m c)
    · rw [a0, a1, a2, a3]
      exact val_main_v24_eq (F := Ideal) (GR m c) (WE m c) (MO m c) (VA m c)
    · rw [a0, a2]
      exact val_main_v5_eq (F := Ideal) (GR m c) (MO m c)
    · rw [a0, a3]
      exact val_main_v11_eq (F := Ideal) (GR m c) (VA m c)

end Cert.SumRun
-- ==== Proof.FwdScan.lean ====
/-
  The recurrence of the third mixer's forward pass over real numbers, and the kernel's way to it: within groups of 8 rows
  by doubling, from group to group through the last row.
-/
module

public import proofs.«01_k».proof.Proof.MixWords
public import proofs.«01_k».proof.Proof.Gen.Kernel9Ideal.Loops

@[expose] public section

set_option maxRecDepth 16384

noncomputable section

open Idealize.ShloMosaic Idealize.ShloMosaic.Pointwise

namespace Cert.Kernel9Ideal.Fwd

open Cert.Kernel9Ideal.Gen
open Cert.Kernel2Ideal.Mix (R2 R3 R4 R2_at mulf_R2 addf_R2 subf_R2 sg)

/-- The state before row `s`: 0 before the first row, then `a` times the state before plus `b`. -/
def H (a b : ℕ → ℝ) : ℕ → ℝ
  | 0 => 0
  | s + 1 => a s * H a b s + b s

/-- 16 groups of 8 rows of real numbers. -/
def T3 (f : ℕ → ℕ → Fin 128 → ℝ) : FVec Ideal S16x8x128 .f32 := fun i => ((f (i 0).val (i 1).val (i 2) : ℝ) : EReal)

variable (f g : ℕ → ℕ → Fin 128 → ℝ)

theorem mulf_T3 : mulf (T3 f) (T3 g) = T3 (fun i j l => f i j l * g i j l) := by
  funext i; simp only [T3, EReal.coe_mul]; rfl
theorem addf_T3 : addf (T3 f) (T3 g) = T3 (fun i j l => f i j l + g i j l) := by
  funext i; simp only [T3, EReal.coe_add]; rfl

/-- 128 rows in 16 groups. -/
theorem cast_T3 (f : ℕ → Fin 128 → ℝ) : shapeCast S16x8x128 (R2 (fun (i : Fin 128) l => f i.val l) (φ := .f32)) shapeCasts_S128x128_S16x8x128
    = T3 (fun i j l => f (8 * i + j) l) := by
  funext i
  obtain ⟨x, y, l, rfl⟩ : ∃ (x : Fin 16) (y : Fin 8) (b : Fin 128), i = ix3 x y b := ⟨_, _, _, eq_ix3 i⟩
  have hx := x.isLt
  have hy := y.isLt
  rw [shapeCast_apply (k := ix2 (⟨8 * x.val + y.val, by omega⟩ : Fin 128) l) (hk := by
    rw [Shape.rowMajor_val_two, Shape.rowMajor_val_three]
    show (8 * x.val + y.val) * 128 + l.val = (x.val * 8 + y.val) * 128 + l.val
    omega)]
  rfl

/-- The rows turned down by `d` within their group, with `z` in the first `d`. -/
theorem turn_T3 (d : ℕ) (hd : d < 8) (db : BitVec 32) (hdb : db.toNat = d) (hdi : ∀ j : Fin 8, IntOp.cmpi .sge (BitVec.ofNat 32 j.val) db = if d ≤ j.val then 1#1 else 0#1)
    (z : ℝ) (zw : Ideal .f32) (hz : zw = ((z : ℝ) : EReal)) :
    select (cmpi .sge (iota .tc S16x8x128 32 [1] iota_S16x8x128_d1_w32) (broadcast S16x8x128 db)) (dynamicRotate 1 db none (T3 f) rotates_S16x8x128_d1) (broadcast S16x8x128 zw)
      = T3 (fun i j l => if d ≤ j then f i (j - d) l else z) := by
  subst hz
  funext i
  obtain ⟨x, y, l, rfl⟩ : ∃ (x : Fin 16) (y : Fin 8) (b : Fin 128), i = ix3 x y b := ⟨_, _, _, eq_ix3 i⟩
  have hy := y.isLt
  have hsel : cmpi .sge (iota .tc S16x8x128 32 [1] iota_S16x8x128_d1_w32) (broadcast S16x8x128 db) (ix3 x y l) = if d ≤ y.val then 1#1 else 0#1 := by
    refine Eq.trans ?_ (hdi y)
    pointwise
  show (if _ = 1#1 then _ else _) = _
  rw [hsel]
  by_cases h : d ≤ y.val
  · rw [if_pos h, if_pos rfl, Idealize.ShloMosaic.dynamicRotate_apply (k := ix3 x (⟨y.val - d, by omega⟩ : Fin 8) l)
      (hk := fun a => by
        match a with
        | ⟨0, _⟩ => rfl
        | ⟨1, _⟩ =>
          rw [hdb]
          show y.val - d = (y.val + 8 - d % 8) % 8
          omega
        | ⟨2, _⟩ => rfl)]
    show ((f x.val (y.val - d) l : ℝ) : EReal) = (((if d ≤ y.val then f x.val (y.val - d) l else z) : ℝ) : EReal)
    rw [if_pos h]
  · rw [if_neg h, if_neg (by decide)]
    show ((z : ℝ) : EReal) = (((if d ≤ y.val then f x.val (y.val - d) l else z) : ℝ) : EReal)
    rw [if_neg h]

/-- Group `q`. -/
theorem slice_T3 (q : ℕ) (hq : q < 16) (h) : shapeCast S8x128 (extractStridedSlice S1x8x128 ![q, 0, 0] (T3 f) h) shapeCasts_S1x8x128_S8x128
    = R2 (fun (i : Fin 8) l => f q i.val l) := by
  funext i; obtain ⟨i, l, rfl⟩ : ∃ (a : Fin 8) (b : Fin 128), i = ix2 a b := ⟨_, _, eq_ix2 i⟩
  rw [shapeCast_apply (k := ix3 (0 : Fin 1) i l) (hk := by
      rw [Shape.rowMajor_val_two, Shape.rowMajor_val_three]
      show (0 * 8 + i.val) * 128 + l.val = i.val * 128 + l.val
      omega),
    Idealize.ShloMosaic.extractStridedSlice_apply (k := ix3 (⟨q, hq⟩ : Fin 16) i l)
    (hk := fun a => by match a with | ⟨0, _⟩ => rfl | ⟨1, _⟩ => exact (Nat.zero_add _).symm | ⟨2, _⟩ => exact (Nat.zero_add _).symm)]
  rfl

/-- The last row of a group, and of the rows carried, on every row of a group. -/
theorem last_R2 (f : Fin 8 → Fin 128 → ℝ) : extractStridedSlice S1x128 ![7, 0] (R2 f (φ := .f32)) slices_S8x128_o7_0_S1x128 = R2 (fun _ l => f 7 l) := by
  funext i; obtain ⟨i, l, rfl⟩ : ∃ (a : Fin 1) (b : Fin 128), i = ix2 a b := ⟨_, _, eq_ix2 i⟩
  rw [Idealize.ShloMosaic.extractStridedSlice_apply (k := ix2 (7 : Fin 8) l)
    (hk := fun a => by match a with | ⟨0, _⟩ => obtain rfl := Subsingleton.elim i 0; rfl | ⟨1, _⟩ => exact (Nat.zero_add _).symm)]
  rfl
theorem last16_R2 (f : Fin 16 → Fin 128 → ℝ) : extractStridedSlice S1x128 ![15, 0] (R2 f (φ := .f32)) slices_S16x128_o15_0_S1x128 = R2 (fun _ l => f 15 l) := by
  funext i; obtain ⟨i, l, rfl⟩ : ∃ (a : Fin 1) (b : Fin 128), i = ix2 a b := ⟨_, _, eq_ix2 i⟩
  rw [Idealize.ShloMosaic.extractStridedSlice_apply (k := ix2 (15 : Fin 16) l)
    (hk := fun a => by match a with | ⟨0, _⟩ => obtain rfl := Subsingleton.elim i 0; rfl | ⟨1, _⟩ => exact (Nat.zero_add _).symm)]
  rfl
theorem row8_R2 (r : Fin 1 → Fin 128 → ℝ) : broadcastTo S8x128 (R2 r (φ := .f32)) broadcasts_S1x128_S8x128 = R2 (fun _ l => r 0 l) := by
  funext i; obtain ⟨i, l, rfl⟩ : ∃ (a : Fin 8) (b : Fin 128), i = ix2 a b := ⟨_, _, eq_ix2 i⟩
  pointwise; rfl

/-- The last 16 rows of a chunk. -/
theorem tail_R2 (f : ℕ → Fin 128 → ℝ) :
    extractStridedSlice S16x128 ![112, 0] (R2 (fun (i : Fin 128) l => f i.val l) (φ := .f32)) slices_S128x128_o112_0_S16x128 = R2 (fun (i : Fin 16) l => f (112 + i.val) l) := by
  funext i; obtain ⟨i, l, rfl⟩ : ∃ (a : Fin 16) (b : Fin 128), i = ix2 a b := ⟨_, _, eq_ix2 i⟩
  rw [Idealize.ShloMosaic.extractStridedSlice_apply (k := ix2 (⟨112 + i.val, by omega⟩ : Fin 128) l)
    (hk := fun a => by match a with | ⟨0, _⟩ => rfl | ⟨1, _⟩ => exact (Nat.zero_add _).symm)]
  rfl

/-- 16 groups of 8 rows as 128 rows. -/
theorem join (f : ℕ → Fin 128 → ℝ) (G : Fin 16 → FVec Ideal S8x128 .f32) (hG : ∀ q, G q = R2 (fun (i : Fin 8) l => f (8 * q.val + i.val) l)) :
    concatenate S128x128 0 [⟨S8x128, G 0⟩, ⟨S8x128, G 1⟩, ⟨S8x128, G 2⟩, ⟨S8x128, G 3⟩, ⟨S8x128, G 4⟩, ⟨S8x128, G 5⟩, ⟨S8x128, G 6⟩, ⟨S8x128, G 7⟩,
      ⟨S8x128, G 8⟩, ⟨S8x128, G 9⟩, ⟨S8x128, G 10⟩, ⟨S8x128, G 11⟩, ⟨S8x128, G 12⟩, ⟨S8x128, G 13⟩, ⟨S8x128, G 14⟩, ⟨S8x128, G 15⟩]
      concatenates_S8x128_S8x128_S8x128_S8x128_S8x128_S8x128_S8x128_S8x128_S8x128_S8x128_S8x128_S8x128_S8x128_S8x128_S8x128_S8x128_S128x128_d0
      = R2 (fun (i : Fin 128) l => f i.val l) := by
  funext i; obtain ⟨i, l, rfl⟩ : ∃ (a : Fin 128) (b : Fin 128), i = ix2 a b := ⟨_, _, eq_ix2 i⟩
  have hi := i.isLt
  refine (concatenate_ofFn_apply (t := S128x128) (s₁ := S8x128) 0 G _ rfl 8 rfl (ix2 i l) (⟨i.val / 8, by omega⟩ : Fin 16) rfl
    (ix2 (⟨i.val % 8, by omega⟩ : Fin 8) l) rfl (fun b hb => by
      match b with
      | ⟨0, _⟩ => exact absurd rfl hb
      | ⟨1, _⟩ => rfl)).trans ?_
  rw [hG]
  show ((f (8 * (i.val / 8) + i.val % 8) l : ℝ) : EReal) = ((f i.val l : ℝ) : EReal)
  rw [Nat.div_add_mod]

section scan
variable (a b : ℕ → Fin 128 → ℝ) (n : ℕ)

/-- A group's products and partial sums after one, two and three doublings. -/
def A0 (i j : ℕ) (l : Fin 128) : ℝ := a (n + 8 * i + j) l
def B0 (i j : ℕ) (l : Fin 128) : ℝ := b (n + 8 * i + j) l
def A1 (i j : ℕ) (l : Fin 128) : ℝ := A0 a n i j l * if 1 ≤ j then A0 a n i (j - 1) l else 1
def B1 (i j : ℕ) (l : Fin 128) : ℝ := (A0 a n i j l * if 1 ≤ j then B0 b n i (j - 1) l else 0) + B0 b n i j l
def A2 (i j : ℕ) (l : Fin 128) : ℝ := A1 a n i j l * if 2 ≤ j then A1 a n i (j - 2) l else 1
def B2 (i j : ℕ) (l : Fin 128) : ℝ := (A1 a n i j l * if 2 ≤ j then B1 a b n i (j - 2) l else 0) + B1 a b n i j l
def A3 (i j : ℕ) (l : Fin 128) : ℝ := A2 a n i j l * if 4 ≤ j then A2 a n i (j - 4) l else 1
def B3 (i j : ℕ) (l : Fin 128) : ℝ := (A2 a n i j l * if 4 ≤ j then B2 a b n i (j - 4) l else 0) + B2 a b n i j l

/-- The state before row `s`, lane by lane. -/
def Hl (s : ℕ) (l : Fin 128) : ℝ := H (fun s => a s l) (fun s => b s l) s

/-- From the state before a group, the state after each of its rows. -/
theorem group_eq (i j : ℕ) (hj : j < 8) (l : Fin 128) : B3 a b n i j l + A3 a n i j l * Hl a b (n + 8 * i) l = Hl a b (n + 8 * i + j + 1) l := by
  simp only [B3, A3, B2, A2, B1, A1, A0, B0]
  have e : ∀ j, Hl a b (n + 8 * i + (j + 1)) l = a (n + 8 * i + j) l * Hl a b (n + 8 * i + j) l + b (n + 8 * i + j) l := fun _ => rfl
  have h0 : Hl a b (n + 8 * i) l = Hl a b (n + 8 * i + 0) l := rfl
  rw [h0, Nat.add_assoc (n + 8 * i) j 1]
  generalize hh : (fun j => Hl a b (n + 8 * i + j) l) = h at *
  generalize hα : (fun j => a (n + 8 * i + j) l) = α
  generalize hβ : (fun j => b (n + 8 * i + j) l) = β
  have h' : ∀ j, Hl a b (n + 8 * i + j) l = h j := fun j => congrFun hh j
  have a' : ∀ j, a (n + 8 * i + j) l = α j := fun j => congrFun hα j
  have b' : ∀ j, b (n + 8 * i + j) l = β j := fun j => congrFun hβ j
  simp only [h', a', b'] at e ⊢
  have e1 : h 1 = _ := e 0
  have e2 : h 2 = _ := e 1
  have e3 : h 3 = _ := e 2
  have e4 : h 4 = _ := e 3
  have e5 : h 5 = _ := e 4
  have e6 : h 6 = _ := e 5
  have e7 : h 7 = _ := e 6
  have e8 : h 8 = _ := e 7
  interval_cases j <;> norm_num <;> simp only [e8, e7, e6, e5, e4, e3, e2, e1] <;> ring

end scan

end Cert.Kernel9Ideal.Fwd

end
-- ==== Proof.FwdGroups.lean ====
/-
  The kernel's recurrence on a chunk of 128 rows: from the state before the chunk, the state after each of its rows.
-/
module

public import proofs.«01_k».proof.Proof.FwdScan

@[expose] public section

set_option maxRecDepth 16384

noncomputable section

open Idealize.ShloMosaic Idealize.ShloMosaic.Pointwise

namespace Cert.Kernel9Ideal.Fwd

open Cert.Kernel9Ideal.Gen
open Cert.Kernel2Ideal.Mix (R2 R2_at mulf_R2 addf_R2 zero_w one_w)

variable (a b : ℕ → Fin 128 → ℝ) (n : ℕ)

/-- The chunk's rows of `f`. -/
abbrev rows (f : ℕ → Fin 128 → ℝ) {φ : FTy} : FVec Ideal S128x128 φ := R2 (fun i l => f (n + i.val) l)

theorem base_T3 : shapeCast S16x8x128 (rows n a (φ := .f32)) shapeCasts_S128x128_S16x8x128 = T3 (A0 a n) := by
  refine (cast_T3 (fun i l => a (n + i) l)).trans (congrArg T3 ?_)
  funext i j l
  simp only [A0, Nat.add_assoc]

theorem turn1 (f : ℕ → ℕ → Fin 128 → ℝ) (z : ℝ) (zw : Ideal .f32) (hz : zw = ((z : ℝ) : EReal)) :
    select (cmpi .sge (iota .tc S16x8x128 32 [1] iota_S16x8x128_d1_w32) (broadcast S16x8x128 1#32)) (dynamicRotate 1 1#32 none (T3 f) rotates_S16x8x128_d1) (broadcast S16x8x128 zw)
      = T3 (fun i j l => if 1 ≤ j then f i (j - 1) l else z) := turn_T3 f 1 (by decide) 1#32 rfl (by decide) z zw hz
theorem turn2 (f : ℕ → ℕ → Fin 128 → ℝ) (z : ℝ) (zw : Ideal .f32) (hz : zw = ((z : ℝ) : EReal)) :
    select (cmpi .sge (iota .tc S16x8x128 32 [1] iota_S16x8x128_d1_w32) (broadcast S16x8x128 2#32)) (dynamicRotate 1 2#32 none (T3 f) rotates_S16x8x128_d1) (broadcast S16x8x128 zw)
      = T3 (fun i j l => if 2 ≤ j then f i (j - 2) l else z) := turn_T3 f 2 (by decide) 2#32 rfl (by decide) z zw hz
theorem turn4 (f : ℕ → ℕ → Fin 128 → ℝ) (z : ℝ) (zw : Ideal .f32) (hz : zw = ((z : ℝ) : EReal)) :
    select (cmpi .sge (iota .tc S16x8x128 32 [1] iota_S16x8x128_d1_w32) (broadcast S16x8x128 4#32)) (dynamicRotate 1 4#32 none (T3 f) rotates_S16x8x128_d1) (broadcast S16x8x128 zw)
      = T3 (fun i j l => if 4 ≤ j then f i (j - 4) l else z) := turn_T3 f 4 (by decide) 4#32 rfl (by decide) z zw hz

theorem s1A : k0_pay34 (rows n a) = T3 (A1 a n) := by
  unfold k0_pay34 k0_pay32
  dsimp only
  rw [base_T3, turn1 _ 1 _ one_w, mulf_T3]
  rfl
theorem s1B : k0_pay33 (rows n a) (rows n b) = T3 (B1 a b n) := by
  unfold k0_pay33 k0_pay32
  dsimp only
  rw [base_T3, base_T3, turn1 _ 0 _ zero_w, mulf_T3, addf_T3]
  rfl
theorem s2A : k0_pay35 (rows n a) = T3 (fun i j l => if 2 ≤ j then A1 a n i (j - 2) l else 1) := by
  unfold k0_pay35
  dsimp only
  rw [s1A, turn2 _ 1 _ one_w]
theorem s2 : k0_pay36 (T3 (A1 a n)) (T3 (fun i j l => if 2 ≤ j then A1 a n i (j - 2) l else 1)) = T3 (A2 a n) := by
  unfold k0_pay36
  dsimp only
  rw [mulf_T3]
  rfl

abbrev io : IVec S16x8x128 32 := iota .tc S16x8x128 32 [1] iota_S16x8x128_d1_w32

theorem s3A : k0_pay38 io (T3 (A1 a n)) (T3 (fun i j l => if 2 ≤ j then A1 a n i (j - 2) l else 1)) = T3 (A3 a n) := by
  unfold k0_pay38
  dsimp only
  rw [s2, turn4 _ 1 _ one_w, mulf_T3]
  rfl
theorem s3B : k0_pay37 io (T3 (B1 a b n)) (T3 (A1 a n)) (T3 (fun i j l => if 2 ≤ j then A1 a n i (j - 2) l else 1)) = T3 (B3 a b n) := by
  unfold k0_pay37
  dsimp only
  rw [s2, turn2 _ 0 _ zero_w, mulf_T3, addf_T3]
  have e : (T3 fun i j l => A1 a n i j l * (if 2 ≤ j then B1 a b n i (j - 2) l else 0) + B1 a b n i j l) = T3 (B2 a b n) := rfl
  rw [e, turn4 _ 0 _ zero_w, mulf_T3, addf_T3]
  rfl

/-- The states after the rows of group `q`. -/
def Grp (q : ℕ) : FVec Ideal S8x128 .f32 := R2 (fun (i : Fin 8) l => Hl a b (n + 8 * q + i.val + 1) l)

/-- A group from the state before it. -/
theorem grp0 (q : ℕ) : addf (R2 (fun (i : Fin 8) l => B3 a b n q i.val l)) (mulf (R2 (fun (i : Fin 8) l => A3 a n q i.val l)) (R2 (fun _ l => Hl a b (n + 8 * q) l)))
    = Grp a b n q := by
  rw [mulf_R2, addf_R2]
  exact congrArg (fun a => R2 a) (funext fun i => funext fun l => group_eq a b n q i.val i.isLt l)

theorem lastGrp (q p : ℕ) (hp : p = q + 1) : broadcastTo S8x128 (extractStridedSlice S1x128 ![7, 0] (Grp a b n q) slices_S8x128_o7_0_S1x128) broadcasts_S1x128_S8x128
    = R2 (fun _ l => Hl a b (n + 8 * p) l) := by
  subst hp
  unfold Grp
  rw [last_R2, row8_R2]
  refine congrArg (fun a => R2 a) (funext fun _ => funext fun l => ?_)
  show Hl a b (n + 8 * q + 7 + 1) l = _
  rw [show n + 8 * (q + 1) = n + 8 * q + 7 + 1 by omega]

/-- A group from the group before it. -/
theorem grp (q p : ℕ) (hp : p = q + 1) (hp' : p < 16) (h h') : addf (shapeCast S8x128 (extractStridedSlice S1x8x128 ![p, 0, 0] (T3 (B3 a b n)) h) shapeCasts_S1x8x128_S8x128)
    (mulf (shapeCast S8x128 (extractStridedSlice S1x8x128 ![p, 0, 0] (T3 (A3 a n)) h') shapeCasts_S1x8x128_S8x128)
      (broadcastTo S8x128 (extractStridedSlice S1x128 ![7, 0] (Grp a b n q) slices_S8x128_o7_0_S1x128) broadcasts_S1x128_S8x128)) = Grp a b n p := by
  rw [lastGrp a b n q p hp, slice_T3 _ p hp', slice_T3 _ p hp', grp0]

variable (c : Fin 16 → Fin 128 → ℝ) (hc : ∀ l, c 15 l = Hl a b n l)

abbrev tA1 : FVec Ideal S16x8x128 .f32 := T3 (A1 a n)
abbrev tA2 : FVec Ideal S16x8x128 .f32 := T3 (fun i j l => if 2 ≤ j then A1 a n i (j - 2) l else 1)
abbrev tB1 : FVec Ideal S16x8x128 .f32 := T3 (B1 a b n)

include hc in
theorem g0 : k0_pay39 (R2 c) io (tB1 a b n) (tA1 a n) (tA2 a n) = Grp a b n 0 := by
  unfold k0_pay39
  dsimp only
  rw [s3A, s3B, slice_T3 _ 0 (by decide), slice_T3 _ 0 (by decide), last16_R2, row8_R2]
  simp only [hc]
  exact grp0 a b n 0
include hc in
theorem g1 : k0_pay40 (R2 c) io (tB1 a b n) (tA1 a n) (tA2 a n) = Grp a b n 1 := by
  unfold k0_pay40
  dsimp only
  rw [s3A, s3B, g0 a b n c hc, grp a b n 0 1 rfl (by decide)]
include hc in
theorem g2 : k0_pay41 (R2 c) io (tB1 a b n) (tA1 a n) (tA2 a n) = Grp a b n 2 := by
  unfold k0_pay41
  dsimp only
  rw [s3A, s3B, g1 a b n c hc, grp a b n 1 2 rfl (by decide)]
include hc in
theorem g3' : k0_pay44 (R2 c) io (tB1 a b n) (tA1 a n) (tA2 a n) = R2 (fun _ l => Hl a b (n + 8 * 3) l) := by
  unfold k0_pay44
  dsimp only
  rw [g2 a b n c hc, lastGrp a b n 2 3 rfl]
theorem g3A : k0_pay43 io (tA1 a n) (tA2 a n) = R2 (fun (i : Fin 8) l => A3 a n 3 i.val l) := by
  unfold k0_pay43
  dsimp only
  rw [s3A, slice_T3 _ 3 (by decide)]
theorem g3B : k0_pay42 io (tB1 a b n) (tA1 a n) (tA2 a n) = R2 (fun (i : Fin 8) l => B3 a b n 3 i.val l) := by
  unfold k0_pay42
  dsimp only
  rw [s3B, slice_T3 _ 3 (by decide)]

abbrev u3 : FVec Ideal S8x128 .f32 := R2 (fun (i : Fin 8) l => B3 a b n 3 i.val l)
abbrev w3 : FVec Ideal S8x128 .f32 := R2 (fun (i : Fin 8) l => A3 a n 3 i.val l)
abbrev h3 : FVec Ideal S8x128 .f32 := R2 (fun _ l => Hl a b (n + 8 * 3) l)

theorem g3 : k0_pay45 (u3 a b n) (w3 a n) (h3 a b n) = Grp a b n 3 := grp0 a b n 3
theorem g4 : k0_pay46 (T3 (B3 a b n)) (T3 (A3 a n)) (u3 a b n) (w3 a n) (h3 a b n) = Grp a b n 4 := by
  unfold k0_pay46; dsimp only; rw [g3, grp a b n 3 4 rfl (by decide)]
theorem g5 : k0_pay47 (T3 (B3 a b n)) (T3 (A3 a n)) (u3 a b n) (w3 a n) (h3 a b n) = Grp a b n 5 := by
  unfold k0_pay47; dsimp only; rw [g4, grp a b n 4 5 rfl (by decide)]
theorem g6 : k0_pay48 (T3 (B3 a b n)) (T3 (A3 a n)) (u3 a b n) (w3 a n) (h3 a b n) = Grp a b n 6 := by
  unfold k0_pay48; dsimp only; rw [g5, grp a b n 5 6 rfl (by decide)]
theorem g7 : k0_pay49 (T3 (B3 a b n)) (T3 (A3 a n)) (u3 a b n) (w3 a n) (h3 a b n) = Grp a b n 7 := by
  unfold k0_pay49; dsimp only; rw [g6, grp a b n 6 7 rfl (by decide)]
theorem g8 : k0_pay50 (T3 (B3 a b n)) (T3 (A3 a n)) (u3 a b n) (w3 a n) (h3 a b n) = Grp a b n 8 := by
  unfold k0_pay50; dsimp only; rw [g7, grp a b n 7 8 rfl (by decide)]
theorem g9 : k0_pay51 (T3 (B3 a b n)) (T3 (A3 a n)) (u3 a b n) (w3 a n) (h3 a b n) = Grp a b n 9 := by
  unfold k0_pay51; dsimp only; rw [g8, grp a b n 8 9 rfl (by decide)]
theorem g10 : k0_pay52 (T3 (B3 a b n)) (T3 (A3 a n)) (u3 a b n) (w3 a n) (h3 a b n) = Grp a b n 10 := by
  unfold k0_pay52; dsimp only; rw [g9, grp a b n 9 10 rfl (by decide)]

/-- The groups one below the other. -/
theorem all16 (h) : k0_pay55 (T3 (B3 a b n)) (T3 (A3 a n)) (Grp a b n 0) (Grp a b n 1) (Grp a b n 2) (Grp a b n 3) (Grp a b n 4) (Grp a b n 5) (Grp a b n 6)
    (Grp a b n 7) (Grp a b n 8) (Grp a b n 9) (Grp a b n 10) (extractStridedSlice S1x128 ![7, 0] (Grp a b n 10) slices_S8x128_o7_0_S1x128)
    (extractStridedSlice S1x8x128 ![11, 0, 0] (T3 (B3 a b n)) h) = rows n (fun s l => Hl a b (s + 1) l) := by
  unfold k0_pay55
  dsimp only
  rw [grp a b n 10 11 rfl (by decide), grp a b n 11 12 rfl (by decide), grp a b n 12 13 rfl (by decide), grp a b n 13 14 rfl (by decide),
    grp a b n 14 15 rfl (by decide)]
  refine join (fun i l => Hl a b (n + i + 1) l) (fun q => Grp a b n q.val) fun q => ?_
  unfold Grp
  simp only [Nat.add_assoc]

end Cert.Kernel9Ideal.Fwd

end
-- ==== Proof.FwdWords.lean ====
/-
  The third mixer's forward pass over real numbers, for one example and one block of 128 channels, and the values of one
  trip of the kernel's loop: what the trip computes on rows `128 k` to `128 k + 127` are the rows of the formulas.
-/
module

public import proofs.«01_k».proof.Proof.FwdGroups

@[expose] public section

set_option maxRecDepth 16384

noncomputable section

open Idealize.ShloMosaic Idealize.ShloMosaic.Pointwise

namespace Cert.Kernel9Ideal.Fwd

open Cert.Kernel9Ideal.Gen
open Cert.Kernel2Ideal.Mix (R2 R4 R2_at mulf_R2 addf_R2 subf_R2 extf_R2 truncf_R2 zero_w one_w row_R2 cast4_R4 cast16_R4 select_R2 sg sg_R2 concat_down down_R2 dot_R2 one_splat
  zero_splat splat_R2)

theorem log_pos {r : ℝ} (h : 0 < r) : Ideal.log (r : EReal) = ((Real.log r : ℝ) : EReal) := by rw [Ideal.log_coe, if_neg (not_le.mpr h)]
theorem sqrt_nonneg {r : ℝ} (h : 0 ≤ r) : Ideal.sqrt (r : EReal) = ((Real.sqrt r : ℝ) : EReal) := by rw [Ideal.sqrt_coe, if_neg (not_lt.mpr h)]
theorem cmp_ne {r : ℝ} (h : r ≠ 0) : Ideal.cmp .oeq (r : EReal) ((0 : ℝ) : EReal) = 0#1 := by simp [Ideal.cmp, h]
theorem cmp_le {r c : ℝ} (h : r ≤ c) : Ideal.cmp .ogt (r : EReal) ((c : ℝ) : EReal) = 0#1 := by simp [Ideal.cmp, not_lt.mpr h]

section ops
variable {n m : ℕ} (a b : Fin n → Fin m → ℝ)

theorem exp_R2 : exp (R2 a (φ := .f32)) = R2 (fun i l => Real.exp (a i l)) := rfl
theorem log_R2 (h : ∀ i l, 0 < a i l) : log (R2 a (φ := .f32)) = R2 (fun i l => Real.log (a i l)) := by
  funext i
  exact log_pos (h (i 0) (i 1))
theorem sqrt_R2 (h : ∀ i l, 0 ≤ a i l) : sqrt (R2 a (φ := .f32)) = R2 (fun i l => Real.sqrt (a i l)) := by
  funext i
  exact sqrt_nonneg (h (i 0) (i 1))
theorem max_R2 : maximumf (R2 a (φ := .f32)) (R2 b) = R2 (fun i l => max (a i l) (b i l)) := by
  funext i
  exact (EReal.coe_strictMono.monotone.map_max (a := a (i 0) (i 1)) (b := b (i 0) (i 1))).symm
theorem abs_R2 : absf (R2 a (φ := .f32)) = R2 (fun i l => |a i l|) := by
  funext i
  show max ((a (i 0) (i 1) : ℝ) : EReal) (-((a (i 0) (i 1) : ℝ) : EReal)) = (((|a (i 0) (i 1)|) : ℝ) : EReal)
  rw [← EReal.coe_neg, ← EReal.coe_strictMono.monotone.map_max]; rfl
theorem divf_R2 (h : ∀ i l, b i l ≠ 0) : divf (R2 a (φ := .f32)) (R2 b) = R2 (fun i l => a i l / b i l) := by
  funext i
  exact Sums.coe_div _ (h _ _)
/-- A selection by `= 0` on numbers that are not 0. -/
theorem ne_R2 (h : ∀ i l, a i l ≠ 0) (X Y : FVec Ideal ⟨2, ![n, m]⟩ .f32) : select (cmpf .oeq (R2 a (φ := .f32)) (R2 (fun _ _ => 0))) X Y = Y := by
  funext i
  have e : cmpf .oeq (R2 a (φ := .f32)) (R2 (fun _ _ => 0)) i = 0#1 := cmp_ne (h (i 0) (i 1))
  show (if _ = 1#1 then _ else _) = _
  rw [e]; rfl
/-- A selection by `> c` on numbers that are at most `c`. -/
theorem le_R2 (c : ℝ) (h : ∀ i l, a i l ≤ c) (X Y : FVec Ideal ⟨2, ![n, m]⟩ .f32) : select (cmpf .ogt (R2 a (φ := .f32)) (R2 (fun _ _ => c))) X Y = Y := by
  funext i
  have e : cmpf .ogt (R2 a (φ := .f32)) (R2 (fun _ _ => c)) i = 0#1 := cmp_le (h (i 0) (i 1))
  show (if _ = 1#1 then _ else _) = _
  rw [e]; rfl
end ops

/-- The words of the constants. -/
theorem two_w : (Scalar.ofBits FTy.f32 0x40000000#32 : Ideal .f32) = ((2 : ℝ) : EReal) := by
  show Ideal.ofBits FTy.f32 0x40000000#32 = _
  simp [Ideal.ofBits, Ideal.ieee, -EReal.coe_mul]; norm_num
theorem m8_w : (Scalar.ofBits FTy.f32 0xC1000000#32 : Ideal .f32) = ((-8 : ℝ) : EReal) := by
  show Ideal.ofBits FTy.f32 0xC1000000#32 = _
  simp [Ideal.ofBits, Ideal.ieee, -EReal.coe_mul]; norm_num
/-- The bound below which the kernel takes `1 - a²` as it stands. -/
def cut : ℝ := (Ideal.ofBits FTy.f32 0xBD4CCCCD#32).toReal
theorem cut_both : cut < 0 ∧ Ideal.ofBits FTy.f32 0xBD4CCCCD#32 = ((cut : ℝ) : EReal) := by
  have h : ∃ e : ℝ, e < 0 ∧ Ideal.ofBits FTy.f32 0xBD4CCCCD#32 = (e : EReal) := by
    refine ⟨_, ?_, by simp [Ideal.ofBits, Ideal.ieee, -EReal.coe_mul]; rfl⟩
    norm_num
  obtain ⟨e, hp, he⟩ := h
  rw [cut, he, EReal.toReal_coe]; exact ⟨hp, rfl⟩
theorem cut_w : (Scalar.ofBits FTy.f32 0xBD4CCCCD#32 : Ideal .f32) = ((cut : ℝ) : EReal) := cut_both.2

/-- The segment's rows, the convolution's taps and bias, the two gates' matrices and biases, and the rates' parameter. -/
structure Slab where
  x : ℕ → Fin 128 → ℝ
  w : Fin 4 → Fin 128 → ℝ
  cb : Fin 128 → ℝ
  wa : Fin 128 → Fin 128 → ℝ
  wx : Fin 128 → Fin 128 → ℝ
  ba : Fin 128 → ℝ
  bx : Fin 128 → ℝ
  lam : Fin 128 → ℝ

namespace Slab
variable (S : Slab) (s : ℕ) (l : Fin 128)
/-- The row `n` above, or 0 before the first row; and the convolution. -/
def pre (n : ℕ) : ℝ := if n ≤ s then S.x (s - n) l else 0
def xc : ℝ := S.cb l + S.w 0 l * S.pre s l 3 + S.w 1 l * S.pre s l 2 + S.w 2 l * S.pre s l 1 + S.w 3 l * S.x s l
/-- The two gates. -/
def r : ℝ := sg (∑ j, S.xc s j * S.wa j l + S.ba l)
def ig : ℝ := sg (∑ j, S.xc s j * S.wx j l + S.bx l)
/-- The rates, the recurrence's factor and its summand. -/
def sp : ℝ := max (0 - S.lam l) 0 + Real.log (1 + Real.exp (0 - |S.lam l|))
def la : ℝ := S.r s l * (-8 * S.sp l)
def a : ℝ := Real.exp (S.la s l)
def b : ℝ := Real.sqrt (1 - S.a s l * S.a s l) * (S.ig s l * S.xc s l)
end Slab

variable (S : Slab) {arg2 : Memref sig .tc .vmem S12x1x2048x128 .bf16} (h2 : arg2.IsWhole)
  (X : Vec Ideal S12x1x2048x128 .bf16) (hX : ∀ (s : Fin 2048) (l : Fin 128), X (ix4 (7 : Fin 12) (0 : Fin 1) s l) = ((S.x s.val l : ℝ) : EReal)) (k : Fin k0_t1_loop.trips)

theorem k_lt (k : Fin k0_t1_loop.trips) : k.val < 16 := Nat.lt_of_lt_of_le k.isLt k0_t1_abs.2.1

theorem off10 : ∀ k : Fin k0_t1_loop.trips, k0_off10 k = ![7, 0, 128 * k.val, 0] := by decide +kernel
theorem off11 : ∀ k : Fin k0_t1_loop.trips, k0_off11 k = ![7, 0, 128 * k.val - 16, 0] := by decide +kernel
theorem off16 : ∀ k : Fin k0_t1_loop.trips, k0_off16 k = ![0, 128 * k.val, 0] := by decide +kernel
theorem arg15_eq : ∀ k : Fin k0_t1_loop.trips, Scalar.cmpi .sgt (trip_k0_t1.sl.arg15 k) 0#32 = if 0 < k.val then 1#1 else 0#1 := by decide +kernel

include hX in
/-- A load of rows of the segment. -/
theorem load4 {m : ℕ} (o : ℕ) (ho : o + m ≤ 2048) {off : Fin 4 → ℕ} (h : off = ![7, 0, o, 0]) (inb) :
    View.readAt (Elt Ideal) arg2.view (Rect.unit (s := S12x1x2048x128) off (![1, 1, m, 128]) inb).toLoadRect (h2.unread X)
      = R4 (fun (i : Fin m) l => S.x (o + i.val) l) (φ := .bf16) := by
  subst h
  funext i
  rw [View.readAt_apply, h2.read_unread]
  have h0 : (i 0).val = 0 := Nat.lt_one_iff.mp (i 0).isLt
  have h1 : (i 1).val = 0 := Nat.lt_one_iff.mp (i 1).isLt
  have hi : (i 2).val < m := (i 2).isLt
  refine Eq.trans (congrArg X ?_) (hX ⟨o + (i 2).val, by omega⟩ (i 3))
  funext z; apply Fin.ext
  match z with
  | ⟨0, _⟩ => show 7 + 1 * (i 0).val = 7; omega
  | ⟨1, _⟩ => show 0 + 1 * (i 1).val = 0; omega
  | ⟨2, _⟩ => show o + 1 * (i 2).val = o + (i 2).val; omega
  | ⟨3, _⟩ => show 0 + 1 * (i 3).val = (i 3).val; omega

abbrev rw' (f : ℕ → Fin 128 → ℝ) : FVec Ideal S128x128 .f32 := rows (128 * k.val) f

include hX in
theorem ld10 : View.readAt (Elt Ideal) arg2.view (Rect.unit (s := S12x1x2048x128) (k0_off10 k) S1x1x128x128.size (k0_off10_inb k)).toLoadRect (h2.unread X)
    = R4 (fun (i : Fin 128) l => S.x (128 * k.val + i.val) l) (φ := .bf16) :=
  load4 S h2 X hX (128 * k.val) (by have := k_lt k; omega) (off10 k) _
include hX in
theorem ld11 : View.readAt (Elt Ideal) arg2.view (Rect.unit (s := S12x1x2048x128) (k0_off11 k) S1x1x16x128.size (k0_off11_inb k)).toLoadRect (h2.unread X)
    = R4 (fun (i : Fin 16) l => S.x (128 * k.val - 16 + i.val) l) (φ := .bf16) :=
  load4 S h2 X hX (128 * k.val - 16) (by have := k_lt k; omega) (off11 k) _

theorem p14 (f : Fin 128 → Fin 128 → ℝ) : k0_pay14 (F := Ideal) (R4 f (φ := .bf16)) = R2 f := by
  unfold k0_pay14
  simp only [cast4_R4, extf_R2]
/-- The 16 rows above a chunk. -/
theorem p15 : k0_pay15 (F := Ideal) (trip_k0_t1.sl.arg15 k) (R4 (fun (i : Fin 16) l => S.x (128 * k.val - 16 + i.val) l) (φ := .bf16))
    = R2 (fun i l => S.pre (128 * k.val + i.val) l 16) := by
  unfold k0_pay15
  dsimp only
  rw [arg15_eq]
  simp only [cast16_R4, extf_R2, zero_splat, select_R2]
  refine congrArg (fun a => R2 a) (funext fun i => funext fun l => ?_)
  have hi := i.isLt
  unfold Slab.pre
  by_cases h : 0 < k.val
  · have e : 128 * k.val - 16 + i.val = 128 * k.val + i.val - 16 := by omega
    rw [if_pos h, if_pos (by omega), e]
  · rw [if_neg h, if_neg (by omega)]

theorem cat : concatenate S144x128 0 [⟨S16x128, R2 (fun i l => S.pre (128 * k.val + i.val) l 16) (φ := .f32)⟩, ⟨S128x128, rw' k S.x⟩]
    concatenates_S16x128_S128x128_S144x128_d0 = R2 (fun (i : Fin 144) l => S.pre (128 * k.val + i.val) l 16) :=
  concat_down _ _ (fun i l => S.pre (128 * k.val + i) l 16) (fun _ _ => rfl) fun i l => by
    unfold Slab.pre
    rw [if_pos (by omega)]; congr 1; omega
theorem up_pre (d : ℕ) (hd : d ≤ 16) : R2 (fun (i : Fin 128) l => S.pre (128 * k.val + (16 + i.val - d)) l 16) (φ := .f32) = rw' k (fun s l => S.pre s l d) := by
  refine congrArg (fun a => R2 a) (funext fun i => funext fun l => ?_)
  unfold Slab.pre
  dsimp only
  by_cases h : d ≤ 128 * k.val + i.val
  · rw [if_pos h, if_pos (by omega)]; congr 1; omega
  · rw [if_neg h, if_neg (by omega)]

include hX in
theorem w_9 : trip_k0_t1.sl.r_9 (F := Ideal) arg2 (h2.unread X) k = rw' k S.x := by
  unfold trip_k0_t1.sl.r_9
  rw [ld10 S h2 X hX k, p14]
include hX in
theorem w_10 : trip_k0_t1.sl.r_10 (F := Ideal) arg2 (h2.unread X) k = R2 (fun i l => S.pre (128 * k.val + i.val) l 16) := by
  unfold trip_k0_t1.sl.r_10
  rw [ld11 S h2 X hX k, p15]
include hX in
theorem w_11 : trip_k0_t1.sl.r_11 (F := Ideal) arg2 (h2.unread X) k = rw' k (fun s l => S.pre s l 3) := by
  unfold trip_k0_t1.sl.r_11 k0_pay16
  dsimp only
  rw [ld10 S h2 X hX k, ld11 S h2 X hX k, p14, p15, cat, down_R2 (fun i l => S.pre (128 * k.val + i) l 16) 3 (by omega) 3#32 rfl, up_pre S k 3 (by omega)]
include hX in
theorem w_12 : trip_k0_t1.sl.r_12 (F := Ideal) arg2 (h2.unread X) k = rw' k (fun s l => S.pre s l 2) := by
  unfold trip_k0_t1.sl.r_12 k0_pay17
  dsimp only
  rw [ld10 S h2 X hX k, ld11 S h2 X hX k, p14, p15, cat, down_R2 (fun i l => S.pre (128 * k.val + i) l 16) 2 (by omega) 2#32 rfl, up_pre S k 2 (by omega)]

/-- A parameter's row. -/
abbrev row (f : Fin 128 → ℝ) : FVec Ideal S1x128 .f32 := R2 (fun _ l => f l)

theorem c18 : k0_pay18 (F := Ideal) (row (S.w 0)) (row (S.w 1)) (row (S.w 2)) (row (S.w 3)) (row S.cb) (rw' k S.x) (R2 (fun i l => S.pre (128 * k.val + i.val) l 16))
    (rw' k (fun s l => S.pre s l 3)) (rw' k (fun s l => S.pre s l 2)) = rw' k S.xc := by
  unfold k0_pay18
  dsimp only
  rw [cat, down_R2 (fun i l => S.pre (128 * k.val + i) l 16) 1 (by omega) 1#32 rfl, up_pre S k 1 (by omega)]
  simp only [row_R2, mulf_R2, addf_R2]
  rfl
theorem dot (a b : Fin 128 → Fin 128 → ℝ) :
    matmul dot_S128x128_S128x128_S128x128_1_0_0_1_n_n none (R2 a (φ := .bf16)) (R2 b (φ := .bf16)) (constant S128x128 .f32 0x00000000#32)
      = R2 (fun i l => ∑ j, a i j * b j l) := dot_R2 a b
theorem c20 : k0_pay20 (F := Ideal) (row (S.w 0)) (row (S.w 1)) (row (S.w 2)) (row (S.w 3)) (row S.cb) (R2 S.wx) (row S.bx) (rw' k S.x) (R2 (fun i l => S.pre (128 * k.val + i.val) l 16))
    (rw' k (fun s l => S.pre s l 3)) (rw' k (fun s l => S.pre s l 2)) = rw' k S.ig := by
  unfold k0_pay20 k0_pay19
  dsimp only
  rw [c18, truncf_R2, dot, row_R2, addf_R2, sg_R2]
  rfl
theorem c21 : k0_pay21 (F := Ideal) (row (S.w 0)) (row (S.w 1)) (row (S.w 2)) (row (S.w 3)) (row S.cb) (R2 S.wa) (row S.ba) (row (fun l => -8 * S.sp l)) (rw' k S.x)
    (R2 (fun i l => S.pre (128 * k.val + i.val) l 16)) (rw' k (fun s l => S.pre s l 3)) (rw' k (fun s l => S.pre s l 2)) = rw' k S.la := by
  unfold k0_pay21 k0_pay19
  dsimp only
  rw [c18, truncf_R2, dot, row_R2, addf_R2, sg_R2, row_R2, mulf_R2]
  rfl

/-- The rates. -/
theorem c2 : k0_pay2 (F := Ideal) (row S.lam) = row (fun l => -8 * S.sp l) := by
  have hz : broadcast S1x128 (Scalar.ofBits (F := Ideal) .f32 0x00000000#32) = R2 (fun _ _ => 0) (φ := .f32) := by rw [zero_w]; rfl
  have ho : broadcast S1x128 (Scalar.ofBits (F := Ideal) .f32 0x3F800000#32) = R2 (fun _ _ => 1) (φ := .f32) := by rw [one_w]; rfl
  have h8 : broadcast S1x128 (Scalar.ofBits (F := Ideal) .f32 0xC1000000#32) = R2 (fun _ _ => -8) (φ := .f32) := by rw [m8_w]; rfl
  have hc : shapeCast S1x128 (row S.lam) shapeCasts_S1x128_S1x128 = row S.lam := by
    funext i; obtain ⟨i, l, rfl⟩ : ∃ (a : Fin 1) (b : Fin 128), i = ix2 a b := ⟨_, _, eq_ix2 i⟩
    pointwise
  have hp : ∀ l, 0 < Real.exp (0 - |S.lam l|) := fun l => Real.exp_pos _
  have e1 : ∀ l, 1 + Real.exp (0 - |S.lam l|) - 1 = Real.exp (0 - |S.lam l|) := fun l => by ring
  unfold k0_pay2
  dsimp only
  rw [hc, hz, ho, h8]
  simp only [subf_R2, abs_R2, max_R2, exp_R2, addf_R2, e1]
  rw [ne_R2 _ (fun _ l => (hp l).ne'), ne_R2 _ (fun _ l => (hp l).ne'), log_R2 _ (fun _ l => by have := hp l; linarith), divf_R2 _ _ (fun _ l => (hp l).ne'), mulf_R2, addf_R2, mulf_R2]
  refine congrArg (fun a => R2 a) (funext fun _ => funext fun l => ?_)
  rw [div_self (hp l).ne', mul_one]
  rfl

include hX in
theorem w_13 : trip_k0_t1.sl.r_13 (F := Ideal) arg2 (row (S.w 0)) (row (S.w 1)) (row (S.w 2)) (row (S.w 3)) (row S.cb) (h2.unread X) k = rw' k S.xc := by
  unfold trip_k0_t1.sl.r_13
  rw [w_9 S h2 X hX k, w_10 S h2 X hX k, w_11 S h2 X hX k, w_12 S h2 X hX k, c18]
theorem c1 (f : Fin 128 → ℝ) : k0_pay1 (F := Ideal) (row f) = row f := by
  unfold k0_pay1
  funext i; obtain ⟨i, l, rfl⟩ : ∃ (a : Fin 1) (b : Fin 128), i = ix2 a b := ⟨_, _, eq_ix2 i⟩
  pointwise
include hX in
theorem w_14 : trip_k0_t1.sl.r_14 (F := Ideal) arg2 (row (S.w 0)) (row (S.w 1)) (row (S.w 2)) (row (S.w 3)) (row S.cb) (R2 S.wx) (row S.bx) (h2.unread X) k = rw' k S.ig := by
  unfold trip_k0_t1.sl.r_14
  rw [w_9 S h2 X hX k, w_10 S h2 X hX k, w_11 S h2 X hX k, w_12 S h2 X hX k, c1, c20]
include hX in
theorem w_15 : trip_k0_t1.sl.r_15 (F := Ideal) arg2 (row (S.w 0)) (row (S.w 1)) (row (S.w 2)) (row (S.w 3)) (row S.cb) (R2 S.wa) (row S.ba) (row S.lam) (h2.unread X) k = rw' k S.a := by
  unfold trip_k0_t1.sl.r_15 k0_pay22
  rw [w_9 S h2 X hX k, w_10 S h2 X hX k, w_11 S h2 X hX k, w_12 S h2 X hX k, c2, c21, exp_R2]
  rfl
include hX in
theorem w_16 : trip_k0_t1.sl.r_16 (F := Ideal) arg2 (row (S.w 0)) (row (S.w 1)) (row (S.w 2)) (row (S.w 3)) (row S.cb) (R2 S.wa) (row S.ba) (row S.lam) (h2.unread X) k
    = rw' k (fun s l => 2 * S.la s l) := by
  have ht : broadcast S128x128 (Scalar.ofBits (F := Ideal) .f32 0x40000000#32) = R2 (fun _ _ => 2) (φ := .f32) := by rw [two_w]; rfl
  unfold trip_k0_t1.sl.r_16 k0_pay23
  dsimp only
  rw [w_9 S h2 X hX k, w_10 S h2 X hX k, w_11 S h2 X hX k, w_12 S h2 X hX k, c2, c21, ht, mulf_R2]
include hX in
theorem w_17 : trip_k0_t1.sl.r_17 (F := Ideal) arg2 (row (S.w 0)) (row (S.w 1)) (row (S.w 2)) (row (S.w 3)) (row S.cb) (R2 S.wa) (row S.ba) (row S.lam) (h2.unread X) k
    = rw' k (fun s l => S.a s l * S.a s l) := by
  unfold trip_k0_t1.sl.r_17 k0_pay24 k0_pay22
  rw [w_9 S h2 X hX k, w_10 S h2 X hX k, w_11 S h2 X hX k, w_12 S h2 X hX k, c2, c21, exp_R2, mulf_R2]
  rfl

/-- Where the rates stay below the bound, the recurrence's summand is the root of `1 - a²` times the gated row. -/
theorem c27 (hcut : ∀ s l, s < 2048 → 2 * S.la s l ≤ cut) (u v : FVec Ideal S128x128 .f32) (z : Ideal .f32) :
    k0_pay27 (rw' k S.xc) (rw' k S.ig) (rw' k (fun s l => 2 * S.la s l)) (rw' k (fun s l => S.a s l * S.a s l)) u v z = rw' k S.b := by
  have hb : broadcast S128x128 (Scalar.ofBits (F := Ideal) .f32 0xBD4CCCCD#32) = R2 (fun _ _ => cut) (φ := .f32) := by rw [cut_w]; rfl
  have hk := k_lt k
  have hle : ∀ (i l : Fin 128), 2 * S.la (128 * k.val + i.val) l ≤ cut := fun i l => hcut _ l (by have := i.isLt; omega)
  unfold k0_pay27
  dsimp only
  rw [hb, le_R2 _ cut hle, one_splat, subf_R2, sqrt_R2 _ (fun i l => ?_), mulf_R2, mulf_R2]
  · rfl
  · have h1 : S.a (128 * k.val + i.val) l * S.a (128 * k.val + i.val) l = Real.exp (2 * S.la (128 * k.val + i.val) l) := by
      unfold Slab.a; rw [← Real.exp_add, two_mul]
    have h2 : Real.exp (2 * S.la (128 * k.val + i.val) l) ≤ 1 := Real.exp_le_one_iff.mpr (le_trans (hle i l) cut_both.1.le)
    dsimp only
    rw [h1]; linarith

end Cert.Kernel9Ideal.Fwd

end
-- ==== Proof.FwdNums.lean ====
/-
  The real numbers behind the arguments of the mixers' forward kernel, and the slab of each example's block of channels.
-/
module

public import proofs.«01_k».proof.Proof.FwdWords
public import proofs.«01_k».proof.Proof.MixNums

@[expose] public section

set_option maxRecDepth 16384

noncomputable section

namespace Cert.Kernel9Ideal.Fwd

open Cert.Kernel2Ideal.Mix (chan hi lo hi_chan lo_chan chan_hi_lo)

/-- A channel's head and its place there, and the other way round. -/
def hd (k : Fin 1024) : Fin 16 := ⟨k.val / 64, by omega⟩
def ld (k : Fin 1024) : Fin 64 := ⟨k.val % 64, by omega⟩
def hc (g : Fin 16) (i : Fin 64) : Fin 1024 := ⟨64 * g.val + i.val, by omega⟩

theorem hd_hc (g : Fin 16) (i : Fin 64) : hd (hc g i) = g := Fin.ext (by show (64 * g.val + i.val) / 64 = g.val; omega)
theorem ld_hc (g : Fin 16) (i : Fin 64) : ld (hc g i) = i := Fin.ext (by show (64 * g.val + i.val) % 64 = i.val; omega)
theorem hc_hd_ld (k : Fin 1024) : hc (hd k) (ld k) = k := Fin.ext (by show 64 * (k.val / 64) + k.val % 64 = k.val; omega)

/-- Two heads' matrices as the diagonal blocks of one. -/
def pk (M : Fin 16 → Fin 64 → Fin 64 → ℝ) (g : Fin 8) (i l : Fin 128) : ℝ :=
  if i.val / 64 = l.val / 64 then M ⟨2 * g.val + i.val / 64, by omega⟩ ⟨i.val % 64, by omega⟩ ⟨l.val % 64, by omega⟩ else 0

/-- A product with the packed matrices is the product with the channel's head's. -/
theorem sum_pk (M : Fin 16 → Fin 64 → Fin 64 → ℝ) (f : Fin 1024 → ℝ) (k : Fin 1024) :
    ∑ j : Fin 128, f (chan (hi k) j) * pk M (hi k) j (lo k) = ∑ i : Fin 64, f (hc (hd k) i) * M (hd k) i (ld k) := by
  refine (Fin.sum_univ_add (a := 64) (b := 64) (fun j : Fin 128 => f (chan (hi k) j) * pk M (hi k) j (lo k))).trans ?_
  rcases Nat.lt_or_ge (k.val % 128) 64 with h | h
  · rw [Finset.sum_eq_zero (s := Finset.univ) (f := fun i : Fin 64 => f (chan (hi k) (Fin.natAdd 64 i)) * pk M (hi k) (Fin.natAdd 64 i) (lo k)), add_zero]
    · refine Finset.sum_congr rfl fun i _ => ?_
      have e : chan (hi k) (Fin.castAdd 64 i) = hc (hd k) i := Fin.ext (by show 128 * (k.val / 128) + i.val = 64 * (k.val / 64) + i.val; omega)
      rw [e]
      unfold pk
      rw [if_pos (by show i.val / 64 = k.val % 128 / 64; omega)]
      congr 1
      have e1 : (⟨2 * (hi k).val + (Fin.castAdd 64 i).val / 64, by have := (hi k).isLt; have : (Fin.castAdd 64 i).val = i.val := rfl; omega⟩ : Fin 16) = hd k :=
        Fin.ext (by show 2 * (k.val / 128) + i.val / 64 = k.val / 64; omega)
      have e2 : (⟨(Fin.castAdd 64 i).val % 64, by omega⟩ : Fin 64) = i := Fin.ext (by show i.val % 64 = i.val; omega)
      have e3 : (⟨(lo k).val % 64, by omega⟩ : Fin 64) = ld k := Fin.ext (by show k.val % 128 % 64 = k.val % 64; omega)
      rw [e1, e2, e3]
    · intro i _
      unfold pk
      rw [if_neg (by show ¬ (64 + i.val) / 64 = k.val % 128 / 64; omega), mul_zero]
  · rw [Finset.sum_eq_zero (s := Finset.univ) (f := fun i : Fin 64 => f (chan (hi k) (Fin.castAdd 64 i)) * pk M (hi k) (Fin.castAdd 64 i) (lo k)), zero_add]
    · refine Finset.sum_congr rfl fun i _ => ?_
      have e : chan (hi k) (Fin.natAdd 64 i) = hc (hd k) i := Fin.ext (by show 128 * (k.val / 128) + (64 + i.val) = 64 * (k.val / 64) + i.val; omega)
      rw [e]
      unfold pk
      rw [if_pos (by show (64 + i.val) / 64 = k.val % 128 / 64; omega)]
      congr 1
      have e1 : (⟨2 * (hi k).val + (Fin.natAdd 64 i).val / 64, by have := (hi k).isLt; have : (Fin.natAdd 64 i).val = 64 + i.val := rfl; omega⟩ : Fin 16) = hd k :=
        Fin.ext (by show 2 * (k.val / 128) + (64 + i.val) / 64 = k.val / 64; omega)
      have e2 : (⟨(Fin.natAdd 64 i).val % 64, by omega⟩ : Fin 64) = i := Fin.ext (by show (64 + i.val) % 64 = i.val; omega)
      have e3 : (⟨(lo k).val % 64, by omega⟩ : Fin 64) = ld k := Fin.ext (by show k.val % 128 % 64 = k.val % 64; omega)
      rw [e1, e2, e3]
    · intro i _
      unfold pk
      rw [if_neg (by show ¬ i.val / 64 = k.val % 128 / 64; omega), mul_zero]

/-- The recurrence's segment of the projection, the convolution's taps and bias, the two gates' matrices and biases, and the decay parameter. -/
structure Nums where
  P : Fin 2 → Fin 2048 → Fin 1024 → ℝ
  W : Fin 4 → Fin 1024 → ℝ
  CB : Fin 1024 → ℝ
  WA : Fin 16 → Fin 64 → Fin 64 → ℝ
  WX : Fin 16 → Fin 64 → Fin 64 → ℝ
  BA : Fin 16 → Fin 64 → ℝ
  BX : Fin 16 → Fin 64 → ℝ
  L : Fin 1024 → ℝ

/-- One example's block of 128 channels. -/
def Nums.slab (R : Nums) (z : Fin 2) (g : Fin 8) : Slab where
  x := Cert.Kernel2Ideal.Mix.rows (fun s l => R.P z s (chan g l))
  w j l := R.W j (chan g l)
  cb l := R.CB (chan g l)
  wa := pk R.WA g
  wx := pk R.WX g
  ba l := R.BA (hd (chan g l)) (ld (chan g l))
  bx l := R.BX (hd (chan g l)) (ld (chan g l))
  lam l := R.L (chan g l)

/-- The states are the recurrence over the decays and the inputs of every channel. -/
def Nums.a (R : Nums) (z : Fin 2) (s : ℕ) (k : Fin 1024) : ℝ := (R.slab z (hi k)).a s (lo k)
def Nums.b (R : Nums) (z : Fin 2) (s : ℕ) (k : Fin 1024) : ℝ := (R.slab z (hi k)).b s (lo k)

/-- What the precondition says: the decays are small enough for the square root's polynomial to be unused. -/
def Nums.Decays (R : Nums) : Prop := ∀ z s k, s < 2048 → 2 * (R.slab z (hi k)).la s (lo k) ≤ cut

end Cert.Kernel9Ideal.Fwd

end
-- ==== Proof.FwdTrip.lean ====
/-
  The kernel's loop over the chunks: every trip stores its chunk of the states and carries the last 16 of them.
-/
module

public import proofs.«01_k».proof.Proof.FwdWords
public import proofs.«01_k».proof.Proof.Gen.Kernel9Ideal.Frame
public import Idealize.ShloMosaic.Lib.Pipeline.ValueKit
public import Idealize.ShloMosaic.Lib.VecWindow
public import Idealize.ShloMosaic.Lib.Ring

@[expose] public section

set_option maxRecDepth 16384

noncomputable section

open Idealize.ShloMosaic Idealize.ShloMosaic.Pointwise Idealize.ShloMosaic.Tactic

namespace Cert.Kernel9Ideal.Fwd

open Cert.Kernel9Ideal Cert.Kernel9Ideal.Gen
open Cert.Kernel2Ideal.Mix (R2 R3 R2_at cast3_R2 cast3_R3 zero_w)

variable (S : Slab) (X : Vec Ideal S12x1x2048x128 .bf16)
  (hX : ∀ (s : Fin 2048) (l : Fin 128), X (ix4 (7 : Fin 12) (0 : Fin 1) s l) = ((S.x s.val l : ℝ) : EReal))
  (hcut : ∀ s l, s < 2048 → 2 * S.la s l ≤ cut)

include hX hcut in
theorem w_20 {arg2 : Memref sig .tc .vmem S12x1x2048x128 .bf16} (harg2 : arg2.IsWhole) (k : Fin k0_t1_loop.trips) :
    trip_k0_t1.sl.r_20 (F := Ideal) arg2 (row (S.w 0)) (row (S.w 1)) (row (S.w 2)) (row (S.w 3)) (row S.cb) (R2 S.wa) (R2 S.wx) (row S.ba) (row S.bx) (row S.lam) (harg2.unread X) k = rw' k S.b := by
  unfold trip_k0_t1.sl.r_20
  rw [w_13 S harg2 X hX k, w_14 S harg2 X hX k, w_16 S harg2 X hX k, w_17 S harg2 X hX k, c27 S k hcut]

include hX hcut in
/-- A chunk's states from the state before it. -/
theorem w_46 {arg2 : Memref sig .tc .vmem S12x1x2048x128 .bf16} (harg2 : arg2.IsWhole) (k : Fin k0_t1_loop.trips) (c : Fin 16 → Fin 128 → ℝ)
    (hc : ∀ l, c 15 l = Hl S.a S.b (128 * k.val) l) :
    trip_k0_t1.sl.r_46 (F := Ideal) arg2 (row (S.w 0)) (row (S.w 1)) (row (S.w 2)) (row (S.w 3)) (row S.cb) (R2 S.wa) (R2 S.wx) (row S.ba) (row S.bx) (row S.lam) (harg2.unread X) k (R2 c)
      = rw' k (fun s l => Hl S.a S.b (s + 1) l) := by
  unfold trip_k0_t1.sl.r_46 trip_k0_t1.sl.r_45 trip_k0_t1.sl.r_44 trip_k0_t1.sl.r_43 trip_k0_t1.sl.r_42 trip_k0_t1.sl.r_41 trip_k0_t1.sl.r_40 trip_k0_t1.sl.r_39 trip_k0_t1.sl.r_38 trip_k0_t1.sl.r_37 trip_k0_t1.sl.r_36 trip_k0_t1.sl.r_35 trip_k0_t1.sl.r_34 trip_k0_t1.sl.r_33 trip_k0_t1.sl.r_32 trip_k0_t1.sl.r_31 trip_k0_t1.sl.r_30 trip_k0_t1.sl.r_29 trip_k0_t1.sl.r_28 trip_k0_t1.sl.r_27 trip_k0_t1.sl.r_26 trip_k0_t1.sl.r_25 trip_k0_t1.sl.v288
  rw [w_15 S harg2 X hX k, w_20 S X hX hcut harg2 k, s1B, s1A, s2A, s3B, s3A, g0 S.a S.b _ c hc, g1 S.a S.b _ c hc, g2 S.a S.b _ c hc, g3' S.a S.b _ c hc, g3A, g3B]
  unfold k0_pay53 k0_pay54
  dsimp only
  rw [g3, g4, g5, g6, g7, g8, g9, g10, all16]

section loop
variable (c : Dev nD) (i : grid0.Coords) {arg2 : Memref sig .tc .vmem S12x1x2048x128 .bf16} (harg2 : arg2.IsWhole) {arg3 : Memref sig .tc .vmem S3x128 .f32} (harg3 : arg3.IsWhole) {arg4 : Memref sig .tc .vmem S1x128x128 .f32} (harg4 : arg4.IsWhole) {arg5 : Memref sig .tc .vmem S1x128x128 .f32} (harg5 : arg5.IsWhole) {arg6 : Memref sig .tc .vmem S4x128 .f32} (harg6 : arg6.IsWhole) {arg7 : Memref sig .tc .vmem S1x128 .f32} (harg7 : arg7.IsWhole) {arg8 : Memref sig .tc .vmem S1x128x128 .bf16} (harg8 : arg8.IsWhole) {arg9 : Memref sig .tc .vmem S1x128x128 .bf16} (harg9 : arg9.IsWhole) {arg10 : Memref sig .tc .vmem S1x128 .f32} (harg10 : arg10.IsWhole) {arg11 : Memref sig .tc .vmem S1x128 .f32} (harg11 : arg11.IsWhole) {arg12 : Memref sig .tc .vmem S1x128 .f32} (harg12 : arg12.IsWhole) {arg13 : Memref sig .tc .vmem S1x2048x128 .bf16} (harg13 : arg13.IsWhole) {arg14 : Memref sig .tc .vmem S1x2048x128 .f32} (harg14 : arg14.IsWhole)
  (v0 v1 v2 : Vec Ideal S1x128 .f32) (v16 v18 : FVec Ideal S128x128 .f32)

/-- The loop's state before trip `n`. -/
abbrev stF (n : ℕ) := st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v0 v1 v2 (row (S.w 0)) (row (S.w 1)) (row (S.w 2)) (row (S.w 3)) (row S.cb) v16 v18 (R2 S.wa) (R2 S.wx) (row S.ba) (row S.bx) (row S.lam) (harg2.unread X) (R2 fun _ _ => 0) n

include hX hcut in
/-- Before trip `n` the loop carries the 16 states before the chunk's first row. -/
theorem carry_eq (n : ℕ) (hn : n ≤ k0_t1_loop.trips) : (stF S X c i harg2 harg3 harg4 harg5 harg6 harg7 harg8 harg9 harg10 harg11 harg12 harg13 harg14 v0 v1 v2 v16 v18 n).1
    = R2 (fun (j : Fin 16) l => Hl S.a S.b (128 * n + j.val - 15) l) := by
  induction n with
  | zero =>
    show R2 (fun _ _ => 0) = _
    refine congrArg (fun a => R2 a) (funext fun j => funext fun l => ?_)
    rw [show 128 * 0 + j.val - 15 = 0 by omega]; rfl
  | succ n ih =>
    have e := congrArg Prod.fst (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v0 v1 v2 (row (S.w 0)) (row (S.w 1)) (row (S.w 2)) (row (S.w 3)) (row S.cb) v16 v18 (R2 S.wa) (R2 S.wx) (row S.ba) (row S.bx) (row S.lam) (harg2.unread X) (R2 fun _ _ => 0) ⟨n, hn⟩)
    refine e.trans ?_
    dsimp only
    rw [ih (by omega)]
    unfold tripR_k0_t1 trip_k0_t1
    dsimp only
    rw [w_46 S X hX hcut harg2 ⟨n, hn⟩ _ (fun l => by rfl)]
    unfold k0_pay4
    rw [tail_R2 (fun j l => Hl S.a S.b (128 * n + j + 1) l)]
    refine congrArg (fun a => R2 a) (funext fun j => funext fun l => ?_)
    rw [show 128 * (n + 1) + j.val - 15 = 128 * n + (112 + j.val) + 1 by omega]

include hX hcut in
/-- What the trips before `n` stored. -/
theorem pieces_at (y : S1x2048x128.Idx) (n : ℕ) (hn : n ≤ k0_t1_loop.trips) :
    View.AllAt (stF S X c i harg2 harg3 harg4 harg5 harg6 harg7 harg8 harg9 harg10 harg11 harg12 harg13 harg14 v0 v1 v2 v16 v18 n).2.2 y ((Hl S.a S.b ((y 1).val + 1) (y 2) : ℝ) : EReal) := by
  induction n with
  | zero => exact View.allAt_nil _ _
  | succ n ih =>
    have e := congrArg (fun p => p.2.2) (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v0 v1 v2 (row (S.w 0)) (row (S.w 1)) (row (S.w 2)) (row (S.w 3)) (row S.cb) v16 v18 (R2 S.wa) (R2 S.wx) (row S.ba) (row S.bx) (row S.lam) (harg2.unread X) (R2 fun _ _ => 0) ⟨n, hn⟩)
    dsimp only at e
    rw [carry_eq S X hX hcut c i harg2 harg3 harg4 harg5 harg6 harg7 harg8 harg9 harg10 harg11 harg12 harg13 harg14 v0 v1 v2 v16 v18 n (by omega)] at e
    unfold trip_k0_t1 at e
    dsimp only at e
    unfold k0_pay57 at e
    have w := w_46 S X hX hcut harg2 ⟨n, hn⟩ (fun (j : Fin 16) l => Hl S.a S.b (128 * n + j.val - 15) l) (fun l => by rfl)
    unfold trip_k0_t1.sl.r_46 at w
    rw [w, cast3_R2] at e
    intro p hp
    rw [e] at hp
    rcases List.mem_append.mp hp with hp | hp
    · refine View.allAt_cons_unit _ _ _ _ _ (fun x hx => ?_) (View.allAt_nil _ _) p hp
      rw [off16] at hx
      have h1 : (y 1).val = 128 * n + (x 1).val := hx 1
      have h2 : (y 2).val = 0 + (x 2).val := hx 2
      have e2 : (x 2 : Fin 128) = y 2 := Fin.ext (by show (x 2).val = (y 2).val; omega)
      rw [h1]
      exact congrArg (fun l => ((Hl S.a S.b (128 * n + (x 1).val + 1) l : ℝ) : EReal)) e2
    · exact ih (by omega) p hp

end loop

section run
variable (c : Dev nD) (i : grid0.Coords) {arg2 : Memref sig .tc .vmem S12x1x2048x128 .bf16} (harg2 : arg2.IsWhole) {arg3 : Memref sig .tc .vmem S3x128 .f32} (harg3 : arg3.IsWhole) {arg4 : Memref sig .tc .vmem S1x128x128 .f32} (harg4 : arg4.IsWhole) {arg5 : Memref sig .tc .vmem S1x128x128 .f32} (harg5 : arg5.IsWhole) {arg6 : Memref sig .tc .vmem S4x128 .f32} (harg6 : arg6.IsWhole) {arg7 : Memref sig .tc .vmem S1x128 .f32} (harg7 : arg7.IsWhole) {arg8 : Memref sig .tc .vmem S1x128x128 .bf16} (harg8 : arg8.IsWhole) {arg9 : Memref sig .tc .vmem S1x128x128 .bf16} (harg9 : arg9.IsWhole) {arg10 : Memref sig .tc .vmem S1x128 .f32} (harg10 : arg10.IsWhole) {arg11 : Memref sig .tc .vmem S1x128 .f32} (harg11 : arg11.IsWhole) {arg12 : Memref sig .tc .vmem S1x128 .f32} (harg12 : arg12.IsWhole) {arg13 : Memref sig .tc .vmem S1x2048x128 .bf16} (harg13 : arg13.IsWhole) {arg14 : Memref sig .tc .vmem S1x2048x128 .f32} (harg14 : arg14.IsWhole)
 (x1 : Vec Ideal S3x128 .f32) (x2 : Vec Ideal S1x128x128 .f32) (x3 : Vec Ideal S1x128x128 .f32)

/-- A load of a whole row, of row `j` of the taps, and of a whole matrix. -/
theorem load_one {arg : Memref sig .tc .vmem S1x128 .f32} (ha : arg.IsWhole) (x : Vec Ideal S1x128 .f32) (inb) :
    View.readAt (Elt Ideal) arg.view (Rect.unit (s := S1x128) ![0, 0] ![1, 128] inb).toLoadRect (ha.unread x) = x := by
  funext i
  rw [View.readAt_apply, ha.read_unread]
  exact congrArg x (funext fun a => Fin.ext (by show ![0, 0] a + 1 * (i a).val = (i a).val; fin_cases a <;> simp))
theorem load_tap {arg : Memref sig .tc .vmem S4x128 .f32} (ha : arg.IsWhole) (G : Fin 4 → Fin 128 → ℝ) (j : Fin 4) {off : Fin 2 → ℕ} (ho : off = ![j.val, 0]) (inb) :
    View.readAt (Elt Ideal) arg.view (Rect.unit (s := S4x128) off ![1, 128] inb).toLoadRect (ha.unread (R2 G (φ := .f32))) = row (G j) := by
  subst ho
  funext i
  rw [View.readAt_apply, ha.read_unread]
  have h0 : (i 0).val = 0 := Nat.lt_one_iff.mp (i 0).isLt
  have e1 : (⟨j.val + 1 * (i 0).val, by omega⟩ : Fin 4) = j := Fin.ext (by show j.val + 1 * (i 0).val = _; omega)
  have e2 : (⟨0 + 1 * (i 1).val, by have := (i 1).isLt; simpa using this⟩ : Fin 128) = i 1 := Fin.ext (by show 0 + 1 * (i 1).val = _; omega)
  show ((G ⟨j.val + 1 * (i 0).val, _⟩ ⟨0 + 1 * (i 1).val, _⟩ : ℝ) : EReal) = ((G j (i 1) : ℝ) : EReal)
  rw [e1]
  exact congrArg (fun l => ((G j l : ℝ) : EReal)) e2
theorem load_mat {arg : Memref sig .tc .vmem S1x128x128 .bf16} (ha : arg.IsWhole) (x : Vec Ideal S1x128x128 .bf16) (inb) :
    View.readAt (Elt Ideal) arg.view (Rect.unit (s := S1x128x128) ![0, 0, 0] ![1, 128, 128] inb).toLoadRect (ha.unread x) = x := by
  funext i
  rw [View.readAt_apply, ha.read_unread]
  exact congrArg x (funext fun a => Fin.ext (by show ![0, 0, 0] a + 1 * (i a).val = (i a).val; fin_cases a <;> simp))

theorem cast_row (f : Fin 128 → ℝ) : shapeCast S1x128 (row f) shapeCasts_S1x128_S1x128 = row f := by
  funext i; obtain ⟨i, l, rfl⟩ : ∃ (a : Fin 1) (b : Fin 128), i = ix2 a b := ⟨_, _, eq_ix2 i⟩
  pointwise

include hX hcut in
/-- What the body leaves in the states' block. -/
theorem out_at (y : S1x2048x128.Idx) : out0_A_12 c i arg2 harg2 arg3 harg3 arg4 harg4 arg5 harg5 arg6 harg6 arg7 harg7 arg8 harg8 arg9 harg9 arg10 harg10 arg11 harg11 arg12 harg12 arg13 harg13 arg14 harg14 X x1 x2 x3 (R2 S.w (φ := .f32)) (row S.cb) (R3 S.wa (φ := .bf16)) (R3 S.wx (φ := .bf16)) (row S.ba) (row S.bx) (row S.lam) y
    = ((Hl S.a S.b ((y 1).val + 1) (y 2) : ℝ) : EReal) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 X x1 x2 x3 (R2 S.w (φ := .f32)) (row S.cb) (R3 S.wa (φ := .bf16)) (R3 S.wx (φ := .bf16)) (row S.ba) (row S.bx) (row S.lam))]
  refine View.canon_eq_of_allAt _ y _ (cover0_A_12 c i arg2 harg2 arg3 harg3 arg4 harg4 arg5 harg5 arg6 harg6 arg7 harg7 arg8 harg8 arg9 harg9 arg10 harg10 arg11 harg11 arg12 harg12 arg13 harg13 arg14 harg14 X x1 x2 x3 (R2 S.w (φ := .f32)) (row S.cb) (R3 S.wa (φ := .bf16)) (R3 S.wx (φ := .bf16)) (row S.ba) (row S.bx) (row S.lam) y) ?_
  unfold kernelRun0_A
  dsimp only
  have e3 : kernelRun0_A.sl.r_3 (F := Ideal) c arg6 harg6 (R2 S.w) = row (S.w 0) := load_tap harg6 S.w 0 rfl _
  have e4 : kernelRun0_A.sl.r_4 (F := Ideal) c arg6 harg6 (R2 S.w) = row (S.w 1) := load_tap harg6 S.w 1 rfl _
  have e5 : kernelRun0_A.sl.r_5 (F := Ideal) c arg6 harg6 (R2 S.w) = row (S.w 2) := load_tap harg6 S.w 2 rfl _
  have e6 : kernelRun0_A.sl.r_6 (F := Ideal) c arg6 harg6 (R2 S.w) = row (S.w 3) := load_tap harg6 S.w 3 rfl _
  have e7 : kernelRun0_A.sl.r_7 (F := Ideal) c arg7 harg7 (row S.cb) = row S.cb :=
    (congrArg (k0_pay58 (F := Ideal)) (load_one harg7 (row S.cb) inb_S1x128_S1x128_0_0)).trans (cast_row _)
  have e10 : kernelRun0_A.sl.r_10 (F := Ideal) c arg8 harg8 (R3 S.wa) = R2 S.wa :=
    (congrArg (k0_pay61 (F := Ideal)) (load_mat harg8 (R3 S.wa) inb_S1x128x128_S1x128x128_0_0_0)).trans (cast3_R3 _)
  have e11 : kernelRun0_A.sl.r_11 (F := Ideal) c arg9 harg9 (R3 S.wx) = R2 S.wx :=
    (congrArg (k0_pay62 (F := Ideal)) (load_mat harg9 (R3 S.wx) inb_S1x128x128_S1x128x128_0_0_0)).trans (cast3_R3 _)
  have e12 : kernelRun0_A.sl.r_12 (F := Ideal) c arg10 harg10 (row S.ba) = row S.ba :=
    (congrArg (k0_pay63 (F := Ideal)) (load_one harg10 (row S.ba) inb_S1x128_S1x128_0_0)).trans (cast_row _)
  have e0 : k0_pay3 (F := Ideal) = R2 (fun _ _ => 0) (φ := .f32) := by unfold k0_pay3; rw [zero_w]; rfl
  rw [e3, e4, e5, e6, e7, e10, e11, e12, e0]
  have eb := load_one harg11 (row S.bx) inb_S1x128_S1x128_0_0
  have el := load_one harg12 (row S.lam) inb_S1x128_S1x128_0_0
  rw [eb, el]
  exact pieces_at S X hX hcut c i harg2 harg3 harg4 harg5 harg6 harg7 harg8 harg9 harg10 harg11 harg12 harg13 harg14 _ _ _ _ _ y _ le_rfl

end run

end Cert.Kernel9Ideal.Fwd

end
-- ==== Proof.FwdLevels.lean ====
/-
  The reference's way to the recurrence: pairs of rows are combined, the recurrence over the pairs gives every second
  state, and the states between follow from one step.
-/
module

public import proofs.«01_k».proof.Proof.FwdScan

@[expose] public section

set_option maxRecDepth 16384

noncomputable section

open Idealize.ShloMosaic Idealize.ShloMosaic.Pointwise

namespace Cert.Kernel9Ideal.Fwd

/-- Rows of real numbers in two batches. -/
def T (N : ℕ) (f : Fin 2 → ℕ → Fin 1024 → ℝ) : FVec Ideal ⟨3, ![2, N, 1024]⟩ .f32 := fun i => ((f (i 0) (i 1).val (i 2) : ℝ) : EReal)

/-- The factor and the summand of a pair of rows. -/
def dA (a : Fin 2 → ℕ → Fin 1024 → ℝ) : Fin 2 → ℕ → Fin 1024 → ℝ := fun z s c => a z (2 * s) c * a z (2 * s + 1) c
def dB (a b : Fin 2 → ℕ → Fin 1024 → ℝ) : Fin 2 → ℕ → Fin 1024 → ℝ := fun z s c => a z (2 * s + 1) c * b z (2 * s) c + b z (2 * s + 1) c
/-- The states after the rows. -/
def St (a b : Fin 2 → ℕ → Fin 1024 → ℝ) : Fin 2 → ℕ → Fin 1024 → ℝ := fun z s c => H (fun s => a z s c) (fun s => b z s c) (s + 1)

/-- The recurrence over pairs gives every second state. -/
theorem H_pair (a b : Fin 2 → ℕ → Fin 1024 → ℝ) (z : Fin 2) (c : Fin 1024) (s : ℕ) :
    H (fun s => dA a z s c) (fun s => dB a b z s c) s = H (fun s => a z s c) (fun s => b z s c) (2 * s) := by
  induction s with
  | zero => rfl
  | succ s ih =>
    show dA a z s c * H _ _ s + dB a b z s c = a z (2 * s + 1) c * (a z (2 * s) c * H _ _ (2 * s) + b z (2 * s) c) + b z (2 * s + 1) c
    rw [ih]; simp only [dA, dB]; ring

variable {N M K : ℕ} (a b : Fin 2 → ℕ → Fin 1024 → ℝ)

theorem mulf_T (f g : Fin 2 → ℕ → Fin 1024 → ℝ) : mulf (T N f) (T N g) = T N (fun z s c => f z s c * g z s c) := by
  funext i; simp only [T, EReal.coe_mul]; rfl
theorem addf_T (f g : Fin 2 → ℕ → Fin 1024 → ℝ) : addf (T N f) (T N g) = T N (fun z s c => f z s c + g z s c) := by
  funext i; simp only [T, EReal.coe_add]; rfl

/-- Every second row, from row `o`. -/
theorem slice_T (f : Fin 2 → ℕ → Fin 1024 → ℝ) (o : ℕ) (h : (⟨3, ![2, N, 1024]⟩ : Shape).SlicesBy ![0, o, 0] ![1, 2, 1] ⟨3, ![2, M, 1024]⟩) :
    Host.slice ⟨3, ![2, M, 1024]⟩ ![0, o, 0] ![1, 2, 1] (T N f) h = T M (fun z s c => f z (o + 2 * s) c) := by
  funext i
  show ((f ⟨0 + 1 * (i 0).val, _⟩ (o + 2 * (i 1).val) ⟨0 + 1 * (i 2).val, _⟩ : ℝ) : EReal) = ((f (i 0) (o + 2 * (i 1).val) (i 2) : ℝ) : EReal)
  refine congrArg _ (congrArg₂ (fun u v => f u (o + 2 * (i 1).val) v) ?_ ?_)
  · exact Fin.ext (by show 0 + 1 * (i 0).val = (i 0).val; omega)
  · exact Fin.ext (by show 0 + 1 * (i 2).val = (i 2).val; omega)

/-- The first rows. -/
theorem first_T (f : Fin 2 → ℕ → Fin 1024 → ℝ) (h : (⟨3, ![2, N, 1024]⟩ : Shape).Slices ![0, 0, 0] ⟨3, ![2, M, 1024]⟩) :
    extractStridedSlice ⟨3, ![2, M, 1024]⟩ ![0, 0, 0] (T N f) h = T M f := by
  funext i
  show ((f ⟨0 + (i 0).val, _⟩ (0 + (i 1).val) ⟨0 + (i 2).val, _⟩ : ℝ) : EReal) = ((f (i 0) (i 1).val (i 2) : ℝ) : EReal)
  rw [Nat.zero_add (i 1).val]
  exact congrArg _ (congrArg₂ (fun u v => f u (i 1).val v) (Fin.ext (Nat.zero_add _)) (Fin.ext (Nat.zero_add _)))

/-- Pairs of rows combined: the factors. -/
theorem down_A (X : FVec Ideal ⟨3, ![2, N, 1024]⟩ .f32) (hX : X = T N a)
    (h0 : (⟨3, ![2, N, 1024]⟩ : Shape).SlicesBy ![0, 0, 0] ![1, 2, 1] ⟨3, ![2, M, 1024]⟩)
    (h1 : (⟨3, ![2, N, 1024]⟩ : Shape).SlicesBy ![0, 1, 0] ![1, 2, 1] ⟨3, ![2, M, 1024]⟩) :
    mulf (Host.slice ⟨3, ![2, M, 1024]⟩ ![0, 0, 0] ![1, 2, 1] X h0) (Host.slice ⟨3, ![2, M, 1024]⟩ ![0, 1, 0] ![1, 2, 1] X h1) = T M (dA a) := by
  subst hX
  rw [slice_T, slice_T, mulf_T]
  simp only [Nat.zero_add, Nat.add_comm 1]
  rfl

/-- Pairs of rows combined: the summands. -/
theorem down_B (X Y : FVec Ideal ⟨3, ![2, N, 1024]⟩ .f32) (hX : X = T N a) (hY : Y = T N b)
    (h0 : (⟨3, ![2, N, 1024]⟩ : Shape).SlicesBy ![0, 0, 0] ![1, 2, 1] ⟨3, ![2, M, 1024]⟩)
    (h1 h1' : (⟨3, ![2, N, 1024]⟩ : Shape).SlicesBy ![0, 1, 0] ![1, 2, 1] ⟨3, ![2, M, 1024]⟩) :
    addf (mulf (Host.slice ⟨3, ![2, M, 1024]⟩ ![0, 1, 0] ![1, 2, 1] X h1) (Host.slice ⟨3, ![2, M, 1024]⟩ ![0, 0, 0] ![1, 2, 1] Y h0))
      (Host.slice ⟨3, ![2, M, 1024]⟩ ![0, 1, 0] ![1, 2, 1] Y h1') = T M (dB a b) := by
  subst hX hY
  rw [slice_T, slice_T, slice_T, mulf_T, addf_T]
  simp only [Nat.zero_add, Nat.add_comm 1]
  rfl

/-- A row before `K` rows. -/
theorem cons_T (hM : M = K + 1) (f g : Fin 2 → ℕ → Fin 1024 → ℝ)
    (h : Shape.Concatenates [(⟨3, ![2, 1, 1024]⟩ : Shape), ⟨3, ![2, K, 1024]⟩] ⟨3, ![2, M, 1024]⟩ 1) :
    concatenate ⟨3, ![2, M, 1024]⟩ 1 [⟨⟨3, ![2, 1, 1024]⟩, T 1 f⟩, ⟨⟨3, ![2, K, 1024]⟩, T K g⟩] h
      = T M (fun z s c => if s = 0 then f z 0 c else g z (s - 1) c) := by
  subst hM
  funext i
  obtain ⟨z, s, c, rfl⟩ : ∃ (z : Fin 2) (s : Fin (K + 1)) (c : Fin 1024), i = ix3 z s c := ⟨_, _, _, eq_ix3 i⟩
  by_cases hs : s.val = 0
  · rw [concatenate_pair_apply_left (s₁ := ⟨3, ![2, 1, 1024]⟩) (s₂ := ⟨3, ![2, K, 1024]⟩) 1 _ _ h (ix3 z s c) rfl (ix3 z (0 : Fin 1) c) (fun b => by
      match b with
      | ⟨0, _⟩ => rfl
      | ⟨1, _⟩ => exact hs.symm
      | ⟨2, _⟩ => rfl)]
    show ((f z 0 c : ℝ) : EReal) = ((if s.val = 0 then f z 0 c else g z (s.val - 1) c : ℝ) : EReal)
    rw [if_pos hs]
  · have hs' := s.isLt
    refine (concatenate_apply_piece (t := ⟨3, ![2, K + 1, 1024]⟩) 1 [⟨⟨3, ![2, 1, 1024]⟩, T 1 f⟩, ⟨⟨3, ![2, K, 1024]⟩, T K g⟩] h (ix3 z s c) 1 (Nat.lt_succ_self 1) ⟨3, ![2, K, 1024]⟩ (T K g) rfl rfl 1 rfl
      (ix3 z (⟨s.val - 1, by omega⟩ : Fin K) c) (fun b hb => by
        match b with
        | ⟨0, _⟩ => rfl
        | ⟨1, _⟩ => exact absurd rfl hb
        | ⟨2, _⟩ => rfl) (by show 1 + (s.val - 1) = s.val; omega)).trans ?_
    show ((g z (s.val - 1) c : ℝ) : EReal) = ((if s.val = 0 then f z 0 c else g z (s.val - 1) c : ℝ) : EReal)
    rw [if_neg hs]

/-- Rows at the even places, with 0 between. -/
theorem even_T (hN : N = 2 * M) (f : Fin 2 → ℕ → Fin 1024 → ℝ) {u : Shape} (v : FVec Ideal u .f32) (hv : ∀ i, v i = 0) (h) (hu) :
    pad ⟨3, ![2, N, 1024]⟩ ![0, 0, 0] ![0, 1, 0] ![0, 1, 0] (T M f) v h hu = T N (fun z s c => if s % 2 = 0 then f z (s / 2) c else 0) := by
  subst hN
  funext i
  obtain ⟨z, s, c, rfl⟩ : ∃ (z : Fin 2) (s : Fin (2 * M)) (c : Fin 1024), i = ix3 z s c := ⟨_, _, _, eq_ix3 i⟩
  have hs := s.isLt
  by_cases he : s.val % 2 = 0
  · rw [pad_apply_of_inside _ _ _ _ _ _ _ (ix3 z s c) (ix3 z (⟨s.val / 2, by omega⟩ : Fin M) c) (fun b => by
      match b with
      | ⟨0, _⟩ => show z.val = 0 + z.val * (0 + 1); omega
      | ⟨1, _⟩ => show s.val = 0 + s.val / 2 * (1 + 1); omega
      | ⟨2, _⟩ => show c.val = 0 + c.val * (0 + 1); omega)]
    show ((f z (s.val / 2) c : ℝ) : EReal) = ((if s.val % 2 = 0 then f z (s.val / 2) c else 0 : ℝ) : EReal)
    rw [if_pos he]
  · rw [pad_apply_of_not_inside _ _ _ _ _ _ _ (ix3 z s c) 1 (fun hh => he (by
      have := hh.2.1
      change (s.val - 0) % (1 + 1) = 0 at this
      omega)), hv]
    show (0 : EReal) = ((if s.val % 2 = 0 then f z (s.val / 2) c else 0 : ℝ) : EReal)
    rw [if_neg he]; rfl

/-- Rows at the odd places, with 0 between. -/
theorem odd_T (hN : N = 2 * M) (f : Fin 2 → ℕ → Fin 1024 → ℝ) {u : Shape} (v : FVec Ideal u .f32) (hv : ∀ i, v i = 0) (h) (hu) :
    pad ⟨3, ![2, N, 1024]⟩ ![0, 1, 0] ![0, 0, 0] ![0, 1, 0] (T M f) v h hu = T N (fun z s c => if s % 2 = 0 then 0 else f z (s / 2) c) := by
  subst hN
  funext i
  obtain ⟨z, s, c, rfl⟩ : ∃ (z : Fin 2) (s : Fin (2 * M)) (c : Fin 1024), i = ix3 z s c := ⟨_, _, _, eq_ix3 i⟩
  have hs := s.isLt
  by_cases he : s.val % 2 = 0
  · rw [pad_apply_of_not_inside _ _ _ _ _ _ _ (ix3 z s c) 1 (fun hh => by
      have h1 := hh.1
      have h2 := hh.2.1
      change 1 ≤ s.val at h1
      change (s.val - 1) % (1 + 1) = 0 at h2
      omega), hv]
    show (0 : EReal) = ((if s.val % 2 = 0 then 0 else f z (s.val / 2) c : ℝ) : EReal)
    rw [if_pos he]; rfl
  · rw [pad_apply_of_inside _ _ _ _ _ _ _ (ix3 z s c) (ix3 z (⟨s.val / 2, by omega⟩ : Fin M) c) (fun b => by
      match b with
      | ⟨0, _⟩ => show z.val = 0 + z.val * (0 + 1); omega
      | ⟨1, _⟩ => show s.val = 1 + s.val / 2 * (1 + 1); omega
      | ⟨2, _⟩ => show c.val = 0 + c.val * (0 + 1); omega)]
    show ((f z (s.val / 2) c : ℝ) : EReal) = ((if s.val % 2 = 0 then 0 else f z (s.val / 2) c : ℝ) : EReal)
    rw [if_neg he]

/-- From the states of the pairs, the states of the rows. -/
theorem up (hM : M = K + 1) (hN : N = 2 * M) (X Y : FVec Ideal ⟨3, ![2, N, 1024]⟩ .f32) (hX : X = T N a) (hY : Y = T N b)
    (Z : FVec Ideal ⟨3, ![2, M, 1024]⟩ .f32) (hZ : Z = T M (St (dA a) (dB a b))) {u u' : Shape} (v : FVec Ideal u .f32) (hv : ∀ i, v i = 0)
    (v' : FVec Ideal u' .f32) (hv' : ∀ i, v' i = 0)
    (hs) (hs') (hf) (hf') (hc) (hp) (hu) (hp') (hu') :
    addf (pad ⟨3, ![2, N, 1024]⟩ ![0, 0, 0] ![0, 1, 0] ![0, 1, 0] (concatenate ⟨3, ![2, M, 1024]⟩ 1
        [⟨⟨3, ![2, 1, 1024]⟩, extractStridedSlice ⟨3, ![2, 1, 1024]⟩ ![0, 0, 0] Y hf⟩,
         ⟨⟨3, ![2, K, 1024]⟩, addf (mulf (Host.slice ⟨3, ![2, K, 1024]⟩ ![0, 2, 0] ![1, 2, 1] X hs) (extractStridedSlice ⟨3, ![2, K, 1024]⟩ ![0, 0, 0] Z hf'))
            (Host.slice ⟨3, ![2, K, 1024]⟩ ![0, 2, 0] ![1, 2, 1] Y hs')⟩] hc) v hp hu)
      (pad ⟨3, ![2, N, 1024]⟩ ![0, 1, 0] ![0, 0, 0] ![0, 1, 0] Z v' hp' hu') = T N (St a b) := by
  subst hX hY hZ
  rw [slice_T, slice_T, first_T, first_T, mulf_T, addf_T, cons_T hM, even_T hN _ v hv, odd_T hN _ v' hv', addf_T]
  refine congrArg _ (funext fun z => funext fun s => funext fun c => ?_)
  simp only [St, H_pair]
  rcases Nat.even_or_odd' s with ⟨m, rfl | rfl⟩
  · have e1 : 2 * m % 2 = 0 := by omega
    have e2 : 2 * m / 2 = m := by omega
    rw [if_pos e1, if_pos e1, e2, add_zero]
    cases m with
    | zero => simp [H]
    | succ m =>
      rw [if_neg (Nat.succ_ne_zero m), Nat.add_sub_cancel, show 2 + 2 * m = 2 * (m + 1) by omega]
      rfl
  · have e1 : ¬ (2 * m + 1) % 2 = 0 := by omega
    have e2 : (2 * m + 1) / 2 = m := by omega
    rw [if_neg e1, if_neg e1, e2, zero_add, show 2 * (m + 1) = 2 * m + 1 + 1 by omega]

end Cert.Kernel9Ideal.Fwd

end
-- ==== Proof.FwdArrays.lean ====
/-
  The blocks of the arguments that a grid point of the mixers' forward kernel works on, and the array of the states.
-/
module

public import proofs.«01_k».proof.Proof.FwdNums
public import proofs.«01_k».proof.Proof.FwdTrip
public import proofs.«01_k».proof.Proof.FwdLevels
public import proofs.«01_k».proof.Proof.Gen.Kernel9Ideal.Value
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Kernel9Ideal.Fwd

open Cert.Kernel9Ideal Cert.Kernel9Ideal.Gen Idealize.ShloMosaic.Pointwise
open Cert.Kernel2Ideal.Mix (chan hi lo hi_chan lo_chan chan_hi_lo seg R2 R3 rows_val)

variable (m : (ℓ : Loc nD τ sig) → Buf (Elt Ideal) ℓ) (c : Dev nD)

/-- Where each window's block lies at a point. -/
theorem idx : ∀ t : Fin cfg0.N, win0_0.index t = ![0, t.val % 2, 0, t.val / 2] ∧ win0_4.index t = ![0, t.val / 2] ∧ win0_5.index t = ![0, t.val / 2]
    ∧ win0_6.index t = ![t.val / 2, 0, 0] ∧ win0_7.index t = ![t.val / 2, 0, 0] ∧ win0_8.index t = ![0, t.val / 2] ∧ win0_9.index t = ![0, t.val / 2]
    ∧ win0_10.index t = ![0, t.val / 2] ∧ win0_12.index t = ![t.val % 2, 0, t.val / 2] := by decide +kernel

abbrev PR : FVec Ideal S2x2048x12288 .f32 := m ((c : Thread nD τ).loc main_arg0)
abbrev CW : FVec Ideal S4x1024 .f32 := m ((c : Thread nD τ).loc main_arg4)
abbrev CB : FVec Ideal S1024 .f32 := m ((c : Thread nD τ).loc main_arg5)
abbrev WA : FVec Ideal S16x64x64 .f32 := m ((c : Thread nD τ).loc main_arg6)
abbrev BA : FVec Ideal S16x64 .f32 := m ((c : Thread nD τ).loc main_arg7)
abbrev WX : FVec Ideal S16x64x64 .f32 := m ((c : Thread nD τ).loc main_arg8)
abbrev BX : FVec Ideal S16x64 .f32 := m ((c : Thread nD τ).loc main_arg9)
abbrev LM : FVec Ideal S1024 .f32 := m ((c : Thread nD τ).loc main_arg10)

/-- The batch and the channel block of a point. -/
def bt (t : Fin cfg0.N) : Fin 2 := ⟨t.val % 2, Nat.mod_lt _ (by decide)⟩
def cb (t : Fin cfg0.N) : Fin 8 := ⟨t.val / 2, by have : t.val < 16 := t.isLt; omega⟩

/-- The gates' matrices, two heads packed into one, as the launch finds them. -/
def pairs (M : FVec Ideal S16x64x64 .f32) : FVec Ideal S8x128x128 .f32 :=
  let z : FVec Ideal S8x64x64 .f32 := broadcastInDim S8x64x64 ![] bcast_S_S8x64x64 (constant S_ .f32 0x00000000#32)
  let v : FVec Ideal S8x2x64x64 .f32 := shapeCast _ M shapeCasts_S16x64x64_S8x2x64x64
  concatenate S8x128x128 1
    [⟨S8x64x128, concatenate S8x64x128 2 [⟨S8x64x64, shapeCast S8x64x64 (extractStridedSlice S8x1x64x64 ![0, 0, 0, 0] v slices_S8x2x64x64_S8x1x64x64_0_0_0_0) shapeCasts_S8x1x64x64_S8x64x64⟩, ⟨S8x64x64, z⟩] concatenates_S8x64x64_S8x64x64_S8x64x128_d2⟩,
     ⟨S8x64x128, concatenate S8x64x128 2 [⟨S8x64x64, z⟩, ⟨S8x64x64, shapeCast S8x64x64 (extractStridedSlice S8x1x64x64 ![0, 1, 0, 0] v slices_S8x2x64x64_S8x1x64x64_0_1_0_0) shapeCasts_S8x1x64x64_S8x64x64⟩] concatenates_S8x64x64_S8x64x64_S8x64x128_d2⟩]
    concatenates_S8x64x128_S8x64x128_S8x128x128_d1
def pack (M : FVec Ideal S16x64x64 .f32) : FVec Ideal S8x128x128 .bf16 := truncf .bf16 (pairs M) bitsLt_bf16_f32

theorem hv2 : V m c main_v2 = broadcastInDim S1x1024 ![1] bcast_S1024_S1x1024_1 (CB m c) := by rfl
theorem hv12 : V m c main_v12 = pack (WA m c) := by rfl
theorem hv22 : V m c main_v22 = pack (WX m c) := by rfl
theorem hv23 : V m c main_v23 = shapeCast S1x1024 (BA m c) shapeCasts_S16x64_S1x1024 := by rfl
theorem hv24 : V m c main_v24 = shapeCast S1x1024 (BX m c) shapeCasts_S16x64_S1x1024 := by rfl
theorem hv25 : V m c main_v25 = broadcastInDim S1x1024 ![1] bcast_S1024_S1x1024_1 (LM m c) := by rfl
theorem hv28 : V m c main_v28 = truncf (F := Ideal) (φ := .f32) .bf16 (transpose S12x2x2048x1024 [2, 0, 1, 3]
    (shapeCast S2x2048x12x1024 (PR m c) shapeCasts_S2x2048x12288_S2x2048x12x1024) transposes_S2x2048x12x1024_S12x2x2048x1024_2_0_1_3) bitsLt_bf16_f32 := by
  rfl

theorem blk0 (t : Fin cfg0.N) (j : Fin 12) (a : Fin 1) (s : Fin 2048) (l : Fin 128) :
    (iblk m c 0 t : Vec Ideal S12x1x2048x128 .bf16) (ix4 j a s l) = PR m c (ix3 (bt t) s (seg j (chan (cb t) l))) := by
  unfold iblk
  blk_simp [idx t]
  rw [hv28]
  pointwise
  blk_ext [idx t, bt, cb, chan, seg]
theorem blk4 (t : Fin cfg0.N) (j : Fin 4) (l : Fin 128) : (iblk m c 4 t : Vec Ideal S4x128 .f32) (ix2 j l) = CW m c (ix2 j (chan (cb t) l)) := by
  blk_ext [iblk, V, idx t, cb, chan]
theorem blk5 (t : Fin cfg0.N) (a : Fin 1) (l : Fin 128) : (iblk m c 5 t : Vec Ideal S1x128 .f32) (ix2 a l) = CB m c (ix1 (chan (cb t) l)) := by
  unfold iblk
  blk_simp [idx t]
  rw [hv2]
  pointwise
  blk_ext [idx t, cb, chan]
theorem blk10 (t : Fin cfg0.N) (a : Fin 1) (l : Fin 128) : (iblk m c 10 t : Vec Ideal S1x128 .f32) (ix2 a l) = LM m c (ix1 (chan (cb t) l)) := by
  unfold iblk
  blk_simp [idx t]
  rw [hv25]
  pointwise
  blk_ext [idx t, cb, chan]
theorem blk8 (t : Fin cfg0.N) (a : Fin 1) (l : Fin 128) : (iblk m c 8 t : Vec Ideal S1x128 .f32) (ix2 a l) = BA m c (ix2 (hd (chan (cb t) l)) (ld (chan (cb t) l))) := by
  unfold iblk
  blk_simp [idx t]
  rw [hv23]
  pointwise
  blk_ext [idx t, cb, chan, hd, ld]
theorem blk9 (t : Fin cfg0.N) (a : Fin 1) (l : Fin 128) : (iblk m c 9 t : Vec Ideal S1x128 .f32) (ix2 a l) = BX m c (ix2 (hd (chan (cb t) l)) (ld (chan (cb t) l))) := by
  unfold iblk
  blk_simp [idx t]
  rw [hv24]
  pointwise
  blk_ext [idx t, cb, chan, hd, ld]
theorem blk6 (t : Fin cfg0.N) (a : Fin 1) (i l : Fin 128) : (iblk m c 6 t : Vec Ideal S1x128x128 .bf16) (ix3 a i l) = pack (WA m c) (ix3 (cb t) i l) := by
  unfold iblk
  blk_simp [idx t]
  rw [hv12]
  blk_ext [idx t, cb]
theorem blk7 (t : Fin cfg0.N) (a : Fin 1) (i l : Fin 128) : (iblk m c 7 t : Vec Ideal S1x128x128 .bf16) (ix3 a i l) = pack (WX m c) (ix3 (cb t) i l) := by
  unfold iblk
  blk_simp [idx t]
  rw [hv22]
  blk_ext [idx t, cb]

/-- The packed matrices over the real numbers. -/
theorem pack_at (M : FVec Ideal S16x64x64 .f32) (R : Fin 16 → Fin 64 → Fin 64 → ℝ) (hM : ∀ g i l, M (ix3 g i l) = ((R g i l : ℝ) : EReal)) (g : Fin 8) (i l : Fin 128) :
    pack M (ix3 g i l) = ((pk R g i l : ℝ) : EReal) := by
  have hh : ∀ (o : Fin 2) (off : Fin 4 → ℕ) (ho : off = ![0, o.val, 0, 0]) (h : S8x2x64x64.Slices off S8x1x64x64) (i l : Fin 64),
      shapeCast S8x64x64 (extractStridedSlice S8x1x64x64 off (shapeCast S8x2x64x64 M shapeCasts_S16x64x64_S8x2x64x64) h) shapeCasts_S8x1x64x64_S8x64x64 (ix3 g i l)
        = ((R ⟨2 * g.val + o.val, by omega⟩ i l : ℝ) : EReal) := by
    intro o off ho h i l
    subst ho
    rw [shapeCast_apply (k := ix4 g (0 : Fin 1) i l), Idealize.ShloMosaic.extractStridedSlice_apply (k := ix4 g o i l) (hk := fun a => by fin_cases a <;> simp),
      shapeCast_apply (k := ix3 (⟨2 * g.val + o.val, by omega⟩ : Fin 16) i l)]
    · exact hM _ _ _
    · rw [Shape.rowMajor_val_four, Shape.rowMajor_val_three]
      show ((2 * g.val + o.val) * 64 + i.val) * 64 + l.val = ((g.val * 2 + o.val) * 64 + i.val) * 64 + l.val
      omega
    · rw [Shape.rowMajor_val_four, Shape.rowMajor_val_three]
      show ((g.val * 1 + 0) * 64 + i.val) * 64 + l.val = (g.val * 64 + i.val) * 64 + l.val
      omega
  have hz : ∀ i : S8x64x64.Idx, (broadcastInDim S8x64x64 ![] bcast_S_S8x64x64 (constant (F := Ideal) S_ .f32 0x00000000#32)) i = ((0 : ℝ) : EReal) := by
    intro i
    pointwise
    exact EReal.coe_zero.symm
  have e3 : ∀ (a a' : Fin 16) (b b' c c' : Fin 64), a = a' → b = b' → c = c' → ((R a b c : ℝ) : EReal) = ((R a' b' c' : ℝ) : EReal) := by
    rintro a _ b _ c _ rfl rfl rfl; rfl
  show pairs M (ix3 g i l) = _
  unfold pairs
  dsimp only
  unfold pk
  rcases Nat.lt_or_ge i.val 64 with hi | hi
  · rw [concatenate_pair_apply_left (s₁ := S8x64x128) (s₂ := S8x64x128) 1 _ _ _ (ix3 g i l) rfl (ix3 g (⟨i.val, hi⟩ : Fin 64) l) (fun b => by fin_cases b <;> rfl)]
    rcases Nat.lt_or_ge l.val 64 with hl | hl
    · rw [concatenate_pair_apply_left (s₁ := S8x64x64) (s₂ := S8x64x64) 2 _ _ _ (ix3 g (⟨i.val, hi⟩ : Fin 64) l) rfl (ix3 g (⟨i.val, hi⟩ : Fin 64) (⟨l.val, hl⟩ : Fin 64)) (fun b => by fin_cases b <;> rfl)]
      refine (hh 0 _ rfl _ _ _).trans ?_
      rw [if_pos (by omega)]
      exact e3 _ _ _ _ _ _ (Fin.ext (by show 2 * g.val + 0 = 2 * g.val + i.val / 64; omega)) (Fin.ext (by show i.val = i.val % 64; omega)) (Fin.ext (by show l.val = l.val % 64; omega))
    · rw [concatenate_pair_apply_right (s₁ := S8x64x64) (s₂ := S8x64x64) 2 _ _ _ (ix3 g (⟨i.val, hi⟩ : Fin 64) l) rfl rfl (ix3 g (⟨i.val, hi⟩ : Fin 64) (⟨l.val - 64, by omega⟩ : Fin 64)) (fun b hb => by
          fin_cases b
          · rfl
          · rfl
          · exact absurd rfl hb) (by show l.val - 64 + 64 = l.val; omega), hz, if_neg (by omega)]
  · rw [concatenate_pair_apply_right (s₁ := S8x64x128) (s₂ := S8x64x128) 1 _ _ _ (ix3 g i l) rfl rfl (ix3 g (⟨i.val - 64, by omega⟩ : Fin 64) l) (fun b hb => by
          fin_cases b
          · rfl
          · exact absurd rfl hb
          · rfl) (by show i.val - 64 + 64 = i.val; omega)]
    rcases Nat.lt_or_ge l.val 64 with hl | hl
    · rw [concatenate_pair_apply_left (s₁ := S8x64x64) (s₂ := S8x64x64) 2 _ _ _ (ix3 g (⟨i.val - 64, by omega⟩ : Fin 64) l) rfl (ix3 g (⟨i.val - 64, by omega⟩ : Fin 64) (⟨l.val, hl⟩ : Fin 64)) (fun b => by fin_cases b <;> rfl),
        hz, if_neg (by omega)]
    · rw [concatenate_pair_apply_right (s₁ := S8x64x64) (s₂ := S8x64x64) 2 _ _ _ (ix3 g (⟨i.val - 64, by omega⟩ : Fin 64) l) rfl rfl (ix3 g (⟨i.val - 64, by omega⟩ : Fin 64) (⟨l.val - 64, by omega⟩ : Fin 64)) (fun b hb => by
          fin_cases b
          · rfl
          · rfl
          · exact absurd rfl hb) (by show l.val - 64 + 64 = l.val; omega)]
      refine (hh 1 _ rfl _ _ _).trans ?_
      rw [if_pos (by omega)]
      exact e3 _ _ _ _ _ _ (Fin.ext (by show 2 * g.val + 1 = 2 * g.val + i.val / 64; omega)) (Fin.ext (by show i.val - 64 = i.val % 64; omega)) (Fin.ext (by show l.val - 64 = l.val % 64; omega))

/-- The device's arguments are the real numbers `R`. -/
structure IsNums (R : Nums) : Prop where
  pr : ∀ z s k, PR m c (ix3 z s (seg 7 k)) = ((R.P z s k : ℝ) : EReal)
  cw : ∀ j k, CW m c (ix2 j k) = ((R.W j k : ℝ) : EReal)
  cb : ∀ k, CB m c (ix1 k) = ((R.CB k : ℝ) : EReal)
  wa : ∀ g i l, WA m c (ix3 g i l) = ((R.WA g i l : ℝ) : EReal)
  wx : ∀ g i l, WX m c (ix3 g i l) = ((R.WX g i l : ℝ) : EReal)
  ba : ∀ g i, BA m c (ix2 g i) = ((R.BA g i : ℝ) : EReal)
  bx : ∀ g i, BX m c (ix2 g i) = ((R.BX g i : ℝ) : EReal)
  lm : ∀ k, LM m c (ix1 k) = ((R.L k : ℝ) : EReal)

theorem emb12 (t : Fin cfg0.N) (y : S1x2048x128.Idx) : ((cfg0.win 12).blk t).view.emb y = ix3 (bt t) (y 1) (chan (cb t) (y 2)) := by
  blk_ext [idx t, bt, cb, chan]

variable {m c} {R : Nums} (hR : IsNums m c R) (hd : R.Decays)
include hR hd

theorem out_point (t : Fin cfg0.N) (y : S1x2048x128.Idx) : (outsAt0 m c t).2 y = ((Hl (R.slab (bt t) (cb t)).a (R.slab (bt t) (cb t)).b ((y 1).val + 1) (y 2) : ℝ) : EReal) := by
  have hX : ∀ (s : Fin 2048) (l : Fin 128), (iblk m c 0 t : Vec Ideal S12x1x2048x128 .bf16) (ix4 (7 : Fin 12) (0 : Fin 1) s l) = (((R.slab (bt t) (cb t)).x s.val l : ℝ) : EReal) := fun s l =>
    (blk0 m c t 7 0 s l).trans ((hR.pr _ _ _).trans (congrArg (fun x : ℝ => (x : EReal)) (rows_val (fun s l => R.P (bt t) s (chan (cb t) l)) s l).symm))
  have e4 : (iblk m c 4 t : Vec Ideal S4x128 .f32) = R2 (R.slab (bt t) (cb t)).w (φ := .f32) := by
    funext i; obtain ⟨j, l, rfl⟩ : ∃ (j : Fin 4) (l : Fin 128), i = ix2 j l := ⟨_, _, eq_ix2 i⟩
    exact (blk4 m c t j l).trans (hR.cw _ _)
  have e5 : (iblk m c 5 t : Vec Ideal S1x128 .f32) = row (R.slab (bt t) (cb t)).cb := by
    funext i; obtain ⟨j, l, rfl⟩ : ∃ (j : Fin 1) (l : Fin 128), i = ix2 j l := ⟨_, _, eq_ix2 i⟩
    exact (blk5 m c t j l).trans (hR.cb _)
  have e6 : (iblk m c 6 t : Vec Ideal S1x128x128 .bf16) = R3 (R.slab (bt t) (cb t)).wa (φ := .bf16) := by
    funext i; obtain ⟨j, a, l, rfl⟩ : ∃ (j : Fin 1) (a : Fin 128) (l : Fin 128), i = ix3 j a l := ⟨_, _, _, eq_ix3 i⟩
    exact (blk6 m c t j a l).trans (pack_at _ _ hR.wa _ _ _)
  have e7 : (iblk m c 7 t : Vec Ideal S1x128x128 .bf16) = R3 (R.slab (bt t) (cb t)).wx (φ := .bf16) := by
    funext i; obtain ⟨j, a, l, rfl⟩ : ∃ (j : Fin 1) (a : Fin 128) (l : Fin 128), i = ix3 j a l := ⟨_, _, _, eq_ix3 i⟩
    exact (blk7 m c t j a l).trans (pack_at _ _ hR.wx _ _ _)
  have e8 : (iblk m c 8 t : Vec Ideal S1x128 .f32) = row (R.slab (bt t) (cb t)).ba := by
    funext i; obtain ⟨j, l, rfl⟩ : ∃ (j : Fin 1) (l : Fin 128), i = ix2 j l := ⟨_, _, eq_ix2 i⟩
    exact (blk8 m c t j l).trans (hR.ba _ _)
  have e9 : (iblk m c 9 t : Vec Ideal S1x128 .f32) = row (R.slab (bt t) (cb t)).bx := by
    funext i; obtain ⟨j, l, rfl⟩ : ∃ (j : Fin 1) (l : Fin 128), i = ix2 j l := ⟨_, _, eq_ix2 i⟩
    exact (blk9 m c t j l).trans (hR.bx _ _)
  have e10 : (iblk m c 10 t : Vec Ideal S1x128 .f32) = row (R.slab (bt t) (cb t)).lam := by
    funext i; obtain ⟨j, l, rfl⟩ : ∃ (j : Fin 1) (l : Fin 128), i = ix2 j l := ⟨_, _, eq_ix2 i⟩
    exact (blk10 m c t j l).trans (hR.lm _)
  have hc : ∀ s l, s < 2048 → 2 * (R.slab (bt t) (cb t)).la s l ≤ cut := fun s l hs => by
    have h := hd (bt t) s (chan (cb t) l) hs
    rw [hi_chan, lo_chan] at h
    exact h
  unfold outsAt0
  dsimp only
  rw [e4, e5, e6, e7, e8, e9, e10]
  apply out_at _ _ hX hc c

/-- The states' array: every point writes its channels of its example. -/
theorem final12 : (dats m 0 c).arrAt 12 (cfgs 0).N = T 2048 (St R.a R.b) := by
  refine (dats m 0 c).arrAt_eq_of_covers 12 _ (by decide +kernel) fun t hf y => ?_
  blk_simp
  rw [after0_12, show ((cfg0.win 12).blk t).view.emb y = _ from emb12 t y]
  obtain ⟨a, s, l, rfl⟩ : ∃ (a : Fin 1) (s : Fin 2048) (l : Fin 128), y = ix3 a s l := ⟨_, _, _, eq_ix3 y⟩
  refine (out_point hR hd t (ix3 a s l)).trans ?_
  show ((Hl (R.slab (bt t) (cb t)).a (R.slab (bt t) (cb t)).b (s.val + 1) l : ℝ) : EReal) = ((H (fun s => (R.slab (bt t) (hi (chan (cb t) l))).a s (lo (chan (cb t) l))) (fun s => (R.slab (bt t) (hi (chan (cb t) l))).b s (lo (chan (cb t) l))) (s.val + 1) : ℝ) : EReal)
  rw [hi_chan, lo_chan]
  rfl

end Cert.Kernel9Ideal.Fwd

end
-- ==== Proof.FwdRefScan.lean ====
/-
  The reference's recurrence: its result is the state after each row, of the factors and summands that it combines.
-/
module

public import proofs.«01_k».proof.Proof.FwdLevels
public import proofs.«01_k».proof.Proof.Gen.Reference9Ideal.Read

@[expose] public section

set_option maxRecDepth 16384

noncomputable section

open Idealize.ShloMosaic Idealize.ShloMosaic.Pointwise

namespace Cert.Kernel9Ideal.Fwd

open Cert.Reference9Ideal.Gen Cert.Reference9Ideal.Read

theorem zero_all (i : S_.Idx) : constant (F := Ideal) S_ .f32 0x00000000#32 i = 0 := Cert.Kernel2Ideal.Mix.zero_w

/-- Eleven times the rows are combined in pairs, and eleven times the states between are filled in. -/
theorem scan_ref (x0 x4 x5 x6 x7 x8 x9 x10) (a b : Fin 2 → ℕ → Fin 1024 → ℝ)
    (ha : val_main_v78 (F := Ideal) x0 x4 x5 x6 x7 x10 = T 2048 a) (hb : val_main_v85 (F := Ideal) x0 x4 x5 x6 x7 x8 x9 x10 = T 2048 b) :
    val_main_v349 (F := Ideal) x0 x4 x5 x6 x7 x8 x9 x10 = T 2048 (St a b) := by
  obtain ⟨a1, ea1⟩ : ∃ f, f = dA a := ⟨_, rfl⟩
  obtain ⟨b1, eb1⟩ : ∃ f, f = dB a b := ⟨_, rfl⟩
  have A1 : val_main_v90 (F := Ideal) x0 x4 x5 x6 x7 x10 = T 1024 a1 := (down_A (N := 2048) (M := 1024) a _ ha _ _).trans (by rw [ea1])
  have B1 : val_main_v92 (F := Ideal) x0 x4 x5 x6 x7 x8 x9 x10 = T 1024 b1 := (down_B (N := 2048) (M := 1024) a b _ _ ha hb _ _ _).trans (by rw [eb1])
  obtain ⟨a2, ea2⟩ : ∃ f, f = dA a1 := ⟨_, rfl⟩
  obtain ⟨b2, eb2⟩ : ∃ f, f = dB a1 b1 := ⟨_, rfl⟩
  have A2 : val_main_v97 (F := Ideal) x0 x4 x5 x6 x7 x10 = T 512 a2 := (down_A (N := 1024) (M := 512) a1 _ A1 _ _).trans (by rw [ea2])
  have B2 : val_main_v99 (F := Ideal) x0 x4 x5 x6 x7 x8 x9 x10 = T 512 b2 := (down_B (N := 1024) (M := 512) a1 b1 _ _ A1 B1 _ _ _).trans (by rw [eb2])
  obtain ⟨a3, ea3⟩ : ∃ f, f = dA a2 := ⟨_, rfl⟩
  obtain ⟨b3, eb3⟩ : ∃ f, f = dB a2 b2 := ⟨_, rfl⟩
  have A3 : val_main_v104 (F := Ideal) x0 x4 x5 x6 x7 x10 = T 256 a3 := (down_A (N := 512) (M := 256) a2 _ A2 _ _).trans (by rw [ea3])
  have B3 : val_main_v106 (F := Ideal) x0 x4 x5 x6 x7 x8 x9 x10 = T 256 b3 := (down_B (N := 512) (M := 256) a2 b2 _ _ A2 B2 _ _ _).trans (by rw [eb3])
  obtain ⟨a4, ea4⟩ : ∃ f, f = dA a3 := ⟨_, rfl⟩
  obtain ⟨b4, eb4⟩ : ∃ f, f = dB a3 b3 := ⟨_, rfl⟩
  have A4 : val_main_v111 (F := Ideal) x0 x4 x5 x6 x7 x10 = T 128 a4 := (down_A (N := 256) (M := 128) a3 _ A3 _ _).trans (by rw [ea4])
  have B4 : val_main_v113 (F := Ideal) x0 x4 x5 x6 x7 x8 x9 x10 = T 128 b4 := (down_B (N := 256) (M := 128) a3 b3 _ _ A3 B3 _ _ _).trans (by rw [eb4])
  obtain ⟨a5, ea5⟩ : ∃ f, f = dA a4 := ⟨_, rfl⟩
  obtain ⟨b5, eb5⟩ : ∃ f, f = dB a4 b4 := ⟨_, rfl⟩
  have A5 : val_main_v118 (F := Ideal) x0 x4 x5 x6 x7 x10 = T 64 a5 := (down_A (N := 128) (M := 64) a4 _ A4 _ _).trans (by rw [ea5])
  have B5 : val_main_v120 (F := Ideal) x0 x4 x5 x6 x7 x8 x9 x10 = T 64 b5 := (down_B (N := 128) (M := 64) a4 b4 _ _ A4 B4 _ _ _).trans (by rw [eb5])
  obtain ⟨a6, ea6⟩ : ∃ f, f = dA a5 := ⟨_, rfl⟩
  obtain ⟨b6, eb6⟩ : ∃ f, f = dB a5 b5 := ⟨_, rfl⟩
  have A6 : val_main_v125 (F := Ideal) x0 x4 x5 x6 x7 x10 = T 32 a6 := (down_A (N := 64) (M := 32) a5 _ A5 _ _).trans (by rw [ea6])
  have B6 : val_main_v127 (F := Ideal) x0 x4 x5 x6 x7 x8 x9 x10 = T 32 b6 := (down_B (N := 64) (M := 32) a5 b5 _ _ A5 B5 _ _ _).trans (by rw [eb6])
  obtain ⟨a7, ea7⟩ : ∃ f, f = dA a6 := ⟨_, rfl⟩
  obtain ⟨b7, eb7⟩ : ∃ f, f = dB a6 b6 := ⟨_, rfl⟩
  have A7 : val_main_v132 (F := Ideal) x0 x4 x5 x6 x7 x10 = T 16 a7 := (down_A (N := 32) (M := 16) a6 _ A6 _ _).trans (by rw [ea7])
  have B7 : val_main_v134 (F := Ideal) x0 x4 x5 x6 x7 x8 x9 x10 = T 16 b7 := (down_B (N := 32) (M := 16) a6 b6 _ _ A6 B6 _ _ _).trans (by rw [eb7])
  obtain ⟨a8, ea8⟩ : ∃ f, f = dA a7 := ⟨_, rfl⟩
  obtain ⟨b8, eb8⟩ : ∃ f, f = dB a7 b7 := ⟨_, rfl⟩
  have A8 : val_main_v139 (F := Ideal) x0 x4 x5 x6 x7 x10 = T 8 a8 := (down_A (N := 16) (M := 8) a7 _ A7 _ _).trans (by rw [ea8])
  have B8 : val_main_v141 (F := Ideal) x0 x4 x5 x6 x7 x8 x9 x10 = T 8 b8 := (down_B (N := 16) (M := 8) a7 b7 _ _ A7 B7 _ _ _).trans (by rw [eb8])
  obtain ⟨a9, ea9⟩ : ∃ f, f = dA a8 := ⟨_, rfl⟩
  obtain ⟨b9, eb9⟩ : ∃ f, f = dB a8 b8 := ⟨_, rfl⟩
  have A9 : val_main_v146 (F := Ideal) x0 x4 x5 x6 x7 x10 = T 4 a9 := (down_A (N := 8) (M := 4) a8 _ A8 _ _).trans (by rw [ea9])
  have B9 : val_main_v148 (F := Ideal) x0 x4 x5 x6 x7 x8 x9 x10 = T 4 b9 := (down_B (N := 8) (M := 4) a8 b8 _ _ A8 B8 _ _ _).trans (by rw [eb9])
  obtain ⟨a10, ea10⟩ : ∃ f, f = dA a9 := ⟨_, rfl⟩
  obtain ⟨b10, eb10⟩ : ∃ f, f = dB a9 b9 := ⟨_, rfl⟩
  have A10 : val_main_v153 (F := Ideal) x0 x4 x5 x6 x7 x10 = T 2 a10 := (down_A (N := 4) (M := 2) a9 _ A9 _ _).trans (by rw [ea10])
  have B10 : val_main_v155 (F := Ideal) x0 x4 x5 x6 x7 x8 x9 x10 = T 2 b10 := (down_B (N := 4) (M := 2) a9 b9 _ _ A9 B9 _ _ _).trans (by rw [eb10])
  obtain ⟨a11, ea11⟩ : ∃ f, f = dA a10 := ⟨_, rfl⟩
  obtain ⟨b11, eb11⟩ : ∃ f, f = dB a10 b10 := ⟨_, rfl⟩
  have A11 : val_main_v160 (F := Ideal) x0 x4 x5 x6 x7 x10 = T 1 a11 := (down_A (N := 2) (M := 1) a10 _ A10 _ _).trans (by rw [ea11])
  have B11 : val_main_v162 (F := Ideal) x0 x4 x5 x6 x7 x8 x9 x10 = T 1 b11 := (down_B (N := 2) (M := 1) a10 b10 _ _ A10 B10 _ _ _).trans (by rw [eb11])
  have U11 : val_main_v162 (F := Ideal) x0 x4 x5 x6 x7 x8 x9 x10 = T 1 (St a11 b11) := B11.trans (by
    funext i
    have h : (i 1).val = 0 := by have := (i 1).isLt; change (i 1).val < 1 at this; omega
    show ((b11 (i 0) (i 1).val (i 2) : ℝ) : EReal) = ((a11 (i 0) (i 1).val (i 2) * H _ _ (i 1).val + b11 (i 0) (i 1).val (i 2) : ℝ) : EReal)
    rw [h, show H (fun s => a11 (i 0) s (i 2)) (fun s => b11 (i 0) s (i 2)) 0 = 0 from rfl, mul_zero, zero_add])
  have U10 : val_main_v179 (F := Ideal) x0 x4 x5 x6 x7 x8 x9 x10 = T 2 (St a10 b10) :=
    up (N := 2) (M := 1) (K := 0) a10 b10 rfl rfl _ _ A10 B10 _ (U11.trans (by rw [ea11, eb11])) _ zero_all _ zero_all _ _ _ _ _ _ _ _ _
  have U9 : val_main_v196 (F := Ideal) x0 x4 x5 x6 x7 x8 x9 x10 = T 4 (St a9 b9) :=
    up (N := 4) (M := 2) (K := 1) a9 b9 rfl rfl _ _ A9 B9 _ (U10.trans (by rw [ea10, eb10])) _ zero_all _ zero_all _ _ _ _ _ _ _ _ _
  have U8 : val_main_v213 (F := Ideal) x0 x4 x5 x6 x7 x8 x9 x10 = T 8 (St a8 b8) :=
    up (N := 8) (M := 4) (K := 3) a8 b8 rfl rfl _ _ A8 B8 _ (U9.trans (by rw [ea9, eb9])) _ zero_all _ zero_all _ _ _ _ _ _ _ _ _
  have U7 : val_main_v230 (F := Ideal) x0 x4 x5 x6 x7 x8 x9 x10 = T 16 (St a7 b7) :=
    up (N := 16) (M := 8) (K := 7) a7 b7 rfl rfl _ _ A7 B7 _ (U8.trans (by rw [ea8, eb8])) _ zero_all _ zero_all _ _ _ _ _ _ _ _ _
  have U6 : val_main_v247 (F := Ideal) x0 x4 x5 x6 x7 x8 x9 x10 = T 32 (St a6 b6) :=
    up (N := 32) (M := 16) (K := 15) a6 b6 rfl rfl _ _ A6 B6 _ (U7.trans (by rw [ea7, eb7])) _ zero_all _ zero_all _ _ _ _ _ _ _ _ _
  have U5 : val_main_v264 (F := Ideal) x0 x4 x5 x6 x7 x8 x9 x10 = T 64 (St a5 b5) :=
    up (N := 64) (M := 32) (K := 31) a5 b5 rfl rfl _ _ A5 B5 _ (U6.trans (by rw [ea6, eb6])) _ zero_all _ zero_all _ _ _ _ _ _ _ _ _
  have U4 : val_main_v281 (F := Ideal) x0 x4 x5 x6 x7 x8 x9 x10 = T 128 (St a4 b4) :=
    up (N := 128) (M := 64) (K := 63) a4 b4 rfl rfl _ _ A4 B4 _ (U5.trans (by rw [ea5, eb5])) _ zero_all _ zero_all _ _ _ _ _ _ _ _ _
  have U3 : val_main_v298 (F := Ideal) x0 x4 x5 x6 x7 x8 x9 x10 = T 256 (St a3 b3) :=
    up (N := 256) (M := 128) (K := 127) a3 b3 rfl rfl _ _ A3 B3 _ (U4.trans (by rw [ea4, eb4])) _ zero_all _ zero_all _ _ _ _ _ _ _ _ _
  have U2 : val_main_v315 (F := Ideal) x0 x4 x5 x6 x7 x8 x9 x10 = T 512 (St a2 b2) :=
    up (N := 512) (M := 256) (K := 255) a2 b2 rfl rfl _ _ A2 B2 _ (U3.trans (by rw [ea3, eb3])) _ zero_all _ zero_all _ _ _ _ _ _ _ _ _
  have U1 : val_main_v332 (F := Ideal) x0 x4 x5 x6 x7 x8 x9 x10 = T 1024 (St a1 b1) :=
    up (N := 1024) (M := 512) (K := 511) a1 b1 rfl rfl _ _ A1 B1 _ (U2.trans (by rw [ea2, eb2])) _ zero_all _ zero_all _ _ _ _ _ _ _ _ _
  have U0 : val_main_v349 (F := Ideal) x0 x4 x5 x6 x7 x8 x9 x10 = T 2048 (St a b) :=
    up (N := 2048) (M := 1024) (K := 1023) a b rfl rfl _ _ ha hb _ (U1.trans (by rw [ea1, eb1])) _ zero_all _ zero_all _ _ _ _ _ _ _ _ _
  exact U0

end Cert.Kernel9Ideal.Fwd

end
-- ==== Proof.FwdRef.lean ====
/-
  The reference's lines of the recurrence's decays and inputs over the reals, at an index: the segment, the convolution,
  the two gates, the rates.
-/
module

public import proofs.«01_k».proof.Proof.FwdNums
public import proofs.«01_k».proof.Proof.FwdRefScan
public import proofs.«01_k».proof.Proof.MixRefA

@[expose] public section

set_option maxRecDepth 16384
set_option maxHeartbeats 1000000

noncomputable section

open Idealize.ShloMosaic Idealize.ShloMosaic.TcCoe Idealize.SL.Sem

namespace Cert.Reference9Ideal.FwdRef

open Cert.Reference9Ideal Cert.Reference9Ideal.Gen Cert.Reference9Ideal.Read Idealize.ShloMosaic.Pointwise
open Cert.Kernel2Ideal.Mix (rows_val chan hi lo seg hi_chan lo_chan chan_hi_lo sg)
open Cert.Kernel9Ideal.Fwd (Nums Slab hd ld hc hd_hc ld_hc hc_hd_ld sum_pk pk cut cut_both T St scan_ref log_pos sqrt_nonneg)
open Cert.Reference2Ideal.MixRef (mul_c add_c sub_c neg_c zero_b one_b two_b sg_c)

/-- The reference's arguments are the real numbers `R`. -/
structure IsArgs (R : Nums) (x0 : FVec Ideal S2x2048x12288 .f32) (x4 : FVec Ideal S4x1024 .f32) (x5 : FVec Ideal S1024 .f32) (x6 : FVec Ideal S16x64x64 .f32)
    (x7 : FVec Ideal S16x64 .f32) (x8 : FVec Ideal S16x64x64 .f32) (x9 : FVec Ideal S16x64 .f32) (x10 : FVec Ideal S1024 .f32) : Prop where
  pr : ∀ z s k, x0 (ix3 z s (seg 7 k)) = ((R.P z s k : ℝ) : EReal)
  cw : ∀ j k, x4 (ix2 j k) = ((R.W j k : ℝ) : EReal)
  cb : ∀ k, x5 (ix1 k) = ((R.CB k : ℝ) : EReal)
  wa : ∀ g i l, x6 (ix3 g i l) = ((R.WA g i l : ℝ) : EReal)
  ba : ∀ g i, x7 (ix2 g i) = ((R.BA g i : ℝ) : EReal)
  wx : ∀ g i l, x8 (ix3 g i l) = ((R.WX g i l : ℝ) : EReal)
  bx : ∀ g i, x9 (ix2 g i) = ((R.BX g i : ℝ) : EReal)
  lm : ∀ k, x10 (ix1 k) = ((R.L k : ℝ) : EReal)

abbrev sl (R : Nums) (z : Fin 2) (k : Fin 1024) : Slab := R.slab z (hi k)

variable {R : Nums} {x0 : FVec Ideal S2x2048x12288 .f32} {x4 : FVec Ideal S4x1024 .f32} {x5 : FVec Ideal S1024 .f32} {x6 : FVec Ideal S16x64x64 .f32}
    {x7 : FVec Ideal S16x64 .f32} {x8 : FVec Ideal S16x64x64 .f32} {x9 : FVec Ideal S16x64 .f32} {x10 : FVec Ideal S1024 .f32}
  (h : IsArgs R x0 x4 x5 x6 x7 x8 x9 x10) (z : Fin 2) (s : Fin 2048) (k : Fin 1024)
include h

theorem m8_b : Ideal.ofBits FTy.f32 0xC1000000#32 = ((-8 : ℝ) : EReal) := Cert.Kernel9Ideal.Fwd.m8_w

/-- The segment, and the same behind three rows of zeros. -/
theorem seg_at : val_main_v7 (F := Ideal) x0 (ix3 z s k) = (((sl R z k).x s.val (lo k) : ℝ) : EReal) := by
  have e : (sl R z k).x s.val (lo k) = R.P z s k := by
    refine (rows_val (fun s l => R.P z s (chan (hi k) l)) s (lo k)).trans ?_
    rw [chan_hi_lo]
  rw [e, val_main_v7_apply]
  refine (congrArg x0 (funext fun a => Fin.ext ?_)).trans (h.pr z s k)
  match a with
  | ⟨0, _⟩ => rfl
  | ⟨1, _⟩ => rfl
  | ⟨2, _⟩ => show 7168 + k.val = 1024 * 7 + k.val; rfl
theorem pad_at (r : Fin 2051) : val_main_v13 (F := Ideal) x0 (ix3 z r k) = ((if 3 ≤ r.val then (sl R z k).x (r.val - 3) (lo k) else 0 : ℝ) : EReal) := by
  unfold val_main_v13 val_main_v12 val_main_cst
  pointwise
  by_cases h3 : r.val < 3
  · rw [if_neg (by omega : ¬ 3 ≤ r.val)]
    simp only [h3, if_true, dif_pos]
    exact EReal.coe_zero.symm
  · rw [if_pos (by omega : 3 ≤ r.val)]
    simp only [h3, if_false, dif_neg, not_false_eq_true]
    exact seg_at h z ⟨r.val - 3, _⟩ k
theorem pre_eq (n : ℕ) (hn : n ≤ 3) : (if 3 ≤ 3 - n + s.val then (sl R z k).x (3 - n + s.val - 3) (lo k) else 0) = (sl R z k).pre s.val (lo k) n := by
  unfold Slab.pre
  by_cases hs : n ≤ s.val
  · rw [if_pos hs, if_pos (by omega), show 3 - n + s.val - 3 = s.val - n by omega]
  · rw [if_neg hs, if_neg (by omega)]
theorem row3 : val_main_v16 (F := Ideal) x0 (ix3 z s k) = (((sl R z k).pre s.val (lo k) 3 : ℝ) : EReal) := by
  rw [← pre_eq h z s k 3 (by omega), val_main_v16_apply]
  refine Eq.trans (congrArg (val_main_v13 (F := Ideal) x0) (funext fun a => Fin.ext ?_)) (pad_at h z k ⟨0 + s.val, by omega⟩)
  match a with
  | ⟨0, _⟩ => rfl
  | ⟨1, _⟩ => show s.val = 0 + s.val; omega
  | ⟨2, _⟩ => rfl
theorem row2 : val_main_v24 (F := Ideal) x0 (ix3 z s k) = (((sl R z k).pre s.val (lo k) 2 : ℝ) : EReal) := by
  rw [← pre_eq h z s k 2 (by omega), val_main_v24_apply]
  exact Eq.trans (congrArg (val_main_v13 (F := Ideal) x0) (funext fun a => Fin.ext (by match a with | ⟨0, _⟩ => rfl | ⟨1, _⟩ => rfl | ⟨2, _⟩ => rfl))) (pad_at h z k ⟨1 + s.val, by omega⟩)
theorem row1 : val_main_v31 (F := Ideal) x0 (ix3 z s k) = (((sl R z k).pre s.val (lo k) 1 : ℝ) : EReal) := by
  rw [← pre_eq h z s k 1 (by omega), val_main_v31_apply]
  exact Eq.trans (congrArg (val_main_v13 (F := Ideal) x0) (funext fun a => Fin.ext (by match a with | ⟨0, _⟩ => rfl | ⟨1, _⟩ => rfl | ⟨2, _⟩ => rfl))) (pad_at h z k ⟨2 + s.val, by omega⟩)
theorem row0 : val_main_v38 (F := Ideal) x0 (ix3 z s k) = (((sl R z k).x s.val (lo k) : ℝ) : EReal) := by
  have e := pre_eq h z s k 0 (by omega)
  rw [show (sl R z k).pre s.val (lo k) 0 = (sl R z k).x s.val (lo k) from if_pos (Nat.zero_le _)] at e
  rw [← e, val_main_v38_apply]
  exact Eq.trans (congrArg (val_main_v13 (F := Ideal) x0) (funext fun a => Fin.ext (by match a with | ⟨0, _⟩ => rfl | ⟨1, _⟩ => rfl | ⟨2, _⟩ => rfl))) (pad_at h z k ⟨3 + s.val, by omega⟩)

theorem w_eq (j : Fin 4) : (sl R z k).w j (lo k) = R.W j k := by
  show R.W j (chan (hi k) (lo k)) = _
  rw [chan_hi_lo]
theorem w18 : val_main_v18 (F := Ideal) x4 (ix3 z s k) = (((sl R z k).w 0 (lo k) : ℝ) : EReal) := by
  rw [w_eq h]
  unfold val_main_v18 val_main_v17 val_main_v15 val_main_v14
  pointwise
  exact h.cw 0 k
theorem w26 : val_main_v26 (F := Ideal) x4 (ix3 z s k) = (((sl R z k).w 1 (lo k) : ℝ) : EReal) := by
  rw [w_eq h]
  unfold val_main_v26 val_main_v25 val_main_v23 val_main_v22
  pointwise
  exact h.cw 1 k
theorem w33 : val_main_v33 (F := Ideal) x4 (ix3 z s k) = (((sl R z k).w 2 (lo k) : ℝ) : EReal) := by
  rw [w_eq h]
  unfold val_main_v33 val_main_v32 val_main_v30 val_main_v29
  pointwise
  exact h.cw 2 k
theorem w40 : val_main_v40 (F := Ideal) x4 (ix3 z s k) = (((sl R z k).w 3 (lo k) : ℝ) : EReal) := by
  rw [w_eq h]
  unfold val_main_v40 val_main_v39 val_main_v37 val_main_v36
  pointwise
  exact h.cw 3 k
theorem cb_at : val_main_v44 (F := Ideal) x5 (ix3 z s k) = (((sl R z k).cb (lo k) : ℝ) : EReal) := by
  show _ = ((R.CB (chan (hi k) (lo k)) : ℝ) : EReal)
  rw [chan_hi_lo]
  unfold val_main_v44 val_main_v43
  pointwise
  exact h.cb k
theorem zero_at : val_main_v20 (F := Ideal) (ix3 z s k) = ((0 : ℝ) : EReal) := by
  unfold val_main_v20 val_main_cst_0
  pointwise
  exact EReal.coe_zero.symm

/-- The convolution. -/
theorem xc_at : val_main_v45 (F := Ideal) x0 x4 x5 (ix3 z s k) = (((sl R z k).xc s.val (lo k) : ℝ) : EReal) := by
  refine (add_c (add_c (add_c (add_c (add_c (zero_at h z s k) (mul_c (w18 h z s k) (row3 h z s k))) (mul_c (w26 h z s k) (row2 h z s k))) (mul_c (w33 h z s k) (row1 h z s k)))
    (mul_c (w40 h z s k) (row0 h z s k))) (cb_at h z s k)).trans (congrArg (fun x : ℝ => (x : EReal)) ?_)
  unfold Slab.xc
  ring
theorem head_at (g : Fin 16) (i : Fin 64) : val_main_v46 (F := Ideal) x0 x4 x5 (ix4 z s g i) = (((sl R z (hc g i)).xc s.val (lo (hc g i)) : ℝ) : EReal) := by
  unfold val_main_v46
  rw [shapeCast_apply (k := ix3 z s (hc g i))]
  · exact xc_at h z s _
  · rw [Shape.rowMajor_val_four, Shape.rowMajor_val_three]
    show (z.val * 2048 + s.val) * 1024 + (64 * g.val + i.val) = ((z.val * 2048 + s.val) * 16 + g.val) * 64 + i.val
    omega

/-- A head's product with its matrix. -/
theorem prod_eq (M : Fin 16 → Fin 64 → Fin 64 → ℝ) : ∑ j : Fin 64, (sl R z (hc (hd k) j)).xc s.val (lo (hc (hd k) j)) * M (hd k) j (ld k)
    = ∑ j : Fin 128, (sl R z k).xc s.val j * pk M (hi k) j (lo k) := by
  refine (sum_pk M (fun k' => (sl R z k').xc s.val (lo k')) k).symm.trans (Finset.sum_congr rfl fun j _ => ?_)
  show (R.slab z (hi (chan (hi k) j))).xc s.val (lo (chan (hi k) j)) * _ = _
  rw [hi_chan, lo_chan]
theorem dotA : val_main_v48 (F := Ideal) x0 x4 x5 x6 (ix4 z s (hd k) (ld k)) = ((∑ j : Fin 128, (sl R z k).xc s.val j * (sl R z k).wa j (lo k) : ℝ) : EReal) := by
  rw [val_main_v48_apply, val_main_v47_apply]
  refine (Finset.sum_congr rfl fun j _ => ?_ : _ = ∑ j : Fin 64, (((sl R z (hc (hd k) j)).xc s.val (lo (hc (hd k) j)) * R.WA (hd k) j (ld k) : ℝ) : EReal)).trans ?_
  · refine (mul_c (a := R.WA (hd k) j (ld k)) (b := (sl R z (hc (hd k) j)).xc s.val (lo (hc (hd k) j)))
      ((congrArg x6 (funext fun a => Fin.ext (by match a with | ⟨0, _⟩ => rfl | ⟨1, _⟩ => rfl | ⟨2, _⟩ => rfl))).trans (h.wa (hd k) j (ld k)))
      ((congrArg (val_main_v46 (F := Ideal) x0 x4 x5) (funext fun a => Fin.ext (by match a with | ⟨0, _⟩ => rfl | ⟨1, _⟩ => rfl | ⟨2, _⟩ => rfl | ⟨3, _⟩ => rfl))).trans (head_at h z s (hd k) j))).trans ?_
    rw [mul_comm]
  · rw [Sums.coe_sum, prod_eq h]
    rfl
theorem dotX : val_main_v60 (F := Ideal) x0 x4 x5 x8 (ix4 z s (hd k) (ld k)) = ((∑ j : Fin 128, (sl R z k).xc s.val j * (sl R z k).wx j (lo k) : ℝ) : EReal) := by
  rw [val_main_v60_apply, val_main_v59_apply]
  refine (Finset.sum_congr rfl fun j _ => ?_ : _ = ∑ j : Fin 64, (((sl R z (hc (hd k) j)).xc s.val (lo (hc (hd k) j)) * R.WX (hd k) j (ld k) : ℝ) : EReal)).trans ?_
  · refine (mul_c (a := R.WX (hd k) j (ld k)) (b := (sl R z (hc (hd k) j)).xc s.val (lo (hc (hd k) j)))
      ((congrArg x8 (funext fun a => Fin.ext (by match a with | ⟨0, _⟩ => rfl | ⟨1, _⟩ => rfl | ⟨2, _⟩ => rfl))).trans (h.wx (hd k) j (ld k)))
      ((congrArg (val_main_v46 (F := Ideal) x0 x4 x5) (funext fun a => Fin.ext (by match a with | ⟨0, _⟩ => rfl | ⟨1, _⟩ => rfl | ⟨2, _⟩ => rfl | ⟨3, _⟩ => rfl))).trans (head_at h z s (hd k) j))).trans ?_
    rw [mul_comm]
  · rw [Sums.coe_sum, prod_eq h]
    rfl
theorem ba_at : val_main_v50 (F := Ideal) x7 (ix4 z s (hd k) (ld k)) = (((sl R z k).ba (lo k) : ℝ) : EReal) := by
  show _ = ((R.BA (hd (chan (hi k) (lo k))) (ld (chan (hi k) (lo k))) : ℝ) : EReal)
  rw [chan_hi_lo]
  unfold val_main_v50 val_main_v49
  pointwise
  exact h.ba _ _
theorem bx_at : val_main_v62 (F := Ideal) x9 (ix4 z s (hd k) (ld k)) = (((sl R z k).bx (lo k) : ℝ) : EReal) := by
  show _ = ((R.BX (hd (chan (hi k) (lo k))) (ld (chan (hi k) (lo k))) : ℝ) : EReal)
  rw [chan_hi_lo]
  unfold val_main_v62 val_main_v61
  pointwise
  exact h.bx _ _

/-- The two gates. -/
theorem r_at : val_main_v58 (F := Ideal) x0 x4 x5 x6 x7 (ix3 z s k) = (((sl R z k).r s.val (lo k) : ℝ) : EReal) := by
  unfold val_main_v58
  rw [shapeCast_apply (k := ix4 z s (hd k) (ld k))]
  · refine Eq.trans ?_ (sg_c (add_c (dotA h z s k) (ba_at h z s k)))
    unfold val_main_v57 val_main_v56 val_main_v55 val_main_v54 val_main_v53 val_main_v52 val_main_v51 val_main_cst_1 val_main_cst_2
    pointwise
    rw [EReal.coe_one]
  · rw [Shape.rowMajor_val_four, Shape.rowMajor_val_three]
    show ((z.val * 2048 + s.val) * 16 + k.val / 64) * 64 + k.val % 64 = (z.val * 2048 + s.val) * 1024 + k.val
    omega
theorem ig_at : val_main_v70 (F := Ideal) x0 x4 x5 x8 x9 (ix3 z s k) = (((sl R z k).ig s.val (lo k) : ℝ) : EReal) := by
  unfold val_main_v70
  rw [shapeCast_apply (k := ix4 z s (hd k) (ld k))]
  · refine Eq.trans ?_ (sg_c (add_c (dotX h z s k) (bx_at h z s k)))
    unfold val_main_v69 val_main_v68 val_main_v67 val_main_v66 val_main_v65 val_main_v64 val_main_v63 val_main_cst_3 val_main_cst_4
    pointwise
    rw [EReal.coe_one]
  · rw [Shape.rowMajor_val_four, Shape.rowMajor_val_three]
    show ((z.val * 2048 + s.val) * 16 + k.val / 64) * 64 + k.val % 64 = (z.val * 2048 + s.val) * 1024 + k.val
    omega

/-- The rates' softplus. -/
theorem sp_at : val_main_v74 (F := Ideal) x10 (ix1 k) = (((sl R z k).sp (lo k) : ℝ) : EReal) := by
  have hl : x10 (ix1 k) = ((R.L k : ℝ) : EReal) := h.lm k
  have hz : val_main_call0_v0 (F := Ideal) (ix1 k) = ((0 : ℝ) : EReal) := by
    unfold val_main_call0_v0 val_main_call0_cst
    pointwise
    exact EReal.coe_zero.symm
  have h73 : val_main_v73 (F := Ideal) x10 (ix1 k) = ((-R.L k : ℝ) : EReal) := neg_c hl
  have h3 : val_main_call0_v3 (F := Ideal) x10 (ix1 k) = ((-R.L k - 0 : ℝ) : EReal) := sub_c h73 hz
  have h4 : val_main_call0_v4 (F := Ideal) x10 (ix1 k) = 0#1 := by
    rw [val_main_call0_v4_apply, h3]
    show Ideal.cmp .une _ _ = _
    simp [Ideal.cmp]
  have h1 : val_main_call0_v1 (F := Ideal) x10 (ix1 k) = ((max (-R.L k) 0 : ℝ) : EReal) := by
    rw [val_main_call0_v1_apply, h73, hz]
    exact (EReal.coe_strictMono.monotone.map_max (a := -R.L k) (b := 0)).symm
  have h7 : val_main_call0_v7 (F := Ideal) x10 (ix1 k) = ((|R.L k| : ℝ) : EReal) := by
    rw [val_main_call0_v7_apply, h3]
    show max ((-R.L k - 0 : ℝ) : EReal) (-((-R.L k - 0 : ℝ) : EReal)) = _
    rw [← EReal.coe_neg, ← EReal.coe_strictMono.monotone.map_max, sub_zero, neg_neg]
    refine congrArg (fun x : ℝ => (x : EReal)) ?_
    rw [max_comm]; rfl
  have h10 : val_main_call0_v10 (F := Ideal) x10 (ix1 k) = ((Real.log (1 + Real.exp (-|R.L k|)) : ℝ) : EReal) := by
    have h8 : val_main_call0_v8 (F := Ideal) x10 (ix1 k) = ((-|R.L k| : ℝ) : EReal) := neg_c h7
    have h9 : val_main_call0_v9 (F := Ideal) x10 (ix1 k) = ((Real.exp (-|R.L k|) : ℝ) : EReal) := by
      rw [val_main_call0_v9_apply, h8]; rfl
    rw [val_main_call0_v10_apply, h9]
    show Ideal.log (1 + ((Real.exp (-|R.L k|) : ℝ) : EReal)) = _
    rw [← EReal.coe_one, ← EReal.coe_add, log_pos (add_pos one_pos (Real.exp_pos _))]
  rw [val_main_v74_apply, h4]
  refine (add_c h1 h10).trans (congrArg (fun x : ℝ => (x : EReal)) ?_)
  unfold Slab.sp
  show _ = max (0 - R.L (chan (hi k) (lo k))) 0 + Real.log (1 + Real.exp (0 - |R.L (chan (hi k) (lo k))|))
  rw [chan_hi_lo, zero_sub, zero_sub]
theorem la_at : val_main_v77 (F := Ideal) x0 x4 x5 x6 x7 x10 (ix3 z s k) = (((sl R z k).la s.val (lo k) : ℝ) : EReal) := by
  have h71 : val_main_v71 (F := Ideal) (ix3 z s k) = ((-8 : ℝ) : EReal) := by
    rw [← m8_b h]
    unfold val_main_v71 val_main_cst_5
    pointwise
  have h76 : val_main_v76 (F := Ideal) x10 (ix3 z s k) = (((sl R z k).sp (lo k) : ℝ) : EReal) := by
    refine Eq.trans ?_ (sp_at h z k)
    unfold val_main_v76 val_main_v75
    pointwise
  refine (mul_c (mul_c h71 (r_at h z s k)) h76).trans (congrArg (fun x : ℝ => (x : EReal)) ?_)
  unfold Slab.la
  ring
theorem la2_at : val_main_v80 (F := Ideal) x0 x4 x5 x6 x7 x10 (ix3 z s k) = ((2 * (sl R z k).la s.val (lo k) : ℝ) : EReal) := by
  have h79 : val_main_v79 (F := Ideal) (ix3 z s k) = ((2 : ℝ) : EReal) := by
    rw [← two_b]
    unfold val_main_v79 val_main_cst_6
    pointwise
  exact mul_c h79 (la_at h z s k)

/-- The recurrence's factors and summands. -/
theorem a_at : val_main_v78 (F := Ideal) x0 x4 x5 x6 x7 x10 = T 2048 R.a := by
  funext i; obtain ⟨z, s, k, rfl⟩ : ∃ (z : Fin 2) (s : Fin 2048) (k : Fin 1024), i = ix3 z s k := ⟨_, _, _, eq_ix3 i⟩
  rw [val_main_v78_apply, la_at h z s k]
  rfl
theorem b_at (hd : R.Decays) : val_main_v85 (F := Ideal) x0 x4 x5 x6 x7 x8 x9 x10 = T 2048 R.b := by
  funext i; obtain ⟨z, s, k, rfl⟩ : ∃ (z : Fin 2) (s : Fin 2048) (k : Fin 1024), i = ix3 z s k := ⟨_, _, _, eq_ix3 i⟩
  have hc : 2 * (sl R z k).la s.val (lo k) < 0 := lt_of_le_of_lt (hd z s.val k s.isLt) cut_both.1
  have ea : Real.exp (2 * (sl R z k).la s.val (lo k)) = (sl R z k).a s.val (lo k) * (sl R z k).a s.val (lo k) := by
    unfold Slab.a
    rw [← Real.exp_add, two_mul]
  have h83 : val_main_v83 (F := Ideal) x0 x4 x5 x6 x7 x10 (ix3 z s k) = ((Real.sqrt (1 - (sl R z k).a s.val (lo k) * (sl R z k).a s.val (lo k)) : ℝ) : EReal) := by
    rw [val_main_v83_apply, val_main_v82_apply, val_main_v81_apply, la2_at h z s k]
    show Ideal.sqrt (-(Ideal.exp ((2 * (sl R z k).la s.val (lo k) : ℝ) : EReal) - 1)) = _
    rw [show Ideal.exp ((2 * (sl R z k).la s.val (lo k) : ℝ) : EReal) = ((Real.exp (2 * (sl R z k).la s.val (lo k)) : ℝ) : EReal) from rfl,
      ← EReal.coe_one, ← EReal.coe_sub, ← EReal.coe_neg, sqrt_nonneg, neg_sub, ea]
    have := (Real.exp_lt_exp.mpr hc).trans_eq Real.exp_zero
    linarith
  rw [val_main_v85_apply, val_main_v84_apply]
  exact mul_c h83 (mul_c (ig_at h z s k) (xc_at h z s k))

/-- The reference's result. -/
theorem states (hd : R.Decays) : val_main_v349 (F := Ideal) x0 x4 x5 x6 x7 x8 x9 x10 = T 2048 (St R.a R.b) :=
  scan_ref _ _ _ _ _ _ _ _ _ _ (a_at h) (b_at h hd)

end Cert.Reference9Ideal.FwdRef

end
-- ==== Proof.FwdRun.lean ====
/-
  The two runs of the mixers' forward pass for the recurrence's states: under the precondition the arguments are real
  numbers whose decays lie below the bound, and the kernel's program and the reference's leave the same states.
-/
module

public import proofs.«01_k».proof.Defs
public import proofs.«01_k».proof.Proof.FwdArrays
public import proofs.«01_k».proof.Proof.FwdRef
public import proofs.«01_k».proof.Proof.Gen.Kernel9Ideal.Value
public import proofs.«01_k».proof.Proof.Gen.Pre_state_decays
public import proofs.«01_k».proof.Proof.Gen.Reference9Ideal.Run

@[expose] public section

set_option maxRecDepth 16384
set_option maxHeartbeats 4000000

noncomputable section

open Idealize.ShloMosaic Idealize.ShloMosaic.TcCoe Idealize.SL.Sem

namespace Cert.FwdRun

open Cert.Kernel9Ideal.Fwd (Nums IsNums T St cut cut_both final12)
open Cert.Reference9Ideal.Read Cert.Reference9Ideal.FwdRef
open Cert.Kernel2Ideal.Mix (seg)
open Idealize.ShloMosaic.Pointwise

/-- What the precondition says: the recurrence's segment of the projections and its parameters are real numbers, and
    twice the logarithm of each decay is at most the bound. -/
theorem finite (a0 : FVec Ideal Cert.Pre_state_decays.S2x2048x12288 .f32) (a1 a2 a3) (a4 : FVec Ideal Cert.Pre_state_decays.S4x1024 .f32)
    (a5 : FVec Ideal Cert.Pre_state_decays.S1024 .f32) (a6 : FVec Ideal Cert.Pre_state_decays.S16x64x64 .f32) (a7 : FVec Ideal Cert.Pre_state_decays.S16x64 .f32)
    (a8 : FVec Ideal Cert.Pre_state_decays.S16x64x64 .f32) (a9 : FVec Ideal Cert.Pre_state_decays.S16x64 .f32) (a10 : FVec Ideal Cert.Pre_state_decays.S1024 .f32)
    (h : Cert.Pre_state_decays.fn (F := Ideal) a0 a1 a2 a3 a4 a5 a6 a7 a8 a9 a10 = fun _ => 1#1) :
    (∀ i, ∃ r : ℝ, val_main_v7 (F := Ideal) a0 i = r) ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) ∧ (∀ i, ∃ r : ℝ, a9 i = r) ∧ (∀ i, ∃ r : ℝ, a10 i = r)
      ∧ ∀ i, Ideal.cmp .ole (val_main_v80 (F := Ideal) a0 a4 a5 a6 a7 a10 i) (Ideal.ofBits FTy.f32 0xBD4CCCCD#32) = 1#1 := by
  have h := congrFun h ix0
  have : Subsingleton Cert.Pre_state_decays.S_.Idx := ⟨fun a b => funext fun i => i.elim0⟩
  obtain ⟨h, h8⟩ := Sums.and_one h
  obtain ⟨h, h7⟩ := Sums.and_one h
  obtain ⟨h, h6⟩ := Sums.and_one h
  obtain ⟨h, h5⟩ := Sums.and_one h
  obtain ⟨h, h4⟩ := Sums.and_one h
  obtain ⟨h, h3⟩ := Sums.and_one h
  obtain ⟨h, h2⟩ := Sums.and_one h
  obtain ⟨h0, h1⟩ := Sums.and_one h
  exact ⟨Sums.real_of_all (val_main_v7 (F := Ideal) a0) _ (fun _ => rfl) _ _ _ _ h0, Sums.real_of_all a4 _ (fun _ => rfl) _ _ _ _ h1, Sums.real_of_all a5 _ (fun _ => rfl) _ _ _ _ h2,
    Sums.real_of_all a6 _ (fun _ => rfl) _ _ _ _ h3, Sums.real_of_all a7 _ (fun _ => rfl) _ _ _ _ h4, Sums.real_of_all a8 _ (fun _ => rfl) _ _ _ _ h5,
    Sums.real_of_all a9 _ (fun _ => rfl) _ _ _ _ h6, Sums.real_of_all a10 _ (fun _ => rfl) _ _ _ _ h7, fun i => Host.reduce_andi_all _ _ _ _ _ h8 i⟩

/-- A comparison with the bound that is true. -/
theorem le_of_cmp {x : ℝ} (h : Ideal.cmp .ole (x : EReal) (Ideal.ofBits FTy.f32 0xBD4CCCCD#32) = 1#1) : x ≤ cut := by
  rw [cut_both.2] at h
  by_contra hn
  have : ¬ ((x : EReal) ≤ ((cut : ℝ) : EReal)) := fun e => hn (EReal.coe_le_coe_iff.mp e)
  simp [Ideal.cmp, this] at h

/-- Under the precondition arguments are real numbers whose decays lie below the bound. -/
theorem args (a0 : FVec Ideal Cert.Pre_state_decays.S2x2048x12288 .f32) (a1 a2 a3) (a4 : FVec Ideal Cert.Pre_state_decays.S4x1024 .f32)
    (a5 : FVec Ideal Cert.Pre_state_decays.S1024 .f32) (a6 : FVec Ideal Cert.Pre_state_decays.S16x64x64 .f32) (a7 : FVec Ideal Cert.Pre_state_decays.S16x64 .f32)
    (a8 : FVec Ideal Cert.Pre_state_decays.S16x64x64 .f32) (a9 : FVec Ideal Cert.Pre_state_decays.S16x64 .f32) (a10 : FVec Ideal Cert.Pre_state_decays.S1024 .f32)
    (h : Cert.Pre_state_decays.fn (F := Ideal) a0 a1 a2 a3 a4 a5 a6 a7 a8 a9 a10 = fun _ => 1#1) :
    ∃ R : Nums, IsArgs R a0 a4 a5 a6 a7 a8 a9 a10 ∧ R.Decays := by
  obtain ⟨f0, f4, f5, f6, f7, f8, f9, f10, hle⟩ := finite a0 a1 a2 a3 a4 a5 a6 a7 a8 a9 a10 h
  choose P hP using f0
  choose W hW using f4
  choose B hB using f5
  choose MA hMA using f6
  choose BA hBA using f7
  choose MX hMX using f8
  choose BX hBX using f9
  choose L hL using f10
  have hR : IsArgs ⟨fun z s k => P (ix3 z s k), fun j k => W (ix2 j k), fun k => B (ix1 k), fun g i l => MA (ix3 g i l), fun g i l => MX (ix3 g i l),
      fun g i => BA (ix2 g i), fun g i => BX (ix2 g i), fun k => L (ix1 k)⟩ a0 a4 a5 a6 a7 a8 a9 a10 :=
    ⟨fun z s k => by
        refine Eq.trans ?_ (hP (ix3 z s k))
        rw [val_main_v7_apply]
        refine congrArg a0 (funext fun a => Fin.ext ?_)
        match a with
        | ⟨0, _⟩ => rfl
        | ⟨1, _⟩ => rfl
        | ⟨2, _⟩ => show 1024 * 7 + k.val = 7168 + k.val; rfl,
      fun _ _ => hW _, fun _ => hB _, fun _ _ _ => hMA _, fun _ _ => hBA _, fun _ _ _ => hMX _, fun _ _ => hBX _, fun _ => hL _⟩
  refine ⟨_, hR, fun z s k hs => ?_⟩
  have e := hle (ix3 z ⟨s, hs⟩ k)
  rw [la2_at hR z ⟨s, hs⟩ k] at e
  exact le_of_cmp e

/-- Under the precondition each device's arguments are such numbers. -/
theorem nums (m : (ℓ : Loc Cert.Kernel9Ideal.nD Cert.Kernel9Ideal.τ Cert.Kernel9Ideal.sig) → Buf (Elt Ideal) ℓ)
    (hpre : Cert.Pre_Kernel9Ideal_state_decays m) (c : Dev Cert.Kernel9Ideal.nD) : ∃ R : Nums, IsNums m c R ∧ R.Decays := by
  obtain ⟨R, h, hd⟩ := args _ _ _ _ _ _ _ _ _ _ _ (hpre c)
  exact ⟨R, ⟨h.pr, h.cw, h.cb, h.wa, h.wx, h.ba, h.bx, h.lm⟩, hd⟩

/-- The reference's program leaves its arguments and every semaphore unchanged. -/
theorem frame_reference : Cert.quiescent_Reference9Ideal := fun m g _ =>
  (θ_run _ _ _).mono (fun r h => ⟨fun c => (h c).2, sem_eq_zero_of_no_sems (by decide) r.2⟩) (Cert.Reference9Ideal.Value.run m g)

/-- The claim about the values: under the precondition, the kernel's states are the reference's. -/
theorem values : Cert.algebraic_Kernel9Ideal_Reference9Ideal_pre_state_decays := by
  intro m g m' g' hpre hagree
  choose R hR hd using nums m hpre
  refine ⟨fun c => T 2048 (St (R c).a (R c).b),
    (θ_run _ _ _).mono (fun r h c => ⟨(h c).2.1.trans (final12 (hR c) (hd c)), (h c).2.2⟩) (Cert.Kernel9Ideal.Value.run_blocks m g),
    (θ_run _ _ _).mono (fun r h c => ?_) (Cert.Reference9Ideal.Value.run m' g')⟩
  obtain ⟨h0, h⟩ := h c
  obtain ⟨b0, -, -, -, b4, b5, b6, b7, b8, b9, b10⟩ := hagree c
  refine ⟨h0.trans ?_, h⟩
  have hA := hR c
  have hargs : IsArgs (R c) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      (m' ((c.tc : Thread Cert.Reference9Ideal.nD Cert.Reference9Ideal.τ).loc Cert.Reference9Ideal.main_arg6))
      (m' ((c.tc : Thread Cert.Reference9Ideal.nD Cert.Reference9Ideal.τ).loc Cert.Reference9Ideal.main_arg7))
      (m' ((c.tc : Thread Cert.Reference9Ideal.nD Cert.Reference9Ideal.τ).loc Cert.Reference9Ideal.main_arg8))
      (m' ((c.tc : Thread Cert.Reference9Ideal.nD Cert.Reference9Ideal.τ).loc Cert.Reference9Ideal.main_arg9))
      (m' ((c.tc : Thread Cert.Reference9Ideal.nD Cert.Reference9Ideal.τ).loc Cert.Reference9Ideal.main_arg10)) :=
    ⟨fun z s k => (congrFun b0 _).trans (hA.pr z s k), fun j k => (congrFun b4 _).trans (hA.cw j k), fun k => (congrFun b5 _).trans (hA.cb k),
      fun i j k => (congrFun b6 _).trans (hA.wa i j k), fun j k => (congrFun b7 _).trans (hA.ba j k), fun i j k => (congrFun b8 _).trans (hA.wx i j k),
      fun j k => (congrFun b9 _).trans (hA.bx j k), fun k => (congrFun b10 _).trans (hA.lm k)⟩
  exact (val_main_v349_eq (F := Ideal) _).trans (states hargs (hd c))

end Cert.FwdRun

end
-- ==== Proof.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_state_decays
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Pre_mixer_finite
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.NormRun
public import proofs.«01_k».proof.Proof.MixFrames
public import proofs.«01_k».proof.Proof.MixRun
public import proofs.«01_k».proof.Proof.LossRun
public import proofs.«01_k».proof.Proof.OutRun
public import proofs.«01_k».proof.Proof.ModRun
public import proofs.«01_k».proof.Proof.NormFwd
public import proofs.«01_k».proof.Proof.OutFwd
public import proofs.«01_k».proof.Proof.ModFwd
public import proofs.«01_k».proof.Proof.InFwd
public import proofs.«01_k».proof.Proof.InBackH
public import proofs.«01_k».proof.Proof.InBackW
public import proofs.«01_k».proof.Proof.AdamRun
public import proofs.«01_k».proof.Proof.SumRun
public import proofs.«01_k».proof.Proof.FwdRun
public import Idealize.ShloMosaic.Adequacy
public import Idealize.ShloMosaic.Init

@[expose] public section

noncomputable section

namespace Cert.Proof

open Idealize.ShloMosaic Idealize.SL.Sem

/-- Everything the statement claims, for fourteen calls (the five backward calls: the modulated norm, the mixers, the loss
    head, the gated output product, the modulation's gradients; then forward calls, the input projection with its two
    gradients, and the optimiser's step at two of its weights): that each program runs to its end, leaves its arguments and every semaphore as it
    should, that the kernel's idealization keeps its text, and that the kernel's results are the reference's, for the
    mixers' backward call and for the states of the mixers' forward call each under its precondition and for the others at
    all arguments. Of the mixers' forward call only the states are claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_mixer_finite.Gen.facts, Cert.Pre_state_decays.Gen.facts,
  fun m ρ _ => Cert.Kernel.Gen.frame m ρ, fun m ρ _ => Cert.KernelIdeal.Gen.frame m ρ, NormRun.frame_reference,
  Cert.Kernel2Ideal.Mix.frame_kernel, fun m ρ _ => Cert.Kernel2Ideal.Mix.frame m ρ,
  fun m ρ _ => Cert.Kernel2Ideal.Mix.frame m ρ, Cert.Kernel2Ideal.Mix.frame_reference,
  fun m ρ _ => Cert.Kernel2Ideal.Mix.frame_reference m ρ trivial,
  fun m ρ _ => Cert.Kernel3.Gen.frame m ρ, fun m ρ _ => Cert.Kernel3Ideal.Gen.frame m ρ, LossRun.frame_reference,
  fun m ρ _ => Cert.Kernel4.Gen.frame m ρ, fun m ρ _ => Cert.Kernel4Ideal.Gen.frame m ρ, OutRun.frame_reference,
  fun m ρ _ => Cert.Kernel5.Gen.frame m ρ, fun m ρ _ => Cert.Kernel5Ideal.Gen.frame m ρ, ModRun.frame_reference,
  fun m ρ _ => Cert.Kernel6.Gen.frame m ρ, fun m ρ _ => Cert.Kernel6Ideal.Gen.frame m ρ, Cert.NormFwd.frame_reference,
  fun m ρ _ => Cert.Kernel7.Gen.frame m ρ, fun m ρ _ => Cert.Kernel7Ideal.Gen.frame m ρ, Cert.OutFwd.frame_reference,
  fun m ρ _ => Cert.Kernel8.Gen.frame m ρ, fun m ρ _ => Cert.Kernel8Ideal.Gen.frame m ρ, Cert.ModFwd.frame_reference,
  fun m ρ _ => Cert.Kernel9.Gen.frame m ρ, fun m ρ _ => Cert.Kernel9Ideal.Gen.frame m ρ,
  fun m ρ _ => Cert.Kernel9Ideal.Gen.frame m ρ, Cert.FwdRun.frame_reference, fun m ρ _ => Cert.FwdRun.frame_reference m ρ trivial,
  fun m ρ _ => Cert.Kernel10.Gen.frame m ρ, fun m ρ _ => Cert.Kernel10Ideal.Gen.frame m ρ, Cert.InFwd.frame_reference,
  fun m ρ _ => Cert.Kernel11.Gen.frame m ρ, fun m ρ _ => Cert.Kernel11Ideal.Gen.frame m ρ, Cert.InBackH.frame_reference,
  fun m ρ _ => Cert.Kernel12.Gen.frame m ρ, fun m ρ _ => Cert.Kernel12Ideal.Gen.frame m ρ, Cert.InBackW.frame_reference,
  fun m ρ _ => Cert.Kernel13.Gen.frame m ρ, fun m ρ _ => Cert.Kernel13Ideal.Gen.frame m ρ, Cert.AdamRun.frame_reference,
  fun m ρ _ => Cert.Kernel14.Gen.frame m ρ, fun m ρ _ => Cert.Kernel14Ideal.Gen.frame m ρ, Cert.SumRun.frame_reference,
  trivial, NormRun.values, trivial, MixRun.values, trivial, LossRun.values, trivial, OutRun.values, trivial, ModRun.values,
  trivial, Cert.NormFwd.values, trivial, Cert.OutFwd.values, trivial, Cert.ModFwd.values, trivial, Cert.FwdRun.values, trivial, Cert.InFwd.values, trivial, Cert.InBackH.values, trivial, Cert.InBackW.values, trivial, Cert.AdamRun.values,
  trivial, Cert.SumRun.values⟩

end Cert.Proof

end
